-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pool_finite [hPre_pool_finite : Cert.Pre_pool_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pool_finite [hPre_pool_finite : Cert.Pre_pool_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gate_finite [hPre_gate_finite : Cert.Pre_gate_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gate_finite [hPre_gate_finite : Cert.Pre_gate_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_rows_finite [hPre_rows_finite : Cert.Pre_rows_finite.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_rows_finite.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_rows_finite [hPre_rows_finite : Cert.Pre_rows_finite.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_rows_finite.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pool_finite [hKernelIdeal : Cert.KernelIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pool_finite [hReferenceIdeal : Cert.ReferenceIdeal.Facts] [hPre_pool_finite : Cert.Pre_pool_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pool_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_gate_finite [hKernel2Ideal : Cert.Kernel2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gate_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_gate_finite [hReference2Ideal : Cert.Reference2Ideal.Facts] [hPre_gate_finite : Cert.Pre_gate_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gate_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Kernel16Ideal_pre_rows_finite [hKernel16Ideal : Cert.Kernel16Ideal.Facts] [hPre_rows_finite : Cert.Pre_rows_finite.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_rows_finite m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Reference16Ideal_pre_rows_finite [hReference16Ideal : Cert.Reference16Ideal.Facts] [hPre_rows_finite : Cert.Pre_rows_finite.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_rows_finite m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9)
      ∧ r.2.mem ((c.tc : Thread Cert.Kernel22.nD Cert.Kernel22.τ).loc Cert.Kernel22.main_arg10) = m ((c.tc : Thread Cert.Kernel22.nD Cert.Kernel22.τ).loc Cert.Kernel22.main_arg10)
      ∧ r.2.mem ((c.tc : Thread Cert.Kernel22.nD Cert.Kernel22.τ).loc Cert.Kernel22.main_arg11) = m ((c.tc : Thread Cert.Kernel22.nD Cert.Kernel22.τ).loc Cert.Kernel22.main_arg11)
      ∧ r.2.mem ((c.tc : Thread Cert.Kernel22.nD Cert.Kernel22.τ).loc Cert.Kernel22.main_arg12) = m ((c.tc : Thread Cert.Kernel22.nD Cert.Kernel22.τ).loc Cert.Kernel22.main_arg12)
      ∧ r.2.mem ((c.tc : Thread Cert.Kernel22.nD Cert.Kernel22.τ).loc Cert.Kernel22.main_arg13) = m ((c.tc : Thread Cert.Kernel22.nD Cert.Kernel22.τ).loc Cert.Kernel22.main_arg13)
      ∧ r.2.mem ((c.tc : Thread Cert.Kernel22.nD Cert.Kernel22.τ).loc Cert.Kernel22.main_arg14) = m ((c.tc : Thread Cert.Kernel22.nD Cert.Kernel22.τ).loc Cert.Kernel22.main_arg14)
      ∧ r.2.mem ((c.tc : Thread Cert.Kernel22.nD Cert.Kernel22.τ).loc Cert.Kernel22.main_arg15) = m ((c.tc : Thread Cert.Kernel22.nD Cert.Kernel22.τ).loc Cert.Kernel22.main_arg15)
      ∧ r.2.mem ((c.tc : Thread Cert.Kernel22.nD Cert.Kernel22.τ).loc Cert.Kernel22.main_arg16) = m ((c.tc : Thread Cert.Kernel22.nD Cert.Kernel22.τ).loc Cert.Kernel22.main_arg16)
      ∧ r.2.mem ((c.tc : Thread Cert.Kernel22.nD Cert.Kernel22.τ).loc Cert.Kernel22.main_arg17) = m ((c.tc : Thread Cert.Kernel22.nD Cert.Kernel22.τ).loc Cert.Kernel22.main_arg17)
      ∧ r.2.mem ((c.tc : Thread Cert.Kernel22.nD Cert.Kernel22.τ).loc Cert.Kernel22.main_arg18) = m ((c.tc : Thread Cert.Kernel22.nD Cert.Kernel22.τ).loc Cert.Kernel22.main_arg18)
      ∧ r.2.mem ((c.tc : Thread Cert.Kernel22.nD Cert.Kernel22.τ).loc Cert.Kernel22.main_arg19) = m ((c.tc : Thread Cert.Kernel22.nD Cert.Kernel22.τ).loc Cert.Kernel22.main_arg19)
      ∧ r.2.mem ((c.tc : Thread Cert.Kernel22.nD Cert.Kernel22.τ).loc Cert.Kernel22.main_arg20) = m ((c.tc : Thread Cert.Kernel22.nD Cert.Kernel22.τ).loc Cert.Kernel22.main_arg20)
      ∧ r.2.mem ((c.tc : Thread Cert.Kernel22.nD Cert.Kernel22.τ).loc Cert.Kernel22.main_arg21) = m ((c.tc : Thread Cert.Kernel22.nD Cert.Kernel22.τ).loc Cert.Kernel22.main_arg21)
      ∧ r.2.mem ((c.tc : Thread Cert.Kernel22.nD Cert.Kernel22.τ).loc Cert.Kernel22.main_arg22) = m ((c.tc : Thread Cert.Kernel22.nD Cert.Kernel22.τ).loc Cert.Kernel22.main_arg22)
      ∧ r.2.mem ((c.tc : Thread Cert.Kernel22.nD Cert.Kernel22.τ).loc Cert.Kernel22.main_arg23) = m ((c.tc : Thread Cert.Kernel22.nD Cert.Kernel22.τ).loc Cert.Kernel22.main_arg23)
      ∧ r.2.mem ((c.tc : Thread Cert.Kernel22.nD Cert.Kernel22.τ).loc Cert.Kernel22.main_arg24) = m ((c.tc : Thread Cert.Kernel22.nD Cert.Kernel22.τ).loc Cert.Kernel22.main_arg24)
      ∧ r.2.mem ((c.tc : Thread Cert.Kernel22.nD Cert.Kernel22.τ).loc Cert.Kernel22.main_arg25) = m ((c.tc : Thread Cert.Kernel22.nD Cert.Kernel22.τ).loc Cert.Kernel22.main_arg25)
      ∧ r.2.mem ((c.tc : Thread Cert.Kernel22.nD Cert.Kernel22.τ).loc Cert.Kernel22.main_arg26) = m ((c.tc : Thread Cert.Kernel22.nD Cert.Kernel22.τ).loc Cert.Kernel22.main_arg26)
      ∧ r.2.mem ((c.tc : Thread Cert.Kernel22.nD Cert.Kernel22.τ).loc Cert.Kernel22.main_arg27) = m ((c.tc : Thread Cert.Kernel22.nD Cert.Kernel22.τ).loc Cert.Kernel22.main_arg27)
      ∧ r.2.mem ((c.tc : Thread Cert.Kernel22.nD Cert.Kernel22.τ).loc Cert.Kernel22.main_arg28) = m ((c.tc : Thread Cert.Kernel22.nD Cert.Kernel22.τ).loc Cert.Kernel22.main_arg28))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
      ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
      ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
      ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
      ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
      ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
      ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15)
      ∧ r.2.mem ((c.tc : Thread Cert.Kernel22Ideal.nD Cert.Kernel22Ideal.τ).loc Cert.Kernel22Ideal.main_arg16) = m ((c.tc : Thread Cert.Kernel22Ideal.nD Cert.Kernel22Ideal.τ).loc Cert.Kernel22Ideal.main_arg16)
      ∧ r.2.mem ((c.tc : Thread Cert.Kernel22Ideal.nD Cert.Kernel22Ideal.τ).loc Cert.Kernel22Ideal.main_arg17) = m ((c.tc : Thread Cert.Kernel22Ideal.nD Cert.Kernel22Ideal.τ).loc Cert.Kernel22Ideal.main_arg17)
      ∧ r.2.mem ((c.tc : Thread Cert.Kernel22Ideal.nD Cert.Kernel22Ideal.τ).loc Cert.Kernel22Ideal.main_arg18) = m ((c.tc : Thread Cert.Kernel22Ideal.nD Cert.Kernel22Ideal.τ).loc Cert.Kernel22Ideal.main_arg18)
      ∧ r.2.mem ((c.tc : Thread Cert.Kernel22Ideal.nD Cert.Kernel22Ideal.τ).loc Cert.Kernel22Ideal.main_arg19) = m ((c.tc : Thread Cert.Kernel22Ideal.nD Cert.Kernel22Ideal.τ).loc Cert.Kernel22Ideal.main_arg19)
      ∧ r.2.mem ((c.tc : Thread Cert.Kernel22Ideal.nD Cert.Kernel22Ideal.τ).loc Cert.Kernel22Ideal.main_arg20) = m ((c.tc : Thread Cert.Kernel22Ideal.nD Cert.Kernel22Ideal.τ).loc Cert.Kernel22Ideal.main_arg20)
      ∧ r.2.mem ((c.tc : Thread Cert.Kernel22Ideal.nD Cert.Kernel22Ideal.τ).loc Cert.Kernel22Ideal.main_arg21) = m ((c.tc : Thread Cert.Kernel22Ideal.nD Cert.Kernel22Ideal.τ).loc Cert.Kernel22Ideal.main_arg21)
      ∧ r.2.mem ((c.tc : Thread Cert.Kernel22Ideal.nD Cert.Kernel22Ideal.τ).loc Cert.Kernel22Ideal.main_arg22) = m ((c.tc : Thread Cert.Kernel22Ideal.nD Cert.Kernel22Ideal.τ).loc Cert.Kernel22Ideal.main_arg22)
      ∧ r.2.mem ((c.tc : Thread Cert.Kernel22Ideal.nD Cert.Kernel22Ideal.τ).loc Cert.Kernel22Ideal.main_arg23) = m ((c.tc : Thread Cert.Kernel22Ideal.nD Cert.Kernel22Ideal.τ).loc Cert.Kernel22Ideal.main_arg23)
      ∧ r.2.mem ((c.tc : Thread Cert.Kernel22Ideal.nD Cert.Kernel22Ideal.τ).loc Cert.Kernel22Ideal.main_arg24) = m ((c.tc : Thread Cert.Kernel22Ideal.nD Cert.Kernel22Ideal.τ).loc Cert.Kernel22Ideal.main_arg24)
      ∧ r.2.mem ((c.tc : Thread Cert.Kernel22Ideal.nD Cert.Kernel22Ideal.τ).loc Cert.Kernel22Ideal.main_arg25) = m ((c.tc : Thread Cert.Kernel22Ideal.nD Cert.Kernel22Ideal.τ).loc Cert.Kernel22Ideal.main_arg25)
      ∧ r.2.mem ((c.tc : Thread Cert.Kernel22Ideal.nD Cert.Kernel22Ideal.τ).loc Cert.Kernel22Ideal.main_arg26) = m ((c.tc : Thread Cert.Kernel22Ideal.nD Cert.Kernel22Ideal.τ).loc Cert.Kernel22Ideal.main_arg26)
      ∧ r.2.mem ((c.tc : Thread Cert.Kernel22Ideal.nD Cert.Kernel22Ideal.τ).loc Cert.Kernel22Ideal.main_arg27) = m ((c.tc : Thread Cert.Kernel22Ideal.nD Cert.Kernel22Ideal.τ).loc Cert.Kernel22Ideal.main_arg27)
      ∧ r.2.mem ((c.tc : Thread Cert.Kernel22Ideal.nD Cert.Kernel22Ideal.τ).loc Cert.Kernel22Ideal.main_arg28) = m ((c.tc : Thread Cert.Kernel22Ideal.nD Cert.Kernel22Ideal.τ).loc Cert.Kernel22Ideal.main_arg28))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9)
      ∧ r.2.mem ((c.tc : Thread Cert.Reference22Ideal.nD Cert.Reference22Ideal.τ).loc Cert.Reference22Ideal.main_arg10) = m ((c.tc : Thread Cert.Reference22Ideal.nD Cert.Reference22Ideal.τ).loc Cert.Reference22Ideal.main_arg10)
      ∧ r.2.mem ((c.tc : Thread Cert.Reference22Ideal.nD Cert.Reference22Ideal.τ).loc Cert.Reference22Ideal.main_arg11) = m ((c.tc : Thread Cert.Reference22Ideal.nD Cert.Reference22Ideal.τ).loc Cert.Reference22Ideal.main_arg11)
      ∧ r.2.mem ((c.tc : Thread Cert.Reference22Ideal.nD Cert.Reference22Ideal.τ).loc Cert.Reference22Ideal.main_arg12) = m ((c.tc : Thread Cert.Reference22Ideal.nD Cert.Reference22Ideal.τ).loc Cert.Reference22Ideal.main_arg12)
      ∧ r.2.mem ((c.tc : Thread Cert.Reference22Ideal.nD Cert.Reference22Ideal.τ).loc Cert.Reference22Ideal.main_arg13) = m ((c.tc : Thread Cert.Reference22Ideal.nD Cert.Reference22Ideal.τ).loc Cert.Reference22Ideal.main_arg13)
      ∧ r.2.mem ((c.tc : Thread Cert.Reference22Ideal.nD Cert.Reference22Ideal.τ).loc Cert.Reference22Ideal.main_arg14) = m ((c.tc : Thread Cert.Reference22Ideal.nD Cert.Reference22Ideal.τ).loc Cert.Reference22Ideal.main_arg14)
      ∧ r.2.mem ((c.tc : Thread Cert.Reference22Ideal.nD Cert.Reference22Ideal.τ).loc Cert.Reference22Ideal.main_arg15) = m ((c.tc : Thread Cert.Reference22Ideal.nD Cert.Reference22Ideal.τ).loc Cert.Reference22Ideal.main_arg15)
      ∧ r.2.mem ((c.tc : Thread Cert.Reference22Ideal.nD Cert.Reference22Ideal.τ).loc Cert.Reference22Ideal.main_arg16) = m ((c.tc : Thread Cert.Reference22Ideal.nD Cert.Reference22Ideal.τ).loc Cert.Reference22Ideal.main_arg16)
      ∧ r.2.mem ((c.tc : Thread Cert.Reference22Ideal.nD Cert.Reference22Ideal.τ).loc Cert.Reference22Ideal.main_arg17) = m ((c.tc : Thread Cert.Reference22Ideal.nD Cert.Reference22Ideal.τ).loc Cert.Reference22Ideal.main_arg17)
      ∧ r.2.mem ((c.tc : Thread Cert.Reference22Ideal.nD Cert.Reference22Ideal.τ).loc Cert.Reference22Ideal.main_arg18) = m ((c.tc : Thread Cert.Reference22Ideal.nD Cert.Reference22Ideal.τ).loc Cert.Reference22Ideal.main_arg18)
      ∧ r.2.mem ((c.tc : Thread Cert.Reference22Ideal.nD Cert.Reference22Ideal.τ).loc Cert.Reference22Ideal.main_arg19) = m ((c.tc : Thread Cert.Reference22Ideal.nD Cert.Reference22Ideal.τ).loc Cert.Reference22Ideal.main_arg19)
      ∧ r.2.mem ((c.tc : Thread Cert.Reference22Ideal.nD Cert.Reference22Ideal.τ).loc Cert.Reference22Ideal.main_arg20) = m ((c.tc : Thread Cert.Reference22Ideal.nD Cert.Reference22Ideal.τ).loc Cert.Reference22Ideal.main_arg20)
      ∧ r.2.mem ((c.tc : Thread Cert.Reference22Ideal.nD Cert.Reference22Ideal.τ).loc Cert.Reference22Ideal.main_arg21) = m ((c.tc : Thread Cert.Reference22Ideal.nD Cert.Reference22Ideal.τ).loc Cert.Reference22Ideal.main_arg21)
      ∧ r.2.mem ((c.tc : Thread Cert.Reference22Ideal.nD Cert.Reference22Ideal.τ).loc Cert.Reference22Ideal.main_arg22) = m ((c.tc : Thread Cert.Reference22Ideal.nD Cert.Reference22Ideal.τ).loc Cert.Reference22Ideal.main_arg22)
      ∧ r.2.mem ((c.tc : Thread Cert.Reference22Ideal.nD Cert.Reference22Ideal.τ).loc Cert.Reference22Ideal.main_arg23) = m ((c.tc : Thread Cert.Reference22Ideal.nD Cert.Reference22Ideal.τ).loc Cert.Reference22Ideal.main_arg23)
      ∧ r.2.mem ((c.tc : Thread Cert.Reference22Ideal.nD Cert.Reference22Ideal.τ).loc Cert.Reference22Ideal.main_arg24) = m ((c.tc : Thread Cert.Reference22Ideal.nD Cert.Reference22Ideal.τ).loc Cert.Reference22Ideal.main_arg24)
      ∧ r.2.mem ((c.tc : Thread Cert.Reference22Ideal.nD Cert.Reference22Ideal.τ).loc Cert.Reference22Ideal.main_arg25) = m ((c.tc : Thread Cert.Reference22Ideal.nD Cert.Reference22Ideal.τ).loc Cert.Reference22Ideal.main_arg25)
      ∧ r.2.mem ((c.tc : Thread Cert.Reference22Ideal.nD Cert.Reference22Ideal.τ).loc Cert.Reference22Ideal.main_arg26) = m ((c.tc : Thread Cert.Reference22Ideal.nD Cert.Reference22Ideal.τ).loc Cert.Reference22Ideal.main_arg26)
      ∧ r.2.mem ((c.tc : Thread Cert.Reference22Ideal.nD Cert.Reference22Ideal.τ).loc Cert.Reference22Ideal.main_arg27) = m ((c.tc : Thread Cert.Reference22Ideal.nD Cert.Reference22Ideal.τ).loc Cert.Reference22Ideal.main_arg27)
      ∧ r.2.mem ((c.tc : Thread Cert.Reference22Ideal.nD Cert.Reference22Ideal.τ).loc Cert.Reference22Ideal.main_arg28) = m ((c.tc : Thread Cert.Reference22Ideal.nD Cert.Reference22Ideal.τ).loc Cert.Reference22Ideal.main_arg28))
      ∧ r.2.sem = fun _ => 0)

def preserves_Kernel_KernelIdeal : Prop :=
  True

def algebraic_KernelIdeal_ReferenceIdeal_pre_pool_finite [hKernelIdeal : Cert.KernelIdeal.Facts] [hReferenceIdeal : Cert.ReferenceIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pool_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_v226) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_v233) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_gate_finite [hKernel2Ideal : Cert.Kernel2Ideal.Facts] [hReference2Ideal : Cert.Reference2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gate_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_2)) (v1 : (c : Dev Cert.Kernel2Ideal.nD) → Buf (Elt Ideal) ((c.tc : Thread Cert.Kernel2Ideal.nD Cert.Kernel2Ideal.τ).loc Cert.Kernel2Ideal.main_v1_0)) (v2 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_2) = v0 c
          ∧ r.2.mem ((c.tc : Thread Cert.Kernel2Ideal.nD Cert.Kernel2Ideal.τ).loc Cert.Kernel2Ideal.main_v1_0) = v1 c
          ∧ r.2.mem ((c.tc : Thread Cert.Kernel2Ideal.nD Cert.Kernel2Ideal.τ).loc Cert.Kernel2Ideal.main_v1_1) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v33) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v24) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v20) = v1 c
          ∧ r.2.mem ((c.tc : Thread Cert.Reference11Ideal.nD Cert.Reference11Ideal.τ).loc Cert.Reference11Ideal.main_v21) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v38) = v0 c
          ∧ r.2.mem ((c.tc : Thread Cert.Reference13Ideal.nD Cert.Reference13Ideal.τ).loc Cert.Reference13Ideal.main_v40) = v1 c
          ∧ r.2.mem ((c.tc : Thread Cert.Reference13Ideal.nD Cert.Reference13Ideal.τ).loc Cert.Reference13Ideal.main_v41) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v52) = v0 c
          ∧ r.2.mem ((c.tc : Thread Cert.Reference15Ideal.nD Cert.Reference15Ideal.τ).loc Cert.Reference15Ideal.main_v51) = v1 c
          ∧ r.2.mem ((c.tc : Thread Cert.Reference15Ideal.nD Cert.Reference15Ideal.τ).loc Cert.Reference15Ideal.main_v53) = v2 c
          ∧ r.2.mem ((c.tc : Thread Cert.Reference15Ideal.nD Cert.Reference15Ideal.τ).loc Cert.Reference15Ideal.main_v54) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal_pre_rows_finite [hKernel16Ideal : Cert.Kernel16Ideal.Facts] [hReference16Ideal : Cert.Reference16Ideal.Facts] [hPre_rows_finite : Cert.Pre_rows_finite.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_rows_finite m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v93) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_v15) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_v28) = v1 c
          ∧ r.2.mem ((c.tc : Thread Cert.Reference18Ideal.nD Cert.Reference18Ideal.τ).loc Cert.Reference18Ideal.main_v9) = v2 c
          ∧ r.2.mem ((c.tc : Thread Cert.Reference18Ideal.nD Cert.Reference18Ideal.τ).loc Cert.Reference18Ideal.main_v15) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_v28) = v1 c
          ∧ r.2.mem ((c.tc : Thread Cert.Reference19Ideal.nD Cert.Reference19Ideal.τ).loc Cert.Reference19Ideal.main_v9) = v2 c
          ∧ r.2.mem ((c.tc : Thread Cert.Reference19Ideal.nD Cert.Reference19Ideal.τ).loc Cert.Reference19Ideal.main_v15) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_v28) = v1 c
          ∧ r.2.mem ((c.tc : Thread Cert.Reference20Ideal.nD Cert.Reference20Ideal.τ).loc Cert.Reference20Ideal.main_v9) = v2 c
          ∧ r.2.mem ((c.tc : Thread Cert.Reference20Ideal.nD Cert.Reference20Ideal.τ).loc Cert.Reference20Ideal.main_v15) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_v28) = v1 c
          ∧ r.2.mem ((c.tc : Thread Cert.Reference21Ideal.nD Cert.Reference21Ideal.τ).loc Cert.Reference21Ideal.main_v9) = v2 c
          ∧ r.2.mem ((c.tc : Thread Cert.Reference21Ideal.nD Cert.Reference21Ideal.τ).loc Cert.Reference21Ideal.main_v15) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)
      ∧ m' ((c.tc : Thread Cert.Reference22Ideal.nD Cert.Reference22Ideal.τ).loc Cert.Reference22Ideal.main_arg10) = m ((c.tc : Thread Cert.Kernel22Ideal.nD Cert.Kernel22Ideal.τ).loc Cert.Kernel22Ideal.main_arg10)
      ∧ m' ((c.tc : Thread Cert.Reference22Ideal.nD Cert.Reference22Ideal.τ).loc Cert.Reference22Ideal.main_arg11) = m ((c.tc : Thread Cert.Kernel22Ideal.nD Cert.Kernel22Ideal.τ).loc Cert.Kernel22Ideal.main_arg11)
      ∧ m' ((c.tc : Thread Cert.Reference22Ideal.nD Cert.Reference22Ideal.τ).loc Cert.Reference22Ideal.main_arg12) = m ((c.tc : Thread Cert.Kernel22Ideal.nD Cert.Kernel22Ideal.τ).loc Cert.Kernel22Ideal.main_arg12)
      ∧ m' ((c.tc : Thread Cert.Reference22Ideal.nD Cert.Reference22Ideal.τ).loc Cert.Reference22Ideal.main_arg13) = m ((c.tc : Thread Cert.Kernel22Ideal.nD Cert.Kernel22Ideal.τ).loc Cert.Kernel22Ideal.main_arg13)
      ∧ m' ((c.tc : Thread Cert.Reference22Ideal.nD Cert.Reference22Ideal.τ).loc Cert.Reference22Ideal.main_arg14) = m ((c.tc : Thread Cert.Kernel22Ideal.nD Cert.Kernel22Ideal.τ).loc Cert.Kernel22Ideal.main_arg14)
      ∧ m' ((c.tc : Thread Cert.Reference22Ideal.nD Cert.Reference22Ideal.τ).loc Cert.Reference22Ideal.main_arg15) = m ((c.tc : Thread Cert.Kernel22Ideal.nD Cert.Kernel22Ideal.τ).loc Cert.Kernel22Ideal.main_arg15)
      ∧ m' ((c.tc : Thread Cert.Reference22Ideal.nD Cert.Reference22Ideal.τ).loc Cert.Reference22Ideal.main_arg16) = m ((c.tc : Thread Cert.Kernel22Ideal.nD Cert.Kernel22Ideal.τ).loc Cert.Kernel22Ideal.main_arg16)
      ∧ m' ((c.tc : Thread Cert.Reference22Ideal.nD Cert.Reference22Ideal.τ).loc Cert.Reference22Ideal.main_arg17) = m ((c.tc : Thread Cert.Kernel22Ideal.nD Cert.Kernel22Ideal.τ).loc Cert.Kernel22Ideal.main_arg17)
      ∧ m' ((c.tc : Thread Cert.Reference22Ideal.nD Cert.Reference22Ideal.τ).loc Cert.Reference22Ideal.main_arg18) = m ((c.tc : Thread Cert.Kernel22Ideal.nD Cert.Kernel22Ideal.τ).loc Cert.Kernel22Ideal.main_arg18)
      ∧ m' ((c.tc : Thread Cert.Reference22Ideal.nD Cert.Reference22Ideal.τ).loc Cert.Reference22Ideal.main_arg19) = m ((c.tc : Thread Cert.Kernel22Ideal.nD Cert.Kernel22Ideal.τ).loc Cert.Kernel22Ideal.main_arg19)
      ∧ m' ((c.tc : Thread Cert.Reference22Ideal.nD Cert.Reference22Ideal.τ).loc Cert.Reference22Ideal.main_arg20) = m ((c.tc : Thread Cert.Kernel22Ideal.nD Cert.Kernel22Ideal.τ).loc Cert.Kernel22Ideal.main_arg20)
      ∧ m' ((c.tc : Thread Cert.Reference22Ideal.nD Cert.Reference22Ideal.τ).loc Cert.Reference22Ideal.main_arg21) = m ((c.tc : Thread Cert.Kernel22Ideal.nD Cert.Kernel22Ideal.τ).loc Cert.Kernel22Ideal.main_arg21)
      ∧ m' ((c.tc : Thread Cert.Reference22Ideal.nD Cert.Reference22Ideal.τ).loc Cert.Reference22Ideal.main_arg22) = m ((c.tc : Thread Cert.Kernel22Ideal.nD Cert.Kernel22Ideal.τ).loc Cert.Kernel22Ideal.main_arg22)
      ∧ m' ((c.tc : Thread Cert.Reference22Ideal.nD Cert.Reference22Ideal.τ).loc Cert.Reference22Ideal.main_arg23) = m ((c.tc : Thread Cert.Kernel22Ideal.nD Cert.Kernel22Ideal.τ).loc Cert.Kernel22Ideal.main_arg23)
      ∧ m' ((c.tc : Thread Cert.Reference22Ideal.nD Cert.Reference22Ideal.τ).loc Cert.Reference22Ideal.main_arg24) = m ((c.tc : Thread Cert.Kernel22Ideal.nD Cert.Kernel22Ideal.τ).loc Cert.Kernel22Ideal.main_arg24)
      ∧ m' ((c.tc : Thread Cert.Reference22Ideal.nD Cert.Reference22Ideal.τ).loc Cert.Reference22Ideal.main_arg25) = m ((c.tc : Thread Cert.Kernel22Ideal.nD Cert.Kernel22Ideal.τ).loc Cert.Kernel22Ideal.main_arg25)
      ∧ m' ((c.tc : Thread Cert.Reference22Ideal.nD Cert.Reference22Ideal.τ).loc Cert.Reference22Ideal.main_arg26) = m ((c.tc : Thread Cert.Kernel22Ideal.nD Cert.Kernel22Ideal.τ).loc Cert.Kernel22Ideal.main_arg26)
      ∧ m' ((c.tc : Thread Cert.Reference22Ideal.nD Cert.Reference22Ideal.τ).loc Cert.Reference22Ideal.main_arg27) = m ((c.tc : Thread Cert.Kernel22Ideal.nD Cert.Kernel22Ideal.τ).loc Cert.Kernel22Ideal.main_arg27)
      ∧ m' ((c.tc : Thread Cert.Reference22Ideal.nD Cert.Reference22Ideal.τ).loc Cert.Reference22Ideal.main_arg28) = m ((c.tc : Thread Cert.Kernel22Ideal.nD Cert.Kernel22Ideal.τ).loc Cert.Kernel22Ideal.main_arg28)) →
    ∃ (v0 : (c : Dev Cert.Kernel22Ideal.nD) → Buf (Elt Ideal) ((c.tc : Thread Cert.Kernel22Ideal.nD Cert.Kernel22Ideal.τ).loc Cert.Kernel22Ideal.main_v44_0)) (v1 : (c : Dev Cert.Kernel22Ideal.nD) → Buf (Elt Ideal) ((c.tc : Thread Cert.Kernel22Ideal.nD Cert.Kernel22Ideal.τ).loc Cert.Kernel22Ideal.main_v44_1)) (v2 : (c : Dev Cert.Kernel22Ideal.nD) → Buf (Elt Ideal) ((c.tc : Thread Cert.Kernel22Ideal.nD Cert.Kernel22Ideal.τ).loc Cert.Kernel22Ideal.main_v44_2)) (v3 : (c : Dev Cert.Kernel22Ideal.nD) → Buf (Elt Ideal) ((c.tc : Thread Cert.Kernel22Ideal.nD Cert.Kernel22Ideal.τ).loc Cert.Kernel22Ideal.main_v44_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v44_0) = v0 c
          ∧ r.2.mem ((c.tc : Thread Cert.Kernel22Ideal.nD Cert.Kernel22Ideal.τ).loc Cert.Kernel22Ideal.main_v44_1) = v1 c
          ∧ r.2.mem ((c.tc : Thread Cert.Kernel22Ideal.nD Cert.Kernel22Ideal.τ).loc Cert.Kernel22Ideal.main_v44_2) = v2 c
          ∧ r.2.mem ((c.tc : Thread Cert.Kernel22Ideal.nD Cert.Kernel22Ideal.τ).loc Cert.Kernel22Ideal.main_v44_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
          ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
          ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
          ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
          ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
          ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
          ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15)
          ∧ r.2.mem ((c.tc : Thread Cert.Kernel22Ideal.nD Cert.Kernel22Ideal.τ).loc Cert.Kernel22Ideal.main_arg16) = m ((c.tc : Thread Cert.Kernel22Ideal.nD Cert.Kernel22Ideal.τ).loc Cert.Kernel22Ideal.main_arg16)
          ∧ r.2.mem ((c.tc : Thread Cert.Kernel22Ideal.nD Cert.Kernel22Ideal.τ).loc Cert.Kernel22Ideal.main_arg17) = m ((c.tc : Thread Cert.Kernel22Ideal.nD Cert.Kernel22Ideal.τ).loc Cert.Kernel22Ideal.main_arg17)
          ∧ r.2.mem ((c.tc : Thread Cert.Kernel22Ideal.nD Cert.Kernel22Ideal.τ).loc Cert.Kernel22Ideal.main_arg18) = m ((c.tc : Thread Cert.Kernel22Ideal.nD Cert.Kernel22Ideal.τ).loc Cert.Kernel22Ideal.main_arg18)
          ∧ r.2.mem ((c.tc : Thread Cert.Kernel22Ideal.nD Cert.Kernel22Ideal.τ).loc Cert.Kernel22Ideal.main_arg19) = m ((c.tc : Thread Cert.Kernel22Ideal.nD Cert.Kernel22Ideal.τ).loc Cert.Kernel22Ideal.main_arg19)
          ∧ r.2.mem ((c.tc : Thread Cert.Kernel22Ideal.nD Cert.Kernel22Ideal.τ).loc Cert.Kernel22Ideal.main_arg20) = m ((c.tc : Thread Cert.Kernel22Ideal.nD Cert.Kernel22Ideal.τ).loc Cert.Kernel22Ideal.main_arg20)
          ∧ r.2.mem ((c.tc : Thread Cert.Kernel22Ideal.nD Cert.Kernel22Ideal.τ).loc Cert.Kernel22Ideal.main_arg21) = m ((c.tc : Thread Cert.Kernel22Ideal.nD Cert.Kernel22Ideal.τ).loc Cert.Kernel22Ideal.main_arg21)
          ∧ r.2.mem ((c.tc : Thread Cert.Kernel22Ideal.nD Cert.Kernel22Ideal.τ).loc Cert.Kernel22Ideal.main_arg22) = m ((c.tc : Thread Cert.Kernel22Ideal.nD Cert.Kernel22Ideal.τ).loc Cert.Kernel22Ideal.main_arg22)
          ∧ r.2.mem ((c.tc : Thread Cert.Kernel22Ideal.nD Cert.Kernel22Ideal.τ).loc Cert.Kernel22Ideal.main_arg23) = m ((c.tc : Thread Cert.Kernel22Ideal.nD Cert.Kernel22Ideal.τ).loc Cert.Kernel22Ideal.main_arg23)
          ∧ r.2.mem ((c.tc : Thread Cert.Kernel22Ideal.nD Cert.Kernel22Ideal.τ).loc Cert.Kernel22Ideal.main_arg24) = m ((c.tc : Thread Cert.Kernel22Ideal.nD Cert.Kernel22Ideal.τ).loc Cert.Kernel22Ideal.main_arg24)
          ∧ r.2.mem ((c.tc : Thread Cert.Kernel22Ideal.nD Cert.Kernel22Ideal.τ).loc Cert.Kernel22Ideal.main_arg25) = m ((c.tc : Thread Cert.Kernel22Ideal.nD Cert.Kernel22Ideal.τ).loc Cert.Kernel22Ideal.main_arg25)
          ∧ r.2.mem ((c.tc : Thread Cert.Kernel22Ideal.nD Cert.Kernel22Ideal.τ).loc Cert.Kernel22Ideal.main_arg26) = m ((c.tc : Thread Cert.Kernel22Ideal.nD Cert.Kernel22Ideal.τ).loc Cert.Kernel22Ideal.main_arg26)
          ∧ r.2.mem ((c.tc : Thread Cert.Kernel22Ideal.nD Cert.Kernel22Ideal.τ).loc Cert.Kernel22Ideal.main_arg27) = m ((c.tc : Thread Cert.Kernel22Ideal.nD Cert.Kernel22Ideal.τ).loc Cert.Kernel22Ideal.main_arg27)
          ∧ r.2.mem ((c.tc : Thread Cert.Kernel22Ideal.nD Cert.Kernel22Ideal.τ).loc Cert.Kernel22Ideal.main_arg28) = m ((c.tc : Thread Cert.Kernel22Ideal.nD Cert.Kernel22Ideal.τ).loc Cert.Kernel22Ideal.main_arg28))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v235) = v0 c
          ∧ r.2.mem ((c.tc : Thread Cert.Reference22Ideal.nD Cert.Reference22Ideal.τ).loc Cert.Reference22Ideal.main_v244) = v1 c
          ∧ r.2.mem ((c.tc : Thread Cert.Reference22Ideal.nD Cert.Reference22Ideal.τ).loc Cert.Reference22Ideal.main_v253) = v2 c
          ∧ r.2.mem ((c.tc : Thread Cert.Reference22Ideal.nD Cert.Reference22Ideal.τ).loc Cert.Reference22Ideal.main_v262) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9)
          ∧ r.2.mem ((c.tc : Thread Cert.Reference22Ideal.nD Cert.Reference22Ideal.τ).loc Cert.Reference22Ideal.main_arg10) = m' ((c.tc : Thread Cert.Reference22Ideal.nD Cert.Reference22Ideal.τ).loc Cert.Reference22Ideal.main_arg10)
          ∧ r.2.mem ((c.tc : Thread Cert.Reference22Ideal.nD Cert.Reference22Ideal.τ).loc Cert.Reference22Ideal.main_arg11) = m' ((c.tc : Thread Cert.Reference22Ideal.nD Cert.Reference22Ideal.τ).loc Cert.Reference22Ideal.main_arg11)
          ∧ r.2.mem ((c.tc : Thread Cert.Reference22Ideal.nD Cert.Reference22Ideal.τ).loc Cert.Reference22Ideal.main_arg12) = m' ((c.tc : Thread Cert.Reference22Ideal.nD Cert.Reference22Ideal.τ).loc Cert.Reference22Ideal.main_arg12)
          ∧ r.2.mem ((c.tc : Thread Cert.Reference22Ideal.nD Cert.Reference22Ideal.τ).loc Cert.Reference22Ideal.main_arg13) = m' ((c.tc : Thread Cert.Reference22Ideal.nD Cert.Reference22Ideal.τ).loc Cert.Reference22Ideal.main_arg13)
          ∧ r.2.mem ((c.tc : Thread Cert.Reference22Ideal.nD Cert.Reference22Ideal.τ).loc Cert.Reference22Ideal.main_arg14) = m' ((c.tc : Thread Cert.Reference22Ideal.nD Cert.Reference22Ideal.τ).loc Cert.Reference22Ideal.main_arg14)
          ∧ r.2.mem ((c.tc : Thread Cert.Reference22Ideal.nD Cert.Reference22Ideal.τ).loc Cert.Reference22Ideal.main_arg15) = m' ((c.tc : Thread Cert.Reference22Ideal.nD Cert.Reference22Ideal.τ).loc Cert.Reference22Ideal.main_arg15)
          ∧ r.2.mem ((c.tc : Thread Cert.Reference22Ideal.nD Cert.Reference22Ideal.τ).loc Cert.Reference22Ideal.main_arg16) = m' ((c.tc : Thread Cert.Reference22Ideal.nD Cert.Reference22Ideal.τ).loc Cert.Reference22Ideal.main_arg16)
          ∧ r.2.mem ((c.tc : Thread Cert.Reference22Ideal.nD Cert.Reference22Ideal.τ).loc Cert.Reference22Ideal.main_arg17) = m' ((c.tc : Thread Cert.Reference22Ideal.nD Cert.Reference22Ideal.τ).loc Cert.Reference22Ideal.main_arg17)
          ∧ r.2.mem ((c.tc : Thread Cert.Reference22Ideal.nD Cert.Reference22Ideal.τ).loc Cert.Reference22Ideal.main_arg18) = m' ((c.tc : Thread Cert.Reference22Ideal.nD Cert.Reference22Ideal.τ).loc Cert.Reference22Ideal.main_arg18)
          ∧ r.2.mem ((c.tc : Thread Cert.Reference22Ideal.nD Cert.Reference22Ideal.τ).loc Cert.Reference22Ideal.main_arg19) = m' ((c.tc : Thread Cert.Reference22Ideal.nD Cert.Reference22Ideal.τ).loc Cert.Reference22Ideal.main_arg19)
          ∧ r.2.mem ((c.tc : Thread Cert.Reference22Ideal.nD Cert.Reference22Ideal.τ).loc Cert.Reference22Ideal.main_arg20) = m' ((c.tc : Thread Cert.Reference22Ideal.nD Cert.Reference22Ideal.τ).loc Cert.Reference22Ideal.main_arg20)
          ∧ r.2.mem ((c.tc : Thread Cert.Reference22Ideal.nD Cert.Reference22Ideal.τ).loc Cert.Reference22Ideal.main_arg21) = m' ((c.tc : Thread Cert.Reference22Ideal.nD Cert.Reference22Ideal.τ).loc Cert.Reference22Ideal.main_arg21)
          ∧ r.2.mem ((c.tc : Thread Cert.Reference22Ideal.nD Cert.Reference22Ideal.τ).loc Cert.Reference22Ideal.main_arg22) = m' ((c.tc : Thread Cert.Reference22Ideal.nD Cert.Reference22Ideal.τ).loc Cert.Reference22Ideal.main_arg22)
          ∧ r.2.mem ((c.tc : Thread Cert.Reference22Ideal.nD Cert.Reference22Ideal.τ).loc Cert.Reference22Ideal.main_arg23) = m' ((c.tc : Thread Cert.Reference22Ideal.nD Cert.Reference22Ideal.τ).loc Cert.Reference22Ideal.main_arg23)
          ∧ r.2.mem ((c.tc : Thread Cert.Reference22Ideal.nD Cert.Reference22Ideal.τ).loc Cert.Reference22Ideal.main_arg24) = m' ((c.tc : Thread Cert.Reference22Ideal.nD Cert.Reference22Ideal.τ).loc Cert.Reference22Ideal.main_arg24)
          ∧ r.2.mem ((c.tc : Thread Cert.Reference22Ideal.nD Cert.Reference22Ideal.τ).loc Cert.Reference22Ideal.main_arg25) = m' ((c.tc : Thread Cert.Reference22Ideal.nD Cert.Reference22Ideal.τ).loc Cert.Reference22Ideal.main_arg25)
          ∧ r.2.mem ((c.tc : Thread Cert.Reference22Ideal.nD Cert.Reference22Ideal.τ).loc Cert.Reference22Ideal.main_arg26) = m' ((c.tc : Thread Cert.Reference22Ideal.nD Cert.Reference22Ideal.τ).loc Cert.Reference22Ideal.main_arg26)
          ∧ r.2.mem ((c.tc : Thread Cert.Reference22Ideal.nD Cert.Reference22Ideal.τ).loc Cert.Reference22Ideal.main_arg27) = m' ((c.tc : Thread Cert.Reference22Ideal.nD Cert.Reference22Ideal.τ).loc Cert.Reference22Ideal.main_arg27)
          ∧ r.2.mem ((c.tc : Thread Cert.Reference22Ideal.nD Cert.Reference22Ideal.τ).loc Cert.Reference22Ideal.main_arg28) = m' ((c.tc : Thread Cert.Reference22Ideal.nD Cert.Reference22Ideal.τ).loc Cert.Reference22Ideal.main_arg28))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_pool_finite : Cert.Pre_pool_finite.Facts) (hPre_gate_finite : Cert.Pre_gate_finite.Facts) (hPre_rows_finite : Cert.Pre_rows_finite.Facts),
    quiescent_Kernel (hKernel := hKernel)
    ∧ quiescent_KernelIdeal (hKernelIdeal := hKernelIdeal)
    ∧ quiescent_KernelIdeal_pre_pool_finite (hKernelIdeal := hKernelIdeal) (hPre_pool_finite := hPre_pool_finite)
    ∧ quiescent_ReferenceIdeal (hReferenceIdeal := hReferenceIdeal)
    ∧ quiescent_ReferenceIdeal_pre_pool_finite (hReferenceIdeal := hReferenceIdeal) (hPre_pool_finite := hPre_pool_finite)
    ∧ quiescent_Kernel2 (hKernel2 := hKernel2)
    ∧ quiescent_Kernel2Ideal (hKernel2Ideal := hKernel2Ideal)
    ∧ quiescent_Kernel2Ideal_pre_gate_finite (hKernel2Ideal := hKernel2Ideal) (hPre_gate_finite := hPre_gate_finite)
    ∧ quiescent_Reference2Ideal (hReference2Ideal := hReference2Ideal)
    ∧ quiescent_Reference2Ideal_pre_gate_finite (hReference2Ideal := hReference2Ideal) (hPre_gate_finite := hPre_gate_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_rows_finite (hKernel16Ideal := hKernel16Ideal) (hPre_rows_finite := hPre_rows_finite)
    ∧ quiescent_Reference16Ideal (hReference16Ideal := hReference16Ideal)
    ∧ quiescent_Reference16Ideal_pre_rows_finite (hReference16Ideal := hReference16Ideal) (hPre_rows_finite := hPre_rows_finite)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_pool_finite (hKernelIdeal := hKernelIdeal) (hReferenceIdeal := hReferenceIdeal) (hPre_pool_finite := hPre_pool_finite)
    ∧ preserves_Kernel2_Kernel2Ideal
    ∧ algebraic_Kernel2Ideal_Reference2Ideal_pre_gate_finite (hKernel2Ideal := hKernel2Ideal) (hReference2Ideal := hReference2Ideal) (hPre_gate_finite := hPre_gate_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_rows_finite (hKernel16Ideal := hKernel16Ideal) (hReference16Ideal := hReference16Ideal) (hPre_rows_finite := hPre_rows_finite)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_gate_finite.lean ====
abbrev S8192x2048 : Shape := ⟨2, ![8192, 2048]⟩
abbrev S8x2048x704 : Shape := ⟨3, ![8, 2048, 704]⟩
abbrev S8x704x2048 : Shape := ⟨3, ![8, 704, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x704 : S_.BroadcastsInDim S8x2048x704 (![] : Fin 0 → Fin S8x2048x704.rank)
  reducesTo_S8x2048x704_S_d0_1_2 : S8x2048x704.ReducesTo [0, 1, 2] S_
  bcast_S_S8x704x2048 : S_.BroadcastsInDim S8x704x2048 (![] : Fin 0 → Fin S8x704x2048.rank)
  reducesTo_S8x704x2048_S_d0_1_2 : S8x704x2048.ReducesTo [0, 1, 2] S_

variable [Facts]

def fn_part1 {F : FTy → Type} [FloatOps F] (main_v16 : IVec S_ 1) (main_v17 : FVec F S8192x2048 .f32) : IVec S_ 1 :=
  let main_v18 : FVec F S8192x2048 .f32 := Host.absf main_v17
  let main_cst_4 : FVec F S_ .f32 := constant S_ .f32 0x7F800000#32
  let main_v19 : FVec F S8192x2048 .f32 := broadcastInDim S8192x2048 ![] bcast_S_S8192x2048 main_cst_4
  let main_v20 : IVec S8192x2048 1 := cmpf .olt main_v18 main_v19
  let main_c_5 : IVec S_ 1 := constantI S_ 1 1#1
  let main_v21 : IVec S_ 1 := (fun x v => Host.reduce IntOp.andi x v reducesTo_S8192x2048_S_d0_1 h_S_) main_v20 main_c_5
  let main_v22 : IVec S_ 1 := andi main_v16 main_v21
  main_v22

def fn {F : FTy → Type} [FloatOps F] (main_arg0 : FVec F S8192x2048 .bf16) (main_arg1 : FVec F S8x2048x704 .bf16) (main_arg2 : FVec F S8x2048x704 .bf16) (main_arg3 : FVec F S8x704x2048 .bf16) (main_arg4 : FVec F S8192x2048 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8x2048x704 .f32 := (extf .f32 · bitsLt_bf16_f32) main_arg2
  let main_v6 : FVec F S8x2048x704 .f32 := Host.absf main_v5
  let main_cst_0 : FVec F S_ .f32 := constant S_ .f32 0x7F800000#32
  let main_v7 : FVec F S8x2048x704 .f32 := broadcastInDim S8x2048x704 ![] bcast_S_S8x2048x704 main_cst_0
  let main_v8 : IVec S8x2048x704 1 := cmpf .olt main_v6 main_v7
  let main_c_1 : IVec S_ 1 := constantI S_ 1 1#1
  let main_v9 : IVec S_ 1 := (fun x v => Host.reduce IntOp.andi x v reducesTo_S8x2048x704_S_d0_1_2 h_S_) main_v8 main_c_1
  let main_v10 : IVec S_ 1 := andi main_v4 main_v9
  let main_v11 : FVec F S8x704x2048 .f32 := (extf .f32 · bitsLt_bf16_f32) main_arg3
  let main_v12 : FVec F S8x704x2048 .f32 := Host.absf main_v11
  let main_cst_2 : FVec F S_ .f32 := constant S_ .f32 0x7F800000#32
  let main_v13 : FVec F S8x704x2048 .f32 := broadcastInDim S8x704x2048 ![] bcast_S_S8x704x2048 main_cst_2
  let main_v14 : IVec S8x704x2048 1 := cmpf .olt main_v12 main_v13
  let main_c_3 : IVec S_ 1 := constantI S_ 1 1#1
  let main_v15 : IVec S_ 1 := (fun x v => Host.reduce IntOp.andi x v reducesTo_S8x704x2048_S_d0_1_2 h_S_) main_v14 main_c_3
  let main_v16 : IVec S_ 1 := andi main_v10 main_v15
  let main_v17 : FVec F S8192x2048 .f32 := (extf .f32 · bitsLt_bf16_f32) main_arg4
  fn_part1 (F := F) main_v16 main_v17
-- ==== Pre_pool_finite.lean ====
abbrev S8192x5120 : Shape := ⟨2, ![8192, 5120]⟩
abbrev S8192x1024 : Shape := ⟨2, ![8192, 1024]⟩
abbrev S3x512 : Shape := ⟨2, ![3, 512]⟩
abbrev S4x128x128 : Shape := ⟨3, ![4, 128, 128]⟩
abbrev S1x512 : Shape := ⟨2, ![1, 512]⟩
abbrev S8192x512 : Shape := ⟨2, ![8192, 512]⟩
abbrev S_ : Shape := ⟨0, ![]⟩

class Facts : Prop where
  slices_S8192x5120_S8192x512_0_4608 : S8192x5120.Slices ![0, 4608] S8192x512
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  slices_S8192x1024_S8192x512_0_512 : S8192x1024.Slices ![0, 512] S8192x512
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_v17 : IVec S_ 1) : IVec S_ 1 :=
  let main_v18 : FVec F S1x512 .f32 := Host.absf main_arg4
  let main_cst_4 : FVec F S_ .f32 := constant S_ .f32 0x7F800000#32
  let main_v19 : FVec F S1x512 .f32 := broadcastInDim S1x512 ![] bcast_S_S1x512 main_cst_4
  let main_v20 : IVec S1x512 1 := cmpf .olt main_v18 main_v19
  let main_c_5 : IVec S_ 1 := constantI S_ 1 1#1
  let main_v21 : IVec S_ 1 := (fun x v => Host.reduce IntOp.andi x v reducesTo_S1x512_S_d0_1 h_S_) main_v20 main_c_5
  let main_v22 : IVec S_ 1 := andi main_v17 main_v21
  main_v22

def fn {F : FTy → Type} [FloatOps F] (main_arg0 : FVec F S8192x5120 .bf16) (main_arg1 : FVec F S8192x1024 .bf16) (main_arg2 : FVec F S3x512 .f32) (main_arg3 : FVec F S4x128x128 .f32) (main_arg4 : FVec F S1x512 .f32) : IVec S_ 1 :=
  let main_v0 : FVec F S8192x512 .bf16 := (extractStridedSlice S8192x512 ![0, 4608] · slices_S8192x5120_S8192x512_0_4608) main_arg0
  let main_v1 : FVec F S8192x512 .f32 := (extf .f32 · bitsLt_bf16_f32) main_v0
  let main_v2 : FVec F S8192x512 .f32 := Host.absf main_v1
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_c : IVec S_ 1 := constantI S_ 1 1#1
  let main_v5 : IVec S_ 1 := (fun x v => Host.reduce IntOp.andi x v reducesTo_S8192x512_S_d0_1 h_S_) main_v4 main_c
  let main_v6 : FVec F S8192x512 .bf16 := (extractStridedSlice S8192x512 ![0, 512] · slices_S8192x1024_S8192x512_0_512) main_arg1
  let main_v7 : FVec F S8192x512 .f32 := (extf .f32 · bitsLt_bf16_f32) main_v6
  let main_v8 : FVec F S8192x512 .f32 := Host.absf main_v7
  let main_cst_0 : FVec F S_ .f32 := constant S_ .f32 0x7F800000#32
  let main_v9 : FVec F S8192x512 .f32 := broadcastInDim S8192x512 ![] bcast_S_S8192x512 main_cst_0
  let main_v10 : IVec S8192x512 1 := cmpf .olt main_v8 main_v9
  let main_c_1 : IVec S_ 1 := constantI S_ 1 1#1
  let main_v11 : IVec S_ 1 := (fun x v => Host.reduce IntOp.andi x v reducesTo_S8192x512_S_d0_1 h_S_) main_v10 main_c_1
  let main_v12 : IVec S_ 1 := andi main_v5 main_v11
  let main_v13 : FVec F S4x128x128 .f32 := Host.absf main_arg3
  let main_cst_2 : FVec F S_ .f32 := constant S_ .f32 0x7F800000#32
  let main_v14 : FVec F S4x128x128 .f32 := broadcastInDim S4x128x128 ![] bcast_S_S4x128x128 main_cst_2
  let main_v15 : IVec S4x128x128 1 := cmpf .olt main_v13 main_v14
  let main_c_3 : IVec S_ 1 := constantI S_ 1 1#1
  let main_v16 : IVec S_ 1 := (fun x v => Host.reduce IntOp.andi x v reducesTo_S4x128x128_S_d0_1_2 h_S_) main_v15 main_c_3
  let main_v17 : IVec S_ 1 := andi main_v12 main_v16
  fn_part1 (F := F) main_arg4 main_v17
-- ==== Pre_rows_finite.lean ====
abbrev S8192x5120 : Shape := ⟨2, ![8192, 5120]⟩
abbrev S3x512 : Shape := ⟨2, ![3, 512]⟩
abbrev S4x128x128 : Shape := ⟨3, ![4, 128, 128]⟩
abbrev S1x512 : Shape := ⟨2, ![1, 512]⟩
abbrev S8192x512 : Shape := ⟨2, ![8192, 512]⟩
abbrev S_ : Shape := ⟨0, ![]⟩

class Facts : Prop where
  slices_S8192x5120_S8192x512_0_4608 : S8192x5120.Slices ![0, 4608] S8192x512
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x5120 .bf16) (main_arg1 : FVec F S3x512 .f32) (main_arg2 : FVec F S4x128x128 .f32) (main_arg3 : FVec F S1x512 .f32) : IVec S_ 1 :=
  let main_v0 : FVec F S8192x512 .bf16 := (extractStridedSlice S8192x512 ![0, 4608] · slices_S8192x5120_S8192x512_0_4608) main_arg0
  let main_v1 : FVec F S8192x512 .f32 := (extf .f32 · bitsLt_bf16_f32) main_v0
  let main_v2 : FVec F S8192x512 .f32 := Host.absf main_v1
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_c : IVec S_ 1 := constantI S_ 1 1#1
  let main_v5 : IVec S_ 1 := (fun x v => Host.reduce IntOp.andi x v reducesTo_S8192x512_S_d0_1 h_S_) main_v4 main_c
  main_v5
-- ==== Kernel.lean ====
abbrev S8192x5120 : Shape := ⟨2, ![8192, 5120]⟩
abbrev S8192x1024 : Shape := ⟨2, ![8192, 1024]⟩
abbrev S3x512 : Shape := ⟨2, ![3, 512]⟩
abbrev S4x128x128 : Shape := ⟨3, ![4, 128, 128]⟩
abbrev S1x512 : Shape := ⟨2, ![1, 512]⟩
abbrev S8192x2048 : Shape := ⟨2, ![8192, 2048]⟩
abbrev S512x512 : Shape := ⟨2, ![512, 512]⟩
abbrev S16x512 : Shape := ⟨2, ![16, 512]⟩
abbrev S512x1024 : Shape := ⟨2, ![512, 1024]⟩
abbrev S16x1024 : Shape := ⟨2, ![16, 1024]⟩
abbrev S512x2048 : Shape := ⟨2, ![512, 2048]⟩
abbrev S528x512 : Shape := ⟨2, ![528, 512]⟩
abbrev S512 : Shape := ⟨1, ![512]⟩
abbrev S512x1 : Shape := ⟨2, ![512, 1]⟩
abbrev S528x1 : Shape := ⟨2, ![528, 1]⟩
abbrev S512x128 : Shape := ⟨2, ![512, 128]⟩
abbrev S16x128 : Shape := ⟨2, ![16, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 10
  | .vmem => 28
  | .smem => 0
  | _ => 0

abbrev bufTy : (tb : Table) → Fin (tcTables nBuf tb) → BufTy
  | .hbm, ⟨0, _⟩ => ⟨S8192x5120, .bf16⟩
  | .hbm, ⟨1, _⟩ => ⟨S8192x1024, .bf16⟩
  | .hbm, ⟨2, _⟩ => ⟨S3x512, .f32⟩
  | .hbm, ⟨3, _⟩ => ⟨S4x128x128, .f32⟩
  | .hbm, ⟨4, _⟩ => ⟨S1x512, .f32⟩
  | .hbm, ⟨5, _⟩ => ⟨S4x128x128, .bf16⟩
  | .hbm, ⟨6, _⟩ => ⟨S8192x2048, .bf16⟩
  | .hbm, ⟨7, _⟩ => ⟨S3x512, .f32⟩
  | .hbm, ⟨8, _⟩ => ⟨S4x128x128, .f32⟩
  | .hbm, ⟨9, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S512x1024, .bf16⟩
  | .local _ .vmem, ⟨17, _⟩ => ⟨S512x1024, .bf16⟩
  | .local _ .vmem, ⟨18, _⟩ => ⟨S16x1024, .bf16⟩
  | .local _ .vmem, ⟨19, _⟩ => ⟨S16x1024, .bf16⟩
  | .local _ .vmem, ⟨20, _⟩ => ⟨S3x512, .f32⟩
  | .local _ .vmem, ⟨21, _⟩ => ⟨S4x128x128, .bf16⟩
  | .local _ .vmem, ⟨22, _⟩ => ⟨S1x512, .f32⟩
  | .local _ .vmem, ⟨23, _⟩ => ⟨S512x2048, .bf16⟩
  | .local _ .vmem, ⟨24, _⟩ => ⟨S512x2048, .bf16⟩
  | .local _ .vmem, ⟨25, _⟩ => ⟨S3x512, .f32⟩
  | .local _ .vmem, ⟨26, _⟩ => ⟨S4x128x128, .f32⟩
  | .local _ .vmem, ⟨27, _⟩ => ⟨S1x512, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c6_i32 : BitVec 32 := 6#32
  let c0_i32 : BitVec 32 := 0#32
  ![v2.toNat, c6_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S8192x5120 : Shape := ⟨2, ![8192, 5120]⟩
abbrev S8192x1024 : Shape := ⟨2, ![8192, 1024]⟩
abbrev S3x512 : Shape := ⟨2, ![3, 512]⟩
abbrev S4x128x128 : Shape := ⟨3, ![4, 128, 128]⟩
abbrev S1x512 : Shape := ⟨2, ![1, 512]⟩
abbrev S8192x2048 : Shape := ⟨2, ![8192, 2048]⟩
abbrev S512 : Shape := ⟨1, ![512]⟩
abbrev S8192x512 : Shape := ⟨2, ![8192, 512]⟩
abbrev S_ : Shape := ⟨0, ![]⟩
abbrev S2x512 : Shape := ⟨2, ![2, 512]⟩
abbrev S8194x512 : Shape := ⟨2, ![8194, 512]⟩
abbrev S8193x512 : Shape := ⟨2, ![8193, 512]⟩
abbrev S8192 : Shape := ⟨1, ![8192]⟩
abbrev S8193x128 : Shape := ⟨2, ![8193, 128]⟩
abbrev S1x128 : Shape := ⟨2, ![1, 128]⟩
abbrev S8194x128 : Shape := ⟨2, ![8194, 128]⟩
abbrev S8192x128 : Shape := ⟨2, ![8192, 128]⟩
abbrev S8192x1 : Shape := ⟨2, ![8192, 1]⟩
abbrev S3x128 : Shape := ⟨2, ![3, 128]⟩
abbrev S8196x128 : Shape := ⟨2, ![8196, 128]⟩
abbrev S7x128 : Shape := ⟨2, ![7, 128]⟩
abbrev S8200x128 : Shape := ⟨2, ![8200, 128]⟩
abbrev S15x128 : Shape := ⟨2, ![15, 128]⟩
abbrev S8208x128 : Shape := ⟨2, ![8208, 128]⟩
abbrev S8192x1x128 : Shape := ⟨3, ![8192, 1, 128]⟩
abbrev S8192x4x128 : Shape := ⟨3, ![8192, 4, 128]⟩
abbrev S4x128x8192 : Shape := ⟨3, ![4, 128, 8192]⟩
abbrev S4x8192x128 : Shape := ⟨3, ![4, 8192, 128]⟩

abbrev nBuf : Space → Nat
  | .hbm => 293
  | .vmem => 0
  | .smem => 0
  | _ => 0

abbrev hbmTy0_0 (i : Nat) : BufTy := match i % 128 with
  | 0 => ⟨S8192x5120, .bf16⟩
  | 1 => ⟨S8192x1024, .bf16⟩
  | 2 => ⟨S3x512, .f32⟩
  | 3 => ⟨S4x128x128, .f32⟩
  | 4 => ⟨S1x512, .f32⟩
  | 5 => ⟨S8192x5120, .f32⟩
  | 6 => ⟨S8192x2048, .f32⟩
  | 7 => ⟨S512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S_, .f32⟩
  | 14 => ⟨S2x512, .f32⟩
  | 15 => ⟨S8194x512, .f32⟩
  | 16 => ⟨S_, .f32⟩
  | 17 => ⟨S2x512, .f32⟩
  | 18 => ⟨S1x512, .f32⟩
  | 19 => ⟨S512, .f32⟩
  | 20 => ⟨S8192x512, .f32⟩
  | 21 => ⟨S1x512, .f32⟩
  | 22 => ⟨S8192x512, .f32⟩
  | 23 => ⟨S8192x512, .f32⟩
  | 24 => ⟨S1x512, .f32⟩
  | 25 => ⟨S512, .f32⟩
  | 26 => ⟨S8192x512, .f32⟩
  | 27 => ⟨S1x512, .f32⟩
  | 28 => ⟨S8192x512, .f32⟩
  | 29 => ⟨S8192x512, .f32⟩
  | 30 => ⟨S8192x512, .f32⟩
  | 31 => ⟨S1x512, .f32⟩
  | 32 => ⟨S512, .f32⟩
  | 33 => ⟨S8192x512, .f32⟩
  | 34 => ⟨S1x512, .f32⟩
  | 35 => ⟨S8192x512, .f32⟩
  | 36 => ⟨S8192x512, .f32⟩
  | 37 => ⟨S8192x512, .f32⟩
  | 38 => ⟨S8192x512, .f32⟩
  | 39 => ⟨S_, .f32⟩
  | 40 => ⟨S_, .f32⟩
  | 41 => ⟨S8192x512, .f32⟩
  | 42 => ⟨S_, .f32⟩
  | 43 => ⟨S1x512, .f32⟩
  | 44 => ⟨S8193x512, .f32⟩
  | 45 => ⟨S_, .f32⟩
  | 46 => ⟨S1x512, .f32⟩
  | 47 => ⟨S8192, .i32⟩
  | 48 => ⟨S8193x128, .f32⟩
  | 49 => ⟨S_, .f32⟩
  | 50 => ⟨S1x128, .f32⟩
  | 51 => ⟨S8194x128, .f32⟩
  | 52 => ⟨S_, .f32⟩
  | 53 => ⟨S1x128, .f32⟩
  | 54 => ⟨S8192x128, .f32⟩
  | 55 => ⟨S8192x128, .f32⟩
  | 56 => ⟨S8192x128, .f32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192, .f32⟩
  | 64 => ⟨S8192x1, .f32⟩
  | 65 => ⟨S8192x128, .f32⟩
  | 66 => ⟨S8192x128, .f32⟩
  | 67 => ⟨S8192x128, .f32⟩
  | 68 => ⟨S8192x128, .f32⟩
  | 69 => ⟨S8193x128, .f32⟩
  | 70 => ⟨S_, .f32⟩
  | 71 => ⟨S3x128, .f32⟩
  | 72 => ⟨S8196x128, .f32⟩
  | 73 => ⟨S_, .f32⟩
  | 74 => ⟨S3x128, .f32⟩
  | 75 => ⟨S8192x128, .f32⟩
  | 76 => ⟨S8192x128, .f32⟩
  | 77 => ⟨S8192x128, .f32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S8192, .f32⟩
  | 85 => ⟨S8192x1, .f32⟩
  | 86 => ⟨S8192x128, .f32⟩
  | 87 => ⟨S8192x128, .f32⟩
  | 88 => ⟨S8192x128, .f32⟩
  | 89 => ⟨S8192x128, .f32⟩
  | 90 => ⟨S8193x128, .f32⟩
  | 91 => ⟨S_, .f32⟩
  | 92 => ⟨S7x128, .f32⟩
  | 93 => ⟨S8200x128, .f32⟩
  | 94 => ⟨S_, .f32⟩
  | 95 => ⟨S7x128, .f32⟩
  | 96 => ⟨S8192x128, .f32⟩
  | 97 => ⟨S8192x128, .f32⟩
  | 98 => ⟨S8192x128, .f32⟩
  | 99 => ⟨S_, .i32⟩
  | 100 => ⟨S8192, .i32⟩
  | 101 => ⟨S8192, .i32⟩
  | 102 => ⟨S_, .i32⟩
  | 103 => ⟨S8192, .i32⟩
  | 104 => ⟨S8192, .i32⟩
  | 105 => ⟨S8192, .f32⟩
  | 106 => ⟨S8192x1, .f32⟩
  | 107 => ⟨S8192x128, .f32⟩
  | 108 => ⟨S8192x128, .f32⟩
  | 109 => ⟨S8192x128, .f32⟩
  | 110 => ⟨S8192x128, .f32⟩
  | 111 => ⟨S8193x128, .f32⟩
  | 112 => ⟨S_, .f32⟩
  | 113 => ⟨S15x128, .f32⟩
  | 114 => ⟨S8208x128, .f32⟩
  | 115 => ⟨S_, .f32⟩
  | 116 => ⟨S15x128, .f32⟩
  | 117 => ⟨S8192x128, .f32⟩
  | 118 => ⟨S8192x128, .f32⟩
  | 119 => ⟨S8192x128, .f32⟩
  | 120 => ⟨S_, .i32⟩
  | 121 => ⟨S8192, .i32⟩
  | 122 => ⟨S8192, .i32⟩
  | 123 => ⟨S_, .i32⟩
  | 124 => ⟨S8192, .i32⟩
  | 125 => ⟨S8192, .i32⟩
  | 126 => ⟨S8192, .f32⟩
  | 127 => ⟨S8192x1, .f32⟩
  | _ => ⟨S8192x5120, .bf16⟩

abbrev hbmTy0_1 (i : Nat) : BufTy := match i % 128 with
  | 0 => ⟨S8192x128, .f32⟩
  | 1 => ⟨S8192x128, .f32⟩
  | 2 => ⟨S8192x128, .f32⟩
  | 3 => ⟨S8192x128, .f32⟩
  | 4 => ⟨S8192x1x128, .f32⟩
  | 5 => ⟨S8192x1x128, .f32⟩
  | 6 => ⟨S8192x1x128, .f32⟩
  | 7 => ⟨S8192x1x128, .f32⟩
  | 8 => ⟨S8192x4x128, .f32⟩
  | 9 => ⟨S4x128x8192, .f32⟩
  | 10 => ⟨S8192x4x128, .f32⟩
  | 11 => ⟨S8192x512, .f32⟩
  | 12 => ⟨S1x512, .f32⟩
  | 13 => ⟨S8192x512, .f32⟩
  | 14 => ⟨S8192x512, .f32⟩
  | 15 => ⟨S8192x1024, .f32⟩
  | 16 => ⟨S8192x1024, .f32⟩
  | 17 => ⟨S8192x512, .f32⟩
  | 18 => ⟨S8192x512, .f32⟩
  | 19 => ⟨S8192x512, .f32⟩
  | 20 => ⟨S_, .f32⟩
  | 21 => ⟨S512, .f32⟩
  | 22 => ⟨S1x512, .f32⟩
  | 23 => ⟨S8192x512, .f32⟩
  | 24 => ⟨S8192x512, .f32⟩
  | 25 => ⟨S_, .f32⟩
  | 26 => ⟨S512, .f32⟩
  | 27 => ⟨S8192x4x128, .f32⟩
  | 28 => ⟨S4x128x8192, .f32⟩
  | 29 => ⟨S4x8192x128, .f32⟩
  | 30 => ⟨S8192x4x128, .f32⟩
  | 31 => ⟨S4x128x128, .f32⟩
  | 32 => ⟨S4x128x128, .f32⟩
  | 33 => ⟨S8192x1x128, .f32⟩
  | 34 => ⟨S8192x128, .f32⟩
  | 35 => ⟨S8192x1x128, .f32⟩
  | 36 => ⟨S8192x128, .f32⟩
  | 37 => ⟨S8192x1x128, .f32⟩
  | 38 => ⟨S8192x128, .f32⟩
  | 39 => ⟨S8192x1x128, .f32⟩
  | 40 => ⟨S8192x128, .f32⟩
  | 41 => ⟨S8192x128, .f32⟩
  | 42 => ⟨S_, .f32⟩
  | 43 => ⟨S8192x512, .f32⟩
  | 44 => ⟨S8192x128, .f32⟩
  | 45 => ⟨S8192x128, .f32⟩
  | 46 => ⟨S8192x128, .f32⟩
  | 47 => ⟨S_, .f32⟩
  | 48 => ⟨S8208x128, .f32⟩
  | 49 => ⟨S_, .f32⟩
  | 50 => ⟨S8208x128, .f32⟩
  | 51 => ⟨S8208x128, .f32⟩
  | 52 => ⟨S15x128, .f32⟩
  | 53 => ⟨S8193x128, .f32⟩
  | 54 => ⟨S_, .f32⟩
  | 55 => ⟨S8193x512, .f32⟩
  | 56 => ⟨S8192x128, .f32⟩
  | 57 => ⟨S_, .f32⟩
  | 58 => ⟨S8192x512, .f32⟩
  | 59 => ⟨S8192x512, .f32⟩
  | 60 => ⟨S8192x128, .f32⟩
  | 61 => ⟨S8192x128, .f32⟩
  | 62 => ⟨S8192x128, .f32⟩
  | 63 => ⟨S_, .f32⟩
  | 64 => ⟨S8200x128, .f32⟩
  | 65 => ⟨S_, .f32⟩
  | 66 => ⟨S8200x128, .f32⟩
  | 67 => ⟨S8200x128, .f32⟩
  | 68 => ⟨S7x128, .f32⟩
  | 69 => ⟨S8193x128, .f32⟩
  | 70 => ⟨S_, .f32⟩
  | 71 => ⟨S8193x512, .f32⟩
  | 72 => ⟨S8193x512, .f32⟩
  | 73 => ⟨S8192x128, .f32⟩
  | 74 => ⟨S_, .f32⟩
  | 75 => ⟨S8192x512, .f32⟩
  | 76 => ⟨S8192x512, .f32⟩
  | 77 => ⟨S8192x128, .f32⟩
  | 78 => ⟨S8192x128, .f32⟩
  | 79 => ⟨S8192x128, .f32⟩
  | 80 => ⟨S_, .f32⟩
  | 81 => ⟨S8196x128, .f32⟩
  | 82 => ⟨S_, .f32⟩
  | 83 => ⟨S8196x128, .f32⟩
  | 84 => ⟨S8196x128, .f32⟩
  | 85 => ⟨S3x128, .f32⟩
  | 86 => ⟨S8193x128, .f32⟩
  | 87 => ⟨S_, .f32⟩
  | 88 => ⟨S8193x512, .f32⟩
  | 89 => ⟨S8193x512, .f32⟩
  | 90 => ⟨S8192x128, .f32⟩
  | 91 => ⟨S_, .f32⟩
  | 92 => ⟨S8192x512, .f32⟩
  | 93 => ⟨S8192x512, .f32⟩
  | 94 => ⟨S8192x128, .f32⟩
  | 95 => ⟨S8192x128, .f32⟩
  | 96 => ⟨S8192x128, .f32⟩
  | 97 => ⟨S_, .f32⟩
  | 98 => ⟨S8194x128, .f32⟩
  | 99 => ⟨S_, .f32⟩
  | 100 => ⟨S8194x128, .f32⟩
  | 101 => ⟨S8194x128, .f32⟩
  | 102 => ⟨S1x128, .f32⟩
  | 103 => ⟨S8193x128, .f32⟩
  | 104 => ⟨S_, .f32⟩
  | 105 => ⟨S8193x512, .f32⟩
  | 106 => ⟨S8193x512, .f32⟩
  | 107 => ⟨S1x512, .f32⟩
  | 108 => ⟨S8192x512, .f32⟩
  | 109 => ⟨S_, .f32⟩
  | 110 => ⟨S_, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S_, .f32⟩
  | 119 => ⟨S512, .f32⟩
  | 120 => ⟨S1x512, .f32⟩
  | 121 => ⟨S_, .f32⟩
  | 122 => ⟨S512, .f32⟩
  | 123 => ⟨S_, .f32⟩
  | 124 => ⟨S8194x512, .f32⟩
  | 125 => ⟨S1x512, .f32⟩
  | 126 => ⟨S_, .f32⟩
  | 127 => ⟨S3x512, .f32⟩
  | _ => ⟨S8192x5120, .bf16⟩

abbrev hbmTy0_2 (i : Nat) : BufTy := match i % 128 with
  | 0 => ⟨S8192x512, .f32⟩
  | 1 => ⟨S8192x512, .f32⟩
  | 2 => ⟨S8192x512, .f32⟩
  | 3 => ⟨S_, .f32⟩
  | 4 => ⟨S512, .f32⟩
  | 5 => ⟨S1x512, .f32⟩
  | 6 => ⟨S_, .f32⟩
  | 7 => ⟨S512, .f32⟩
  | 8 => ⟨S_, .f32⟩
  | 9 => ⟨S8194x512, .f32⟩
  | 10 => ⟨S8194x512, .f32⟩
  | 11 => ⟨S1x512, .f32⟩
  | 12 => ⟨S_, .f32⟩
  | 13 => ⟨S3x512, .f32⟩
  | 14 => ⟨S3x512, .f32⟩
  | 15 => ⟨S8192x512, .f32⟩
  | 16 => ⟨S8192x512, .f32⟩
  | 17 => ⟨S8192x512, .f32⟩
  | 18 => ⟨S_, .f32⟩
  | 19 => ⟨S512, .f32⟩
  | 20 => ⟨S1x512, .f32⟩
  | 21 => ⟨S_, .f32⟩
  | 22 => ⟨S512, .f32⟩
  | 23 => ⟨S_, .f32⟩
  | 24 => ⟨S8194x512, .f32⟩
  | 25 => ⟨S8194x512, .f32⟩
  | 26 => ⟨S1x512, .f32⟩
  | 27 => ⟨S_, .f32⟩
  | 28 => ⟨S3x512, .f32⟩
  | 29 => ⟨S3x512, .f32⟩
  | 30 => ⟨S2x512, .f32⟩
  | 31 => ⟨S8192x512, .f32⟩
  | 32 => ⟨S8192x512, .f32⟩
  | 33 => ⟨S8192x512, .f32⟩
  | 34 => ⟨S8192x2048, .f32⟩
  | 35 => ⟨S8192x2048, .bf16⟩
  | 36 => ⟨S1x512, .f32⟩
  | _ => ⟨S8192x5120, .bf16⟩

abbrev hbmTy (i : Nat) : BufTy := match i / 128 with
  | 0 => hbmTy0_0 i
  | 1 => hbmTy0_1 i
  | 2 => hbmTy0_2 i
  | _ => ⟨S8192x5120, .bf16⟩

abbrev bufTy : (tb : Table) → Fin (tcTables nBuf tb) → BufTy
  | .hbm, ⟨i, _⟩ => hbmTy i
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_call0_cst : Ref sig .tc := ⟨.hbm, 39, rfl⟩
abbrev main_call0_call0_v0 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_8 : Ref sig .tc := ⟨.hbm, 78, rfl⟩
abbrev main_v61 : Ref sig .tc := ⟨.hbm, 79, rfl⟩
abbrev main_v62 : Ref sig .tc := ⟨.hbm, 80, rfl⟩
abbrev main_c_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_10 : Ref sig .tc := ⟨.hbm, 91, rfl⟩
abbrev main_v72 : Ref sig .tc := ⟨.hbm, 92, rfl⟩
abbrev main_v73 : Ref sig .tc := ⟨.hbm, 93, rfl⟩
abbrev main_cst_11 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_12 : Ref sig .tc := ⟨.hbm, 99, rfl⟩
abbrev main_v78 : Ref sig .tc := ⟨.hbm, 100, rfl⟩
abbrev main_v79 : Ref sig .tc := ⟨.hbm, 101, rfl⟩
abbrev main_c_13 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_14 : Ref sig .tc := ⟨.hbm, 112, rfl⟩
abbrev main_v89 : Ref sig .tc := ⟨.hbm, 113, rfl⟩
abbrev main_v90 : Ref sig .tc := ⟨.hbm, 114, rfl⟩
abbrev main_cst_15 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_c_16 : Ref sig .tc := ⟨.hbm, 120, rfl⟩
abbrev main_v95 : Ref sig .tc := ⟨.hbm, 121, rfl⟩
abbrev main_v96 : Ref sig .tc := ⟨.hbm, 122, rfl⟩
abbrev main_c_17 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_18 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_19 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_cst_20 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_cst_21 : Ref sig .tc := ⟨.hbm, 175, rfl⟩
abbrev main_v145 : Ref sig .tc := ⟨.hbm, 176, rfl⟩
abbrev main_cst_22 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_cst_23 : Ref sig .tc := ⟨.hbm, 182, rfl⟩
abbrev main_v150 : Ref sig .tc := ⟨.hbm, 183, rfl⟩
abbrev main_v151 : Ref sig .tc := ⟨.hbm, 184, rfl⟩
abbrev main_cst_24 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_cst_25 : Ref sig .tc := ⟨.hbm, 191, rfl⟩
abbrev main_v157 : Ref sig .tc := ⟨.hbm, 192, rfl⟩
abbrev main_cst_26 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_cst_27 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_28 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_cst_29 : Ref sig .tc := ⟨.hbm, 208, rfl⟩
abbrev main_v170 : Ref sig .tc := ⟨.hbm, 209, rfl⟩
abbrev main_cst_30 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_cst_31 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_cst_32 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_cst_33 : Ref sig .tc := ⟨.hbm, 225, rfl⟩
abbrev main_v183 : Ref sig .tc := ⟨.hbm, 226, rfl⟩
abbrev main_cst_34 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_cst_35 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_call1_call0_cst : Ref sig .tc := ⟨.hbm, 237, rfl⟩
abbrev main_call1_call0_v0 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_cst_36 : Ref sig .tc := ⟨.hbm, 246, rfl⟩
abbrev main_v199 : Ref sig .tc := ⟨.hbm, 247, rfl⟩
abbrev main_v200 : Ref sig .tc := ⟨.hbm, 248, rfl⟩
abbrev main_cst_37 : Ref sig .tc := ⟨.hbm, 249, rfl⟩
abbrev main_v201 : Ref sig .tc := ⟨.hbm, 250, rfl⟩
abbrev main_cst_38 : Ref sig .tc := ⟨.hbm, 251, rfl⟩
abbrev main_v202 : Ref sig .tc := ⟨.hbm, 252, rfl⟩
abbrev main_v203 : Ref sig .tc := ⟨.hbm, 253, rfl⟩
abbrev main_cst_39 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_cst_40 : Ref sig .tc := ⟨.hbm, 259, rfl⟩
abbrev main_v208 : Ref sig .tc := ⟨.hbm, 260, rfl⟩
abbrev main_v209 : Ref sig .tc := ⟨.hbm, 261, rfl⟩
abbrev main_cst_41 : Ref sig .tc := ⟨.hbm, 262, rfl⟩
abbrev main_v210 : Ref sig .tc := ⟨.hbm, 263, rfl⟩
abbrev main_cst_42 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_cst_43 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_cst_44 : Ref sig .tc := ⟨.hbm, 274, rfl⟩
abbrev main_v219 : Ref sig .tc := ⟨.hbm, 275, rfl⟩
abbrev main_v220 : Ref sig .tc := ⟨.hbm, 276, rfl⟩
abbrev main_cst_45 : Ref sig .tc := ⟨.hbm, 277, rfl⟩
abbrev main_v221 : Ref sig .tc := ⟨.hbm, 278, rfl⟩
abbrev main_cst_46 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_cst_47 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩

abbrev nD : Nat := 1
abbrev τ : Topo := Topo.v7x

variable {F : FTy → Type} [FloatOps F]
-- ==== Kernel2.lean ====
abbrev S8192x2048 : Shape := ⟨2, ![8192, 2048]⟩
abbrev S8x2048x704 : Shape := ⟨3, ![8, 2048, 704]⟩
abbrev S8x704x2048 : Shape := ⟨3, ![8, 704, 2048]⟩
abbrev S8x8192x704 : Shape := ⟨3, ![8, 8192, 704]⟩
abbrev S1024x2048 : Shape := ⟨2, ![1024, 2048]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩
abbrev S1x704x2048 : Shape := ⟨3, ![1, 704, 2048]⟩
abbrev S704x2048 : Shape := ⟨2, ![704, 2048]⟩
abbrev S256x2048 : Shape := ⟨2, ![256, 2048]⟩
abbrev S256x704 : Shape := ⟨2, ![256, 704]⟩
abbrev S1x256x704 : Shape := ⟨3, ![1, 256, 704]⟩

abbrev nBuf : Space → Nat
  | .hbm => 10
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S8x2048x704, .bf16⟩
  | .hbm, ⟨2, _⟩ => ⟨S8x2048x704, .bf16⟩
  | .hbm, ⟨3, _⟩ => ⟨S8x704x2048, .bf16⟩
  | .hbm, ⟨4, _⟩ => ⟨S8192x2048, .bf16⟩
  | .hbm, ⟨5, _⟩ => ⟨S8x8192x704, .bf16⟩
  | .hbm, ⟨6, _⟩ => ⟨S8x8192x704, .bf16⟩
  | .hbm, ⟨7, _⟩ => ⟨S8x8192x704, .bf16⟩
  | .hbm, ⟨8, _⟩ => ⟨S8x8192x704, .bf16⟩
  | .hbm, ⟨9, _⟩ => ⟨S8x8192x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x2048, .bf16⟩
  | .local _ .vmem, ⟨13, _⟩ => ⟨S1024x2048, .bf16⟩
  | .local _ .vmem, ⟨14, _⟩ => ⟨S1x704x2048, .bf16⟩
  | .local _ .vmem, ⟨15, _⟩ => ⟨S1x704x2048, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x704x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Reference2Ideal.lean ====
abbrev S8192x2048 : Shape := ⟨2, ![8192, 2048]⟩
abbrev S8x2048x704 : Shape := ⟨3, ![8, 2048, 704]⟩
abbrev S8x704x2048 : Shape := ⟨3, ![8, 704, 2048]⟩
abbrev S5632x2048 : Shape := ⟨2, ![5632, 2048]⟩
abbrev S2048x8x704 : Shape := ⟨3, ![2048, 8, 704]⟩
abbrev S2048x5632 : Shape := ⟨2, ![2048, 5632]⟩
abbrev S8192x5632 : Shape := ⟨2, ![8192, 5632]⟩
abbrev S_ : Shape := ⟨0, ![]⟩
abbrev S8192x8x704 : Shape := ⟨3, ![8192, 8, 704]⟩
abbrev S8x8192x704 : Shape := ⟨3, ![8, 8192, 704]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x704, .bf16⟩
  | .hbm, ⟨2, _⟩ => ⟨S8x2048x704, .bf16⟩
  | .hbm, ⟨3, _⟩ => ⟨S8x704x2048, .bf16⟩
  | .hbm, ⟨4, _⟩ => ⟨S8192x2048, .bf16⟩
  | .hbm, ⟨5, _⟩ => ⟨S8192x2048, .f32⟩
  | .hbm, ⟨6, _⟩ => ⟨S8x2048x704, .f32⟩
  | .hbm, ⟨7, _⟩ => ⟨S8x2048x704, .f32⟩
  | .hbm, ⟨8, _⟩ => ⟨S8x704x2048, .f32⟩
  | .hbm, ⟨9, _⟩ => ⟨S8192x2048, .f32⟩
  | .hbm, ⟨10, _⟩ => ⟨S5632x2048, .f32⟩
  | .hbm, ⟨11, _⟩ => ⟨S2048x8x704, .f32⟩
  | .hbm, ⟨12, _⟩ => ⟨S2048x5632, .f32⟩
  | .hbm, ⟨13, _⟩ => ⟨S8192x5632, .f32⟩
  | .hbm, ⟨14, _⟩ => ⟨S2048x8x704, .f32⟩
  | .hbm, ⟨15, _⟩ => ⟨S2048x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S_, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S8192x5632, .f32⟩
  | .hbm, ⟨47, _⟩ => ⟨S_, .f32⟩
  | .hbm, ⟨48, _⟩ => ⟨S8192x5632, .f32⟩
  | .hbm, ⟨49, _⟩ => ⟨S8192x5632, .f32⟩
  | .hbm, ⟨50, _⟩ => ⟨S_, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x8x704, .f32⟩
  | .hbm, ⟨56, _⟩ => ⟨S8x8192x704, .f32⟩
  | .hbm, ⟨57, _⟩ => ⟨S8x8192x704, .bf16⟩
  | .hbm, ⟨58, _⟩ => ⟨S8192x8x704, .f32⟩
  | .hbm, ⟨59, _⟩ => ⟨S8x8192x704, .f32⟩
  | .hbm, ⟨60, _⟩ => ⟨S8x8192x704, .bf16⟩
  | .hbm, ⟨61, _⟩ => ⟨S8192x8x704, .f32⟩
  | .hbm, ⟨62, _⟩ => ⟨S8x8192x704, .f32⟩
  | .hbm, ⟨63, _⟩ => ⟨S8x8192x704, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v12_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v12_1 : Ref sig .tc := ⟨.hbm, 28, rfl⟩
abbrev main_v12_0 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩

abbrev nD : Nat := 1
abbrev τ : Topo := Topo.v7x

variable {F : FTy → Type} [FloatOps F]
-- ==== Kernel3.lean ====
abbrev S8x8192x704 : Shape := ⟨3, ![8, 8192, 704]⟩
abbrev S8192x2048 : Shape := ⟨2, ![8192, 2048]⟩
abbrev S8x704x2048 : Shape := ⟨3, ![8, 704, 2048]⟩
abbrev S1x2048x704 : Shape := ⟨3, ![1, 2048, 704]⟩
abbrev S2048x2048 : Shape := ⟨2, ![2048, 2048]⟩
abbrev S1x704x2048 : Shape := ⟨3, ![1, 704, 2048]⟩
abbrev S704x2048 : Shape := ⟨2, ![704, 2048]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x8192x704, .bf16⟩
  | .hbm, ⟨1, _⟩ => ⟨S8192x2048, .bf16⟩
  | .hbm, ⟨2, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S2048x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8x8192x704 : Shape := ⟨3, ![8, 8192, 704]⟩
abbrev S8192x2048 : Shape := ⟨2, ![8192, 2048]⟩
abbrev S8192x8x704 : Shape := ⟨3, ![8192, 8, 704]⟩
abbrev S8192x5632 : Shape := ⟨2, ![8192, 5632]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8192x2048, .bf16⟩
  | .hbm, ⟨2, _⟩ => ⟨S8x8192x704, .f32⟩
  | .hbm, ⟨3, _⟩ => ⟨S8192x8x704, .f32⟩
  | .hbm, ⟨4, _⟩ => ⟨S8192x5632, .f32⟩
  | .hbm, ⟨5, _⟩ => ⟨S8192x2048, .f32⟩
  | .hbm, ⟨6, _⟩ => ⟨S_, .f32⟩
  | .hbm, ⟨7, _⟩ => ⟨S5632x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S2048x5632, .f32⟩
  | .hbm, ⟨16, _⟩ => ⟨S5632x2048, .f32⟩
  | .hbm, ⟨17, _⟩ => ⟨S8x704x2048, .f32⟩
  | .hbm, ⟨18, _⟩ => ⟨S8x704x2048, .bf16⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel4.lean ====
abbrev S8192x2048 : Shape := ⟨2, ![8192, 2048]⟩
abbrev S8x8192x704 : Shape := ⟨3, ![8, 8192, 704]⟩
abbrev S2048x8192 : Shape := ⟨2, ![2048, 8192]⟩
abbrev S8x2048x704 : Shape := ⟨3, ![8, 2048, 704]⟩
abbrev S2048x2048 : Shape := ⟨2, ![2048, 2048]⟩
abbrev S1x2048x704 : Shape := ⟨3, ![1, 2048, 704]⟩
abbrev S2048x704 : Shape := ⟨2, ![2048, 704]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8x8192x704, .bf16⟩
  | .hbm, ⟨2, _⟩ => ⟨S2048x8192, .bf16⟩
  | .hbm, ⟨3, _⟩ => ⟨S8x2048x704, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S2048x704, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2048 : Shape := ⟨2, ![8192, 2048]⟩
abbrev S8x8192x704 : Shape := ⟨3, ![8, 8192, 704]⟩
abbrev S8192x8x704 : Shape := ⟨3, ![8192, 8, 704]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x8192x704, .bf16⟩
  | .hbm, ⟨2, _⟩ => ⟨S8192x2048, .f32⟩
  | .hbm, ⟨3, _⟩ => ⟨S8x8192x704, .f32⟩
  | .hbm, ⟨4, _⟩ => ⟨S8192x8x704, .f32⟩
  | .hbm, ⟨5, _⟩ => ⟨S8192x5632, .f32⟩
  | .hbm, ⟨6, _⟩ => ⟨S_, .f32⟩
  | .hbm, ⟨7, _⟩ => ⟨S2048x5632, .f32⟩
  | .hbm, ⟨8, _⟩ => ⟨S8192x5632, .f32⟩
  | .hbm, ⟨9, _⟩ => ⟨S5632x2048, .f32⟩
  | .hbm, ⟨10, _⟩ => ⟨S2048x5632, .f32⟩
  | .hbm, ⟨11, _⟩ => ⟨S2048x8x704, .f32⟩
  | .hbm, ⟨12, _⟩ => ⟨S8x2048x704, .f32⟩
  | .hbm, ⟨13, _⟩ => ⟨S8x2048x704, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S8x8192x704 : Shape := ⟨3, ![8, 8192, 704]⟩
abbrev S8x2048x704 : Shape := ⟨3, ![8, 2048, 704]⟩
abbrev S8192x2048 : Shape := ⟨2, ![8192, 2048]⟩
abbrev S2x512x704 : Shape := ⟨3, ![2, 512, 704]⟩
abbrev S2x2048x704 : Shape := ⟨3, ![2, 2048, 704]⟩
abbrev S512x2048 : Shape := ⟨2, ![512, 2048]⟩
abbrev S1x512x704 : Shape := ⟨3, ![1, 512, 704]⟩
abbrev S512x704 : Shape := ⟨2, ![512, 704]⟩
abbrev S1x2048x704 : Shape := ⟨3, ![1, 2048, 704]⟩
abbrev S2048x704 : Shape := ⟨2, ![2048, 704]⟩

abbrev nBuf : Space → Nat
  | .hbm => 5
  | .vmem => 11
  | .smem => 0
  | _ => 0

abbrev bufTy : (tb : Table) → Fin (tcTables nBuf tb) → BufTy
  | .hbm, ⟨0, _⟩ => ⟨S8x8192x704, .bf16⟩
  | .hbm, ⟨1, _⟩ => ⟨S8x8192x704, .bf16⟩
  | .hbm, ⟨2, _⟩ => ⟨S8x2048x704, .bf16⟩
  | .hbm, ⟨3, _⟩ => ⟨S8x2048x704, .bf16⟩
  | .hbm, ⟨4, _⟩ => ⟨S8192x2048, .bf16⟩
  | .local _ .vmem, ⟨0, _⟩ => ⟨S2x512x704, .bf16⟩
  | .local _ .vmem, ⟨1, _⟩ => ⟨S2x512x704, .bf16⟩
  | .local _ .vmem, ⟨2, _⟩ => ⟨S2x512x704, .bf16⟩
  | .local _ .vmem, ⟨3, _⟩ => ⟨S2x512x704, .bf16⟩
  | .local _ .vmem, ⟨4, _⟩ => ⟨S2x2048x704, .bf16⟩
  | .local _ .vmem, ⟨5, _⟩ => ⟨S2x2048x704, .bf16⟩
  | .local _ .vmem, ⟨6, _⟩ => ⟨S2x2048x704, .bf16⟩
  | .local _ .vmem, ⟨7, _⟩ => ⟨S2x2048x704, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32_28 : BitVec 32 := 3#32
  let v31 : BitVec 1 := Scalar.cmpi .eq arg1 c3_i32_28
  let v32 : BitVec 32 := Scalar.extui v31
  let c0_i32_29 : BitVec 32 := 0#32
  let v33 : BitVec 1 := Scalar.cmpi .ne v32 c0_i32_29
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S8x8192x704 : Shape := ⟨3, ![8, 8192, 704]⟩
abbrev S8x2048x704 : Shape := ⟨3, ![8, 2048, 704]⟩
abbrev S8192x8x704 : Shape := ⟨3, ![8192, 8, 704]⟩
abbrev S8192x5632 : Shape := ⟨2, ![8192, 5632]⟩
abbrev S2048x8x704 : Shape := ⟨3, ![2048, 8, 704]⟩
abbrev S2048x5632 : Shape := ⟨2, ![2048, 5632]⟩
abbrev S_ : Shape := ⟨0, ![]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x8192x704, .bf16⟩
  | .hbm, ⟨2, _⟩ => ⟨S8x2048x704, .bf16⟩
  | .hbm, ⟨3, _⟩ => ⟨S8x2048x704, .bf16⟩
  | .hbm, ⟨4, _⟩ => ⟨S8x8192x704, .f32⟩
  | .hbm, ⟨5, _⟩ => ⟨S8192x8x704, .f32⟩
  | .hbm, ⟨6, _⟩ => ⟨S8192x5632, .f32⟩
  | .hbm, ⟨7, _⟩ => ⟨S8x8192x704, .f32⟩
  | .hbm, ⟨8, _⟩ => ⟨S8192x8x704, .f32⟩
  | .hbm, ⟨9, _⟩ => ⟨S8192x5632, .f32⟩
  | .hbm, ⟨10, _⟩ => ⟨S8x2048x704, .f32⟩
  | .hbm, ⟨11, _⟩ => ⟨S2048x8x704, .f32⟩
  | .hbm, ⟨12, _⟩ => ⟨S2048x5632, .f32⟩
  | .hbm, ⟨13, _⟩ => ⟨S8x2048x704, .f32⟩
  | .hbm, ⟨14, _⟩ => ⟨S2048x8x704, .f32⟩
  | .hbm, ⟨15, _⟩ => ⟨S2048x5632, .f32⟩
  | .hbm, ⟨16, _⟩ => ⟨S_, .f32⟩
  | .hbm, ⟨17, _⟩ => ⟨S8192x2048, .f32⟩
  | .hbm, ⟨18, _⟩ => ⟨S8192x5632, .f32⟩
  | .hbm, ⟨19, _⟩ => ⟨S8192x5632, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel6.lean ====
abbrev S8192x2048 : Shape := ⟨2, ![8192, 2048]⟩
abbrev S8192x5120 : Shape := ⟨2, ![8192, 5120]⟩
abbrev S2048x8192 : Shape := ⟨2, ![2048, 8192]⟩
abbrev S8x2048x640 : Shape := ⟨3, ![8, 2048, 640]⟩
abbrev S2048x1024 : Shape := ⟨2, ![2048, 1024]⟩
abbrev S1024x1280 : Shape := ⟨2, ![1024, 1280]⟩
abbrev S2x2048x640 : Shape := ⟨3, ![2, 2048, 640]⟩
abbrev S2048x1280 : Shape := ⟨2, ![2048, 1280]⟩
abbrev S2048x640 : Shape := ⟨2, ![2048, 640]⟩
abbrev S1x2048x640 : Shape := ⟨3, ![1, 2048, 640]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S2048x8192, .bf16⟩
  | .hbm, ⟨3, _⟩ => ⟨S8x2048x640, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1280, .bf16⟩
  | .local _ .vmem, ⟨3, _⟩ => ⟨S1024x1280, .bf16⟩
  | .local _ .vmem, ⟨4, _⟩ => ⟨S2x2048x640, .bf16⟩
  | .local _ .vmem, ⟨5, _⟩ => ⟨S2x2048x640, .bf16⟩
  | .local _ .vmem, ⟨6, _⟩ => ⟨S2048x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8192x2048 : Shape := ⟨2, ![8192, 2048]⟩
abbrev S8192x5120 : Shape := ⟨2, ![8192, 5120]⟩
abbrev S_ : Shape := ⟨0, ![]⟩
abbrev S2048x5120 : Shape := ⟨2, ![2048, 5120]⟩
abbrev S5120x2048 : Shape := ⟨2, ![5120, 2048]⟩
abbrev S2048x8x640 : Shape := ⟨3, ![2048, 8, 640]⟩
abbrev S8x2048x640 : Shape := ⟨3, ![8, 2048, 640]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S8192x2048, .f32⟩
  | .hbm, ⟨3, _⟩ => ⟨S8192x5120, .f32⟩
  | .hbm, ⟨4, _⟩ => ⟨S_, .f32⟩
  | .hbm, ⟨5, _⟩ => ⟨S2048x5120, .f32⟩
  | .hbm, ⟨6, _⟩ => ⟨S8192x5120, .f32⟩
  | .hbm, ⟨7, _⟩ => ⟨S5120x2048, .f32⟩
  | .hbm, ⟨8, _⟩ => ⟨S2048x5120, .f32⟩
  | .hbm, ⟨9, _⟩ => ⟨S2048x8x640, .f32⟩
  | .hbm, ⟨10, _⟩ => ⟨S8x2048x640, .f32⟩
  | .hbm, ⟨11, _⟩ => ⟨S8x2048x640, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8192x5120 : Shape := ⟨2, ![8192, 5120]⟩
abbrev S8x2048x640 : Shape := ⟨3, ![8, 2048, 640]⟩
abbrev S8192x2048 : Shape := ⟨2, ![8192, 2048]⟩
abbrev S256x5120 : Shape := ⟨2, ![256, 5120]⟩
abbrev S256x2048 : Shape := ⟨2, ![256, 2048]⟩
abbrev S256x640 : Shape := ⟨2, ![256, 640]⟩
abbrev S1x2048x640 : Shape := ⟨3, ![1, 2048, 640]⟩
abbrev S2048x640 : Shape := ⟨2, ![2048, 640]⟩

abbrev nBuf : Space → Nat
  | .hbm => 3
  | .vmem => 5
  | .smem => 0
  | _ => 0

abbrev bufTy : (tb : Table) → Fin (tcTables nBuf tb) → BufTy
  | .hbm, ⟨0, _⟩ => ⟨S8192x5120, .bf16⟩
  | .hbm, ⟨1, _⟩ => ⟨S8x2048x640, .bf16⟩
  | .hbm, ⟨2, _⟩ => ⟨S8192x2048, .bf16⟩
  | .local _ .vmem, ⟨0, _⟩ => ⟨S256x5120, .bf16⟩
  | .local _ .vmem, ⟨1, _⟩ => ⟨S256x5120, .bf16⟩
  | .local _ .vmem, ⟨2, _⟩ => ⟨S8x2048x640, .bf16⟩
  | .local _ .vmem, ⟨3, _⟩ => ⟨S256x2048, .bf16⟩
  | .local _ .vmem, ⟨4, _⟩ => ⟨S256x2048, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x2048x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x5120 : Shape := ⟨2, ![8192, 5120]⟩
abbrev S8x2048x640 : Shape := ⟨3, ![8, 2048, 640]⟩
abbrev S2048x8x640 : Shape := ⟨3, ![2048, 8, 640]⟩
abbrev S2048x5120 : Shape := ⟨2, ![2048, 5120]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S8x2048x640, .bf16⟩
  | .hbm, ⟨2, _⟩ => ⟨S8192x5120, .f32⟩
  | .hbm, ⟨3, _⟩ => ⟨S8x2048x640, .f32⟩
  | .hbm, ⟨4, _⟩ => ⟨S2048x8x640, .f32⟩
  | .hbm, ⟨5, _⟩ => ⟨S2048x5120, .f32⟩
  | .hbm, ⟨6, _⟩ => ⟨S_, .f32⟩
  | .hbm, ⟨7, _⟩ => ⟨S8192x2048, .f32⟩
  | .hbm, ⟨8, _⟩ => ⟨S8192x5120, .f32⟩
  | .hbm, ⟨9, _⟩ => ⟨S8192x2048, .f32⟩
  | .hbm, ⟨10, _⟩ => ⟨S8192x2048, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S8192x1024 : Shape := ⟨2, ![8192, 1024]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x1024, .bf16⟩
  | .hbm, ⟨3, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8192x2048 : Shape := ⟨2, ![8192, 2048]⟩
abbrev S2048x2048 : Shape := ⟨2, ![2048, 2048]⟩
abbrev S_ : Shape := ⟨0, ![]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel9.lean ====
abbrev S8192x1024 : Shape := ⟨2, ![8192, 1024]⟩
abbrev S8192x2048 : Shape := ⟨2, ![8192, 2048]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference9Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1x1024x2048 : Shape := ⟨3, ![1, 1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1x1024x2048, .f32⟩
  | .hbm, ⟨10, _⟩ => ⟨S1x1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8x8192x704 : Shape := ⟨3, ![8, 8192, 704]⟩
abbrev S8x704x2048 : Shape := ⟨3, ![8, 704, 2048]⟩
abbrev S8192x2048 : Shape := ⟨2, ![8192, 2048]⟩
abbrev S1x2048 : Shape := ⟨2, ![1, 2048]⟩
abbrev S2048x8192 : Shape := ⟨2, ![2048, 8192]⟩
abbrev S8x256x704 : Shape := ⟨3, ![8, 256, 704]⟩
abbrev S256x2048 : Shape := ⟨2, ![256, 2048]⟩
abbrev S2048x256 : Shape := ⟨2, ![2048, 256]⟩
abbrev S1x256x704 : Shape := ⟨3, ![1, 256, 704]⟩
abbrev S256x704 : Shape := ⟨2, ![256, 704]⟩
abbrev S1x704x2048 : Shape := ⟨3, ![1, 704, 2048]⟩
abbrev S704x2048 : Shape := ⟨2, ![704, 2048]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8x8192x704, .bf16⟩
  | .hbm, ⟨1, _⟩ => ⟨S8x704x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S2048x8192, .bf16⟩
  | .local _ .vmem, ⟨0, _⟩ => ⟨S8x256x704, .bf16⟩
  | .local _ .vmem, ⟨1, _⟩ => ⟨S8x256x704, .bf16⟩
  | .local _ .vmem, ⟨2, _⟩ => ⟨S8x704x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S2048x256, .bf16⟩
  | .local _ .vmem, ⟨11, _⟩ => ⟨S2048x256, .bf16⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x704x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S8x8192x704 : Shape := ⟨3, ![8, 8192, 704]⟩
abbrev S8x704x2048 : Shape := ⟨3, ![8, 704, 2048]⟩
abbrev S8192x2048 : Shape := ⟨2, ![8192, 2048]⟩
abbrev S1x2048 : Shape := ⟨2, ![1, 2048]⟩
abbrev S5632x2048 : Shape := ⟨2, ![5632, 2048]⟩
abbrev S8192x8x704 : Shape := ⟨3, ![8192, 8, 704]⟩
abbrev S8192x5632 : Shape := ⟨2, ![8192, 5632]⟩
abbrev S_ : Shape := ⟨0, ![]⟩
abbrev S2048 : Shape := ⟨1, ![2048]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x704x2048, .bf16⟩
  | .hbm, ⟨2, _⟩ => ⟨S8192x2048, .f32⟩
  | .hbm, ⟨3, _⟩ => ⟨S1x2048, .f32⟩
  | .hbm, ⟨4, _⟩ => ⟨S8x704x2048, .f32⟩
  | .hbm, ⟨5, _⟩ => ⟨S5632x2048, .f32⟩
  | .hbm, ⟨6, _⟩ => ⟨S8x8192x704, .f32⟩
  | .hbm, ⟨7, _⟩ => ⟨S8192x8x704, .f32⟩
  | .hbm, ⟨8, _⟩ => ⟨S8192x5632, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | .hbm, ⟨32, _⟩ => ⟨S2048x8192, .bf16⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel11.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩
abbrev S2048x8192 : Shape := ⟨2, ![2048, 8192]⟩
abbrev S256x1024 : Shape := ⟨2, ![256, 1024]⟩
abbrev S256x2048 : Shape := ⟨2, ![256, 2048]⟩
abbrev S2048x256 : Shape := ⟨2, ![2048, 256]⟩
abbrev S1024x2048 : Shape := ⟨2, ![1024, 2048]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S2048x8192, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S2048x256, .bf16⟩
  | .local _ .vmem, ⟨13, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S1x2048, .f32⟩
  | .hbm, ⟨5, _⟩ => ⟨S8192x1024, .f32⟩
  | .hbm, ⟨6, _⟩ => ⟨S8192x1024, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | .hbm, ⟨29, _⟩ => ⟨S2048x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel12.lean ====
abbrev S8192x2048 : Shape := ⟨2, ![8192, 2048]⟩
abbrev S8x2048x640 : Shape := ⟨3, ![8, 2048, 640]⟩
abbrev S8192x5120 : Shape := ⟨2, ![8192, 5120]⟩
abbrev S1024x2048 : Shape := ⟨2, ![1024, 2048]⟩
abbrev S2x2048x640 : Shape := ⟨3, ![2, 2048, 640]⟩
abbrev S1024x1280 : Shape := ⟨2, ![1024, 1280]⟩
abbrev S1x2048x640 : Shape := ⟨3, ![1, 2048, 640]⟩
abbrev S2048x640 : Shape := ⟨2, ![2048, 640]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x2048x640, .bf16⟩
  | .hbm, ⟨2, _⟩ => ⟨S8192x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2x2048x640, .bf16⟩
  | .local _ .vmem, ⟨3, _⟩ => ⟨S2x2048x640, .bf16⟩
  | .local _ .vmem, ⟨4, _⟩ => ⟨S1024x1280, .bf16⟩
  | .local _ .vmem, ⟨5, _⟩ => ⟨S1024x1280, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x2048 : Shape := ⟨2, ![8192, 2048]⟩
abbrev S8x2048x640 : Shape := ⟨3, ![8, 2048, 640]⟩
abbrev S2048x8x640 : Shape := ⟨3, ![2048, 8, 640]⟩
abbrev S2048x5120 : Shape := ⟨2, ![2048, 5120]⟩
abbrev S8192x5120 : Shape := ⟨2, ![8192, 5120]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x640, .bf16⟩
  | .hbm, ⟨2, _⟩ => ⟨S8192x2048, .f32⟩
  | .hbm, ⟨3, _⟩ => ⟨S8x2048x640, .f32⟩
  | .hbm, ⟨4, _⟩ => ⟨S2048x8x640, .f32⟩
  | .hbm, ⟨5, _⟩ => ⟨S2048x5120, .f32⟩
  | .hbm, ⟨6, _⟩ => ⟨S8192x5120, .f32⟩
  | .hbm, ⟨7, _⟩ => ⟨S8192x5120, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel13.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .bf16⟩
  | .hbm, ⟨54, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel14.lean ====
abbrev S8x8192x704 : Shape := ⟨3, ![8, 8192, 704]⟩
abbrev S8x704x2048 : Shape := ⟨3, ![8, 704, 2048]⟩
abbrev S8192x2048 : Shape := ⟨2, ![8192, 2048]⟩
abbrev S8x256x704 : Shape := ⟨3, ![8, 256, 704]⟩
abbrev S256x2048 : Shape := ⟨2, ![256, 2048]⟩
abbrev S1x256x704 : Shape := ⟨3, ![1, 256, 704]⟩
abbrev S256x704 : Shape := ⟨2, ![256, 704]⟩
abbrev S1x704x2048 : Shape := ⟨3, ![1, 704, 2048]⟩
abbrev S704x2048 : Shape := ⟨2, ![704, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8x8192x704, .bf16⟩
  | .hbm, ⟨1, _⟩ => ⟨S8x704x2048, .bf16⟩
  | .hbm, ⟨2, _⟩ => ⟨S8192x2048, .f32⟩
  | .hbm, ⟨3, _⟩ => ⟨S8192x2048, .f32⟩
  | .local _ .vmem, ⟨0, _⟩ => ⟨S8x256x704, .bf16⟩
  | .local _ .vmem, ⟨1, _⟩ => ⟨S8x256x704, .bf16⟩
  | .local _ .vmem, ⟨2, _⟩ => ⟨S8x704x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x704x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8x8192x704 : Shape := ⟨3, ![8, 8192, 704]⟩
abbrev S8x704x2048 : Shape := ⟨3, ![8, 704, 2048]⟩
abbrev S8192x2048 : Shape := ⟨2, ![8192, 2048]⟩
abbrev S8192x8x704 : Shape := ⟨3, ![8192, 8, 704]⟩
abbrev S8192x5632 : Shape := ⟨2, ![8192, 5632]⟩
abbrev S5632x2048 : Shape := ⟨2, ![5632, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x704x2048, .bf16⟩
  | .hbm, ⟨2, _⟩ => ⟨S8192x2048, .f32⟩
  | .hbm, ⟨3, _⟩ => ⟨S8x8192x704, .f32⟩
  | .hbm, ⟨4, _⟩ => ⟨S8192x8x704, .f32⟩
  | .hbm, ⟨5, _⟩ => ⟨S8192x5632, .f32⟩
  | .hbm, ⟨6, _⟩ => ⟨S8x704x2048, .f32⟩
  | .hbm, ⟨7, _⟩ => ⟨S5632x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel15.lean ====
abbrev S8192x2048 : Shape := ⟨2, ![8192, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S1x128, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S1x128, .f32⟩
  | .hbm, ⟨73, _⟩ => ⟨S8192x2048, .bf16⟩
  | .hbm, ⟨74, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel16.lean ====
abbrev S8192x5120 : Shape := ⟨2, ![8192, 5120]⟩
abbrev S3x512 : Shape := ⟨2, ![3, 512]⟩
abbrev S4x128x128 : Shape := ⟨3, ![4, 128, 128]⟩
abbrev S1x512 : Shape := ⟨2, ![1, 512]⟩
abbrev S8192x1024 : Shape := ⟨2, ![8192, 1024]⟩
abbrev S512x512 : Shape := ⟨2, ![512, 512]⟩
abbrev S16x512 : Shape := ⟨2, ![16, 512]⟩
abbrev S512x1024 : Shape := ⟨2, ![512, 1024]⟩
abbrev S528x512 : Shape := ⟨2, ![528, 512]⟩
abbrev S512x1 : Shape := ⟨2, ![512, 1]⟩
abbrev S512x128 : Shape := ⟨2, ![512, 128]⟩
abbrev S16x128 : Shape := ⟨2, ![16, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 19
  | .smem => 0
  | _ => 0

abbrev bufTy : (tb : Table) → Fin (tcTables nBuf tb) → BufTy
  | .hbm, ⟨0, _⟩ => ⟨S8192x5120, .bf16⟩
  | .hbm, ⟨1, _⟩ => ⟨S3x512, .f32⟩
  | .hbm, ⟨2, _⟩ => ⟨S4x128x128, .f32⟩
  | .hbm, ⟨3, _⟩ => ⟨S1x512, .f32⟩
  | .hbm, ⟨4, _⟩ => ⟨S4x128x128, .bf16⟩
  | .hbm, ⟨5, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S3x512, .f32⟩
  | .local _ .vmem, ⟨15, _⟩ => ⟨S4x128x128, .bf16⟩
  | .local _ .vmem, ⟨16, _⟩ => ⟨S1x512, .f32⟩
  | .local _ .vmem, ⟨17, _⟩ => ⟨S512x1024, .bf16⟩
  | .local _ .vmem, ⟨18, _⟩ => ⟨S512x1024, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference16Ideal.lean ====
abbrev S8192x5120 : Shape := ⟨2, ![8192, 5120]⟩
abbrev S3x512 : Shape := ⟨2, ![3, 512]⟩
abbrev S4x128x128 : Shape := ⟨3, ![4, 128, 128]⟩
abbrev S1x512 : Shape := ⟨2, ![1, 512]⟩
abbrev S8192x2048 : Shape := ⟨2, ![8192, 2048]⟩
abbrev S8192x512 : Shape := ⟨2, ![8192, 512]⟩
abbrev S_ : Shape := ⟨0, ![]⟩
abbrev S2x512 : Shape := ⟨2, ![2, 512]⟩
abbrev S8194x512 : Shape := ⟨2, ![8194, 512]⟩
abbrev S512 : Shape := ⟨1, ![512]⟩
abbrev S16x512 : Shape := ⟨2, ![16, 512]⟩
abbrev S8208x512 : Shape := ⟨2, ![8208, 512]⟩
abbrev S8192 : Shape := ⟨1, ![8192]⟩
abbrev S8192x1 : Shape := ⟨2, ![8192, 1]⟩
abbrev S8192x128 : Shape := ⟨2, ![8192, 128]⟩
abbrev S8192x1x128 : Shape := ⟨3, ![8192, 1, 128]⟩
abbrev S8192x4x128 : Shape := ⟨3, ![8192, 4, 128]⟩
abbrev S4x128x8192 : Shape := ⟨3, ![4, 128, 8192]⟩
abbrev S8192x1024 : Shape := ⟨2, ![8192, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S3x512, .f32⟩
  | .hbm, ⟨2, _⟩ => ⟨S4x128x128, .f32⟩
  | .hbm, ⟨3, _⟩ => ⟨S1x512, .f32⟩
  | .hbm, ⟨4, _⟩ => ⟨S8192x5120, .f32⟩
  | .hbm, ⟨5, _⟩ => ⟨S8192x2048, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S2x512, .f32⟩
  | .hbm, ⟨13, _⟩ => ⟨S8194x512, .f32⟩
  | .hbm, ⟨14, _⟩ => ⟨S1x512, .f32⟩
  | .hbm, ⟨15, _⟩ => ⟨S512, .f32⟩
  | .hbm, ⟨16, _⟩ => ⟨S8192x512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S1x512, .f32⟩
  | .hbm, ⟨21, _⟩ => ⟨S512, .f32⟩
  | .hbm, ⟨22, _⟩ => ⟨S8192x512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S512, .f32⟩
  | .hbm, ⟨29, _⟩ => ⟨S8192x512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S_, .f32⟩
  | .hbm, ⟨37, _⟩ => ⟨S8192x512, .f32⟩
  | .hbm, ⟨38, _⟩ => ⟨S_, .f32⟩
  | .hbm, ⟨39, _⟩ => ⟨S16x512, .f32⟩
  | .hbm, ⟨40, _⟩ => ⟨S8208x512, .f32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .f32⟩
  | .hbm, ⟨49, _⟩ => ⟨S8192x1, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .f32⟩
  | .hbm, ⟨61, _⟩ => ⟨S8192x1, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .f32⟩
  | .hbm, ⟨73, _⟩ => ⟨S8192x1, .f32⟩
  | .hbm, ⟨74, _⟩ => ⟨S8192x128, .f32⟩
  | .hbm, ⟨75, _⟩ => ⟨S8192x128, .f32⟩
  | .hbm, ⟨76, _⟩ => ⟨S8192x128, .f32⟩
  | .hbm, ⟨77, _⟩ => ⟨S8192x128, .f32⟩
  | .hbm, ⟨78, _⟩ => ⟨S8192x128, .f32⟩
  | .hbm, ⟨79, _⟩ => ⟨S8192x128, .f32⟩
  | .hbm, ⟨80, _⟩ => ⟨S8192x128, .f32⟩
  | .hbm, ⟨81, _⟩ => ⟨S_, .i32⟩
  | .hbm, ⟨82, _⟩ => ⟨S8192, .i32⟩
  | .hbm, ⟨83, _⟩ => ⟨S8192, .i32⟩
  | .hbm, ⟨84, _⟩ => ⟨S8192, .f32⟩
  | .hbm, ⟨85, _⟩ => ⟨S8192x1, .f32⟩
  | .hbm, ⟨86, _⟩ => ⟨S8192x128, .f32⟩
  | .hbm, ⟨87, _⟩ => ⟨S8192x128, .f32⟩
  | .hbm, ⟨88, _⟩ => ⟨S8192x128, .f32⟩
  | .hbm, ⟨89, _⟩ => ⟨S8192x128, .f32⟩
  | .hbm, ⟨90, _⟩ => ⟨S8192x128, .f32⟩
  | .hbm, ⟨91, _⟩ => ⟨S8192x128, .f32⟩
  | .hbm, ⟨92, _⟩ => ⟨S8192x128, .f32⟩
  | .hbm, ⟨93, _⟩ => ⟨S8192x1x128, .f32⟩
  | .hbm, ⟨94, _⟩ => ⟨S8192x1x128, .f32⟩
  | .hbm, ⟨95, _⟩ => ⟨S8192x1x128, .f32⟩
  | .hbm, ⟨96, _⟩ => ⟨S8192x1x128, .f32⟩
  | .hbm, ⟨97, _⟩ => ⟨S8192x4x128, .f32⟩
  | .hbm, ⟨98, _⟩ => ⟨S4x128x8192, .f32⟩
  | .hbm, ⟨99, _⟩ => ⟨S8192x4x128, .f32⟩
  | .hbm, ⟨100, _⟩ => ⟨S8192x512, .f32⟩
  | .hbm, ⟨101, _⟩ => ⟨S512, .f32⟩
  | .hbm, ⟨102, _⟩ => ⟨S1x512, .f32⟩
  | .hbm, ⟨103, _⟩ => ⟨S8192x512, .f32⟩
  | .hbm, ⟨104, _⟩ => ⟨S8192x512, .f32⟩
  | .hbm, ⟨105, _⟩ => ⟨S8192x1024, .f32⟩
  | .hbm, ⟨106, _⟩ => ⟨S8192x1024, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_call0_cst : Ref sig .tc := ⟨.hbm, 35, rfl⟩
abbrev main_call0_call0_v0 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c : Ref sig .tc := ⟨.hbm, 42, rfl⟩
abbrev main_v34 : Ref sig .tc := ⟨.hbm, 43, rfl⟩
abbrev main_v35 : Ref sig .tc := ⟨.hbm, 44, rfl⟩
abbrev main_c_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_2 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_c_3 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_c_4 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩

abbrev nD : Nat := 1
abbrev τ : Topo := Topo.v7x

variable {F : FTy → Type} [FloatOps F]
-- ==== Kernel17.lean ====
abbrev S8192x2048 : Shape := ⟨2, ![8192, 2048]⟩
abbrev S1x2048 : Shape := ⟨2, ![1, 2048]⟩
abbrev S2048x8192 : Shape := ⟨2, ![2048, 8192]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S2048x8192, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel18.lean ====
abbrev S8x2048x704 : Shape := ⟨3, ![8, 2048, 704]⟩
abbrev S4096x704 : Shape := ⟨2, ![4096, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .local _ .vmem, ⟨0, _⟩ => ⟨S8x128x704, .bf16⟩
  | .local _ .vmem, ⟨1, _⟩ => ⟨S8x128x704, .bf16⟩
  | .local _ .vmem, ⟨2, _⟩ => ⟨S8x128x704, .bf16⟩
  | .local _ .vmem, ⟨3, _⟩ => ⟨S8x128x704, .bf16⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | .local _ .vmem, ⟨16, _⟩ => ⟨S128x704, .f32⟩
  | .local _ .vmem, ⟨17, _⟩ => ⟨S128x704, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c16_i32 : BitVec 32 := 16#32
  let v1 : BitVec 1 := Scalar.cmpi .slt arg0 c16_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c16_i32_1 : BitVec 32 := 16#32
  let v5 : BitVec 1 := Scalar.cmpi .sge arg0 c16_i32_1
  let c32_i32 : BitVec 32 := 32#32
  let v6 : BitVec 1 := Scalar.cmpi .slt arg0 c32_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S8x2048x704 : Shape := ⟨3, ![8, 2048, 704]⟩
abbrev S4096x704 : Shape := ⟨2, ![4096, 704]⟩
abbrev S_ : Shape := ⟨0, ![]⟩
abbrev S2048x704 : Shape := ⟨2, ![2048, 704]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S8x2048x704, .f32⟩
  | .hbm, ⟨6, _⟩ => ⟨S_, .f32⟩
  | .hbm, ⟨7, _⟩ => ⟨S2048x704, .f32⟩
  | .hbm, ⟨8, _⟩ => ⟨S8x2048x704, .f32⟩
  | .hbm, ⟨9, _⟩ => ⟨S_, .f32⟩
  | .hbm, ⟨10, _⟩ => ⟨S2048x704, .f32⟩
  | .hbm, ⟨11, _⟩ => ⟨S4096x704, .f32⟩
  | .hbm, ⟨12, _⟩ => ⟨S_, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S4096x704, .f32⟩
  | .hbm, ⟨23, _⟩ => ⟨S_, .f32⟩
  | .hbm, ⟨24, _⟩ => ⟨S4096x704, .f32⟩
  | .hbm, ⟨25, _⟩ => ⟨S4096x704, .f32⟩
  | .hbm, ⟨26, _⟩ => ⟨S4096x704, .f32⟩
  | .hbm, ⟨27, _⟩ => ⟨S_, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | .hbm, ⟨37, _⟩ => ⟨S4096x704, .f32⟩
  | .hbm, ⟨38, _⟩ => ⟨S_, .f32⟩
  | .hbm, ⟨39, _⟩ => ⟨S4096x704, .f32⟩
  | .hbm, ⟨40, _⟩ => ⟨S4096x704, .f32⟩
  | .hbm, ⟨41, _⟩ => ⟨S4096x704, .f32⟩
  | .hbm, ⟨42, _⟩ => ⟨S_, .f32⟩
  | .hbm, ⟨43, _⟩ => ⟨S4096x704, .f32⟩
  | .hbm, ⟨44, _⟩ => ⟨S4096x704, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel19.lean ====
abbrev S8x704x2048 : Shape := ⟨3, ![8, 704, 2048]⟩
abbrev S1408x2048 : Shape := ⟨2, ![1408, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c11_i32 : BitVec 32 := 11#32
  let v1 : BitVec 1 := Scalar.cmpi .slt arg0 c11_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c11_i32_1 : BitVec 32 := 11#32
  let v5 : BitVec 1 := Scalar.cmpi .sge arg0 c11_i32_1
  let c22_i32 : BitVec 32 := 22#32
  let v6 : BitVec 1 := Scalar.cmpi .slt arg0 c22_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c11_i32 : BitVec 32 := 11#32
  let v0 : BitVec 32 := Scalar.subi arg0 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S8x704x2048 : Shape := ⟨3, ![8, 704, 2048]⟩
abbrev S1408x2048 : Shape := ⟨2, ![1408, 2048]⟩
abbrev S_ : Shape := ⟨0, ![]⟩
abbrev S704x2048 : Shape := ⟨2, ![704, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S8x704x2048, .f32⟩
  | .hbm, ⟨6, _⟩ => ⟨S_, .f32⟩
  | .hbm, ⟨7, _⟩ => ⟨S704x2048, .f32⟩
  | .hbm, ⟨8, _⟩ => ⟨S8x704x2048, .f32⟩
  | .hbm, ⟨9, _⟩ => ⟨S_, .f32⟩
  | .hbm, ⟨10, _⟩ => ⟨S704x2048, .f32⟩
  | .hbm, ⟨11, _⟩ => ⟨S1408x2048, .f32⟩
  | .hbm, ⟨12, _⟩ => ⟨S_, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S1408x2048, .f32⟩
  | .hbm, ⟨23, _⟩ => ⟨S_, .f32⟩
  | .hbm, ⟨24, _⟩ => ⟨S1408x2048, .f32⟩
  | .hbm, ⟨25, _⟩ => ⟨S1408x2048, .f32⟩
  | .hbm, ⟨26, _⟩ => ⟨S1408x2048, .f32⟩
  | .hbm, ⟨27, _⟩ => ⟨S_, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | .hbm, ⟨37, _⟩ => ⟨S1408x2048, .f32⟩
  | .hbm, ⟨38, _⟩ => ⟨S_, .f32⟩
  | .hbm, ⟨39, _⟩ => ⟨S1408x2048, .f32⟩
  | .hbm, ⟨40, _⟩ => ⟨S1408x2048, .f32⟩
  | .hbm, ⟨41, _⟩ => ⟨S1408x2048, .f32⟩
  | .hbm, ⟨42, _⟩ => ⟨S_, .f32⟩
  | .hbm, ⟨43, _⟩ => ⟨S1408x2048, .f32⟩
  | .hbm, ⟨44, _⟩ => ⟨S1408x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel20.lean ====
abbrev S8x2048x640 : Shape := ⟨3, ![8, 2048, 640]⟩
abbrev S4096x640 : Shape := ⟨2, ![4096, 640]⟩
abbrev S8x128x640 : Shape := ⟨3, ![8, 128, 640]⟩
abbrev S128x640 : Shape := ⟨2, ![128, 640]⟩
abbrev S1x128x640 : Shape := ⟨3, ![1, 128, 640]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x640, .bf16⟩
  | .hbm, ⟨1, _⟩ => ⟨S8x2048x640, .bf16⟩
  | .hbm, ⟨2, _⟩ => ⟨S4096x640, .f32⟩
  | .hbm, ⟨3, _⟩ => ⟨S4096x640, .f32⟩
  | .hbm, ⟨4, _⟩ => ⟨S4096x640, .f32⟩
  | .hbm, ⟨5, _⟩ => ⟨S4096x640, .f32⟩
  | .hbm, ⟨6, _⟩ => ⟨S4096x640, .f32⟩
  | .hbm, ⟨7, _⟩ => ⟨S4096x640, .f32⟩
  | .hbm, ⟨8, _⟩ => ⟨S4096x640, .f32⟩
  | .local _ .vmem, ⟨0, _⟩ => ⟨S8x128x640, .bf16⟩
  | .local _ .vmem, ⟨1, _⟩ => ⟨S8x128x640, .bf16⟩
  | .local _ .vmem, ⟨2, _⟩ => ⟨S8x128x640, .bf16⟩
  | .local _ .vmem, ⟨3, _⟩ => ⟨S8x128x640, .bf16⟩
  | .local _ .vmem, ⟨4, _⟩ => ⟨S128x640, .f32⟩
  | .local _ .vmem, ⟨5, _⟩ => ⟨S128x640, .f32⟩
  | .local _ .vmem, ⟨6, _⟩ => ⟨S128x640, .f32⟩
  | .local _ .vmem, ⟨7, _⟩ => ⟨S128x640, .f32⟩
  | .local _ .vmem, ⟨8, _⟩ => ⟨S128x640, .f32⟩
  | .local _ .vmem, ⟨9, _⟩ => ⟨S128x640, .f32⟩
  | .local _ .vmem, ⟨10, _⟩ => ⟨S128x640, .f32⟩
  | .local _ .vmem, ⟨11, _⟩ => ⟨S128x640, .f32⟩
  | .local _ .vmem, ⟨12, _⟩ => ⟨S128x640, .f32⟩
  | .local _ .vmem, ⟨13, _⟩ => ⟨S128x640, .f32⟩
  | .local _ .vmem, ⟨14, _⟩ => ⟨S128x640, .f32⟩
  | .local _ .vmem, ⟨15, _⟩ => ⟨S128x640, .f32⟩
  | .local _ .vmem, ⟨16, _⟩ => ⟨S128x640, .f32⟩
  | .local _ .vmem, ⟨17, _⟩ => ⟨S128x640, .f32⟩
  | _, _ => ⟨S8x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c16_i32 : BitVec 32 := 16#32
  let v1 : BitVec 1 := Scalar.cmpi .slt arg0 c16_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c16_i32_1 : BitVec 32 := 16#32
  let v5 : BitVec 1 := Scalar.cmpi .sge arg0 c16_i32_1
  let c32_i32 : BitVec 32 := 32#32
  let v6 : BitVec 1 := Scalar.cmpi .slt arg0 c32_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S8x2048x640 : Shape := ⟨3, ![8, 2048, 640]⟩
abbrev S4096x640 : Shape := ⟨2, ![4096, 640]⟩
abbrev S_ : Shape := ⟨0, ![]⟩
abbrev S2048x640 : Shape := ⟨2, ![2048, 640]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x640, .bf16⟩
  | .hbm, ⟨1, _⟩ => ⟨S8x2048x640, .bf16⟩
  | .hbm, ⟨2, _⟩ => ⟨S4096x640, .f32⟩
  | .hbm, ⟨3, _⟩ => ⟨S4096x640, .f32⟩
  | .hbm, ⟨4, _⟩ => ⟨S4096x640, .f32⟩
  | .hbm, ⟨5, _⟩ => ⟨S8x2048x640, .f32⟩
  | .hbm, ⟨6, _⟩ => ⟨S_, .f32⟩
  | .hbm, ⟨7, _⟩ => ⟨S2048x640, .f32⟩
  | .hbm, ⟨8, _⟩ => ⟨S8x2048x640, .f32⟩
  | .hbm, ⟨9, _⟩ => ⟨S_, .f32⟩
  | .hbm, ⟨10, _⟩ => ⟨S2048x640, .f32⟩
  | .hbm, ⟨11, _⟩ => ⟨S4096x640, .f32⟩
  | .hbm, ⟨12, _⟩ => ⟨S_, .f32⟩
  | .hbm, ⟨13, _⟩ => ⟨S4096x640, .f32⟩
  | .hbm, ⟨14, _⟩ => ⟨S4096x640, .f32⟩
  | .hbm, ⟨15, _⟩ => ⟨S_, .f32⟩
  | .hbm, ⟨16, _⟩ => ⟨S4096x640, .f32⟩
  | .hbm, ⟨17, _⟩ => ⟨S4096x640, .f32⟩
  | .hbm, ⟨18, _⟩ => ⟨S4096x640, .f32⟩
  | .hbm, ⟨19, _⟩ => ⟨S_, .f32⟩
  | .hbm, ⟨20, _⟩ => ⟨S4096x640, .f32⟩
  | .hbm, ⟨21, _⟩ => ⟨S4096x640, .f32⟩
  | .hbm, ⟨22, _⟩ => ⟨S4096x640, .f32⟩
  | .hbm, ⟨23, _⟩ => ⟨S_, .f32⟩
  | .hbm, ⟨24, _⟩ => ⟨S4096x640, .f32⟩
  | .hbm, ⟨25, _⟩ => ⟨S4096x640, .f32⟩
  | .hbm, ⟨26, _⟩ => ⟨S4096x640, .f32⟩
  | .hbm, ⟨27, _⟩ => ⟨S_, .f32⟩
  | .hbm, ⟨28, _⟩ => ⟨S4096x640, .f32⟩
  | .hbm, ⟨29, _⟩ => ⟨S4096x640, .f32⟩
  | .hbm, ⟨30, _⟩ => ⟨S_, .f32⟩
  | .hbm, ⟨31, _⟩ => ⟨S4096x640, .f32⟩
  | .hbm, ⟨32, _⟩ => ⟨S4096x640, .f32⟩
  | .hbm, ⟨33, _⟩ => ⟨S4096x640, .f32⟩
  | .hbm, ⟨34, _⟩ => ⟨S_, .f32⟩
  | .hbm, ⟨35, _⟩ => ⟨S4096x640, .f32⟩
  | .hbm, ⟨36, _⟩ => ⟨S4096x640, .f32⟩
  | .hbm, ⟨37, _⟩ => ⟨S4096x640, .f32⟩
  | .hbm, ⟨38, _⟩ => ⟨S_, .f32⟩
  | .hbm, ⟨39, _⟩ => ⟨S4096x640, .f32⟩
  | .hbm, ⟨40, _⟩ => ⟨S4096x640, .f32⟩
  | .hbm, ⟨41, _⟩ => ⟨S4096x640, .f32⟩
  | .hbm, ⟨42, _⟩ => ⟨S_, .f32⟩
  | .hbm, ⟨43, _⟩ => ⟨S4096x640, .f32⟩
  | .hbm, ⟨44, _⟩ => ⟨S4096x640, .f32⟩
  | _, _ => ⟨S8x2048x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel21.lean ====
abbrev S8x256x2048 : Shape := ⟨3, ![8, 256, 2048]⟩
abbrev S512x2048 : Shape := ⟨2, ![512, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let c8_i32 : BitVec 32 := 8#32
  let v6 : BitVec 1 := Scalar.cmpi .slt arg0 c8_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S8x256x2048 : Shape := ⟨3, ![8, 256, 2048]⟩
abbrev S512x2048 : Shape := ⟨2, ![512, 2048]⟩
abbrev S_ : Shape := ⟨0, ![]⟩
abbrev S256x2048 : Shape := ⟨2, ![256, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S_, .f32⟩
  | .hbm, ⟨43, _⟩ => ⟨S512x2048, .f32⟩
  | .hbm, ⟨44, _⟩ => ⟨S512x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel22.lean ====
abbrev S8x2x2048 : Shape := ⟨3, ![8, 2, 2048]⟩
abbrev S8x2x3x512 : Shape := ⟨4, ![8, 2, 3, 512]⟩
abbrev S8x2x4x128x128 : Shape := ⟨5, ![8, 2, 4, 128, 128]⟩
abbrev S8x2x512 : Shape := ⟨3, ![8, 2, 512]⟩
abbrev S8x2048 : Shape := ⟨2, ![8, 2048]⟩
abbrev S8x1x128 : Shape := ⟨3, ![8, 1, 128]⟩
abbrev S2x2048 : Shape := ⟨2, ![2, 2048]⟩
abbrev S2x3x512 : Shape := ⟨3, ![2, 3, 512]⟩
abbrev S2x4x128x128 : Shape := ⟨4, ![2, 4, 128, 128]⟩
abbrev S2x512 : Shape := ⟨2, ![2, 512]⟩
abbrev S2048 : Shape := ⟨1, ![2048]⟩
abbrev S8x4096 : Shape := ⟨2, ![8, 4096]⟩
abbrev S8x3072 : Shape := ⟨2, ![8, 3072]⟩
abbrev S8x131072 : Shape := ⟨2, ![8, 131072]⟩
abbrev S8x1024 : Shape := ⟨2, ![8, 1024]⟩
abbrev S8x128 : Shape := ⟨2, ![8, 128]⟩
abbrev S_ : Shape := ⟨0, ![]⟩
abbrev S896 : Shape := ⟨1, ![896]⟩
abbrev S8x896 : Shape := ⟨2, ![8, 896]⟩
abbrev S8x150528 : Shape := ⟨2, ![8, 150528]⟩
abbrev S8x1176x128 : Shape := ⟨3, ![8, 1176, 128]⟩
abbrev S1x128 : Shape := ⟨2, ![1, 128]⟩
abbrev S4096 : Shape := ⟨1, ![4096]⟩
abbrev S3072 : Shape := ⟨1, ![3072]⟩
abbrev S131072 : Shape := ⟨1, ![131072]⟩
abbrev S1024 : Shape := ⟨1, ![1024]⟩
abbrev S128 : Shape := ⟨1, ![128]⟩
abbrev S150528 : Shape := ⟨1, ![150528]⟩
abbrev S1176x128 : Shape := ⟨2, ![1176, 128]⟩
abbrev S1x1176x128 : Shape := ⟨3, ![1, 1176, 128]⟩

abbrev nBuf : Space → Nat
  | .hbm => 84
  | .vmem => 8
  | .smem => 0
  | _ => 0

abbrev bufTy : (tb : Table) → Fin (tcTables nBuf tb) → BufTy
  | .hbm, ⟨0, _⟩ => ⟨S8x2x2048, .f32⟩
  | .hbm, ⟨1, _⟩ => ⟨S8x2x2048, .f32⟩
  | .hbm, ⟨2, _⟩ => ⟨S8x2x3x512, .f32⟩
  | .hbm, ⟨3, _⟩ => ⟨S8x2x4x128x128, .f32⟩
  | .hbm, ⟨4, _⟩ => ⟨S8x2x512, .f32⟩
  | .hbm, ⟨5, _⟩ => ⟨S8x2x2048, .f32⟩
  | .hbm, ⟨6, _⟩ => ⟨S8x2048, .f32⟩
  | .hbm, ⟨7, _⟩ => ⟨S8x1x128, .f32⟩
  | .hbm, ⟨8, _⟩ => ⟨S2x2048, .f32⟩
  | .hbm, ⟨9, _⟩ => ⟨S2x2048, .f32⟩
  | .hbm, ⟨10, _⟩ => ⟨S2x3x512, .f32⟩
  | .hbm, ⟨11, _⟩ => ⟨S2x4x128x128, .f32⟩
  | .hbm, ⟨12, _⟩ => ⟨S2x512, .f32⟩
  | .hbm, ⟨13, _⟩ => ⟨S2x2048, .f32⟩
  | .hbm, ⟨14, _⟩ => ⟨S2048, .f32⟩
  | .hbm, ⟨15, _⟩ => ⟨S2x2048, .f32⟩
  | .hbm, ⟨16, _⟩ => ⟨S2x2048, .f32⟩
  | .hbm, ⟨17, _⟩ => ⟨S2x3x512, .f32⟩
  | .hbm, ⟨18, _⟩ => ⟨S2x4x128x128, .f32⟩
  | .hbm, ⟨19, _⟩ => ⟨S2x512, .f32⟩
  | .hbm, ⟨20, _⟩ => ⟨S2x2048, .f32⟩
  | .hbm, ⟨21, _⟩ => ⟨S2048, .f32⟩
  | .hbm, ⟨22, _⟩ => ⟨S2x2048, .f32⟩
  | .hbm, ⟨23, _⟩ => ⟨S2x2048, .f32⟩
  | .hbm, ⟨24, _⟩ => ⟨S2x3x512, .f32⟩
  | .hbm, ⟨25, _⟩ => ⟨S2x4x128x128, .f32⟩
  | .hbm, ⟨26, _⟩ => ⟨S2x512, .f32⟩
  | .hbm, ⟨27, _⟩ => ⟨S2x2048, .f32⟩
  | .hbm, ⟨28, _⟩ => ⟨S2048, .f32⟩
  | .hbm, ⟨29, _⟩ => ⟨S8x4096, .f32⟩
  | .hbm, ⟨30, _⟩ => ⟨S8x4096, .f32⟩
  | .hbm, ⟨31, _⟩ => ⟨S8x3072, .f32⟩
  | .hbm, ⟨32, _⟩ => ⟨S8x131072, .f32⟩
  | .hbm, ⟨33, _⟩ => ⟨S8x1024, .f32⟩
  | .hbm, ⟨34, _⟩ => ⟨S8x4096, .f32⟩
  | .hbm, ⟨35, _⟩ => ⟨S8x128, .f32⟩
  | .hbm, ⟨36, _⟩ => ⟨S_, .f32⟩
  | .hbm, ⟨37, _⟩ => ⟨S896, .f32⟩
  | .hbm, ⟨38, _⟩ => ⟨S8x896, .f32⟩
  | .hbm, ⟨39, _⟩ => ⟨S8x150528, .f32⟩
  | .hbm, ⟨40, _⟩ => ⟨S8x1176x128, .f32⟩
  | .hbm, ⟨41, _⟩ => ⟨S_, .f32⟩
  | .hbm, ⟨42, _⟩ => ⟨S1x128, .f32⟩
  | .hbm, ⟨43, _⟩ => ⟨S4096, .f32⟩
  | .hbm, ⟨44, _⟩ => ⟨S4096, .f32⟩
  | .hbm, ⟨45, _⟩ => ⟨S3072, .f32⟩
  | .hbm, ⟨46, _⟩ => ⟨S131072, .f32⟩
  | .hbm, ⟨47, _⟩ => ⟨S1024, .f32⟩
  | .hbm, ⟨48, _⟩ => ⟨S4096, .f32⟩
  | .hbm, ⟨49, _⟩ => ⟨S128, .f32⟩
  | .hbm, ⟨50, _⟩ => ⟨S_, .f32⟩
  | .hbm, ⟨51, _⟩ => ⟨S896, .f32⟩
  | .hbm, ⟨52, _⟩ => ⟨S150528, .f32⟩
  | .hbm, ⟨53, _⟩ => ⟨S1176x128, .f32⟩
  | .hbm, ⟨54, _⟩ => ⟨S_, .f32⟩
  | .hbm, ⟨55, _⟩ => ⟨S1x128, .f32⟩
  | .hbm, ⟨56, _⟩ => ⟨S4096, .f32⟩
  | .hbm, ⟨57, _⟩ => ⟨S4096, .f32⟩
  | .hbm, ⟨58, _⟩ => ⟨S3072, .f32⟩
  | .hbm, ⟨59, _⟩ => ⟨S131072, .f32⟩
  | .hbm, ⟨60, _⟩ => ⟨S1024, .f32⟩
  | .hbm, ⟨61, _⟩ => ⟨S4096, .f32⟩
  | .hbm, ⟨62, _⟩ => ⟨S128, .f32⟩
  | .hbm, ⟨63, _⟩ => ⟨S_, .f32⟩
  | .hbm, ⟨64, _⟩ => ⟨S896, .f32⟩
  | .hbm, ⟨65, _⟩ => ⟨S150528, .f32⟩
  | .hbm, ⟨66, _⟩ => ⟨S1176x128, .f32⟩
  | .hbm, ⟨67, _⟩ => ⟨S_, .f32⟩
  | .hbm, ⟨68, _⟩ => ⟨S1x128, .f32⟩
  | .hbm, ⟨69, _⟩ => ⟨S4096, .f32⟩
  | .hbm, ⟨70, _⟩ => ⟨S4096, .f32⟩
  | .hbm, ⟨71, _⟩ => ⟨S3072, .f32⟩
  | .hbm, ⟨72, _⟩ => ⟨S131072, .f32⟩
  | .hbm, ⟨73, _⟩ => ⟨S1024, .f32⟩
  | .hbm, ⟨74, _⟩ => ⟨S4096, .f32⟩
  | .hbm, ⟨75, _⟩ => ⟨S128, .f32⟩
  | .hbm, ⟨76, _⟩ => ⟨S_, .f32⟩
  | .hbm, ⟨77, _⟩ => ⟨S896, .f32⟩
  | .hbm, ⟨78, _⟩ => ⟨S150528, .f32⟩
  | .hbm, ⟨79, _⟩ => ⟨S1176x128, .f32⟩
  | .hbm, ⟨80, _⟩ => ⟨S1176x128, .f32⟩
  | .hbm, ⟨81, _⟩ => ⟨S1176x128, .f32⟩
  | .hbm, ⟨82, _⟩ => ⟨S1176x128, .f32⟩
  | .hbm, ⟨83, _⟩ => ⟨S1176x128, .f32⟩
  | .local _ .vmem, ⟨0, _⟩ => ⟨S8x1176x128, .f32⟩
  | .local _ .vmem, ⟨1, _⟩ => ⟨S1176x128, .f32⟩
  | .local _ .vmem, ⟨2, _⟩ => ⟨S1176x128, .f32⟩
  | .local _ .vmem, ⟨3, _⟩ => ⟨S1176x128, .f32⟩
  | .local _ .vmem, ⟨4, _⟩ => ⟨S1176x128, .f32⟩
  | .local _ .vmem, ⟨5, _⟩ => ⟨S1176x128, .f32⟩
  | .local _ .vmem, ⟨6, _⟩ => ⟨S1176x128, .f32⟩
  | .local _ .vmem, ⟨7, _⟩ => ⟨S1176x128, .f32⟩
  | _, _ => ⟨S8x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_0 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_1 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_2 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_3 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_4 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_5 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44_0 : Ref sig .tc := ⟨.hbm, 80, rfl⟩
abbrev main_v44_1 : Ref sig .tc := ⟨.hbm, 81, rfl⟩
abbrev main_v44_2 : Ref sig .tc := ⟨.hbm, 82, rfl⟩
abbrev main_v44_3 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1176x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S8x2x2048 : Shape := ⟨3, ![8, 2, 2048]⟩
abbrev S8x2x3x512 : Shape := ⟨4, ![8, 2, 3, 512]⟩
abbrev S8x2x4x128x128 : Shape := ⟨5, ![8, 2, 4, 128, 128]⟩
abbrev S8x2x512 : Shape := ⟨3, ![8, 2, 512]⟩
abbrev S8x2048 : Shape := ⟨2, ![8, 2048]⟩
abbrev S8x1x128 : Shape := ⟨3, ![8, 1, 128]⟩
abbrev S2x2048 : Shape := ⟨2, ![2, 2048]⟩
abbrev S2x3x512 : Shape := ⟨3, ![2, 3, 512]⟩
abbrev S2x4x128x128 : Shape := ⟨4, ![2, 4, 128, 128]⟩
abbrev S2x512 : Shape := ⟨2, ![2, 512]⟩
abbrev S2048 : Shape := ⟨1, ![2048]⟩
abbrev S_ : Shape := ⟨0, ![]⟩
abbrev S1x128 : Shape := ⟨2, ![1, 128]⟩
abbrev S896 : Shape := ⟨1, ![896]⟩
abbrev S4096 : Shape := ⟨1, ![4096]⟩
abbrev S3072 : Shape := ⟨1, ![3072]⟩
abbrev S131072 : Shape := ⟨1, ![131072]⟩
abbrev S1024 : Shape := ⟨1, ![1024]⟩
abbrev S128 : Shape := ⟨1, ![128]⟩
abbrev S150528 : Shape := ⟨1, ![150528]⟩
abbrev S1176x128 : Shape := ⟨2, ![1176, 128]⟩

abbrev nBuf : Space → Nat
  | .hbm => 384
  | .vmem => 0
  | .smem => 0
  | _ => 0

abbrev hbmTy0_0 (i : Nat) : BufTy := match i % 128 with
  | 0 => ⟨S8x2x2048, .f32⟩
  | 1 => ⟨S8x2x2048, .f32⟩
  | 2 => ⟨S8x2x3x512, .f32⟩
  | 3 => ⟨S8x2x4x128x128, .f32⟩
  | 4 => ⟨S8x2x512, .f32⟩
  | 5 => ⟨S8x2x2048, .f32⟩
  | 6 => ⟨S8x2048, .f32⟩
  | 7 => ⟨S8x1x128, .f32⟩
  | 8 => ⟨S2x2048, .f32⟩
  | 9 => ⟨S2x2048, .f32⟩
  | 10 => ⟨S2x3x512, .f32⟩
  | 11 => ⟨S2x4x128x128, .f32⟩
  | 12 => ⟨S2x512, .f32⟩
  | 13 => ⟨S2x2048, .f32⟩
  | 14 => ⟨S2048, .f32⟩
  | 15 => ⟨S2x2048, .f32⟩
  | 16 => ⟨S2x2048, .f32⟩
  | 17 => ⟨S2x3x512, .f32⟩
  | 18 => ⟨S2x4x128x128, .f32⟩
  | 19 => ⟨S2x512, .f32⟩
  | 20 => ⟨S2x2048, .f32⟩
  | 21 => ⟨S2048, .f32⟩
  | 22 => ⟨S2x2048, .f32⟩
  | 23 => ⟨S2x2048, .f32⟩
  | 24 => ⟨S2x3x512, .f32⟩
  | 25 => ⟨S2x4x128x128, .f32⟩
  | 26 => ⟨S2x512, .f32⟩
  | 27 => ⟨S2x2048, .f32⟩
  | 28 => ⟨S2048, .f32⟩
  | 29 => ⟨S_, .f32⟩
  | 30 => ⟨S2x2048, .f32⟩
  | 31 => ⟨S_, .f32⟩
  | 32 => ⟨S2x2048, .f32⟩
  | 33 => ⟨S_, .f32⟩
  | 34 => ⟨S2x3x512, .f32⟩
  | 35 => ⟨S_, .f32⟩
  | 36 => ⟨S2x4x128x128, .f32⟩
  | 37 => ⟨S_, .f32⟩
  | 38 => ⟨S2x512, .f32⟩
  | 39 => ⟨S_, .f32⟩
  | 40 => ⟨S2x2048, .f32⟩
  | 41 => ⟨S_, .f32⟩
  | 42 => ⟨S2048, .f32⟩
  | 43 => ⟨S_, .f32⟩
  | 44 => ⟨S1x128, .f32⟩
  | 45 => ⟨S_, .f32⟩
  | 46 => ⟨S2x2048, .f32⟩
  | 47 => ⟨S2x2048, .f32⟩
  | 48 => ⟨S_, .f32⟩
  | 49 => ⟨S2x2048, .f32⟩
  | 50 => ⟨S2x2048, .f32⟩
  | 51 => ⟨S2x2048, .f32⟩
  | 52 => ⟨S_, .f32⟩
  | 53 => ⟨S2x2048, .f32⟩
  | 54 => ⟨S2x2048, .f32⟩
  | 55 => ⟨S2x2048, .f32⟩
  | 56 => ⟨S_, .f32⟩
  | 57 => ⟨S2x2048, .f32⟩
  | 58 => ⟨S2x2048, .f32⟩
  | 59 => ⟨S2x2048, .f32⟩
  | 60 => ⟨S_, .f32⟩
  | 61 => ⟨S2x2048, .f32⟩
  | 62 => ⟨S2x2048, .f32⟩
  | 63 => ⟨S_, .f32⟩
  | 64 => ⟨S2x2048, .f32⟩
  | 65 => ⟨S2x2048, .f32⟩
  | 66 => ⟨S2x2048, .f32⟩
  | 67 => ⟨S_, .f32⟩
  | 68 => ⟨S2x2048, .f32⟩
  | 69 => ⟨S2x2048, .f32⟩
  | 70 => ⟨S2x2048, .f32⟩
  | 71 => ⟨S_, .f32⟩
  | 72 => ⟨S2x2048, .f32⟩
  | 73 => ⟨S2x2048, .f32⟩
  | 74 => ⟨S2x2048, .f32⟩
  | 75 => ⟨S_, .f32⟩
  | 76 => ⟨S2x2048, .f32⟩
  | 77 => ⟨S2x2048, .f32⟩
  | 78 => ⟨S_, .f32⟩
  | 79 => ⟨S2x2048, .f32⟩
  | 80 => ⟨S2x2048, .f32⟩
  | 81 => ⟨S_, .f32⟩
  | 82 => ⟨S2x2048, .f32⟩
  | 83 => ⟨S2x2048, .f32⟩
  | 84 => ⟨S2x2048, .f32⟩
  | 85 => ⟨S_, .f32⟩
  | 86 => ⟨S2x2048, .f32⟩
  | 87 => ⟨S2x2048, .f32⟩
  | 88 => ⟨S2x2048, .f32⟩
  | 89 => ⟨S_, .f32⟩
  | 90 => ⟨S2x2048, .f32⟩
  | 91 => ⟨S2x2048, .f32⟩
  | 92 => ⟨S2x2048, .f32⟩
  | 93 => ⟨S_, .f32⟩
  | 94 => ⟨S2x2048, .f32⟩
  | 95 => ⟨S2x2048, .f32⟩
  | 96 => ⟨S_, .f32⟩
  | 97 => ⟨S2x2048, .f32⟩
  | 98 => ⟨S2x2048, .f32⟩
  | 99 => ⟨S2x2048, .f32⟩
  | 100 => ⟨S_, .f32⟩
  | 101 => ⟨S2x2048, .f32⟩
  | 102 => ⟨S2x2048, .f32⟩
  | 103 => ⟨S2x2048, .f32⟩
  | 104 => ⟨S_, .f32⟩
  | 105 => ⟨S2x2048, .f32⟩
  | 106 => ⟨S2x2048, .f32⟩
  | 107 => ⟨S2x2048, .f32⟩
  | 108 => ⟨S_, .f32⟩
  | 109 => ⟨S2x2048, .f32⟩
  | 110 => ⟨S2x2048, .f32⟩
  | 111 => ⟨S_, .f32⟩
  | 112 => ⟨S2x3x512, .f32⟩
  | 113 => ⟨S2x3x512, .f32⟩
  | 114 => ⟨S_, .f32⟩
  | 115 => ⟨S2x3x512, .f32⟩
  | 116 => ⟨S2x3x512, .f32⟩
  | 117 => ⟨S2x3x512, .f32⟩
  | 118 => ⟨S_, .f32⟩
  | 119 => ⟨S2x3x512, .f32⟩
  | 120 => ⟨S2x3x512, .f32⟩
  | 121 => ⟨S2x3x512, .f32⟩
  | 122 => ⟨S_, .f32⟩
  | 123 => ⟨S2x3x512, .f32⟩
  | 124 => ⟨S2x3x512, .f32⟩
  | 125 => ⟨S2x3x512, .f32⟩
  | 126 => ⟨S_, .f32⟩
  | 127 => ⟨S2x3x512, .f32⟩
  | _ => ⟨S8x2x2048, .f32⟩

abbrev hbmTy0_1 (i : Nat) : BufTy := match i % 128 with
  | 0 => ⟨S2x3x512, .f32⟩
  | 1 => ⟨S_, .f32⟩
  | 2 => ⟨S2x3x512, .f32⟩
  | 3 => ⟨S2x3x512, .f32⟩
  | 4 => ⟨S2x3x512, .f32⟩
  | 5 => ⟨S_, .f32⟩
  | 6 => ⟨S2x3x512, .f32⟩
  | 7 => ⟨S2x3x512, .f32⟩
  | 8 => ⟨S2x3x512, .f32⟩
  | 9 => ⟨S_, .f32⟩
  | 10 => ⟨S2x3x512, .f32⟩
  | 11 => ⟨S2x3x512, .f32⟩
  | 12 => ⟨S2x3x512, .f32⟩
  | 13 => ⟨S_, .f32⟩
  | 14 => ⟨S2x3x512, .f32⟩
  | 15 => ⟨S2x3x512, .f32⟩
  | 16 => ⟨S_, .f32⟩
  | 17 => ⟨S2x4x128x128, .f32⟩
  | 18 => ⟨S2x4x128x128, .f32⟩
  | 19 => ⟨S_, .f32⟩
  | 20 => ⟨S2x4x128x128, .f32⟩
  | 21 => ⟨S2x4x128x128, .f32⟩
  | 22 => ⟨S2x4x128x128, .f32⟩
  | 23 => ⟨S_, .f32⟩
  | 24 => ⟨S2x4x128x128, .f32⟩
  | 25 => ⟨S2x4x128x128, .f32⟩
  | 26 => ⟨S2x4x128x128, .f32⟩
  | 27 => ⟨S_, .f32⟩
  | 28 => ⟨S2x4x128x128, .f32⟩
  | 29 => ⟨S2x4x128x128, .f32⟩
  | 30 => ⟨S2x4x128x128, .f32⟩
  | 31 => ⟨S_, .f32⟩
  | 32 => ⟨S2x4x128x128, .f32⟩
  | 33 => ⟨S2x4x128x128, .f32⟩
  | 34 => ⟨S_, .f32⟩
  | 35 => ⟨S2x4x128x128, .f32⟩
  | 36 => ⟨S2x4x128x128, .f32⟩
  | 37 => ⟨S2x4x128x128, .f32⟩
  | 38 => ⟨S_, .f32⟩
  | 39 => ⟨S2x4x128x128, .f32⟩
  | 40 => ⟨S2x4x128x128, .f32⟩
  | 41 => ⟨S2x4x128x128, .f32⟩
  | 42 => ⟨S_, .f32⟩
  | 43 => ⟨S2x4x128x128, .f32⟩
  | 44 => ⟨S2x4x128x128, .f32⟩
  | 45 => ⟨S2x4x128x128, .f32⟩
  | 46 => ⟨S_, .f32⟩
  | 47 => ⟨S2x4x128x128, .f32⟩
  | 48 => ⟨S2x4x128x128, .f32⟩
  | 49 => ⟨S_, .f32⟩
  | 50 => ⟨S2x512, .f32⟩
  | 51 => ⟨S2x512, .f32⟩
  | 52 => ⟨S_, .f32⟩
  | 53 => ⟨S2x512, .f32⟩
  | 54 => ⟨S2x512, .f32⟩
  | 55 => ⟨S2x512, .f32⟩
  | 56 => ⟨S_, .f32⟩
  | 57 => ⟨S2x512, .f32⟩
  | 58 => ⟨S2x512, .f32⟩
  | 59 => ⟨S2x512, .f32⟩
  | 60 => ⟨S_, .f32⟩
  | 61 => ⟨S2x512, .f32⟩
  | 62 => ⟨S2x512, .f32⟩
  | 63 => ⟨S2x512, .f32⟩
  | 64 => ⟨S_, .f32⟩
  | 65 => ⟨S2x512, .f32⟩
  | 66 => ⟨S2x512, .f32⟩
  | 67 => ⟨S_, .f32⟩
  | 68 => ⟨S2x512, .f32⟩
  | 69 => ⟨S2x512, .f32⟩
  | 70 => ⟨S2x512, .f32⟩
  | 71 => ⟨S_, .f32⟩
  | 72 => ⟨S2x512, .f32⟩
  | 73 => ⟨S2x512, .f32⟩
  | 74 => ⟨S2x512, .f32⟩
  | 75 => ⟨S_, .f32⟩
  | 76 => ⟨S2x512, .f32⟩
  | 77 => ⟨S2x512, .f32⟩
  | 78 => ⟨S2x512, .f32⟩
  | 79 => ⟨S_, .f32⟩
  | 80 => ⟨S2x512, .f32⟩
  | 81 => ⟨S2x512, .f32⟩
  | 82 => ⟨S_, .f32⟩
  | 83 => ⟨S2x2048, .f32⟩
  | 84 => ⟨S2x2048, .f32⟩
  | 85 => ⟨S_, .f32⟩
  | 86 => ⟨S2x2048, .f32⟩
  | 87 => ⟨S2x2048, .f32⟩
  | 88 => ⟨S2x2048, .f32⟩
  | 89 => ⟨S_, .f32⟩
  | 90 => ⟨S2x2048, .f32⟩
  | 91 => ⟨S2x2048, .f32⟩
  | 92 => ⟨S2x2048, .f32⟩
  | 93 => ⟨S_, .f32⟩
  | 94 => ⟨S2x2048, .f32⟩
  | 95 => ⟨S2x2048, .f32⟩
  | 96 => ⟨S2x2048, .f32⟩
  | 97 => ⟨S_, .f32⟩
  | 98 => ⟨S2x2048, .f32⟩
  | 99 => ⟨S2x2048, .f32⟩
  | 100 => ⟨S_, .f32⟩
  | 101 => ⟨S2x2048, .f32⟩
  | 102 => ⟨S2x2048, .f32⟩
  | 103 => ⟨S2x2048, .f32⟩
  | 104 => ⟨S_, .f32⟩
  | 105 => ⟨S2x2048, .f32⟩
  | 106 => ⟨S2x2048, .f32⟩
  | 107 => ⟨S2x2048, .f32⟩
  | 108 => ⟨S_, .f32⟩
  | 109 => ⟨S2x2048, .f32⟩
  | 110 => ⟨S2x2048, .f32⟩
  | 111 => ⟨S2x2048, .f32⟩
  | 112 => ⟨S_, .f32⟩
  | 113 => ⟨S2x2048, .f32⟩
  | 114 => ⟨S2x2048, .f32⟩
  | 115 => ⟨S_, .f32⟩
  | 116 => ⟨S2048, .f32⟩
  | 117 => ⟨S2048, .f32⟩
  | 118 => ⟨S_, .f32⟩
  | 119 => ⟨S2048, .f32⟩
  | 120 => ⟨S2048, .f32⟩
  | 121 => ⟨S2048, .f32⟩
  | 122 => ⟨S_, .f32⟩
  | 123 => ⟨S2048, .f32⟩
  | 124 => ⟨S2048, .f32⟩
  | 125 => ⟨S2048, .f32⟩
  | 126 => ⟨S_, .f32⟩
  | 127 => ⟨S2048, .f32⟩
  | _ => ⟨S8x2x2048, .f32⟩

abbrev hbmTy0_2 (i : Nat) : BufTy := match i % 128 with
  | 0 => ⟨S2048, .f32⟩
  | 1 => ⟨S2048, .f32⟩
  | 2 => ⟨S_, .f32⟩
  | 3 => ⟨S2048, .f32⟩
  | 4 => ⟨S2048, .f32⟩
  | 5 => ⟨S_, .f32⟩
  | 6 => ⟨S2048, .f32⟩
  | 7 => ⟨S2048, .f32⟩
  | 8 => ⟨S2048, .f32⟩
  | 9 => ⟨S_, .f32⟩
  | 10 => ⟨S2048, .f32⟩
  | 11 => ⟨S2048, .f32⟩
  | 12 => ⟨S2048, .f32⟩
  | 13 => ⟨S_, .f32⟩
  | 14 => ⟨S2048, .f32⟩
  | 15 => ⟨S2048, .f32⟩
  | 16 => ⟨S2048, .f32⟩
  | 17 => ⟨S_, .f32⟩
  | 18 => ⟨S2048, .f32⟩
  | 19 => ⟨S2048, .f32⟩
  | 20 => ⟨S_, .f32⟩
  | 21 => ⟨S1x128, .f32⟩
  | 22 => ⟨S_, .f32⟩
  | 23 => ⟨S896, .f32⟩
  | 24 => ⟨S_, .f32⟩
  | 25 => ⟨S896, .f32⟩
  | 26 => ⟨S_, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S1x128, .f32⟩
  | 33 => ⟨S_, .f32⟩
  | 34 => ⟨S1x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S_, .f32⟩
  | 45 => ⟨S1x128, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S_, .f32⟩
  | 60 => ⟨S896, .f32⟩
  | 61 => ⟨S896, .f32⟩
  | 62 => ⟨S_, .f32⟩
  | 63 => ⟨S896, .f32⟩
  | 64 => ⟨S896, .f32⟩
  | 65 => ⟨S896, .f32⟩
  | 66 => ⟨S_, .f32⟩
  | 67 => ⟨S896, .f32⟩
  | 68 => ⟨S896, .f32⟩
  | 69 => ⟨S896, .f32⟩
  | 70 => ⟨S_, .f32⟩
  | 71 => ⟨S896, .f32⟩
  | 72 => ⟨S896, .f32⟩
  | 73 => ⟨S896, .f32⟩
  | 74 => ⟨S_, .f32⟩
  | 75 => ⟨S896, .f32⟩
  | 76 => ⟨S896, .f32⟩
  | 77 => ⟨S_, .f32⟩
  | 78 => ⟨S896, .f32⟩
  | 79 => ⟨S896, .f32⟩
  | 80 => ⟨S896, .f32⟩
  | 81 => ⟨S_, .f32⟩
  | 82 => ⟨S896, .f32⟩
  | 83 => ⟨S896, .f32⟩
  | 84 => ⟨S896, .f32⟩
  | 85 => ⟨S_, .f32⟩
  | 86 => ⟨S896, .f32⟩
  | 87 => ⟨S896, .f32⟩
  | 88 => ⟨S896, .f32⟩
  | 89 => ⟨S_, .f32⟩
  | 90 => ⟨S896, .f32⟩
  | 91 => ⟨S896, .f32⟩
  | 92 => ⟨S4096, .f32⟩
  | 93 => ⟨S4096, .f32⟩
  | 94 => ⟨S3072, .f32⟩
  | 95 => ⟨S131072, .f32⟩
  | 96 => ⟨S1024, .f32⟩
  | 97 => ⟨S4096, .f32⟩
  | 98 => ⟨S128, .f32⟩
  | 99 => ⟨S150528, .f32⟩
  | 100 => ⟨S1176x128, .f32⟩
  | 101 => ⟨S4096, .f32⟩
  | 102 => ⟨S4096, .f32⟩
  | 103 => ⟨S3072, .f32⟩
  | 104 => ⟨S131072, .f32⟩
  | 105 => ⟨S1024, .f32⟩
  | 106 => ⟨S4096, .f32⟩
  | 107 => ⟨S128, .f32⟩
  | 108 => ⟨S150528, .f32⟩
  | 109 => ⟨S1176x128, .f32⟩
  | 110 => ⟨S4096, .f32⟩
  | 111 => ⟨S4096, .f32⟩
  | 112 => ⟨S3072, .f32⟩
  | 113 => ⟨S131072, .f32⟩
  | 114 => ⟨S1024, .f32⟩
  | 115 => ⟨S4096, .f32⟩
  | 116 => ⟨S128, .f32⟩
  | 117 => ⟨S150528, .f32⟩
  | 118 => ⟨S1176x128, .f32⟩
  | 119 => ⟨S4096, .f32⟩
  | 120 => ⟨S4096, .f32⟩
  | 121 => ⟨S3072, .f32⟩
  | 122 => ⟨S131072, .f32⟩
  | 123 => ⟨S1024, .f32⟩
  | 124 => ⟨S4096, .f32⟩
  | 125 => ⟨S128, .f32⟩
  | 126 => ⟨S150528, .f32⟩
  | 127 => ⟨S1176x128, .f32⟩
  | _ => ⟨S8x2x2048, .f32⟩

abbrev hbmTy (i : Nat) : BufTy := match i / 128 with
  | 0 => hbmTy0_0 i
  | 1 => hbmTy0_1 i
  | 2 => hbmTy0_2 i
  | _ => ⟨S8x2x2048, .f32⟩

abbrev bufTy : (tb : Table) → Fin (tcTables nBuf tb) → BufTy
  | .hbm, ⟨i, _⟩ => hbmTy i
  | _, _ => ⟨S8x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_cst_0 : Ref sig .tc := ⟨.hbm, 31, rfl⟩
abbrev main_v1 : Ref sig .tc := ⟨.hbm, 32, rfl⟩
abbrev main_cst_1 : Ref sig .tc := ⟨.hbm, 33, rfl⟩
abbrev main_v2 : Ref sig .tc := ⟨.hbm, 34, rfl⟩
abbrev main_cst_2 : Ref sig .tc := ⟨.hbm, 35, rfl⟩
abbrev main_v3 : Ref sig .tc := ⟨.hbm, 36, rfl⟩
abbrev main_cst_3 : Ref sig .tc := ⟨.hbm, 37, rfl⟩
abbrev main_v4 : Ref sig .tc := ⟨.hbm, 38, rfl⟩
abbrev main_cst_4 : Ref sig .tc := ⟨.hbm, 39, rfl⟩
abbrev main_v5 : Ref sig .tc := ⟨.hbm, 40, rfl⟩
abbrev main_cst_5 : Ref sig .tc := ⟨.hbm, 41, rfl⟩
abbrev main_v6 : Ref sig .tc := ⟨.hbm, 42, rfl⟩
abbrev main_cst_6 : Ref sig .tc := ⟨.hbm, 43, rfl⟩
abbrev main_v7 : Ref sig .tc := ⟨.hbm, 44, rfl⟩
abbrev main_cst_7 : Ref sig .tc := ⟨.hbm, 45, rfl⟩
abbrev main_v8 : Ref sig .tc := ⟨.hbm, 46, rfl⟩
abbrev main_v9 : Ref sig .tc := ⟨.hbm, 47, rfl⟩
abbrev main_cst_8 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst_9 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_cst_10 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_cst_11 : Ref sig .tc := ⟨.hbm, 60, rfl⟩
abbrev main_v19 : Ref sig .tc := ⟨.hbm, 61, rfl⟩
abbrev main_v20 : Ref sig .tc := ⟨.hbm, 62, rfl⟩
abbrev main_cst_12 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_13 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_14 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_15 : Ref sig .tc := ⟨.hbm, 75, rfl⟩
abbrev main_v30 : Ref sig .tc := ⟨.hbm, 76, rfl⟩
abbrev main_v31 : Ref sig .tc := ⟨.hbm, 77, rfl⟩
abbrev main_cst_16 : Ref sig .tc := ⟨.hbm, 78, rfl⟩
abbrev main_v32 : Ref sig .tc := ⟨.hbm, 79, rfl⟩
abbrev main_v33 : Ref sig .tc := ⟨.hbm, 80, rfl⟩
abbrev main_cst_17 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_cst_18 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_cst_19 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_20 : Ref sig .tc := ⟨.hbm, 93, rfl⟩
abbrev main_v43 : Ref sig .tc := ⟨.hbm, 94, rfl⟩
abbrev main_v44 : Ref sig .tc := ⟨.hbm, 95, rfl⟩
abbrev main_cst_21 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_cst_22 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_cst_23 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_24 : Ref sig .tc := ⟨.hbm, 108, rfl⟩
abbrev main_v54 : Ref sig .tc := ⟨.hbm, 109, rfl⟩
abbrev main_v55 : Ref sig .tc := ⟨.hbm, 110, rfl⟩
abbrev main_cst_25 : Ref sig .tc := ⟨.hbm, 111, rfl⟩
abbrev main_v56 : Ref sig .tc := ⟨.hbm, 112, rfl⟩
abbrev main_v57 : Ref sig .tc := ⟨.hbm, 113, rfl⟩
abbrev main_cst_26 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_cst_27 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_cst_28 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_29 : Ref sig .tc := ⟨.hbm, 126, rfl⟩
abbrev main_v67 : Ref sig .tc := ⟨.hbm, 127, rfl⟩
abbrev main_v68 : Ref sig .tc := ⟨.hbm, 128, rfl⟩
abbrev main_cst_30 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_cst_31 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_cst_32 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_cst_33 : Ref sig .tc := ⟨.hbm, 141, rfl⟩
abbrev main_v78 : Ref sig .tc := ⟨.hbm, 142, rfl⟩
abbrev main_v79 : Ref sig .tc := ⟨.hbm, 143, rfl⟩
abbrev main_cst_34 : Ref sig .tc := ⟨.hbm, 144, rfl⟩
abbrev main_v80 : Ref sig .tc := ⟨.hbm, 145, rfl⟩
abbrev main_v81 : Ref sig .tc := ⟨.hbm, 146, rfl⟩
abbrev main_cst_35 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_cst_36 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_cst_37 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_cst_38 : Ref sig .tc := ⟨.hbm, 159, rfl⟩
abbrev main_v91 : Ref sig .tc := ⟨.hbm, 160, rfl⟩
abbrev main_v92 : Ref sig .tc := ⟨.hbm, 161, rfl⟩
abbrev main_cst_39 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_cst_40 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_cst_41 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_cst_42 : Ref sig .tc := ⟨.hbm, 174, rfl⟩
abbrev main_v102 : Ref sig .tc := ⟨.hbm, 175, rfl⟩
abbrev main_v103 : Ref sig .tc := ⟨.hbm, 176, rfl⟩
abbrev main_cst_43 : Ref sig .tc := ⟨.hbm, 177, rfl⟩
abbrev main_v104 : Ref sig .tc := ⟨.hbm, 178, rfl⟩
abbrev main_v105 : Ref sig .tc := ⟨.hbm, 179, rfl⟩
abbrev main_cst_44 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_cst_45 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_cst_46 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_cst_47 : Ref sig .tc := ⟨.hbm, 192, rfl⟩
abbrev main_v115 : Ref sig .tc := ⟨.hbm, 193, rfl⟩
abbrev main_v116 : Ref sig .tc := ⟨.hbm, 194, rfl⟩
abbrev main_cst_48 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_cst_49 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_cst_50 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_cst_51 : Ref sig .tc := ⟨.hbm, 207, rfl⟩
abbrev main_v126 : Ref sig .tc := ⟨.hbm, 208, rfl⟩
abbrev main_v127 : Ref sig .tc := ⟨.hbm, 209, rfl⟩
abbrev main_cst_52 : Ref sig .tc := ⟨.hbm, 210, rfl⟩
abbrev main_v128 : Ref sig .tc := ⟨.hbm, 211, rfl⟩
abbrev main_v129 : Ref sig .tc := ⟨.hbm, 212, rfl⟩
abbrev main_cst_53 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_cst_54 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_cst_55 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_cst_56 : Ref sig .tc := ⟨.hbm, 225, rfl⟩
abbrev main_v139 : Ref sig .tc := ⟨.hbm, 226, rfl⟩
abbrev main_v140 : Ref sig .tc := ⟨.hbm, 227, rfl⟩
abbrev main_cst_57 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_cst_58 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_cst_59 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_cst_60 : Ref sig .tc := ⟨.hbm, 240, rfl⟩
abbrev main_v150 : Ref sig .tc := ⟨.hbm, 241, rfl⟩
abbrev main_v151 : Ref sig .tc := ⟨.hbm, 242, rfl⟩
abbrev main_cst_61 : Ref sig .tc := ⟨.hbm, 243, rfl⟩
abbrev main_v152 : Ref sig .tc := ⟨.hbm, 244, rfl⟩
abbrev main_v153 : Ref sig .tc := ⟨.hbm, 245, rfl⟩
abbrev main_cst_62 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_cst_63 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_cst_64 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_cst_65 : Ref sig .tc := ⟨.hbm, 258, rfl⟩
abbrev main_v163 : Ref sig .tc := ⟨.hbm, 259, rfl⟩
abbrev main_v164 : Ref sig .tc := ⟨.hbm, 260, rfl⟩
abbrev main_cst_66 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_cst_67 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_cst_68 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_cst_69 : Ref sig .tc := ⟨.hbm, 273, rfl⟩
abbrev main_v174 : Ref sig .tc := ⟨.hbm, 274, rfl⟩
abbrev main_v175 : Ref sig .tc := ⟨.hbm, 275, rfl⟩
abbrev main_cst_70 : Ref sig .tc := ⟨.hbm, 276, rfl⟩
abbrev main_v176 : Ref sig .tc := ⟨.hbm, 277, rfl⟩
abbrev main_cst_71 : Ref sig .tc := ⟨.hbm, 278, rfl⟩
abbrev main_v177 : Ref sig .tc := ⟨.hbm, 279, rfl⟩
abbrev main_cst_72 : Ref sig .tc := ⟨.hbm, 280, rfl⟩
abbrev main_v178 : Ref sig .tc := ⟨.hbm, 281, rfl⟩
abbrev main_cst_73 : Ref sig .tc := ⟨.hbm, 282, rfl⟩
abbrev main_v179 : Ref sig .tc := ⟨.hbm, 283, rfl⟩
abbrev main_v180 : Ref sig .tc := ⟨.hbm, 284, rfl⟩
abbrev main_cst_74 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_75 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_76 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_77 : Ref sig .tc := ⟨.hbm, 297, rfl⟩
abbrev main_v190 : Ref sig .tc := ⟨.hbm, 298, rfl⟩
abbrev main_v191 : Ref sig .tc := ⟨.hbm, 299, rfl⟩
abbrev main_cst_78 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_cst_79 : Ref sig .tc := ⟨.hbm, 304, rfl⟩
abbrev main_v195 : Ref sig .tc := ⟨.hbm, 305, rfl⟩
abbrev main_v196 : Ref sig .tc := ⟨.hbm, 306, rfl⟩
abbrev main_v197 : Ref sig .tc := ⟨.hbm, 307, rfl⟩
abbrev main_cst_80 : Ref sig .tc := ⟨.hbm, 308, rfl⟩
abbrev main_v198 : Ref sig .tc := ⟨.hbm, 309, rfl⟩
abbrev main_v199 : Ref sig .tc := ⟨.hbm, 310, rfl⟩
abbrev main_v200 : Ref sig .tc := ⟨.hbm, 311, rfl⟩
abbrev main_cst_81 : Ref sig .tc := ⟨.hbm, 312, rfl⟩
abbrev main_v201 : Ref sig .tc := ⟨.hbm, 313, rfl⟩
abbrev main_v202 : Ref sig .tc := ⟨.hbm, 314, rfl⟩
abbrev main_cst_82 : Ref sig .tc := ⟨.hbm, 315, rfl⟩
abbrev main_v203 : Ref sig .tc := ⟨.hbm, 316, rfl⟩
abbrev main_v204 : Ref sig .tc := ⟨.hbm, 317, rfl⟩
abbrev main_cst_83 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_84 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_85 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_86 : Ref sig .tc := ⟨.hbm, 330, rfl⟩
abbrev main_v214 : Ref sig .tc := ⟨.hbm, 331, rfl⟩
abbrev main_v215 : Ref sig .tc := ⟨.hbm, 332, rfl⟩
abbrev main_cst_87 : Ref sig .tc := ⟨.hbm, 333, rfl⟩
abbrev main_v216 : Ref sig .tc := ⟨.hbm, 334, rfl⟩
abbrev main_v217 : Ref sig .tc := ⟨.hbm, 335, rfl⟩
abbrev main_v218 : Ref sig .tc := ⟨.hbm, 336, rfl⟩
abbrev main_cst_88 : Ref sig .tc := ⟨.hbm, 337, rfl⟩
abbrev main_v219 : Ref sig .tc := ⟨.hbm, 338, rfl⟩
abbrev main_v220 : Ref sig .tc := ⟨.hbm, 339, rfl⟩
abbrev main_v221 : Ref sig .tc := ⟨.hbm, 340, rfl⟩
abbrev main_cst_89 : Ref sig .tc := ⟨.hbm, 341, rfl⟩
abbrev main_v222 : Ref sig .tc := ⟨.hbm, 342, rfl⟩
abbrev main_v223 : Ref sig .tc := ⟨.hbm, 343, rfl⟩
abbrev main_v224 : Ref sig .tc := ⟨.hbm, 344, rfl⟩
abbrev main_cst_90 : Ref sig .tc := ⟨.hbm, 345, rfl⟩
abbrev main_v225 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_v230 : Ref sig .tc := ⟨.hbm, 351, rfl⟩
abbrev main_v231 : Ref sig .tc := ⟨.hbm, 352, rfl⟩
abbrev main_v232 : Ref sig .tc := ⟨.hbm, 353, rfl⟩
abbrev main_v233 : Ref sig .tc := ⟨.hbm, 354, rfl⟩
abbrev main_v234 : Ref sig .tc := ⟨.hbm, 355, rfl⟩
abbrev main_v235 : Ref sig .tc := ⟨.hbm, 356, rfl⟩
abbrev main_v236 : Ref sig .tc := ⟨.hbm, 357, rfl⟩
abbrev main_v237 : Ref sig .tc := ⟨.hbm, 358, rfl⟩
abbrev main_v238 : Ref sig .tc := ⟨.hbm, 359, rfl⟩
abbrev main_v239 : Ref sig .tc := ⟨.hbm, 360, rfl⟩
abbrev main_v240 : Ref sig .tc := ⟨.hbm, 361, rfl⟩
abbrev main_v241 : Ref sig .tc := ⟨.hbm, 362, rfl⟩
abbrev main_v242 : Ref sig .tc := ⟨.hbm, 363, rfl⟩
abbrev main_v243 : Ref sig .tc := ⟨.hbm, 364, rfl⟩
abbrev main_v244 : Ref sig .tc := ⟨.hbm, 365, rfl⟩
abbrev main_v245 : Ref sig .tc := ⟨.hbm, 366, rfl⟩
abbrev main_v246 : Ref sig .tc := ⟨.hbm, 367, rfl⟩
abbrev main_v247 : Ref sig .tc := ⟨.hbm, 368, rfl⟩
abbrev main_v248 : Ref sig .tc := ⟨.hbm, 369, rfl⟩
abbrev main_v249 : Ref sig .tc := ⟨.hbm, 370, rfl⟩
abbrev main_v250 : Ref sig .tc := ⟨.hbm, 371, rfl⟩
abbrev main_v251 : Ref sig .tc := ⟨.hbm, 372, rfl⟩
abbrev main_v252 : Ref sig .tc := ⟨.hbm, 373, rfl⟩
abbrev main_v253 : Ref sig .tc := ⟨.hbm, 374, rfl⟩
abbrev main_v254 : Ref sig .tc := ⟨.hbm, 375, rfl⟩
abbrev main_v255 : Ref sig .tc := ⟨.hbm, 376, rfl⟩
abbrev main_v256 : Ref sig .tc := ⟨.hbm, 377, rfl⟩
abbrev main_v257 : Ref sig .tc := ⟨.hbm, 378, rfl⟩
abbrev main_v258 : Ref sig .tc := ⟨.hbm, 379, rfl⟩
abbrev main_v259 : Ref sig .tc := ⟨.hbm, 380, rfl⟩
abbrev main_v260 : Ref sig .tc := ⟨.hbm, 381, rfl⟩
abbrev main_v261 : Ref sig .tc := ⟨.hbm, 382, rfl⟩
abbrev main_v262 : Ref sig .tc := ⟨.hbm, 383, rfl⟩

abbrev nD : Nat := 1
abbrev τ : Topo := Topo.v7x

variable {F : FTy → Type} [FloatOps F]
-- ==== Proof.Spec.lean ====
module

public import Mathlib.Data.EReal.Operations
public import Mathlib.Algebra.BigOperators.Fin
public import Mathlib.Algebra.Order.Group.Int
public import Idealize.ShloMosaic.Lib.Pointwise

/-!
# The mathematics of the mixer's backward step

Both programs are read as the same functions of nine arrays: the gates `gb` and `gc`, the convolution's input `ci`, the
pooling input `x`, the incoming gradients `dyc` (of the gated convolution) and `dyp` (of the pooled branch), the taps `cw`
of the convolution, the mixing matrices `pw` of the pooled branch and its scale `ps`. A row is an integer, so that a row
before the sequence or after it can be written down; the arrays are zero there.
-/

@[expose] public section

noncomputable section

namespace Cert.Mix

open Idealize.ShloMosaic

/-- The arrays the backward step reads, by row and column; `pw` by group, row and column. -/
structure Data where
  /-- the gate of the convolution's output -/
  gb : ℤ → ℕ → EReal
  /-- the gate of the convolution's input -/
  gc : ℤ → ℕ → EReal
  /-- the convolution's input -/
  ci : ℤ → ℕ → EReal
  /-- the pooled branch's input -/
  x : ℤ → ℕ → EReal
  /-- the gradient of the gated convolution -/
  dyc : ℤ → ℕ → EReal
  /-- the gradient of the pooled branch -/
  dyp : ℤ → ℕ → EReal
  /-- the three taps -/
  cw : ℕ → ℕ → EReal
  /-- the mixing matrices of the four groups -/
  pw : ℕ → ℕ → ℕ → EReal
  /-- the pooled branch's scale -/
  ps : ℕ → EReal

namespace Data

variable (d : Data)

/-- The gated input of the convolution. -/
def u (t : ℤ) (c : ℕ) : EReal := d.gc t c * d.ci t c

/-- The causal convolution of three taps. -/
def conv (t : ℤ) (c : ℕ) : EReal := d.cw 0 c * d.u (t - 2) c + d.cw 1 c * d.u (t - 1) c + d.cw 2 c * d.u t c

/-- The gradient of the output gate. -/
def dgb (t : ℤ) (c : ℕ) : EReal := d.dyc t c * d.conv t c

/-- The gradient of the convolution. -/
def dc (t : ℤ) (c : ℕ) : EReal := d.dyc t c * d.gb t c

/-- The gradient of the convolution's gated input. -/
def du (t : ℤ) (c : ℕ) : EReal := d.cw 2 c * d.dc t c + d.cw 1 c * d.dc (t + 1) c + d.cw 0 c * d.dc (t + 2) c

/-- The gradient of the input gate. -/
def dgc (t : ℤ) (c : ℕ) : EReal := d.du t c * d.ci t c

/-- The gradient of the convolution's input. -/
def dci (t : ℤ) (c : ℕ) : EReal := d.du t c * d.gc t c

/-- One row's part of the gradient of tap `k`. -/
def tap (k : ℕ) (t : ℤ) (c : ℕ) : EReal := d.dc t c * d.u (t - 2 + k) c

/-- The number of rows in the window of width `w` that ends at row `t`. -/
def cnt (w : ℕ) (t : ℤ) : EReal := (((min (t + 1) w : ℤ) : ℝ) : EReal)

/-- The width of group `g`'s window. -/
def width (g : ℕ) : ℕ := 2 ^ (g + 1)

/-- The sum of the window of group `g` that ends at row `t`. -/
def win (g : ℕ) (t : ℤ) (a : ℕ) : EReal := ∑ k ∈ Finset.range (width g), d.x (t - k) (128 * g + a)

/-- The window's mean without the row itself. -/
def pooled (g : ℕ) (t : ℤ) (a : ℕ) : EReal := Ideal.div (d.win g t a) (cnt (width g) t) - d.x t (128 * g + a)

/-- The mixed channels of a group. -/
def lin (g : ℕ) (t : ℤ) (b : ℕ) : EReal := ∑ a : Fin 128, d.pooled g t a * d.pw g a b

/-- The gradient of the mixed channels. -/
def dlin (g : ℕ) (t : ℤ) (b : ℕ) : EReal := d.dyp t (128 * g + b) * d.ps (128 * g + b)

/-- The gradient of a group's pooled channels. -/
def dpool (g : ℕ) (t : ℤ) (a : ℕ) : EReal := ∑ b : Fin 128, d.dlin g t b * d.pw g a b

/-- That gradient, shared among the rows of the window. -/
def share (g : ℕ) (t : ℤ) (a : ℕ) : EReal := Ideal.div (d.dpool g t a) (cnt (width g) t)

/-- The gradient of the pooled branch's input. -/
def dx (g : ℕ) (t : ℤ) (a : ℕ) : EReal := ∑ k ∈ Finset.range (width g), d.share g (t + k) a - d.dpool g t a

/-- One row's part of the gradient of the scale. -/
def scaleRow (g : ℕ) (t : ℤ) (b : ℕ) : EReal := d.dyp t (128 * g + b) * d.lin g t b

/-- One row's part of the gradient of a group's mixing matrix. -/
def mixRow (g : ℕ) (a b : ℕ) (t : ℤ) : EReal := d.pooled g t a * d.dlin g t b

end Data

end Cert.Mix

end
-- ==== Proof.Ops.lean ====
module

public import proofs.«01_k».proof.Proof.Spec

/-!
# Window sums by doubling

A block of 528 rows is 512 rows with 16 neighbours before or after them. Adding to such a block its own copy moved by
`w` rows turns the sums of `w` neighbouring rows into sums of `2 * w` rows, wherever no row has come around the end.
-/

@[expose] public section

set_option maxRecDepth 16384

noncomputable section

namespace Cert.Mix

open Idealize.ShloMosaic

/-- A sum over `w` terms and the next `w` terms is the sum over `2 * w` terms. -/
theorem sum_range_double (f : ℕ → EReal) (w : ℕ) :
    ∑ k ∈ Finset.range w, f k + ∑ k ∈ Finset.range w, f (w + k) = ∑ k ∈ Finset.range (2 * w), f k := by
  rw [two_mul, Finset.sum_range_add]

abbrev Tall (n : ℕ) : Shape := ⟨2, ![528, n]⟩

/-- The block moved down by `k` rows, at a row that no row from the end has reached. -/
theorem down_apply {n : ℕ} (b : BitVec 32) (k : ℕ) (hb : b.toNat = k) (hk : k < 528) (A : (Tall n).Idx → EReal)
    (h : (Tall n).Rotates 0 none) (r : Fin 528) (c : Fin n) (hr : k ≤ r.val) :
    dynamicRotate 0 b none A h (ix2 r c) = A (ix2 ⟨r.val - k, by omega⟩ c) := by
  unfold dynamicRotate
  refine congrArg A (funext fun a => Fin.ext ?_)
  have := r.isLt
  match a with
  | ⟨0, _⟩ => show (r.val + 528 - b.toNat % 528) % 528 = r.val - k; rw [hb]; omega
  | ⟨1, _⟩ => rfl

/-- The block moved up by `k` rows, at a row that no row from the start has reached. -/
theorem up_apply {n : ℕ} (b : BitVec 32) (k : ℕ) (hb : b.toNat = 528 - k) (hk : 0 < k) (A : (Tall n).Idx → EReal)
    (h : (Tall n).Rotates 0 none) (r : Fin 528) (c : Fin n) (hr : r.val + k < 528) :
    dynamicRotate 0 b none A h (ix2 r c) = A (ix2 ⟨r.val + k, hr⟩ c) := by
  unfold dynamicRotate
  refine congrArg A (funext fun a => Fin.ext ?_)
  have := r.isLt
  match a with
  | ⟨0, _⟩ => show (r.val + 528 - b.toNat % 528) % 528 = r.val + k; rw [hb]; omega
  | ⟨1, _⟩ => rfl

/-- From row `lo` on, `A` holds the sums of the `w` rows of `f` that end there. -/
def Sums {n : ℕ} (A : (Tall n).Idx → EReal) (f : ℤ → ℕ → EReal) (w lo : ℕ) : Prop :=
  ∀ (r : Fin 528) (c : Fin n), lo ≤ r.val → A (ix2 r c) = ∑ k ∈ Finset.range w, f ((r.val : ℤ) - k) c.val

/-- Up to row `hi`, `A` holds the sums of the `w` rows of `f` that start there. -/
def SumsUp {n : ℕ} (A : (Tall n).Idx → EReal) (f : ℤ → ℕ → EReal) (w hi : ℕ) : Prop :=
  ∀ (r : Fin 528) (c : Fin n), r.val < hi → A (ix2 r c) = ∑ k ∈ Finset.range w, f ((r.val : ℤ) + k) c.val

theorem Sums.one {n : ℕ} {A : (Tall n).Idx → EReal} {f : ℤ → ℕ → EReal} (h : ∀ r c, A (ix2 r c) = f (r.val : ℤ) c.val) :
    Sums A f 1 0 := by
  intro r c _; rw [h]; simp

theorem SumsUp.one {n : ℕ} {A : (Tall n).Idx → EReal} {f : ℤ → ℕ → EReal} (h : ∀ r c, A (ix2 r c) = f (r.val : ℤ) c.val) :
    SumsUp A f 1 528 := by
  intro r c _; rw [h]; simp

/-- One doubling, looking back. -/
theorem Sums.double {n : ℕ} {A : FVec Ideal (Tall n) .f32} {f : ℤ → ℕ → EReal} {w lo : ℕ} (b : BitVec 32) (hb : b.toNat = w)
    (h : (Tall n).Rotates 0 none) (hw : w < 528) (hA : Sums A f w lo) :
    Sums (addf A (dynamicRotate 0 b none A h)) f (2 * w) (lo + w) := by
  intro r c hr
  show A (ix2 r c) + dynamicRotate 0 b none A h (ix2 r c) = _
  rw [down_apply b w hb hw A h r c (by omega), hA r c (by omega), hA _ c (by show lo ≤ r.val - w; omega),
    ← sum_range_double]
  congr 1
  refine Finset.sum_congr rfl fun k _ => ?_
  congr 1
  show ((r.val - w : ℕ) : ℤ) - k = (r.val : ℤ) - ((w + k : ℕ) : ℤ)
  omega

/-- One doubling, looking ahead. -/
theorem SumsUp.double {n : ℕ} {A : FVec Ideal (Tall n) .f32} {f : ℤ → ℕ → EReal} {w hi : ℕ} (b : BitVec 32)
    (hb : b.toNat = 528 - w) (h : (Tall n).Rotates 0 none) (hw : 0 < w) (hhi : hi ≤ 528) (hA : SumsUp A f w hi) :
    SumsUp (addf A (dynamicRotate 0 b none A h)) f (2 * w) (hi - w) := by
  intro r c hr
  show A (ix2 r c) + dynamicRotate 0 b none A h (ix2 r c) = _
  rw [up_apply b w hb hw A h r c (by omega), hA r c (by omega), hA _ c (by show r.val + w < hi; omega),
    ← sum_range_double]
  congr 1
  refine Finset.sum_congr rfl fun k _ => ?_
  congr 1
  show ((r.val + w : ℕ) : ℤ) + k = (r.val : ℤ) + ((w + k : ℕ) : ℤ)
  omega

/-- The number of rows in a window, as the programs compute it from the row's number. -/
theorem count_word (r w : ℕ) (hr : r + 1 < 2 ^ 31) (hw : w < 2 ^ 31) :
    (FloatOps.sitofp .f32 (IntOp.minsi (IntOp.addi (BitVec.ofNat 32 r) 1#32) (BitVec.ofNat 32 w)) : Ideal .f32)
      = Data.cnt w (r : ℤ) := by
  have h1 : (IntOp.addi (BitVec.ofNat 32 r) 1#32).toInt = (r : ℤ) + 1 := by
    show (BitVec.ofNat 32 r + 1#32).toInt = _
    rw [BitVec.toInt_eq_toNat_cond, BitVec.toNat_add, BitVec.toNat_ofNat]
    norm_num
    omega
  have h2 : (BitVec.ofNat 32 w).toInt = (w : ℤ) := by
    rw [BitVec.toInt_eq_toNat_cond, BitVec.toNat_ofNat]
    norm_num
    omega
  have h3 : (IntOp.minsi (IntOp.addi (BitVec.ofNat 32 r) 1#32) (BitVec.ofNat 32 w)).toInt = min ((r : ℤ) + 1) w := by
    unfold IntOp.minsi
    by_cases h : (IntOp.addi (BitVec.ofNat 32 r) 1#32).slt (BitVec.ofNat 32 w) = true
    · rw [if_pos h, h1]
      rw [BitVec.slt_iff_toInt_lt, h1, h2] at h
      omega
    · rw [if_neg h, h2]
      rw [BitVec.slt_iff_toInt_lt, h1, h2] at h
      omega
  show (((IntOp.minsi (IntOp.addi (BitVec.ofNat 32 r) 1#32) (BitVec.ofNat 32 w)).toInt : ℝ) : EReal) = _
  rw [h3]; rfl

/-- A part of an array cut out at row `o` and column `p`, at an index. -/
theorem slice_apply {α : Type} {m n m' n' o p : ℕ} (A : (⟨2, ![m, n]⟩ : Shape).Idx → α)
    (h : (⟨2, ![m, n]⟩ : Shape).Slices ![o, p] ⟨2, ![m', n']⟩) (r : Fin m') (c : Fin n') (hr : o + r.val < m) (hc : p + c.val < n) :
    extractStridedSlice ⟨2, ![m', n']⟩ ![o, p] A h (ix2 r c) = A (ix2 ⟨o + r.val, hr⟩ ⟨p + c.val, hc⟩) :=
  extractStridedSlice_apply _ _ _ _ _ fun a => by
    match a with
    | ⟨0, _⟩ => rfl
    | ⟨1, _⟩ => rfl

/-- One row spread over all rows, at an index. -/
theorem row_apply {α : Type} {m n : ℕ} (v : (⟨2, ![1, n]⟩ : Shape).Idx → α) (h : (⟨2, ![1, n]⟩ : Shape).Broadcasts ⟨2, ![m, n]⟩)
    (r : Fin m) (c : Fin n) (hn : n ≠ 1) : broadcastTo ⟨2, ![m, n]⟩ v h (ix2 r c) = v (ix2 0 c) :=
  broadcastTo_apply _ _ _ _ fun a => by
    match a with
    | ⟨0, _⟩ => rfl
    | ⟨1, _⟩ => exact (if_neg hn).symm

/-- One column spread over all columns, at an index. -/
theorem col_apply {α : Type} {m n : ℕ} (v : (⟨2, ![m, 1]⟩ : Shape).Idx → α) (h : (⟨2, ![m, 1]⟩ : Shape).Broadcasts ⟨2, ![m, n]⟩)
    (r : Fin m) (c : Fin n) (hm : m ≠ 1) : broadcastTo ⟨2, ![m, n]⟩ v h (ix2 r c) = v (ix2 r 0) :=
  broadcastTo_apply _ _ _ _ fun a => by
    match a with
    | ⟨0, _⟩ => exact (if_neg hm).symm
    | ⟨1, _⟩ => rfl

/-- 16 rows before 512 rows. -/
theorem halo_first {n : ℕ} {X : (⟨2, ![16, n]⟩ : Shape).Idx → EReal} {Y : (⟨2, ![512, n]⟩ : Shape).Idx → EReal}
    (h : Shape.Concatenates [(⟨2, ![16, n]⟩ : Shape), ⟨2, ![512, n]⟩] (Tall n) 0) (f : ℤ → ℕ → EReal)
    (hX : ∀ r c, X (ix2 r c) = f (r.val : ℤ) c.val) (hY : ∀ r c, Y (ix2 r c) = f ((r.val : ℤ) + 16) c.val) (r : Fin 528) (c : Fin n) :
    concatenate (Tall n) 0 [⟨⟨2, ![16, n]⟩, X⟩, ⟨⟨2, ![512, n]⟩, Y⟩] h (ix2 r c) = f (r.val : ℤ) c.val := by
  by_cases hr : r.val < 16
  · rw [concatenate_pair_apply_left (t := Tall n) (0 : Fin 2) X Y h (ix2 r c) rfl (ix2 (⟨r.val, hr⟩ : Fin 16) c) (by
      intro a
      match a with
      | ⟨0, _⟩ => rfl
      | ⟨1, _⟩ => rfl), hX]
  · have := r.isLt
    rw [concatenate_pair_apply_right (t := Tall n) (0 : Fin 2) X Y h (ix2 r c) rfl rfl (ix2 (⟨r.val - 16, by omega⟩ : Fin 512) c) (by
      intro a ha
      match a with
      | ⟨0, _⟩ => exact absurd rfl ha
      | ⟨1, _⟩ => rfl) (by show r.val - 16 + 16 = r.val; omega), hY]
    congr 1
    show ((r.val - 16 : ℕ) : ℤ) + 16 = r.val
    omega

/-- 16 rows after 512 rows. -/
theorem halo_last {n : ℕ} {X : (⟨2, ![512, n]⟩ : Shape).Idx → EReal} {Y : (⟨2, ![16, n]⟩ : Shape).Idx → EReal}
    (h : Shape.Concatenates [(⟨2, ![512, n]⟩ : Shape), ⟨2, ![16, n]⟩] (Tall n) 0) (f : ℤ → ℕ → EReal)
    (hX : ∀ r c, X (ix2 r c) = f (r.val : ℤ) c.val) (hY : ∀ r c, Y (ix2 r c) = f ((r.val : ℤ) + 512) c.val) (r : Fin 528) (c : Fin n) :
    concatenate (Tall n) 0 [⟨⟨2, ![512, n]⟩, X⟩, ⟨⟨2, ![16, n]⟩, Y⟩] h (ix2 r c) = f (r.val : ℤ) c.val := by
  by_cases hr : r.val < 512
  · rw [concatenate_pair_apply_left (t := Tall n) (0 : Fin 2) X Y h (ix2 r c) rfl (ix2 (⟨r.val, hr⟩ : Fin 512) c) (by
      intro a
      match a with
      | ⟨0, _⟩ => rfl
      | ⟨1, _⟩ => rfl), hX]
  · have := r.isLt
    rw [concatenate_pair_apply_right (t := Tall n) (0 : Fin 2) X Y h (ix2 r c) rfl rfl (ix2 (⟨r.val - 512, by omega⟩ : Fin 16) c) (by
      intro a ha
      match a with
      | ⟨0, _⟩ => exact absurd rfl ha
      | ⟨1, _⟩ => rfl) (by show r.val - 512 + 512 = r.val; omega), hY]
    congr 1
    show ((r.val - 512 : ℕ) : ℤ) + 512 = r.val
    omega

end Cert.Mix

end
-- ==== Proof.PayConv.lean ====
module

public import proofs.«01_k».proof.Proof.Ops
public import proofs.«01_k».proof.Proof.Gen.KernelIdeal.Skeleton

/-!
# The convolution's part of the kernel's body

What the body computes for the gates and the convolution at one grid point, at an index, in the terms of `Cert.Mix`.
-/

@[expose] public section

set_option maxRecDepth 16384

noncomputable section

namespace Cert.KernelIdeal.Pay

open Cert.KernelIdeal Cert.KernelIdeal.Gen Cert.Mix Idealize.ShloMosaic
open KernelIdeal.Facts

variable [KernelIdeal.Facts]

/-- The blocks a grid point finds: 512 rows of each array, the 16 rows before them and the 16 rows after them. -/
structure Blocks (d : Data) (i : grid0.Coords) (x0 x1 x2 x3 : Vec Ideal S512x512 .bf16) (x4 x5 x6 x7 : Vec Ideal S16x512 .bf16)
    (x8 : Vec Ideal S512x1024 .bf16) (x9 : Vec Ideal S16x1024 .bf16) (x10 : Vec Ideal S3x512 .f32)
    (x11 : Vec Ideal S4x128x128 .bf16) (x12 : Vec Ideal S1x512 .f32) : Prop where
  lt : (i 0).val < 16
  gb : ∀ (r : Fin 512) (c : Fin 512), x0 (ix2 r c) = d.gb (512 * (i 0).val + r.val) c.val
  gc : ∀ (r : Fin 512) (c : Fin 512), x1 (ix2 r c) = d.gc (512 * (i 0).val + r.val) c.val
  ci : ∀ (r : Fin 512) (c : Fin 512), x2 (ix2 r c) = d.ci (512 * (i 0).val + r.val) c.val
  x : ∀ (r : Fin 512) (c : Fin 512), x3 (ix2 r c) = d.x (512 * (i 0).val + r.val) c.val
  gcPrev : (i 0).val ≠ 0 → ∀ (r : Fin 16) (c : Fin 512), x4 (ix2 r c) = d.gc (512 * (i 0).val + r.val - 16) c.val
  ciPrev : (i 0).val ≠ 0 → ∀ (r : Fin 16) (c : Fin 512), x5 (ix2 r c) = d.ci (512 * (i 0).val + r.val - 16) c.val
  xPrev : (i 0).val ≠ 0 → ∀ (r : Fin 16) (c : Fin 512), x6 (ix2 r c) = d.x (512 * (i 0).val + r.val - 16) c.val
  gbNext : (i 0).val ≠ 15 → ∀ (r : Fin 16) (c : Fin 512), x7 (ix2 r c) = d.gb (512 * (i 0).val + r.val + 512) c.val
  dyc : ∀ (r : Fin 512) (c : Fin 1024), c.val < 512 → x8 (ix2 r c) = d.dyc (512 * (i 0).val + r.val) c.val
  dyp : ∀ (r : Fin 512) (c : Fin 1024), 512 ≤ c.val → x8 (ix2 r c) = d.dyp (512 * (i 0).val + r.val) (c.val - 512)
  dycNext : (i 0).val ≠ 15 → ∀ (r : Fin 16) (c : Fin 1024), c.val < 512 → x9 (ix2 r c) = d.dyc (512 * (i 0).val + r.val + 512) c.val
  dypNext : (i 0).val ≠ 15 → ∀ (r : Fin 16) (c : Fin 1024), 512 ≤ c.val → x9 (ix2 r c) = d.dyp (512 * (i 0).val + r.val + 512) (c.val - 512)
  cw : ∀ (k : Fin 3) (c : Fin 512), x10 (ix2 k c) = d.cw k.val c.val
  pw : ∀ (g : Fin 4) (a b : Fin 128), x11 (ix3 g a b) = d.pw g.val a.val b.val
  ps : ∀ (c : Fin 512), x12 (ix2 0 c) = d.ps c.val
  before : ∀ t : ℤ, t < 0 → ∀ c, d.gc t c = 0 ∧ d.x t c = 0
  behind : ∀ t : ℤ, 8192 ≤ t → ∀ c, d.dyc t c = 0 ∧ d.dyp t c = 0

variable {d : Data} {i : grid0.Coords} {x0 x1 x2 x3 : Vec Ideal S512x512 .bf16} {x4 x5 x6 x7 : Vec Ideal S16x512 .bf16}
    {x8 : Vec Ideal S512x1024 .bf16} {x9 : Vec Ideal S16x1024 .bf16} {x10 : Vec Ideal S3x512 .f32}
    {x11 : Vec Ideal S4x128x128 .bf16} {x12 : Vec Ideal S1x512 .f32}

/-- The factor of the rows before: zero at the first grid point, one elsewhere. -/
theorem first_eq (i : grid0.Coords) : (k0_pay5 i : Ideal .f32) = if (i 0).val = 0 then 0 else 1 := by
  have h := (i 0).isLt
  show Scalar.select (Scalar.cmpi .eq (BitVec.ofNat 32 (i 0).val) 0#32) (Ideal.ofBits .f32 0x00000000#32) (Ideal.ofBits .f32 0x3F800000#32) = _
  rw [Ideal.ofBits_zero_f32, Ideal.ofBits_one_f32]
  have : ∀ k : Fin 16, Scalar.cmpi .eq (BitVec.ofNat 32 k.val) 0#32 = if k.val = 0 then 1#1 else 0#1 := by decide
  rw [this ⟨(i 0).val, h⟩]
  split <;> rfl

/-- The factor of the rows after: zero at the last grid point, one elsewhere. -/
theorem last_eq (i : grid0.Coords) (r : Fin 16) (c : Fin 1024) :
    (k0_pay15 i : FVec Ideal S16x1024 .f32) (ix2 r c) = if (i 0).val = 15 then 0 else 1 := by
  have h := (i 0).isLt
  show Scalar.select (Scalar.cmpi .eq (BitVec.ofNat 32 (i 0).val) 15#32) (Ideal.ofBits .f32 0x00000000#32) (Ideal.ofBits .f32 0x3F800000#32) = _
  rw [Ideal.ofBits_zero_f32, Ideal.ofBits_one_f32]
  have : ∀ k : Fin 16, Scalar.cmpi .eq (BitVec.ofNat 32 k.val) 15#32 = if k.val = 15 then 1#1 else 0#1 := by decide
  rw [this ⟨(i 0).val, h⟩]
  split <;> rfl

variable (B : Blocks d i x0 x1 x2 x3 x4 x5 x6 x7 x8 x9 x10 x11 x12)
include B

/-- The gated input with its 16 rows before. -/
theorem pay10_apply (r : Fin 528) (c : Fin 512) :
    k0_pay10 i x1 x2 x4 x5 (ix2 r c) = d.u (512 * (i 0).val + r.val - 16) c.val := by
  unfold k0_pay10
  refine halo_first _ (fun t c => d.u (512 * (i 0).val + t - 16) c) ?_ ?_ r c
  · intro r c
    show x4 (ix2 r c) * x5 (ix2 r c) * k0_pay5 (F := Ideal) i = _
    rw [first_eq]
    by_cases h : (i 0).val = 0
    · rw [if_pos h, mul_zero]
      have := r.isLt
      rw [Data.u, (B.before _ (by omega) _).1, zero_mul]
    · rw [if_neg h, mul_one, B.gcPrev h, B.ciPrev h]; rfl
  · intro r c
    show x1 (ix2 r c) * x2 (ix2 r c) = _
    rw [B.gc, B.ci]
    show _ = d.u _ _
    rw [show (512 * ((i 0).val : ℤ) + (r.val + 16) - 16) = 512 * ((i 0).val : ℤ) + r.val by ring]; rfl

theorem pay9_apply (r : Fin 512) (c : Fin 512) : k0_pay9 x1 x2 (ix2 r c) = d.u (512 * (i 0).val + r.val) c.val := by
  show x1 (ix2 r c) * x2 (ix2 r c) = _
  rw [B.gc, B.ci]; rfl

theorem pay11_apply (r : Fin 512) (c : Fin 512) :
    k0_pay11 i x1 x2 x4 x5 (ix2 r c) = d.u (512 * (i 0).val + r.val - 1) c.val := by
  have := r.isLt
  unfold k0_pay11
  dsimp only
  rw [slice_apply _ _ r c (by omega) (by omega), down_apply 1#32 1 rfl (by omega) _ _ _ _ (by show 1 ≤ 16 + r.val; omega), pay10_apply B]
  congr 1
  · show 512 * ((i 0).val : ℤ) + ((16 + r.val - 1 : ℕ) : ℤ) - 16 = _; omega
  · show 0 + c.val = _; omega

theorem pay12_apply (r : Fin 512) (c : Fin 512) :
    k0_pay12 i x1 x2 x4 x5 (ix2 r c) = d.u (512 * (i 0).val + r.val - 2) c.val := by
  have := r.isLt
  unfold k0_pay12
  dsimp only
  rw [slice_apply _ _ r c (by omega) (by omega), down_apply 2#32 2 rfl (by omega) _ _ _ _ (by show 2 ≤ 16 + r.val; omega), pay10_apply B]
  congr 1
  · show 512 * ((i 0).val : ℤ) + ((16 + r.val - 2 : ℕ) : ℤ) - 16 = _; omega
  · show 0 + c.val = _; omega

/-- A tap, spread over the rows. -/
theorem tap_apply (k : ℕ) (hk : k < 3) (h : S3x512.Slices ![k, 0] S1x512) (h' : S1x512.Broadcasts S512x512) (r : Fin 512) (c : Fin 512) :
    broadcastTo S512x512 (extractStridedSlice S1x512 ![k, 0] x10 h) h' (ix2 r c) = d.cw k c.val := by
  rw [row_apply _ _ _ _ (by omega), slice_apply _ _ _ _ (by show k + 0 < 3; omega) (by omega), B.cw]
  congr 1
  show 0 + c.val = _; omega

theorem pay17_apply (r : Fin 512) (c : Fin 512) :
    k0_pay17 (k0_pay13 x8) (ix2 r c) = d.dyc (512 * (i 0).val + r.val) c.val := by
  have := r.isLt; have := c.isLt
  unfold k0_pay17
  dsimp only
  rw [slice_apply _ _ r c (by omega) (by omega)]
  show x8 _ = _
  rw [B.dyc _ _ (by show 0 + c.val < _; omega)]
  congr 1
  · show 512 * ((i 0).val : ℤ) + ((0 + r.val : ℕ) : ℤ) = _; omega
  · show 0 + c.val = _; omega

/-- The gradient of the output gate. -/
theorem pay18_apply (r : Fin 512) (c : Fin 512) :
    k0_pay18 (k0_pay9 x1 x2) (k0_pay11 i x1 x2 x4 x5) (k0_pay12 i x1 x2 x4 x5) x10 (k0_pay13 x8) (ix2 r c)
      = d.dgb (512 * (i 0).val + r.val) c.val := by
  unfold k0_pay18
  dsimp only
  rw [truncf_apply, mulf_apply, addf_apply, addf_apply, mulf_apply, mulf_apply, mulf_apply, pay17_apply B, tap_apply B 0 (by omega),
    tap_apply B 1 (by omega), tap_apply B 2 (by omega), pay12_apply B, pay11_apply B, pay9_apply B]
  rfl

theorem pay19_apply (r : Fin 512) (c : Fin 512) :
    k0_pay19 (k0_pay6 x0) (k0_pay13 x8) (ix2 r c) = d.dc (512 * (i 0).val + r.val) c.val := by
  show k0_pay17 (k0_pay13 x8) (ix2 r c) * x0 (ix2 r c) = _
  rw [pay17_apply B, B.gb]; rfl

/-- The gradient of the gated input. -/
theorem pay20_apply (r : Fin 512) (c : Fin 512) :
    k0_pay20 (k0_pay6 x0) x10 (k0_pay13 x8) (k0_pay14 x9) (k0_pay15 i) x7 (ix2 r c) = d.du (512 * (i 0).val + r.val) c.val := by
  have := r.isLt; have := c.isLt
  unfold k0_pay20
  dsimp only
  have E : ∀ (h : Shape.Concatenates [S512x512, S16x512] S528x512 0) (r : Fin 528) (c : Fin 512),
      concatenate S528x512 0 [⟨S512x512, k0_pay19 (k0_pay6 x0) (k0_pay13 x8)⟩, ⟨S16x512, mulf
        (extractStridedSlice S16x512 ![0, 0] (k0_pay16 (k0_pay14 x9) (k0_pay15 i)) slices_S16x1024_o0_0_S16x512)
        (extf .f32 x7 bitsLt_bf16_f32)⟩] h (ix2 r c) = d.dc (512 * (i 0).val + r.val) c.val := by
    intro h r c
    refine halo_last _ (fun t c => d.dc (512 * (i 0).val + t) c) ?_ ?_ r c
    · intro r c; exact pay19_apply B r c
    · intro r c
      have := r.isLt; have := c.isLt
      rw [mulf_apply, slice_apply _ _ r c (by omega) (by omega), extf_apply]
      show (x9 _ : EReal) * (k0_pay15 (F := Ideal) i _ : EReal) * _ = _
      rw [last_eq]
      by_cases hl : (i 0).val = 15
      · rw [if_pos hl, mul_zero, zero_mul]
        show _ = d.dc _ _
        rw [Data.dc, (B.behind _ (by omega) _).1, zero_mul]
      · rw [if_neg hl, mul_one, B.dycNext hl _ _ (by show 0 + c.val < _; omega), B.gbNext hl]
        show _ = d.dc _ _
        rw [Data.dc]
        congr 2
        · show 512 * ((i 0).val : ℤ) + ((0 + r.val : ℕ) : ℤ) + 512 = _; omega
        · show 0 + c.val = _; omega
  rw [addf_apply, addf_apply, mulf_apply, mulf_apply, mulf_apply, tap_apply B 2 (by omega), tap_apply B 1 (by omega),
    tap_apply B 0 (by omega), pay19_apply B, slice_apply _ _ r c (by omega) (by omega), slice_apply _ _ r c (by omega) (by omega),
    up_apply 527#32 1 rfl (by omega) _ _ _ _ (by show 0 + r.val + 1 < _; omega),
    up_apply 526#32 2 rfl (by omega) _ _ _ _ (by show 0 + r.val + 2 < _; omega), E, E]
  unfold Data.du
  congr 3
  · congr 1
    · show 512 * ((i 0).val : ℤ) + ((0 + r.val + 1 : ℕ) : ℤ) = _; omega
    · show 0 + c.val = _; omega
  · show 512 * ((i 0).val : ℤ) + ((0 + r.val + 2 : ℕ) : ℤ) = _; omega
  · show 0 + c.val = _; omega

theorem pay21_apply (r : Fin 512) (c : Fin 512) :
    k0_pay21 (k0_pay6 x0) (k0_pay8 x2) x10 (k0_pay13 x8) (k0_pay14 x9) (k0_pay15 i) x7 (ix2 r c)
      = d.dgc (512 * (i 0).val + r.val) c.val := by
  show k0_pay20 (k0_pay6 x0) x10 (k0_pay13 x8) (k0_pay14 x9) (k0_pay15 i) x7 (ix2 r c) * x2 (ix2 r c) = _
  rw [pay20_apply B, B.ci]; rfl

theorem pay22_apply (r : Fin 512) (c : Fin 512) :
    k0_pay22 (k0_pay6 x0) (k0_pay7 x1) x10 (k0_pay13 x8) (k0_pay14 x9) (k0_pay15 i) x7 (ix2 r c)
      = d.dci (512 * (i 0).val + r.val) c.val := by
  show k0_pay20 (k0_pay6 x0) x10 (k0_pay13 x8) (k0_pay14 x9) (k0_pay15 i) x7 (ix2 r c) * x1 (ix2 r c) = _
  rw [pay20_apply B, B.gc]; rfl

omit B in
/-- Adding a block's column sums to a row. -/
theorem colSum_apply {n : ℕ} (A : FVec Ideal ⟨2, ![512, n]⟩ .f32) (h : (⟨2, ![512, n]⟩ : Shape).Reduces [0] ⟨1, ![n]⟩)
    (h' : (⟨1, ![n]⟩ : Shape).ShapeCasts ⟨2, ![1, n]⟩) (c : Fin n) :
    shapeCast ⟨2, ![1, n]⟩ (multiReduction .add [0] ⟨1, ![n]⟩ A 0x00000000#32 h (.inl rfl) rfl) h' (ix2 0 c)
      = ∑ r : Fin 512, A (ix2 r c) := by
  rw [shapeCast_apply _ h' _ (ix1 c) (by
    rw [Shape.rowMajor_val_one, Shape.rowMajor_val_two]; show c.val = 0 * n + c.val; omega)]
  refine (Ideal.multiReduction_add_single A _ h _ _ _).trans ?_
  refine Finset.sum_congr rfl fun r _ => congrArg A (funext fun a => Fin.ext ?_)
  match a with
  | ⟨0, _⟩ => rfl
  | ⟨1, _⟩ => rfl

omit B in
theorem recast_apply {n : ℕ} (v : (⟨2, ![1, n]⟩ : Shape).Idx → EReal) (h : (⟨2, ![1, n]⟩ : Shape).ShapeCasts ⟨2, ![1, n]⟩) :
    shapeCast ⟨2, ![1, n]⟩ v h = v := shapeCast_self v h

/-- One point's part of the gradient of tap 0, added to what was there. -/
theorem pay24_apply (v : FVec Ideal S1x512 .f32) (c : Fin 512) :
    k0_pay24 (k0_pay12 i x1 x2 x4 x5) (k0_pay19 (k0_pay6 x0) (k0_pay13 x8)) (k0_pay23 v) (ix2 0 c)
      = v (ix2 0 c) + ∑ r : Fin 512, d.tap 0 (512 * (i 0).val + r.val) c.val := by
  unfold k0_pay24 k0_pay23
  dsimp only
  rw [addf_apply, recast_apply, colSum_apply]
  refine congrArg _ (Finset.sum_congr rfl fun r _ => ?_)
  rw [mulf_apply, pay19_apply B, pay12_apply B]
  unfold Data.tap
  congr 2; push_cast; ring

/-- One point's part of the gradient of tap 1, added to what was there. -/
theorem pay25_apply (v : FVec Ideal S1x512 .f32) (c : Fin 512) :
    k0_pay25 (k0_pay11 i x1 x2 x4 x5) (k0_pay19 (k0_pay6 x0) (k0_pay13 x8)) v (ix2 0 c)
      = v (ix2 0 c) + ∑ r : Fin 512, d.tap 1 (512 * (i 0).val + r.val) c.val := by
  unfold k0_pay25
  dsimp only
  rw [addf_apply, recast_apply, colSum_apply]
  refine congrArg _ (Finset.sum_congr rfl fun r _ => ?_)
  rw [mulf_apply, pay19_apply B, pay11_apply B]
  unfold Data.tap
  congr 2; push_cast; ring

/-- One point's part of the gradient of tap 2, added to what was there. -/
theorem pay26_apply (v : FVec Ideal S1x512 .f32) (c : Fin 512) :
    k0_pay26 (k0_pay9 x1 x2) (k0_pay19 (k0_pay6 x0) (k0_pay13 x8)) v (ix2 0 c)
      = v (ix2 0 c) + ∑ r : Fin 512, d.tap 2 (512 * (i 0).val + r.val) c.val := by
  unfold k0_pay26
  dsimp only
  rw [addf_apply, recast_apply, colSum_apply]
  refine congrArg _ (Finset.sum_congr rfl fun r _ => ?_)
  rw [mulf_apply, pay19_apply B, pay9_apply B]
  unfold Data.tap
  congr 2; push_cast; ring

end Cert.KernelIdeal.Pay

end
-- ==== Proof.PayPool.lean ====
module

public import proofs.«01_k».proof.Proof.PayConv

/-!
# The pooled branch's part of the kernel's body

What the body computes for the four groups of pooled channels at one grid point, at an index, in the terms of `Cert.Mix`.
-/

@[expose] public section

set_option maxRecDepth 16384

noncomputable section

namespace Cert.KernelIdeal.Pay

open Cert.KernelIdeal Cert.KernelIdeal.Gen Cert.Mix Idealize.ShloMosaic
open KernelIdeal.Facts

variable [KernelIdeal.Facts]

/-- The number of row `r` of grid point `n`, as the body computes it. -/
theorem row_word {m : ℕ} (n : ℕ) (hm : m ≤ 528) (h : (⟨2, ![m, 1]⟩ : Shape).Iotas .tc 32 [0]) (r : Fin m) :
    (addi (broadcast ⟨2, ![m, 1]⟩ (Scalar.muli (BitVec.ofNat 32 n) 512#32)) (iota .tc ⟨2, ![m, 1]⟩ 32 [0] h) : IVec ⟨2, ![m, 1]⟩ 32) (ix2 r 0)
      = BitVec.ofNat 32 (512 * n + r.val) := by
  show IntOp.addi (IntOp.muli (BitVec.ofNat 32 n) 512#32) (iota .tc ⟨2, ![m, 1]⟩ 32 [0] h (ix2 r 0)) = _
  rw [iota_single_apply]
  show BitVec.ofNat 32 n * 512#32 + BitVec.ofNat 32 r.val = _
  apply BitVec.eq_of_toNat_eq
  simp only [BitVec.toNat_add, BitVec.toNat_mul, BitVec.toNat_ofNat]
  omega

/-- The number of rows in the window of a row of the block. -/
theorem count_apply {m : ℕ} (n w : ℕ) (hm : m ≤ 528) (hn : n < 16) (hw : w < 2 ^ 31) (v : IVec ⟨2, ![m, 1]⟩ 32)
    (hv : ∀ r : Fin m, v (ix2 r 0) = BitVec.ofNat 32 (512 * n + r.val)) (r : Fin m) :
    (sitofp .f32 (minsi (addi v (broadcast ⟨2, ![m, 1]⟩ 1#32)) (broadcast ⟨2, ![m, 1]⟩ (BitVec.ofNat 32 w))) : FVec Ideal ⟨2, ![m, 1]⟩ .f32) (ix2 r 0)
      = Data.cnt w (512 * n + r.val) := by
  have := r.isLt
  show FloatOps.sitofp .f32 (IntOp.minsi (IntOp.addi (v (ix2 r 0)) 1#32) (BitVec.ofNat 32 w)) = _
  rw [hv, count_word _ _ (by omega) hw]
  congr 1

variable {d : Data} {i : grid0.Coords} {x0 x1 x2 x3 : Vec Ideal S512x512 .bf16} {x4 x5 x6 x7 : Vec Ideal S16x512 .bf16}
    {x8 : Vec Ideal S512x1024 .bf16} {x9 : Vec Ideal S16x1024 .bf16} {x10 : Vec Ideal S3x512 .f32}
    {x11 : Vec Ideal S4x128x128 .bf16} {x12 : Vec Ideal S1x512 .f32}

theorem pay29_apply (n : ℕ) (r : Fin 512) : k0_pay29 (BitVec.ofNat 32 n) (ix2 r 0) = BitVec.ofNat 32 (512 * n + r.val) :=
  row_word n (by omega) _ r

theorem pay30_apply (n : ℕ) (r : Fin 528) : k0_pay30 (BitVec.ofNat 32 n) (ix2 r 0) = BitVec.ofNat 32 (512 * n + r.val) :=
  row_word n (by omega) _ r

/-- The mean of a window less the row itself. -/
theorem pooled_of {g w : ℕ} (hg : Data.width g = w) {W : FVec Ideal S528x128 .f32} {X : FVec Ideal S512x128 .f32} {v : IVec S512x1 32} {lo : ℕ}
    (hn : (i 0).val < 16) (hw : w < 2 ^ 31) (hlo : lo ≤ 16)
    (hW : Sums W (fun t c => d.x (512 * (i 0).val + t - 16) (128 * g + c)) w lo)
    (hX : ∀ (r : Fin 512) (a : Fin 128), X (ix2 r a) = d.x (512 * (i 0).val + r.val) (128 * g + a.val))
    (hv : ∀ r : Fin 512, v (ix2 r 0) = BitVec.ofNat 32 (512 * (i 0).val + r.val)) (h : S528x128.Slices ![16, 0] S512x128)
    (h' : S512x1.Broadcasts S512x128) (r : Fin 512) (a : Fin 128) :
    subf (divf (extractStridedSlice S512x128 ![16, 0] W h) (broadcastTo S512x128
      (sitofp .f32 (minsi (addi v (broadcast S512x1 1#32)) (broadcast S512x1 (BitVec.ofNat 32 w)))) h')) X (ix2 r a)
      = d.pooled g (512 * (i 0).val + r.val) a.val := by
  have := r.isLt
  rw [subf_apply, divf_apply, slice_apply _ _ r a (by omega) (by omega), hW _ _ (by show lo ≤ 16 + r.val; omega), hX, col_apply _ _ _ _ (by omega),
    count_apply (i 0).val w (by omega) hn hw v hv r]
  unfold Data.pooled Data.win
  rw [hg]
  congr 2
  refine Finset.sum_congr rfl fun k _ => ?_
  show d.x _ _ = d.x _ _
  congr 1
  · push_cast; ring
  · simp only [Nat.zero_add]

/-- A product of a block with a mixing matrix. -/
theorem lin_of {g : ℕ} {P : FVec Ideal S512x128 .bf16} {M : FVec Ideal S128x128 .bf16}
    (hP : ∀ (r : Fin 512) (a : Fin 128), P (ix2 r a) = d.pooled g (512 * (i 0).val + r.val) a.val)
    (hM : ∀ a b : Fin 128, M (ix2 a b) = d.pw g a.val b.val) (r : Fin 512) (b : Fin 128) :
    matmul dot_S512x128_S128x128_S512x128_1_0_0_1_n_n none P M (constant (F := Ideal) S512x128 .f32 0x00000000#32) (ix2 r b)
      = d.lin g (512 * (i 0).val + r.val) b.val := by
  pointwise
  unfold Data.lin
  exact Finset.sum_congr rfl fun a _ => by rw [hP, hM]

/-- A product of a block with a mixing matrix's transpose. -/
theorem dpool_of {g : ℕ} {L : FVec Ideal S528x128 .bf16} {M : FVec Ideal S128x128 .bf16}
    (hL : ∀ (r : Fin 528) (b : Fin 128), L (ix2 r b) = d.dlin g (512 * (i 0).val + r.val) b.val)
    (hM : ∀ a b : Fin 128, M (ix2 a b) = d.pw g a.val b.val) (r : Fin 528) (a : Fin 128) :
    matmul dot_S528x128_S128x128_S528x128_1_1_0_0_n_n none L M (constant (F := Ideal) S528x128 .f32 0x00000000#32) (ix2 r a)
      = d.dpool g (512 * (i 0).val + r.val) a.val := by
  pointwise
  unfold Data.dpool
  exact Finset.sum_congr rfl fun b _ => by rw [hL, hM]

/-- One point's part of the gradient of a mixing matrix, added to what was there. -/
theorem mix_of {g : ℕ} {P : FVec Ideal S512x128 .bf16} {L : FVec Ideal S528x128 .bf16}
    (hP : ∀ (r : Fin 512) (a : Fin 128), P (ix2 r a) = d.pooled g (512 * (i 0).val + r.val) a.val)
    (hL : ∀ (r : Fin 528) (b : Fin 128), L (ix2 r b) = d.dlin g (512 * (i 0).val + r.val) b.val)
    (h : S528x128.Slices ![0, 0] S512x128) (v : Vec Ideal S1x128x128 .f32) (h1 : S1x128x128.ShapeCasts S128x128)
    (h2 : S128x128.ShapeCasts S1x128x128) (a b : Fin 128) :
    shapeCast S1x128x128 (addf (shapeCast S128x128 v h1) (matmul dot_S512x128_S512x128_S128x128_0_0_1_1_n_n none P
        (extractStridedSlice S512x128 ![0, 0] L h) (constant (F := Ideal) S128x128 .f32 0x00000000#32))) h2 (ix3 0 a b)
      = v (ix3 0 a b) + ∑ r : Fin 512, d.mixRow g a.val b.val (512 * (i 0).val + r.val) := by
  pointwise
  refine congrArg _ (Finset.sum_congr rfl fun r _ => ?_)
  rw [hP, hL]; rfl

/-- A mixing matrix out of its unit axis. -/
theorem mat_of {g : ℕ} {v : Vec Ideal S1x128x128 .bf16} (h : S1x128x128.ShapeCasts S128x128)
    (hv : ∀ a b : Fin 128, v (ix3 0 a b) = d.pw g a.val b.val) (a b : Fin 128) :
    (shapeCast S128x128 v h : FVec Ideal S128x128 .bf16) (ix2 a b) = d.pw g a.val b.val := by
  pointwise
  exact hv a b

/-- One point's part of the gradient of the scale, added to what was there. -/
theorem scale_of {g : ℕ} {Y : FVec Ideal S512x128 .f32} {L : FVec Ideal S512x128 .f32}
    (hY : ∀ (r : Fin 512) (b : Fin 128), Y (ix2 r b) = d.dyp (512 * (i 0).val + r.val) (128 * g + b.val))
    (hL : ∀ (r : Fin 512) (b : Fin 128), L (ix2 r b) = d.lin g (512 * (i 0).val + r.val) b.val)
    (v : Vec Ideal S1x128 .f32) (h : S1x128.ShapeCasts S1x128) (h1 : S512x128.Reduces [0] S128) (h2 : S128.ShapeCasts S1x128) (b : Fin 128) :
    addf (shapeCast S1x128 v h : FVec Ideal S1x128 .f32)
        (shapeCast S1x128 (multiReduction .add [0] S128 (mulf Y L) 0x00000000#32 h1 (.inl rfl) rfl) h2) (ix2 0 b)
      = v (ix2 0 b) + ∑ r : Fin 512, d.scaleRow g (512 * (i 0).val + r.val) b.val := by
  rw [addf_apply, recast_apply, colSum_apply]
  refine congrArg _ (Finset.sum_congr rfl fun r _ => ?_)
  rw [mulf_apply, hY, hL]; rfl

/-- The window's shares, gathered back. -/
theorem dx_of {g w : ℕ} (hg : Data.width g = w) {R D : FVec Ideal S528x128 .f32} {hi : ℕ} (hhi : 512 ≤ hi)
    (hR : SumsUp R (fun t c => d.share g (512 * (i 0).val + t) c) w hi)
    (hD : ∀ (r : Fin 528) (a : Fin 128), D (ix2 r a) = d.dpool g (512 * (i 0).val + r.val) a.val)
    (h h' : S528x128.Slices ![0, 0] S512x128) (r : Fin 512) (a : Fin 128) :
    subf (extractStridedSlice S512x128 ![0, 0] R h) (extractStridedSlice S512x128 ![0, 0] D h') (ix2 r a)
      = d.dx g (512 * (i 0).val + r.val) a.val := by
  have := r.isLt
  rw [subf_apply, slice_apply _ _ r a (by omega) (by omega), slice_apply _ _ r a (by omega) (by omega), hR _ _ (by show 0 + r.val < hi; omega), hD]
  unfold Data.dx
  rw [hg]
  simp only [Nat.zero_add]
  congr 2
  funext k
  congr 1
  ring

/-- The shares of a block's rows. -/
theorem share_of {g w : ℕ} (hg : Data.width g = w) {D : FVec Ideal S528x128 .f32} {v : IVec S528x1 32}
    (hn : (i 0).val < 16) (hw : w < 2 ^ 31)
    (hD : ∀ (r : Fin 528) (a : Fin 128), D (ix2 r a) = d.dpool g (512 * (i 0).val + r.val) a.val)
    (hv : ∀ r : Fin 528, v (ix2 r 0) = BitVec.ofNat 32 (512 * (i 0).val + r.val)) (h' : S528x1.Broadcasts S528x128) :
    SumsUp (divf D (broadcastTo S528x128 (sitofp .f32 (minsi (addi v (broadcast S528x1 1#32)) (broadcast S528x1 (BitVec.ofNat 32 w)))) h') : FVec Ideal S528x128 .f32)
      (fun t c => d.share g (512 * (i 0).val + t) c) 1 528 := by
  apply SumsUp.one
  intro r a
  rw [divf_apply, hD, col_apply _ _ _ _ (by omega), count_apply (i 0).val w (by omega) hn hw v hv r]
  unfold Data.share
  rw [hg]
  rfl

variable (B : Blocks d i x0 x1 x2 x3 x4 x5 x6 x7 x8 x9 x10 x11 x12)
include B

/-- A group's columns of the pooled branch's input. -/
theorem x_cols {g o : ℕ} (ho : 128 * g = o) (hg : g < 4) (h : S512x512.Slices ![0, o] S512x128) (r : Fin 512) (a : Fin 128) :
    extractStridedSlice S512x128 ![0, o] (k0_pay27 x3) h (ix2 r a) = d.x (512 * (i 0).val + r.val) (128 * g + a.val) := by
  have := r.isLt; have := a.isLt
  rw [slice_apply _ _ r a (by omega) (by omega)]
  show x3 _ = _
  rw [B.x]
  subst ho
  simp only [Nat.zero_add]

/-- A group's columns of the pooled branch's input, with the 16 rows before. -/
theorem x_ext {g o : ℕ} (ho : 128 * g = o) (hg : g < 4) (h : S512x512.Slices ![0, o] S512x128) (h' : S16x512.Slices ![0, o] S16x128)
    (hc : Shape.Concatenates [S16x128, S512x128] S528x128 0) :
    Sums (concatenate S528x128 0 [⟨S16x128, mulf (extractStridedSlice S16x128 ![0, o] (k0_pay28 x6) h') (broadcast S16x128 (k0_pay5 (F := Ideal) i))⟩,
        ⟨S512x128, extractStridedSlice S512x128 ![0, o] (k0_pay27 x3) h⟩] hc)
      (fun t c => d.x (512 * (i 0).val + t - 16) (128 * g + c)) 1 0 := by
  apply Sums.one
  refine halo_first _ (fun t c => d.x (512 * (i 0).val + t - 16) (128 * g + c)) ?_ ?_
  · intro r a
    have := r.isLt; have := a.isLt
    rw [mulf_apply, slice_apply _ _ r a (by omega) (by omega)]
    show x6 _ * k0_pay5 (F := Ideal) i = _
    rw [first_eq]
    by_cases h : (i 0).val = 0
    · rw [if_pos h, mul_zero]
      show _ = d.x _ _
      rw [(B.before _ (by omega) _).2]
    · rw [if_neg h, mul_one, B.xPrev h]
      subst ho
      simp only [Nat.zero_add]
  · intro r a
    rw [x_cols B ho hg]
    show _ = d.x _ _
    congr 1; ring

/-- A group's columns of the pooled branch's incoming gradient. -/
theorem dyp_cols {g o : ℕ} (ho : 512 + 128 * g = o) (hg : g < 4) (h : S512x1024.Slices ![0, o] S512x128) (r : Fin 512) (b : Fin 128) :
    extractStridedSlice S512x128 ![0, o] (k0_pay13 x8) h (ix2 r b) = d.dyp (512 * (i 0).val + r.val) (128 * g + b.val) := by
  have := r.isLt; have := b.isLt
  rw [slice_apply _ _ r b (by omega) (by omega)]
  show x8 _ = _
  rw [B.dyp _ _ (by show 512 ≤ o + b.val; omega)]
  congr 1
  · show 512 * ((i 0).val : ℤ) + ((0 + r.val : ℕ) : ℤ) = _; omega
  · show o + b.val - 512 = _; omega

/-- The gradient of a group's mixed channels, with the 16 rows after. -/
theorem dlin_ext {g o : ℕ} (ho : 512 + 128 * g = o) (hg : g < 4) (h : S512x1024.Slices ![0, o] S512x128) (h' : S16x1024.Slices ![0, o] S16x128)
    (hc : Shape.Concatenates [S512x128, S16x128] S528x128 0) {v : Vec Ideal S1x128 .f32} (hv : ∀ b : Fin 128, v (ix2 0 b) = d.ps (128 * g + b.val))
    (hb : S1x128.Broadcasts S528x128) (r : Fin 528) (b : Fin 128) :
    (truncf .bf16 (mulf (concatenate S528x128 0 [⟨S512x128, extractStridedSlice S512x128 ![0, o] (k0_pay13 x8) h⟩,
        ⟨S16x128, extractStridedSlice S16x128 ![0, o] (k0_pay16 (k0_pay14 x9) (k0_pay15 i)) h'⟩] hc) (broadcastTo S528x128 v hb)) bitsLt_bf16_f32 : FVec Ideal S528x128 .bf16)
      (ix2 r b) = d.dlin g (512 * (i 0).val + r.val) b.val := by
  rw [truncf_apply, mulf_apply, row_apply _ _ _ _ (by omega), hv]
  refine congrArg (fun z : EReal => z * d.ps (128 * g + b.val)) ?_
  refine halo_last _ (fun t c => d.dyp (512 * (i 0).val + t) (128 * g + c)) ?_ ?_ r b
  · intro r b; exact dyp_cols B ho hg _ r b
  · intro r b
    have := r.isLt; have := b.isLt
    rw [slice_apply _ _ r b (by omega) (by omega)]
    show (x9 _ : EReal) * (k0_pay15 (F := Ideal) i _ : EReal) = _
    rw [last_eq]
    by_cases hl : (i 0).val = 15
    · rw [if_pos hl, mul_zero]
      show _ = d.dyp _ _
      rw [(B.behind _ (by omega) _).2]
    · rw [if_neg hl, mul_one, B.dypNext hl _ _ (by show 512 ≤ o + b.val; omega)]
      show _ = d.dyp _ _
      congr 1
      · show 512 * ((i 0).val : ℤ) + ((0 + r.val : ℕ) : ℤ) + 512 = _; omega
      · show o + b.val - 512 = _; omega

/-! ### Group 0: windows of 2 rows -/

theorem pooled0_apply (r : Fin 512) (a : Fin 128) :
    k0_pay34 (k0_pay29 (BitVec.ofNat 32 (i 0).val)) (k0_pay31 x3) (k0_pay32 (k0_pay5 i) x3 x6) k0_pay33 (ix2 r a)
      = d.pooled 0 (512 * (i 0).val + r.val) a.val := by
  unfold k0_pay34 k0_pay33 k0_pay32 k0_pay31
  exact pooled_of (g := 0) (w := 2) rfl B.lt (by omega) (by decide)
    (((x_ext B (g := 0) (by omega) (by omega) _ _ _)).double (w := 1) 1#32 rfl rotates_S528x128_d0 (by omega))
    (x_cols B (g := 0) (by omega) (by omega) _) (pay29_apply _) _ _ r a

theorem dlin0_apply {v : Vec Ideal S1x128 .f32} (hv : ∀ b : Fin 128, v (ix2 0 b) = d.ps (128 * 0 + b.val))
    (r : Fin 528) (b : Fin 128) :
    k0_pay38 (k0_pay13 x8) (k0_pay16 (k0_pay14 x9) (k0_pay15 i)) v (ix2 r b)
      = d.dlin 0 (512 * (i 0).val + r.val) b.val := by
  unfold k0_pay38 k0_pay36
  exact dlin_ext B (g := 0) (by omega) (by omega) _ _ _ hv _ r b

/-- One point's part of the gradient of the scale. -/
theorem scale0_apply {M : Vec Ideal S1x128x128 .bf16} (hM : ∀ a b : Fin 128, M (ix3 0 a b) = d.pw 0 a.val b.val)
    (acc : Vec Ideal S1x128 .f32) (b : Fin 128) :
    k0_pay37 (k0_pay13 x8) (k0_pay29 (BitVec.ofNat 32 (i 0).val)) (k0_pay31 x3) (k0_pay32 (k0_pay5 i) x3 x6) k0_pay33 M acc (ix2 0 b)
      = acc (ix2 0 b) + ∑ r : Fin 512, d.scaleRow 0 (512 * (i 0).val + r.val) b.val := by
  unfold k0_pay37 k0_pay36
  exact scale_of (g := 0) (dyp_cols B (g := 0) (by omega) (by omega) _)
    (lin_of (g := 0) (pooled0_apply B) (mat_of _ hM)) acc _ _ _ b

/-- One point's part of the gradient of the mixing matrix. -/
theorem mix0_apply {v : Vec Ideal S1x128 .f32} (hv : ∀ b : Fin 128, v (ix2 0 b) = d.ps (128 * 0 + b.val))
    (acc : Vec Ideal S1x128x128 .f32) (a b : Fin 128) :
    k0_pay39 (k0_pay13 x8) (k0_pay16 (k0_pay14 x9) (k0_pay15 i)) (k0_pay29 (BitVec.ofNat 32 (i 0).val)) (k0_pay31 x3) (k0_pay32 (k0_pay5 i) x3 x6) k0_pay33 v acc (ix3 0 a b)
      = acc (ix3 0 a b) + ∑ r : Fin 512, d.mixRow 0 a.val b.val (512 * (i 0).val + r.val) := by
  unfold k0_pay39
  exact mix_of (g := 0) (pooled0_apply B) (dlin0_apply B hv) _ acc _ _ a b

/-- The gradient of the pooled branch's input. -/
theorem dx0_apply {M : Vec Ideal S1x128x128 .bf16} (hM : ∀ a b : Fin 128, M (ix3 0 a b) = d.pw 0 a.val b.val)
    {v : Vec Ideal S1x128 .f32} (hv : ∀ b : Fin 128, v (ix2 0 b) = d.ps (128 * 0 + b.val)) (r : Fin 512) (a : Fin 128) :
    k0_pay41 (k0_pay30 (BitVec.ofNat 32 (i 0).val)) (k0_pay40 (k0_pay13 x8) (k0_pay16 (k0_pay14 x9) (k0_pay15 i)) M v) (ix2 r a)
      = d.dx 0 (512 * (i 0).val + r.val) a.val := by
  unfold k0_pay41 k0_pay40
  exact dx_of (g := 0) (w := 2) rfl (by decide)
    (((share_of (g := 0) (w := 2) rfl B.lt (by omega) (dpool_of (g := 0) (dlin0_apply B hv) (mat_of _ hM)) (pay30_apply _) _)).double (w := 1) 527#32 rfl rotates_S528x128_d0 (by omega) (by decide))
    (dpool_of (g := 0) (dlin0_apply B hv) (mat_of _ hM)) _ _ r a

/-! ### Group 1: windows of 4 rows -/

theorem pooled1_apply (r : Fin 512) (a : Fin 128) :
    k0_pay42 (k0_pay5 i) (k0_pay27 x3) (k0_pay28 x6) (k0_pay29 (BitVec.ofNat 32 (i 0).val)) (ix2 r a)
      = d.pooled 1 (512 * (i 0).val + r.val) a.val := by
  unfold k0_pay42
  exact pooled_of (g := 1) (w := 4) rfl B.lt (by omega) (by decide)
    (((((x_ext B (g := 1) (by omega) (by omega) _ _ _)).double (w := 1) 1#32 rfl rotates_S528x128_d0 (by omega))).double (w := 2) 2#32 rfl rotates_S528x128_d0 (by omega))
    (x_cols B (g := 1) (by omega) (by omega) _) (pay29_apply _) _ _ r a

theorem dlin1_apply {v : Vec Ideal S1x128 .f32} (hv : ∀ b : Fin 128, v (ix2 0 b) = d.ps (128 * 1 + b.val))
    (r : Fin 528) (b : Fin 128) :
    k0_pay46 (k0_pay16 (k0_pay14 x9) (k0_pay15 i)) (k0_pay44 (k0_pay13 x8)) v (ix2 r b)
      = d.dlin 1 (512 * (i 0).val + r.val) b.val := by
  unfold k0_pay46 k0_pay44
  exact dlin_ext B (g := 1) (by omega) (by omega) _ _ _ hv _ r b

/-- One point's part of the gradient of the scale. -/
theorem scale1_apply {M : Vec Ideal S1x128x128 .bf16} (hM : ∀ a b : Fin 128, M (ix3 0 a b) = d.pw 1 a.val b.val)
    (acc : Vec Ideal S1x128 .f32) (b : Fin 128) :
    k0_pay45 (k0_pay5 i) (k0_pay13 x8) (k0_pay27 x3) (k0_pay28 x6) (k0_pay29 (BitVec.ofNat 32 (i 0).val)) M acc (ix2 0 b)
      = acc (ix2 0 b) + ∑ r : Fin 512, d.scaleRow 1 (512 * (i 0).val + r.val) b.val := by
  unfold k0_pay45 k0_pay44
  exact scale_of (g := 1) (dyp_cols B (g := 1) (by omega) (by omega) _)
    (lin_of (g := 1) (pooled1_apply B) (mat_of _ hM)) acc _ _ _ b

/-- One point's part of the gradient of the mixing matrix. -/
theorem mix1_apply {v : Vec Ideal S1x128 .f32} (hv : ∀ b : Fin 128, v (ix2 0 b) = d.ps (128 * 1 + b.val))
    (acc : Vec Ideal S1x128x128 .f32) (a b : Fin 128) :
    k0_pay47 (k0_pay16 (k0_pay14 x9) (k0_pay15 i)) (k0_pay42 (k0_pay5 i) (k0_pay27 x3) (k0_pay28 x6) (k0_pay29 (BitVec.ofNat 32 (i 0).val))) (k0_pay44 (k0_pay13 x8)) v acc (ix3 0 a b)
      = acc (ix3 0 a b) + ∑ r : Fin 512, d.mixRow 1 a.val b.val (512 * (i 0).val + r.val) := by
  unfold k0_pay47
  exact mix_of (g := 1) (pooled1_apply B) (dlin1_apply B hv) _ acc _ _ a b

/-- The gradient of the pooled branch's input. -/
theorem dx1_apply {M : Vec Ideal S1x128x128 .bf16} (hM : ∀ a b : Fin 128, M (ix3 0 a b) = d.pw 1 a.val b.val)
    {v : Vec Ideal S1x128 .f32} (hv : ∀ b : Fin 128, v (ix2 0 b) = d.ps (128 * 1 + b.val)) (r : Fin 512) (a : Fin 128) :
    k0_pay48 (k0_pay16 (k0_pay14 x9) (k0_pay15 i)) (k0_pay30 (BitVec.ofNat 32 (i 0).val)) (k0_pay43 M) (k0_pay44 (k0_pay13 x8)) v (ix2 r a)
      = d.dx 1 (512 * (i 0).val + r.val) a.val := by
  unfold k0_pay48
  exact dx_of (g := 1) (w := 4) rfl (by decide)
    (((((share_of (g := 1) (w := 4) rfl B.lt (by omega) (dpool_of (g := 1) (dlin1_apply B hv) (mat_of _ hM)) (pay30_apply _) _)).double (w := 1) 527#32 rfl rotates_S528x128_d0 (by omega) (by decide))).double (w := 2) 526#32 rfl rotates_S528x128_d0 (by omega) (by decide))
    (dpool_of (g := 1) (dlin1_apply B hv) (mat_of _ hM)) _ _ r a

/-! ### Group 2: windows of 8 rows -/

theorem pooled2_apply (r : Fin 512) (a : Fin 128) :
    k0_pay52 (k0_pay29 (BitVec.ofNat 32 (i 0).val)) (k0_pay49 (k0_pay27 x3)) (k0_pay50 (k0_pay5 i) (k0_pay27 x3) (k0_pay28 x6)) k0_pay51 (ix2 r a)
      = d.pooled 2 (512 * (i 0).val + r.val) a.val := by
  unfold k0_pay52 k0_pay51 k0_pay50 k0_pay49
  exact pooled_of (g := 2) (w := 8) rfl B.lt (by omega) (by decide)
    (((((((x_ext B (g := 2) (by omega) (by omega) _ _ _)).double (w := 1) 1#32 rfl rotates_S528x128_d0 (by omega))).double (w := 2) 2#32 rfl rotates_S528x128_d0 (by omega))).double (w := 4) 4#32 rfl rotates_S528x128_d0 (by omega))
    (x_cols B (g := 2) (by omega) (by omega) _) (pay29_apply _) _ _ r a

theorem dlin2_apply {v : Vec Ideal S1x128 .f32} (hv : ∀ b : Fin 128, v (ix2 0 b) = d.ps (128 * 2 + b.val))
    (r : Fin 528) (b : Fin 128) :
    k0_pay56 (k0_pay13 x8) (k0_pay16 (k0_pay14 x9) (k0_pay15 i)) v (ix2 r b)
      = d.dlin 2 (512 * (i 0).val + r.val) b.val := by
  unfold k0_pay56 k0_pay54
  exact dlin_ext B (g := 2) (by omega) (by omega) _ _ _ hv _ r b

/-- One point's part of the gradient of the scale. -/
theorem scale2_apply {M : Vec Ideal S1x128x128 .bf16} (hM : ∀ a b : Fin 128, M (ix3 0 a b) = d.pw 2 a.val b.val)
    (acc : Vec Ideal S1x128 .f32) (b : Fin 128) :
    k0_pay55 (k0_pay13 x8) (k0_pay29 (BitVec.ofNat 32 (i 0).val)) (k0_pay49 (k0_pay27 x3)) (k0_pay50 (k0_pay5 i) (k0_pay27 x3) (k0_pay28 x6)) k0_pay51 M acc (ix2 0 b)
      = acc (ix2 0 b) + ∑ r : Fin 512, d.scaleRow 2 (512 * (i 0).val + r.val) b.val := by
  unfold k0_pay55 k0_pay54
  exact scale_of (g := 2) (dyp_cols B (g := 2) (by omega) (by omega) _)
    (lin_of (g := 2) (pooled2_apply B) (mat_of _ hM)) acc _ _ _ b

/-- One point's part of the gradient of the mixing matrix. -/
theorem mix2_apply {v : Vec Ideal S1x128 .f32} (hv : ∀ b : Fin 128, v (ix2 0 b) = d.ps (128 * 2 + b.val))
    (acc : Vec Ideal S1x128x128 .f32) (a b : Fin 128) :
    k0_pay58 (k0_pay57 (k0_pay13 x8) (k0_pay16 (k0_pay14 x9) (k0_pay15 i)) (k0_pay29 (BitVec.ofNat 32 (i 0).val)) (k0_pay49 (k0_pay27 x3)) (k0_pay50 (k0_pay5 i) (k0_pay27 x3) (k0_pay28 x6)) k0_pay51 v acc) (ix3 0 a b)
      = acc (ix3 0 a b) + ∑ r : Fin 512, d.mixRow 2 a.val b.val (512 * (i 0).val + r.val) := by
  unfold k0_pay58 k0_pay57
  exact mix_of (g := 2) (pooled2_apply B) (dlin2_apply B hv) _ acc _ _ a b

/-- The gradient of the pooled branch's input. -/
theorem dx2_apply {M : Vec Ideal S1x128x128 .bf16} (hM : ∀ a b : Fin 128, M (ix3 0 a b) = d.pw 2 a.val b.val)
    {v : Vec Ideal S1x128 .f32} (hv : ∀ b : Fin 128, v (ix2 0 b) = d.ps (128 * 2 + b.val)) (r : Fin 512) (a : Fin 128) :
    k0_pay59 (k0_pay30 (BitVec.ofNat 32 (i 0).val)) (k0_pay53 M) (k0_pay56 (k0_pay13 x8) (k0_pay16 (k0_pay14 x9) (k0_pay15 i)) v) (ix2 r a)
      = d.dx 2 (512 * (i 0).val + r.val) a.val := by
  unfold k0_pay59
  exact dx_of (g := 2) (w := 8) rfl (by decide)
    (((((((share_of (g := 2) (w := 8) rfl B.lt (by omega) (dpool_of (g := 2) (dlin2_apply B hv) (mat_of _ hM)) (pay30_apply _) _)).double (w := 1) 527#32 rfl rotates_S528x128_d0 (by omega) (by decide))).double (w := 2) 526#32 rfl rotates_S528x128_d0 (by omega) (by decide))).double (w := 4) 524#32 rfl rotates_S528x128_d0 (by omega) (by decide))
    (dpool_of (g := 2) (dlin2_apply B hv) (mat_of _ hM)) _ _ r a

/-! ### Group 3: windows of 16 rows -/

theorem pooled3_apply (r : Fin 512) (a : Fin 128) :
    k0_pay61 (k0_pay60 (k0_pay5 i) (k0_pay27 x3) (k0_pay28 x6) (k0_pay29 (BitVec.ofNat 32 (i 0).val))) (ix2 r a)
      = d.pooled 3 (512 * (i 0).val + r.val) a.val := by
  unfold k0_pay61 k0_pay60
  exact pooled_of (g := 3) (w := 16) rfl B.lt (by omega) (by decide)
    (((((((((x_ext B (g := 3) (by omega) (by omega) _ _ _)).double (w := 1) 1#32 rfl rotates_S528x128_d0 (by omega))).double (w := 2) 2#32 rfl rotates_S528x128_d0 (by omega))).double (w := 4) 4#32 rfl rotates_S528x128_d0 (by omega))).double (w := 8) 8#32 rfl rotates_S528x128_d0 (by omega))
    (x_cols B (g := 3) (by omega) (by omega) _) (pay29_apply _) _ _ r a

theorem dlin3_apply {v : Vec Ideal S1x128 .f32} (hv : ∀ b : Fin 128, v (ix2 0 b) = d.ps (128 * 3 + b.val))
    (r : Fin 528) (b : Fin 128) :
    k0_pay65 (k0_pay13 x8) (k0_pay16 (k0_pay14 x9) (k0_pay15 i)) v (ix2 r b)
      = d.dlin 3 (512 * (i 0).val + r.val) b.val := by
  unfold k0_pay65 k0_pay63
  exact dlin_ext B (g := 3) (by omega) (by omega) _ _ _ hv _ r b

/-- One point's part of the gradient of the scale. -/
theorem scale3_apply {M : Vec Ideal S1x128x128 .bf16} (hM : ∀ a b : Fin 128, M (ix3 0 a b) = d.pw 3 a.val b.val)
    (acc : Vec Ideal S1x128 .f32) (b : Fin 128) :
    k0_pay64 (k0_pay13 x8) (k0_pay60 (k0_pay5 i) (k0_pay27 x3) (k0_pay28 x6) (k0_pay29 (BitVec.ofNat 32 (i 0).val))) M acc (ix2 0 b)
      = acc (ix2 0 b) + ∑ r : Fin 512, d.scaleRow 3 (512 * (i 0).val + r.val) b.val := by
  unfold k0_pay64 k0_pay63
  exact scale_of (g := 3) (dyp_cols B (g := 3) (by omega) (by omega) _)
    (lin_of (g := 3) (pooled3_apply B) (mat_of _ hM)) acc _ _ _ b

/-- One point's part of the gradient of the mixing matrix. -/
theorem mix3_apply {v : Vec Ideal S1x128 .f32} (hv : ∀ b : Fin 128, v (ix2 0 b) = d.ps (128 * 3 + b.val))
    (acc : Vec Ideal S1x128x128 .f32) (a b : Fin 128) :
    k0_pay66 (k0_pay13 x8) (k0_pay16 (k0_pay14 x9) (k0_pay15 i)) (k0_pay60 (k0_pay5 i) (k0_pay27 x3) (k0_pay28 x6) (k0_pay29 (BitVec.ofNat 32 (i 0).val))) v acc (ix3 0 a b)
      = acc (ix3 0 a b) + ∑ r : Fin 512, d.mixRow 3 a.val b.val (512 * (i 0).val + r.val) := by
  unfold k0_pay66
  exact mix_of (g := 3) (pooled3_apply B) (dlin3_apply B hv) _ acc _ _ a b

/-- The gradient of the pooled branch's input. -/
theorem dx3_apply {M : Vec Ideal S1x128x128 .bf16} (hM : ∀ a b : Fin 128, M (ix3 0 a b) = d.pw 3 a.val b.val)
    {v : Vec Ideal S1x128 .f32} (hv : ∀ b : Fin 128, v (ix2 0 b) = d.ps (128 * 3 + b.val)) (r : Fin 512) (a : Fin 128) :
    k0_pay1 (k0_pay67 (k0_pay13 x8) (k0_pay16 (k0_pay14 x9) (k0_pay15 i)) M v) (k0_pay68 (k0_pay13 x8) (k0_pay16 (k0_pay14 x9) (k0_pay15 i)) (k0_pay30 (BitVec.ofNat 32 (i 0).val)) M v) (ix2 r a)
      = d.dx 3 (512 * (i 0).val + r.val) a.val := by
  unfold k0_pay1 k0_pay68 k0_pay67
  exact dx_of (g := 3) (w := 16) rfl (by decide)
    (((((((((share_of (g := 3) (w := 16) rfl B.lt (by omega) (dpool_of (g := 3) (dlin3_apply B hv) (mat_of _ hM)) (pay30_apply _) _)).double (w := 1) 527#32 rfl rotates_S528x128_d0 (by omega) (by decide))).double (w := 2) 526#32 rfl rotates_S528x128_d0 (by omega) (by decide))).double (w := 4) 524#32 rfl rotates_S528x128_d0 (by omega) (by decide))).double (w := 8) 520#32 rfl rotates_S528x128_d0 (by omega) (by decide))
    (dpool_of (g := 3) (dlin3_apply B hv) (mat_of _ hM)) _ _ r a

end Cert.KernelIdeal.Pay

end
-- ==== Proof.Outs.lean ====
module

public import proofs.«01_k».proof.Proof.PayPool
public import proofs.«01_k».proof.Proof.Gen.KernelIdeal.Value
public import Idealize.ShloMosaic.Lib.Pipeline.ValueKit

/-!
# What one grid point leaves

The four output buffers after a grid point, at an index: the point's rows of the projection's gradient, and the three
accumulated gradients as what was there before plus the point's own part.
-/

@[expose] public section

set_option maxRecDepth 16384

noncomputable section

namespace Cert.KernelIdeal.Pay

open Cert.KernelIdeal Cert.KernelIdeal.Gen Cert.Mix Idealize.ShloMosaic Idealize.ShloMosaic.TcCoe Idealize.ShloMosaic.Tactic

theorem two {P : Fin 2 → Prop} (h0 : P 0) (h1 : P 1) : ∀ a, P a
  | 0 => h0
  | 1 => h1

theorem three {P : Fin 3 → Prop} (h0 : P 0) (h1 : P 1) (h2 : P 2) : ∀ a, P a
  | 0 => h0
  | 1 => h1
  | 2 => h2

section Pieces

variable {Val : EltTy → Type} [∀ e, Nonempty (Val e)] {s : Shape} {e : EltTy} {off size : Fin s.rank → ℕ}
  {inb : ∀ a, off a + size a ≤ s.size a} {w : (Rect.unit off size inb).shape.Idx → Val e} {L : List (View.Piece Val s e)}

/-- An index inside the last piece written reads that piece. -/
theorem canon_hit {y : s.Idx} (x : (Rect.unit off size inb).shape.Idx) (h : ∀ a, (y a).val = off a + (x a).val) :
    View.canon (⟨Rect.unit off size inb, w⟩ :: L) y = w x := by
  have : y = (Rect.unit off size inb).emb x :=
    funext fun a => Fin.ext ((h a).trans (Rect.idx_unit_val off size inb x a).symm)
  rw [this]
  exact View.canon_cons_emb _ _ _ _

/-- An index outside the last piece written reads the earlier ones. -/
theorem canon_miss {y : s.Idx} (a : Fin s.rank) (h : (y a).val < off a ∨ off a + size a ≤ (y a).val) :
    View.canon (⟨Rect.unit off size inb, w⟩ :: L) y = View.canon L y := by
  refine View.canon_cons_of_not_mem _ _ fun hy => ?_
  have := (Rect.mem_set_unit (inb := inb).mp hy) a
  omega

variable {sig' : RefSig} {κ : Kind} {sp : Space} {off' size' : Fin s.rank → ℕ} {inb' : ∀ a, off' a + size' a ≤ s.size a}

/-- A load of what the pieces left, inside the last piece. -/
theorem cov_hit (v : View sig' κ sp s e) {j : (Rect.unit off' size' inb').shape.Idx} (x : (Rect.unit off size inb).shape.Idx)
    (h : ∀ a, off' a + (j a).val = off a + (x a).val) :
    v.readCov (⟨Rect.unit off size inb, w⟩ :: L) (Rect.unit off' size' inb').toLoadRect j = w x :=
  (congrFun (View.readCov_eq_canon' v _ _) j).trans (canon_hit x fun a => (Rect.idx_unit_val off' size' inb' j a).trans (h a))

/-- A load of what the pieces left, outside the last piece. -/
theorem cov_miss (v : View sig' κ sp s e) {j : (Rect.unit off' size' inb').shape.Idx} (a : Fin s.rank)
    (h : off' a + (j a).val < off a ∨ off a + size a ≤ off' a + (j a).val) :
    v.readCov (⟨Rect.unit off size inb, w⟩ :: L) (Rect.unit off' size' inb').toLoadRect j
      = v.readCov L (Rect.unit off' size' inb').toLoadRect j :=
  (congrFun (View.readCov_eq_canon' v _ _) j).trans ((canon_miss a (by rw [show ((Rect.unit off' size' inb').toLoadRect.idx j a).val = _ from Rect.idx_unit_val off' size' inb' j a]; exact h)).trans
    (congrFun (View.readCov_eq_canon' v _ _) j).symm)

end Pieces

/-- The gradient of the projection, by row and column. -/
def dz (d : Data) (t : ℤ) (q : ℕ) : EReal :=
  if q < 512 then d.dgb t q else if q < 1024 then d.dgc t (q - 512) else if q < 1536 then d.dci t (q - 1024)
  else d.dx ((q - 1536) / 128) t ((q - 1536) % 128)

theorem dz_dgb (d : Data) (t : ℤ) (q : Fin 512) : dz d t (0 + q.val) = d.dgb t q.val := by
  have := q.isLt
  unfold dz; rw [if_pos (by omega), Nat.zero_add]

theorem dz_dgc (d : Data) (t : ℤ) (q : Fin 512) : dz d t (512 + q.val) = d.dgc t q.val := by
  have := q.isLt
  unfold dz; rw [if_neg (by omega), if_pos (by omega), Nat.add_sub_cancel_left]

theorem dz_dci (d : Data) (t : ℤ) (q : Fin 512) : dz d t (1024 + q.val) = d.dci t q.val := by
  have := q.isLt
  unfold dz; rw [if_neg (by omega), if_neg (by omega), if_pos (by omega), Nat.add_sub_cancel_left]

theorem dz_dx (d : Data) (t : ℤ) (g o : ℕ) (ho : o = 1536 + 128 * g) (q : Fin 128) : dz d t (o + q.val) = d.dx g t q.val := by
  have := q.isLt
  unfold dz
  rw [if_neg (by omega), if_neg (by omega), if_neg (by omega), show (o + q.val - 1536) / 128 = g by omega,
    show (o + q.val - 1536) % 128 = q.val by omega]

variable {m : (ℓ : Loc nD τ sig) → Buf (Elt Ideal) ℓ} {c : Dev nD} {d : Data} {t : Fin cfg0.N}

theorem zero2 (y) : (k0_pay2 (F := Ideal)) y = 0 := Ideal.ofBits_zero_f32
theorem zero3 (y) : (k0_pay3 (F := Ideal)) y = 0 := Ideal.ofBits_zero_f32
theorem zero4 (y) : (k0_pay4 (F := Ideal)) y = 0 := Ideal.ofBits_zero_f32

section Loads

variable {i : grid0.Coords} {x0 x1 x2 x3 : Vec Ideal S512x512 .bf16} {x4 x5 x6 x7 : Vec Ideal S16x512 .bf16}
    {x8 : Vec Ideal S512x1024 .bf16} {x9 : Vec Ideal S16x1024 .bf16} {x10 : Vec Ideal S3x512 .f32}
    {x11 : Vec Ideal S4x128x128 .bf16} {x12 : Vec Ideal S1x512 .f32} (B : Blocks d i x0 x1 x2 x3 x4 x5 x6 x7 x8 x9 x10 x11 x12)
include B

theorem ld_pw (g : Fin 4) {inb} (a b : Fin 128) :
    View.ld x11 (Rect.unit ![g.val, 0, 0] ![1, 128, 128] inb) (ix3 0 a b) = d.pw g.val a.val b.val :=
  (View.ld_unit_apply_of _ _ _ _ _ (ix3 g a b) (by exact three rfl (Nat.zero_add _).symm (Nat.zero_add _).symm)).trans (B.pw g a b)

theorem ld_ps (g : Fin 4) {o : ℕ} (ho : o = 128 * g.val) {inb} (b : Fin 128) :
    View.ld x12 (Rect.unit ![0, o] ![1, 128] inb) (ix2 0 b) = d.ps (128 * g.val + b.val) := by
  have := g.isLt; have := b.isLt
  subst ho
  exact (View.ld_unit_apply_of _ _ _ _ _ (ix2 0 ⟨128 * g.val + b.val, by omega⟩) (by exact two rfl rfl)).trans (B.ps _)

end Loads

variable (B : Blocks d (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t))
include B

theorem dz_A (h0 : t.val % 16 = 0) (r : Fin 512) (q : Fin 2048) :
    (outsAt0 m c t.val t.isLt).1 (ix2 r q) = dz d (512 * (grid0.coords t 0).val + r.val) q.val := by
  rw [outsAt0_A m c t h0]
  frame_out
  revert B
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize grid0.coords t = i
  intro B
  have := q.isLt
  by_cases h1920 : 1920 ≤ q.val
  · obtain ⟨p, hp⟩ : ∃ p : Fin 128, q.val = 1920 + p.val := ⟨⟨q.val - 1920, by omega⟩, by show _ = 1920 + (q.val - 1920); omega⟩
    rw [hp]
    refine (canon_hit (ix2 r p) (by exact two (Nat.zero_add _).symm hp)).trans ?_
    exact (dx3_apply B (ld_pw B 3) (ld_ps B 3 rfl) r p).trans (dz_dx d _ 3 1920 rfl _).symm
  refine (canon_miss 1 (Or.inl (show q.val < 1920 by omega))).trans ?_
  by_cases h1792 : 1792 ≤ q.val
  · obtain ⟨p, hp⟩ : ∃ p : Fin 128, q.val = 1792 + p.val := ⟨⟨q.val - 1792, by omega⟩, by show _ = 1792 + (q.val - 1792); omega⟩
    rw [hp]
    refine (canon_hit (ix2 r p) (by exact two (Nat.zero_add _).symm hp)).trans ?_
    exact (dx2_apply B (ld_pw B 2) (ld_ps B 2 rfl) r p).trans (dz_dx d _ 2 1792 rfl _).symm
  refine (canon_miss 1 (Or.inl (show q.val < 1792 by omega))).trans ?_
  by_cases h1664 : 1664 ≤ q.val
  · obtain ⟨p, hp⟩ : ∃ p : Fin 128, q.val = 1664 + p.val := ⟨⟨q.val - 1664, by omega⟩, by show _ = 1664 + (q.val - 1664); omega⟩
    rw [hp]
    refine (canon_hit (ix2 r p) (by exact two (Nat.zero_add _).symm hp)).trans ?_
    exact (dx1_apply B (ld_pw B 1) (ld_ps B 1 rfl) r p).trans (dz_dx d _ 1 1664 rfl _).symm
  refine (canon_miss 1 (Or.inl (show q.val < 1664 by omega))).trans ?_
  by_cases h1536 : 1536 ≤ q.val
  · obtain ⟨p, hp⟩ : ∃ p : Fin 128, q.val = 1536 + p.val := ⟨⟨q.val - 1536, by omega⟩, by show _ = 1536 + (q.val - 1536); omega⟩
    rw [hp]
    refine (canon_hit (ix2 r p) (by exact two (Nat.zero_add _).symm hp)).trans ?_
    exact (dx0_apply B (ld_pw B 0) (ld_ps B 0 rfl) r p).trans (dz_dx d _ 0 1536 rfl _).symm
  refine (canon_miss 1 (Or.inl (show q.val < 1536 by omega))).trans ?_
  by_cases h1024 : 1024 ≤ q.val
  · obtain ⟨p, hp⟩ : ∃ p : Fin 512, q.val = 1024 + p.val := ⟨⟨q.val - 1024, by omega⟩, by show _ = 1024 + (q.val - 1024); omega⟩
    rw [hp]
    refine (canon_hit (ix2 r p) (by exact two (Nat.zero_add _).symm hp)).trans ?_
    exact (pay22_apply B r p).trans (dz_dci d _ _).symm
  refine (canon_miss 1 (Or.inl (show q.val < 1024 by omega))).trans ?_
  by_cases h512 : 512 ≤ q.val
  · obtain ⟨p, hp⟩ : ∃ p : Fin 512, q.val = 512 + p.val := ⟨⟨q.val - 512, by omega⟩, by show _ = 512 + (q.val - 512); omega⟩
    rw [hp]
    refine (canon_hit (ix2 r p) (by exact two (Nat.zero_add _).symm hp)).trans ?_
    exact (pay21_apply B r p).trans (dz_dgc d _ _).symm
  refine (canon_miss 1 (Or.inl (show q.val < 512 by omega))).trans ?_
  obtain ⟨p, hp⟩ : ∃ p : Fin 512, q.val = 0 + p.val := ⟨⟨q.val - 0, by omega⟩, by show _ = 0 + (q.val - 0); omega⟩
  rw [hp]
  refine (canon_hit (ix2 r p) (by exact two (Nat.zero_add _).symm hp)).trans ?_
  exact (pay18_apply B r p).trans (dz_dgb d _ _).symm

theorem dz_B (h0 : ¬ t.val % 16 = 0) (r : Fin 512) (q : Fin 2048) :
    (outsAt0 m c t.val t.isLt).1 (ix2 r q) = dz d (512 * (grid0.coords t 0).val + r.val) q.val := by
  rw [outsAt0_B m c t h0]
  frame_out
  revert B
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize grid0.coords t = i
  intro B
  have := q.isLt
  by_cases h1920 : 1920 ≤ q.val
  · obtain ⟨p, hp⟩ : ∃ p : Fin 128, q.val = 1920 + p.val := ⟨⟨q.val - 1920, by omega⟩, by show _ = 1920 + (q.val - 1920); omega⟩
    rw [hp]
    refine (canon_hit (ix2 r p) (by exact two (Nat.zero_add _).symm hp)).trans ?_
    exact (dx3_apply B (ld_pw B 3) (ld_ps B 3 rfl) r p).trans (dz_dx d _ 3 1920 rfl _).symm
  refine (canon_miss 1 (Or.inl (show q.val < 1920 by omega))).trans ?_
  by_cases h1792 : 1792 ≤ q.val
  · obtain ⟨p, hp⟩ : ∃ p : Fin 128, q.val = 1792 + p.val := ⟨⟨q.val - 1792, by omega⟩, by show _ = 1792 + (q.val - 1792); omega⟩
    rw [hp]
    refine (canon_hit (ix2 r p) (by exact two (Nat.zero_add _).symm hp)).trans ?_
    exact (dx2_apply B (ld_pw B 2) (ld_ps B 2 rfl) r p).trans (dz_dx d _ 2 1792 rfl _).symm
  refine (canon_miss 1 (Or.inl (show q.val < 1792 by omega))).trans ?_
  by_cases h1664 : 1664 ≤ q.val
  · obtain ⟨p, hp⟩ : ∃ p : Fin 128, q.val = 1664 + p.val := ⟨⟨q.val - 1664, by omega⟩, by show _ = 1664 + (q.val - 1664); omega⟩
    rw [hp]
    refine (canon_hit (ix2 r p) (by exact two (Nat.zero_add _).symm hp)).trans ?_
    exact (dx1_apply B (ld_pw B 1) (ld_ps B 1 rfl) r p).trans (dz_dx d _ 1 1664 rfl _).symm
  refine (canon_miss 1 (Or.inl (show q.val < 1664 by omega))).trans ?_
  by_cases h1536 : 1536 ≤ q.val
  · obtain ⟨p, hp⟩ : ∃ p : Fin 128, q.val = 1536 + p.val := ⟨⟨q.val - 1536, by omega⟩, by show _ = 1536 + (q.val - 1536); omega⟩
    rw [hp]
    refine (canon_hit (ix2 r p) (by exact two (Nat.zero_add _).symm hp)).trans ?_
    exact (dx0_apply B (ld_pw B 0) (ld_ps B 0 rfl) r p).trans (dz_dx d _ 0 1536 rfl _).symm
  refine (canon_miss 1 (Or.inl (show q.val < 1536 by omega))).trans ?_
  by_cases h1024 : 1024 ≤ q.val
  · obtain ⟨p, hp⟩ : ∃ p : Fin 512, q.val = 1024 + p.val := ⟨⟨q.val - 1024, by omega⟩, by show _ = 1024 + (q.val - 1024); omega⟩
    rw [hp]
    refine (canon_hit (ix2 r p) (by exact two (Nat.zero_add _).symm hp)).trans ?_
    exact (pay22_apply B r p).trans (dz_dci d _ _).symm
  refine (canon_miss 1 (Or.inl (show q.val < 1024 by omega))).trans ?_
  by_cases h512 : 512 ≤ q.val
  · obtain ⟨p, hp⟩ : ∃ p : Fin 512, q.val = 512 + p.val := ⟨⟨q.val - 512, by omega⟩, by show _ = 512 + (q.val - 512); omega⟩
    rw [hp]
    refine (canon_hit (ix2 r p) (by exact two (Nat.zero_add _).symm hp)).trans ?_
    exact (pay21_apply B r p).trans (dz_dgc d _ _).symm
  refine (canon_miss 1 (Or.inl (show q.val < 512 by omega))).trans ?_
  obtain ⟨p, hp⟩ : ∃ p : Fin 512, q.val = 0 + p.val := ⟨⟨q.val - 0, by omega⟩, by show _ = 0 + (q.val - 0); omega⟩
  rw [hp]
  refine (canon_hit (ix2 r p) (by exact two (Nat.zero_add _).symm hp)).trans ?_
  exact (pay18_apply B r p).trans (dz_dgb d _ _).symm

theorem dcw_A (h0 : t.val % 16 = 0) (k : Fin 3) (q : Fin 512) :
    (outsAt0 m c t.val t.isLt).2.1 (ix2 k q)
      = 0 + ∑ r : Fin 512, d.tap k.val (512 * (grid0.coords t 0).val + r.val) q.val := by
  rw [outsAt0_A m c t h0]
  frame_out
  revert B
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize grid0.coords t = i
  intro B
  match k with
  | 0 =>
    refine (canon_miss 0 (Or.inl (show 0 < 2 by omega))).trans ?_
    refine (canon_miss 0 (Or.inl (show 0 < 1 by omega))).trans ?_
    refine (canon_hit (ix2 0 q) (by exact two (by first | rfl | exact (Nat.zero_add _).symm) (by first | rfl | exact (Nat.zero_add _).symm))).trans ?_
    refine (pay24_apply B _ q).trans ?_
    refine congrArg (· + _) ?_
    exact (cov_hit _ (ix2 0 q) (by exact two (by first | rfl | exact (Nat.zero_add _).symm) (by first | rfl | exact (Nat.zero_add _).symm))).trans (zero2 _)
  | 1 =>
    refine (canon_miss 0 (Or.inl (show 1 < 2 by omega))).trans ?_
    refine (canon_hit (ix2 0 q) (by exact two (by first | rfl | exact (Nat.zero_add _).symm) (by first | rfl | exact (Nat.zero_add _).symm))).trans ?_
    refine (pay25_apply B _ q).trans ?_
    refine congrArg (· + _) ?_
    refine (cov_miss _ 0 (Or.inr (show 0 + 1 ≤ 1 + 0 by omega))).trans ?_
    exact (cov_hit _ (ix2 1 q) (by exact two (by first | rfl | exact (Nat.zero_add _).symm) (by first | rfl | exact (Nat.zero_add _).symm))).trans (zero2 _)
  | 2 =>
    refine (canon_hit (ix2 0 q) (by exact two (by first | rfl | exact (Nat.zero_add _).symm) (by first | rfl | exact (Nat.zero_add _).symm))).trans ?_
    refine (pay26_apply B _ q).trans ?_
    refine congrArg (· + _) ?_
    refine (cov_miss _ 0 (Or.inr (show 1 + 1 ≤ 2 + 0 by omega))).trans ?_
    refine (cov_miss _ 0 (Or.inr (show 0 + 1 ≤ 2 + 0 by omega))).trans ?_
    exact (cov_hit _ (ix2 2 q) (by exact two (by first | rfl | exact (Nat.zero_add _).symm) (by first | rfl | exact (Nat.zero_add _).symm))).trans (zero2 _)

theorem dcw_B (h0 : ¬ t.val % 16 = 0) (k : Fin 3) (q : Fin 512) :
    (outsAt0 m c t.val t.isLt).2.1 (ix2 k q)
      = (outsAt0 m c (t.val - 1) (Nat.lt_of_le_of_lt (Nat.sub_le _ _) t.isLt)).2.1 (ix2 k q) + ∑ r : Fin 512, d.tap k.val (512 * (grid0.coords t 0).val + r.val) q.val := by
  rw [outsAt0_B m c t h0]
  frame_out
  revert B
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize grid0.coords t = i
  intro B
  match k with
  | 0 =>
    refine (canon_miss 0 (Or.inl (show 0 < 2 by omega))).trans ?_
    refine (canon_miss 0 (Or.inl (show 0 < 1 by omega))).trans ?_
    refine (canon_hit (ix2 0 q) (by exact two (by first | rfl | exact (Nat.zero_add _).symm) (by first | rfl | exact (Nat.zero_add _).symm))).trans ?_
    refine (pay24_apply B _ q).trans ?_
    refine congrArg (· + _) ?_
    exact View.ld_unit_apply_of _ _ _ _ _ _ (by exact two (by first | rfl | exact (Nat.zero_add _).symm) (by first | rfl | exact (Nat.zero_add _).symm))
  | 1 =>
    refine (canon_miss 0 (Or.inl (show 1 < 2 by omega))).trans ?_
    refine (canon_hit (ix2 0 q) (by exact two (by first | rfl | exact (Nat.zero_add _).symm) (by first | rfl | exact (Nat.zero_add _).symm))).trans ?_
    refine (pay25_apply B _ q).trans ?_
    refine congrArg (· + _) ?_
    exact View.ld_unit_apply_of _ _ _ _ _ _ (by exact two (by first | rfl | exact (Nat.zero_add _).symm) (by first | rfl | exact (Nat.zero_add _).symm))
  | 2 =>
    refine (canon_hit (ix2 0 q) (by exact two (by first | rfl | exact (Nat.zero_add _).symm) (by first | rfl | exact (Nat.zero_add _).symm))).trans ?_
    refine (pay26_apply B _ q).trans ?_
    refine congrArg (· + _) ?_
    exact View.ld_unit_apply_of _ _ _ _ _ _ (by exact two (by first | rfl | exact (Nat.zero_add _).symm) (by first | rfl | exact (Nat.zero_add _).symm))

theorem dpw_A (h0 : t.val % 16 = 0) (k : Fin 4) (a b : Fin 128) :
    (outsAt0 m c t.val t.isLt).2.2.1 (ix3 k a b)
      = 0 + ∑ r : Fin 512, d.mixRow k.val a.val b.val (512 * (grid0.coords t 0).val + r.val) := by
  rw [outsAt0_A m c t h0]
  frame_out
  revert B
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize grid0.coords t = i
  intro B
  match k with
  | 0 =>
    refine (canon_miss 0 (Or.inl (show 0 < 3 by omega))).trans ?_
    refine (canon_miss 0 (Or.inl (show 0 < 2 by omega))).trans ?_
    refine (canon_miss 0 (Or.inl (show 0 < 1 by omega))).trans ?_
    refine (canon_hit (ix3 0 a b) (by exact three (by first | rfl | exact (Nat.zero_add _).symm) (by first | rfl | exact (Nat.zero_add _).symm) (by first | rfl | exact (Nat.zero_add _).symm))).trans ?_
    refine (mix0_apply B (ld_ps B 0 rfl) _ a b).trans ?_
    refine congrArg (· + _) ?_
    exact (cov_hit _ (ix3 0 a b) (by exact three (by first | rfl | exact (Nat.zero_add _).symm) (by first | rfl | exact (Nat.zero_add _).symm) (by first | rfl | exact (Nat.zero_add _).symm))).trans (zero3 _)
  | 1 =>
    refine (canon_miss 0 (Or.inl (show 1 < 3 by omega))).trans ?_
    refine (canon_miss 0 (Or.inl (show 1 < 2 by omega))).trans ?_
    refine (canon_hit (ix3 0 a b) (by exact three (by first | rfl | exact (Nat.zero_add _).symm) (by first | rfl | exact (Nat.zero_add _).symm) (by first | rfl | exact (Nat.zero_add _).symm))).trans ?_
    refine (mix1_apply B (ld_ps B 1 rfl) _ a b).trans ?_
    refine congrArg (· + _) ?_
    refine (cov_miss _ 0 (Or.inr (show 0 + 1 ≤ 1 + 0 by omega))).trans ?_
    exact (cov_hit _ (ix3 1 a b) (by exact three (by first | rfl | exact (Nat.zero_add _).symm) (by first | rfl | exact (Nat.zero_add _).symm) (by first | rfl | exact (Nat.zero_add _).symm))).trans (zero3 _)
  | 2 =>
    refine (canon_miss 0 (Or.inl (show 2 < 3 by omega))).trans ?_
    refine (canon_hit (ix3 0 a b) (by exact three (by first | rfl | exact (Nat.zero_add _).symm) (by first | rfl | exact (Nat.zero_add _).symm) (by first | rfl | exact (Nat.zero_add _).symm))).trans ?_
    refine (mix2_apply B (ld_ps B 2 rfl) _ a b).trans ?_
    refine congrArg (· + _) ?_
    refine (cov_miss _ 0 (Or.inr (show 1 + 1 ≤ 2 + 0 by omega))).trans ?_
    refine (cov_miss _ 0 (Or.inr (show 0 + 1 ≤ 2 + 0 by omega))).trans ?_
    exact (cov_hit _ (ix3 2 a b) (by exact three (by first | rfl | exact (Nat.zero_add _).symm) (by first | rfl | exact (Nat.zero_add _).symm) (by first | rfl | exact (Nat.zero_add _).symm))).trans (zero3 _)
  | 3 =>
    refine (canon_hit (ix3 0 a b) (by exact three (by first | rfl | exact (Nat.zero_add _).symm) (by first | rfl | exact (Nat.zero_add _).symm) (by first | rfl | exact (Nat.zero_add _).symm))).trans ?_
    refine (mix3_apply B (ld_ps B 3 rfl) _ a b).trans ?_
    refine congrArg (· + _) ?_
    refine (cov_miss _ 0 (Or.inr (show 2 + 1 ≤ 3 + 0 by omega))).trans ?_
    refine (cov_miss _ 0 (Or.inr (show 1 + 1 ≤ 3 + 0 by omega))).trans ?_
    refine (cov_miss _ 0 (Or.inr (show 0 + 1 ≤ 3 + 0 by omega))).trans ?_
    exact (cov_hit _ (ix3 3 a b) (by exact three (by first | rfl | exact (Nat.zero_add _).symm) (by first | rfl | exact (Nat.zero_add _).symm) (by first | rfl | exact (Nat.zero_add _).symm))).trans (zero3 _)

theorem dpw_B (h0 : ¬ t.val % 16 = 0) (k : Fin 4) (a b : Fin 128) :
    (outsAt0 m c t.val t.isLt).2.2.1 (ix3 k a b)
      = (outsAt0 m c (t.val - 1) (Nat.lt_of_le_of_lt (Nat.sub_le _ _) t.isLt)).2.2.1 (ix3 k a b) + ∑ r : Fin 512, d.mixRow k.val a.val b.val (512 * (grid0.coords t 0).val + r.val) := by
  rw [outsAt0_B m c t h0]
  frame_out
  revert B
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize grid0.coords t = i
  intro B
  match k with
  | 0 =>
    refine (canon_miss 0 (Or.inl (show 0 < 3 by omega))).trans ?_
    refine (canon_miss 0 (Or.inl (show 0 < 2 by omega))).trans ?_
    refine (canon_miss 0 (Or.inl (show 0 < 1 by omega))).trans ?_
    refine (canon_hit (ix3 0 a b) (by exact three (by first | rfl | exact (Nat.zero_add _).symm) (by first | rfl | exact (Nat.zero_add _).symm) (by first | rfl | exact (Nat.zero_add _).symm))).trans ?_
    refine (mix0_apply B (ld_ps B 0 rfl) _ a b).trans ?_
    refine congrArg (· + _) ?_
    exact View.ld_unit_apply_of _ _ _ _ _ _ (by exact three (by first | rfl | exact (Nat.zero_add _).symm) (by first | rfl | exact (Nat.zero_add _).symm) (by first | rfl | exact (Nat.zero_add _).symm))
  | 1 =>
    refine (canon_miss 0 (Or.inl (show 1 < 3 by omega))).trans ?_
    refine (canon_miss 0 (Or.inl (show 1 < 2 by omega))).trans ?_
    refine (canon_hit (ix3 0 a b) (by exact three (by first | rfl | exact (Nat.zero_add _).symm) (by first | rfl | exact (Nat.zero_add _).symm) (by first | rfl | exact (Nat.zero_add _).symm))).trans ?_
    refine (mix1_apply B (ld_ps B 1 rfl) _ a b).trans ?_
    refine congrArg (· + _) ?_
    exact View.ld_unit_apply_of _ _ _ _ _ _ (by exact three (by first | rfl | exact (Nat.zero_add _).symm) (by first | rfl | exact (Nat.zero_add _).symm) (by first | rfl | exact (Nat.zero_add _).symm))
  | 2 =>
    refine (canon_miss 0 (Or.inl (show 2 < 3 by omega))).trans ?_
    refine (canon_hit (ix3 0 a b) (by exact three (by first | rfl | exact (Nat.zero_add _).symm) (by first | rfl | exact (Nat.zero_add _).symm) (by first | rfl | exact (Nat.zero_add _).symm))).trans ?_
    refine (mix2_apply B (ld_ps B 2 rfl) _ a b).trans ?_
    refine congrArg (· + _) ?_
    exact View.ld_unit_apply_of _ _ _ _ _ _ (by exact three (by first | rfl | exact (Nat.zero_add _).symm) (by first | rfl | exact (Nat.zero_add _).symm) (by first | rfl | exact (Nat.zero_add _).symm))
  | 3 =>
    refine (canon_hit (ix3 0 a b) (by exact three (by first | rfl | exact (Nat.zero_add _).symm) (by first | rfl | exact (Nat.zero_add _).symm) (by first | rfl | exact (Nat.zero_add _).symm))).trans ?_
    refine (mix3_apply B (ld_ps B 3 rfl) _ a b).trans ?_
    refine congrArg (· + _) ?_
    exact View.ld_unit_apply_of _ _ _ _ _ _ (by exact three (by first | rfl | exact (Nat.zero_add _).symm) (by first | rfl | exact (Nat.zero_add _).symm) (by first | rfl | exact (Nat.zero_add _).symm))

theorem dps_A (h0 : t.val % 16 = 0) (k : Fin 4) (b : Fin 128) :
    (outsAt0 m c t.val t.isLt).2.2.2 (ix2 0 ⟨128 * k.val + b.val, by have := k.isLt; have := b.isLt; omega⟩)
      = 0 + ∑ r : Fin 512, d.scaleRow k.val (512 * (grid0.coords t 0).val + r.val) b.val := by
  have := b.isLt
  rw [outsAt0_A m c t h0]
  frame_out
  revert B
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize grid0.coords t = i
  intro B
  match k with
  | 0 =>
    refine (canon_miss 1 (Or.inl (show 128 * 0 + b.val < 384 by omega))).trans ?_
    refine (canon_miss 1 (Or.inl (show 128 * 0 + b.val < 256 by omega))).trans ?_
    refine (canon_miss 1 (Or.inl (show 128 * 0 + b.val < 128 by omega))).trans ?_
    refine (canon_hit (ix2 0 b) (by exact two (by first | rfl | exact (Nat.zero_add _).symm) (by first | rfl | exact (Nat.zero_add _).symm))).trans ?_
    refine (scale0_apply B (ld_pw B 0) _ b).trans ?_
    refine congrArg (· + _) ?_
    exact (cov_hit _ (ix2 0 ⟨128 * 0 + b.val, by omega⟩) (by exact two (by first | rfl | exact (Nat.zero_add _).symm) (by first | rfl | exact (Nat.zero_add _).symm))).trans (zero4 _)
  | 1 =>
    refine (canon_miss 1 (Or.inl (show 128 * 1 + b.val < 384 by omega))).trans ?_
    refine (canon_miss 1 (Or.inl (show 128 * 1 + b.val < 256 by omega))).trans ?_
    refine (canon_hit (ix2 0 b) (by exact two (by first | rfl | exact (Nat.zero_add _).symm) (by first | rfl | exact (Nat.zero_add _).symm))).trans ?_
    refine (scale1_apply B (ld_pw B 1) _ b).trans ?_
    refine congrArg (· + _) ?_
    refine (cov_miss _ 1 (Or.inr (show 0 + 128 ≤ 128 + b.val by omega))).trans ?_
    exact (cov_hit _ (ix2 0 ⟨128 * 1 + b.val, by omega⟩) (by exact two (by first | rfl | exact (Nat.zero_add _).symm) (by first | rfl | exact (Nat.zero_add _).symm))).trans (zero4 _)
  | 2 =>
    refine (canon_miss 1 (Or.inl (show 128 * 2 + b.val < 384 by omega))).trans ?_
    refine (canon_hit (ix2 0 b) (by exact two (by first | rfl | exact (Nat.zero_add _).symm) (by first | rfl | exact (Nat.zero_add _).symm))).trans ?_
    refine (scale2_apply B (ld_pw B 2) _ b).trans ?_
    refine congrArg (· + _) ?_
    refine (cov_miss _ 1 (Or.inr (show 128 + 128 ≤ 256 + b.val by omega))).trans ?_
    refine (cov_miss _ 1 (Or.inr (show 0 + 128 ≤ 256 + b.val by omega))).trans ?_
    exact (cov_hit _ (ix2 0 ⟨128 * 2 + b.val, by omega⟩) (by exact two (by first | rfl | exact (Nat.zero_add _).symm) (by first | rfl | exact (Nat.zero_add _).symm))).trans (zero4 _)
  | 3 =>
    refine (canon_hit (ix2 0 b) (by exact two (by first | rfl | exact (Nat.zero_add _).symm) (by first | rfl | exact (Nat.zero_add _).symm))).trans ?_
    refine (scale3_apply B (ld_pw B 3) _ b).trans ?_
    refine congrArg (· + _) ?_
    refine (cov_miss _ 1 (Or.inr (show 256 + 128 ≤ 384 + b.val by omega))).trans ?_
    refine (cov_miss _ 1 (Or.inr (show 128 + 128 ≤ 384 + b.val by omega))).trans ?_
    refine (cov_miss _ 1 (Or.inr (show 0 + 128 ≤ 384 + b.val by omega))).trans ?_
    exact (cov_hit _ (ix2 0 ⟨128 * 3 + b.val, by omega⟩) (by exact two (by first | rfl | exact (Nat.zero_add _).symm) (by first | rfl | exact (Nat.zero_add _).symm))).trans (zero4 _)

theorem dps_B (h0 : ¬ t.val % 16 = 0) (k : Fin 4) (b : Fin 128) :
    (outsAt0 m c t.val t.isLt).2.2.2 (ix2 0 ⟨128 * k.val + b.val, by have := k.isLt; have := b.isLt; omega⟩)
      = (outsAt0 m c (t.val - 1) (Nat.lt_of_le_of_lt (Nat.sub_le _ _) t.isLt)).2.2.2 (ix2 0 ⟨128 * k.val + b.val, by have := k.isLt; have := b.isLt; omega⟩) + ∑ r : Fin 512, d.scaleRow k.val (512 * (grid0.coords t 0).val + r.val) b.val := by
  have := b.isLt
  rw [outsAt0_B m c t h0]
  frame_out
  revert B
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize grid0.coords t = i
  intro B
  match k with
  | 0 =>
    refine (canon_miss 1 (Or.inl (show 128 * 0 + b.val < 384 by omega))).trans ?_
    refine (canon_miss 1 (Or.inl (show 128 * 0 + b.val < 256 by omega))).trans ?_
    refine (canon_miss 1 (Or.inl (show 128 * 0 + b.val < 128 by omega))).trans ?_
    refine (canon_hit (ix2 0 b) (by exact two (by first | rfl | exact (Nat.zero_add _).symm) (by first | rfl | exact (Nat.zero_add _).symm))).trans ?_
    refine (scale0_apply B (ld_pw B 0) _ b).trans ?_
    refine congrArg (· + _) ?_
    exact View.ld_unit_apply_of _ _ _ _ _ _ (by exact two (by first | rfl | exact (Nat.zero_add _).symm) (by first | rfl | exact (Nat.zero_add _).symm))
  | 1 =>
    refine (canon_miss 1 (Or.inl (show 128 * 1 + b.val < 384 by omega))).trans ?_
    refine (canon_miss 1 (Or.inl (show 128 * 1 + b.val < 256 by omega))).trans ?_
    refine (canon_hit (ix2 0 b) (by exact two (by first | rfl | exact (Nat.zero_add _).symm) (by first | rfl | exact (Nat.zero_add _).symm))).trans ?_
    refine (scale1_apply B (ld_pw B 1) _ b).trans ?_
    refine congrArg (· + _) ?_
    exact View.ld_unit_apply_of _ _ _ _ _ _ (by exact two (by first | rfl | exact (Nat.zero_add _).symm) (by first | rfl | exact (Nat.zero_add _).symm))
  | 2 =>
    refine (canon_miss 1 (Or.inl (show 128 * 2 + b.val < 384 by omega))).trans ?_
    refine (canon_hit (ix2 0 b) (by exact two (by first | rfl | exact (Nat.zero_add _).symm) (by first | rfl | exact (Nat.zero_add _).symm))).trans ?_
    refine (scale2_apply B (ld_pw B 2) _ b).trans ?_
    refine congrArg (· + _) ?_
    exact View.ld_unit_apply_of _ _ _ _ _ _ (by exact two (by first | rfl | exact (Nat.zero_add _).symm) (by first | rfl | exact (Nat.zero_add _).symm))
  | 3 =>
    refine (canon_hit (ix2 0 b) (by exact two (by first | rfl | exact (Nat.zero_add _).symm) (by first | rfl | exact (Nat.zero_add _).symm))).trans ?_
    refine (scale3_apply B (ld_pw B 3) _ b).trans ?_
    refine congrArg (· + _) ?_
    exact View.ld_unit_apply_of _ _ _ _ _ _ (by exact two (by first | rfl | exact (Nat.zero_add _).symm) (by first | rfl | exact (Nat.zero_add _).symm))

end Cert.KernelIdeal.Pay

end
-- ==== Proof.Inputs.lean ====
module

public import proofs.«01_k».proof.Proof.Spec

/-!
# The arrays of the arguments

The five arguments read as the arrays of `Cert.Mix.Data`: columns 3072, 3584, 4096 and 4608 of the projection are the
output gate, the input gate, the convolution's input and the pooled branch's input, and the incoming gradient is that of
the gated convolution beside that of the pooled branch.
-/

@[expose] public section

noncomputable section

namespace Cert.Mix

open Idealize.ShloMosaic

/-- An array's element by row and column, zero outside. -/
def at2 {n k : ℕ} (A : (⟨2, ![n, k]⟩ : Shape).Idx → EReal) (t : ℤ) (c : ℕ) : EReal :=
  if h : 0 ≤ t ∧ t < n ∧ c < k then A (ix2 ⟨t.toNat, by omega⟩ ⟨c, h.2.2⟩) else 0

theorem at2_of {n k : ℕ} (A : (⟨2, ![n, k]⟩ : Shape).Idx → EReal) {t : ℤ} {c : ℕ} (i : Fin n) (j : Fin k) (ht : t = i.val) (hc : c = j.val) :
    at2 A t c = A (ix2 i j) := by
  subst ht hc
  have := i.isLt
  rw [at2, dif_pos ⟨by omega, by omega, j.isLt⟩]
  rfl

theorem at2_out {n k : ℕ} (A : (⟨2, ![n, k]⟩ : Shape).Idx → EReal) {t : ℤ} (c : ℕ) (ht : t < 0 ∨ n ≤ t) : at2 A t c = 0 := by
  rw [at2, dif_neg (by omega)]

/-- An array's element by group, row and column, zero outside. -/
def at3 {n k l : ℕ} (A : (⟨3, ![n, k, l]⟩ : Shape).Idx → EReal) (g a b : ℕ) : EReal :=
  if h : g < n ∧ a < k ∧ b < l then A (ix3 ⟨g, h.1⟩ ⟨a, h.2.1⟩ ⟨b, h.2.2⟩) else 0

theorem at3_of {n k l : ℕ} (A : (⟨3, ![n, k, l]⟩ : Shape).Idx → EReal) (g : Fin n) (a : Fin k) (b : Fin l) :
    at3 A g.val a.val b.val = A (ix3 g a b) := by
  rw [at3, dif_pos ⟨g.isLt, a.isLt, b.isLt⟩]

/-- The arrays of the five arguments. -/
def dataOf (z : (⟨2, ![8192, 5120]⟩ : Shape).Idx → EReal) (dy : (⟨2, ![8192, 1024]⟩ : Shape).Idx → EReal)
    (cw : (⟨2, ![3, 512]⟩ : Shape).Idx → EReal) (pw : (⟨3, ![4, 128, 128]⟩ : Shape).Idx → EReal)
    (ps : (⟨2, ![1, 512]⟩ : Shape).Idx → EReal) : Data where
  gb t c := at2 z t (3072 + c)
  gc t c := at2 z t (3584 + c)
  ci t c := at2 z t (4096 + c)
  x t c := at2 z t (4608 + c)
  dyc t c := at2 dy t c
  dyp t c := at2 dy t (512 + c)
  cw k c := at2 cw k c
  pw g a b := at3 pw g a b
  ps c := at2 ps 0 c

end Cert.Mix

end
-- ==== Proof.Arrays.lean ====
module

public import proofs.«01_k».proof.Proof.Outs
public import proofs.«01_k».proof.Proof.Inputs

/-!
# The kernel's arrays

Every block a grid point reads is a part of an argument, so the kernel's four results are the functions of `Cert.Mix` of
its arguments.
-/

@[expose] public section

set_option maxRecDepth 16384

noncomputable section

namespace Cert.KernelIdeal.Pay

open Cert.KernelIdeal Cert.KernelIdeal.Gen Cert.Mix Idealize.ShloMosaic Idealize.ShloMosaic.TcCoe Idealize.ShloMosaic.Tactic

variable (m : (ℓ : Loc nD τ sig) → Buf (Elt Ideal) ℓ) (c : Dev nD)

/-- The arrays of the arguments. -/
def arrays : Data :=
  dataOf (m ((c : Thread nD τ).loc main_arg0)) (m ((c : Thread nD τ).loc main_arg1)) (m ((c : Thread nD τ).loc main_arg2)) (m ((c : Thread nD τ).loc main_arg3)) (m ((c : Thread nD τ).loc main_arg4))

theorem coords_val (t : Fin cfg0.N) : (grid0.coords t 0).val = t.val :=
  (by decide +kernel : ∀ t : Fin grid0.N, (grid0.coords t 0).val = t.val) t

theorem index0 (t : Fin cfg0.N) : win0_0.index t 0 = t.val ∧ win0_0.index t 1 = 6 :=
  (by decide +kernel : ∀ t : Fin grid0.N, win0_0.index t 0 = t.val ∧ win0_0.index t 1 = 6) t

theorem index1 (t : Fin cfg0.N) : win0_1.index t 0 = t.val ∧ win0_1.index t 1 = 7 :=
  (by decide +kernel : ∀ t : Fin grid0.N, win0_1.index t 0 = t.val ∧ win0_1.index t 1 = 7) t

theorem index2 (t : Fin cfg0.N) : win0_2.index t 0 = t.val ∧ win0_2.index t 1 = 8 :=
  (by decide +kernel : ∀ t : Fin grid0.N, win0_2.index t 0 = t.val ∧ win0_2.index t 1 = 8) t

theorem index3 (t : Fin cfg0.N) : win0_3.index t 0 = t.val ∧ win0_3.index t 1 = 9 :=
  (by decide +kernel : ∀ t : Fin grid0.N, win0_3.index t 0 = t.val ∧ win0_3.index t 1 = 9) t

theorem index4 (t : Fin cfg0.N) : win0_4.index t 0 = 32 * t.val - 1 ∧ win0_4.index t 1 = 7 :=
  (by decide +kernel : ∀ t : Fin grid0.N, win0_4.index t 0 = 32 * t.val - 1 ∧ win0_4.index t 1 = 7) t

theorem index5 (t : Fin cfg0.N) : win0_5.index t 0 = 32 * t.val - 1 ∧ win0_5.index t 1 = 8 :=
  (by decide +kernel : ∀ t : Fin grid0.N, win0_5.index t 0 = 32 * t.val - 1 ∧ win0_5.index t 1 = 8) t

theorem index6 (t : Fin cfg0.N) : win0_6.index t 0 = 32 * t.val - 1 ∧ win0_6.index t 1 = 9 :=
  (by decide +kernel : ∀ t : Fin grid0.N, win0_6.index t 0 = 32 * t.val - 1 ∧ win0_6.index t 1 = 9) t

theorem index7 (t : Fin cfg0.N) : win0_7.index t 0 = min (32 * (t.val + 1)) 511 ∧ win0_7.index t 1 = 6 :=
  (by decide +kernel : ∀ t : Fin grid0.N, win0_7.index t 0 = min (32 * (t.val + 1)) 511 ∧ win0_7.index t 1 = 6) t

theorem index8 (t : Fin cfg0.N) : win0_8.index t 0 = t.val ∧ win0_8.index t 1 = 0 :=
  (by decide +kernel : ∀ t : Fin grid0.N, win0_8.index t 0 = t.val ∧ win0_8.index t 1 = 0) t

theorem index9 (t : Fin cfg0.N) : win0_9.index t 0 = min (32 * (t.val + 1)) 511 ∧ win0_9.index t 1 = 0 :=
  (by decide +kernel : ∀ t : Fin grid0.N, win0_9.index t 0 = min (32 * (t.val + 1)) 511 ∧ win0_9.index t 1 = 0) t

theorem index10 (t : Fin cfg0.N) : win0_10.index t 0 = 0 ∧ win0_10.index t 1 = 0 :=
  (by decide +kernel : ∀ t : Fin grid0.N, win0_10.index t 0 = 0 ∧ win0_10.index t 1 = 0) t

theorem index12 (t : Fin cfg0.N) : win0_12.index t 0 = 0 ∧ win0_12.index t 1 = 0 :=
  (by decide +kernel : ∀ t : Fin grid0.N, win0_12.index t 0 = 0 ∧ win0_12.index t 1 = 0) t

theorem index13 (t : Fin cfg0.N) : win0_13.index t 0 = t.val ∧ win0_13.index t 1 = 0 :=
  (by decide +kernel : ∀ t : Fin grid0.N, win0_13.index t 0 = t.val ∧ win0_13.index t 1 = 0) t

theorem index11 (t : Fin cfg0.N) : win0_11.index t 0 = 0 ∧ win0_11.index t 1 = 0 ∧ win0_11.index t 2 = 0 :=
  (by decide +kernel : ∀ t : Fin grid0.N, win0_11.index t 0 = 0 ∧ win0_11.index t 1 = 0 ∧ win0_11.index t 2 = 0) t

theorem block0 (t : Fin cfg0.N) (r : Fin 512) (q : Fin 512) (i : Fin 8192) (j : Fin 5120)
    (hi : i.val = (t.val) * 512 + r.val) (hj : j.val = 6 * 512 + q.val) :
    iblk m c 0 t (ix2 r q) = m ((c : Thread nD τ).loc main_arg0) (ix2 i j) := by
  blk_simp [iblk]
  rw [V_main_arg0]
  obtain ⟨h0, h1⟩ := index0 t
  refine congrArg (m ((c : Thread nD τ).loc main_arg0)) (Shape.idx_ext₂ ?_ ?_)
  · blk_simp
    rw [h0]; exact hi.symm
  · blk_simp
    rw [h1]; exact hj.symm

theorem block1 (t : Fin cfg0.N) (r : Fin 512) (q : Fin 512) (i : Fin 8192) (j : Fin 5120)
    (hi : i.val = (t.val) * 512 + r.val) (hj : j.val = 7 * 512 + q.val) :
    iblk m c 1 t (ix2 r q) = m ((c : Thread nD τ).loc main_arg0) (ix2 i j) := by
  blk_simp [iblk]
  rw [V_main_arg0]
  obtain ⟨h0, h1⟩ := index1 t
  refine congrArg (m ((c : Thread nD τ).loc main_arg0)) (Shape.idx_ext₂ ?_ ?_)
  · blk_simp
    rw [h0]; exact hi.symm
  · blk_simp
    rw [h1]; exact hj.symm

theorem block2 (t : Fin cfg0.N) (r : Fin 512) (q : Fin 512) (i : Fin 8192) (j : Fin 5120)
    (hi : i.val = (t.val) * 512 + r.val) (hj : j.val = 8 * 512 + q.val) :
    iblk m c 2 t (ix2 r q) = m ((c : Thread nD τ).loc main_arg0) (ix2 i j) := by
  blk_simp [iblk]
  rw [V_main_arg0]
  obtain ⟨h0, h1⟩ := index2 t
  refine congrArg (m ((c : Thread nD τ).loc main_arg0)) (Shape.idx_ext₂ ?_ ?_)
  · blk_simp
    rw [h0]; exact hi.symm
  · blk_simp
    rw [h1]; exact hj.symm

theorem block3 (t : Fin cfg0.N) (r : Fin 512) (q : Fin 512) (i : Fin 8192) (j : Fin 5120)
    (hi : i.val = (t.val) * 512 + r.val) (hj : j.val = 9 * 512 + q.val) :
    iblk m c 3 t (ix2 r q) = m ((c : Thread nD τ).loc main_arg0) (ix2 i j) := by
  blk_simp [iblk]
  rw [V_main_arg0]
  obtain ⟨h0, h1⟩ := index3 t
  refine congrArg (m ((c : Thread nD τ).loc main_arg0)) (Shape.idx_ext₂ ?_ ?_)
  · blk_simp
    rw [h0]; exact hi.symm
  · blk_simp
    rw [h1]; exact hj.symm

theorem block4 (t : Fin cfg0.N) (r : Fin 16) (q : Fin 512) (i : Fin 8192) (j : Fin 5120)
    (hi : i.val = (32 * t.val - 1) * 16 + r.val) (hj : j.val = 7 * 512 + q.val) :
    iblk m c 4 t (ix2 r q) = m ((c : Thread nD τ).loc main_arg0) (ix2 i j) := by
  blk_simp [iblk]
  rw [V_main_arg0]
  obtain ⟨h0, h1⟩ := index4 t
  refine congrArg (m ((c : Thread nD τ).loc main_arg0)) (Shape.idx_ext₂ ?_ ?_)
  · blk_simp
    rw [h0]; exact hi.symm
  · blk_simp
    rw [h1]; exact hj.symm

theorem block5 (t : Fin cfg0.N) (r : Fin 16) (q : Fin 512) (i : Fin 8192) (j : Fin 5120)
    (hi : i.val = (32 * t.val - 1) * 16 + r.val) (hj : j.val = 8 * 512 + q.val) :
    iblk m c 5 t (ix2 r q) = m ((c : Thread nD τ).loc main_arg0) (ix2 i j) := by
  blk_simp [iblk]
  rw [V_main_arg0]
  obtain ⟨h0, h1⟩ := index5 t
  refine congrArg (m ((c : Thread nD τ).loc main_arg0)) (Shape.idx_ext₂ ?_ ?_)
  · blk_simp
    rw [h0]; exact hi.symm
  · blk_simp
    rw [h1]; exact hj.symm

theorem block6 (t : Fin cfg0.N) (r : Fin 16) (q : Fin 512) (i : Fin 8192) (j : Fin 5120)
    (hi : i.val = (32 * t.val - 1) * 16 + r.val) (hj : j.val = 9 * 512 + q.val) :
    iblk m c 6 t (ix2 r q) = m ((c : Thread nD τ).loc main_arg0) (ix2 i j) := by
  blk_simp [iblk]
  rw [V_main_arg0]
  obtain ⟨h0, h1⟩ := index6 t
  refine congrArg (m ((c : Thread nD τ).loc main_arg0)) (Shape.idx_ext₂ ?_ ?_)
  · blk_simp
    rw [h0]; exact hi.symm
  · blk_simp
    rw [h1]; exact hj.symm

theorem block7 (t : Fin cfg0.N) (r : Fin 16) (q : Fin 512) (i : Fin 8192) (j : Fin 5120)
    (hi : i.val = (min (32 * (t.val + 1)) 511) * 16 + r.val) (hj : j.val = 6 * 512 + q.val) :
    iblk m c 7 t (ix2 r q) = m ((c : Thread nD τ).loc main_arg0) (ix2 i j) := by
  blk_simp [iblk]
  rw [V_main_arg0]
  obtain ⟨h0, h1⟩ := index7 t
  refine congrArg (m ((c : Thread nD τ).loc main_arg0)) (Shape.idx_ext₂ ?_ ?_)
  · blk_simp
    rw [h0]; exact hi.symm
  · blk_simp
    rw [h1]; exact hj.symm

theorem block8 (t : Fin cfg0.N) (r : Fin 512) (q : Fin 1024) (i : Fin 8192) (j : Fin 1024)
    (hi : i.val = (t.val) * 512 + r.val) (hj : j.val = 0 * 1024 + q.val) :
    iblk m c 8 t (ix2 r q) = m ((c : Thread nD τ).loc main_arg1) (ix2 i j) := by
  blk_simp [iblk]
  rw [V_main_arg1]
  obtain ⟨h0, h1⟩ := index8 t
  refine congrArg (m ((c : Thread nD τ).loc main_arg1)) (Shape.idx_ext₂ ?_ ?_)
  · blk_simp
    rw [h0]; exact hi.symm
  · blk_simp
    rw [h1]; exact hj.symm

theorem block9 (t : Fin cfg0.N) (r : Fin 16) (q : Fin 1024) (i : Fin 8192) (j : Fin 1024)
    (hi : i.val = (min (32 * (t.val + 1)) 511) * 16 + r.val) (hj : j.val = 0 * 1024 + q.val) :
    iblk m c 9 t (ix2 r q) = m ((c : Thread nD τ).loc main_arg1) (ix2 i j) := by
  blk_simp [iblk]
  rw [V_main_arg1]
  obtain ⟨h0, h1⟩ := index9 t
  refine congrArg (m ((c : Thread nD τ).loc main_arg1)) (Shape.idx_ext₂ ?_ ?_)
  · blk_simp
    rw [h0]; exact hi.symm
  · blk_simp
    rw [h1]; exact hj.symm

theorem block10 (t : Fin cfg0.N) (r : Fin 3) (q : Fin 512) (i : Fin 3) (j : Fin 512)
    (hi : i.val = (0) * 3 + r.val) (hj : j.val = 0 * 512 + q.val) :
    iblk m c 10 t (ix2 r q) = m ((c : Thread nD τ).loc main_arg2) (ix2 i j) := by
  blk_simp [iblk]
  rw [V_main_arg2]
  obtain ⟨h0, h1⟩ := index10 t
  refine congrArg (m ((c : Thread nD τ).loc main_arg2)) (Shape.idx_ext₂ ?_ ?_)
  · blk_simp
    rw [h0]; exact hi.symm
  · blk_simp
    rw [h1]; exact hj.symm

theorem block12 (t : Fin cfg0.N) (r : Fin 1) (q : Fin 512) (i : Fin 1) (j : Fin 512)
    (hi : i.val = (0) * 1 + r.val) (hj : j.val = 0 * 512 + q.val) :
    iblk m c 12 t (ix2 r q) = m ((c : Thread nD τ).loc main_arg4) (ix2 i j) := by
  blk_simp [iblk]
  rw [V_main_arg4]
  obtain ⟨h0, h1⟩ := index12 t
  refine congrArg (m ((c : Thread nD τ).loc main_arg4)) (Shape.idx_ext₂ ?_ ?_)
  · blk_simp
    rw [h0]
  · blk_simp
    rw [h1]; exact hj.symm

theorem block11 (t : Fin cfg0.N) (g : Fin 4) (a b : Fin 128) :
    iblk m c 11 t (ix3 g a b) = m ((c : Thread nD τ).loc main_arg3) (ix3 g a b) := by
  blk_simp [iblk]
  obtain ⟨h0, h1, h2⟩ := index11 t
  entry_read
  show m ((c : Thread nD τ).loc main_arg3) _ = _
  refine congrArg (m ((c : Thread nD τ).loc main_arg3)) (funext fun x => Fin.ext ?_)
  match x with
  | 0 => blk_simp; rw [h0]; exact Nat.zero_add _
  | 1 => blk_simp; rw [h1]; exact Nat.zero_add _
  | 2 => blk_simp; rw [h2]; exact Nat.zero_add _

theorem arrays_gb (t : ℤ) (q : ℕ) : (arrays m c).gb t q = at2 (n := 8192) (k := 5120) (m ((c : Thread nD τ).loc main_arg0)) t (3072 + q) := rfl
theorem arrays_gc (t : ℤ) (q : ℕ) : (arrays m c).gc t q = at2 (n := 8192) (k := 5120) (m ((c : Thread nD τ).loc main_arg0)) t (3584 + q) := rfl
theorem arrays_ci (t : ℤ) (q : ℕ) : (arrays m c).ci t q = at2 (n := 8192) (k := 5120) (m ((c : Thread nD τ).loc main_arg0)) t (4096 + q) := rfl
theorem arrays_x (t : ℤ) (q : ℕ) : (arrays m c).x t q = at2 (n := 8192) (k := 5120) (m ((c : Thread nD τ).loc main_arg0)) t (4608 + q) := rfl
theorem arrays_dyc (t : ℤ) (q : ℕ) : (arrays m c).dyc t q = at2 (n := 8192) (k := 1024) (m ((c : Thread nD τ).loc main_arg1)) t (q) := rfl
theorem arrays_dyp (t : ℤ) (q : ℕ) : (arrays m c).dyp t q = at2 (n := 8192) (k := 1024) (m ((c : Thread nD τ).loc main_arg1)) t (512 + q) := rfl

/-- What a grid point reads, as parts of the arguments. -/
theorem blocks (t : Fin cfg0.N) : Blocks (arrays m c) (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) := by
  have ht : t.val < 16 := t.isLt
  constructor
  · exact (coords_val t).trans_lt ht
  · intro r q
    have := r.isLt; have := q.isLt
    rw [coords_val, block0 m c t r q ⟨512 * t.val + r.val, by omega⟩ ⟨3072 + q.val, by omega⟩ (by show 512 * t.val + r.val = _; omega) rfl]
    rw [arrays_gb, at2_of (n := 8192) (k := 5120) _ ⟨512 * t.val + r.val, by omega⟩ ⟨3072 + q.val, by omega⟩ (by show _ = ((512 * t.val + r.val : ℕ) : ℤ); omega) rfl]
  · intro r q
    have := r.isLt; have := q.isLt
    rw [coords_val, block1 m c t r q ⟨512 * t.val + r.val, by omega⟩ ⟨3584 + q.val, by omega⟩ (by show 512 * t.val + r.val = _; omega) rfl]
    rw [arrays_gc, at2_of (n := 8192) (k := 5120) _ ⟨512 * t.val + r.val, by omega⟩ ⟨3584 + q.val, by omega⟩ (by show _ = ((512 * t.val + r.val : ℕ) : ℤ); omega) rfl]
  · intro r q
    have := r.isLt; have := q.isLt
    rw [coords_val, block2 m c t r q ⟨512 * t.val + r.val, by omega⟩ ⟨4096 + q.val, by omega⟩ (by show 512 * t.val + r.val = _; omega) rfl]
    rw [arrays_ci, at2_of (n := 8192) (k := 5120) _ ⟨512 * t.val + r.val, by omega⟩ ⟨4096 + q.val, by omega⟩ (by show _ = ((512 * t.val + r.val : ℕ) : ℤ); omega) rfl]
  · intro r q
    have := r.isLt; have := q.isLt
    rw [coords_val, block3 m c t r q ⟨512 * t.val + r.val, by omega⟩ ⟨4608 + q.val, by omega⟩ (by show 512 * t.val + r.val = _; omega) rfl]
    rw [arrays_x, at2_of (n := 8192) (k := 5120) _ ⟨512 * t.val + r.val, by omega⟩ ⟨4608 + q.val, by omega⟩ (by show _ = ((512 * t.val + r.val : ℕ) : ℤ); omega) rfl]
  · intro h r q
    rw [coords_val] at h ⊢
    have := r.isLt; have := q.isLt
    rw [block4 m c t r q ⟨512 * t.val + r.val - 16, by omega⟩ ⟨3584 + q.val, by omega⟩ (by show 512 * t.val + r.val - 16 = _; omega) rfl]
    rw [arrays_gc, at2_of (n := 8192) (k := 5120) _ ⟨512 * t.val + r.val - 16, by omega⟩ ⟨3584 + q.val, by omega⟩ (by show _ = ((512 * t.val + r.val - 16 : ℕ) : ℤ); omega) rfl]
  · intro h r q
    rw [coords_val] at h ⊢
    have := r.isLt; have := q.isLt
    rw [block5 m c t r q ⟨512 * t.val + r.val - 16, by omega⟩ ⟨4096 + q.val, by omega⟩ (by show 512 * t.val + r.val - 16 = _; omega) rfl]
    rw [arrays_ci, at2_of (n := 8192) (k := 5120) _ ⟨512 * t.val + r.val - 16, by omega⟩ ⟨4096 + q.val, by omega⟩ (by show _ = ((512 * t.val + r.val - 16 : ℕ) : ℤ); omega) rfl]
  · intro h r q
    rw [coords_val] at h ⊢
    have := r.isLt; have := q.isLt
    rw [block6 m c t r q ⟨512 * t.val + r.val - 16, by omega⟩ ⟨4608 + q.val, by omega⟩ (by show 512 * t.val + r.val - 16 = _; omega) rfl]
    rw [arrays_x, at2_of (n := 8192) (k := 5120) _ ⟨512 * t.val + r.val - 16, by omega⟩ ⟨4608 + q.val, by omega⟩ (by show _ = ((512 * t.val + r.val - 16 : ℕ) : ℤ); omega) rfl]
  · intro h r q
    rw [coords_val] at h ⊢
    have := r.isLt; have := q.isLt
    rw [block7 m c t r q ⟨512 * t.val + r.val + 512, by omega⟩ ⟨3072 + q.val, by omega⟩ (by show 512 * t.val + r.val + 512 = _; omega) rfl]
    rw [arrays_gb, at2_of (n := 8192) (k := 5120) _ ⟨512 * t.val + r.val + 512, by omega⟩ ⟨3072 + q.val, by omega⟩ (by show _ = ((512 * t.val + r.val + 512 : ℕ) : ℤ); omega) rfl]
  · intro r q hq
    have := r.isLt; have := q.isLt
    rw [coords_val, block8 m c t r q ⟨512 * t.val + r.val, by omega⟩ q (by show 512 * t.val + r.val = _; omega) (by omega)]
    rw [arrays_dyc, at2_of (n := 8192) (k := 1024) _ ⟨512 * t.val + r.val, by omega⟩ q (by show _ = ((512 * t.val + r.val : ℕ) : ℤ); omega) rfl]
  · intro r q hq
    have := r.isLt; have := q.isLt
    rw [coords_val, block8 m c t r q ⟨512 * t.val + r.val, by omega⟩ q (by show 512 * t.val + r.val = _; omega) (by omega)]
    rw [arrays_dyp, at2_of (n := 8192) (k := 1024) _ ⟨512 * t.val + r.val, by omega⟩ q (by show _ = ((512 * t.val + r.val : ℕ) : ℤ); omega) (by omega)]
  · intro h r q hq
    rw [coords_val] at h ⊢
    have := r.isLt; have := q.isLt
    rw [block9 m c t r q ⟨512 * t.val + r.val + 512, by omega⟩ q (by show 512 * t.val + r.val + 512 = _; omega) (by omega)]
    rw [arrays_dyc, at2_of (n := 8192) (k := 1024) _ ⟨512 * t.val + r.val + 512, by omega⟩ q (by show _ = ((512 * t.val + r.val + 512 : ℕ) : ℤ); omega) rfl]
  · intro h r q hq
    rw [coords_val] at h ⊢
    have := r.isLt; have := q.isLt
    rw [block9 m c t r q ⟨512 * t.val + r.val + 512, by omega⟩ q (by show 512 * t.val + r.val + 512 = _; omega) (by omega)]
    rw [arrays_dyp, at2_of (n := 8192) (k := 1024) _ ⟨512 * t.val + r.val + 512, by omega⟩ q (by show _ = ((512 * t.val + r.val + 512 : ℕ) : ℤ); omega) (by omega)]
  · intro k q
    rw [block10 m c t k q k q (by omega) (by omega)]
    exact Eq.symm (at2_of (n := 3) (k := 512) _ _ _ rfl rfl)
  · intro g a b
    rw [block11]
    exact Eq.symm (at3_of _ _ _ _)
  · intro q
    rw [block12 m c t 0 q 0 q (by simp) (by omega)]
    exact Eq.symm (at2_of (n := 1) (k := 512) _ _ _ rfl rfl)
  · intro t h q
    exact ⟨at2_out _ _ (.inl h), at2_out _ _ (.inl h)⟩
  · intro t h q
    exact ⟨at2_out _ _ (.inr h), at2_out _ _ (.inr h)⟩

end Cert.KernelIdeal.Pay

end
-- ==== Proof.Result.lean ====
module

public import proofs.«01_k».proof.Proof.Arrays

/-!
# The kernel's four results

The projection's gradient block by block, and the three gradients that are accumulated over the grid.
-/

@[expose] public section

set_option maxRecDepth 16384

noncomputable section

namespace Cert.KernelIdeal.Pay

open Cert.KernelIdeal Cert.KernelIdeal.Gen Cert.Mix Idealize.ShloMosaic Idealize.ShloMosaic.TcCoe Idealize.ShloMosaic.Tactic

variable (m : (ℓ : Loc nD τ sig) → Buf (Elt Ideal) ℓ) (c : Dev nD)

theorem dz_point (t : Fin cfg0.N) (r : Fin 512) (q : Fin 2048) :
    (outsAt0 m c t.val t.isLt).1 (ix2 r q) = dz (arrays m c) (512 * t.val + r.val) q.val := by
  by_cases h0 : t.val % 16 = 0
  · have h := dz_A (blocks m c t) h0 r q
    rw [coords_val] at h
    exact h
  · have h := dz_B (blocks m c t) h0 r q
    rw [coords_val] at h
    exact h

/-- The projection's gradient. -/
theorem dz_result : (dats m 0 c).arrAt 13 cfg0.N = fun y : S8192x2048.Idx => dz (arrays m c) (y 0).val (y 1).val := by
  refine (dats m 0 c).arrAt_eq_of_covers 13 _ (by decide +kernel) fun t hf y => ?_
  blk_simp
  rw [after0_13]
  obtain ⟨h0, h1⟩ := index13 t
  rw [h0, h1]
  refine Eq.trans (congrArg _ (funext fun a => match a with | 0 => rfl | 1 => rfl : (y : S512x2048.Idx) = ix2 (y 0) (y 1))) ((dz_point m c t (y 0) (y 1)).trans ?_)
  congr 1
  · push_cast; ring
  · omega

/-- The rows of sixteen blocks are the rows of the sequence. -/
theorem sum_blocks (f : ℤ → EReal) : ∑ p : Fin cfg0.N, ∑ r : Fin 512, f (512 * p.val + r.val) = ∑ s : Fin 8192, f s.val := by
  have h := Fin.sum_univ_univ_mul_add 16 512 (fun s : ℕ => f s)
  refine Eq.trans ?_ h
  refine Finset.sum_congr rfl fun p _ => Finset.sum_congr rfl fun r _ => ?_
  congr 1
  push_cast; ring

/-- The gradient of the three taps. -/
theorem dcw_result : (dats m 0 c).arrAt 14 cfg0.N = fun y : S3x512.Idx => ∑ s : Fin 8192, (arrays m c).tap (y 0).val s.val (y 1).val := by
  refine (dats m 0 c).arrAt_eq_of_after_last 14 t0_15 (by decide +kernel) _ fun j => ?_
  blk_simp
  rw [after0_14]
  refine (Pipeline.eq_sum_fin_of_reset_step_apply_last (fun n h => (outsAt0 m c n h).2.1) 16 (fun _ => (0 : EReal))
    (fun t (j : S3x512.Idx) => ∑ r : Fin 512, (arrays m c).tap (j 0).val (512 * t.val + r.val) (j 1).val) ?_ ?_ (by decide) t0_15 rfl j).trans ?_
  · intro t h0 j
    obtain ⟨k, q, rfl⟩ : ∃ (k : Fin 3) (q : Fin 512), j = ix2 k q := ⟨j 0, j 1, funext fun a => match a with | 0 => rfl | 1 => rfl⟩
    have h := dcw_A (blocks m c t) h0 k q
    rw [coords_val] at h
    exact h
  · intro t h0 j
    obtain ⟨k, q, rfl⟩ : ∃ (k : Fin 3) (q : Fin 512), j = ix2 k q := ⟨j 0, j 1, funext fun a => match a with | 0 => rfl | 1 => rfl⟩
    have h := dcw_B (blocks m c t) h0 k q
    rw [coords_val] at h
    exact h
  · rw [zero_add]
    exact sum_blocks fun s => (arrays m c).tap (j 0).val s (j 1).val

/-- The gradient of the mixing matrices. -/
theorem dpw_result : (dats m 0 c).arrAt 15 cfg0.N = fun y : S4x128x128.Idx => ∑ s : Fin 8192, (arrays m c).mixRow (y 0).val (y 1).val (y 2).val s.val := by
  refine (dats m 0 c).arrAt_eq_of_after_last 15 t0_15 (by decide +kernel) _ fun j => ?_
  blk_simp
  rw [after0_15]
  refine (Pipeline.eq_sum_fin_of_reset_step_apply_last (fun n h => (outsAt0 m c n h).2.2.1) 16 (fun _ => (0 : EReal))
    (fun t (j : S4x128x128.Idx) => ∑ r : Fin 512, (arrays m c).mixRow (j 0).val (j 1).val (j 2).val (512 * t.val + r.val)) ?_ ?_ (by decide) t0_15 rfl j).trans ?_
  · intro t h0 j
    obtain ⟨k, a, b, rfl⟩ : ∃ (k : Fin 4) (a b : Fin 128), j = ix3 k a b := ⟨j 0, j 1, j 2, funext fun a => match a with | 0 => rfl | 1 => rfl | 2 => rfl⟩
    have h := dpw_A (blocks m c t) h0 k a b
    rw [coords_val] at h
    exact h
  · intro t h0 j
    obtain ⟨k, a, b, rfl⟩ : ∃ (k : Fin 4) (a b : Fin 128), j = ix3 k a b := ⟨j 0, j 1, j 2, funext fun a => match a with | 0 => rfl | 1 => rfl | 2 => rfl⟩
    have h := dpw_B (blocks m c t) h0 k a b
    rw [coords_val] at h
    exact h
  · rw [zero_add]
    exact sum_blocks fun s => (arrays m c).mixRow (j 0).val (j 1).val (j 2).val s

/-- The gradient of the scale. -/
theorem dps_result : (dats m 0 c).arrAt 16 cfg0.N = fun y : S1x512.Idx => ∑ s : Fin 8192, (arrays m c).scaleRow ((y 1).val / 128) s.val ((y 1).val % 128) := by
  refine (dats m 0 c).arrAt_eq_of_after_last 16 t0_15 (by decide +kernel) _ fun j => ?_
  have idx : ∀ j : S1x512.Idx, ∃ (g : Fin 4) (b : Fin 128) (h : _), j = ix2 0 ⟨128 * g.val + b.val, h⟩ ∧ g.val = (j 1).val / 128 ∧ b.val = (j 1).val % 128 := by
    intro j
    have h1 : (j 1).val < 512 := (j 1).isLt
    have h0 : (j 0).val < 1 := (j 0).isLt
    refine ⟨⟨(j 1).val / 128, by omega⟩, ⟨(j 1).val % 128, by omega⟩, by dsimp only; omega, ?_, rfl, rfl⟩
    refine Shape.idx_ext₂ ?_ ?_
    · show (j 0).val = 0; omega
    · show (j 1).val = 128 * ((j 1).val / 128) + (j 1).val % 128; omega
  blk_simp
  rw [after0_16]
  refine (Pipeline.eq_sum_fin_of_reset_step_apply_last (fun n h => (outsAt0 m c n h).2.2.2) 16 (fun _ => (0 : EReal))
    (fun t (j : S1x512.Idx) => ∑ r : Fin 512, (arrays m c).scaleRow ((j 1).val / 128) (512 * t.val + r.val) ((j 1).val % 128)) ?_ ?_ (by decide) t0_15 rfl j).trans ?_
  · intro t h0 j
    obtain ⟨g, b, hq, hj, hg, hb⟩ := idx j
    have h := dps_A (blocks m c t) h0 g b
    rw [coords_val, ← hj] at h
    dsimp only
    rw [← hg, ← hb]
    exact h
  · intro t h0 j
    obtain ⟨g, b, hq, hj, hg, hb⟩ := idx j
    have h := dps_B (blocks m c t) h0 g b
    rw [coords_val, ← hj] at h
    dsimp only
    rw [← hg, ← hb]
    exact h
  · rw [zero_add]
    exact sum_blocks fun s => (arrays m c).scaleRow ((j 1).val / 128) s ((j 1).val % 128)

end Cert.KernelIdeal.Pay

end
-- ==== Proof.Rows.lean ====
module

public import proofs.«01_k».proof.Proof.Inputs
public import Idealize.ShloMosaic.Lib.Pipeline.Value
public import Idealize.ShloMosaic.Lib.ValueIdx
public import Idealize.ShloMosaic.Lib.KernelVsHost
public import Idealize.ShloMosaic.PureOps.Ideal.Laws

/-!
# Rows moved, padded and summed

An array is read by row and column as `at2` reads it, zero outside. Padding with zeros and putting rows of zeros before an
array are then shifts of the row and the column, and a running sum is a sum over a window of rows.
-/

@[expose] public section

noncomputable section

namespace Cert.Mix

open Idealize.ShloMosaic

theorem at2_at {n k : ℕ} (A : (⟨2, ![n, k]⟩ : Shape).Idx → EReal) (j : (⟨2, ![n, k]⟩ : Shape).Idx) {t : ℤ} {c : ℕ}
    (ht : t = (j 0).val) (hc : c = (j 1).val) : at2 A t c = A j :=
  (at2_of A (j 0) (j 1) ht hc).trans (congrArg A (Shape.idx_ext₂ rfl rfl))

theorem at3_at {n k l : ℕ} (A : (⟨3, ![n, k, l]⟩ : Shape).Idx → EReal) (j : (⟨3, ![n, k, l]⟩ : Shape).Idx) {g a b : ℕ}
    (hg : g = (j 0).val) (ha : a = (j 1).val) (hb : b = (j 2).val) : at3 A g a b = A j := by
  subst hg ha hb
  exact (at3_of A (j 0) (j 1) (j 2)).trans (congrArg A (funext fun a => match a with | 0 => rfl | 1 => rfl | 2 => rfl))

/-- A padding with zeros moves rows and columns. -/
theorem pad_at {n k m l a b a' b' : ℕ} (X : (⟨2, ![n, k]⟩ : Shape).Idx → EReal) {u : Shape} (v : u.Idx → EReal)
    (h : (⟨2, ![n, k]⟩ : Shape).Pads ![a, b] ![a', b'] ![0, 0] ⟨2, ![m, l]⟩) (hu : 0 < u.numel) (hv : ∀ i, v i = 0)
    (j : (⟨2, ![m, l]⟩ : Shape).Idx) :
    pad ⟨2, ![m, l]⟩ ![a, b] ![a', b'] ![0, 0] X v h hu j
      = if b ≤ (j 1).val then at2 X (((j 0).val : ℤ) - a) ((j 1).val - b) else 0 := by
  split
  · rename_i hb
    by_cases hin : a ≤ (j 0).val ∧ (j 0).val - a < n ∧ (j 1).val - b < k
    · rw [pad_apply_of_inside _ _ _ X v h hu j (ix2 ⟨(j 0).val - a, hin.2.1⟩ ⟨(j 1).val - b, hin.2.2⟩) (fun c => match c with
        | 0 => by show (j 0).val = a + ((j 0).val - a) * 1; omega
        | 1 => by show (j 1).val = b + ((j 1).val - b) * 1; omega)]
      exact (at2_of X _ _ (by dsimp only; omega) rfl).symm
    · rw [at2, dif_neg (by omega)]
      by_cases h0 : a ≤ (j 0).val ∧ (j 0).val - a < n
      · rw [pad_apply_of_not_inside _ _ _ X v h hu j 1 (by
          show ¬(b ≤ (j 1).val ∧ ((j 1).val - b) % 1 = 0 ∧ ((j 1).val - b) / 1 < k); omega), hv]
      · rw [pad_apply_of_not_inside _ _ _ X v h hu j 0 (by
          show ¬(a ≤ (j 0).val ∧ ((j 0).val - a) % 1 = 0 ∧ ((j 0).val - a) / 1 < n); omega), hv]
  · rename_i hb
    rw [pad_apply_of_not_inside _ _ _ X v h hu j 1 (by
      show ¬(b ≤ (j 1).val ∧ ((j 1).val - b) % 1 = 0 ∧ ((j 1).val - b) / 1 < k); omega), hv]

/-- Rows of zeros before an array move its rows. -/
theorem rows_at {w n k m : ℕ} (Z : (⟨2, ![w, k]⟩ : Shape).Idx → EReal) (X : (⟨2, ![n, k]⟩ : Shape).Idx → EReal)
    (h : Shape.Concatenates [⟨2, ![w, k]⟩, ⟨2, ![n, k]⟩] ⟨2, ![m, k]⟩ 0) (hz : ∀ i, Z i = 0)
    (j : (⟨2, ![m, k]⟩ : Shape).Idx) :
    concatenate ⟨2, ![m, k]⟩ 0 [⟨⟨2, ![w, k]⟩, Z⟩, ⟨⟨2, ![n, k]⟩, X⟩] h j = at2 X (((j 0).val : ℤ) - w) (j 1).val := by
  by_cases hw : (j 0).val < w
  · rw [concatenate_pair_apply_left 0 Z X h j rfl (ix2 ⟨(j 0).val, hw⟩ (j 1)) (fun b => match b with | 0 => rfl | 1 => rfl), hz,
      at2_out X _ (by omega)]
  · have hm : w + n = m := by
      have := h.2.2
      simpa [List.sum_cons] using this
    have hj : (j 0).val < m := (j 0).isLt
    rw [concatenate_pair_apply_right 0 Z X h j rfl rfl (ix2 ⟨(j 0).val - w, by omega⟩ (j 1)) (fun b => match b with
        | 0 => fun hb => absurd rfl hb
        | 1 => fun _ => rfl) (by show (j 0).val - w + w = (j 0).val; omega)]
    exact (at2_of X _ _ (by dsimp only; omega) rfl).symm

theorem foldl_sum {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- A running sum along the rows is a sum over a window of them. -/
theorem window_at {n k lo hi : ℕ} (X : FVec Ideal (⟨2, ![n, k]⟩ : Shape) .f32) {u : Shape} (v : FVec Ideal u .f32)
    (h : (⟨2, ![n, k]⟩ : Shape).ReduceWindows ![n, 1] ![1, 1] ![lo, 0] ![hi, 0] ⟨2, ![n, k]⟩) (hu : 0 < u.numel) (hv : ∀ i, v i = 0)
    (j : (⟨2, ![n, k]⟩ : Shape).Idx) :
    Host.reduceWindowAdd (F := Ideal) ![n, 1] ![1, 1] ![lo, 0] ![hi, 0] X v h hu j
      = ∑ q : Fin n, at2 X (((j 0).val : ℤ) + q.val - lo) (j 1).val := by
  have e : Host.reduceWindowAdd (F := Ideal) ![n, 1] ![1, 1] ![lo, 0] ![hi, 0] X v h hu j
      = (List.finRange (⟨2, ![n, 1]⟩ : Shape).numel).foldl (fun r q =>
        r + at2 X (((j 0).val : ℤ) + ((⟨2, ![n, 1]⟩ : Shape).rowMajor.symm q 0).val - lo) (j 1).val) 0 := by
    refine Eq.trans (b := Host.reduceWindow (fun x y : EReal => x + y) ![n, 1] ![1, 1] ![lo, 0] ![hi, 0] X v h hu j) rfl ?_
    unfold Host.reduceWindow
    dsimp only
    rw [hv]
    refine congrArg (fun f => List.foldl f _ _) (funext fun r => funext fun q => congrArg (r + ·) ?_)
    let p : (⟨2, ![n, 1]⟩ : Shape).Idx := (⟨2, ![n, 1]⟩ : Shape).rowMajor.symm q
    have hp1 : (p 1).val < 1 := (p 1).isLt
    change _ = at2 X (((j 0).val : ℤ) + (p 0).val - lo) (j 1).val
    have hj1 : (j 1).val < k := (j 1).isLt
    split
    · rename_i hin
      have h0 : lo ≤ (j 0).val * 1 + (p 0).val ∧ (j 0).val * 1 + (p 0).val - lo < n := hin 0
      refine (at2_at X _ ?_ ?_).symm
      · show _ = (((j 0).val * 1 + (p 0).val - lo : ℕ) : ℤ); omega
      · show _ = (j 1).val * 1 + (p 1).val - 0; omega
    · rename_i hin
      refine (at2_out X _ ?_).symm
      by_contra hc
      refine hin fun a => match a with
        | 0 => by show lo ≤ (j 0).val * 1 + (p 0).val ∧ (j 0).val * 1 + (p 0).val - lo < n; omega
        | 1 => by show 0 ≤ (j 1).val * 1 + (p 1).val ∧ (j 1).val * 1 + (p 1).val - 0 < k; omega
  rw [e, foldl_sum, zero_add, ← List.ofFn_eq_map, List.sum_ofFn]
  refine Fintype.sum_equiv ((finCongr (by show (⟨2, ![n, 1]⟩ : Shape).numel = n; simp [Shape.numel, Fin.prod_univ_succ])) : Fin (⟨2, ![n, 1]⟩ : Shape).numel ≃ Fin n) _ _ fun q => ?_
  congr 2
  have hq := Shape.rowMajor_val_two ((⟨2, ![n, 1]⟩ : Shape).rowMajor.symm q)
  rw [Equiv.apply_symm_apply] at hq
  have h1 : ((⟨2, ![n, 1]⟩ : Shape).rowMajor.symm q 1).val < 1 := ((⟨2, ![n, 1]⟩ : Shape).rowMajor.symm q 1).isLt
  have h2 : q.val = ((⟨2, ![n, 1]⟩ : Shape).rowMajor.symm q 0).val * 1 + ((⟨2, ![n, 1]⟩ : Shape).rowMajor.symm q 1).val := hq
  show ((j 0).val : ℤ) + _ = ((j 0).val : ℤ) + (q.val : ℤ)
  omega

/-- A window's sum is a difference of two running sums. -/
theorem window_prefix (y : ℤ → ℝ) (hy : ∀ s < 0, y s = 0) (T w : ℕ) :
    ∑ s ∈ Finset.range (T + 1), y s - ∑ s ∈ Finset.range (T + 1 - w), y s = ∑ k ∈ Finset.range w, y ((T : ℤ) - k) := by
  induction w with
  | zero => simp
  | succ w ih =>
    rw [Finset.sum_range_succ (fun k : ℕ => y ((T : ℤ) - k)), ← ih]
    by_cases h : w ≤ T
    · rw [show T + 1 - w = (T + 1 - (w + 1)) + 1 by omega, Finset.sum_range_succ _ (T + 1 - (w + 1)), show ((T + 1 - (w + 1) : ℕ) : ℤ) = (T : ℤ) - w by omega]
      ring
    · rw [show T + 1 - (w + 1) = 0 by omega, show T + 1 - w = 0 by omega, hy _ (by omega)]
      simp

/-- Differences at distance `w`, summed to the end, leave the first `w` terms. -/
theorem window_tail (y : ℤ → ℝ) (n : ℕ) (hy : ∀ s, (n : ℤ) ≤ s → y s = 0) (r w : ℕ) :
    ∑ k ∈ Finset.range n, (y ((r : ℤ) + k) - y ((r : ℤ) + k + w)) = ∑ k ∈ Finset.range w, y ((r : ℤ) + k) := by
  induction w with
  | zero => simp
  | succ w ih =>
    rw [Finset.sum_range_succ, ← ih]
    have h : ∑ k ∈ Finset.range n, (y ((r : ℤ) + k + w) - y ((r : ℤ) + k + ((w + 1 : ℕ) : ℤ))) = y ((r : ℤ) + w) := by
      have := Finset.sum_range_sub' (fun k : ℕ => y ((r : ℤ) + k + w)) n
      rw [hy ((r : ℤ) + (n : ℕ) + w) (by omega)] at this
      refine (Finset.sum_congr rfl fun k _ => ?_).trans (this.trans (by simp))
      congr 2
      push_cast; ring
    rw [← h, ← Finset.sum_add_distrib]
    refine Finset.sum_congr rfl fun k _ => ?_
    ring

end Cert.Mix

end
-- ==== Proof.RefConv.lean ====
module

public import proofs.«01_k».proof.Proof.Rows
public import proofs.«01_k».proof.Proof.Gen.ReferenceIdeal.Read

/-!
# The reference's gated convolution

The reference's stages that belong to the gated convolution, each at an index: its three gradients by rows, and the
gradient of its taps.
-/

@[expose] public section

set_option maxRecDepth 16384

noncomputable section

namespace Cert.Ref

open Cert.ReferenceIdeal Cert.ReferenceIdeal.Gen Cert.ReferenceIdeal.Read Cert.Mix Idealize.ShloMosaic Idealize.ShloMosaic.TcCoe

variable (z : (⟨S8192x5120, .bf16⟩ : BufTy).Contents (Elt Ideal)) (dy : (⟨S8192x1024, .bf16⟩ : BufTy).Contents (Elt Ideal))
  (cw : (⟨S3x512, .f32⟩ : BufTy).Contents (Elt Ideal)) (pw : (⟨S4x128x128, .f32⟩ : BufTy).Contents (Elt Ideal))
  (ps : (⟨S1x512, .f32⟩ : BufTy).Contents (Elt Ideal))

theorem zero_word : (FloatOps.ofBits (F := Ideal) .f32 0x00000000#32 : EReal) = 0 := by
  simp

theorem data_gb (t : ℤ) (c : ℕ) : (dataOf z dy cw pw ps).gb t c = at2 (n := 8192) (k := 5120) z t (3072 + c) := rfl
theorem data_gc (t : ℤ) (c : ℕ) : (dataOf z dy cw pw ps).gc t c = at2 (n := 8192) (k := 5120) z t (3584 + c) := rfl
theorem data_ci (t : ℤ) (c : ℕ) : (dataOf z dy cw pw ps).ci t c = at2 (n := 8192) (k := 5120) z t (4096 + c) := rfl
theorem data_x (t : ℤ) (c : ℕ) : (dataOf z dy cw pw ps).x t c = at2 (n := 8192) (k := 5120) z t (4608 + c) := rfl
theorem data_dyc (t : ℤ) (c : ℕ) : (dataOf z dy cw pw ps).dyc t c = at2 (n := 8192) (k := 1024) dy t c := rfl
theorem data_dyp (t : ℤ) (c : ℕ) : (dataOf z dy cw pw ps).dyp t c = at2 (n := 8192) (k := 1024) dy t (512 + c) := rfl

theorem gb_at (i : S8192x512.Idx) : val_main_v3 (F := Ideal) z i = (dataOf z dy cw pw ps).gb (i 0).val (i 1).val := by
  rw [val_main_v3_apply, val_main_v1_apply, val_main_v0_apply]
  rw [data_gb]
  exact (at2_at (n := 8192) (k := 5120) z _ (by dsimp only) (by dsimp only)).symm

theorem gc_at (i : S8192x512.Idx) : val_main_v4 (F := Ideal) z i = (dataOf z dy cw pw ps).gc (i 0).val (i 1).val := by
  rw [val_main_v4_apply, val_main_v1_apply, val_main_v0_apply]
  rw [data_gc]
  exact (at2_at (n := 8192) (k := 5120) z _ (by dsimp only) (by dsimp only; omega)).symm

theorem ci_at (i : S8192x512.Idx) : val_main_v5 (F := Ideal) z i = (dataOf z dy cw pw ps).ci (i 0).val (i 1).val := by
  rw [val_main_v5_apply, val_main_v1_apply, val_main_v0_apply]
  rw [data_ci]
  exact (at2_at (n := 8192) (k := 5120) z _ (by dsimp only) (by dsimp only; omega)).symm

theorem x_at (i : S8192x512.Idx) : val_main_v6 (F := Ideal) z i = (dataOf z dy cw pw ps).x (i 0).val (i 1).val := by
  rw [val_main_v6_apply, val_main_v1_apply, val_main_v0_apply]
  rw [data_x]
  exact (at2_at (n := 8192) (k := 5120) z _ (by dsimp only) (by dsimp only; omega)).symm

theorem dyc_at (i : S8192x512.Idx) : val_main_v118 (F := Ideal) dy i = (dataOf z dy cw pw ps).dyc (i 0).val (i 1).val := by
  rw [val_main_v118_apply, val_main_v117_apply]
  rw [data_dyc]
  exact (at2_at (n := 8192) (k := 1024) dy _ (by dsimp only) (by dsimp only)).symm

theorem dyp_at (i : S8192x512.Idx) : val_main_v119 (F := Ideal) dy i = (dataOf z dy cw pw ps).dyp (i 0).val (i 1).val := by
  rw [val_main_v119_apply, val_main_v117_apply]
  rw [data_dyp]
  exact (at2_at (n := 8192) (k := 1024) dy _ (by dsimp only) (by dsimp only)).symm

theorem ps_at (i : S8192x512.Idx) : val_main_v114 (F := Ideal) ps i = (dataOf z dy cw pw ps).ps (i 1).val := by
  rw [val_main_v114_apply, val_main_v113_apply, val_main_v2_apply]
  have h : (i 1).val < 512 := (i 1).isLt
  exact (at2_at ps _ rfl (by show (i 1).val = (i 1).val % 512; omega)).symm

/-- The gated input. -/
theorem u_at (i : S8192x512.Idx) : val_main_v7 (F := Ideal) z i = (dataOf z dy cw pw ps).u (i 0).val (i 1).val := by
  rw [val_main_v7_apply, gc_at z dy cw pw ps, ci_at z dy cw pw ps]
  rfl

/-- A row of the gated input as the convolution reads it: two rows of zeros stand before the sequence. -/
theorem u_rows (t : ℤ) (c : ℕ) : at2 (val_main_v7 (F := Ideal) z) t c = (dataOf z dy cw pw ps).u t c ∨ 512 ≤ c := by
  by_cases hc : c < 512
  · refine Or.inl ?_
    by_cases ht : 0 ≤ t ∧ t < 8192
    · rw [at2_of (val_main_v7 (F := Ideal) z) ⟨t.toNat, by omega⟩ ⟨c, hc⟩ (by dsimp only; omega) rfl, u_at z dy cw pw ps]
      show (dataOf z dy cw pw ps).u ((t.toNat : ℕ) : ℤ) c = _
      rw [Int.toNat_of_nonneg ht.1]
    · rw [at2_out _ _ (by omega)]
      show 0 = at2 z t (3584 + c) * at2 z t (4096 + c)
      rw [at2_out z _ (by omega), zero_mul]
  · exact Or.inr (by omega)

theorem padded_at (i : S8194x512.Idx) : val_main_v9 (F := Ideal) z i = (dataOf z dy cw pw ps).u ((i 0).val - 2) (i 1).val := by
  have hc : (i 1).val < 512 := (i 1).isLt
  refine (rows_at _ _ _ (fun j => ?_) i).trans (((u_rows z dy cw pw ps _ _).resolve_right (by omega)))
  rw [val_main_v8_apply, val_main_cst_apply, zero_word]

theorem u0_at (i : S8192x512.Idx) : val_main_v13 (F := Ideal) z i = (dataOf z dy cw pw ps).u ((i 0).val - 2) (i 1).val := by
  rw [val_main_v13_apply, padded_at z dy cw pw ps]

theorem u1_at (i : S8192x512.Idx) : val_main_v19 (F := Ideal) z i = (dataOf z dy cw pw ps).u ((i 0).val - 1) (i 1).val := by
  rw [val_main_v19_apply, padded_at z dy cw pw ps]
  congr 1
  show ((1 + (i 0).val : ℕ) : ℤ) - 2 = (i 0).val - 1
  omega

theorem u2_at (i : S8192x512.Idx) : val_main_v26 (F := Ideal) z i = (dataOf z dy cw pw ps).u (i 0).val (i 1).val := by
  rw [val_main_v26_apply, padded_at z dy cw pw ps]
  congr 1
  show ((2 + (i 0).val : ℕ) : ℤ) - 2 = (i 0).val
  omega

theorem cw0_at (i : S1x512.Idx) : val_main_v14 (F := Ideal) cw i = (dataOf z dy cw pw ps).cw 0 (i 1).val := by
  rw [val_main_v14_apply, val_main_v12_apply, val_main_v11_apply]
  have h : (i 1).val < 512 := (i 1).isLt
  exact (at2_at cw _ rfl (by show (i 1).val = (i 1).val % 512; omega)).symm

theorem cw1_at (i : S1x512.Idx) : val_main_v20 (F := Ideal) cw i = (dataOf z dy cw pw ps).cw 1 (i 1).val := by
  rw [val_main_v20_apply, val_main_v18_apply, val_main_v17_apply]
  have h : (i 1).val < 512 := (i 1).isLt
  exact (at2_at cw _ rfl (by show (i 1).val = (i 1).val % 512; omega)).symm

theorem cw2_at (i : S1x512.Idx) : val_main_v27 (F := Ideal) cw i = (dataOf z dy cw pw ps).cw 2 (i 1).val := by
  rw [val_main_v27_apply, val_main_v25_apply, val_main_v24_apply]
  have h : (i 1).val < 512 := (i 1).isLt
  exact (at2_at cw _ rfl (by show (i 1).val = (i 1).val % 512; omega)).symm

/-- The convolution. -/
theorem conv_at (i : S8192x512.Idx) : val_main_v30 (F := Ideal) z cw i = (dataOf z dy cw pw ps).conv (i 0).val (i 1).val := by
  rw [val_main_v30_apply, val_main_v23_apply, val_main_v16_apply, val_main_v22_apply, val_main_v29_apply, val_main_v15_apply,
    val_main_v21_apply, val_main_v28_apply, cw0_at z dy cw pw ps, cw1_at z dy cw pw ps, cw2_at z dy cw pw ps, u0_at z dy cw pw ps,
    u1_at z dy cw pw ps, u2_at z dy cw pw ps]
  rfl

/-- The gradient of the output gate. -/
theorem dgb_at (i : S8192x512.Idx) : val_main_v195 (F := Ideal) z dy cw i = (dataOf z dy cw pw ps).dgb (i 0).val (i 1).val := by
  rw [val_main_v195_apply, dyc_at z dy cw pw ps, conv_at z dy cw pw ps]
  rfl

/-- The gradient of the convolution. -/
theorem dc_at (i : S8192x512.Idx) : val_main_v194 (F := Ideal) z dy i = (dataOf z dy cw pw ps).dc (i 0).val (i 1).val := by
  rw [val_main_v194_apply, dyc_at z dy cw pw ps, gb_at z dy cw pw ps]
  exact mul_comm (G := EReal) _ _

/-- A stage that weighs the convolution's gradient by a tap, by rows. -/
theorem weighed_rows (k : ℕ) (X : S8192x512.Idx → EReal)
    (hX : ∀ i : S8192x512.Idx, X i = (dataOf z dy cw pw ps).cw k (i 1).val * (dataOf z dy cw pw ps).dc (i 0).val (i 1).val) (t : ℤ) (c : ℕ) (hc : c < 512) :
    at2 X t c = (dataOf z dy cw pw ps).cw k c * (dataOf z dy cw pw ps).dc t c := by
  by_cases ht : 0 ≤ t ∧ t < 8192
  · rw [at2_of X ⟨t.toNat, by omega⟩ ⟨c, hc⟩ (by dsimp only; omega) rfl, hX]
    show (dataOf z dy cw pw ps).cw k c * (dataOf z dy cw pw ps).dc ((t.toNat : ℕ) : ℤ) c = _
    rw [Int.toNat_of_nonneg ht.1]
  · rw [at2_out _ _ (by omega)]
    show 0 = _ * (at2 dy t c * at2 z t (3072 + c))
    rw [at2_out z _ (by omega), mul_zero, mul_zero]

/-- The gradient of the gated input. -/
theorem du_at (i : S8192x512.Idx) : val_main_v228 (F := Ideal) z dy cw i = (dataOf z dy cw pw ps).du (i 0).val (i 1).val := by
  have hc : (i 1).val < 512 := (i 1).isLt
  have h2 := weighed_rows z dy cw pw ps 2 (val_main_v197 (F := Ideal) z dy cw) fun j => by
    rw [val_main_v197_apply, val_main_v196_apply, cw2_at z dy cw pw ps, dc_at z dy cw pw ps]; rfl
  have h1 := weighed_rows z dy cw pw ps 1 (val_main_v206 (F := Ideal) z dy cw) fun j => by
    rw [val_main_v206_apply, val_main_v205_apply, cw1_at z dy cw pw ps, dc_at z dy cw pw ps]; rfl
  have h0 := weighed_rows z dy cw pw ps 0 (val_main_v217 (F := Ideal) z dy cw) fun j => by
    rw [val_main_v217_apply, val_main_v216_apply, cw0_at z dy cw pw ps, dc_at z dy cw pw ps]; rfl
  rw [val_main_v228_apply, val_main_v223_apply, val_main_v212_apply]
  have e2 : val_main_v202 (F := Ideal) z dy cw (idx_main_v228 i) = _ := pad_at _ _ _ _ (fun j => by rw [val_main_cst_38_apply, zero_word]) _
  have e1 : val_main_v211 (F := Ideal) z dy cw (idx_main_v228 i) = _ := pad_at _ _ _ _ (fun j => by rw [val_main_cst_42_apply, zero_word]) _
  have e0 : val_main_v222 (F := Ideal) z dy cw (idx_main_v228 i) = _ := pad_at _ _ _ _ (fun j => by rw [val_main_cst_46_apply, zero_word]) _
  rw [if_pos (Nat.zero_le _)] at e2 e1 e0
  rw [h2 _ _ (by show (i 1).val - 0 < 512; omega)] at e2
  rw [h1 _ _ (by show (i 1).val - 0 < 512; omega)] at e1
  rw [h0 _ _ (by show (i 1).val - 0 < 512; omega)] at e0
  rw [e2, e1, e0]
  rw [show ((idx_main_v228 i 0).val : ℤ) - (2 : ℕ) = (i 0).val by dsimp only; omega, show ((idx_main_v228 i 0).val : ℤ) - (1 : ℕ) = (i 0).val + 1 by dsimp only; omega,
    show ((idx_main_v228 i 0).val : ℤ) - (0 : ℕ) = (i 0).val + 2 by dsimp only; omega, Nat.sub_zero]
  rfl

/-- The gradient of the input gate. -/
theorem dgc_at (i : S8192x512.Idx) : val_main_v230 (F := Ideal) z dy cw i = (dataOf z dy cw pw ps).dgc (i 0).val (i 1).val := by
  rw [val_main_v230_apply, du_at z dy cw pw ps, ci_at z dy cw pw ps]
  rfl

/-- The gradient of the convolution's input. -/
theorem dci_at (i : S8192x512.Idx) : val_main_v229 (F := Ideal) z dy cw i = (dataOf z dy cw pw ps).dci (i 0).val (i 1).val := by
  rw [val_main_v229_apply, du_at z dy cw pw ps, gc_at z dy cw pw ps]
  exact mul_comm (G := EReal) _ _

/-- The gradient of the taps: one of the three stages hits each row. -/
theorem taps_at (i : S3x512.Idx) : val_main_v226 (F := Ideal) z dy i = ∑ s : Fin 8192, (dataOf z dy cw pw ps).tap (i 0).val s.val (i 1).val := by
  have hc : (i 1).val < 512 := (i 1).isLt
  have hk : (i 0).val < 3 := (i 0).isLt
  have s2 : ∀ j : S1x512.Idx, val_main_v203 (F := Ideal) z dy j = ∑ s : Fin 8192, (dataOf z dy cw pw ps).tap 2 s.val (j 1).val := fun j => by
    rw [val_main_v203_apply, val_main_v201_apply, val_main_cst_37_apply, zero_word, zero_add, Fin.sum_univ_one, val_main_v200_apply,
      val_main_v199_apply, val_main_cst_36_apply, zero_word, zero_add]
    refine Finset.sum_congr rfl fun s _ => ?_
    rw [val_main_v198_apply, dc_at z dy cw pw ps, u2_at z dy cw pw ps]
    show (dataOf z dy cw pw ps).dc s.val (0 * 512 + (j 1).val) * (dataOf z dy cw pw ps).u s.val (0 * 512 + (j 1).val) = (dataOf z dy cw pw ps).dc s.val (j 1).val * (dataOf z dy cw pw ps).u ((s.val : ℤ) - 2 + (2 : ℕ)) (j 1).val
    rw [show 0 * 512 + (j 1).val = (j 1).val by omega, show (s.val : ℤ) - 2 + (2 : ℕ) = s.val by omega]
  have s1 : ∀ j : S1x512.Idx, val_main_v213 (F := Ideal) z dy j = ∑ s : Fin 8192, (dataOf z dy cw pw ps).tap 1 s.val (j 1).val := fun j => by
    rw [val_main_v213_apply, val_main_v210_apply, val_main_cst_41_apply, zero_word, zero_add, Fin.sum_univ_one, val_main_v209_apply,
      val_main_v208_apply, val_main_cst_40_apply, zero_word, zero_add]
    refine Finset.sum_congr rfl fun s _ => ?_
    rw [val_main_v207_apply, dc_at z dy cw pw ps, u1_at z dy cw pw ps]
    show (dataOf z dy cw pw ps).dc s.val (0 * 512 + (j 1).val) * (dataOf z dy cw pw ps).u (s.val - 1) (0 * 512 + (j 1).val) = (dataOf z dy cw pw ps).dc s.val (j 1).val * (dataOf z dy cw pw ps).u ((s.val : ℤ) - 2 + (1 : ℕ)) (j 1).val
    rw [show 0 * 512 + (j 1).val = (j 1).val by omega, show (s.val : ℤ) - 2 + (1 : ℕ) = s.val - 1 by omega]
  have s0 : ∀ j : S1x512.Idx, val_main_v224 (F := Ideal) z dy j = ∑ s : Fin 8192, (dataOf z dy cw pw ps).tap 0 s.val (j 1).val := fun j => by
    rw [val_main_v224_apply, val_main_v221_apply, val_main_cst_45_apply, zero_word, zero_add, Fin.sum_univ_one, val_main_v220_apply,
      val_main_v219_apply, val_main_cst_44_apply, zero_word, zero_add]
    refine Finset.sum_congr rfl fun s _ => ?_
    rw [val_main_v218_apply, dc_at z dy cw pw ps, u0_at z dy cw pw ps]
    show (dataOf z dy cw pw ps).dc s.val (0 * 512 + (j 1).val) * (dataOf z dy cw pw ps).u (s.val - 2) (0 * 512 + (j 1).val) = (dataOf z dy cw pw ps).dc s.val (j 1).val * (dataOf z dy cw pw ps).u ((s.val : ℤ) - 2 + (0 : ℕ)) (j 1).val
    rw [show 0 * 512 + (j 1).val = (j 1).val by omega, show (s.val : ℤ) - 2 + (0 : ℕ) = s.val - 2 by omega]
  have row : ∀ (X : S1x512.Idx → EReal) (k : ℕ), at2 X (((i 0).val : ℤ) - k) (i 1).val = if (i 0).val = k then X (ix2 0 (i 1)) else 0 := fun X k => by
    split
    · exact at2_of X 0 (i 1) (by show _ = ((0 : ℕ) : ℤ); omega) rfl
    · exact at2_out X _ (by omega)
  rw [val_main_v226_apply, val_main_v215_apply]
  have e2 : val_main_v204 (F := Ideal) z dy i = _ := pad_at _ _ _ _ (fun j => by rw [val_main_cst_39_apply, zero_word]) _
  have e1 : val_main_v214 (F := Ideal) z dy i = _ := pad_at _ _ _ _ (fun j => by rw [val_main_cst_43_apply, zero_word]) _
  have e0 : val_main_v225 (F := Ideal) z dy i = _ := pad_at _ _ _ _ (fun j => by rw [val_main_cst_47_apply, zero_word]) _
  rw [if_pos (Nat.zero_le _), Nat.sub_zero, row] at e2 e1 e0
  rw [e2, e1, e0, s2, s1, s0]
  show (_ + _ : EReal) + _ = _
  have h3 : (i 0).val = 0 ∨ (i 0).val = 1 ∨ (i 0).val = 2 := by omega
  rcases h3 with h | h | h <;> rw [h] <;> simp <;> rfl

end Cert.Ref

end
-- ==== Proof.Finite.lean ====
module

public import proofs.«01_k».proof.Proof.Rows

/-!
# Where the pooled branch is finite

The reference takes a window's sum as a difference of two running sums, and its backward pass sums such differences up
again. Over finite numbers both are the plain window sums.
-/

@[expose] public section

noncomputable section

namespace Cert.Mix

open Idealize.ShloMosaic

/-- A finite number. -/
def IsReal (e : EReal) : Prop := ∃ r : ℝ, e = r

theorem IsReal.coe_toReal {e : EReal} (h : IsReal e) : (e.toReal : EReal) = e := by
  obtain ⟨r, rfl⟩ := h
  rfl

theorem IsReal.zero : IsReal 0 := ⟨0, rfl⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i ∈ s, IsReal (f i)) : IsReal (∑ i ∈ s, f i) :=
  ⟨∑ i ∈ s, (f i).toReal, by rw [coe_sum]; exact Finset.sum_congr rfl fun i hi => (h i hi).coe_toReal.symm⟩

theorem IsReal.at2 {n k : ℕ} {A : (⟨2, ![n, k]⟩ : Shape).Idx → EReal} (t : ℤ) (c : ℕ)
    (h : ∀ j : (⟨2, ![n, k]⟩ : Shape).Idx, (j 1).val = c → IsReal (A j)) : IsReal (at2 A t c) := by
  unfold Mix.at2
  split
  · exact h _ rfl
  · exact .zero

theorem IsReal.at3 {n k l : ℕ} {A : (⟨3, ![n, k, l]⟩ : Shape).Idx → EReal} (g a b : ℕ) (h : ∀ j, IsReal (A j)) : IsReal (at3 A g a b) := by
  unfold Mix.at3
  split
  · exact h _
  · exact .zero

/-- The pooled branch's arrays are finite. -/
structure Data.Finite (d : Data) : Prop where
  x : ∀ t c, IsReal (d.x t c)
  dyp : ∀ t c, IsReal (d.dyp t c)
  pw : ∀ g a b, IsReal (d.pw g a b)
  ps : ∀ c, IsReal (d.ps c)

variable {d : Data}

/-- The running sum of the rows before row `T`. -/
def Data.upto (d : Data) (T : ℕ) (c : ℕ) : EReal := ∑ s ∈ Finset.range T, d.x s c

/-- A window's sum is the difference of two running sums. -/
theorem win_eq (hd : d.Finite) (hx : ∀ t < 0, ∀ c, d.x t c = 0) (g T a w : ℕ) (hw : Data.width g = w) :
    d.upto (T + 1) (128 * g + a) - d.upto (T + 1 - w) (128 * g + a) = d.win g T a := by
  subst hw
  have h := window_prefix (fun t => (d.x t (128 * g + a)).toReal) (fun s hs => by rw [hx s hs]; rfl) T (Data.width g)
  have h' := congrArg (fun r : ℝ => (r : EReal)) h
  simp only [EReal.coe_sub, coe_sum, (hd.x _ _).coe_toReal] at h'
  exact h'

theorem cnt_pos (g : ℕ) (t : ℤ) (ht : 0 ≤ t) : ∃ r : ℝ, 0 < r ∧ Data.cnt (Data.width g) t = r := by
  refine ⟨_, ?_, rfl⟩
  have h1 : (1 : ℤ) ≤ Data.width g := by
    have : 0 < Data.width g := Nat.pos_of_ne_zero (by unfold Data.width; positivity)
    omega
  exact_mod_cast (lt_min (by omega) (by omega) : (0 : ℤ) < min (t + 1) (Data.width g))

theorem dpool_real (hd : d.Finite) (g : ℕ) (t : ℤ) (a : ℕ) : IsReal (d.dpool g t a) :=
  .sum _ fun _ _ => ((hd.dyp _ _).mul (hd.ps _)).mul (hd.pw _ _ _)

theorem share_real (hd : d.Finite) (g : ℕ) (t : ℤ) (ht : 0 ≤ t) (a : ℕ) : IsReal (d.share g t a) := by
  obtain ⟨r, hr, hc⟩ := cnt_pos g t ht
  unfold Data.share Ideal.div
  rw [hc, if_neg (by exact_mod_cast hr.ne')]
  exact (dpool_real hd g t a).mul ⟨r⁻¹, (EReal.coe_inv r).symm⟩

theorem share_out (hp : ∀ t, (8192 : ℤ) ≤ t → ∀ c, d.dyp t c = 0) (g : ℕ) (t : ℤ) (ht : 8192 ≤ t) (a : ℕ) : d.share g t a = 0 := by
  obtain ⟨r, hr, hc⟩ := cnt_pos g t (by omega)
  have h : d.dpool g t a = 0 := by
    unfold Data.dpool Data.dlin
    refine Finset.sum_eq_zero fun b _ => ?_
    rw [hp t ht, zero_mul, zero_mul]
  unfold Data.share Ideal.div
  rw [h, hc, if_neg (by exact_mod_cast hr.ne'), zero_mul]

/-- The shares of the rows of a window: the backward pass sums the differences at the window's width to the end. -/
theorem shares_eq (hd : d.Finite) (hp : ∀ t, (8192 : ℤ) ≤ t → ∀ c, d.dyp t c = 0) (g r a w : ℕ) (hw : Data.width g = w) :
    ∑ k : Fin 8192, (-d.share g ((r : ℤ) + k.val + w) a + d.share g ((r : ℤ) + k.val) a)
      = ∑ k ∈ Finset.range w, d.share g ((r : ℤ) + k) a := by
  subst hw
  have h := window_tail (fun t => (d.share g t a).toReal) 8192 (fun s hs => by rw [share_out hp g s hs]; rfl) r (Data.width g)
  have h' := congrArg (fun r : ℝ => (r : EReal)) h
  simp only [coe_sum, EReal.coe_sub] at h'
  rw [Fin.sum_univ_eq_sum_range (fun k => -d.share g ((r : ℤ) + (k : ℕ) + (Data.width g : ℕ)) a + d.share g ((r : ℤ) + (k : ℕ)) a) 8192]
  refine (Finset.sum_congr rfl fun k _ => ?_).trans (h'.trans (Finset.sum_congr rfl fun k _ => ?_))
  · rw [(share_real hd g _ (by omega) a).coe_toReal, (share_real hd g _ (by omega) a).coe_toReal, add_comm, sub_eq_add_neg]
  · rw [(share_real hd g _ (by omega) a).coe_toReal]

end Cert.Mix

end
-- ==== Proof.RefPool.lean ====
module

public import proofs.«01_k».proof.Proof.RefConv
public import proofs.«01_k».proof.Proof.Finite
public import proofs.«01_k».proof.Proof.Ops

/-!
# The reference's pooled branch, forwards

The running sums, the windows' means by groups, the mixed channels, and the gradients of the mixing matrices and of the
scale.
-/

@[expose] public section

set_option maxRecDepth 16384

noncomputable section

namespace Cert.Ref

open Cert.ReferenceIdeal Cert.ReferenceIdeal.Gen Cert.ReferenceIdeal.Read Cert.Mix Idealize.ShloMosaic Idealize.ShloMosaic.TcCoe

variable (z : (⟨S8192x5120, .bf16⟩ : BufTy).Contents (Elt Ideal)) (dy : (⟨S8192x1024, .bf16⟩ : BufTy).Contents (Elt Ideal))
  (cw : (⟨S3x512, .f32⟩ : BufTy).Contents (Elt Ideal)) (pw : (⟨S4x128x128, .f32⟩ : BufTy).Contents (Elt Ideal))
  (ps : (⟨S1x512, .f32⟩ : BufTy).Contents (Elt Ideal))

theorem x_before (t : ℤ) (ht : t < 0) (c : ℕ) : (dataOf z dy cw pw ps).x t c = 0 := by
  rw [data_x, at2_out z _ (Or.inl ht)]

theorem dyp_after (t : ℤ) (ht : 8192 ≤ t) (c : ℕ) : (dataOf z dy cw pw ps).dyp t c = 0 := by
  rw [data_dyp, at2_out dy _ (Or.inr ht)]

theorem x_rows (t : ℤ) (c : ℕ) (hc : c < 512) : at2 (val_main_v6 (F := Ideal) z) t c = (dataOf z dy cw pw ps).x t c := by
  by_cases ht : 0 ≤ t ∧ t < 8192
  · rw [at2_of (val_main_v6 (F := Ideal) z) ⟨t.toNat, by omega⟩ ⟨c, hc⟩ (by dsimp only; omega) rfl, x_at z dy cw pw ps]
    show (dataOf z dy cw pw ps).x ((t.toNat : ℕ) : ℤ) c = _
    rw [Int.toNat_of_nonneg ht.1]
  · rw [at2_out _ _ (by omega), data_x, at2_out z _ (by omega)]

/-- The running sum. -/
theorem sums_at (i : S8192x512.Idx) : val_main_v32 (F := Ideal) z i = (dataOf z dy cw pw ps).upto ((i 0).val + 1) (i 1).val := by
  have hc : (i 1).val < 512 := (i 1).isLt
  have ht : (i 0).val < 8192 := (i 0).isLt
  have e : val_main_v32 (F := Ideal) z i = _ := window_at _ _ _ _ (fun j => by
    rw [val_main_call0_call0_v0_apply, val_main_call0_call0_cst_apply, zero_word]) i
  rw [e]
  refine (Finset.sum_congr rfl fun q _ => x_rows z dy cw pw ps _ _ hc).trans ?_
  rw [Fin.sum_univ_eq_sum_range (fun q => (dataOf z dy cw pw ps).x (((i 0).val : ℤ) + (q : ℕ) - (8191 : ℕ)) (i 1).val) 8192,
    show (8192 : ℕ) = (8191 - (i 0).val) + ((i 0).val + 1) by omega, Finset.sum_range_add, Finset.sum_eq_zero, zero_add]
  · refine Finset.sum_congr rfl fun s hs => ?_
    rw [show ((i 0).val : ℤ) + ((8191 - (i 0).val + s : ℕ) : ℤ) - (8191 : ℕ) = s by omega]
  · intro q hq
    have := Finset.mem_range.mp hq
    exact x_before z dy cw pw ps _ (by omega) _

/-- The running sums after one row of zeros. -/
theorem upto_at (i : S8193x512.Idx) : val_main_v34 (F := Ideal) z i = (dataOf z dy cw pw ps).upto (i 0).val (i 1).val := by
  have hc : (i 1).val < 512 := (i 1).isLt
  have ht : (i 0).val < 8193 := (i 0).isLt
  refine (rows_at _ _ _ (fun j => by rw [val_main_v33_apply, val_main_cst_1_apply, zero_word]) i).trans ?_
  by_cases h : (i 0).val = 0
  · rw [at2_out _ _ (by omega), h]
    rfl
  · rw [at2_of (val_main_v32 (F := Ideal) z) ⟨(i 0).val - 1, by omega⟩ ⟨(i 1).val, hc⟩ (by dsimp only; omega) rfl, sums_at z dy cw pw ps]
    show (dataOf z dy cw pw ps).upto ((i 0).val - 1 + 1) (i 1).val = _
    rw [Nat.sub_add_cancel (by omega)]

/-- A window's sum as the reference takes it: the running sums of a group, with rows of zeros before them. -/
theorem diff_at (hd : (dataOf z dy cw pw ps).Finite) (g w : ℕ) (hw : Data.width g = w) (h0 : 0 < w) (P : S8193x128.Idx → EReal)
    (hP : ∀ i : S8193x128.Idx, P i = (dataOf z dy cw pw ps).upto (i 0).val (128 * g + (i 1).val)) (t a : ℕ) (ht : t < 8192) (ha : a < 128)
    (p q : ℤ) (hp : p = t + 1) (hq : q = t - ((w - 1 : ℕ) : ℤ)) :
    at2 P p a - at2 P q a = (dataOf z dy cw pw ps).win g t a := by
  have hr : ∀ T : ℕ, T < 8193 → at2 P T a = (dataOf z dy cw pw ps).upto T (128 * g + a) := fun T hT => by
    rw [at2_of P ⟨T, hT⟩ ⟨a, ha⟩ rfl rfl, hP]
    rfl
  subst hp hq
  rw [← win_eq hd (x_before z dy cw pw ps) g t a w hw]
  have h1 : at2 P ((t : ℤ) + 1) a = _ := hr (t + 1) (by omega)
  rw [h1]
  refine congrArg (_ - ·) ?_
  · by_cases h : w ≤ t + 1
    · rw [← hr _ (by omega), show ((t + 1 - w : ℕ) : ℤ) = (t : ℤ) - ((w - 1 : ℕ) : ℤ) by omega]
    · rw [at2_out _ _ (by omega), show t + 1 - w = 0 by omega]
      rfl

theorem count0_at (i : S8192x1.Idx) : val_main_v49 (F := Ideal) i = Data.cnt (Data.width 0) (i 0).val := by
  have ht : (i 0).val < 8192 := (i 0).isLt
  rw [val_main_v49_apply, val_main_v48_apply, val_main_v47_apply, val_main_v45_apply, val_main_v36_apply, val_main_v44_apply, val_main_c_apply,
    val_main_v46_apply, val_main_c_5_apply]
  exact count_word (i 0).val 2 (by omega) (by norm_num)

/-- The means of group 0's windows. -/
theorem pooled0_at (hd : (dataOf z dy cw pw ps).Finite) (i : S8192x128.Idx) :
    val_main_v53 (F := Ideal) z i = (dataOf z dy cw pw ps).pooled 0 (i 0).val (i 1).val := by
  have ht : (i 0).val < 8192 := (i 0).isLt
  have ha : (i 1).val < 128 := (i 1).isLt
  rw [val_main_v53_apply, val_main_v51_apply, val_main_v43_apply, val_main_v41_apply, val_main_v42_apply, val_main_v50_apply, count0_at,
    val_main_v52_apply, x_at z dy cw pw ps]
  have e : ∀ j : S8194x128.Idx, val_main_v39 (F := Ideal) z j = at2 (val_main_v37 (F := Ideal) z) (((j 0).val : ℤ) - (1 : ℕ)) (j 1).val :=
    rows_at _ _ _ fun j => by rw [val_main_v38_apply, val_main_cst_3_apply, zero_word]
  rw [e, e]
  have h := diff_at z dy cw pw ps hd 0 2 rfl (by norm_num) (val_main_v37 (F := Ideal) z) (fun j => by
    rw [val_main_v37_apply, upto_at z dy cw pw ps]; congr 1; show (j 1).val = 128 * 0 + (j 1).val; omega) (i 0).val (i 1).val ht ha
    (((idx_main_v41 i 0).val : ℤ) - (1 : ℕ)) (((idx_main_v42 i 0).val : ℤ) - (1 : ℕ)) (by dsimp only; omega) (by dsimp only)
  unfold Data.pooled
  rw [← h]
  have hx : 128 * 0 + (i 1).val = (i 1).val := by omega
  rw [hx]
  rfl

theorem count1_at (i : S8192x1.Idx) : val_main_v66 (F := Ideal) i = Data.cnt (Data.width 1) (i 0).val := by
  have ht : (i 0).val < 8192 := (i 0).isLt
  rw [val_main_v66_apply, val_main_v65_apply, val_main_v64_apply, val_main_v62_apply, val_main_v36_apply, val_main_v61_apply, val_main_c_8_apply,
    val_main_v63_apply, val_main_c_9_apply]
  exact count_word (i 0).val 4 (by omega) (by norm_num)

/-- The means of group 1's windows. -/
theorem pooled1_at (hd : (dataOf z dy cw pw ps).Finite) (i : S8192x128.Idx) :
    val_main_v70 (F := Ideal) z i = (dataOf z dy cw pw ps).pooled 1 (i 0).val (i 1).val := by
  have ht : (i 0).val < 8192 := (i 0).isLt
  have ha : (i 1).val < 128 := (i 1).isLt
  rw [val_main_v70_apply, val_main_v68_apply, val_main_v60_apply, val_main_v58_apply, val_main_v59_apply, val_main_v67_apply, count1_at,
    val_main_v69_apply, x_at z dy cw pw ps]
  have e : ∀ j : S8196x128.Idx, val_main_v56 (F := Ideal) z j = at2 (val_main_v54 (F := Ideal) z) (((j 0).val : ℤ) - (3 : ℕ)) (j 1).val :=
    rows_at _ _ _ fun j => by rw [val_main_v55_apply, val_main_cst_6_apply, zero_word]
  rw [e, e]
  have h := diff_at z dy cw pw ps hd 1 4 rfl (by norm_num) (val_main_v54 (F := Ideal) z) (fun j => by
    rw [val_main_v54_apply, upto_at z dy cw pw ps]) (i 0).val (i 1).val ht ha
    (((idx_main_v58 i 0).val : ℤ) - (3 : ℕ)) (((idx_main_v59 i 0).val : ℤ) - (3 : ℕ)) (by dsimp only; omega) (by dsimp only)
  unfold Data.pooled
  rw [← h]
  have hx : 128 * 1 + (i 1).val = 128 + (i 1).val := by omega
  rw [hx]
  rfl

theorem count2_at (i : S8192x1.Idx) : val_main_v83 (F := Ideal) i = Data.cnt (Data.width 2) (i 0).val := by
  have ht : (i 0).val < 8192 := (i 0).isLt
  rw [val_main_v83_apply, val_main_v82_apply, val_main_v81_apply, val_main_v79_apply, val_main_v36_apply, val_main_v78_apply, val_main_c_12_apply,
    val_main_v80_apply, val_main_c_13_apply]
  exact count_word (i 0).val 8 (by omega) (by norm_num)

/-- The means of group 2's windows. -/
theorem pooled2_at (hd : (dataOf z dy cw pw ps).Finite) (i : S8192x128.Idx) :
    val_main_v87 (F := Ideal) z i = (dataOf z dy cw pw ps).pooled 2 (i 0).val (i 1).val := by
  have ht : (i 0).val < 8192 := (i 0).isLt
  have ha : (i 1).val < 128 := (i 1).isLt
  rw [val_main_v87_apply, val_main_v85_apply, val_main_v77_apply, val_main_v75_apply, val_main_v76_apply, val_main_v84_apply, count2_at,
    val_main_v86_apply, x_at z dy cw pw ps]
  have e : ∀ j : S8200x128.Idx, val_main_v73 (F := Ideal) z j = at2 (val_main_v71 (F := Ideal) z) (((j 0).val : ℤ) - (7 : ℕ)) (j 1).val :=
    rows_at _ _ _ fun j => by rw [val_main_v72_apply, val_main_cst_10_apply, zero_word]
  rw [e, e]
  have h := diff_at z dy cw pw ps hd 2 8 rfl (by norm_num) (val_main_v71 (F := Ideal) z) (fun j => by
    rw [val_main_v71_apply, upto_at z dy cw pw ps]) (i 0).val (i 1).val ht ha
    (((idx_main_v75 i 0).val : ℤ) - (7 : ℕ)) (((idx_main_v76 i 0).val : ℤ) - (7 : ℕ)) (by dsimp only; omega) (by dsimp only)
  unfold Data.pooled
  rw [← h]
  have hx : 128 * 2 + (i 1).val = 256 + (i 1).val := by omega
  rw [hx]
  rfl

theorem count3_at (i : S8192x1.Idx) : val_main_v100 (F := Ideal) i = Data.cnt (Data.width 3) (i 0).val := by
  have ht : (i 0).val < 8192 := (i 0).isLt
  rw [val_main_v100_apply, val_main_v99_apply, val_main_v98_apply, val_main_v96_apply, val_main_v36_apply, val_main_v95_apply, val_main_c_16_apply,
    val_main_v97_apply, val_main_c_17_apply]
  exact count_word (i 0).val 16 (by omega) (by norm_num)

/-- The means of group 3's windows. -/
theorem pooled3_at (hd : (dataOf z dy cw pw ps).Finite) (i : S8192x128.Idx) :
    val_main_v104 (F := Ideal) z i = (dataOf z dy cw pw ps).pooled 3 (i 0).val (i 1).val := by
  have ht : (i 0).val < 8192 := (i 0).isLt
  have ha : (i 1).val < 128 := (i 1).isLt
  rw [val_main_v104_apply, val_main_v102_apply, val_main_v94_apply, val_main_v92_apply, val_main_v93_apply, val_main_v101_apply, count3_at,
    val_main_v103_apply, x_at z dy cw pw ps]
  have e : ∀ j : S8208x128.Idx, val_main_v90 (F := Ideal) z j = at2 (val_main_v88 (F := Ideal) z) (((j 0).val : ℤ) - (15 : ℕ)) (j 1).val :=
    rows_at _ _ _ fun j => by rw [val_main_v89_apply, val_main_cst_14_apply, zero_word]
  rw [e, e]
  have h := diff_at z dy cw pw ps hd 3 16 rfl (by norm_num) (val_main_v88 (F := Ideal) z) (fun j => by
    rw [val_main_v88_apply, upto_at z dy cw pw ps]) (i 0).val (i 1).val ht ha
    (((idx_main_v92 i 0).val : ℤ) - (15 : ℕ)) (((idx_main_v93 i 0).val : ℤ) - (15 : ℕ)) (by dsimp only; omega) (by dsimp only)
  unfold Data.pooled
  rw [← h]
  have hx : 128 * 3 + (i 1).val = 384 + (i 1).val := by omega
  rw [hx]
  rfl

/-- The pooled channels, the four groups side by side. -/
theorem pooled_at (hd : (dataOf z dy cw pw ps).Finite) (i : S8192x4x128.Idx) :
    val_main_v109 (F := Ideal) z i = (dataOf z dy cw pw ps).pooled (i 1).val (i 0).val (i 2).val := by
  have ht : (i 0).val < 8192 := (i 0).isLt
  have hg : (i 1).val < 4 := (i 1).isLt
  have ha : (i 2).val < 128 := (i 2).isLt
  have h4 : (i 1).val = 0 ∨ (i 1).val = 1 ∨ (i 1).val = 2 ∨ (i 1).val = 3 := by omega
  unfold val_main_v109
  rcases h4 with h | h | h | h
  · rw [h]
    refine (concatenate_apply_piece (t := S8192x4x128) 1 _ _ i 0 (by show 0 < 4; norm_num) S8192x1x128 (val_main_v105 (F := Ideal) z) rfl rfl 0 (by rfl)
      (ix3 ⟨(i 0).val, ht⟩ 0 ⟨(i 2).val, ha⟩) (fun b => match b with
        | 0 => fun _ => rfl
        | 1 => fun hb => absurd rfl hb
        | 2 => fun _ => rfl) (by show 0 + 0 = (i 1).val; omega)).trans ?_
    rw [val_main_v105_apply, pooled0_at z dy cw pw ps hd]
    rfl
  · rw [h]
    refine (concatenate_apply_piece (t := S8192x4x128) 1 _ _ i 1 (by show 1 < 4; norm_num) S8192x1x128 (val_main_v106 (F := Ideal) z) rfl rfl 1 (by rfl)
      (ix3 ⟨(i 0).val, ht⟩ 0 ⟨(i 2).val, ha⟩) (fun b => match b with
        | 0 => fun _ => rfl
        | 1 => fun hb => absurd rfl hb
        | 2 => fun _ => rfl) (by show 1 + 0 = (i 1).val; omega)).trans ?_
    rw [val_main_v106_apply, pooled1_at z dy cw pw ps hd]
    rfl
  · rw [h]
    refine (concatenate_apply_piece (t := S8192x4x128) 1 _ _ i 2 (by show 2 < 4; norm_num) S8192x1x128 (val_main_v107 (F := Ideal) z) rfl rfl 2 (by rfl)
      (ix3 ⟨(i 0).val, ht⟩ 0 ⟨(i 2).val, ha⟩) (fun b => match b with
        | 0 => fun _ => rfl
        | 1 => fun hb => absurd rfl hb
        | 2 => fun _ => rfl) (by show 2 + 0 = (i 1).val; omega)).trans ?_
    rw [val_main_v107_apply, pooled2_at z dy cw pw ps hd]
    rfl
  · rw [h]
    refine (concatenate_apply_piece (t := S8192x4x128) 1 _ _ i 3 (by show 3 < 4; norm_num) S8192x1x128 (val_main_v108 (F := Ideal) z) rfl rfl 3 (by rfl)
      (ix3 ⟨(i 0).val, ht⟩ 0 ⟨(i 2).val, ha⟩) (fun b => match b with
        | 0 => fun _ => rfl
        | 1 => fun hb => absurd rfl hb
        | 2 => fun _ => rfl) (by show 3 + 0 = (i 1).val; omega)).trans ?_
    rw [val_main_v108_apply, pooled3_at z dy cw pw ps hd]
    rfl

theorem pw_at (j : S4x128x128.Idx) : pw j = (dataOf z dy cw pw ps).pw (j 0).val (j 1).val (j 2).val :=
  (at3_at (n := 4) (k := 128) (l := 128) pw j rfl rfl rfl).symm

/-- The mixed channels. -/
theorem lin_at (hd : (dataOf z dy cw pw ps).Finite) (i : S8192x512.Idx) :
    val_main_v112 (F := Ideal) z pw i = (dataOf z dy cw pw ps).lin ((i 1).val / 128) (i 0).val ((i 1).val % 128) := by
  have ht : (i 0).val < 8192 := (i 0).isLt
  have hc : (i 1).val < 512 := (i 1).isLt
  rw [val_main_v112_apply, val_main_v111_apply, val_main_v110_apply]
  refine Finset.sum_congr rfl fun a _ => ?_
  rw [pooled_at z dy cw pw ps hd, pw_at z dy cw pw ps, mul_comm]
  have e0 : ((i 0).val * 512 + (i 1).val) / 512 = (i 0).val := by omega
  have e1 : ((i 0).val * 512 + (i 1).val) / 128 % 4 = (i 1).val / 128 := by omega
  have e2 : ((i 0).val * 512 + (i 1).val) % 128 = (i 1).val % 128 := by omega
  show (dataOf z dy cw pw ps).pooled (((i 0).val * 512 + (i 1).val) / 128 % 4) ((((i 0).val * 512 + (i 1).val) / 512 : ℕ) : ℤ) a.val
    * (dataOf z dy cw pw ps).pw (((i 0).val * 512 + (i 1).val) / 128 % 4) a.val (((i 0).val * 512 + (i 1).val) % 128) = _
  rw [e0, e1, e2]

/-- The gradient of the scale. -/
theorem scale_at (hd : (dataOf z dy cw pw ps).Finite) (i : S1x512.Idx) :
    val_main_v233 (F := Ideal) z dy pw i = ∑ s : Fin 8192, (dataOf z dy cw pw ps).scaleRow ((i 1).val / 128) s.val ((i 1).val % 128) := by
  have hc : (i 1).val < 512 := (i 1).isLt
  rw [val_main_v233_apply, val_main_v125_apply, val_main_cst_19_apply, zero_word, zero_add, Fin.sum_univ_one, val_main_v122_apply,
    val_main_v121_apply, val_main_cst_18_apply, zero_word, zero_add]
  refine Finset.sum_congr rfl fun s _ => ?_
  rw [val_main_v120_apply, lin_at z dy cw pw ps hd, dyp_at z dy cw pw ps]
  show (dataOf z dy cw pw ps).lin ((0 * 512 + (i 1).val) / 128) s.val ((0 * 512 + (i 1).val) % 128) * (dataOf z dy cw pw ps).dyp s.val (0 * 512 + (i 1).val)
    = (dataOf z dy cw pw ps).dyp s.val (128 * ((i 1).val / 128) + (i 1).val % 128) * _
  rw [show 0 * 512 + (i 1).val = (i 1).val by omega, Nat.div_add_mod, mul_comm]

/-- The gradient of the mixed channels. -/
theorem dlin_at (i : S4x128x8192.Idx) : val_main_v127 (F := Ideal) dy ps i = (dataOf z dy cw pw ps).dlin (i 0).val (i 2).val (i 1).val := by
  have hg : (i 0).val < 4 := (i 0).isLt
  have hb : (i 1).val < 128 := (i 1).isLt
  have ht : (i 2).val < 8192 := (i 2).isLt
  rw [val_main_v127_apply, val_main_v126_apply, val_main_v124_apply, dyp_at z dy cw pw ps]
  have e : val_main_v123 (F := Ideal) ps (idx_main_v126 (idx_main_v127 i)) = _ := (val_main_v123_apply ps _).trans ((val_main_v114_apply ps _).symm.trans (ps_at z dy cw pw ps _))
  rw [e]
  have e0 : (((i 2).val * 4 + (i 0).val) * 128 + (i 1).val) / 512 = (i 2).val := by omega
  have e1 : (((i 2).val * 4 + (i 0).val) * 128 + (i 1).val) % 512 = 128 * (i 0).val + (i 1).val := by omega
  show (dataOf z dy cw pw ps).dyp (((((i 2).val * 4 + (i 0).val) * 128 + (i 1).val) / 512 : ℕ) : ℤ) ((((i 2).val * 4 + (i 0).val) * 128 + (i 1).val) % 512)
    * (dataOf z dy cw pw ps).ps ((((i 2).val * 4 + (i 0).val) * 128 + (i 1).val) % 512) = _
  rw [e0, e1]
  rfl

/-- The gradient of the mixing matrices. -/
theorem mix_at (hd : (dataOf z dy cw pw ps).Finite) (i : S4x128x128.Idx) :
    val_main_v131 (F := Ideal) z dy ps i = ∑ s : Fin 8192, (dataOf z dy cw pw ps).mixRow (i 0).val (i 1).val (i 2).val s.val := by
  rw [val_main_v131_apply, val_main_v130_apply]
  refine Finset.sum_congr rfl fun s _ => ?_
  rw [pooled_at z dy cw pw ps hd, dlin_at z dy cw pw ps, mul_comm]
  rfl

/-- The gradient of the pooled channels. -/
theorem dpool_at (i : S8192x4x128.Idx) : val_main_v129 (F := Ideal) dy pw ps i = (dataOf z dy cw pw ps).dpool (i 1).val (i 0).val (i 2).val := by
  rw [val_main_v129_apply, val_main_v128_apply]
  refine Finset.sum_congr rfl fun b _ => ?_
  rw [dlin_at z dy cw pw ps, pw_at z dy cw pw ps]

end Cert.Ref

end
-- ==== Proof.RefBack.lean ====
module

public import proofs.«01_k».proof.Proof.RefPool

/-!
# The reference's pooled branch, backwards

A group's gradient is spread over the rows of its windows: the reference puts the shares of a group, negated, beside the
shares moved down by the window's width, adds the groups' columns up and takes the running sum from the end.
-/

@[expose] public section

set_option maxRecDepth 16384

noncomputable section

namespace Cert.Ref

open Cert.ReferenceIdeal Cert.ReferenceIdeal.Gen Cert.ReferenceIdeal.Read Cert.Mix Idealize.ShloMosaic Idealize.ShloMosaic.TcCoe

variable (z : (⟨S8192x5120, .bf16⟩ : BufTy).Contents (Elt Ideal)) (dy : (⟨S8192x1024, .bf16⟩ : BufTy).Contents (Elt Ideal))
  (cw : (⟨S3x512, .f32⟩ : BufTy).Contents (Elt Ideal)) (pw : (⟨S4x128x128, .f32⟩ : BufTy).Contents (Elt Ideal))
  (ps : (⟨S1x512, .f32⟩ : BufTy).Contents (Elt Ideal))

/-- The shares of a group by rows, from the stage that holds them. -/
theorem share_rows (g : ℕ) (X : S8192x128.Idx → EReal)
    (hX : ∀ i : S8192x128.Idx, X i = (dataOf z dy cw pw ps).share g (i 0).val (i 1).val) (t : ℤ) (a : ℕ) (ht : 0 ≤ t) (ha : a < 128) :
    at2 X t a = (dataOf z dy cw pw ps).share g t a := by
  by_cases h : t < 8192
  · rw [at2_of X ⟨t.toNat, by omega⟩ ⟨a, ha⟩ (by dsimp only; omega) rfl, hX]
    show (dataOf z dy cw pw ps).share g ((t.toNat : ℕ) : ℤ) a = _
    rw [Int.toNat_of_nonneg ht]
  · rw [at2_out _ _ (by omega), share_out (dyp_after z dy cw pw ps) g t (by omega)]

/-- A group's differences of shares, from the padded stages. -/
theorem spread_at (g w : ℕ) (X N : S8192x128.Idx → EReal)
    (hX : ∀ i : S8192x128.Idx, X i = (dataOf z dy cw pw ps).share g (i 0).val (i 1).val)
    (hN : ∀ i : S8192x128.Idx, N i = -(dataOf z dy cw pw ps).share g (i 0).val (i 1).val) (t : ℤ) (a : ℕ) (ha : a < 128) (p q : ℤ)
    (ht : 0 ≤ t) (hp : p = t + w) (hq : q = t) :
    (at2 N p a + at2 X q a : EReal) = -(dataOf z dy cw pw ps).share g (t + w) a + (dataOf z dy cw pw ps).share g t a := by
  rw [hp, hq]
  have hn : at2 N (t + w) a = -at2 X (t + w) a := by
    unfold at2
    split
    · rw [hN, hX]
    · exact neg_zero.symm
  rw [hn, share_rows z dy cw pw ps g X hX _ _ (by omega) ha, share_rows z dy cw pw ps g X hX _ _ ht ha]

/-- The group of a column. -/
def inGroup (g c : ℕ) : Prop := 128 * g ≤ c ∧ c - 128 * g < 128

instance (g c : ℕ) : Decidable (inGroup g c) := inferInstanceAs (Decidable (_ ∧ _))

/-- A group's columns put in their place among zeros. -/
theorem place_at {n lo hi : ℕ} (X : (⟨2, ![n, 128]⟩ : Shape).Idx → EReal) {u : Shape} (v : u.Idx → EReal)
    (h : (⟨2, ![n, 128]⟩ : Shape).Pads ![0, lo] ![0, hi] ![0, 0] ⟨2, ![n, 512]⟩) (hu : 0 < u.numel) (hv : ∀ i, v i = 0) (g : ℕ)
    (hlo : lo = 128 * g) (j : (⟨2, ![n, 512]⟩ : Shape).Idx) (f : ℤ → ℕ → EReal)
    (hf : ∀ i : (⟨2, ![n, 128]⟩ : Shape).Idx, X i = f (i 0).val (i 1).val) :
    pad ⟨2, ![n, 512]⟩ ![0, lo] ![0, hi] ![0, 0] X v h hu j
      = if inGroup g (j 1).val then f (j 0).val ((j 1).val - 128 * g) else 0 := by
  subst hlo
  rw [pad_at X v h hu hv j]
  have h0 : (j 0).val < n := (j 0).isLt
  by_cases hg : inGroup g (j 1).val
  · rw [if_pos hg, if_pos hg.1, at2_of X ⟨(j 0).val, h0⟩ ⟨(j 1).val - 128 * g, hg.2⟩ (by dsimp only; omega) rfl, hf]
    rfl
  · rw [if_neg hg]
    split
    · rename_i hb
      have : ¬ (j 1).val - 128 * g < 128 := fun h => hg ⟨hb, h⟩
      unfold at2
      rw [dif_neg (by omega)]
    · rfl

/-- Of four groups' columns, one is at its place. -/
theorem four_at (f : ℕ → EReal) (c : ℕ) (hc : c < 512) :
    ((if inGroup 3 c then f 3 else 0) + (if inGroup 2 c then f 2 else 0) + (if inGroup 1 c then f 1 else 0) + (if inGroup 0 c then f 0 else 0) : EReal)
      = f (c / 128) := by
  have h4 : c / 128 = 0 ∨ c / 128 = 1 ∨ c / 128 = 2 ∨ c / 128 = 3 := by omega
  rcases h4 with h | h | h | h <;> rw [h]
  · rw [if_neg (by unfold inGroup; omega), if_neg (by unfold inGroup; omega), if_neg (by unfold inGroup; omega), if_pos (by unfold inGroup; omega)]; simp
  · rw [if_neg (by unfold inGroup; omega), if_neg (by unfold inGroup; omega), if_pos (by unfold inGroup; omega), if_neg (by unfold inGroup; omega)]; simp
  · rw [if_neg (by unfold inGroup; omega), if_pos (by unfold inGroup; omega), if_neg (by unfold inGroup; omega), if_neg (by unfold inGroup; omega)]; simp
  · rw [if_pos (by unfold inGroup; omega), if_neg (by unfold inGroup; omega), if_neg (by unfold inGroup; omega), if_neg (by unfold inGroup; omega)]; simp

theorem dpool0_at (i : S8192x128.Idx) : val_main_v133 (F := Ideal) dy pw ps i = (dataOf z dy cw pw ps).dpool 0 (i 0).val (i 1).val := by
  have ht : (i 0).val < 8192 := (i 0).isLt
  have ha : (i 1).val < 128 := (i 1).isLt
  rw [val_main_v133_apply, val_main_v132_apply, dpool_at z dy cw pw ps]
  have e0 : ((i 0).val * 128 + (i 1).val) / 128 = (i 0).val := by omega
  have e1 : ((i 0).val * 128 + (i 1).val) % 128 = (i 1).val := by omega
  show (dataOf z dy cw pw ps).dpool 0 ((((i 0).val * 128 + (i 1).val) / 128 : ℕ) : ℤ) (((i 0).val * 128 + (i 1).val) % 128) = _
  rw [e0, e1]

theorem share0_at (i : S8192x128.Idx) : val_main_v181 (F := Ideal) dy pw ps i = (dataOf z dy cw pw ps).share 0 (i 0).val (i 1).val := by
  rw [val_main_v181_apply, val_main_v180_apply, dpool0_at z dy cw pw ps, count0_at]
  rfl

theorem spread0_at (i : S8193x512.Idx) : val_main_v188 (F := Ideal) dy pw ps i
    = if inGroup 0 (i 1).val then (fun (t : ℤ) (a : ℕ) => at2 (val_main_v187 (F := Ideal) dy pw ps) t a) (i 0).val ((i 1).val - 128 * 0) else 0 :=
  place_at _ _ _ _ (fun j => by rw [val_main_cst_35_apply, zero_word]) 0 rfl i
    (fun (t : ℤ) (a : ℕ) => at2 (val_main_v187 (F := Ideal) dy pw ps) t a) fun j => (at2_at (n := 8193) (k := 128) _ j rfl rfl).symm

theorem moved0_at (t : ℕ) (ht : t < 8192) (a : ℕ) (ha : a < 128) : at2 (val_main_v187 (F := Ideal) dy pw ps) ((t : ℤ) + 1) a
    = -(dataOf z dy cw pw ps).share 0 ((t : ℤ) + 2) a + (dataOf z dy cw pw ps).share 0 t a := by
  rw [at2_of (val_main_v187 (F := Ideal) dy pw ps) ⟨t + 1, by omega⟩ ⟨a, ha⟩ (by push_cast; rfl) rfl, val_main_v187_apply, val_main_v185_apply]
  have eh : ∀ j : S8194x128.Idx, val_main_v183 (F := Ideal) dy pw ps j = _ := pad_at _ _ _ _ fun j => by rw [val_main_cst_33_apply, zero_word]
  have el : ∀ j : S8194x128.Idx, val_main_v184 (F := Ideal) dy pw ps j = _ := pad_at _ _ _ _ fun j => by rw [val_main_cst_34_apply, zero_word]
  rw [eh, el, if_pos (Nat.zero_le _), if_pos (Nat.zero_le _), Nat.sub_zero]
  exact spread_at z dy cw pw ps 0 2 (val_main_v181 (F := Ideal) dy pw ps) (val_main_v182 (F := Ideal) dy pw ps) (share0_at z dy cw pw ps)
    (fun j => by rw [val_main_v182_apply, share0_at z dy cw pw ps]; rfl) t a ha _ _ (by omega) (by show ((1 + (t + 1) : ℕ) : ℤ) - (0 : ℕ) = t + (2 : ℕ); omega)
    (by show ((1 + (t + 1) : ℕ) : ℤ) - (2 : ℕ) = t; omega)

theorem away0_at (i : S8192x512.Idx) : val_main_v178 (F := Ideal) dy pw ps i
    = if inGroup 0 (i 1).val then -(dataOf z dy cw pw ps).dpool 0 (i 0).val ((i 1).val - 128 * 0) else 0 :=
  place_at _ _ _ _ (fun j => by rw [val_main_cst_32_apply, zero_word]) 0 rfl i (fun t a => -(dataOf z dy cw pw ps).dpool 0 t a) fun j => by
    rw [val_main_v177_apply, dpool0_at z dy cw pw ps]; rfl

theorem dpool1_at (i : S8192x128.Idx) : val_main_v135 (F := Ideal) dy pw ps i = (dataOf z dy cw pw ps).dpool 1 (i 0).val (i 1).val := by
  have ht : (i 0).val < 8192 := (i 0).isLt
  have ha : (i 1).val < 128 := (i 1).isLt
  rw [val_main_v135_apply, val_main_v134_apply, dpool_at z dy cw pw ps]
  have e0 : ((i 0).val * 128 + (i 1).val) / 128 = (i 0).val := by omega
  have e1 : ((i 0).val * 128 + (i 1).val) % 128 = (i 1).val := by omega
  show (dataOf z dy cw pw ps).dpool (1 + 0) ((((i 0).val * 128 + (i 1).val) / 128 : ℕ) : ℤ) (((i 0).val * 128 + (i 1).val) % 128) = _
  rw [e0, e1]

theorem share1_at (i : S8192x128.Idx) : val_main_v168 (F := Ideal) dy pw ps i = (dataOf z dy cw pw ps).share 1 (i 0).val (i 1).val := by
  rw [val_main_v168_apply, val_main_v167_apply, dpool1_at z dy cw pw ps, count1_at]
  rfl

theorem spread1_at (i : S8193x512.Idx) : val_main_v175 (F := Ideal) dy pw ps i
    = if inGroup 1 (i 1).val then (fun (t : ℤ) (a : ℕ) => at2 (val_main_v174 (F := Ideal) dy pw ps) t a) (i 0).val ((i 1).val - 128 * 1) else 0 :=
  place_at _ _ _ _ (fun j => by rw [val_main_cst_31_apply, zero_word]) 1 rfl i
    (fun (t : ℤ) (a : ℕ) => at2 (val_main_v174 (F := Ideal) dy pw ps) t a) fun j => (at2_at (n := 8193) (k := 128) _ j rfl rfl).symm

theorem moved1_at (t : ℕ) (ht : t < 8192) (a : ℕ) (ha : a < 128) : at2 (val_main_v174 (F := Ideal) dy pw ps) ((t : ℤ) + 1) a
    = -(dataOf z dy cw pw ps).share 1 ((t : ℤ) + 4) a + (dataOf z dy cw pw ps).share 1 t a := by
  rw [at2_of (val_main_v174 (F := Ideal) dy pw ps) ⟨t + 1, by omega⟩ ⟨a, ha⟩ (by push_cast; rfl) rfl, val_main_v174_apply, val_main_v172_apply]
  have eh : ∀ j : S8196x128.Idx, val_main_v170 (F := Ideal) dy pw ps j = _ := pad_at _ _ _ _ fun j => by rw [val_main_cst_29_apply, zero_word]
  have el : ∀ j : S8196x128.Idx, val_main_v171 (F := Ideal) dy pw ps j = _ := pad_at _ _ _ _ fun j => by rw [val_main_cst_30_apply, zero_word]
  rw [eh, el, if_pos (Nat.zero_le _), if_pos (Nat.zero_le _), Nat.sub_zero]
  exact spread_at z dy cw pw ps 1 4 (val_main_v168 (F := Ideal) dy pw ps) (val_main_v169 (F := Ideal) dy pw ps) (share1_at z dy cw pw ps)
    (fun j => by rw [val_main_v169_apply, share1_at z dy cw pw ps]; rfl) t a ha _ _ (by omega) (by show ((3 + (t + 1) : ℕ) : ℤ) - (0 : ℕ) = t + (4 : ℕ); omega)
    (by show ((3 + (t + 1) : ℕ) : ℤ) - (4 : ℕ) = t; omega)

theorem away1_at (i : S8192x512.Idx) : val_main_v165 (F := Ideal) dy pw ps i
    = if inGroup 1 (i 1).val then -(dataOf z dy cw pw ps).dpool 1 (i 0).val ((i 1).val - 128 * 1) else 0 :=
  place_at _ _ _ _ (fun j => by rw [val_main_cst_28_apply, zero_word]) 1 rfl i (fun t a => -(dataOf z dy cw pw ps).dpool 1 t a) fun j => by
    rw [val_main_v164_apply, dpool1_at z dy cw pw ps]; rfl

theorem dpool2_at (i : S8192x128.Idx) : val_main_v137 (F := Ideal) dy pw ps i = (dataOf z dy cw pw ps).dpool 2 (i 0).val (i 1).val := by
  have ht : (i 0).val < 8192 := (i 0).isLt
  have ha : (i 1).val < 128 := (i 1).isLt
  rw [val_main_v137_apply, val_main_v136_apply, dpool_at z dy cw pw ps]
  have e0 : ((i 0).val * 128 + (i 1).val) / 128 = (i 0).val := by omega
  have e1 : ((i 0).val * 128 + (i 1).val) % 128 = (i 1).val := by omega
  show (dataOf z dy cw pw ps).dpool (2 + 0) ((((i 0).val * 128 + (i 1).val) / 128 : ℕ) : ℤ) (((i 0).val * 128 + (i 1).val) % 128) = _
  rw [e0, e1]

theorem share2_at (i : S8192x128.Idx) : val_main_v155 (F := Ideal) dy pw ps i = (dataOf z dy cw pw ps).share 2 (i 0).val (i 1).val := by
  rw [val_main_v155_apply, val_main_v154_apply, dpool2_at z dy cw pw ps, count2_at]
  rfl

theorem spread2_at (i : S8193x512.Idx) : val_main_v162 (F := Ideal) dy pw ps i
    = if inGroup 2 (i 1).val then (fun (t : ℤ) (a : ℕ) => at2 (val_main_v161 (F := Ideal) dy pw ps) t a) (i 0).val ((i 1).val - 128 * 2) else 0 :=
  place_at _ _ _ _ (fun j => by rw [val_main_cst_27_apply, zero_word]) 2 rfl i
    (fun (t : ℤ) (a : ℕ) => at2 (val_main_v161 (F := Ideal) dy pw ps) t a) fun j => (at2_at (n := 8193) (k := 128) _ j rfl rfl).symm

theorem moved2_at (t : ℕ) (ht : t < 8192) (a : ℕ) (ha : a < 128) : at2 (val_main_v161 (F := Ideal) dy pw ps) ((t : ℤ) + 1) a
    = -(dataOf z dy cw pw ps).share 2 ((t : ℤ) + 8) a + (dataOf z dy cw pw ps).share 2 t a := by
  rw [at2_of (val_main_v161 (F := Ideal) dy pw ps) ⟨t + 1, by omega⟩ ⟨a, ha⟩ (by push_cast; rfl) rfl, val_main_v161_apply, val_main_v159_apply]
  have eh : ∀ j : S8200x128.Idx, val_main_v157 (F := Ideal) dy pw ps j = _ := pad_at _ _ _ _ fun j => by rw [val_main_cst_25_apply, zero_word]
  have el : ∀ j : S8200x128.Idx, val_main_v158 (F := Ideal) dy pw ps j = _ := pad_at _ _ _ _ fun j => by rw [val_main_cst_26_apply, zero_word]
  rw [eh, el, if_pos (Nat.zero_le _), if_pos (Nat.zero_le _), Nat.sub_zero]
  exact spread_at z dy cw pw ps 2 8 (val_main_v155 (F := Ideal) dy pw ps) (val_main_v156 (F := Ideal) dy pw ps) (share2_at z dy cw pw ps)
    (fun j => by rw [val_main_v156_apply, share2_at z dy cw pw ps]; rfl) t a ha _ _ (by omega) (by show ((7 + (t + 1) : ℕ) : ℤ) - (0 : ℕ) = t + (8 : ℕ); omega)
    (by show ((7 + (t + 1) : ℕ) : ℤ) - (8 : ℕ) = t; omega)

theorem away2_at (i : S8192x512.Idx) : val_main_v152 (F := Ideal) dy pw ps i
    = if inGroup 2 (i 1).val then -(dataOf z dy cw pw ps).dpool 2 (i 0).val ((i 1).val - 128 * 2) else 0 :=
  place_at _ _ _ _ (fun j => by rw [val_main_cst_24_apply, zero_word]) 2 rfl i (fun t a => -(dataOf z dy cw pw ps).dpool 2 t a) fun j => by
    rw [val_main_v151_apply, dpool2_at z dy cw pw ps]; rfl

theorem dpool3_at (i : S8192x128.Idx) : val_main_v139 (F := Ideal) dy pw ps i = (dataOf z dy cw pw ps).dpool 3 (i 0).val (i 1).val := by
  have ht : (i 0).val < 8192 := (i 0).isLt
  have ha : (i 1).val < 128 := (i 1).isLt
  rw [val_main_v139_apply, val_main_v138_apply, dpool_at z dy cw pw ps]
  have e0 : ((i 0).val * 128 + (i 1).val) / 128 = (i 0).val := by omega
  have e1 : ((i 0).val * 128 + (i 1).val) % 128 = (i 1).val := by omega
  show (dataOf z dy cw pw ps).dpool (3 + 0) ((((i 0).val * 128 + (i 1).val) / 128 : ℕ) : ℤ) (((i 0).val * 128 + (i 1).val) % 128) = _
  rw [e0, e1]

theorem share3_at (i : S8192x128.Idx) : val_main_v143 (F := Ideal) dy pw ps i = (dataOf z dy cw pw ps).share 3 (i 0).val (i 1).val := by
  rw [val_main_v143_apply, val_main_v142_apply, dpool3_at z dy cw pw ps, count3_at]
  rfl

theorem spread3_at (i : S8193x512.Idx) : val_main_v150 (F := Ideal) dy pw ps i
    = if inGroup 3 (i 1).val then (fun (t : ℤ) (a : ℕ) => at2 (val_main_v149 (F := Ideal) dy pw ps) t a) (i 0).val ((i 1).val - 128 * 3) else 0 :=
  place_at _ _ _ _ (fun j => by rw [val_main_cst_23_apply, zero_word]) 3 rfl i
    (fun (t : ℤ) (a : ℕ) => at2 (val_main_v149 (F := Ideal) dy pw ps) t a) fun j => (at2_at (n := 8193) (k := 128) _ j rfl rfl).symm

theorem moved3_at (t : ℕ) (ht : t < 8192) (a : ℕ) (ha : a < 128) : at2 (val_main_v149 (F := Ideal) dy pw ps) ((t : ℤ) + 1) a
    = -(dataOf z dy cw pw ps).share 3 ((t : ℤ) + 16) a + (dataOf z dy cw pw ps).share 3 t a := by
  rw [at2_of (val_main_v149 (F := Ideal) dy pw ps) ⟨t + 1, by omega⟩ ⟨a, ha⟩ (by push_cast; rfl) rfl, val_main_v149_apply, val_main_v147_apply]
  have eh : ∀ j : S8208x128.Idx, val_main_v145 (F := Ideal) dy pw ps j = _ := pad_at _ _ _ _ fun j => by rw [val_main_cst_21_apply, zero_word]
  have el : ∀ j : S8208x128.Idx, val_main_v146 (F := Ideal) dy pw ps j = _ := pad_at _ _ _ _ fun j => by rw [val_main_cst_22_apply, zero_word]
  rw [eh, el, if_pos (Nat.zero_le _), if_pos (Nat.zero_le _), Nat.sub_zero]
  exact spread_at z dy cw pw ps 3 16 (val_main_v143 (F := Ideal) dy pw ps) (val_main_v144 (F := Ideal) dy pw ps) (share3_at z dy cw pw ps)
    (fun j => by rw [val_main_v144_apply, share3_at z dy cw pw ps]; rfl) t a ha _ _ (by omega) (by show ((15 + (t + 1) : ℕ) : ℤ) - (0 : ℕ) = t + (16 : ℕ); omega)
    (by show ((15 + (t + 1) : ℕ) : ℤ) - (16 : ℕ) = t; omega)

theorem away3_at (i : S8192x512.Idx) : val_main_v141 (F := Ideal) dy pw ps i
    = if inGroup 3 (i 1).val then -(dataOf z dy cw pw ps).dpool 3 (i 0).val ((i 1).val - 128 * 3) else 0 :=
  place_at _ _ _ _ (fun j => by rw [val_main_cst_20_apply, zero_word]) 3 rfl i (fun t a => -(dataOf z dy cw pw ps).dpool 3 t a) fun j => by
    rw [val_main_v140_apply, dpool3_at z dy cw pw ps]; rfl

/-- A row less the group's own gradient. -/
theorem away_at (i : S8192x512.Idx) : val_main_v179 (F := Ideal) dy pw ps i
    = -(dataOf z dy cw pw ps).dpool ((i 1).val / 128) (i 0).val ((i 1).val % 128) := by
  have hc : (i 1).val < 512 := (i 1).isLt
  rw [val_main_v179_apply, val_main_v166_apply, val_main_v153_apply, away0_at z dy cw pw ps, away1_at z dy cw pw ps, away2_at z dy cw pw ps,
    away3_at z dy cw pw ps]
  refine (four_at (fun g => -(dataOf z dy cw pw ps).dpool g (i 0).val ((i 1).val - 128 * g)) (i 1).val hc).trans ?_
  rw [show (i 1).val - 128 * ((i 1).val / 128) = (i 1).val % 128 by omega]

/-- The differences of shares, one row on. -/
theorem moved_at (i : S8192x512.Idx) : val_main_v191 (F := Ideal) dy pw ps i
    = -(dataOf z dy cw pw ps).share ((i 1).val / 128) ((i 0).val + Data.width ((i 1).val / 128)) ((i 1).val % 128)
      + (dataOf z dy cw pw ps).share ((i 1).val / 128) (i 0).val ((i 1).val % 128) := by
  have hc : (i 1).val < 512 := (i 1).isLt
  have ht : (i 0).val < 8192 := (i 0).isLt
  have h0 : (idx_main_v191 i 0).val = (i 0).val + 1 := by show 1 + (i 0).val = _; omega
  have h1 : (idx_main_v191 i 1).val = (i 1).val := rfl
  rw [val_main_v191_apply]
  generalize idx_main_v191 i = j at h0 h1 ⊢
  rw [val_main_v189_apply, val_main_v176_apply, val_main_v163_apply, spread0_at, spread1_at, spread2_at, spread3_at, h1]
  dsimp only
  rw [show ((j 0).val : ℤ) = ((i 0).val : ℤ) + 1 by omega]
  have h4 : (i 1).val / 128 = 0 ∨ (i 1).val / 128 = 1 ∨ (i 1).val / 128 = 2 ∨ (i 1).val / 128 = 3 := by omega
  rcases h4 with h | h | h | h <;> rw [h]
  · rw [if_neg (by unfold inGroup; omega), if_neg (by unfold inGroup; omega), if_neg (by unfold inGroup; omega), if_pos (by unfold inGroup; omega), moved0_at z dy cw pw ps _ ht _ (by omega),
      show (i 1).val - 128 * 0 = (i 1).val % 128 by omega]
    show (0 + 0 + 0 + _ : EReal) = _
    rw [zero_add, zero_add, zero_add]
    rfl
  · rw [if_neg (by unfold inGroup; omega), if_neg (by unfold inGroup; omega), if_pos (by unfold inGroup; omega), if_neg (by unfold inGroup; omega), moved1_at z dy cw pw ps _ ht _ (by omega),
      show (i 1).val - 128 * 1 = (i 1).val % 128 by omega]
    show (0 + 0 + _ + 0 : EReal) = _
    rw [zero_add, zero_add, add_zero]
    rfl
  · rw [if_neg (by unfold inGroup; omega), if_pos (by unfold inGroup; omega), if_neg (by unfold inGroup; omega), if_neg (by unfold inGroup; omega), moved2_at z dy cw pw ps _ ht _ (by omega),
      show (i 1).val - 128 * 2 = (i 1).val % 128 by omega]
    show (0 + _ + 0 + 0 : EReal) = _
    rw [zero_add, add_zero, add_zero]
    rfl
  · rw [if_pos (by unfold inGroup; omega), if_neg (by unfold inGroup; omega), if_neg (by unfold inGroup; omega), if_neg (by unfold inGroup; omega), moved3_at z dy cw pw ps _ ht _ (by omega),
      show (i 1).val - 128 * 3 = (i 1).val % 128 by omega]
    show (_ + 0 + 0 + 0 : EReal) = _
    rw [add_zero, add_zero, add_zero]
    rfl

/-- The gradient of the pooled branch's input. -/
theorem dx_at (hd : (dataOf z dy cw pw ps).Finite) (i : S8192x512.Idx) :
    val_main_v193 (F := Ideal) dy pw ps i = (dataOf z dy cw pw ps).dx ((i 1).val / 128) (i 0).val ((i 1).val % 128) := by
  have hc : (i 1).val < 512 := (i 1).isLt
  have ht : (i 0).val < 8192 := (i 0).isLt
  have e : val_main_v192 (F := Ideal) dy pw ps i = _ := window_at _ _ _ _ (fun j => by
    rw [val_main_call1_call0_v0_apply, val_main_call1_call0_cst_apply, zero_word]) i
  have hs : ∀ k : Fin 8192, at2 (val_main_v191 (F := Ideal) dy pw ps) ((i 0).val + k.val - (0 : ℕ)) (i 1).val
      = -(dataOf z dy cw pw ps).share ((i 1).val / 128) ((i 0).val + k.val + Data.width ((i 1).val / 128)) ((i 1).val % 128)
        + (dataOf z dy cw pw ps).share ((i 1).val / 128) ((i 0).val + k.val) ((i 1).val % 128) := by
    intro k
    by_cases hk : (i 0).val + k.val < 8192
    · rw [at2_of (val_main_v191 (F := Ideal) dy pw ps) ⟨(i 0).val + k.val, hk⟩ ⟨(i 1).val, hc⟩ (by dsimp only; omega) rfl, moved_at z dy cw pw ps]
      rfl
    · rw [at2_out _ _ (by omega), share_out (dyp_after z dy cw pw ps) _ _ (by omega), share_out (dyp_after z dy cw pw ps) _ _ (by omega), neg_zero,
        zero_add]
  rw [val_main_v193_apply, away_at z dy cw pw ps, e, Finset.sum_congr rfl fun k _ => hs k]
  unfold Data.dx
  rw [shares_eq hd (dyp_after z dy cw pw ps) ((i 1).val / 128) (i 0).val ((i 1).val % 128) _ rfl]
  generalize (∑ k ∈ Finset.range (Data.width ((i 1).val / 128)), _ : EReal) = x
  generalize (dataOf z dy cw pw ps).dpool ((i 1).val / 128) (i 0).val ((i 1).val % 128) = y
  exact (add_comm (-y) x).trans (sub_eq_add_neg x y).symm

end Cert.Ref

end
-- ==== Proof.RefDz.lean ====
module

public import proofs.«01_k».proof.Proof.RefBack
public import proofs.«01_k».proof.Proof.Outs

/-!
# The reference's gradient of the projection's rows

The reference lays its four gradients side by side, five hundred and twelve columns each.
-/

@[expose] public section

set_option maxRecDepth 16384

noncomputable section

namespace Cert.Ref

open Cert.ReferenceIdeal Cert.ReferenceIdeal.Gen Cert.ReferenceIdeal.Read Cert.Mix Idealize.ShloMosaic Idealize.ShloMosaic.TcCoe

variable (z : (⟨S8192x5120, .bf16⟩ : BufTy).Contents (Elt Ideal)) (dy : (⟨S8192x1024, .bf16⟩ : BufTy).Contents (Elt Ideal))
  (cw : (⟨S3x512, .f32⟩ : BufTy).Contents (Elt Ideal)) (pw : (⟨S4x128x128, .f32⟩ : BufTy).Contents (Elt Ideal))
  (ps : (⟨S1x512, .f32⟩ : BufTy).Contents (Elt Ideal))

/-- A piece of the row: the piece's column is the row's less the columns before it. -/
theorem piece_at (k pre : ℕ) (X : S8192x512.Idx → EReal)
    (xs : List ((s : Shape) × (s.Idx → EReal))) (h : Shape.Concatenates (xs.map (·.1)) S8192x2048 1) (j : S8192x2048.Idx)
    (hk : k < xs.length) (hx : xs[k] = ⟨S8192x512, X⟩)
    (hpre : (((xs.take k).map (·.1)).map fun s => if h : s.rank = S8192x2048.rank then s.size ((1 : Fin S8192x2048.rank).cast h.symm) else 0).sum = pre)
    (hj : pre ≤ (j 1).val ∧ (j 1).val - pre < 512) :
    concatenate S8192x2048 1 xs h j = X (ix2 (j 0) ⟨(j 1).val - pre, hj.2⟩) :=
  concatenate_apply_piece 1 xs h j k hk S8192x512 X hx rfl pre hpre (ix2 (j 0) ⟨(j 1).val - pre, hj.2⟩)
    (fun b => match b with | 0 => fun _ => rfl | 1 => fun hb => absurd rfl hb) (Nat.add_sub_cancel' hj.1)

/-- The first result. -/
theorem dz_at (hd : (dataOf z dy cw pw ps).Finite) (j : S8192x2048.Idx) :
    val_main_v232 (F := Ideal) z dy cw pw ps j = Cert.KernelIdeal.Pay.dz (dataOf z dy cw pw ps) (j 0).val (j 1).val := by
  have hj : (j 1).val < 2048 := (j 1).isLt
  rw [val_main_v232_apply, val_main_v231, Cert.KernelIdeal.Pay.dz]
  split
  · refine (piece_at 0 0 (val_main_v195 (F := Ideal) z dy cw) _ _ j (by simp) rfl rfl ⟨by omega, by omega⟩).trans ?_
    rw [dgb_at z dy cw pw ps]
    rfl
  split
  · refine (piece_at 1 512 (val_main_v230 (F := Ideal) z dy cw) _ _ j (by simp) rfl rfl ⟨by omega, by omega⟩).trans ?_
    rw [dgc_at z dy cw pw ps]
    rfl
  split
  · refine (piece_at 2 1024 (val_main_v229 (F := Ideal) z dy cw) _ _ j (by simp) rfl rfl ⟨by omega, by omega⟩).trans ?_
    rw [dci_at z dy cw pw ps]
    rfl
  · refine (piece_at 3 1536 (val_main_v193 (F := Ideal) dy pw ps) _ _ j (by simp) rfl rfl ⟨by omega, by omega⟩).trans ?_
    rw [dx_at z dy cw pw ps hd]
    rfl

end Cert.Ref

end
-- ==== Proof.Bounds.lean ====
module

public import proofs.«01_k».proof.Proof.Finite
public import proofs.«01_k».proof.Pre_pool_finite
public import Idealize.ShloMosaic.Lib.ReduceAll

/-!
# The precondition

The precondition says of every element of the pooled branch's arrays that its magnitude is below infinity; such an
element is a real number.
-/

@[expose] public section

set_option maxRecDepth 16384

noncomputable section

namespace Cert.Mix

open Cert.Pre_pool_finite Idealize.ShloMosaic

/-- The precondition's side conditions. -/
theorem preFacts : Cert.Pre_pool_finite.Facts where
  slices_S8192x5120_S8192x512_0_4608 := by decide
  bitsLt_bf16_f32 := by decide
  bcast_S_S8192x512 := by decide
  reducesTo_S8192x512_S_d0_1 := by decide
  h_S_ := by decide
  slices_S8192x1024_S8192x512_0_512 := by decide
  bcast_S_S4x128x128 := by decide
  reducesTo_S4x128x128_S_d0_1_2 := by decide
  bcast_S_S1x512 := by decide
  reducesTo_S1x512_S_d0_1 := by decide

instance : Subsingleton S_.Idx := ⟨fun _ _ => funext fun a => a.elim0⟩

/-- A magnitude below infinity is a real number's. -/
theorem isReal_of_cmpf {x : EReal}
    (h : FloatOps.cmpf (F := Ideal) (φ := .f32) .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt := (Ideal.cmp_olt_eq_one _ _).1 h'
  have h1 : x ≠ ⊤ := (lt_of_le_of_lt (le_max_left _ _) hlt).ne
  have h2 : x ≠ ⊥ := fun h => by subst h; simp at hlt
  exact ⟨x.toReal, (EReal.coe_toReal h1 h2).symm⟩

theorem and_one {a b : IVec S_ 1} (h : andi a b = fun _ => 1#1) : a = (fun _ => 1#1) ∧ b = (fun _ => 1#1) := by
  have e : ∀ x y : BitVec 1, IntOp.andi x y = 1#1 → x = 1#1 ∧ y = 1#1 := by decide
  exact ⟨funext fun i => (e _ _ (congrFun h i)).1, funext fun i => (e _ _ (congrFun h i)).2⟩

variable [Facts] (z : FVec Ideal S8192x5120 .bf16) (dy : FVec Ideal S8192x1024 .bf16) (cw : FVec Ideal S3x512 .f32)
  (pw : FVec Ideal S4x128x128 .f32) (ps : FVec Ideal S1x512 .f32)

/-- Under the precondition the pooled branch's arrays are finite. -/
theorem finite_of_pre (h : fn (F := Ideal) z dy cw pw ps = fun _ => 1#1) : (dataOf z dy cw pw ps).Finite := by
  unfold fn at h
  dsimp only at h
  unfold fn_part1 at h
  dsimp only at h
  obtain ⟨h, h4⟩ := and_one h
  obtain ⟨h, h3⟩ := and_one h
  obtain ⟨h1, h2⟩ := and_one h
  refine ⟨fun t c => .at2 t _ fun j hj => ?_, fun t c => .at2 t _ fun j hj => ?_, fun g a b => .at3 g a b fun j => ?_, fun c => .at2 0 _ fun j _ => ?_⟩
  · have hc : (j 1).val < 5120 := (j 1).isLt
    have e := isReal_of_cmpf (Host.reduce_andi_all _ _ _ _ _ (congrFun h1 (fun a => a.elim0)) (ix2 (j 0) ⟨c, by omega⟩))
    rw [extf_apply] at e
    have hs := extractStridedSlice_apply ![0, 4608] z Facts.slices_S8192x5120_S8192x512_0_4608
      (ix2 (j 0) ⟨c, by omega⟩ : S8192x512.Idx) j fun a => match a with | 0 => (Nat.zero_add _).symm | 1 => hj
    exact hs ▸ e
  · have hc : (j 1).val < 1024 := (j 1).isLt
    have e := isReal_of_cmpf (Host.reduce_andi_all _ _ _ _ _ (congrFun h2 (fun a => a.elim0)) (ix2 (j 0) ⟨c, by omega⟩))
    rw [extf_apply] at e
    have hs := extractStridedSlice_apply ![0, 512] dy Facts.slices_S8192x1024_S8192x512_0_512
      (ix2 (j 0) ⟨c, by omega⟩ : S8192x512.Idx) j fun a => match a with | 0 => (Nat.zero_add _).symm | 1 => hj
    exact hs ▸ e
  · exact isReal_of_cmpf (Host.reduce_andi_all _ _ _ _ _ (congrFun h3 (fun a => a.elim0)) j)
  · exact isReal_of_cmpf (Host.reduce_andi_all _ _ _ _ _ (congrFun h4 (fun a => a.elim0)) j)

end Cert.Mix

end
-- ==== Proof.Accum.lean ====
module

public import Idealize.ShloMosaic.Lib.Pipeline.ValueKit
public import Idealize.ShloMosaic.PureOps.Ideal.Laws
public import Idealize.ShloMosaic.Lib.ValueIdx

/-!
# Products accumulated over a grid

A buffer that starts afresh at every `J`th point and otherwise adds to what the point before left holds, after a point, the
sum of the run's parts. Blocks of rows, one after another, are all the rows.
-/

@[expose] public section

namespace Cert.Accum

open Idealize.ShloMosaic

/-- Indices with three equal coordinates are equal. -/
theorem ext3 {n0 n1 n2 : ℕ} {i j : (⟨3, ![n0, n1, n2]⟩ : Shape).Idx} (h0 : (i 0).val = (j 0).val) (h1 : (i 1).val = (j 1).val)
    (h2 : (i 2).val = (j 2).val) : i = j :=
  funext fun a => match a with | 0 => Fin.ext h0 | 1 => Fin.ext h1 | 2 => Fin.ext h2

/-- The buffer after a point, from what each point adds. -/
theorem run_sum {N J : ℕ} {ι : Type} (hJ : 0 < J) (f : (n : ℕ) → n < N → ι → EReal) (M : ℕ → ι → EReal)
    (h0 : ∀ (n : ℕ) (h : n < N) (i : ι), n % J = 0 → f n h i = M n i)
    (hs : ∀ (n : ℕ) (h : n + 1 < N) (i : ι), ¬(n + 1) % J = 0 → f (n + 1) h i = f n (Nat.lt_of_succ_lt h) i + M (n + 1) i)
    (t : ℕ) (ht : t < N) (i : ι) : f t ht i = ∑ s ∈ Finset.range (t % J + 1), M (J * (t / J) + s) i := by
  induction t with
  | zero => rw [h0 0 ht i (Nat.zero_mod J)]; simp
  | succ n ih =>
    by_cases hn : (n + 1) % J = 0
    · rw [h0 _ ht i hn, hn, zero_add, Finset.sum_range_one, add_zero, Nat.mul_div_cancel' (Nat.dvd_of_mod_eq_zero hn)]
    · rw [hs n ht i hn, ih]
      have hd : n / J = (n + 1) / J := by
        rw [Nat.succ_div_of_not_dvd fun h => hn (Nat.mod_eq_zero_of_dvd h)]
      have e1 := Nat.div_add_mod n J
      have e2 := Nat.div_add_mod (n + 1) J
      rw [← hd] at e2
      have hm : (n + 1) % J = n % J + 1 := by omega
      rw [hm, Finset.sum_range_succ _ (n % J + 1), ← hd, show J * (n / J) + (n % J + 1) = n + 1 by omega]

/-- Blocks of rows, one after another. -/
theorem sum_blocks (J n : ℕ) (f : ℕ → EReal) :
    ∑ s ∈ Finset.range J, ∑ r : Fin n, f (s * n + r.val) = ∑ k : Fin (J * n), f k.val := by
  rw [← Fin.sum_univ_eq_sum_range (fun s => ∑ r : Fin n, f (s * n + r.val)) J, ← Fin.sum_univ_univ_mul_add J n f]

/-- A nonnegative real factor goes through a sum. -/
theorem sum_mul_real {ι : Type} [Fintype ι] {a : ℝ} (ha : 0 ≤ a) (f : ι → EReal) : ∑ i, f i * (a : EReal) = (∑ i, f i) * (a : EReal) := by
  classical
  have : ∀ s : Finset ι, ∑ i ∈ s, f i * (a : EReal) = (∑ i ∈ s, f i) * (a : EReal) := by
    intro s
    induction s using Finset.induction_on with
    | empty => simp
    | insert i s hi ih =>
      rw [Finset.sum_insert hi, Finset.sum_insert hi, ih,
        EReal.right_distrib_of_nonneg_of_ne_top (EReal.coe_nonneg.mpr ha) (EReal.coe_ne_top a)]
  exact this Finset.univ

end Cert.Accum
-- ==== Proof.Gate.lean ====
module

public import proofs.«01_k».proof.Proof.Accum
public import proofs.«01_k».proof.Proof.Bounds
public import proofs.«01_k».proof.Pre_gate_finite
public import proofs.«01_k».proof.Proof.Gen.Reference2Ideal.Read

/-!
# The gated hidden layer and its gradients

The hidden value is `a · σ(a) · b` of the two projections `a` and `b`. The kernel multiplies the gradient of the hidden
value by the two partial derivatives it saved; the reference differentiates the product and the gate one after the other.
Where the projection `b` and the gradient are real numbers the two agree, whatever the gate's projection is.
-/

@[expose] public section

set_option maxRecDepth 16384

noncomputable section

namespace Cert.Gate

open Cert.Reference2Ideal Idealize.ShloMosaic Cert.Mix

/-- A projection: a row against a block's column. -/
def pre (X : S8192x2048.Idx → EReal) (W : S8x2048x704.Idx → EReal) (y : S8x8192x704.Idx) : EReal :=
  ∑ k : Fin 2048, X (ix2 (y 1) k) * W (ix3 (y 0) k (y 2))

/-- The gradient of the hidden value before it is halved. -/
def back (G : S8192x2048.Idx → EReal) (D : S8x704x2048.Idx → EReal) (y : S8x8192x704.Idx) : EReal :=
  ∑ k : Fin 2048, G (ix2 (y 1) k) * D (ix3 (y 0) (y 2) k)

/-- The gate's derivative times the other projection. -/
def slope (a b : EReal) : EReal := b * (Ideal.logistic a * (1 + a * (1 - Ideal.logistic a)))

def silu (a : EReal) : EReal := a * Ideal.logistic a

abbrev halfR : EReal := ((1 / 2 : ℝ) : EReal)

/-- The hidden value and the gradients of the two projections, as the kernel takes them. -/
def hid (X : S8192x2048.Idx → EReal) (A B : S8x2048x704.Idx → EReal) (y : S8x8192x704.Idx) : EReal :=
  silu (pre X A y) * pre X B y

def gradA (X : S8192x2048.Idx → EReal) (A B : S8x2048x704.Idx → EReal) (D : S8x704x2048.Idx → EReal) (G : S8192x2048.Idx → EReal)
    (y : S8x8192x704.Idx) : EReal :=
  back G D y * halfR * slope (pre X A y) (pre X B y)

def gradB (X : S8192x2048.Idx → EReal) (A : S8x2048x704.Idx → EReal) (D : S8x704x2048.Idx → EReal) (G : S8192x2048.Idx → EReal)
    (y : S8x8192x704.Idx) : EReal :=
  back G D y * halfR * silu (pre X A y)

/-- The constants. -/
theorem half : Ideal.ofBits .f32 0x3F000000#32 = halfR := by
  simp [Ideal.ofBits, Ideal.ieee]
  rw [← EReal.coe_mul]
  norm_num

theorem one : Ideal.ofBits .f32 0x3F800000#32 = 1 := by
  simp [Ideal.ofBits, Ideal.ieee]
  rw [← EReal.coe_mul]
  norm_num

/-- The product's derivative through the gate, taken either way. -/
theorem slope_eq (a : EReal) (b d : ℝ) :
    (d : EReal) * slope a b
      = (d : EReal) * b * Ideal.logistic a + a * ((d : EReal) * b) * (Ideal.logistic a * (1 - Ideal.logistic a)) := by
  unfold slope
  induction a with
  | bot => simp
  | top =>
    have e : (1 : EReal) - 1 = 0 := by
      rw [← EReal.coe_one, ← EReal.coe_sub, sub_self, EReal.coe_zero]
    simp [e]
  | coe a =>
    rw [Ideal.logistic_coe, ← EReal.coe_one]
    simp only [← EReal.coe_sub, ← EReal.coe_mul, ← EReal.coe_add]
    exact congrArg _ (by ring)

/-- The reference's halved gradient. -/
theorem back_half (G : S8192x2048.Idx → EReal) (D : S8x704x2048.Idx → EReal) (y : S8x8192x704.Idx) :
    ∑ k : Fin 2048, halfR * G (ix2 (y 1) k) * D (ix3 (y 0) (y 2) k) = back G D y * halfR := by
  unfold back
  rw [← Accum.sum_mul_real (by norm_num)]
  refine Finset.sum_congr rfl fun k _ => ?_
  rw [mul_assoc, mul_comm]

/-! ## The reference -/

/-- A column of the flattened hidden layer. -/
abbrev flat (y : S8x8192x704.Idx) : S8192x5632.Idx := Cert.Reference2Ideal.Read.idx_main_v25 (Cert.Reference2Ideal.Read.idx_main_v26 y)

open Cert.Reference2Ideal.Read in
theorem gate_at (X : S8192x2048.Idx → EReal) (A : S8x2048x704.Idx → EReal) (y : S8x8192x704.Idx) :
    val_main_v8 (F := Ideal) X A (flat y) = pre X A y := by
  rw [val_main_v8_apply]
  have h0 : (y 0).val < 8 := (y 0).isLt
  have h1 : (y 1).val < 8192 := (y 1).isLt
  have h2 : (y 2).val < 704 := (y 2).isLt
  refine Finset.sum_congr rfl fun k _ => ?_
  have hk := k.isLt
  rw [val_main_v0_apply, val_main_v7_apply, val_main_v6_apply, val_main_v1_apply]
  show X _ * A _ = _
  refine congrArg₂ (· * ·) (congrArg X (Shape.idx_ext₂ ?_ ?_)) (congrArg A (Accum.ext3 ?_ ?_ ?_))
  · show (((y 1).val * 8 + (y 0).val) * 704 + (y 2).val) / 5632 = (y 1).val; omega
  · rfl
  · show (k.val * 5632 + (((y 1).val * 8 + (y 0).val) * 704 + (y 2).val) % 5632) / 704 % 8 = (y 0).val; omega
  · show (k.val * 5632 + (((y 1).val * 8 + (y 0).val) * 704 + (y 2).val) % 5632) / 5632 = k.val; omega
  · show (k.val * 5632 + (((y 1).val * 8 + (y 0).val) * 704 + (y 2).val) % 5632) % 704 = (y 2).val; omega

open Cert.Reference2Ideal.Read in
theorem up_at (X : S8192x2048.Idx → EReal) (B : S8x2048x704.Idx → EReal) (y : S8x8192x704.Idx) :
    val_main_v11 (F := Ideal) X B (flat y) = pre X B y := by
  rw [val_main_v11_apply]
  have h0 : (y 0).val < 8 := (y 0).isLt
  have h1 : (y 1).val < 8192 := (y 1).isLt
  have h2 : (y 2).val < 704 := (y 2).isLt
  refine Finset.sum_congr rfl fun k _ => ?_
  have hk := k.isLt
  rw [val_main_v0_apply, val_main_v10_apply, val_main_v9_apply, val_main_v2_apply]
  show X _ * B _ = _
  refine congrArg₂ (· * ·) (congrArg X (Shape.idx_ext₂ ?_ ?_)) (congrArg B (Accum.ext3 ?_ ?_ ?_))
  · show (((y 1).val * 8 + (y 0).val) * 704 + (y 2).val) / 5632 = (y 1).val; omega
  · rfl
  · show (k.val * 5632 + (((y 1).val * 8 + (y 0).val) * 704 + (y 2).val) % 5632) / 704 % 8 = (y 0).val; omega
  · show (k.val * 5632 + (((y 1).val * 8 + (y 0).val) * 704 + (y 2).val) % 5632) / 5632 = k.val; omega
  · show (k.val * 5632 + (((y 1).val * 8 + (y 0).val) * 704 + (y 2).val) % 5632) % 704 = (y 2).val; omega

open Cert.Reference2Ideal.Read in
theorem back_at (D : S8x704x2048.Idx → EReal) (G : S8192x2048.Idx → EReal) (y : S8x8192x704.Idx) :
    val_main_v19 (F := Ideal) D G (flat y) = back G D y * halfR := by
  rw [val_main_v19_apply, ← back_half]
  have h0 : (y 0).val < 8 := (y 0).isLt
  have h1 : (y 1).val < 8192 := (y 1).isLt
  have h2 : (y 2).val < 704 := (y 2).isLt
  refine Finset.sum_congr rfl fun k _ => ?_
  have hk := k.isLt
  rw [val_main_v18_apply, val_main_v17_apply, val_main_cst_0_apply, val_main_v4_apply, val_main_v5_apply, val_main_v3_apply]
  show Ideal.ofBits .f32 0x3F000000#32 * G _ * D _ = _
  rw [half]
  refine congrArg₂ (· * ·) (congrArg (halfR * ·) (congrArg G (Shape.idx_ext₂ ?_ ?_))) (congrArg D (Accum.ext3 ?_ ?_ ?_))
  · show (((y 1).val * 8 + (y 0).val) * 704 + (y 2).val) / 5632 = (y 1).val; omega
  · rfl
  · show ((((y 1).val * 8 + (y 0).val) * 704 + (y 2).val) % 5632 * 2048 + k.val) / 1441792 = (y 0).val; omega
  · show ((((y 1).val * 8 + (y 0).val) * 704 + (y 2).val) % 5632 * 2048 + k.val) / 2048 % 704 = (y 2).val; omega
  · show ((((y 1).val * 8 + (y 0).val) * 704 + (y 2).val) % 5632 * 2048 + k.val) % 2048 = k.val; omega

open Cert.Reference2Ideal.Read in
theorem sig_at (X : S8192x2048.Idx → EReal) (A : S8x2048x704.Idx → EReal) (i : S8192x5632.Idx) :
    val_main_v12_2 (F := Ideal) X A i = Ideal.logistic (val_main_v8 (F := Ideal) X A i) := by
  rw [val_main_v12_2_apply, val_main_call0_v4_apply, val_main_call0_cst_0_apply, val_main_call0_v3_apply, val_main_call0_v2_apply,
    val_main_call0_cst_apply, val_main_call0_v1_apply, val_main_call0_v0_apply]
  show Ideal.div (Ideal.ofBits .f32 0x3F800000#32) (Ideal.ofBits .f32 0x3F800000#32 + Ideal.exp (-_)) = _
  rw [one]
  rfl

open Cert.Reference2Ideal.Read in
theorem sig'_at (X : S8192x2048.Idx → EReal) (A : S8x2048x704.Idx → EReal) (i : S8192x5632.Idx) :
    val_main_call2_v5 (F := Ideal) X A i = Ideal.logistic (val_main_v8 (F := Ideal) X A i) := by
  rw [val_main_call2_v5_apply, val_main_call2_v4_apply, val_main_call2_cst_0_apply, val_main_call2_v3_apply, val_main_call2_v2_apply,
    val_main_call2_cst_apply, val_main_call2_v1_apply, val_main_call2_v0_apply]
  show Ideal.div (Ideal.ofBits .f32 0x3F800000#32) (Ideal.ofBits .f32 0x3F800000#32 + Ideal.exp (-_)) = _
  rw [one]
  rfl

open Cert.Reference2Ideal.Read in
/-- The reference's hidden value. -/
theorem hid_at (X : S8192x2048.Idx → EReal) (A B : S8x2048x704.Idx → EReal) (y : S8x8192x704.Idx) :
    val_main_v27 (F := Ideal) X A B y = hid X A B y := by
  rw [val_main_v27_apply, val_main_v26_apply, val_main_v25_apply, val_main_v24_apply, val_main_v23_apply, sig'_at]
  show val_main_v8 (F := Ideal) X A (flat y) * Ideal.logistic (val_main_v8 (F := Ideal) X A (flat y)) * val_main_v11 (F := Ideal) X B (flat y) = _
  rw [gate_at, up_at]
  rfl

open Cert.Reference2Ideal.Read in
/-- The reference's gradient of the projection `b`. -/
theorem gradB_at (X : S8192x2048.Idx → EReal) (A : S8x2048x704.Idx → EReal) (D : S8x704x2048.Idx → EReal) (G : S8192x2048.Idx → EReal)
    (y : S8x8192x704.Idx) : val_main_v33 (F := Ideal) X A D G y = gradB X A D G y := by
  rw [val_main_v33_apply, val_main_v32_apply, val_main_v31_apply, val_main_v20_apply, val_main_v12_0_apply, sig_at]
  show val_main_v8 (F := Ideal) X A (flat y) * Ideal.logistic (val_main_v8 (F := Ideal) X A (flat y)) * val_main_v19 (F := Ideal) D G (flat y) = _
  rw [gate_at, back_at, mul_comm]
  rfl

/-- The arrays a projection and the gradient are taken from are finite. -/
structure Finite (X : S8192x2048.Idx → EReal) (B : S8x2048x704.Idx → EReal) (D : S8x704x2048.Idx → EReal) (G : S8192x2048.Idx → EReal) : Prop where
  x : ∀ i, IsReal (X i)
  b : ∀ i, IsReal (B i)
  d : ∀ i, IsReal (D i)
  g : ∀ i, IsReal (G i)

open Cert.Reference2Ideal.Read in
/-- The reference's gradient of the gate's projection. -/
theorem gradA_at (X : S8192x2048.Idx → EReal) (A B : S8x2048x704.Idx → EReal) (D : S8x704x2048.Idx → EReal) (G : S8192x2048.Idx → EReal)
    (h : Finite X B D G) (y : S8x8192x704.Idx) : val_main_v30 (F := Ideal) X A B D G y = gradA X A B D G y := by
  rw [val_main_v30_apply, val_main_v29_apply, val_main_v28_apply, val_main_v22_apply, val_main_call1_v1_apply, val_main_call1_v2_apply,
    val_main_call1_v0_apply, val_main_v21_apply, val_main_v12_1_apply, val_main_call0_v7_apply, val_main_call0_v6_apply,
    val_main_call0_cst_1_apply, sig_at]
  show val_main_v19 (F := Ideal) D G (flat y) * val_main_v11 (F := Ideal) X B (flat y) * Ideal.logistic (val_main_v8 (F := Ideal) X A (flat y))
      + val_main_v8 (F := Ideal) X A (flat y) * (val_main_v19 (F := Ideal) D G (flat y) * val_main_v11 (F := Ideal) X B (flat y))
        * (Ideal.logistic (val_main_v8 (F := Ideal) X A (flat y))
          * (Ideal.ofBits .f32 0x3F800000#32 - Ideal.logistic (val_main_v8 (F := Ideal) X A (flat y)))) = _
  rw [gate_at, up_at, back_at, one]
  obtain ⟨b, hb⟩ : IsReal (pre X B y) := IsReal.sum _ fun k _ => (h.x _).mul (h.b _)
  obtain ⟨d, hd⟩ : IsReal (back G D y * halfR) := (IsReal.sum _ fun k _ => (h.g _).mul (h.d _)).mul ⟨_, rfl⟩
  unfold gradA
  rw [hb, hd]
  exact (slope_eq _ b d).symm

/-! ## The precondition -/

/-- The precondition's side conditions. -/
theorem preFacts : Cert.Pre_gate_finite.Facts where
  bitsLt_bf16_f32 := by decide
  bcast_S_S8192x2048 := by decide
  reducesTo_S8192x2048_S_d0_1 := by decide
  h_S_ := by decide
  bcast_S_S8x2048x704 := by decide
  reducesTo_S8x2048x704_S_d0_1_2 := by decide
  bcast_S_S8x704x2048 := by decide
  reducesTo_S8x704x2048_S_d0_1_2 := by decide

/-- Under the precondition the arrays are finite. -/
theorem finite_of_pre [Cert.Pre_gate_finite.Facts] (X : FVec Ideal S8192x2048 .bf16) (A B : FVec Ideal S8x2048x704 .bf16)
    (D : FVec Ideal S8x704x2048 .bf16) (G : FVec Ideal S8192x2048 .bf16)
    (h : Cert.Pre_gate_finite.fn (F := Ideal) X A B D G = fun _ => 1#1) : Finite X B D G := by
  unfold Cert.Pre_gate_finite.fn at h
  dsimp only at h
  unfold Cert.Pre_gate_finite.fn_part1 at h
  dsimp only at h
  obtain ⟨h, h4⟩ := and_one h
  obtain ⟨h, h3⟩ := and_one h
  obtain ⟨h1, h2⟩ := and_one h
  refine ⟨fun j => ?_, fun j => ?_, fun j => ?_, fun j => ?_⟩
  · exact isReal_of_cmpf (Host.reduce_andi_all _ _ _ _ _ (congrFun h1 (fun a => a.elim0)) j)
  · exact isReal_of_cmpf (Host.reduce_andi_all _ _ _ _ _ (congrFun h2 (fun a => a.elim0)) j)
  · exact isReal_of_cmpf (Host.reduce_andi_all _ _ _ _ _ (congrFun h3 (fun a => a.elim0)) j)
  · exact isReal_of_cmpf (Host.reduce_andi_all _ _ _ _ _ (congrFun h4 (fun a => a.elim0)) j)

end Cert.Gate

end
-- ==== Proof.GateKernel.lean ====
module

public import proofs.«01_k».proof.Proof.Gate
public import proofs.«01_k».proof.Proof.Gen.Kernel2Ideal.Frame
public import Idealize.ShloMosaic.Lib.Pipeline.ValueKit

/-!
# What the gated layer's two calls leave

Each call fills a block of rows and a block of columns at a point. The first keeps the gate's derivative, the gate and the
hidden value; the second multiplies the halved gradient by the two it finds kept, in four pieces of rows.
-/

@[expose] public section

set_option maxRecDepth 16384

noncomputable section

namespace Cert.Gate

open Cert.Kernel2Ideal Cert.Kernel2Ideal.Gen Idealize.ShloMosaic Idealize.ShloMosaic.TcCoe Idealize.ShloMosaic.Tactic

variable (V : (c : Dev nD) → (b : Ref sig .tc) → Buf (Elt Ideal) ((c : Thread nD τ).loc b)) (c : Dev nD)

/-- The arrays a call finds. -/
abbrev inX : S8192x2048.Idx → EReal := V c main_arg0
abbrev inA : S8x2048x704.Idx → EReal := V c main_arg1
abbrev inB : S8x2048x704.Idx → EReal := V c main_arg2
abbrev inD : S8x704x2048.Idx → EReal := V c main_arg3
abbrev inG : S8192x2048.Idx → EReal := V c main_arg4
abbrev inS : S8x8192x704.Idx → EReal := V c main_v0_0
abbrev inT : S8x8192x704.Idx → EReal := V c main_v0_1

/-! ## The first call -/

theorem index00 (t : Fin cfg0.N) : win0_0.index t 0 = t.val % 8 ∧ win0_0.index t 1 = 0 :=
  (by decide +kernel : ∀ t : Fin grid0.N, win0_0.index t 0 = t.val % 8 ∧ win0_0.index t 1 = 0) t

theorem index01 (t : Fin cfg0.N) : win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0) t

theorem index02 (t : Fin cfg0.N) : win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0) t

theorem index03 (t : Fin cfg0.N) : win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0) t

theorem index04 (t : Fin cfg0.N) : win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0) t

theorem index05 (t : Fin cfg0.N) : win0_5.index t 0 = t.val / 8 ∧ win0_5.index t 1 = t.val % 8 ∧ win0_5.index t 2 = 0 :=
  (by decide +kernel : ∀ t : Fin grid0.N, win0_5.index t 0 = t.val / 8 ∧ win0_5.index t 1 = t.val % 8 ∧ win0_5.index t 2 = 0) t

theorem block00 (t : Fin cfg0.N) (r : Fin 1024) (k : Fin 2048) (s : Fin 8192) (hs : s.val = t.val % 8 * 1024 + r.val) :
    iblk0 V c 0 t (ix2 r k) = inX V c (ix2 s k) := by
  blk_simp [iblk0]
  obtain ⟨h0, h1⟩ := index00 t
  refine congrArg (V c main_arg0) (Shape.idx_ext₂ ?_ ?_)
  · blk_simp
    rw [h0, hs]
  · blk_simp
    rw [h1]; exact Nat.zero_add _

theorem block01 (t : Fin cfg0.N) (k : Fin 2048) (q : Fin 704) (j : Fin 8) (hj : j.val = t.val / 8) :
    iblk0 V c 1 t (ix3 0 k q) = inA V c (ix3 j k q) := by
  blk_simp [iblk0]
  obtain ⟨h0, h1, h2⟩ := index01 t
  refine congrArg (V c main_arg1) (Accum.ext3 ?_ ?_ ?_)
  · blk_simp
    rw [h0, hj]; exact Nat.add_zero _
  · blk_simp
    rw [h1]; exact Nat.zero_add _
  · blk_simp
    rw [h2]; exact Nat.zero_add _

theorem block02 (t : Fin cfg0.N) (k : Fin 2048) (q : Fin 704) (j : Fin 8) (hj : j.val = t.val / 8) :
    iblk0 V c 2 t (ix3 0 k q) = inB V c (ix3 j k q) := by
  blk_simp [iblk0]
  obtain ⟨h0, h1, h2⟩ := index02 t
  refine congrArg (V c main_arg2) (Accum.ext3 ?_ ?_ ?_)
  · blk_simp
    rw [h0, hj]; exact Nat.add_zero _
  · blk_simp
    rw [h1]; exact Nat.zero_add _
  · blk_simp
    rw [h2]; exact Nat.zero_add _

/-- A block of rows against a block of columns. -/
def mm (x : S1024x2048.Idx → EReal) (w : S1x2048x704.Idx → EReal) (r : Fin 1024) (q : Fin 704) : EReal :=
  ∑ k : Fin 2048, x (ix2 r k) * w (ix3 0 k q)

theorem pay1_at (x : Vec Ideal S1024x2048 .bf16) (w : Vec Ideal S1x2048x704 .bf16) (r : Fin 1024) (q : Fin 704) :
    k0_pay1 x w (ix2 r q) = mm x w r q := by
  unfold k0_pay1 mm
  pointwise

theorem pay2_at (x : Vec Ideal S1024x2048 .bf16) (w : Vec Ideal S1x2048x704 .bf16) (r : Fin 1024) (q : Fin 704) :
    k0_pay2 x w (ix2 r q) = mm x w r q := by
  unfold k0_pay2 mm
  pointwise

theorem pay3_at (x : Vec Ideal S1024x2048 .bf16) (w : Vec Ideal S1x2048x704 .bf16) (r : Fin 1024) (q : Fin 704) :
    k0_pay3 x w (ix2 r q) = Ideal.logistic (mm x w r q) := by
  rw [← pay1_at]; rfl

theorem pay4_at (x : Vec Ideal S1024x2048 .bf16) (w : Vec Ideal S1x2048x704 .bf16) (r : Fin 1024) (q : Fin 704) :
    k0_pay4 x w (ix2 r q) = silu (mm x w r q) := by
  unfold silu
  rw [← pay3_at, ← pay1_at]; rfl

theorem pay5_at (x : Vec Ideal S1024x2048 .bf16) (w u : Vec Ideal S1x2048x704 .bf16) (r : Fin 1024) (q : Fin 704) :
    k0_pay5 x w u (ix3 0 r q) = slope (mm x w r q) (mm x u r q) := by
  unfold slope
  rw [← pay3_at x w r q, ← pay1_at x w r q, ← pay2_at x u r q, ← one]
  unfold k0_pay5
  pointwise

theorem pay6_at (x : Vec Ideal S1024x2048 .bf16) (w : Vec Ideal S1x2048x704 .bf16) (r : Fin 1024) (q : Fin 704) :
    k0_pay6 x w (ix3 0 r q) = silu (mm x w r q) := by
  rw [← pay4_at]
  unfold k0_pay6
  pointwise

theorem pay7_at (x : Vec Ideal S1024x2048 .bf16) (w u : Vec Ideal S1x2048x704 .bf16) (r : Fin 1024) (q : Fin 704) :
    k0_pay7 x w u (ix3 0 r q) = silu (mm x w r q) * mm x u r q := by
  rw [← pay4_at x w r q, ← pay2_at x u r q]
  unfold k0_pay7
  pointwise

theorem mmA (t : Fin cfg0.N) (r : Fin 1024) (q : Fin 704) (y : S8x8192x704.Idx) (hj : (y 0).val = t.val / 8)
    (hs : (y 1).val = t.val % 8 * 1024 + r.val) (hq : (y 2).val = q.val) : mm (iblk0 V c 0 t) (iblk0 V c 1 t) r q = pre (inX V c) (inA V c) y := by
  refine Finset.sum_congr rfl fun k _ => congrArg₂ (· * ·) (block00 V c t r k (y 1) hs) ((block01 V c t k q (y 0) hj).trans ?_)
  exact congrArg (inA V c) (Accum.ext3 rfl rfl hq.symm)

theorem mmB (t : Fin cfg0.N) (r : Fin 1024) (q : Fin 704) (y : S8x8192x704.Idx) (hj : (y 0).val = t.val / 8)
    (hs : (y 1).val = t.val % 8 * 1024 + r.val) (hq : (y 2).val = q.val) : mm (iblk0 V c 0 t) (iblk0 V c 2 t) r q = pre (inX V c) (inB V c) y := by
  refine Finset.sum_congr rfl fun k _ => congrArg₂ (· * ·) (block00 V c t r k (y 1) hs) ((block02 V c t k q (y 0) hj).trans ?_)
  exact congrArg (inB V c) (Accum.ext3 rfl rfl hq.symm)

/-- The gate's derivative times the other projection, kept. -/
theorem slopes : (dat0 V c).arrAt 3 cfg0.N = fun y => slope (pre (inX V c) (inA V c) y) (pre (inX V c) (inB V c) y) := by
  refine (dat0 V c).arrAt_eq_of_covers 3 _ (by decide +kernel) fun t hf y => ?_
  blk_simp
  rw [after0_3]
  obtain ⟨h0, h1, h2⟩ := index03 t
  obtain ⟨r, q, rfl⟩ : ∃ (r : Fin 1024) (q : Fin 704), y = ix3 0 r q := ⟨y 1, y 2, Accum.ext3 (Nat.lt_one_iff.mp (y 0).isLt) rfl rfl⟩
  unfold out0_3
  rw [View.canon_cons_unit_lit _ _ _ (by decide), View.ld_unit_lit _ _ (by decide), View.ld_unit_lit _ _ (by decide), View.ld_unit_lit _ _ (by decide), pay5_at]
  refine congrArg₂ slope (mmA V c t r q _ ?_ ?_ ?_) (mmB V c t r q _ ?_ ?_ ?_)
  all_goals blk_simp
  · exact h0
  · rw [h1]
  · rw [h2]; exact Nat.zero_add _
  · exact h0
  · rw [h1]
  · rw [h2]; exact Nat.zero_add _

/-- The gate, kept. -/
theorem gates : (dat0 V c).arrAt 4 cfg0.N = fun y => silu (pre (inX V c) (inA V c) y) := by
  refine (dat0 V c).arrAt_eq_of_covers 4 _ (by decide +kernel) fun t hf y => ?_
  blk_simp
  rw [after0_4]
  obtain ⟨h0, h1, h2⟩ := index04 t
  obtain ⟨r, q, rfl⟩ : ∃ (r : Fin 1024) (q : Fin 704), y = ix3 0 r q := ⟨y 1, y 2, Accum.ext3 (Nat.lt_one_iff.mp (y 0).isLt) rfl rfl⟩
  unfold out0_4
  rw [View.canon_cons_unit_lit _ _ _ (by decide), View.ld_unit_lit _ _ (by decide), View.ld_unit_lit _ _ (by decide), pay6_at]
  refine congrArg silu (mmA V c t r q _ ?_ ?_ ?_)
  all_goals blk_simp
  · exact h0
  · rw [h1]
  · rw [h2]; exact Nat.zero_add _

/-- The hidden value. -/
theorem hids : (dat0 V c).arrAt 5 cfg0.N = hid (inX V c) (inA V c) (inB V c) := by
  refine (dat0 V c).arrAt_eq_of_covers 5 _ (by decide +kernel) fun t hf y => ?_
  blk_simp
  rw [after0_5]
  obtain ⟨h0, h1, h2⟩ := index05 t
  obtain ⟨r, q, rfl⟩ : ∃ (r : Fin 1024) (q : Fin 704), y = ix3 0 r q := ⟨y 1, y 2, Accum.ext3 (Nat.lt_one_iff.mp (y 0).isLt) rfl rfl⟩
  unfold out0_5
  rw [View.canon_cons_unit_lit _ _ _ (by decide), View.ld_unit_lit _ _ (by decide), View.ld_unit_lit _ _ (by decide), View.ld_unit_lit _ _ (by decide), pay7_at]
  refine congrArg₂ (fun a b => silu a * b) (mmA V c t r q _ ?_ ?_ ?_) (mmB V c t r q _ ?_ ?_ ?_)
  all_goals blk_simp
  · exact h0
  · rw [h1]
  · rw [h2]; exact Nat.zero_add _
  · exact h0
  · rw [h1]
  · rw [h2]; exact Nat.zero_add _

end Cert.Gate

end
-- ==== Proof.GateBack.lean ====
module

public import proofs.«01_k».proof.Proof.GateKernel

/-!
# The gated layer's gradients

The second call's points, and what its two outputs hold at the end.
-/

@[expose] public section

set_option maxRecDepth 16384

noncomputable section

namespace Cert.Gate

open Cert.Kernel2Ideal Cert.Kernel2Ideal.Gen Idealize.ShloMosaic Idealize.ShloMosaic.TcCoe Idealize.ShloMosaic.Tactic

variable (V : (c : Dev nD) → (b : Ref sig .tc) → Buf (Elt Ideal) ((c : Thread nD τ).loc b)) (c : Dev nD)

theorem index10 (t : Fin cfg1.N) : win1_0.index t 0 = t.val % 8 ∧ win1_0.index t 1 = 0 :=
  (by decide +kernel : ∀ t : Fin grid1.N, win1_0.index t 0 = t.val % 8 ∧ win1_0.index t 1 = 0) t

theorem index11 (t : Fin cfg1.N) : win1_1.index t 0 = t.val / 8 ∧ win1_1.index t 1 = 0 ∧ win1_1.index t 2 = 0 :=
  (by decide +kernel : ∀ t : Fin grid1.N, win1_1.index t 0 = t.val / 8 ∧ win1_1.index t 1 = 0 ∧ win1_1.index t 2 = 0) t

theorem index12 (t : Fin cfg1.N) : win1_2.index t 0 = t.val / 8 ∧ win1_2.index t 1 = t.val % 8 ∧ win1_2.index t 2 = 0 :=
  (by decide +kernel : ∀ t : Fin grid1.N, win1_2.index t 0 = t.val / 8 ∧ win1_2.index t 1 = t.val % 8 ∧ win1_2.index t 2 = 0) t

theorem index13 (t : Fin cfg1.N) : win1_3.index t 0 = t.val / 8 ∧ win1_3.index t 1 = t.val % 8 ∧ win1_3.index t 2 = 0 :=
  (by decide +kernel : ∀ t : Fin grid1.N, win1_3.index t 0 = t.val / 8 ∧ win1_3.index t 1 = t.val % 8 ∧ win1_3.index t 2 = 0) t

theorem index14 (t : Fin cfg1.N) : win1_4.index t 0 = t.val / 8 ∧ win1_4.index t 1 = t.val % 8 ∧ win1_4.index t 2 = 0 :=
  (by decide +kernel : ∀ t : Fin grid1.N, win1_4.index t 0 = t.val / 8 ∧ win1_4.index t 1 = t.val % 8 ∧ win1_4.index t 2 = 0) t

theorem index15 (t : Fin cfg1.N) : win1_5.index t 0 = t.val / 8 ∧ win1_5.index t 1 = t.val % 8 ∧ win1_5.index t 2 = 0 :=
  (by decide +kernel : ∀ t : Fin grid1.N, win1_5.index t 0 = t.val / 8 ∧ win1_5.index t 1 = t.val % 8 ∧ win1_5.index t 2 = 0) t

theorem block10 (t : Fin cfg1.N) (r : Fin 1024) (k : Fin 2048) (s : Fin 8192) (hs : s.val = t.val % 8 * 1024 + r.val) :
    iblk1 V c 0 t (ix2 r k) = inG V c (ix2 s k) := by
  blk_simp [iblk1]
  obtain ⟨h0, h1⟩ := index10 t
  refine congrArg (V c main_arg4) (Shape.idx_ext₂ ?_ ?_)
  · blk_simp
    rw [h0, hs]
  · blk_simp
    rw [h1]; exact Nat.zero_add _

theorem block11 (t : Fin cfg1.N) (q : Fin 704) (k : Fin 2048) (j : Fin 8) (hj : j.val = t.val / 8) :
    iblk1 V c 1 t (ix3 0 q k) = inD V c (ix3 j q k) := by
  blk_simp [iblk1]
  obtain ⟨h0, h1, h2⟩ := index11 t
  refine congrArg (V c main_arg3) (Accum.ext3 ?_ ?_ ?_)
  · blk_simp
    rw [h0, hj]; exact Nat.add_zero _
  · blk_simp
    rw [h1]; exact Nat.zero_add _
  · blk_simp
    rw [h2]; exact Nat.zero_add _

theorem block12 (t : Fin cfg1.N) (r : Fin 1024) (q : Fin 704) (y : S8x8192x704.Idx) (hj : (y 0).val = t.val / 8)
    (hs : (y 1).val = t.val % 8 * 1024 + r.val) (hq : (y 2).val = q.val) : iblk1 V c 2 t (ix3 0 r q) = inS V c y := by
  blk_simp [iblk1]
  obtain ⟨h0, h1, h2⟩ := index12 t
  refine congrArg (V c main_v0_0) (Accum.ext3 ?_ ?_ ?_)
  · blk_simp
    rw [h0, hj]; exact Nat.add_zero _
  · blk_simp
    rw [h1, hs]
  · blk_simp
    rw [h2, hq]; exact Nat.zero_add _

theorem block13 (t : Fin cfg1.N) (r : Fin 1024) (q : Fin 704) (y : S8x8192x704.Idx) (hj : (y 0).val = t.val / 8)
    (hs : (y 1).val = t.val % 8 * 1024 + r.val) (hq : (y 2).val = q.val) : iblk1 V c 3 t (ix3 0 r q) = inT V c y := by
  blk_simp [iblk1]
  obtain ⟨h0, h1, h2⟩ := index13 t
  refine congrArg (V c main_v0_1) (Accum.ext3 ?_ ?_ ?_)
  · blk_simp
    rw [h0, hj]; exact Nat.add_zero _
  · blk_simp
    rw [h1, hs]
  · blk_simp
    rw [h2, hq]; exact Nat.zero_add _

/-- A block of rows of the gradient against a block of rows of the weights; a piece of its rows. -/
def bb (x : S1024x2048.Idx → EReal) (w : S1x704x2048.Idx → EReal) (r : Fin 1024) (q : Fin 704) : EReal :=
  ∑ k : Fin 2048, x (ix2 r k) * w (ix3 0 q k)

def piece (x : S256x2048.Idx → EReal) (w : S1x704x2048.Idx → EReal) (p : Fin 256) (q : Fin 704) : EReal :=
  ∑ k : Fin 2048, x (ix2 p k) * w (ix3 0 q k)

section Pieces

variable (x : Vec Ideal S256x2048 .bf16) (w : Vec Ideal S1x704x2048 .bf16) (f : Vec Ideal S1x256x704 .bf16) (p : Fin 256) (q : Fin 704)

theorem back1_at : k1_pay1 (k1_pay4 w) x (ix2 p q) = piece x w p q * halfR := by
  rw [← half]
  unfold k1_pay1 k1_pay4 piece
  pointwise

theorem back5_at : k1_pay5 w x (ix2 p q) = piece x w p q * halfR := back1_at x w p q

theorem back8_at : k1_pay8 w x (ix2 p q) = piece x w p q * halfR := back1_at x w p q

theorem back12_at : k1_pay12 (k1_pay4 w) x (ix2 p q) = piece x w p q * halfR := back1_at x w p q

theorem rows4 : k1_pay2 (k1_pay4 w) x f (ix3 0 p q) = piece x w p q * halfR * f (ix3 0 p q) := by
  rw [← back1_at]
  unfold k1_pay2
  pointwise

theorem rows4' : k1_pay3 (k1_pay4 w) x f (ix3 0 p q) = piece x w p q * halfR * f (ix3 0 p q) := by
  rw [← back1_at]
  unfold k1_pay3
  pointwise

theorem rows3 : k1_pay13 (k1_pay4 w) x f (ix3 0 p q) = piece x w p q * halfR * f (ix3 0 p q) := by
  rw [← back12_at]
  unfold k1_pay13
  pointwise

theorem rows3' : k1_pay14 (k1_pay4 w) x f (ix3 0 p q) = piece x w p q * halfR * f (ix3 0 p q) := by
  rw [← back12_at]
  unfold k1_pay14
  pointwise

theorem rows2 : k1_pay10 (k1_pay9 w x f) (ix3 0 p q) = piece x w p q * halfR * f (ix3 0 p q) := by
  rw [← back8_at]
  unfold k1_pay10 k1_pay9
  pointwise

theorem rows2' : k1_pay11 (k1_pay8 w x) f (ix3 0 p q) = piece x w p q * halfR * f (ix3 0 p q) := by
  rw [← back8_at]
  unfold k1_pay11
  pointwise

theorem rows1 : k1_pay6 w x f (ix3 0 p q) = piece x w p q * halfR * f (ix3 0 p q) := by
  rw [← back5_at]
  unfold k1_pay6
  pointwise

theorem rows1' : k1_pay7 w x f (ix3 0 p q) = piece x w p q * halfR * f (ix3 0 p q) := by
  rw [← back5_at]
  unfold k1_pay7
  pointwise

end Pieces

/-- A piece of rows, stored where it was loaded from. -/
theorem rows_at (o : ℕ) (g : S1x256x704.Idx → EReal) (x : Vec Ideal S1024x2048 .bf16) (w : Vec Ideal S1x704x2048 .bf16)
    (f : Vec Ideal S1x1024x704 .bf16) {i1 i2}
    (hg : ∀ (p : Fin 256) (q : Fin 704), g (ix3 0 p q)
      = piece (View.ld x (Rect.unit ![o, 0] ![256, 2048] i1)) w p q * halfR * View.ld f (Rect.unit ![0, o, 0] ![1, 256, 704] i2) (ix3 0 p q))
    (r : Fin 1024) (q : Fin 704) :
    View.TileAt (Val := Elt Ideal) (S := S1x1024x704) (e := .bf16) (ix3 0 r q) ![0, o, 0] ![1, 256, 704] g (bb x w r q * halfR * f (ix3 0 r q)) := by
  intro z hz
  obtain ⟨p, q', rfl⟩ : ∃ (p : Fin 256) (q' : Fin 704), z = ix3 0 p q' := ⟨z 1, z 2, Accum.ext3 (Nat.lt_one_iff.mp (z 0).isLt) rfl rfl⟩
  have e1 : r.val = o + p.val := hz 1
  have e2 : q.val = 0 + q'.val := hz 2
  obtain rfl : q = q' := Fin.ext (e2.trans (Nat.zero_add _))
  refine (hg p q).trans (congrArg₂ (fun a b => a * halfR * b) ?_ ?_)
  · refine Finset.sum_congr rfl fun k _ => congrArg (· * _) ?_
    exact View.ld_unit_apply_of _ _ _ _ _ (ix2 r k) (fun a => match a with | 0 => e1 | 1 => (Nat.zero_add _).symm)
  · exact View.ld_unit_apply_of _ _ _ _ _ (ix3 0 r q) (fun a => match a with | 0 => rfl | 1 => e1 | 2 => (Nat.zero_add _).symm)

theorem out4_at (x0 : Vec Ideal S1024x2048 .bf16) (x1 : Vec Ideal S1x704x2048 .bf16) (x2 x3 : Vec Ideal S1x1024x704 .bf16) (r : Fin 1024)
    (q : Fin 704) : out1_4 x0 x1 x2 x3 (ix3 0 r q) = bb x0 x1 r q * halfR * x2 (ix3 0 r q) := by
  unfold out1_4 k1_pay15
  rw [show View.ld x1 r1_0 = x1 from View.ld_unit_lit _ _ (by decide)]
  refine View.canon_eq_of_allAt _ _ _ (cover1_4 _ _ _ _ _) ?_
  refine View.allAt_cons_unit _ _ _ _ _ (rows_at 768 _ x0 x1 x2 (fun p q => rows4 _ _ _ p q) r q) ?_
  refine View.allAt_cons_unit _ _ _ _ _ (rows_at 512 _ x0 x1 x2 (fun p q => rows3 _ _ _ p q) r q) ?_
  refine View.allAt_cons_unit _ _ _ _ _ (rows_at 256 _ x0 x1 x2 (fun p q => rows2 _ _ _ p q) r q) ?_
  exact View.allAt_cons_unit _ _ _ _ _ (rows_at 0 _ x0 x1 x2 (fun p q => rows1 _ _ _ p q) r q) (View.allAt_nil _ _)

theorem out5_at (x0 : Vec Ideal S1024x2048 .bf16) (x1 : Vec Ideal S1x704x2048 .bf16) (x2 x3 : Vec Ideal S1x1024x704 .bf16) (r : Fin 1024)
    (q : Fin 704) : out1_5 x0 x1 x2 x3 (ix3 0 r q) = bb x0 x1 r q * halfR * x3 (ix3 0 r q) := by
  unfold out1_5 k1_pay15
  rw [show View.ld x1 r1_0 = x1 from View.ld_unit_lit _ _ (by decide)]
  refine View.canon_eq_of_allAt _ _ _ (cover1_5 _ _ _ _ _) ?_
  refine View.allAt_cons_unit _ _ _ _ _ (rows_at 768 _ x0 x1 x3 (fun p q => rows4' _ _ _ p q) r q) ?_
  refine View.allAt_cons_unit _ _ _ _ _ (rows_at 512 _ x0 x1 x3 (fun p q => rows3' _ _ _ p q) r q) ?_
  refine View.allAt_cons_unit _ _ _ _ _ (rows_at 256 _ x0 x1 x3 (fun p q => rows2' _ _ _ p q) r q) ?_
  exact View.allAt_cons_unit _ _ _ _ _ (rows_at 0 _ x0 x1 x3 (fun p q => rows1' _ _ _ p q) r q) (View.allAt_nil _ _)

theorem bbD (t : Fin cfg1.N) (r : Fin 1024) (q : Fin 704) (y : S8x8192x704.Idx) (hj : (y 0).val = t.val / 8)
    (hs : (y 1).val = t.val % 8 * 1024 + r.val) (hq : (y 2).val = q.val) : bb (iblk1 V c 0 t) (iblk1 V c 1 t) r q = back (inG V c) (inD V c) y := by
  refine Finset.sum_congr rfl fun k _ => congrArg₂ (· * ·) (block10 V c t r k (y 1) hs) ((block11 V c t q k (y 0) hj).trans ?_)
  exact congrArg (inD V c) (Accum.ext3 rfl hq.symm rfl)

/-- The second call's first output. -/
theorem backs4 : (dat1 V c).arrAt 4 cfg1.N = fun y => back (inG V c) (inD V c) y * halfR * inS V c y := by
  refine (dat1 V c).arrAt_eq_of_covers 4 _ (by decide +kernel) fun t hf y => ?_
  blk_simp
  rw [after1_4]
  obtain ⟨h0, h1, h2⟩ := index14 t
  obtain ⟨r, q, rfl⟩ : ∃ (r : Fin 1024) (q : Fin 704), y = ix3 0 r q := ⟨y 1, y 2, Accum.ext3 (Nat.lt_one_iff.mp (y 0).isLt) rfl rfl⟩
  rw [out4_at]
  refine congrArg₂ (fun a b => a * halfR * b) (bbD V c t r q _ ?_ ?_ ?_) (block12 V c t r q _ ?_ ?_ ?_)
  all_goals blk_simp
  · exact h0
  · rw [h1]
  · rw [h2]; exact Nat.zero_add _
  · exact h0
  · rw [h1]
  · rw [h2]; exact Nat.zero_add _

/-- The second call's second output. -/
theorem backs5 : (dat1 V c).arrAt 5 cfg1.N = fun y => back (inG V c) (inD V c) y * halfR * inT V c y := by
  refine (dat1 V c).arrAt_eq_of_covers 5 _ (by decide +kernel) fun t hf y => ?_
  blk_simp
  rw [after1_5]
  obtain ⟨h0, h1, h2⟩ := index15 t
  obtain ⟨r, q, rfl⟩ : ∃ (r : Fin 1024) (q : Fin 704), y = ix3 0 r q := ⟨y 1, y 2, Accum.ext3 (Nat.lt_one_iff.mp (y 0).isLt) rfl rfl⟩
  rw [out5_at]
  refine congrArg₂ (fun a b => a * halfR * b) (bbD V c t r q _ ?_ ?_ ?_) (block13 V c t r q _ ?_ ?_ ?_)
  all_goals blk_simp
  · exact h0
  · rw [h1]
  · rw [h2]; exact Nat.zero_add _
  · exact h0
  · rw [h1]
  · rw [h2]; exact Nat.zero_add _

end Cert.Gate

end
-- ==== Proof.GateRun.lean ====
module

public import proofs.«01_k».proof.Proof.GateBack

/-!
# The gated layer's run

The first call's outputs are what the second finds; the results are read off the buffers after the second.
-/

@[expose] public section

set_option maxRecDepth 16384

noncomputable section

namespace Cert.Gate

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

local notation "𝕄" => MT nD τ sig Unit (Elt Ideal) ℕ (UR sig nD τ) ℕ

variable (m : (ℓ : Loc nD τ sig) → Buf (Elt Ideal) ℓ) (ρ : Dev nD → PrngReg) (c : Dev nD)

/-- The arrays as launched. -/
abbrev argX : S8192x2048.Idx → EReal := m ((c : Thread nD τ).loc main_arg0)
abbrev argA : S8x2048x704.Idx → EReal := m ((c : Thread nD τ).loc main_arg1)
abbrev argB : S8x2048x704.Idx → EReal := m ((c : Thread nD τ).loc main_arg2)
abbrev argD : S8x704x2048.Idx → EReal := m ((c : Thread nD τ).loc main_arg3)
abbrev argG : S8192x2048.Idx → EReal := m ((c : Thread nD τ).loc main_arg4)

theorem end_hid : W2 m ρ c (Proc.devRef .tc main_v0_2) = hid (argX m c) (argA m c) (argB m c) :=
  (W2_of m ρ c main_v0_2 (by decide)).trans ((W1_arr m ρ c 5).trans (hids (V0 m ρ) c))

theorem kept_slope : inS (V1 m ρ) c = fun y => slope (pre (argX m c) (argA m c) y) (pre (argX m c) (argB m c) y) :=
  (W1_arr m ρ c 3).trans (slopes (V0 m ρ) c)

theorem kept_gate : inT (V1 m ρ) c = fun y => silu (pre (argX m c) (argA m c) y) :=
  (W1_arr m ρ c 4).trans (gates (V0 m ρ) c)

theorem found_d : inD (V1 m ρ) c = argD m c := W1_args m ρ c main_arg3 (by decide)

theorem found_g : inG (V1 m ρ) c = argG m c := W1_args m ρ c main_arg4 (by decide)

theorem end_a : W2 m ρ c (Proc.devRef .tc main_v1_0) = gradA (argX m c) (argA m c) (argB m c) (argD m c) (argG m c) := by
  refine (W2_arr m ρ c 4).trans ((backs4 (V1 m ρ) c).trans ?_)
  rw [kept_slope, found_d, found_g]
  rfl

theorem end_b : W2 m ρ c (Proc.devRef .tc main_v1_1) = gradB (argX m c) (argA m c) (argD m c) (argG m c) := by
  refine (W2_arr m ρ c 5).trans ((backs5 (V1 m ρ) c).trans ?_)
  rw [kept_gate, found_d, found_g]
  rfl

set_option backward.isDefEq.respectTransparency.types false in
/-- Every run ends with the three results, and the arguments as launched. -/
theorem run : θ_run defs (onTc (τ := τ) (main (F := Ideal))) ⟨m, fun _ => 0, ρ⟩ (fun r => ∀ c : Dev nD,
      r.2.mem ((c.tc : Thread nD τ).loc main_v0_2) = hid (argX m c) (argA m c) (argB m c)
      ∧ r.2.mem ((c.tc : Thread nD τ).loc main_v1_0) = gradA (argX m c) (argA m c) (argB m c) (argD m c) (argG m c)
      ∧ r.2.mem ((c.tc : Thread nD τ).loc main_v1_1) = gradB (argX m c) (argA m c) (argD m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v0_2 (by decide))).trans (end_hid m ρ c),
       (h c _ (mem_uc main_v1_0 (by decide))).trans (end_a m ρ c),
       (h c _ (mem_uc main_v1_1 (by decide))).trans (end_b m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

end Cert.Gate

end
-- ==== Proof.DownGrad.lean ====
module

public import proofs.«01_k».proof.Proof.Accum
public import proofs.«01_k».proof.Proof.Gen.Kernel3Ideal.Value
public import proofs.«01_k».proof.Proof.Gen.Reference3Ideal.Read
public import Idealize.ShloMosaic.Lib.Pipeline.ValueKit

/-!
# The gradient of the network's last weights

The kernel adds four products of two thousand and forty-eight rows each and halves the sum; the reference is one product
over all the rows, of the halved output gradient.
-/

@[expose] public section

set_option maxRecDepth 16384

noncomputable section

namespace Cert.DownGrad

open Cert.Kernel3Ideal Cert.Kernel3Ideal.Gen Idealize.ShloMosaic Idealize.ShloMosaic.TcCoe Idealize.ShloMosaic.Tactic

variable (m : (ℓ : Loc nD τ sig) → Buf (Elt Ideal) ℓ) (c : Dev nD)

/-- The activation and the output gradient. -/
abbrev hid : S8x8192x704.Idx → EReal := m ((c : Thread nD τ).loc main_arg0)
abbrev grad : S8192x2048.Idx → EReal := m ((c : Thread nD τ).loc main_arg1)

/-- One row's term of the product, by the row's number. -/
def term (X : S8x8192x704.Idx → EReal) (G : S8192x2048.Idx → EReal) (j : Fin 8) (q : Fin 704) (d : Fin 2048) (s : ℕ) : EReal :=
  if h : s < 8192 then X (ix3 j ⟨s, h⟩ q) * G (ix2 ⟨s, h⟩ d) else 0

/-- The gradient of a block of weights. -/
def value (X : S8x8192x704.Idx → EReal) (G : S8192x2048.Idx → EReal) (y : S8x704x2048.Idx) : EReal :=
  (∑ s : Fin 8192, X (ix3 (y 0) s (y 1)) * G (ix2 s (y 2))) * ((1 / 2 : ℝ) : EReal)

theorem index0 (t : Fin cfg0.N) : win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0) t

theorem index1 (t : Fin cfg0.N) : win0_1.index t 0 = t.val % 4 ∧ win0_1.index t 1 = 0 :=
  (by decide +kernel : ∀ t : Fin grid0.N, win0_1.index t 0 = t.val % 4 ∧ win0_1.index t 1 = 0) t

theorem index2 (t : Fin cfg0.N) : win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0) t

theorem block0 (t : Fin cfg0.N) (r : Fin 2048) (q : Fin 704) (j : Fin 8) (s : Fin 8192)
    (hj : j.val = t.val / 4) (hs : s.val = t.val % 4 * 2048 + r.val) :
    iblk m c 0 t (ix3 0 r q) = m ((c : Thread nD τ).loc main_arg0) (ix3 j s q) := by
  blk_simp [iblk]
  rw [V_main_arg0]
  obtain ⟨h0, h1, h2⟩ := index0 t
  refine congrArg (m ((c : Thread nD τ).loc main_arg0)) (Accum.ext3 ?_ ?_ ?_)
  · blk_simp
    rw [h0, hj]; exact Nat.add_zero _
  · blk_simp
    rw [h1, hs]
  · blk_simp
    rw [h2]; exact Nat.zero_add _

theorem block1 (t : Fin cfg0.N) (r : Fin 2048) (d : Fin 2048) (s : Fin 8192) (hs : s.val = t.val % 4 * 2048 + r.val) :
    iblk m c 1 t (ix2 r d) = m ((c : Thread nD τ).loc main_arg1) (ix2 s d) := by
  blk_simp [iblk]
  rw [V_main_arg1]
  obtain ⟨h0, h1⟩ := index1 t
  refine congrArg (m ((c : Thread nD τ).loc main_arg1)) (Shape.idx_ext₂ ?_ ?_)
  · blk_simp
    rw [h0, hs]
  · blk_simp
    rw [h1]; exact Nat.zero_add _

theorem zero1 (y) : (k0_pay1 (F := Ideal)) y = 0 := Ideal.ofBits_zero_f32

/-- A block's product. -/
def prod (x : S1x2048x704.Idx → EReal) (g : S2048x2048.Idx → EReal) (q : Fin 704) (d : Fin 2048) : EReal :=
  ∑ r : Fin 2048, x (ix3 0 r q) * g (ix2 r d)

/-- One block's product added to what was there. -/
theorem pay2_at (v3 : Vec Ideal S704x2048 .f32) (v4 : Vec Ideal S1x2048x704 .bf16) (v6 : Vec Ideal S2048x2048 .bf16)
    (q : Fin 704) (d : Fin 2048) :
    k0_pay2 v3 v4 v6 (ix2 q d) = v3 (ix2 q d) + prod v4 v6 q d := by
  unfold k0_pay2 prod
  pointwise

theorem scr_A (t : Fin cfg0.N) (h0 : t.val % 4 = 0) (y : S704x2048.Idx) :
    (outsAt0 m c t.val t.isLt).2 y = k0_pay2 k0_pay1 (iblk m c 0 t) (iblk m c 1 t) y := by
  rw [outsAt0_A m c t h0 (by omega)]
  frame_out

theorem scr_B (t : Fin cfg0.N) (h0 : ¬ t.val % 4 = 0) (y : S704x2048.Idx) :
    (outsAt0 m c t.val t.isLt).2 y
      = k0_pay2 (outsAt0 m c (t.val - 1) (Nat.lt_of_le_of_lt (Nat.sub_le _ _) t.isLt)).2 (iblk m c 0 t) (iblk m c 1 t) y := by
  by_cases h1 : t.val % 4 = 3
  · rw [outsAt0_C m c t h0 h1]
    frame_out
    exact congrArg (fun v => k0_pay2 v (iblk m c 0 t) (iblk m c 1 t) y) (Memref.IsWhole.read_unread (m := scM0_0) (Memref.isWhole_whole _) _)
  · rw [outsAt0_B m c t h0 h1]
    frame_out
    exact congrArg (fun v => k0_pay2 v (iblk m c 0 t) (iblk m c 1 t) y) (Memref.IsWhole.read_unread (m := scM0_0) (Memref.isWhole_whole _) _)

theorem out_C (t : Fin cfg0.N) (h1 : t.val % 4 = 3) (y : S1x704x2048.Idx) :
    (outsAt0 m c t.val t.isLt).1 y = k0_pay3 (outsAt0 m c t.val t.isLt).2 y := by
  rw [outsAt0_C m c t (by omega) h1]
  frame_out

/-- The half. -/
theorem half : Ideal.ofBits .f32 0x3F000000#32 = ((1 / 2 : ℝ) : EReal) := by
  simp [Ideal.ofBits, Ideal.ieee]
  rw [← EReal.coe_mul]
  norm_num

theorem pay3_at (v : Vec Ideal S704x2048 .f32) (q : Fin 704) (d : Fin 2048) :
    k0_pay3 v (ix3 0 q d) = v (ix2 q d) * ((1 / 2 : ℝ) : EReal) := by
  unfold k0_pay3
  pointwise
  exact congrArg _ half

/-- What a point adds. -/
def part (n : ℕ) (y : S704x2048.Idx) : EReal :=
  if h : n / 4 < 8 then ∑ r : Fin 2048, term (hid m c) (grad m c) ⟨n / 4, h⟩ (y 0) (y 1) (n % 4 * 2048 + r.val) else 0

theorem prod_at (t : Fin cfg0.N) (y : S704x2048.Idx) :
    prod (iblk m c 0 t) (iblk m c 1 t) (y 0) (y 1) = part m c t.val y := by
  have hN := lt_of_lt_of_eq t.isLt (show cfg0.N = 32 from N_0)
  have hj : t.val / 4 < 8 := by omega
  unfold part prod
  rw [dif_pos hj]
  refine Finset.sum_congr rfl fun r _ => ?_
  have hs : t.val % 4 * 2048 + r.val < 8192 := by have := r.isLt; omega
  unfold term
  rw [dif_pos hs, block0 m c t r (y 0) ⟨t.val / 4, hj⟩ ⟨_, hs⟩ rfl rfl, block1 m c t r (y 1) ⟨_, hs⟩ rfl]

theorem scr_at (t : ℕ) (ht : t < cfg0.N) (y : S704x2048.Idx) :
    (outsAt0 m c t ht).2 y = ∑ s ∈ Finset.range (t % 4 + 1), part m c (4 * (t / 4) + s) y := by
  refine Accum.run_sum (J := 4) (by decide) (fun n h => (outsAt0 m c n h).2) (part m c) ?_ ?_ t ht y
  · intro n h y hn
    refine (scr_A m c ⟨n, h⟩ hn y).trans ?_
    obtain ⟨q, d, rfl⟩ : ∃ (q : Fin 704) (d : Fin 2048), y = ix2 q d := ⟨y 0, y 1, funext fun a => match a with | 0 => rfl | 1 => rfl⟩
    rw [pay2_at, zero1, zero_add]
    exact prod_at m c ⟨n, h⟩ (ix2 q d)
  · intro n h y hn
    refine (scr_B m c ⟨n + 1, h⟩ hn y).trans ?_
    obtain ⟨q, d, rfl⟩ : ∃ (q : Fin 704) (d : Fin 2048), y = ix2 q d := ⟨y 0, y 1, funext fun a => match a with | 0 => rfl | 1 => rfl⟩
    rw [pay2_at]
    exact congrArg _ (prod_at m c ⟨n + 1, h⟩ (ix2 q d))

/-- What a last point of four writes. -/
theorem out_at (t : Fin cfg0.N) (h1 : t.val % 4 = 3) (j : Fin 8) (hj : j.val = t.val / 4) (q : Fin 704) (d : Fin 2048) :
    (outsAt0 m c t.val t.isLt).1 (ix3 0 q d) = value (hid m c) (grad m c) (ix3 j q d) := by
  rw [out_C m c t h1, pay3_at, scr_at, h1]
  unfold value
  refine congrArg (· * _) ?_
  refine ((Finset.sum_congr rfl fun s hs => ?_).trans (Accum.sum_blocks 4 2048 (term (hid m c) (grad m c) j q d))).trans ?_
  · have hs4 : s < 4 := Finset.mem_range.mp hs
    have e : (4 * (t.val / 4) + s) / 4 = j.val := by omega
    have e' : (4 * (t.val / 4) + s) % 4 = s := by omega
    unfold part
    rw [dif_pos (by rw [e]; exact j.isLt), e']
    refine Finset.sum_congr rfl fun r _ => ?_
    congr 1
    exact Fin.ext e
  · refine Finset.sum_congr rfl fun s _ => ?_
    unfold term
    rw [dif_pos s.isLt]
    rfl

/-- The kernel's result. -/
theorem result : (dats m 0 c).arrAt 2 cfg0.N = value (hid m c) (grad m c) := by
  refine (dats m 0 c).arrAt_eq_of_covers 2 _ (by decide +kernel) fun t hf y => ?_
  have hm : t.val % 4 = 3 := (flush0_2 t).mp hf
  have hN := lt_of_lt_of_eq t.isLt (show cfg0.N = 32 from N_0)
  blk_simp
  rw [after0_2]
  obtain ⟨h0, h1, h2⟩ := index2 t
  obtain ⟨u, q, d, rfl⟩ : ∃ (u : Fin 1) (q : Fin 704) (d : Fin 2048), y = ix3 u q d := ⟨y 0, y 1, y 2, funext fun a => match a with | 0 => rfl | 1 => rfl | 2 => rfl⟩
  obtain rfl : u = 0 := Subsingleton.elim _ _
  refine (out_at m c t hm ⟨t.val / 4, by omega⟩ rfl q d).trans (congrArg _ (Accum.ext3 ?_ ?_ ?_))
  · blk_simp
    rw [h0]; rfl
  · blk_simp
    rw [h1]; exact (Nat.zero_add _).symm
  · blk_simp
    rw [h2]; exact (Nat.zero_add _).symm

/-! ## The reference -/

open Cert.Reference3Ideal.Read in
theorem ref_at (X : S8x8192x704.Idx → EReal) (G : S8192x2048.Idx → EReal) (y : S8x704x2048.Idx) :
    val_main_v13 (F := Ideal) X G y = value X G y := by
  rw [val_main_v13_apply, val_main_v12_apply, val_main_v11_apply, val_main_v10_apply]
  unfold value
  rw [← Accum.sum_mul_real (by norm_num)]
  refine Finset.sum_congr rfl fun s _ => ?_
  rw [val_main_v9_apply, val_main_v8_apply, val_main_cst_1_apply, val_main_v3_apply, val_main_v2_apply, val_main_v1_apply, val_main_v0_apply]
  show Ideal.ofBits .f32 0x3F000000#32 * G _ * X _ = _
  rw [half, mul_comm (((1 / 2 : ℝ) : EReal)), mul_right_comm, mul_comm (G _)]
  have h0 : (y 0).val < 8 := (y 0).isLt
  have h1 : (y 1).val < 704 := (y 1).isLt
  have h2 : (y 2).val < 2048 := (y 2).isLt
  have hs := s.isLt
  congr 2
  · refine congrArg X (Accum.ext3 ?_ ?_ ?_)
    · show (s.val * 5632 + _) / 704 % 8 = _; dsimp; omega
    · show (s.val * 5632 + _) / 5632 = _; dsimp; omega
    · show (s.val * 5632 + _) % 704 = _; dsimp; omega
  · refine congrArg G (Shape.idx_ext₂ ?_ ?_)
    · rfl
    · show _ % 2048 = _; dsimp; omega

end Cert.DownGrad

end
-- ==== Proof.UpGrad.lean ====
module

public import proofs.«01_k».proof.Proof.Accum
public import proofs.«01_k».proof.Proof.Gen.Kernel4Ideal.Value
public import proofs.«01_k».proof.Proof.Gen.Reference4Ideal.Read
public import Idealize.ShloMosaic.Lib.Pipeline.ValueKit

/-!
# The gradient of the network's first weights

For each block of weights the kernel adds four products of two thousand and forty-eight rows each; the reference is one
product over all the rows.
-/

@[expose] public section

set_option maxRecDepth 16384

noncomputable section

namespace Cert.UpGrad

open Cert.Kernel4Ideal Cert.Kernel4Ideal.Gen Idealize.ShloMosaic Idealize.ShloMosaic.TcCoe Idealize.ShloMosaic.Tactic

variable (m : (ℓ : Loc nD τ sig) → Buf (Elt Ideal) ℓ) (c : Dev nD)

/-- The normed stream and the gradient of the projection. -/
abbrev nrm : S8192x2048.Idx → EReal := m ((c : Thread nD τ).loc main_arg0)
abbrev grad : S8x8192x704.Idx → EReal := m ((c : Thread nD τ).loc main_arg1)

/-- One row's term of the product, by the row's number. -/
def term (X : S8192x2048.Idx → EReal) (G : S8x8192x704.Idx → EReal) (j : Fin 8) (d : Fin 2048) (q : Fin 704) (s : ℕ) : EReal :=
  if h : s < 8192 then X (ix2 ⟨s, h⟩ d) * G (ix3 j ⟨s, h⟩ q) else 0

/-- The gradient of the weights. -/
def value (X : S8192x2048.Idx → EReal) (G : S8x8192x704.Idx → EReal) (y : S8x2048x704.Idx) : EReal :=
  ∑ s : Fin 8192, X (ix2 s (y 1)) * G (ix3 (y 0) s (y 2))

theorem index0 (t : Fin cfg0.N) : win0_0.index t 0 = 0 ∧ win0_0.index t 1 = t.val % 4 :=
  (by decide +kernel : ∀ t : Fin grid0.N, win0_0.index t 0 = 0 ∧ win0_0.index t 1 = t.val % 4) t

theorem index1 (t : Fin cfg0.N) : win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0) t

theorem index2 (t : Fin cfg0.N) : win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0) t

/-- The transposed stream the launch finds. -/
theorem turned (d : Fin 2048) (s : Fin 8192) : V m c main_v0 (ix2 d s) = nrm m c (ix2 s d) := by
  have e : V m c main_v0 = transpose S2048x8192 [1, 0] (m ((c : Thread nD τ).loc main_arg0)) transposes_S8192x2048_S2048x8192_1_0 := by
    show StableHlo.after hostOps0 (fun b => m (c, b)) _ = _
    unfold hostOps0
    after_results
  rw [e]
  exact transpose_apply [1, 0] _ _ (ix2 d s) (ix2 s d) (fun b => match b with | 0 => rfl | 1 => rfl)

theorem block0 (t : Fin cfg0.N) (d r : Fin 2048) (s : Fin 8192) (hs : s.val = t.val % 4 * 2048 + r.val) :
    iblk m c 0 t (ix2 d r) = nrm m c (ix2 s d) := by
  rw [← turned]
  blk_simp [iblk]
  obtain ⟨h0, h1⟩ := index0 t
  refine congrArg (V m c main_v0) (Shape.idx_ext₂ ?_ ?_)
  · blk_simp
    rw [h0]; exact Nat.zero_add _
  · blk_simp
    rw [h1, hs]

theorem block1 (t : Fin cfg0.N) (r : Fin 2048) (q : Fin 704) (j : Fin 8) (s : Fin 8192)
    (hj : j.val = t.val / 4) (hs : s.val = t.val % 4 * 2048 + r.val) :
    iblk m c 1 t (ix3 0 r q) = grad m c (ix3 j s q) := by
  blk_simp [iblk]
  rw [V_main_arg1]
  obtain ⟨h0, h1, h2⟩ := index1 t
  refine congrArg (m ((c : Thread nD τ).loc main_arg1)) (Accum.ext3 ?_ ?_ ?_)
  · blk_simp
    rw [h0, hj]; exact Nat.add_zero _
  · blk_simp
    rw [h1, hs]
  · blk_simp
    rw [h2]; exact Nat.zero_add _

theorem zero1 (y) : (k0_pay1 (F := Ideal)) y = 0 := Ideal.ofBits_zero_f32

/-- A block's product. -/
def prod (x : S2048x2048.Idx → EReal) (g : S1x2048x704.Idx → EReal) (d : Fin 2048) (q : Fin 704) : EReal :=
  ∑ r : Fin 2048, x (ix2 d r) * g (ix3 0 r q)

/-- One block's product added to what was there. -/
theorem pay2_at (v3 : Vec Ideal S2048x704 .f32) (v4 : Vec Ideal S2048x2048 .bf16) (v6 : Vec Ideal S1x2048x704 .bf16)
    (d : Fin 2048) (q : Fin 704) : k0_pay2 v3 v4 v6 (ix2 d q) = v3 (ix2 d q) + prod v4 v6 d q := by
  unfold k0_pay2 prod
  pointwise

theorem scr_A (t : Fin cfg0.N) (h0 : t.val % 4 = 0) (y : S2048x704.Idx) :
    (outsAt0 m c t.val t.isLt).2 y = k0_pay2 k0_pay1 (iblk m c 0 t) (iblk m c 1 t) y := by
  rw [outsAt0_A m c t h0 (by omega)]
  frame_out

theorem scr_B (t : Fin cfg0.N) (h0 : ¬ t.val % 4 = 0) (y : S2048x704.Idx) :
    (outsAt0 m c t.val t.isLt).2 y
      = k0_pay2 (outsAt0 m c (t.val - 1) (Nat.lt_of_le_of_lt (Nat.sub_le _ _) t.isLt)).2 (iblk m c 0 t) (iblk m c 1 t) y := by
  by_cases h1 : t.val % 4 = 3
  · rw [outsAt0_C m c t h0 h1]
    frame_out
    exact congrArg (fun v => k0_pay2 v (iblk m c 0 t) (iblk m c 1 t) y) (Memref.IsWhole.read_unread (m := scM0_0) (Memref.isWhole_whole _) _)
  · rw [outsAt0_B m c t h0 h1]
    frame_out
    exact congrArg (fun v => k0_pay2 v (iblk m c 0 t) (iblk m c 1 t) y) (Memref.IsWhole.read_unread (m := scM0_0) (Memref.isWhole_whole _) _)

theorem out_C (t : Fin cfg0.N) (h1 : t.val % 4 = 3) (y : S1x2048x704.Idx) :
    (outsAt0 m c t.val t.isLt).1 y = k0_pay3 (outsAt0 m c t.val t.isLt).2 y := by
  rw [outsAt0_C m c t (by omega) h1]
  frame_out

theorem pay3_at (v : Vec Ideal S2048x704 .f32) (d : Fin 2048) (q : Fin 704) : k0_pay3 v (ix3 0 d q) = v (ix2 d q) := by
  unfold k0_pay3
  pointwise

/-- What a point adds. -/
def part (n : ℕ) (y : S2048x704.Idx) : EReal :=
  if h : n / 4 < 8 then ∑ r : Fin 2048, term (nrm m c) (grad m c) ⟨n / 4, h⟩ (y 0) (y 1) (n % 4 * 2048 + r.val) else 0

theorem prod_at (t : Fin cfg0.N) (y : S2048x704.Idx) : prod (iblk m c 0 t) (iblk m c 1 t) (y 0) (y 1) = part m c t.val y := by
  have hN := lt_of_lt_of_eq t.isLt (show cfg0.N = 32 from N_0)
  have hj : t.val / 4 < 8 := by omega
  unfold part prod
  rw [dif_pos hj]
  refine Finset.sum_congr rfl fun r _ => ?_
  have hs : t.val % 4 * 2048 + r.val < 8192 := by have := r.isLt; omega
  unfold term
  rw [dif_pos hs, block0 m c t (y 0) r ⟨_, hs⟩ rfl, block1 m c t r (y 1) ⟨t.val / 4, hj⟩ ⟨_, hs⟩ rfl rfl]

theorem scr_at (t : ℕ) (ht : t < cfg0.N) (y : S2048x704.Idx) :
    (outsAt0 m c t ht).2 y = ∑ s ∈ Finset.range (t % 4 + 1), part m c (4 * (t / 4) + s) y := by
  refine Accum.run_sum (J := 4) (by decide) (fun n h => (outsAt0 m c n h).2) (part m c) ?_ ?_ t ht y
  · intro n h y hn
    refine (scr_A m c ⟨n, h⟩ hn y).trans ?_
    obtain ⟨d, q, rfl⟩ : ∃ (d : Fin 2048) (q : Fin 704), y = ix2 d q := ⟨y 0, y 1, funext fun a => match a with | 0 => rfl | 1 => rfl⟩
    rw [pay2_at, zero1, zero_add]
    exact prod_at m c ⟨n, h⟩ (ix2 d q)
  · intro n h y hn
    refine (scr_B m c ⟨n + 1, h⟩ hn y).trans ?_
    obtain ⟨d, q, rfl⟩ : ∃ (d : Fin 2048) (q : Fin 704), y = ix2 d q := ⟨y 0, y 1, funext fun a => match a with | 0 => rfl | 1 => rfl⟩
    rw [pay2_at]
    exact congrArg _ (prod_at m c ⟨n + 1, h⟩ (ix2 d q))

/-- What a last point of four writes. -/
theorem out_at (t : Fin cfg0.N) (h1 : t.val % 4 = 3) (j : Fin 8) (hj : j.val = t.val / 4) (d : Fin 2048) (q : Fin 704) :
    (outsAt0 m c t.val t.isLt).1 (ix3 0 d q) = value (nrm m c) (grad m c) (ix3 j d q) := by
  rw [out_C m c t h1, pay3_at, scr_at, h1]
  unfold value
  refine ((Finset.sum_congr rfl fun s hs => ?_).trans (Accum.sum_blocks 4 2048 (term (nrm m c) (grad m c) j d q))).trans ?_
  · have hs4 : s < 4 := Finset.mem_range.mp hs
    have e : (4 * (t.val / 4) + s) / 4 = j.val := by omega
    have e' : (4 * (t.val / 4) + s) % 4 = s := by omega
    unfold part
    rw [dif_pos (by rw [e]; exact j.isLt), e']
    refine Finset.sum_congr rfl fun r _ => ?_
    congr 1
    exact Fin.ext e
  · refine Finset.sum_congr rfl fun s _ => ?_
    unfold term
    rw [dif_pos s.isLt]
    rfl

/-- The kernel's result. -/
theorem result : (dats m 0 c).arrAt 2 cfg0.N = value (nrm m c) (grad m c) := by
  refine (dats m 0 c).arrAt_eq_of_covers 2 _ (by decide +kernel) fun t hf y => ?_
  have hm : t.val % 4 = 3 := (flush0_2 t).mp hf
  have hN := lt_of_lt_of_eq t.isLt (show cfg0.N = 32 from N_0)
  blk_simp
  rw [after0_2]
  obtain ⟨h0, h1, h2⟩ := index2 t
  obtain ⟨u, d, q, rfl⟩ : ∃ (u : Fin 1) (d : Fin 2048) (q : Fin 704), y = ix3 u d q := ⟨y 0, y 1, y 2, funext fun a => match a with | 0 => rfl | 1 => rfl | 2 => rfl⟩
  obtain rfl : u = 0 := Subsingleton.elim _ _
  refine (out_at m c t hm ⟨t.val / 4, by omega⟩ rfl d q).trans (congrArg _ (Accum.ext3 ?_ ?_ ?_))
  · blk_simp
    rw [h0]; rfl
  · blk_simp
    rw [h1]; exact (Nat.zero_add _).symm
  · blk_simp
    rw [h2]; exact (Nat.zero_add _).symm

/-! ## The reference -/

open Cert.Reference4Ideal.Read in
theorem ref_at (X : S8192x2048.Idx → EReal) (G : S8x8192x704.Idx → EReal) (y : S8x2048x704.Idx) :
    val_main_v10 (F := Ideal) X G y = value X G y := by
  rw [val_main_v10_apply, val_main_v9_apply, val_main_v8_apply, val_main_v7_apply, val_main_v6_apply]
  unfold value
  refine Finset.sum_congr rfl fun s _ => ?_
  rw [val_main_v3_apply, val_main_v2_apply, val_main_v1_apply, val_main_v0_apply, mul_comm]
  show X _ * G _ = _
  have h0 : (y 0).val < 8 := (y 0).isLt
  have h1 : (y 1).val < 2048 := (y 1).isLt
  have h2 : (y 2).val < 704 := (y 2).isLt
  have hs := s.isLt
  congr 1
  · refine congrArg X (Shape.idx_ext₂ ?_ ?_)
    · rfl
    · show _ / 5632 = _; dsimp; omega
  · refine congrArg G (Accum.ext3 ?_ ?_ ?_)
    · show (s.val * 5632 + _) / 704 % 8 = _; dsimp; omega
    · show (s.val * 5632 + _) / 5632 = _; dsimp; omega
    · show (s.val * 5632 + _) % 704 = _; dsimp; omega

end Cert.UpGrad

end
-- ==== Proof.InGrad.lean ====
module

public import proofs.«01_k».proof.Proof.Accum
public import proofs.«01_k».proof.Proof.Gen.Kernel5Ideal.Value
public import proofs.«01_k».proof.Proof.Gen.Reference5Ideal.Read
public import Idealize.ShloMosaic.Lib.Pipeline.ValueKit

/-!
# The gradient of the network's input

For each block of rows the kernel adds, over four points, the products of two blocks of each projection's columns; the
reference is two products over all the columns.
-/

@[expose] public section

set_option maxRecDepth 16384

noncomputable section

namespace Cert.InGrad

open Cert.Kernel5Ideal Cert.Kernel5Ideal.Gen Idealize.ShloMosaic Idealize.ShloMosaic.TcCoe Idealize.ShloMosaic.Tactic

variable (m : (ℓ : Loc nD τ sig) → Buf (Elt Ideal) ℓ) (c : Dev nD)

/-- The gradients of the two projections and the two projections' weights. -/
abbrev da : S8x8192x704.Idx → EReal := m ((c : Thread nD τ).loc main_arg0)
abbrev db : S8x8192x704.Idx → EReal := m ((c : Thread nD τ).loc main_arg1)
abbrev wg : S8x2048x704.Idx → EReal := m ((c : Thread nD τ).loc main_arg2)
abbrev wu : S8x2048x704.Idx → EReal := m ((c : Thread nD τ).loc main_arg3)

/-- One column's term of a product, by the column's block and its place in the block. -/
def term (D : S8x8192x704.Idx → EReal) (W : S8x2048x704.Idx → EReal) (s : Fin 8192) (d : Fin 2048) (j : ℕ) (q : Fin 704) : EReal :=
  if h : j < 8 then D (ix3 ⟨j, h⟩ s q) * W (ix3 ⟨j, h⟩ d q) else 0

/-- The column by its number. -/
def col (D : S8x8192x704.Idx → EReal) (W : S8x2048x704.Idx → EReal) (s : Fin 8192) (d : Fin 2048) (k : ℕ) : EReal :=
  term D W s d (k / 704) ⟨k % 704, Nat.mod_lt _ (by decide)⟩

/-- The gradient of the input. -/
def value (A B : S8x8192x704.Idx → EReal) (G U : S8x2048x704.Idx → EReal) (y : S8192x2048.Idx) : EReal :=
  ∑ k : Fin 5632, col A G (y 0) (y 1) k.val + ∑ k : Fin 5632, col B U (y 0) (y 1) k.val

theorem index0 (t : Fin cfg0.N) : win0_0.index t 0 = t.val % 4 ∧ win0_0.index t 1 = t.val / 4 ∧ win0_0.index t 2 = 0 :=
  (by decide +kernel : ∀ t : Fin grid0.N, win0_0.index t 0 = t.val % 4 ∧ win0_0.index t 1 = t.val / 4 ∧ win0_0.index t 2 = 0) t

theorem index1 (t : Fin cfg0.N) : win0_1.index t 0 = t.val % 4 ∧ win0_1.index t 1 = t.val / 4 ∧ win0_1.index t 2 = 0 :=
  (by decide +kernel : ∀ t : Fin grid0.N, win0_1.index t 0 = t.val % 4 ∧ win0_1.index t 1 = t.val / 4 ∧ win0_1.index t 2 = 0) t

theorem index2 (t : Fin cfg0.N) : win0_2.index t 0 = t.val % 4 ∧ win0_2.index t 1 = 0 ∧ win0_2.index t 2 = 0 :=
  (by decide +kernel : ∀ t : Fin grid0.N, win0_2.index t 0 = t.val % 4 ∧ win0_2.index t 1 = 0 ∧ win0_2.index t 2 = 0) t

theorem index3 (t : Fin cfg0.N) : win0_3.index t 0 = t.val % 4 ∧ win0_3.index t 1 = 0 ∧ win0_3.index t 2 = 0 :=
  (by decide +kernel : ∀ t : Fin grid0.N, win0_3.index t 0 = t.val % 4 ∧ win0_3.index t 1 = 0 ∧ win0_3.index t 2 = 0) t

theorem index4 (t : Fin cfg0.N) : win0_4.index t 0 = t.val / 4 ∧ win0_4.index t 1 = 0 :=
  (by decide +kernel : ∀ t : Fin grid0.N, win0_4.index t 0 = t.val / 4 ∧ win0_4.index t 1 = 0) t

theorem block0 (t : Fin cfg0.N) (e : Fin 2) (r : Fin 512) (q : Fin 704) (j : Fin 8) (s : Fin 8192)
    (hj : j.val = t.val % 4 * 2 + e.val) (hs : s.val = t.val / 4 * 512 + r.val) :
    iblk m c 0 t (ix3 e r q) = da m c (ix3 j s q) := by
  blk_simp [iblk]
  rw [V_main_arg0]
  obtain ⟨h0, h1, h2⟩ := index0 t
  refine congrArg (m ((c : Thread nD τ).loc main_arg0)) (Accum.ext3 ?_ ?_ ?_)
  · blk_simp
    rw [h0, hj]
  · blk_simp
    rw [h1, hs]
  · blk_simp
    rw [h2]; exact Nat.zero_add _

theorem block1 (t : Fin cfg0.N) (e : Fin 2) (r : Fin 512) (q : Fin 704) (j : Fin 8) (s : Fin 8192)
    (hj : j.val = t.val % 4 * 2 + e.val) (hs : s.val = t.val / 4 * 512 + r.val) :
    iblk m c 1 t (ix3 e r q) = db m c (ix3 j s q) := by
  blk_simp [iblk]
  rw [V_main_arg1]
  obtain ⟨h0, h1, h2⟩ := index1 t
  refine congrArg (m ((c : Thread nD τ).loc main_arg1)) (Accum.ext3 ?_ ?_ ?_)
  · blk_simp
    rw [h0, hj]
  · blk_simp
    rw [h1, hs]
  · blk_simp
    rw [h2]; exact Nat.zero_add _

theorem block2 (t : Fin cfg0.N) (e : Fin 2) (d : Fin 2048) (q : Fin 704) (j : Fin 8)
    (hj : j.val = t.val % 4 * 2 + e.val) : iblk m c 2 t (ix3 e d q) = wg m c (ix3 j d q) := by
  blk_simp [iblk]
  rw [V_main_arg2]
  obtain ⟨h0, h1, h2⟩ := index2 t
  refine congrArg (m ((c : Thread nD τ).loc main_arg2)) (Accum.ext3 ?_ ?_ ?_)
  · blk_simp
    rw [h0, hj]
  · blk_simp
    rw [h1]; exact Nat.zero_add _
  · blk_simp
    rw [h2]; exact Nat.zero_add _

theorem block3 (t : Fin cfg0.N) (e : Fin 2) (d : Fin 2048) (q : Fin 704) (j : Fin 8)
    (hj : j.val = t.val % 4 * 2 + e.val) : iblk m c 3 t (ix3 e d q) = wu m c (ix3 j d q) := by
  blk_simp [iblk]
  rw [V_main_arg3]
  obtain ⟨h0, h1, h2⟩ := index3 t
  refine congrArg (m ((c : Thread nD τ).loc main_arg3)) (Accum.ext3 ?_ ?_ ?_)
  · blk_simp
    rw [h0, hj]
  · blk_simp
    rw [h1]; exact Nat.zero_add _
  · blk_simp
    rw [h2]; exact Nat.zero_add _

/-- A block of columns' product. -/
def prod (x : S1x512x704.Idx → EReal) (w : S1x2048x704.Idx → EReal) (r : Fin 512) (d : Fin 2048) : EReal :=
  ∑ q : Fin 704, x (ix3 0 r q) * w (ix3 0 d q)

/-- The four products of a point. -/
theorem pay3_at (x0 x1 x2 x3 : Vec Ideal S1x512x704 .bf16) (w0 w1 w2 w3 : Vec Ideal S1x2048x704 .bf16) (r : Fin 512) (d : Fin 2048) :
    k0_pay3 x0 w0 x1 w1 x2 w2 x3 w3 (ix2 r d) = prod x0 w0 r d + prod x1 w1 r d + prod x2 w2 r d + prod x3 w3 r d := by
  unfold k0_pay3 prod
  pointwise

/-- A load of one of a window's two blocks. -/
theorem ld_rows {x : Vec Ideal S2x512x704 .bf16} (e : Fin 2) {inb} (r : Fin 512) (q : Fin 704) :
    View.ld x (Rect.unit ![e.val, 0, 0] ![1, 512, 704] inb) (ix3 0 r q) = x (ix3 e r q) :=
  View.ld_unit_apply_of _ _ _ _ _ (ix3 e r q) (fun a => match a with | 0 => rfl | 1 => (Nat.zero_add _).symm | 2 => (Nat.zero_add _).symm)

theorem ld_cols {x : Vec Ideal S2x2048x704 .bf16} (e : Fin 2) {inb} (d : Fin 2048) (q : Fin 704) :
    View.ld x (Rect.unit ![e.val, 0, 0] ![1, 2048, 704] inb) (ix3 0 d q) = x (ix3 e d q) :=
  View.ld_unit_apply_of _ _ _ _ _ (ix3 e d q) (fun a => match a with | 0 => rfl | 1 => (Nat.zero_add _).symm | 2 => (Nat.zero_add _).symm)

/-- A block of columns of a product. -/
def blk (D : S8x8192x704.Idx → EReal) (W : S8x2048x704.Idx → EReal) (s : Fin 8192) (d : Fin 2048) (j : ℕ) : EReal :=
  ∑ q : Fin 704, term D W s d j q

/-- The four products of blocks that a row's column gets at one point. -/
def quad (s : Fin 8192) (d : Fin 2048) (j : ℕ) : EReal :=
  blk (da m c) (wg m c) s d (j * 2) + blk (da m c) (wg m c) s d (j * 2 + 1) + blk (db m c) (wu m c) s d (j * 2) + blk (db m c) (wu m c) s d (j * 2 + 1)

/-- What a point adds. -/
def part (n : ℕ) (y : S512x2048.Idx) : EReal :=
  if h : n / 4 * 512 + (y 0).val < 8192 then quad m c ⟨_, h⟩ (y 1) (n % 4) else 0

/-- The point's four products. -/
abbrev four (t : Fin cfg0.N) : FVec Ideal S512x2048 .f32 :=
  k0_pay3 (View.ld (iblk m c 0 t) (Rect.unit ![0, 0, 0] ![1, 512, 704] inb_S2x512x704_S1x512x704_0_0_0))
    (View.ld (iblk m c 2 t) (Rect.unit ![0, 0, 0] ![1, 2048, 704] inb_S2x2048x704_S1x2048x704_0_0_0))
    (View.ld (iblk m c 0 t) (Rect.unit ![1, 0, 0] ![1, 512, 704] inb_S2x512x704_S1x512x704_1_0_0))
    (View.ld (iblk m c 2 t) (Rect.unit ![1, 0, 0] ![1, 2048, 704] inb_S2x2048x704_S1x2048x704_1_0_0))
    (View.ld (iblk m c 1 t) (Rect.unit ![0, 0, 0] ![1, 512, 704] inb_S2x512x704_S1x512x704_0_0_0))
    (View.ld (iblk m c 3 t) (Rect.unit ![0, 0, 0] ![1, 2048, 704] inb_S2x2048x704_S1x2048x704_0_0_0))
    (View.ld (iblk m c 1 t) (Rect.unit ![1, 0, 0] ![1, 512, 704] inb_S2x512x704_S1x512x704_1_0_0))
    (View.ld (iblk m c 3 t) (Rect.unit ![1, 0, 0] ![1, 2048, 704] inb_S2x2048x704_S1x2048x704_1_0_0))

/-- A block of columns of a product, from the windows. -/
theorem prod_of {D : S8x8192x704.Idx → EReal} {W : S8x2048x704.Idx → EReal} (x : Vec Ideal S2x512x704 .bf16) (w : Vec Ideal S2x2048x704 .bf16)
    (e : Fin 2) (r : Fin 512) (d : Fin 2048) {i1 i2} (s : Fin 8192) (j : ℕ) (hj : j < 8)
    (hx : ∀ q : Fin 704, x (ix3 e r q) = D (ix3 ⟨j, hj⟩ s q)) (hw : ∀ q : Fin 704, w (ix3 e d q) = W (ix3 ⟨j, hj⟩ d q)) :
    prod (View.ld x (Rect.unit ![e.val, 0, 0] ![1, 512, 704] i1)) (View.ld w (Rect.unit ![e.val, 0, 0] ![1, 2048, 704] i2)) r d = blk D W s d j := by
  unfold prod blk
  refine Finset.sum_congr rfl fun q _ => ?_
  unfold term
  rw [dif_pos hj, ld_rows, ld_cols, hx, hw]

theorem four_at (t : Fin cfg0.N) (r : Fin 512) (d : Fin 2048) : four m c t (ix2 r d) = part m c t.val (ix2 r d) := by
  have hN := lt_of_lt_of_eq t.isLt (show cfg0.N = 64 from N_0)
  have hs : t.val / 4 * 512 + r.val < 8192 := by have := r.isLt; omega
  unfold part quad
  rw [dif_pos (show t.val / 4 * 512 + ((ix2 r d : S512x2048.Idx) 0).val < 8192 from hs)]
  refine (pay3_at _ _ _ _ _ _ _ _ r d).trans ?_
  refine congrArg₂ (· + ·) (congrArg₂ (· + ·) (congrArg₂ (· + ·) ?_ ?_) ?_) ?_
  · exact prod_of (iblk m c 0 t) (iblk m c 2 t) 0 r d ⟨_, hs⟩ _ (by omega) (fun q => block0 m c t 0 r q _ _ rfl rfl) (fun q => block2 m c t 0 d q _ rfl)
  · exact prod_of (iblk m c 0 t) (iblk m c 2 t) 1 r d ⟨_, hs⟩ _ (by omega) (fun q => block0 m c t 1 r q _ _ rfl rfl) (fun q => block2 m c t 1 d q _ rfl)
  · exact prod_of (iblk m c 1 t) (iblk m c 3 t) 0 r d ⟨_, hs⟩ _ (by omega) (fun q => block1 m c t 0 r q _ _ rfl rfl) (fun q => block3 m c t 0 d q _ rfl)
  · exact prod_of (iblk m c 1 t) (iblk m c 3 t) 1 r d ⟨_, hs⟩ _ (by omega) (fun q => block1 m c t 1 r q _ _ rfl rfl) (fun q => block3 m c t 1 d q _ rfl)

theorem scr_A (t : Fin cfg0.N) (h0 : t.val % 4 = 0) (r : Fin 512) (d : Fin 2048) :
    (outsAt0 m c t.val t.isLt).2 (ix2 r d) = four m c t (ix2 r d) := by
  rw [outsAt0_A m c t h0 (by omega) (by omega)]
  frame_out
  unfold k0_pay4
  exact congrFun (shapeCast_self _ _) _

theorem scr_B (t : Fin cfg0.N) (h1 : 1 ≤ t.val % 4 ∧ t.val % 4 ≤ 2) (r : Fin 512) (d : Fin 2048) :
    (outsAt0 m c t.val t.isLt).2 (ix2 r d)
      = (outsAt0 m c (t.val - 1) (Nat.lt_of_le_of_lt (Nat.sub_le _ _) t.isLt)).2 (ix2 r d) + four m c t (ix2 r d) := by
  rw [outsAt0_B m c t (by omega) h1 (by omega)]
  frame_out
  unfold k0_pay1
  refine (congrFun (shapeCast_self _ _) _).trans ?_
  exact congrArg (fun v : S512x2048.Idx → EReal => v (ix2 r d) + four m c t (ix2 r d)) (Memref.IsWhole.read_unread (m := scM0_0) (Memref.isWhole_whole _) _)

theorem out_C (t : Fin cfg0.N) (h2 : t.val % 4 = 3) (r : Fin 512) (d : Fin 2048) :
    (outsAt0 m c t.val t.isLt).1 (ix2 r d)
      = (outsAt0 m c (t.val - 1) (Nat.lt_of_le_of_lt (Nat.sub_le _ _) t.isLt)).2 (ix2 r d) + four m c t (ix2 r d) := by
  rw [outsAt0_C m c t (by omega) (by omega) h2]
  frame_out
  unfold k0_pay2
  exact congrArg (fun v : S512x2048.Idx → EReal => v (ix2 r d) + four m c t (ix2 r d)) (Memref.IsWhole.read_unread (m := scM0_0) (Memref.isWhole_whole _) _)

/-- The sum so far: in the carried buffer, and at a run's last point in the output. -/
def sofar (n : ℕ) (h : n < cfg0.N) (y : S512x2048.Idx) : EReal :=
  if n % 4 = 3 then (outsAt0 m c n h).1 y else (outsAt0 m c n h).2 y

theorem sofar_at (t : ℕ) (ht : t < cfg0.N) (y : S512x2048.Idx) :
    sofar m c t ht y = ∑ s ∈ Finset.range (t % 4 + 1), part m c (4 * (t / 4) + s) y := by
  refine Accum.run_sum (J := 4) (by decide) (sofar m c) (part m c) ?_ ?_ t ht y
  · intro n h y hn
    obtain ⟨r, d, rfl⟩ : ∃ (r : Fin 512) (d : Fin 2048), y = ix2 r d := ⟨y 0, y 1, funext fun a => match a with | 0 => rfl | 1 => rfl⟩
    unfold sofar
    rw [if_neg (by omega)]
    exact (scr_A m c ⟨n, h⟩ hn r d).trans (four_at m c ⟨n, h⟩ r d)
  · intro n h y hn
    obtain ⟨r, d, rfl⟩ : ∃ (r : Fin 512) (d : Fin 2048), y = ix2 r d := ⟨y 0, y 1, funext fun a => match a with | 0 => rfl | 1 => rfl⟩
    unfold sofar
    rw [if_neg (show ¬ n % 4 = 3 by omega), ← four_at m c ⟨n + 1, h⟩ r d]
    by_cases h3 : (n + 1) % 4 = 3
    · rw [if_pos h3]
      exact out_C m c ⟨n + 1, h⟩ h3 r d
    · rw [if_neg h3]
      exact scr_B m c ⟨n + 1, h⟩ (by dsimp only; omega) r d

/-- The columns block by block. -/
theorem sum_col (D : S8x8192x704.Idx → EReal) (W : S8x2048x704.Idx → EReal) (s : Fin 8192) (d : Fin 2048) :
    ∑ k : Fin 5632, col D W s d k.val = ∑ j ∈ Finset.range 8, blk D W s d j := by
  refine (Accum.sum_blocks 8 704 (col D W s d)).symm.trans ?_
  refine Finset.sum_congr rfl fun j _ => Finset.sum_congr rfl fun q _ => ?_
  have hq := q.isLt
  unfold col
  have e : (j * 704 + q.val) / 704 = j := by omega
  rw [e]
  congr 1
  exact Fin.ext (by show (j * 704 + q.val) % 704 = q.val; omega)

/-- What a run's last point writes. -/
theorem out_at (t : Fin cfg0.N) (h3 : t.val % 4 = 3) (r : Fin 512) (d : Fin 2048) (s : Fin 8192) (hs : s.val = t.val / 4 * 512 + r.val) :
    (outsAt0 m c t.val t.isLt).1 (ix2 r d) = value (da m c) (db m c) (wg m c) (wu m c) (ix2 s d) := by
  have e := sofar_at m c t.val t.isLt (ix2 r d)
  unfold sofar at e
  rw [if_pos h3, h3] at e
  rw [e]
  have p : ∀ j < 4, part m c (4 * (t.val / 4) + j) (ix2 r d) = quad m c s d j := by
    intro j hj
    have e0 : (4 * (t.val / 4) + j) / 4 = t.val / 4 := by omega
    have e1 : (4 * (t.val / 4) + j) % 4 = j := by omega
    unfold part
    rw [dif_pos (show (4 * (t.val / 4) + j) / 4 * 512 + ((ix2 r d : S512x2048.Idx) 0).val < 8192 by
      rw [e0]; exact hs ▸ s.isLt), e1]
    congr 1
    exact Fin.ext (by show (4 * (t.val / 4) + j) / 4 * 512 + r.val = s.val; rw [e0, hs])
  rw [Finset.sum_congr rfl fun j hj => p j (Finset.mem_range.mp hj)]
  refine Eq.trans ?_ (congrArg₂ (· + ·) (sum_col (da m c) (wg m c) s d) (sum_col (db m c) (wu m c) s d)).symm
  unfold quad
  simp only [Finset.sum_range_succ, Finset.sum_range_zero, zero_add]
  abel

/-- The kernel's result. -/
theorem result : (dats m 0 c).arrAt 4 cfg0.N = value (da m c) (db m c) (wg m c) (wu m c) := by
  refine (dats m 0 c).arrAt_eq_of_covers 4 _ (by decide +kernel) fun t hf y => ?_
  have hm : t.val % 4 = 3 := (flush0_4 t).mp hf
  have hN := lt_of_lt_of_eq t.isLt (show cfg0.N = 64 from N_0)
  blk_simp
  rw [after0_4]
  obtain ⟨h0, h1⟩ := index4 t
  obtain ⟨r, d, rfl⟩ : ∃ (r : Fin 512) (d : Fin 2048), y = ix2 r d := ⟨y 0, y 1, funext fun a => match a with | 0 => rfl | 1 => rfl⟩
  have hr := r.isLt
  refine (out_at m c t hm r d ⟨t.val / 4 * 512 + r.val, by omega⟩ rfl).trans (congrArg _ (Shape.idx_ext₂ ?_ ?_))
  · blk_simp
    rw [h0]
  · blk_simp
    rw [h1]; exact (Nat.zero_add _).symm

/-! ## The reference -/

open Cert.Reference5Ideal.Read in
theorem gate_at (A : S8x8192x704.Idx → EReal) (G : S8x2048x704.Idx → EReal) (y : S8192x2048.Idx) :
    val_main_v16 (F := Ideal) A G y = ∑ k : Fin 5632, col A G (y 0) (y 1) k.val := by
  rw [val_main_v16_apply]
  refine Finset.sum_congr rfl fun k _ => ?_
  rw [val_main_v2_apply, val_main_v1_apply, val_main_v0_apply, val_main_v8_apply, val_main_v7_apply, val_main_v6_apply]
  have h0 : (y 0).val < 8192 := (y 0).isLt
  have h1 : (y 1).val < 2048 := (y 1).isLt
  have hk := k.isLt
  unfold col term
  rw [dif_pos (show k.val / 704 < 8 by omega)]
  show A _ * G _ = _
  refine congrArg₂ (· * ·) (congrArg A (Accum.ext3 ?_ ?_ ?_)) (congrArg G (Accum.ext3 ?_ ?_ ?_))
  · show ((y 0).val * 5632 + k.val) / 704 % 8 = k.val / 704; omega
  · show ((y 0).val * 5632 + k.val) / 5632 = (y 0).val; omega
  · show ((y 0).val * 5632 + k.val) % 704 = k.val % 704; omega
  · show ((y 1).val * 5632 + k.val) / 704 % 8 = k.val / 704; omega
  · show ((y 1).val * 5632 + k.val) / 5632 = (y 1).val; omega
  · show ((y 1).val * 5632 + k.val) % 704 = k.val % 704; omega

open Cert.Reference5Ideal.Read in
theorem up_at (B : S8x8192x704.Idx → EReal) (U : S8x2048x704.Idx → EReal) (y : S8192x2048.Idx) :
    val_main_v15 (F := Ideal) B U y = ∑ k : Fin 5632, col B U (y 0) (y 1) k.val := by
  rw [val_main_v15_apply]
  refine Finset.sum_congr rfl fun k _ => ?_
  rw [val_main_v5_apply, val_main_v4_apply, val_main_v3_apply, val_main_v11_apply, val_main_v10_apply, val_main_v9_apply]
  have h0 : (y 0).val < 8192 := (y 0).isLt
  have h1 : (y 1).val < 2048 := (y 1).isLt
  have hk := k.isLt
  unfold col term
  rw [dif_pos (show k.val / 704 < 8 by omega)]
  show B _ * U _ = _
  refine congrArg₂ (· * ·) (congrArg B (Accum.ext3 ?_ ?_ ?_)) (congrArg U (Accum.ext3 ?_ ?_ ?_))
  · show ((y 0).val * 5632 + k.val) / 704 % 8 = k.val / 704; omega
  · show ((y 0).val * 5632 + k.val) / 5632 = (y 0).val; omega
  · show ((y 0).val * 5632 + k.val) % 704 = k.val % 704; omega
  · show ((y 1).val * 5632 + k.val) / 704 % 8 = k.val / 704; omega
  · show ((y 1).val * 5632 + k.val) / 5632 = (y 1).val; omega
  · show ((y 1).val * 5632 + k.val) % 704 = k.val % 704; omega

open Cert.Reference5Ideal.Read in
theorem ref_at (A B : S8x8192x704.Idx → EReal) (G U : S8x2048x704.Idx → EReal) (y : S8192x2048.Idx) :
    val_main_v18 (F := Ideal) A B G U y = value A B G U y := by
  rw [val_main_v18_apply, val_main_v17_apply]
  show val_main_v15 (F := Ideal) B U y + val_main_v16 (F := Ideal) A G y = _
  rw [gate_at, up_at, add_comm]
  rfl

end Cert.InGrad

end
-- ==== Proof.MixFwd.lean ====
module

public import proofs.«01_k».proof.Proof.Outs
public import proofs.«01_k».proof.Proof.Inputs
public import proofs.«01_k».proof.Proof.Gen.Kernel16Ideal.Value
public import Idealize.ShloMosaic.Lib.Pipeline.ValueKit

/-!
# The convolution and pooling branches, forwards: the kernel

A grid point reads 512 rows of four of the projection's parts with the 16 rows before them, and writes the gated convolution
beside the four groups' mixed channels.
-/

@[expose] public section

set_option maxRecDepth 16384

noncomputable section

namespace Cert.MixFwd

open Cert.Kernel16Ideal Cert.Kernel16Ideal.Gen Cert.Mix Idealize.ShloMosaic Idealize.ShloMosaic.TcCoe Idealize.ShloMosaic.Tactic
open Cert.KernelIdeal.Pay (count_apply row_word pooled_of lin_of mat_of canon_hit canon_miss two three)

/-- The two branches' outputs side by side, by row and column. -/
def mixed (d : Data) (t : ℤ) (q : ℕ) : EReal :=
  if q < 512 then d.gb t q * d.conv t q else d.lin ((q - 512) / 128) t ((q - 512) % 128) * d.ps (q - 512)

theorem mixed_conv (d : Data) (t : ℤ) (q : Fin 512) : mixed d t (0 + q.val) = d.gb t q.val * d.conv t q.val := by
  have := q.isLt
  unfold mixed; rw [if_pos (by omega), Nat.zero_add]

theorem mixed_pool (d : Data) (t : ℤ) (g o : ℕ) (ho : o = 512 + 128 * g) (q : Fin 128) :
    mixed d t (o + q.val) = d.lin g t q.val * d.ps (128 * g + q.val) := by
  have := q.isLt
  unfold mixed
  rw [if_neg (by omega), show (o + q.val - 512) / 128 = g by omega, show (o + q.val - 512) % 128 = q.val by omega,
    show o + q.val - 512 = 128 * g + q.val by omega]

/-- The blocks a grid point finds: 512 rows of each part, and the 16 rows before them. -/
structure Blocks (d : Data) (i : grid0.Coords) (x0 x1 x2 x3 : Vec Ideal S512x512 .bf16) (x4 x5 x6 : Vec Ideal S16x512 .bf16)
    (x7 : Vec Ideal S3x512 .f32) (x8 : Vec Ideal S4x128x128 .bf16) (x9 : Vec Ideal S1x512 .f32) : Prop where
  lt : (i 0).val < 16
  gb : ∀ (r : Fin 512) (c : Fin 512), x0 (ix2 r c) = d.gb (512 * (i 0).val + r.val) c.val
  gc : ∀ (r : Fin 512) (c : Fin 512), x1 (ix2 r c) = d.gc (512 * (i 0).val + r.val) c.val
  ci : ∀ (r : Fin 512) (c : Fin 512), x2 (ix2 r c) = d.ci (512 * (i 0).val + r.val) c.val
  x : ∀ (r : Fin 512) (c : Fin 512), x3 (ix2 r c) = d.x (512 * (i 0).val + r.val) c.val
  gcPrev : (i 0).val ≠ 0 → ∀ (r : Fin 16) (c : Fin 512), x4 (ix2 r c) = d.gc (512 * (i 0).val + r.val - 16) c.val
  ciPrev : (i 0).val ≠ 0 → ∀ (r : Fin 16) (c : Fin 512), x5 (ix2 r c) = d.ci (512 * (i 0).val + r.val - 16) c.val
  xPrev : (i 0).val ≠ 0 → ∀ (r : Fin 16) (c : Fin 512), x6 (ix2 r c) = d.x (512 * (i 0).val + r.val - 16) c.val
  cw : ∀ (k : Fin 3) (c : Fin 512), x7 (ix2 k c) = d.cw k.val c.val
  pw : ∀ (g : Fin 4) (a b : Fin 128), x8 (ix3 g a b) = d.pw g.val a.val b.val
  ps : ∀ (c : Fin 512), x9 (ix2 0 c) = d.ps c.val
  before : ∀ t : ℤ, t < 0 → ∀ c, d.gc t c = 0 ∧ d.x t c = 0

variable {d : Data} {i : grid0.Coords} {x0 x1 x2 x3 : Vec Ideal S512x512 .bf16} {x4 x5 x6 : Vec Ideal S16x512 .bf16}
    {x7 : Vec Ideal S3x512 .f32} {x8 : Vec Ideal S4x128x128 .bf16} {x9 : Vec Ideal S1x512 .f32}

/-- The factor of the rows before: zero at the first grid point, one elsewhere. -/
theorem first_eq (i : grid0.Coords) : (k0_pay3 i : Ideal .f32) = if (i 0).val = 0 then 0 else 1 := by
  have h := (i 0).isLt
  show Scalar.select (Scalar.cmpi .eq (BitVec.ofNat 32 (i 0).val) 0#32) (Ideal.ofBits .f32 0x00000000#32) (Ideal.ofBits .f32 0x3F800000#32) = _
  rw [Ideal.ofBits_zero_f32, Ideal.ofBits_one_f32]
  have : ∀ k : Fin 16, Scalar.cmpi .eq (BitVec.ofNat 32 k.val) 0#32 = if k.val = 0 then 1#1 else 0#1 := by decide
  rw [this ⟨(i 0).val, h⟩]
  split <;> rfl

theorem rows_word (n : ℕ) (r : Fin 512) : k0_pay7 (BitVec.ofNat 32 n) (ix2 r 0) = BitVec.ofNat 32 (512 * n + r.val) :=
  row_word n (by omega) _ r

variable (B : Blocks d i x0 x1 x2 x3 x4 x5 x6 x7 x8 x9)
include B

/-- The gated input with its 16 rows before. -/
theorem u_ext (h : Shape.Concatenates [S16x512, S512x512] S528x512 0) (r : Fin 528) (c : Fin 512) :
    concatenate S528x512 0 [⟨S16x512, mulf (mulf (extf .f32 x4 bitsLt_bf16_f32) (extf .f32 x5 bitsLt_bf16_f32)) (broadcast S16x512 (k0_pay3 (F := Ideal) i))⟩,
      ⟨S512x512, mulf (extf .f32 x1 bitsLt_bf16_f32) (extf .f32 x2 bitsLt_bf16_f32)⟩] h (ix2 r c) = d.u (512 * (i 0).val + r.val - 16) c.val := by
  refine halo_first _ (fun t c => d.u (512 * (i 0).val + t - 16) c) ?_ ?_ r c
  · intro r c
    show x4 (ix2 r c) * x5 (ix2 r c) * k0_pay3 (F := Ideal) i = _
    rw [first_eq]
    by_cases h : (i 0).val = 0
    · rw [if_pos h, mul_zero]
      have := r.isLt
      rw [Data.u, (B.before _ (by omega) _).1, zero_mul]
    · rw [if_neg h, mul_one, B.gcPrev h, B.ciPrev h]; rfl
  · intro r c
    show x1 (ix2 r c) * x2 (ix2 r c) = _
    rw [B.gc, B.ci]
    show _ = d.u _ _
    rw [show (512 * ((i 0).val : ℤ) + (r.val + 16) - 16) = 512 * ((i 0).val : ℤ) + r.val by ring]; rfl

/-- A tap, spread over the rows. -/
theorem tap_apply (k : ℕ) (hk : k < 3) (h : S3x512.Slices ![k, 0] S1x512) (h' : S1x512.Broadcasts S512x512) (r : Fin 512) (c : Fin 512) :
    broadcastTo S512x512 (extractStridedSlice S1x512 ![k, 0] x7 h) h' (ix2 r c) = d.cw k c.val := by
  rw [row_apply _ _ _ _ (by omega), slice_apply _ _ _ _ (by show k + 0 < 3; omega) (by omega), B.cw]
  congr 1
  show 0 + c.val = _; omega

/-- The gated convolution. -/
theorem conv_apply (r : Fin 512) (c : Fin 512) :
    k0_pay4 i x1 x2 x4 x5 x7 x0 (ix2 r c) = d.gb (512 * (i 0).val + r.val) c.val * d.conv (512 * (i 0).val + r.val) c.val := by
  have := r.isLt
  unfold k0_pay4
  dsimp only
  rw [truncf_apply, mulf_apply, addf_apply, addf_apply, mulf_apply, mulf_apply, mulf_apply, tap_apply B 0 (by omega),
    tap_apply B 1 (by omega), tap_apply B 2 (by omega),
    slice_apply _ _ r c (by omega) (by omega), down_apply 2#32 2 rfl (by omega) _ _ _ _ (by show 2 ≤ 16 + r.val; omega), u_ext B,
    slice_apply _ _ r c (by omega) (by omega), down_apply 1#32 1 rfl (by omega) _ _ _ _ (by show 1 ≤ 16 + r.val; omega), u_ext B]
  show x0 (ix2 r c) * (_ + _ + _ * (x1 (ix2 r c) * x2 (ix2 r c))) = _
  rw [B.gb, B.gc, B.ci]
  unfold Data.conv
  have e1 : 512 * ((i 0).val : ℤ) + ((16 + r.val - 1 : ℕ) : ℤ) - 16 = 512 * (i 0).val + r.val - 1 := by omega
  have e2 : 512 * ((i 0).val : ℤ) + ((16 + r.val - 2 : ℕ) : ℤ) - 16 = 512 * (i 0).val + r.val - 2 := by omega
  simp only [e1, e2, Nat.zero_add]
  rfl

/-- A group's columns of the pooled branch's input. -/
theorem x_cols {g o : ℕ} (ho : 128 * g = o) (hg : g < 4) (h : S512x512.Slices ![0, o] S512x128) (r : Fin 512) (a : Fin 128) :
    extractStridedSlice S512x128 ![0, o] (k0_pay5 x3) h (ix2 r a) = d.x (512 * (i 0).val + r.val) (128 * g + a.val) := by
  have := r.isLt; have := a.isLt
  rw [slice_apply _ _ r a (by omega) (by omega)]
  show x3 _ = _
  rw [B.x]
  subst ho
  simp only [Nat.zero_add]

/-- A group's columns of the pooled branch's input, with the 16 rows before. -/
theorem x_ext {g o : ℕ} (ho : 128 * g = o) (hg : g < 4) (h : S512x512.Slices ![0, o] S512x128) (h' : S16x512.Slices ![0, o] S16x128)
    (hc : Shape.Concatenates [S16x128, S512x128] S528x128 0) :
    Sums (concatenate S528x128 0 [⟨S16x128, mulf (extractStridedSlice S16x128 ![0, o] (k0_pay6 x6) h') (broadcast S16x128 (k0_pay3 (F := Ideal) i))⟩,
        ⟨S512x128, extractStridedSlice S512x128 ![0, o] (k0_pay5 x3) h⟩] hc)
      (fun t c => d.x (512 * (i 0).val + t - 16) (128 * g + c)) 1 0 := by
  apply Sums.one
  refine halo_first _ (fun t c => d.x (512 * (i 0).val + t - 16) (128 * g + c)) ?_ ?_
  · intro r a
    have := r.isLt; have := a.isLt
    rw [mulf_apply, slice_apply _ _ r a (by omega) (by omega)]
    show x6 _ * k0_pay3 (F := Ideal) i = _
    rw [first_eq]
    by_cases h : (i 0).val = 0
    · rw [if_pos h, mul_zero]
      show _ = d.x _ _
      rw [(B.before _ (by omega) _).2]
    · rw [if_neg h, mul_one, B.xPrev h]
      subst ho
      simp only [Nat.zero_add]
  · intro r a
    rw [x_cols B ho hg]
    show _ = d.x _ _
    congr 1; ring

omit B in
/-- A group's mixed channels, scaled. -/
theorem scaled_of {g : ℕ} {L : FVec Ideal S512x128 .f32} (hL : ∀ (r : Fin 512) (b : Fin 128), L (ix2 r b) = d.lin g (512 * (i 0).val + r.val) b.val)
    {v : Vec Ideal S1x128 .f32} (hv : ∀ b : Fin 128, v (ix2 0 b) = d.ps (128 * g + b.val)) (h : S1x128.Broadcasts S512x128) (r : Fin 512) (b : Fin 128) :
    (truncf .bf16 (mulf L (broadcastTo S512x128 v h)) bitsLt_bf16_f32 : FVec Ideal S512x128 .bf16) (ix2 r b)
      = d.lin g (512 * (i 0).val + r.val) b.val * d.ps (128 * g + b.val) := by
  rw [truncf_apply, mulf_apply, row_apply _ _ _ _ (by omega), hv, hL]
  rfl

/-- Group 0, windows of 2 rows. -/
theorem group0_apply {M : Vec Ideal S1x128x128 .bf16} (hM : ∀ a b : Fin 128, M (ix3 0 a b) = d.pw 0 a.val b.val)
    {v : Vec Ideal S1x128 .f32} (hv : ∀ b : Fin 128, v (ix2 0 b) = d.ps (128 * 0 + b.val)) (r : Fin 512) (b : Fin 128) :
    k0_pay8 (BitVec.ofNat 32 (i 0).val) (k0_pay3 i) x3 x6 M v (ix2 r b)
      = d.lin 0 (512 * (i 0).val + r.val) b.val * d.ps (128 * 0 + b.val) := by
  unfold k0_pay8
  exact scaled_of (g := 0) (lin_of (i := i) (g := 0) (fun r a => pooled_of (i := i) (g := 0) (w := 2) rfl B.lt (by omega) (by decide)
      ((x_ext B (g := 0) (by omega) (by omega) _ _ _).double (w := 1) 1#32 rfl rotates_S528x128_d0 (by omega))
      (x_cols B (g := 0) (by omega) (by omega) _) (rows_word _) _ _ r a) (mat_of _ hM)) hv _ r b

/-- Group 1, windows of 4 rows. -/
theorem group1_apply {M : Vec Ideal S1x128x128 .bf16} (hM : ∀ a b : Fin 128, M (ix3 0 a b) = d.pw 1 a.val b.val)
    {v : Vec Ideal S1x128 .f32} (hv : ∀ b : Fin 128, v (ix2 0 b) = d.ps (128 * 1 + b.val)) (r : Fin 512) (b : Fin 128) :
    k0_pay12 (k0_pay9 x3) (k0_pay10 (k0_pay3 i) x3 x6) (k0_pay11 (BitVec.ofNat 32 (i 0).val)) 1#32 M v (ix2 r b)
      = d.lin 1 (512 * (i 0).val + r.val) b.val * d.ps (128 * 1 + b.val) := by
  unfold k0_pay12 k0_pay11 k0_pay10 k0_pay9
  exact scaled_of (g := 1) (lin_of (i := i) (g := 1) (fun r a => pooled_of (i := i) (g := 1) (w := 4) rfl B.lt (by omega) (by decide)
      (((x_ext B (g := 1) (by omega) (by omega) _ _ _).double (w := 1) 1#32 rfl rotates_S528x128_d0 (by omega)).double (w := 2) 2#32 rfl rotates_S528x128_d0 (by omega))
      (x_cols B (g := 1) (by omega) (by omega) _) (rows_word _) _ _ r a) (mat_of _ hM)) hv _ r b

/-- Group 2, windows of 8 rows. -/
theorem group2_apply {M : Vec Ideal S1x128x128 .bf16} (hM : ∀ a b : Fin 128, M (ix3 0 a b) = d.pw 2 a.val b.val)
    {v : Vec Ideal S1x128 .f32} (hv : ∀ b : Fin 128, v (ix2 0 b) = d.ps (128 * 2 + b.val)) (r : Fin 512) (b : Fin 128) :
    k0_pay1 (k0_pay13 (k0_pay3 i) (k0_pay5 x3) (k0_pay6 x6) (k0_pay7 (BitVec.ofNat 32 (i 0).val)) M) v (ix2 r b)
      = d.lin 2 (512 * (i 0).val + r.val) b.val * d.ps (128 * 2 + b.val) := by
  unfold k0_pay1 k0_pay13
  exact scaled_of (g := 2) (lin_of (i := i) (g := 2) (fun r a => pooled_of (i := i) (g := 2) (w := 8) rfl B.lt (by omega) (by decide)
      ((((x_ext B (g := 2) (by omega) (by omega) _ _ _).double (w := 1) 1#32 rfl rotates_S528x128_d0 (by omega)).double (w := 2) 2#32 rfl rotates_S528x128_d0 (by omega)).double (w := 4) 4#32 rfl rotates_S528x128_d0 (by omega))
      (x_cols B (g := 2) (by omega) (by omega) _) (rows_word _) _ _ r a) (mat_of _ hM)) hv _ r b

/-- Group 3, windows of 16 rows. -/
theorem group3_apply {M : Vec Ideal S1x128x128 .bf16} (hM : ∀ a b : Fin 128, M (ix3 0 a b) = d.pw 3 a.val b.val)
    {v : Vec Ideal S1x128 .f32} (hv : ∀ b : Fin 128, v (ix2 0 b) = d.ps (128 * 3 + b.val)) (r : Fin 512) (b : Fin 128) :
    k0_pay2 (k0_pay3 i) (k0_pay5 x3) (k0_pay6 x6) (k0_pay7 (BitVec.ofNat 32 (i 0).val)) M v (ix2 r b)
      = d.lin 3 (512 * (i 0).val + r.val) b.val * d.ps (128 * 3 + b.val) := by
  unfold k0_pay2
  exact scaled_of (g := 3) (lin_of (i := i) (g := 3) (fun r a => pooled_of (i := i) (g := 3) (w := 16) rfl B.lt (by omega) (by decide)
      (((((x_ext B (g := 3) (by omega) (by omega) _ _ _).double (w := 1) 1#32 rfl rotates_S528x128_d0 (by omega)).double (w := 2) 2#32 rfl rotates_S528x128_d0 (by omega)).double (w := 4) 4#32 rfl rotates_S528x128_d0 (by omega)).double (w := 8) 8#32 rfl rotates_S528x128_d0 (by omega))
      (x_cols B (g := 3) (by omega) (by omega) _) (rows_word _) _ _ r a) (mat_of _ hM)) hv _ r b

theorem ld_pw (g : Fin 4) {inb} (a b : Fin 128) :
    View.ld x8 (Rect.unit ![g.val, 0, 0] ![1, 128, 128] inb) (ix3 0 a b) = d.pw g.val a.val b.val :=
  (View.ld_unit_apply_of _ _ _ _ _ (ix3 g a b) (by exact three rfl (Nat.zero_add _).symm (Nat.zero_add _).symm)).trans (B.pw g a b)

theorem ld_ps (g : Fin 4) {o : ℕ} (ho : o = 128 * g.val) {inb} (b : Fin 128) :
    View.ld x9 (Rect.unit ![0, o] ![1, 128] inb) (ix2 0 b) = d.ps (128 * g.val + b.val) := by
  have := g.isLt; have := b.isLt
  subst ho
  exact (View.ld_unit_apply_of _ _ _ _ _ (ix2 0 ⟨128 * g.val + b.val, by omega⟩) (by exact two rfl rfl)).trans (B.ps _)

omit B
variable {m : (ℓ : Loc nD τ sig) → Buf (Elt Ideal) ℓ} {c : Dev nD} {t : Fin cfg0.N}

/-- What a grid point leaves in the output block. -/
theorem out_at (B : Blocks d (grid0.coords t) (iblk m c 0 t) (iblk m c 1 t) (iblk m c 2 t) (iblk m c 3 t) (iblk m c 4 t) (iblk m c 5 t)
    (iblk m c 6 t) (iblk m c 7 t) (iblk m c 8 t) (iblk m c 9 t)) (r : Fin 512) (q : Fin 1024) :
    outsAt0 m c t (ix2 r q) = mixed d (512 * (grid0.coords t 0).val + r.val) q.val := by
  unfold outsAt0
  frame_out
  revert B
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize grid0.coords t = i
  intro B
  have := q.isLt
  by_cases h896 : 896 ≤ q.val
  · obtain ⟨p, hp⟩ : ∃ p : Fin 128, q.val = 896 + p.val := ⟨⟨q.val - 896, by omega⟩, by show _ = 896 + (q.val - 896); omega⟩
    rw [hp]
    refine (canon_hit (ix2 r p) (by exact two (Nat.zero_add _).symm hp)).trans ?_
    exact (group3_apply B (ld_pw B 3) (ld_ps B 3 rfl) r p).trans (mixed_pool d _ 3 896 rfl _).symm
  refine (canon_miss 1 (Or.inl (show q.val < 896 by omega))).trans ?_
  by_cases h768 : 768 ≤ q.val
  · obtain ⟨p, hp⟩ : ∃ p : Fin 128, q.val = 768 + p.val := ⟨⟨q.val - 768, by omega⟩, by show _ = 768 + (q.val - 768); omega⟩
    rw [hp]
    refine (canon_hit (ix2 r p) (by exact two (Nat.zero_add _).symm hp)).trans ?_
    exact (group2_apply B (ld_pw B 2) (ld_ps B 2 rfl) r p).trans (mixed_pool d _ 2 768 rfl _).symm
  refine (canon_miss 1 (Or.inl (show q.val < 768 by omega))).trans ?_
  by_cases h640 : 640 ≤ q.val
  · obtain ⟨p, hp⟩ : ∃ p : Fin 128, q.val = 640 + p.val := ⟨⟨q.val - 640, by omega⟩, by show _ = 640 + (q.val - 640); omega⟩
    rw [hp]
    refine (canon_hit (ix2 r p) (by exact two (Nat.zero_add _).symm hp)).trans ?_
    exact (group1_apply B (ld_pw B 1) (ld_ps B 1 rfl) r p).trans (mixed_pool d _ 1 640 rfl _).symm
  refine (canon_miss 1 (Or.inl (show q.val < 640 by omega))).trans ?_
  by_cases h512 : 512 ≤ q.val
  · obtain ⟨p, hp⟩ : ∃ p : Fin 128, q.val = 512 + p.val := ⟨⟨q.val - 512, by omega⟩, by show _ = 512 + (q.val - 512); omega⟩
    rw [hp]
    refine (canon_hit (ix2 r p) (by exact two (Nat.zero_add _).symm hp)).trans ?_
    exact (group0_apply B (ld_pw B 0) (ld_ps B 0 rfl) r p).trans (mixed_pool d _ 0 512 rfl _).symm
  refine (canon_miss 1 (Or.inl (show q.val < 512 by omega))).trans ?_
  obtain ⟨p, hp⟩ : ∃ p : Fin 512, q.val = 0 + p.val := ⟨⟨q.val - 0, by omega⟩, by show _ = 0 + (q.val - 0); omega⟩
  rw [hp]
  refine (canon_hit (ix2 r p) (by exact two (Nat.zero_add _).symm hp)).trans ?_
  exact (conv_apply B r p).trans (mixed_conv d _ _).symm

variable (m c)

/-- The four arguments, and the arrays they hold. -/
abbrev argZ : S8192x5120.Idx → EReal := m ((c : Thread nD τ).loc main_arg0)
abbrev argCw : S3x512.Idx → EReal := m ((c : Thread nD τ).loc main_arg1)
abbrev argPw : S4x128x128.Idx → EReal := m ((c : Thread nD τ).loc main_arg2)
abbrev argPs : S1x512.Idx → EReal := m ((c : Thread nD τ).loc main_arg3)

/-- The arrays of the arguments; there is no incoming gradient. -/
def arrays (z : S8192x5120.Idx → EReal) (cw : S3x512.Idx → EReal) (pw : S4x128x128.Idx → EReal) (ps : S1x512.Idx → EReal) : Data :=
  dataOf z (fun _ => 0) cw pw ps

theorem coords_val (t : Fin cfg0.N) : (grid0.coords t 0).val = t.val :=
  (by decide +kernel : ∀ t : Fin grid0.N, (grid0.coords t 0).val = t.val) t

theorem index0 (t : Fin cfg0.N) : win0_0.index t 0 = t.val ∧ win0_0.index t 1 = 6 :=
  (by decide +kernel : ∀ t : Fin grid0.N, win0_0.index t 0 = t.val ∧ win0_0.index t 1 = 6) t

theorem index1 (t : Fin cfg0.N) : win0_1.index t 0 = t.val ∧ win0_1.index t 1 = 7 :=
  (by decide +kernel : ∀ t : Fin grid0.N, win0_1.index t 0 = t.val ∧ win0_1.index t 1 = 7) t

theorem index2 (t : Fin cfg0.N) : win0_2.index t 0 = t.val ∧ win0_2.index t 1 = 8 :=
  (by decide +kernel : ∀ t : Fin grid0.N, win0_2.index t 0 = t.val ∧ win0_2.index t 1 = 8) t

theorem index3 (t : Fin cfg0.N) : win0_3.index t 0 = t.val ∧ win0_3.index t 1 = 9 :=
  (by decide +kernel : ∀ t : Fin grid0.N, win0_3.index t 0 = t.val ∧ win0_3.index t 1 = 9) t

theorem index4 (t : Fin cfg0.N) : win0_4.index t 0 = 32 * t.val - 1 ∧ win0_4.index t 1 = 7 :=
  (by decide +kernel : ∀ t : Fin grid0.N, win0_4.index t 0 = 32 * t.val - 1 ∧ win0_4.index t 1 = 7) t

theorem index5 (t : Fin cfg0.N) : win0_5.index t 0 = 32 * t.val - 1 ∧ win0_5.index t 1 = 8 :=
  (by decide +kernel : ∀ t : Fin grid0.N, win0_5.index t 0 = 32 * t.val - 1 ∧ win0_5.index t 1 = 8) t

theorem index6 (t : Fin cfg0.N) : win0_6.index t 0 = 32 * t.val - 1 ∧ win0_6.index t 1 = 9 :=
  (by decide +kernel : ∀ t : Fin grid0.N, win0_6.index t 0 = 32 * t.val - 1 ∧ win0_6.index t 1 = 9) t

theorem index7 (t : Fin cfg0.N) : win0_7.index t 0 = 0 ∧ win0_7.index t 1 = 0 :=
  (by decide +kernel : ∀ t : Fin grid0.N, win0_7.index t 0 = 0 ∧ win0_7.index t 1 = 0) t

theorem index9 (t : Fin cfg0.N) : win0_9.index t 0 = 0 ∧ win0_9.index t 1 = 0 :=
  (by decide +kernel : ∀ t : Fin grid0.N, win0_9.index t 0 = 0 ∧ win0_9.index t 1 = 0) t

theorem index10 (t : Fin cfg0.N) : win0_10.index t 0 = t.val ∧ win0_10.index t 1 = 0 :=
  (by decide +kernel : ∀ t : Fin grid0.N, win0_10.index t 0 = t.val ∧ win0_10.index t 1 = 0) t

theorem index8 (t : Fin cfg0.N) : win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0) t

theorem block0 (t : Fin cfg0.N) (r : Fin 512) (q : Fin 512) (i : Fin 8192) (j : Fin 5120)
    (hi : i.val = (t.val) * 512 + r.val) (hj : j.val = 6 * 512 + q.val) : iblk m c 0 t (ix2 r q) = argZ m c (ix2 i j) := by
  blk_simp [iblk]
  rw [V_main_arg0]
  obtain ⟨h0, h1⟩ := index0 t
  refine congrArg (m ((c : Thread nD τ).loc main_arg0)) (Shape.idx_ext₂ ?_ ?_)
  · blk_simp
    rw [h0]; exact hi.symm
  · blk_simp
    rw [h1]; exact hj.symm

theorem block1 (t : Fin cfg0.N) (r : Fin 512) (q : Fin 512) (i : Fin 8192) (j : Fin 5120)
    (hi : i.val = (t.val) * 512 + r.val) (hj : j.val = 7 * 512 + q.val) : iblk m c 1 t (ix2 r q) = argZ m c (ix2 i j) := by
  blk_simp [iblk]
  rw [V_main_arg0]
  obtain ⟨h0, h1⟩ := index1 t
  refine congrArg (m ((c : Thread nD τ).loc main_arg0)) (Shape.idx_ext₂ ?_ ?_)
  · blk_simp
    rw [h0]; exact hi.symm
  · blk_simp
    rw [h1]; exact hj.symm

theorem block2 (t : Fin cfg0.N) (r : Fin 512) (q : Fin 512) (i : Fin 8192) (j : Fin 5120)
    (hi : i.val = (t.val) * 512 + r.val) (hj : j.val = 8 * 512 + q.val) : iblk m c 2 t (ix2 r q) = argZ m c (ix2 i j) := by
  blk_simp [iblk]
  rw [V_main_arg0]
  obtain ⟨h0, h1⟩ := index2 t
  refine congrArg (m ((c : Thread nD τ).loc main_arg0)) (Shape.idx_ext₂ ?_ ?_)
  · blk_simp
    rw [h0]; exact hi.symm
  · blk_simp
    rw [h1]; exact hj.symm

theorem block3 (t : Fin cfg0.N) (r : Fin 512) (q : Fin 512) (i : Fin 8192) (j : Fin 5120)
    (hi : i.val = (t.val) * 512 + r.val) (hj : j.val = 9 * 512 + q.val) : iblk m c 3 t (ix2 r q) = argZ m c (ix2 i j) := by
  blk_simp [iblk]
  rw [V_main_arg0]
  obtain ⟨h0, h1⟩ := index3 t
  refine congrArg (m ((c : Thread nD τ).loc main_arg0)) (Shape.idx_ext₂ ?_ ?_)
  · blk_simp
    rw [h0]; exact hi.symm
  · blk_simp
    rw [h1]; exact hj.symm

theorem block4 (t : Fin cfg0.N) (r : Fin 16) (q : Fin 512) (i : Fin 8192) (j : Fin 5120)
    (hi : i.val = (32 * t.val - 1) * 16 + r.val) (hj : j.val = 7 * 512 + q.val) : iblk m c 4 t (ix2 r q) = argZ m c (ix2 i j) := by
  blk_simp [iblk]
  rw [V_main_arg0]
  obtain ⟨h0, h1⟩ := index4 t
  refine congrArg (m ((c : Thread nD τ).loc main_arg0)) (Shape.idx_ext₂ ?_ ?_)
  · blk_simp
    rw [h0]; exact hi.symm
  · blk_simp
    rw [h1]; exact hj.symm

theorem block5 (t : Fin cfg0.N) (r : Fin 16) (q : Fin 512) (i : Fin 8192) (j : Fin 5120)
    (hi : i.val = (32 * t.val - 1) * 16 + r.val) (hj : j.val = 8 * 512 + q.val) : iblk m c 5 t (ix2 r q) = argZ m c (ix2 i j) := by
  blk_simp [iblk]
  rw [V_main_arg0]
  obtain ⟨h0, h1⟩ := index5 t
  refine congrArg (m ((c : Thread nD τ).loc main_arg0)) (Shape.idx_ext₂ ?_ ?_)
  · blk_simp
    rw [h0]; exact hi.symm
  · blk_simp
    rw [h1]; exact hj.symm

theorem block6 (t : Fin cfg0.N) (r : Fin 16) (q : Fin 512) (i : Fin 8192) (j : Fin 5120)
    (hi : i.val = (32 * t.val - 1) * 16 + r.val) (hj : j.val = 9 * 512 + q.val) : iblk m c 6 t (ix2 r q) = argZ m c (ix2 i j) := by
  blk_simp [iblk]
  rw [V_main_arg0]
  obtain ⟨h0, h1⟩ := index6 t
  refine congrArg (m ((c : Thread nD τ).loc main_arg0)) (Shape.idx_ext₂ ?_ ?_)
  · blk_simp
    rw [h0]; exact hi.symm
  · blk_simp
    rw [h1]; exact hj.symm

theorem block7 (t : Fin cfg0.N) (r : Fin 3) (q : Fin 512) (i : Fin 3) (j : Fin 512)
    (hi : i.val = (0) * 3 + r.val) (hj : j.val = 0 * 512 + q.val) : iblk m c 7 t (ix2 r q) = argCw m c (ix2 i j) := by
  blk_simp [iblk]
  rw [V_main_arg1]
  obtain ⟨h0, h1⟩ := index7 t
  refine congrArg (m ((c : Thread nD τ).loc main_arg1)) (Shape.idx_ext₂ ?_ ?_)
  · blk_simp
    rw [h0]; exact hi.symm
  · blk_simp
    rw [h1]; exact hj.symm

theorem block9 (t : Fin cfg0.N) (r : Fin 1) (q : Fin 512) (i : Fin 1) (j : Fin 512)
    (hi : i.val = (0) * 1 + r.val) (hj : j.val = 0 * 512 + q.val) : iblk m c 9 t (ix2 r q) = argPs m c (ix2 i j) := by
  blk_simp [iblk]
  rw [V_main_arg3]
  obtain ⟨h0, h1⟩ := index9 t
  refine congrArg (m ((c : Thread nD τ).loc main_arg3)) (Shape.idx_ext₂ ?_ ?_)
  · blk_simp
    rw [h0]
  · blk_simp
    rw [h1]; exact hj.symm

theorem block8 (t : Fin cfg0.N) (g : Fin 4) (a b : Fin 128) : iblk m c 8 t (ix3 g a b) = argPw m c (ix3 g a b) := by
  blk_simp [iblk]
  obtain ⟨h0, h1, h2⟩ := index8 t
  entry_read
  show m ((c : Thread nD τ).loc main_arg2) _ = _
  refine congrArg (m ((c : Thread nD τ).loc main_arg2)) (funext fun x => Fin.ext ?_)
  match x with
  | 0 => blk_simp; rw [h0]; exact Nat.zero_add _
  | 1 => blk_simp; rw [h1]; exact Nat.zero_add _
  | 2 => blk_simp; rw [h2]; exact Nat.zero_add _

theorem arrays_gb (z : S8192x5120.Idx → EReal) (cw : S3x512.Idx → EReal) (pw : S4x128x128.Idx → EReal) (ps : S1x512.Idx → EReal) (t : ℤ) (q : ℕ) :
    (arrays z cw pw ps).gb t q = at2 (n := 8192) (k := 5120) z t (3072 + q) := rfl

theorem arrays_gc (z : S8192x5120.Idx → EReal) (cw : S3x512.Idx → EReal) (pw : S4x128x128.Idx → EReal) (ps : S1x512.Idx → EReal) (t : ℤ) (q : ℕ) :
    (arrays z cw pw ps).gc t q = at2 (n := 8192) (k := 5120) z t (3584 + q) := rfl

theorem arrays_ci (z : S8192x5120.Idx → EReal) (cw : S3x512.Idx → EReal) (pw : S4x128x128.Idx → EReal) (ps : S1x512.Idx → EReal) (t : ℤ) (q : ℕ) :
    (arrays z cw pw ps).ci t q = at2 (n := 8192) (k := 5120) z t (4096 + q) := rfl

theorem arrays_x (z : S8192x5120.Idx → EReal) (cw : S3x512.Idx → EReal) (pw : S4x128x128.Idx → EReal) (ps : S1x512.Idx → EReal) (t : ℤ) (q : ℕ) :
    (arrays z cw pw ps).x t q = at2 (n := 8192) (k := 5120) z t (4608 + q) := rfl

/-- What a grid point reads, as parts of the arguments. -/
theorem blocks (t : Fin cfg0.N) : Blocks (arrays (argZ m c) (argCw m c) (argPw m c) (argPs m c)) (grid0.coords t) (iblk m c 0 t) (iblk m c 1 t) (iblk m c 2 t)
    (iblk m c 3 t) (iblk m c 4 t) (iblk m c 5 t) (iblk m c 6 t) (iblk m c 7 t) (iblk m c 8 t) (iblk m c 9 t) := by
  have ht : t.val < 16 := t.isLt
  constructor
  · exact (coords_val t).trans_lt ht
  · intro r q
    have := r.isLt; have := q.isLt
    rw [coords_val, block0 m c t r q ⟨512 * t.val + r.val, by omega⟩ ⟨3072 + q.val, by omega⟩ (by show 512 * t.val + r.val = _; omega) rfl]
    rw [arrays_gb, at2_of (n := 8192) (k := 5120) _ ⟨512 * t.val + r.val, by omega⟩ ⟨3072 + q.val, by omega⟩ (by show _ = ((512 * t.val + r.val : ℕ) : ℤ); omega) rfl]
  · intro r q
    have := r.isLt; have := q.isLt
    rw [coords_val, block1 m c t r q ⟨512 * t.val + r.val, by omega⟩ ⟨3584 + q.val, by omega⟩ (by show 512 * t.val + r.val = _; omega) rfl]
    rw [arrays_gc, at2_of (n := 8192) (k := 5120) _ ⟨512 * t.val + r.val, by omega⟩ ⟨3584 + q.val, by omega⟩ (by show _ = ((512 * t.val + r.val : ℕ) : ℤ); omega) rfl]
  · intro r q
    have := r.isLt; have := q.isLt
    rw [coords_val, block2 m c t r q ⟨512 * t.val + r.val, by omega⟩ ⟨4096 + q.val, by omega⟩ (by show 512 * t.val + r.val = _; omega) rfl]
    rw [arrays_ci, at2_of (n := 8192) (k := 5120) _ ⟨512 * t.val + r.val, by omega⟩ ⟨4096 + q.val, by omega⟩ (by show _ = ((512 * t.val + r.val : ℕ) : ℤ); omega) rfl]
  · intro r q
    have := r.isLt; have := q.isLt
    rw [coords_val, block3 m c t r q ⟨512 * t.val + r.val, by omega⟩ ⟨4608 + q.val, by omega⟩ (by show 512 * t.val + r.val = _; omega) rfl]
    rw [arrays_x, at2_of (n := 8192) (k := 5120) _ ⟨512 * t.val + r.val, by omega⟩ ⟨4608 + q.val, by omega⟩ (by show _ = ((512 * t.val + r.val : ℕ) : ℤ); omega) rfl]
  · intro h r q
    rw [coords_val] at h ⊢
    have := r.isLt; have := q.isLt
    rw [block4 m c t r q ⟨512 * t.val + r.val - 16, by omega⟩ ⟨3584 + q.val, by omega⟩ (by show 512 * t.val + r.val - 16 = _; omega) rfl]
    rw [arrays_gc, at2_of (n := 8192) (k := 5120) _ ⟨512 * t.val + r.val - 16, by omega⟩ ⟨3584 + q.val, by omega⟩ (by show _ = ((512 * t.val + r.val - 16 : ℕ) : ℤ); omega) rfl]
  · intro h r q
    rw [coords_val] at h ⊢
    have := r.isLt; have := q.isLt
    rw [block5 m c t r q ⟨512 * t.val + r.val - 16, by omega⟩ ⟨4096 + q.val, by omega⟩ (by show 512 * t.val + r.val - 16 = _; omega) rfl]
    rw [arrays_ci, at2_of (n := 8192) (k := 5120) _ ⟨512 * t.val + r.val - 16, by omega⟩ ⟨4096 + q.val, by omega⟩ (by show _ = ((512 * t.val + r.val - 16 : ℕ) : ℤ); omega) rfl]
  · intro h r q
    rw [coords_val] at h ⊢
    have := r.isLt; have := q.isLt
    rw [block6 m c t r q ⟨512 * t.val + r.val - 16, by omega⟩ ⟨4608 + q.val, by omega⟩ (by show 512 * t.val + r.val - 16 = _; omega) rfl]
    rw [arrays_x, at2_of (n := 8192) (k := 5120) _ ⟨512 * t.val + r.val - 16, by omega⟩ ⟨4608 + q.val, by omega⟩ (by show _ = ((512 * t.val + r.val - 16 : ℕ) : ℤ); omega) rfl]
  · intro k q
    rw [block7 m c t k q k q (by omega) (by omega)]
    exact Eq.symm (at2_of (n := 3) (k := 512) _ _ _ rfl rfl)
  · intro g a b
    rw [block8]
    exact Eq.symm (at3_of _ _ _ _)
  · intro q
    rw [block9 m c t 0 q 0 q (by simp) (by omega)]
    exact Eq.symm (at2_of (n := 1) (k := 512) _ _ _ rfl rfl)
  · intro t h q
    exact ⟨at2_out _ _ (.inl h), at2_out _ _ (.inl h)⟩

/-- The mixer's output, as an array. -/
def branches (z : S8192x5120.Idx → EReal) (cw : S3x512.Idx → EReal) (pw : S4x128x128.Idx → EReal) (ps : S1x512.Idx → EReal) (y : S8192x1024.Idx) : EReal :=
  mixed (arrays z cw pw ps) (y 0).val (y 1).val

theorem result10 : (dats m 0 c).arrAt 10 cfg0.N = branches (argZ m c) (argCw m c) (argPw m c) (argPs m c) := by
  refine (dats m 0 c).arrAt_eq_of_covers 10 _ (by decide +kernel) fun t hf y => ?_
  have hN : t.val < 16 := t.isLt
  blk_simp
  rw [after0_10]
  obtain ⟨h0, h1⟩ := index10 t
  obtain ⟨r, q, rfl⟩ : ∃ (r : Fin 512) (q : Fin 1024), y = ix2 r q := ⟨y 0, y 1, funext fun a => match a with | 0 => rfl | 1 => rfl⟩
  have hr := r.isLt
  refine (out_at (blocks m c t) r q).trans ?_
  rw [coords_val]
  have e : branches (argZ m c) (argCw m c) (argPw m c) (argPs m c) (ix2 ⟨t.val * 512 + r.val, by omega⟩ q)
      = mixed (arrays (argZ m c) (argCw m c) (argPw m c) (argPs m c)) (512 * t.val + r.val) q.val := by
    show mixed _ ((t.val * 512 + r.val : ℕ) : ℤ) q.val = _
    rw [show ((t.val * 512 + r.val : ℕ) : ℤ) = 512 * t.val + r.val by push_cast; ring]
  rw [← e]
  refine congrArg _ (Shape.idx_ext₂ ?_ ?_)
  · blk_simp
    rw [h0]
  · blk_simp
    rw [h1]; exact (Nat.zero_add _).symm

end Cert.MixFwd

end
-- ==== Proof.MixRef.lean ====
module

public import proofs.«01_k».proof.Proof.MixFwd
public import proofs.«01_k».proof.Proof.Bounds
public import proofs.«01_k».proof.Proof.Ops
public import proofs.«01_k».proof.Pre_rows_finite
public import proofs.«01_k».proof.Proof.Gen.Reference16Ideal.Read

/-!
# The convolution and pooling branches, forwards: the reference

The reference's stages at an index: the gated convolution over the rows with two rows of zeros before them, the windows' sums as
differences of the running sums, and the mixed channels.
-/

@[expose] public section

set_option maxRecDepth 16384

noncomputable section

namespace Cert.MixFwd

section Pre

open Cert.Pre_rows_finite Cert.Mix Idealize.ShloMosaic

/-- The precondition's side conditions. -/
theorem preFacts : Cert.Pre_rows_finite.Facts where
  slices_S8192x5120_S8192x512_0_4608 := by decide
  bitsLt_bf16_f32 := by decide
  bcast_S_S8192x512 := by decide
  reducesTo_S8192x512_S_d0_1 := by decide
  h_S_ := by decide

instance : Subsingleton S_.Idx := ⟨fun _ _ => funext fun a => a.elim0⟩

variable [Facts] (z : FVec Ideal S8192x5120 .bf16) (cw : FVec Ideal S3x512 .f32) (pw : FVec Ideal S4x128x128 .f32) (ps : FVec Ideal S1x512 .f32)

/-- Under the precondition the pooled branch's input is finite. -/
theorem real_of_pre (h : fn (F := Ideal) z cw pw ps = fun _ => 1#1) (t : ℤ) (c : ℕ) : IsReal (at2 (n := 8192) (k := 5120) z t (4608 + c)) := by
  unfold fn at h
  dsimp only at h
  refine .at2 t _ fun j hj => ?_
  have hc : (j 1).val < 5120 := (j 1).isLt
  have e := isReal_of_cmpf (Host.reduce_andi_all _ _ _ _ _ (congrFun h (fun a => a.elim0)) (ix2 (j 0) ⟨c, by omega⟩))
  rw [extf_apply] at e
  have hs := extractStridedSlice_apply ![0, 4608] z Facts.slices_S8192x5120_S8192x512_0_4608
    (ix2 (j 0) ⟨c, by omega⟩ : S8192x512.Idx) j fun a => match a with | 0 => (Nat.zero_add _).symm | 1 => hj
  exact hs ▸ e

end Pre

open Cert.Reference16Ideal Cert.Reference16Ideal.Gen Cert.Reference16Ideal.Read Cert.Mix Idealize.ShloMosaic Idealize.ShloMosaic.TcCoe

variable (z : (⟨S8192x5120, .bf16⟩ : BufTy).Contents (Elt Ideal)) (cw : (⟨S3x512, .f32⟩ : BufTy).Contents (Elt Ideal))
  (pw : (⟨S4x128x128, .f32⟩ : BufTy).Contents (Elt Ideal)) (ps : (⟨S1x512, .f32⟩ : BufTy).Contents (Elt Ideal))

theorem zero_word : (FloatOps.ofBits (F := Ideal) .f32 0x00000000#32 : EReal) = 0 := by
  simp

theorem x_before (t : ℤ) (ht : t < 0) (c : ℕ) : (arrays z cw pw ps).x t c = 0 := by
  rw [arrays_x, at2_out z _ (Or.inl ht)]

theorem gb_at (i : S8192x512.Idx) : val_main_v2 (F := Ideal) z i = (arrays z cw pw ps).gb (i 0).val (i 1).val := by
  rw [val_main_v2_apply, val_main_v1_apply, val_main_v0_apply, arrays_gb]
  exact (at2_at (n := 8192) (k := 5120) z _ (by dsimp only) (by dsimp only)).symm

theorem gc_at (i : S8192x512.Idx) : val_main_v3 (F := Ideal) z i = (arrays z cw pw ps).gc (i 0).val (i 1).val := by
  rw [val_main_v3_apply, val_main_v1_apply, val_main_v0_apply, arrays_gc]
  exact (at2_at (n := 8192) (k := 5120) z _ (by dsimp only) (by dsimp only; omega)).symm

theorem ci_at (i : S8192x512.Idx) : val_main_v4 (F := Ideal) z i = (arrays z cw pw ps).ci (i 0).val (i 1).val := by
  rw [val_main_v4_apply, val_main_v1_apply, val_main_v0_apply, arrays_ci]
  exact (at2_at (n := 8192) (k := 5120) z _ (by dsimp only) (by dsimp only; omega)).symm

theorem x_at (i : S8192x512.Idx) : val_main_v5 (F := Ideal) z i = (arrays z cw pw ps).x (i 0).val (i 1).val := by
  rw [val_main_v5_apply, val_main_v1_apply, val_main_v0_apply, arrays_x]
  exact (at2_at (n := 8192) (k := 5120) z _ (by dsimp only) (by dsimp only; omega)).symm

/-- The gated input. -/
theorem u_at (i : S8192x512.Idx) : val_main_v6 (F := Ideal) z i = (arrays z cw pw ps).u (i 0).val (i 1).val := by
  rw [val_main_v6_apply, gc_at z cw pw ps, ci_at z cw pw ps]
  rfl

/-- A row of the gated input; the rows outside the sequence are zero. -/
theorem u_rows (t : ℤ) (c : ℕ) (hc : c < 512) : at2 (val_main_v6 (F := Ideal) z) t c = (arrays z cw pw ps).u t c := by
  by_cases ht : 0 ≤ t ∧ t < 8192
  · rw [at2_of (val_main_v6 (F := Ideal) z) ⟨t.toNat, by omega⟩ ⟨c, hc⟩ (by dsimp only; omega) rfl, u_at z cw pw ps]
    show (arrays z cw pw ps).u ((t.toNat : ℕ) : ℤ) c = _
    rw [Int.toNat_of_nonneg ht.1]
  · rw [at2_out _ _ (by omega)]
    show 0 = at2 z t (3584 + c) * at2 z t (4096 + c)
    rw [at2_out z _ (by omega), zero_mul]

theorem padded_at (i : S8194x512.Idx) : val_main_v8 (F := Ideal) z i = (arrays z cw pw ps).u ((i 0).val - 2) (i 1).val :=
  (rows_at _ _ _ (fun j => by rw [val_main_v7_apply, val_main_cst_apply, zero_word]) i).trans (u_rows z cw pw ps _ _ (i 1).isLt)

theorem u0_at (i : S8192x512.Idx) : val_main_v11 (F := Ideal) z i = (arrays z cw pw ps).u ((i 0).val - 2) (i 1).val := by
  rw [val_main_v11_apply, padded_at z cw pw ps]

theorem u1_at (i : S8192x512.Idx) : val_main_v17 (F := Ideal) z i = (arrays z cw pw ps).u ((i 0).val - 1) (i 1).val := by
  rw [val_main_v17_apply, padded_at z cw pw ps]
  congr 1
  show ((1 + (i 0).val : ℕ) : ℤ) - 2 = (i 0).val - 1
  omega

theorem u2_at (i : S8192x512.Idx) : val_main_v24 (F := Ideal) z i = (arrays z cw pw ps).u ((i 0).val) (i 1).val := by
  rw [val_main_v24_apply, padded_at z cw pw ps]
  congr 1
  show ((2 + (i 0).val : ℕ) : ℤ) - 2 = (i 0).val
  omega

theorem tap0_at (i : S8192x512.Idx) : val_main_v13 (F := Ideal) cw i = (arrays z cw pw ps).cw 0 (i 1).val := by
  rw [val_main_v13_apply, val_main_v12_apply, val_main_v10_apply, val_main_v9_apply]
  have h : (i 1).val < 512 := (i 1).isLt
  exact (at2_at cw _ rfl (by show (i 1).val = (i 1).val % 512; omega)).symm

theorem tap1_at (i : S8192x512.Idx) : val_main_v19 (F := Ideal) cw i = (arrays z cw pw ps).cw 1 (i 1).val := by
  rw [val_main_v19_apply, val_main_v18_apply, val_main_v16_apply, val_main_v15_apply]
  have h : (i 1).val < 512 := (i 1).isLt
  exact (at2_at cw _ rfl (by show (i 1).val = (i 1).val % 512; omega)).symm

theorem tap2_at (i : S8192x512.Idx) : val_main_v26 (F := Ideal) cw i = (arrays z cw pw ps).cw 2 (i 1).val := by
  rw [val_main_v26_apply, val_main_v25_apply, val_main_v23_apply, val_main_v22_apply]
  have h : (i 1).val < 512 := (i 1).isLt
  exact (at2_at cw _ rfl (by show (i 1).val = (i 1).val % 512; omega)).symm

/-- The gated convolution. -/
theorem conv_at (i : S8192x512.Idx) :
    val_main_v29 (F := Ideal) z cw i = (arrays z cw pw ps).gb (i 0).val (i 1).val * (arrays z cw pw ps).conv (i 0).val (i 1).val := by
  rw [val_main_v29_apply, val_main_v28_apply, val_main_v21_apply, val_main_v27_apply, val_main_v20_apply, val_main_v14_apply,
    gb_at z cw pw ps, u0_at z cw pw ps, u1_at z cw pw ps, u2_at z cw pw ps, tap0_at z cw pw ps, tap1_at z cw pw ps, tap2_at z cw pw ps]
  rfl

theorem x_rows (t : ℤ) (c : ℕ) (hc : c < 512) : at2 (val_main_v5 (F := Ideal) z) t c = (arrays z cw pw ps).x t c := by
  by_cases ht : 0 ≤ t ∧ t < 8192
  · rw [at2_of (val_main_v5 (F := Ideal) z) ⟨t.toNat, by omega⟩ ⟨c, hc⟩ (by dsimp only; omega) rfl, x_at z cw pw ps]
    show (arrays z cw pw ps).x ((t.toNat : ℕ) : ℤ) c = _
    rw [Int.toNat_of_nonneg ht.1]
  · rw [at2_out _ _ (by omega), arrays_x, at2_out z _ (by omega)]

/-- The running sum. -/
theorem sums_at (i : S8192x512.Idx) : val_main_v30 (F := Ideal) z i = (arrays z cw pw ps).upto ((i 0).val + 1) (i 1).val := by
  have hc : (i 1).val < 512 := (i 1).isLt
  have ht : (i 0).val < 8192 := (i 0).isLt
  have e : val_main_v30 (F := Ideal) z i = _ := window_at _ _ _ _ (fun j => by
    rw [val_main_call0_call0_v0_apply, val_main_call0_call0_cst_apply, zero_word]) i
  rw [e]
  refine (Finset.sum_congr rfl fun q _ => x_rows z cw pw ps _ _ hc).trans ?_
  rw [Fin.sum_univ_eq_sum_range (fun q => (arrays z cw pw ps).x (((i 0).val : ℤ) + (q : ℕ) - (8191 : ℕ)) (i 1).val) 8192,
    show (8192 : ℕ) = (8191 - (i 0).val) + ((i 0).val + 1) by omega, Finset.sum_range_add, Finset.sum_eq_zero, zero_add]
  · refine Finset.sum_congr rfl fun s hs => ?_
    rw [show ((i 0).val : ℤ) + ((8191 - (i 0).val + s : ℕ) : ℤ) - (8191 : ℕ) = s by omega]
  · intro q hq
    have := Finset.mem_range.mp hq
    exact x_before z cw pw ps _ (by omega) _

/-- The running sums after sixteen rows of zeros. -/
theorem upto_at (i : S8208x512.Idx) : val_main_v32 (F := Ideal) z i = (arrays z cw pw ps).upto ((i 0).val - 15) (i 1).val := by
  have hc : (i 1).val < 512 := (i 1).isLt
  have ht : (i 0).val < 8208 := (i 0).isLt
  refine (rows_at _ _ _ (fun j => by rw [val_main_v31_apply, val_main_cst_0_apply, zero_word]) i).trans ?_
  by_cases h : (i 0).val < 16
  · rw [at2_out _ _ (by omega), show (i 0).val - 15 = 0 by omega]
    rfl
  · rw [at2_of (val_main_v30 (F := Ideal) z) ⟨(i 0).val - 16, by omega⟩ ⟨(i 1).val, hc⟩ (by dsimp only; omega) rfl, sums_at z cw pw ps]
    show (arrays z cw pw ps).upto ((i 0).val - 16 + 1) (i 1).val = _
    rw [show (i 0).val - 16 + 1 = (i 0).val - 15 by omega]

/-- The pooled branch's input is finite. -/
abbrev Real : Prop := ∀ t c, IsReal (at2 (n := 8192) (k := 5120) z t (4608 + c))

/-- A window's sum is the difference of two running sums. -/
theorem window_eq (hx : Real z) (g t a w : ℕ) (hw : Data.width g = w) :
    (arrays z cw pw ps).upto (t + 1) (128 * g + a) - (arrays z cw pw ps).upto (t + 1 - w) (128 * g + a) = (arrays z cw pw ps).win g t a := by
  have hd : (arrays z (fun _ => 0) (fun _ => 0) (fun _ => 0)).Finite :=
    ⟨hx, fun t c => .at2 (n := 8192) (k := 1024) t _ fun _ _ => .zero, fun g a b => .at3 (n := 4) (k := 128) (l := 128) g a b fun _ => .zero,
      fun c => .at2 (n := 1) (k := 512) 0 _ fun _ _ => .zero⟩
  exact win_eq hd (x_before z _ _ _) g t a w hw

/-- The number of rows in a window, the one added from the left. -/
theorem count_one (r w : ℕ) (hr : r + 1 < 2 ^ 31) (hw : w < 2 ^ 31) :
    (FloatOps.sitofp .f32 (IntOp.minsi (IntOp.addi 1#32 (BitVec.ofNat 32 r)) (BitVec.ofNat 32 w)) : Ideal .f32) = Data.cnt w (r : ℤ) := by
  rw [show IntOp.addi 1#32 (BitVec.ofNat 32 r) = IntOp.addi (BitVec.ofNat 32 r) 1#32 from BitVec.add_comm _ _, count_word r w hr hw]

theorem count0_at (i : S8192x1.Idx) : val_main_v39 (F := Ideal) i = Data.cnt (Data.width 0) (i 0).val := by
  have ht : (i 0).val < 8192 := (i 0).isLt
  rw [val_main_v39_apply, val_main_v38_apply, val_main_v37_apply, val_main_v35_apply, val_main_v34_apply, val_main_c_apply, val_main_v33_apply,
    val_main_v36_apply, val_main_c_1_apply]
  exact count_one (i 0).val 2 (by omega) (by norm_num)

/-- The means of group 0's windows. -/
theorem pooled0_at (hx : Real z) (i : S8192x128.Idx) :
    val_main_v46 (F := Ideal) z i = (arrays z cw pw ps).pooled 0 (i 0).val (i 1).val := by
  have ht : (i 0).val < 8192 := (i 0).isLt
  have ha : (i 1).val < 128 := (i 1).isLt
  rw [val_main_v46_apply, val_main_v44_apply, val_main_v42_apply, val_main_v40_apply, val_main_v41_apply, val_main_v43_apply, count0_at,
    val_main_v45_apply, x_at z cw pw ps, upto_at z cw pw ps, upto_at z cw pw ps]
  unfold Data.pooled
  rw [← window_eq z cw pw ps hx 0 (i 0).val (i 1).val 2 rfl]
  have e0 : 16 + (i 0).val - 15 = (i 0).val + 1 := by omega
  have e1 : 14 + (i 0).val - 15 = (i 0).val + 1 - 2 := by omega
  have e2 : 128 * 0 + (i 1).val = (i 1).val := by omega
  simp only [e0, e1, e2]
  rfl

theorem count1_at (i : S8192x1.Idx) : val_main_v50 (F := Ideal) i = Data.cnt (Data.width 1) (i 0).val := by
  have ht : (i 0).val < 8192 := (i 0).isLt
  rw [val_main_v50_apply, val_main_v49_apply, val_main_v48_apply, val_main_v35_apply, val_main_v34_apply, val_main_c_apply, val_main_v33_apply,
    val_main_v47_apply, val_main_c_2_apply]
  exact count_one (i 0).val 4 (by omega) (by norm_num)

/-- The means of group 1's windows. -/
theorem pooled1_at (hx : Real z) (i : S8192x128.Idx) :
    val_main_v57 (F := Ideal) z i = (arrays z cw pw ps).pooled 1 (i 0).val (i 1).val := by
  have ht : (i 0).val < 8192 := (i 0).isLt
  have ha : (i 1).val < 128 := (i 1).isLt
  rw [val_main_v57_apply, val_main_v55_apply, val_main_v53_apply, val_main_v51_apply, val_main_v52_apply, val_main_v54_apply, count1_at,
    val_main_v56_apply, x_at z cw pw ps, upto_at z cw pw ps, upto_at z cw pw ps]
  unfold Data.pooled
  rw [← window_eq z cw pw ps hx 1 (i 0).val (i 1).val 4 rfl]
  have e0 : 16 + (i 0).val - 15 = (i 0).val + 1 := by omega
  have e1 : 12 + (i 0).val - 15 = (i 0).val + 1 - 4 := by omega
  have e2 : 128 * 1 + (i 1).val = 128 + (i 1).val := by omega
  simp only [e0, e1, e2]
  rfl

theorem count2_at (i : S8192x1.Idx) : val_main_v61 (F := Ideal) i = Data.cnt (Data.width 2) (i 0).val := by
  have ht : (i 0).val < 8192 := (i 0).isLt
  rw [val_main_v61_apply, val_main_v60_apply, val_main_v59_apply, val_main_v35_apply, val_main_v34_apply, val_main_c_apply, val_main_v33_apply,
    val_main_v58_apply, val_main_c_3_apply]
  exact count_one (i 0).val 8 (by omega) (by norm_num)

/-- The means of group 2's windows. -/
theorem pooled2_at (hx : Real z) (i : S8192x128.Idx) :
    val_main_v68 (F := Ideal) z i = (arrays z cw pw ps).pooled 2 (i 0).val (i 1).val := by
  have ht : (i 0).val < 8192 := (i 0).isLt
  have ha : (i 1).val < 128 := (i 1).isLt
  rw [val_main_v68_apply, val_main_v66_apply, val_main_v64_apply, val_main_v62_apply, val_main_v63_apply, val_main_v65_apply, count2_at,
    val_main_v67_apply, x_at z cw pw ps, upto_at z cw pw ps, upto_at z cw pw ps]
  unfold Data.pooled
  rw [← window_eq z cw pw ps hx 2 (i 0).val (i 1).val 8 rfl]
  have e0 : 16 + (i 0).val - 15 = (i 0).val + 1 := by omega
  have e1 : 8 + (i 0).val - 15 = (i 0).val + 1 - 8 := by omega
  have e2 : 128 * 2 + (i 1).val = 256 + (i 1).val := by omega
  simp only [e0, e1, e2]
  rfl

theorem count3_at (i : S8192x1.Idx) : val_main_v72 (F := Ideal) i = Data.cnt (Data.width 3) (i 0).val := by
  have ht : (i 0).val < 8192 := (i 0).isLt
  rw [val_main_v72_apply, val_main_v71_apply, val_main_v70_apply, val_main_v35_apply, val_main_v34_apply, val_main_c_apply, val_main_v33_apply,
    val_main_v69_apply, val_main_c_4_apply]
  exact count_one (i 0).val 16 (by omega) (by norm_num)

/-- The means of group 3's windows. -/
theorem pooled3_at (hx : Real z) (i : S8192x128.Idx) :
    val_main_v79 (F := Ideal) z i = (arrays z cw pw ps).pooled 3 (i 0).val (i 1).val := by
  have ht : (i 0).val < 8192 := (i 0).isLt
  have ha : (i 1).val < 128 := (i 1).isLt
  rw [val_main_v79_apply, val_main_v77_apply, val_main_v75_apply, val_main_v73_apply, val_main_v74_apply, val_main_v76_apply, count3_at,
    val_main_v78_apply, x_at z cw pw ps, upto_at z cw pw ps, upto_at z cw pw ps]
  unfold Data.pooled
  rw [← window_eq z cw pw ps hx 3 (i 0).val (i 1).val 16 rfl]
  have e0 : 16 + (i 0).val - 15 = (i 0).val + 1 := by omega
  have e1 : (i 0).val - 15 = (i 0).val + 1 - 16 := by omega
  have e2 : 128 * 3 + (i 1).val = 384 + (i 1).val := by omega
  simp only [e0, e1, e2]
  rfl

/-- The pooled channels, the four groups side by side. -/
theorem pooled_at (hx : Real z) (i : S8192x4x128.Idx) :
    val_main_v84 (F := Ideal) z i = (arrays z cw pw ps).pooled (i 1).val (i 0).val (i 2).val := by
  have ht : (i 0).val < 8192 := (i 0).isLt
  have hg : (i 1).val < 4 := (i 1).isLt
  have ha : (i 2).val < 128 := (i 2).isLt
  have h4 : (i 1).val = 0 ∨ (i 1).val = 1 ∨ (i 1).val = 2 ∨ (i 1).val = 3 := by omega
  unfold val_main_v84
  rcases h4 with h | h | h | h
  · rw [h]
    refine (concatenate_apply_piece (t := S8192x4x128) 1 _ _ i 0 (by show 0 < 4; norm_num) S8192x1x128 (val_main_v80 (F := Ideal) z) rfl rfl 0 (by rfl)
      (ix3 ⟨(i 0).val, ht⟩ 0 ⟨(i 2).val, ha⟩) (fun b => match b with
        | 0 => fun _ => rfl
        | 1 => fun hb => absurd rfl hb
        | 2 => fun _ => rfl) (by show 0 + 0 = (i 1).val; omega)).trans ?_
    rw [val_main_v80_apply, pooled0_at z cw pw ps hx]
    rfl
  · rw [h]
    refine (concatenate_apply_piece (t := S8192x4x128) 1 _ _ i 1 (by show 1 < 4; norm_num) S8192x1x128 (val_main_v81 (F := Ideal) z) rfl rfl 1 (by rfl)
      (ix3 ⟨(i 0).val, ht⟩ 0 ⟨(i 2).val, ha⟩) (fun b => match b with
        | 0 => fun _ => rfl
        | 1 => fun hb => absurd rfl hb
        | 2 => fun _ => rfl) (by show 1 + 0 = (i 1).val; omega)).trans ?_
    rw [val_main_v81_apply, pooled1_at z cw pw ps hx]
    rfl
  · rw [h]
    refine (concatenate_apply_piece (t := S8192x4x128) 1 _ _ i 2 (by show 2 < 4; norm_num) S8192x1x128 (val_main_v82 (F := Ideal) z) rfl rfl 2 (by rfl)
      (ix3 ⟨(i 0).val, ht⟩ 0 ⟨(i 2).val, ha⟩) (fun b => match b with
        | 0 => fun _ => rfl
        | 1 => fun hb => absurd rfl hb
        | 2 => fun _ => rfl) (by show 2 + 0 = (i 1).val; omega)).trans ?_
    rw [val_main_v82_apply, pooled2_at z cw pw ps hx]
    rfl
  · rw [h]
    refine (concatenate_apply_piece (t := S8192x4x128) 1 _ _ i 3 (by show 3 < 4; norm_num) S8192x1x128 (val_main_v83 (F := Ideal) z) rfl rfl 3 (by rfl)
      (ix3 ⟨(i 0).val, ht⟩ 0 ⟨(i 2).val, ha⟩) (fun b => match b with
        | 0 => fun _ => rfl
        | 1 => fun hb => absurd rfl hb
        | 2 => fun _ => rfl) (by show 3 + 0 = (i 1).val; omega)).trans ?_
    rw [val_main_v83_apply, pooled3_at z cw pw ps hx]
    rfl

theorem pw_at (j : S4x128x128.Idx) : pw j = (arrays z cw pw ps).pw (j 0).val (j 1).val (j 2).val :=
  (at3_at (n := 4) (k := 128) (l := 128) pw j rfl rfl rfl).symm

/-- The mixed channels. -/
theorem lin_at (hx : Real z) (i : S8192x512.Idx) :
    val_main_v87 (F := Ideal) z pw i = (arrays z cw pw ps).lin ((i 1).val / 128) (i 0).val ((i 1).val % 128) := by
  have ht : (i 0).val < 8192 := (i 0).isLt
  have hc : (i 1).val < 512 := (i 1).isLt
  rw [val_main_v87_apply, val_main_v86_apply, val_main_v85_apply]
  refine Finset.sum_congr rfl fun a _ => ?_
  rw [pooled_at z cw pw ps hx, pw_at z cw pw ps, mul_comm]
  have e0 : ((i 0).val * 512 + (i 1).val) / 512 = (i 0).val := by omega
  have e1 : ((i 0).val * 512 + (i 1).val) / 128 % 4 = (i 1).val / 128 := by omega
  have e2 : ((i 0).val * 512 + (i 1).val) % 128 = (i 1).val % 128 := by omega
  show (arrays z cw pw ps).pooled (((i 0).val * 512 + (i 1).val) / 128 % 4) ((((i 0).val * 512 + (i 1).val) / 512 : ℕ) : ℤ) a.val
    * (arrays z cw pw ps).pw (((i 0).val * 512 + (i 1).val) / 128 % 4) a.val (((i 0).val * 512 + (i 1).val) % 128) = _
  rw [e0, e1, e2]

theorem ps_at (i : S8192x512.Idx) : val_main_v90 (F := Ideal) ps i = (arrays z cw pw ps).ps (i 1).val := by
  rw [val_main_v90_apply, val_main_v89_apply, val_main_v88_apply]
  have h : (i 1).val < 512 := (i 1).isLt
  exact (at2_at ps _ rfl (by show (i 1).val = (i 1).val % 512; omega)).symm

/-- The reference's result. -/
theorem branches_at (hx : Real z) (y : S8192x1024.Idx) : val_main_v93 (F := Ideal) z cw pw ps y = branches z cw pw ps y := by
  have hq : (y 1).val < 1024 := (y 1).isLt
  have ht : (y 0).val < 8192 := (y 0).isLt
  rw [val_main_v93_apply]
  show val_main_v92 (F := Ideal) z cw pw ps y = _
  unfold val_main_v92 branches mixed
  by_cases h : (y 1).val < 512
  · rw [if_pos h]
    refine (concatenate_pair_apply_left (s₁ := ⟨2, ![8192, 512]⟩) (s₂ := ⟨2, ![8192, 512]⟩) (t := ⟨2, ![8192, 1024]⟩) 1 _ _ _ y rfl
      (ix2 ⟨(y 0).val, ht⟩ ⟨(y 1).val, h⟩) (fun b => match b with | 0 => rfl | 1 => rfl)).trans ?_
    exact conv_at z cw pw ps _
  · rw [if_neg h]
    refine (concatenate_pair_apply_right (s₁ := ⟨2, ![8192, 512]⟩) (s₂ := ⟨2, ![8192, 512]⟩) (t := ⟨2, ![8192, 1024]⟩) 1 _ _ _ y rfl rfl
      (ix2 ⟨(y 0).val, ht⟩ ⟨(y 1).val - 512, by omega⟩) (fun b => match b with
        | 0 => fun _ => rfl
        | 1 => fun hb => absurd rfl hb) (by show (y 1).val - 512 + 512 = (y 1).val; omega)).trans ?_
    rw [val_main_v91_apply, lin_at z cw pw ps hx, ps_at z cw pw ps]
    rfl

end Cert.MixFwd

end
-- ==== Proof.RowNorm.lean ====
module

public import Idealize.ShloMosaic.PureOps.Ideal

/-!
# The norm of a row

A row of the stream by the root of its mean square, times the gain: what the last lines of the forward calls write next to
the new stream.
-/

@[expose] public section

noncomputable section

namespace Cert.RowNorm

open Idealize.ShloMosaic

/-- A row's scale. -/
def scale (f : Fin 2048 → EReal) : EReal :=
  Ideal.rsqrt (Ideal.div (∑ k : Fin 2048, f k * f k) (Ideal.ofBits .f32 0x45000000#32) + Ideal.ofBits .f32 0x358637BD#32)

/-- The normed row. -/
def norm (f g : Fin 2048 → EReal) (d : Fin 2048) : EReal := f d * scale f * g d

end Cert.RowNorm

end
-- ==== Proof.NormBack.lean ====
module

public import proofs.«01_k».proof.Proof.RowNorm
public import proofs.«01_k».proof.Proof.Accum
public import proofs.«01_k».proof.Proof.Finite

/-!
# The gradient of a norm

For a row `x` with scale `r` and the cotangent `u` of `x * r`, the kernel computes `r * (u - x * r * mean (u * x * r))`. The
reference differentiates the scale as the root of the mean square: `u * r` and twice `x` by a factor of the row. The two
agree, the scale being a number at least zero: zero where an entry of the row is infinite.
-/

@[expose] public section

noncomputable section

namespace Cert.RowNorm

open Idealize.ShloMosaic
open Cert.Mix (IsReal coe_sum)

/-- The number of columns, the term added to the mean square, and minus a half. -/
abbrev colsC : EReal := Ideal.ofBits .f32 0x45000000#32
abbrev epsC : EReal := Ideal.ofBits .f32 0x358637BD#32
abbrev neghalfC : EReal := Ideal.ofBits .f32 0xBF000000#32

/-- What the scale is the inverse root of. -/
def square (f : Fin 2048 → EReal) : EReal := Ideal.div (∑ k : Fin 2048, f k * f k) colsC + epsC

/-- The gradient as the kernel computes it. -/
def back (f u : Fin 2048 → EReal) (d : Fin 2048) : EReal :=
  scale f * (u d - f d * scale f * Ideal.div (∑ k : Fin 2048, u k * (f k * scale f)) colsC)

/-- The row's factor in the reference, and the gradient there. -/
def factor (f u : Fin 2048 → EReal) : EReal :=
  Ideal.div ((∑ k : Fin 2048, f k * u k) * (neghalfC * Ideal.div (scale f) (square f))) colsC

def backRef (f u : Fin 2048 → EReal) (d : Fin 2048) : EReal := u d * scale f + f d * factor f u + factor f u * f d

theorem cols_eq : colsC = ((2048 : ℝ) : EReal) := by
  unfold colsC
  simp [Ideal.ofBits, Ideal.ieee]
  rw [← EReal.coe_mul]
  norm_num

theorem neghalf_eq : neghalfC = ((-(1 / 2) : ℝ) : EReal) := by
  unfold neghalfC
  simp [Ideal.ofBits, Ideal.ieee]
  rw [← EReal.coe_mul]
  norm_num

theorem eps_eq : ∃ e : ℝ, 0 < e ∧ epsC = (e : EReal) := by
  refine ⟨(8796093 : ℝ) * 2 ^ (-43 : ℤ), by positivity, ?_⟩
  unfold epsC
  simp [Ideal.ofBits, Ideal.ieee]

theorem div_real (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- A finite row's scale is a positive number, and its quotient by the square is its cube. -/
theorem scale_real (f : Fin 2048 → ℝ) : ∃ r : ℝ, 0 ≤ r ∧ scale (fun k => (f k : EReal)) = r
    ∧ Ideal.div (scale fun k => (f k : EReal)) (square fun k => (f k : EReal)) = ((r * r * r : ℝ) : EReal) := by
  obtain ⟨e, he, hE⟩ := eps_eq
  have hs : (∑ k : Fin 2048, (f k : EReal) * (f k : EReal)) = ((∑ k : Fin 2048, f k * f k : ℝ) : EReal) := by
    rw [coe_sum]
    exact Finset.sum_congr rfl fun k _ => (EReal.coe_mul _ _).symm
  have hq : square (fun k => (f k : EReal)) = (((∑ k : Fin 2048, f k * f k) / 2048 + e : ℝ) : EReal) := by
    unfold square
    rw [hs, cols_eq, hE, div_real _ _ (by norm_num), EReal.coe_add]
  have hv : 0 < (∑ k : Fin 2048, f k * f k) / 2048 + e :=
    add_pos_of_nonneg_of_pos (div_nonneg (Finset.sum_nonneg fun k _ => mul_self_nonneg _) (by norm_num)) he
  generalize (∑ k : Fin 2048, f k * f k) / 2048 + e = v at hq hv
  have hr : scale (fun k => (f k : EReal)) = (((Real.sqrt v)⁻¹ : ℝ) : EReal) := by
    show Ideal.rsqrt (square fun k => (f k : EReal)) = _
    rw [hq]
    show (if v < 0 then (⊥ : EReal) else if v = 0 then ⊤ else (((Real.sqrt v)⁻¹ : ℝ) : EReal)) = _
    rw [if_neg (not_lt.mpr hv.le), if_neg hv.ne']
  refine ⟨_, inv_nonneg.mpr (Real.sqrt_nonneg v), hr, ?_⟩
  rw [hr, hq, div_real _ _ hv.ne']
  refine congrArg (fun a : ℝ => (a : EReal)) ?_
  have h0 : Real.sqrt v ≠ 0 := (Real.sqrt_pos.mpr hv).ne'
  have h1 : Real.sqrt v * Real.sqrt v = v := Real.mul_self_sqrt hv.le
  rw [← mul_inv, h1, mul_comm, div_eq_mul_inv, mul_comm]

/-- A row with an infinite entry has the scale zero. -/
theorem scale_inf (f : Fin 2048 → EReal) (k : Fin 2048) (hk : f k * f k = ⊤) : scale f = 0 ∧ Ideal.div (scale f) (square f) = 0 := by
  obtain ⟨e, he, hE⟩ := eps_eq
  have hs : ∑ k : Fin 2048, f k * f k = ⊤ := by
    refine top_le_iff.mp (hk ▸ Finset.single_le_sum (f := fun k => f k * f k) (fun j _ => ?_) (Finset.mem_univ k))
    rcases le_total 0 (f j) with h | h
    · exact mul_nonneg h h
    · exact EReal.mul_nonneg_iff.mpr (Or.inr ⟨h, h⟩)
  have hq : square f = ⊤ := by
    unfold square
    rw [hs, cols_eq, hE]
    unfold Ideal.div
    rw [if_neg (by norm_num), ← EReal.coe_inv, EReal.top_mul_coe_of_pos (by norm_num), EReal.top_add_coe]
  have hr : scale f = 0 := by
    show Ideal.rsqrt (square f) = _
    rw [hq]
    rfl
  refine ⟨hr, ?_⟩
  rw [hr, hq]
  simp [Ideal.div]

/-- A row's scale is a number at least zero, and its quotient by the square is its cube. -/
theorem scale_cube (f : Fin 2048 → EReal) : ∃ r : ℝ, 0 ≤ r ∧ scale f = r ∧ Ideal.div (scale f) (square f) = ((r * r * r : ℝ) : EReal) := by
  by_cases hf : ∀ k, IsReal (f k)
  · obtain ⟨x, rfl⟩ : ∃ x : Fin 2048 → ℝ, f = fun k => (x k : EReal) := ⟨fun k => (f k).toReal, funext fun k => (hf k).coe_toReal.symm⟩
    exact scale_real x
  · obtain ⟨k, hk⟩ := not_forall.mp hf
    obtain ⟨h0, h1⟩ := scale_inf f k (by
      induction h : f k using EReal.rec with
      | bot => rfl
      | top => rfl
      | coe a => exact absurd ⟨a, h⟩ hk)
    exact ⟨0, le_rfl, by rw [h0]; rfl, by rw [h1]; norm_num⟩

theorem add_self (x : EReal) : x + x = x * ((2 : ℝ) : EReal) := by
  induction x using EReal.rec with
  | bot => rw [EReal.bot_mul_coe_of_pos (by norm_num)]; rfl
  | top => rw [EReal.top_mul_coe_of_pos (by norm_num)]; rfl
  | coe a => rw [← EReal.coe_add, ← EReal.coe_mul]; exact congrArg (fun a : ℝ => (a : EReal)) (by ring)

theorem div_cols (x : EReal) : Ideal.div x colsC = x * ((1 / 2048 : ℝ) : EReal) := by
  rw [cols_eq]
  unfold Ideal.div
  rw [if_neg (by norm_num), div_eq_mul_inv, ← EReal.coe_inv]
  norm_num

/-- The two gradients agree. -/
theorem backRef_eq (f u : Fin 2048 → EReal) (d : Fin 2048) : backRef f u d = back f u d := by
  obtain ⟨r, h0, hr, hq⟩ := scale_cube f
  unfold backRef back factor
  rw [hq, hr, neghalf_eq, div_cols, div_cols]
  have h2 : (∑ k : Fin 2048, u k * (f k * (r : EReal))) = (∑ k : Fin 2048, f k * u k) * (r : EReal) := by
    rw [← Accum.sum_mul_real h0]
    refine Finset.sum_congr rfl fun k _ => ?_
    rw [← mul_assoc, mul_comm (u k)]
  rw [h2]
  generalize (∑ k : Fin 2048, f k * u k) = s
  rw [mul_comm _ (f d), add_assoc, add_self, sub_eq_add_neg, EReal.left_distrib_of_nonneg_of_ne_top (EReal.coe_nonneg.mpr h0) (EReal.coe_ne_top r)]
  refine congrArg₂ (fun a b : EReal => a + b) (mul_comm _ _) ?_
  have hl : f d * (s * (((-(1 / 2) : ℝ) : EReal) * ((r * r * r : ℝ) : EReal)) * ((1 / 2048 : ℝ) : EReal)) * ((2 : ℝ) : EReal)
      = f d * s * ((-(1 / 2) * (r * r * r) * (1 / 2048) * 2 : ℝ) : EReal) := by
    simp only [EReal.coe_mul, mul_assoc]
  have hk : (r : EReal) * -(f d * (r : EReal) * (s * (r : EReal) * ((1 / 2048 : ℝ) : EReal))) = f d * s * ((-(r * r * r * (1 / 2048)) : ℝ) : EReal) := by
    rw [mul_neg, EReal.coe_neg, mul_neg]
    refine congrArg (fun a : EReal => -a) ?_
    simp only [EReal.coe_mul]
    ac_rfl
  rw [hl, hk]
  refine congrArg (fun a : ℝ => f d * s * (a : EReal)) ?_
  ring

end Cert.RowNorm

end
-- ==== Proof.NormGrad.lean ====
module

public import proofs.«01_k».proof.Proof.Accum
public import proofs.«01_k».proof.Proof.NormBack
public import proofs.«01_k».proof.Proof.Gen.Kernel13Ideal.Value
public import proofs.«01_k».proof.Proof.Gen.Reference13Ideal.Read
public import Idealize.ShloMosaic.Lib.Pipeline.ValueKit

/-!
# The gradient of a layer's norm

For each block of rows the kernel adds the norm's gradient to the stream's and writes the sum twice, and adds the block's
rows of the gain's gradient to one row.
-/

@[expose] public section

set_option maxRecDepth 16384

noncomputable section

namespace Cert.NormGrad

open Cert.Kernel13Ideal Cert.Kernel13Ideal.Gen Idealize.ShloMosaic Idealize.ShloMosaic.TcCoe Idealize.ShloMosaic.Tactic

variable (m : (ℓ : Loc nD τ sig) → Buf (Elt Ideal) ℓ) (c : Dev nD)

/-- The rows, the gain, the norm's cotangent and the stream's. -/
abbrev rows : S8192x2048.Idx → EReal := m ((c : Thread nD τ).loc main_arg0)
abbrev gain : S1x2048.Idx → EReal := m ((c : Thread nD τ).loc main_arg1)
abbrev cot : S8192x2048.Idx → EReal := m ((c : Thread nD τ).loc main_arg2)
abbrev res : S8192x2048.Idx → EReal := m ((c : Thread nD τ).loc main_arg3)

/-- The stream's new cotangent. -/
def total (X : S8192x2048.Idx → EReal) (g : S1x2048.Idx → EReal) (H R : S8192x2048.Idx → EReal) (y : S8192x2048.Idx) : EReal :=
  R (ix2 (y 0) (y 1)) + RowNorm.back (fun k => X (ix2 (y 0) k)) (fun k => H (ix2 (y 0) k) * g (ix2 0 k)) (y 1)

/-- One row's term of the gain's gradient, by the row's number, and the gradient. -/
def term (X H : S8192x2048.Idx → EReal) (d : Fin 2048) (s : ℕ) : EReal :=
  if h : s < 8192 then H (ix2 ⟨s, h⟩ d) * (X (ix2 ⟨s, h⟩ d) * RowNorm.scale fun k => X (ix2 ⟨s, h⟩ k)) else 0

def dgain (X H : S8192x2048.Idx → EReal) (y : S1x2048.Idx) : EReal := ∑ s : Fin 8192, term X H (y 1) s.val

theorem index0 (t : Fin cfg0.N) : win0_0.index t 0 = t.val ∧ win0_0.index t 1 = 0 :=
  (by decide +kernel : ∀ t : Fin grid0.N, win0_0.index t 0 = t.val ∧ win0_0.index t 1 = 0) t

theorem index1 (t : Fin cfg0.N) : win0_1.index t 0 = 0 ∧ win0_1.index t 1 = 0 :=
  (by decide +kernel : ∀ t : Fin grid0.N, win0_1.index t 0 = 0 ∧ win0_1.index t 1 = 0) t

theorem index2 (t : Fin cfg0.N) : win0_2.index t 0 = t.val ∧ win0_2.index t 1 = 0 :=
  (by decide +kernel : ∀ t : Fin grid0.N, win0_2.index t 0 = t.val ∧ win0_2.index t 1 = 0) t

theorem index3 (t : Fin cfg0.N) : win0_3.index t 0 = t.val ∧ win0_3.index t 1 = 0 :=
  (by decide +kernel : ∀ t : Fin grid0.N, win0_3.index t 0 = t.val ∧ win0_3.index t 1 = 0) t

theorem index4 (t : Fin cfg0.N) : win0_4.index t 0 = t.val ∧ win0_4.index t 1 = 0 :=
  (by decide +kernel : ∀ t : Fin grid0.N, win0_4.index t 0 = t.val ∧ win0_4.index t 1 = 0) t

theorem index5 (t : Fin cfg0.N) : win0_5.index t 0 = t.val ∧ win0_5.index t 1 = 0 :=
  (by decide +kernel : ∀ t : Fin grid0.N, win0_5.index t 0 = t.val ∧ win0_5.index t 1 = 0) t

theorem index6 (t : Fin cfg0.N) : win0_6.index t 0 = 0 ∧ win0_6.index t 1 = 0 :=
  (by decide +kernel : ∀ t : Fin grid0.N, win0_6.index t 0 = 0 ∧ win0_6.index t 1 = 0) t

theorem block0 (t : Fin cfg0.N) (r : Fin 256) (d : Fin 2048) (s : Fin 8192) (hs : s.val = t.val * 256 + r.val) :
    iblk m c 0 t (ix2 r d) = rows m c (ix2 s d) := by
  blk_simp [iblk]
  rw [V_main_arg0]
  obtain ⟨h0, h1⟩ := index0 t
  refine congrArg (m ((c : Thread nD τ).loc main_arg0)) (Shape.idx_ext₂ ?_ ?_)
  · blk_simp
    rw [h0, hs]
  · blk_simp
    rw [h1]; exact Nat.zero_add _

theorem block1 (t : Fin cfg0.N) (d : Fin 2048) : iblk m c 1 t (ix2 0 d) = gain m c (ix2 0 d) := by
  blk_simp [iblk]
  rw [V_main_arg1]
  obtain ⟨h0, h1⟩ := index1 t
  refine congrArg (m ((c : Thread nD τ).loc main_arg1)) (Shape.idx_ext₂ ?_ ?_)
  · blk_simp
    rw [h0]; rfl
  · blk_simp
    rw [h1]; exact Nat.zero_add _

theorem block2 (t : Fin cfg0.N) (r : Fin 256) (d : Fin 2048) (s : Fin 8192) (hs : s.val = t.val * 256 + r.val) :
    iblk m c 2 t (ix2 r d) = cot m c (ix2 s d) := by
  blk_simp [iblk]
  rw [V_main_arg2]
  obtain ⟨h0, h1⟩ := index2 t
  refine congrArg (m ((c : Thread nD τ).loc main_arg2)) (Shape.idx_ext₂ ?_ ?_)
  · blk_simp
    rw [h0, hs]
  · blk_simp
    rw [h1]; exact Nat.zero_add _

theorem block3 (t : Fin cfg0.N) (r : Fin 256) (d : Fin 2048) (s : Fin 8192) (hs : s.val = t.val * 256 + r.val) :
    iblk m c 3 t (ix2 r d) = res m c (ix2 s d) := by
  blk_simp [iblk]
  rw [V_main_arg3]
  obtain ⟨h0, h1⟩ := index3 t
  refine congrArg (m ((c : Thread nD τ).loc main_arg3)) (Shape.idx_ext₂ ?_ ?_)
  · blk_simp
    rw [h0, hs]
  · blk_simp
    rw [h1]; exact Nat.zero_add _

theorem zero2 (y) : (k0_pay2 (F := Ideal)) y = 0 := Ideal.ofBits_zero_f32

theorem pay4_at (x : Vec Ideal S256x2048 .f32) (r : Fin 256) : k0_pay4 x (ix2 r 0) = RowNorm.scale fun k => x (ix2 r k) := by
  unfold RowNorm.scale k0_pay4
  pointwise

theorem pay5_at (x : Vec Ideal S256x2048 .f32) (r : Fin 256) (d : Fin 2048) :
    k0_pay5 x (ix2 r d) = x (ix2 r d) * RowNorm.scale fun k => x (ix2 r k) := by
  rw [← pay4_at]
  unfold k0_pay5
  generalize k0_pay4 x = q
  pointwise

theorem pay6_at (x : Vec Ideal S256x2048 .f32) (h : Vec Ideal S256x2048 .bf16) (r : Fin 256) (d : Fin 2048) :
    k0_pay6 x h (ix2 r d) = h (ix2 r d) * (x (ix2 r d) * RowNorm.scale fun k => x (ix2 r k)) := by
  rw [← pay5_at]
  unfold k0_pay6 k0_pay3
  generalize k0_pay5 x = q
  pointwise

/-- The norm's gradient added to the stream's. -/
theorem pay7_at (x : Vec Ideal S256x2048 .f32) (g : Vec Ideal S1x2048 .f32) (h : Vec Ideal S256x2048 .bf16) (w : Vec Ideal S256x2048 .f32)
    (r : Fin 256) (d : Fin 2048) : k0_pay7 x g h w (ix2 r d)
      = w (ix2 r d) + RowNorm.back (fun k => x (ix2 r k)) (fun k => h (ix2 r k) * g (ix2 0 k)) d := by
  have hq := pay5_at x
  have hp := pay4_at x
  unfold k0_pay7 k0_pay3 RowNorm.back
  generalize k0_pay5 x = q at hq ⊢
  generalize k0_pay4 x = p at hp ⊢
  pointwise
  simp only [hq, hp]

/-- A block's rows added up. -/
theorem pay1_at (u : Vec Ideal S256x2048 .f32) (v : Vec Ideal S1x2048 .f32) (d : Fin 2048) :
    k0_pay1 u v (ix2 0 d) = v (ix2 0 d) + ∑ r : Fin 256, u (ix2 r d) := by
  unfold k0_pay1
  pointwise

theorem first (t : Fin cfg0.N) (y : S256x2048.Idx) : (outsAt0 m c t.val t.isLt).1 y
    = k0_pay7 (iblk m c 0 t) (iblk m c 1 t) (iblk m c 2 t) (iblk m c 3 t) y := by
  by_cases h0 : t.val % 32 = 0
  · rw [outsAt0_A m c t h0]
    frame_out
  · rw [outsAt0_B m c t h0]
    frame_out

theorem second (t : Fin cfg0.N) (y : S256x2048.Idx) : (outsAt0 m c t.val t.isLt).2.1 y
    = k0_pay7 (iblk m c 0 t) (iblk m c 1 t) (iblk m c 2 t) (iblk m c 3 t) y := by
  by_cases h0 : t.val % 32 = 0
  · rw [outsAt0_A m c t h0]
    frame_out
    rfl
  · rw [outsAt0_B m c t h0]
    frame_out
    rfl

theorem third_A (t : Fin cfg0.N) (h0 : t.val % 32 = 0) (y : S1x2048.Idx) : (outsAt0 m c t.val t.isLt).2.2 y
    = k0_pay1 (k0_pay6 (iblk m c 0 t) (iblk m c 2 t)) (k0_pay2 (F := Ideal)) y := by
  rw [outsAt0_A m c t h0]
  frame_out

theorem third_B (t : Fin cfg0.N) (h0 : ¬ t.val % 32 = 0) (y : S1x2048.Idx) : (outsAt0 m c t.val t.isLt).2.2 y
    = k0_pay1 (k0_pay6 (iblk m c 0 t) (iblk m c 2 t)) (outsAt0 m c (t.val - 1) (Nat.lt_of_le_of_lt (Nat.sub_le _ _) t.isLt)).2.2 y := by
  rw [outsAt0_B m c t h0]
  frame_out

section
variable (t : Fin cfg0.N) (r : Fin 256) (d : Fin 2048) (s : Fin 8192) (hs : s.val = t.val * 256 + r.val)
include hs

theorem total_at : k0_pay7 (iblk m c 0 t) (iblk m c 1 t) (iblk m c 2 t) (iblk m c 3 t) (ix2 r d)
    = total (rows m c) (gain m c) (cot m c) (res m c) (ix2 s d) := by
  rw [pay7_at]
  refine congrArg₂ (fun a b : EReal => a + b) (block3 m c t r d s hs)
    (congrArg₂ (fun f u => RowNorm.back f u d) (funext fun k => block0 m c t r k s hs) (funext fun k => ?_))
  exact congrArg₂ (fun a b : EReal => a * b) (block2 m c t r k s hs) (block1 m c t k)

theorem row_at : k0_pay6 (iblk m c 0 t) (iblk m c 2 t) (ix2 r d) = term (rows m c) (cot m c) d s.val := by
  rw [pay6_at]
  unfold term
  rw [dif_pos s.isLt]
  refine congrArg₂ (fun a b : EReal => a * b) (block2 m c t r d s hs)
    (congrArg₂ (fun a b : EReal => a * b) (block0 m c t r d s hs) (congrArg RowNorm.scale (funext fun k => block0 m c t r k s hs)))

end

/-- What a point adds to the gain's gradient. -/
def part (n : ℕ) (y : S1x2048.Idx) : EReal := ∑ r : Fin 256, term (rows m c) (cot m c) (y 1) (n * 256 + r.val)

theorem part_at (t : Fin cfg0.N) (d : Fin 2048) : ∑ r : Fin 256, k0_pay6 (iblk m c 0 t) (iblk m c 2 t) (ix2 r d) = part m c t.val (ix2 0 d) := by
  have hN := lt_of_lt_of_eq t.isLt (show cfg0.N = 32 from N_0)
  refine Finset.sum_congr rfl fun r _ => ?_
  have hr := r.isLt
  exact row_at m c t r d ⟨t.val * 256 + r.val, by omega⟩ rfl

theorem third_at (t : ℕ) (ht : t < cfg0.N) (y : S1x2048.Idx) :
    (outsAt0 m c t ht).2.2 y = ∑ s ∈ Finset.range (t % 32 + 1), part m c (32 * (t / 32) + s) y := by
  refine Accum.run_sum (J := 32) (by decide) (fun n h => (outsAt0 m c n h).2.2) (part m c) ?_ ?_ t ht y
  · intro n h y hn
    refine (third_A m c ⟨n, h⟩ hn y).trans ?_
    obtain ⟨d, rfl⟩ : ∃ d : Fin 2048, y = ix2 0 d := ⟨y 1, funext fun a => match a with | 0 => Subsingleton.elim (α := Fin 1) _ _ | 1 => rfl⟩
    rw [pay1_at, zero2, zero_add]
    exact part_at m c ⟨n, h⟩ d
  · intro n h y hn
    refine (third_B m c ⟨n + 1, h⟩ hn y).trans ?_
    obtain ⟨d, rfl⟩ : ∃ d : Fin 2048, y = ix2 0 d := ⟨y 1, funext fun a => match a with | 0 => Subsingleton.elim (α := Fin 1) _ _ | 1 => rfl⟩
    rw [pay1_at]
    exact congrArg _ (part_at m c ⟨n + 1, h⟩ d)

theorem third_last (t : Fin cfg0.N) (h1 : t.val % 32 = 31) (d : Fin 2048) :
    (outsAt0 m c t.val t.isLt).2.2 (ix2 0 d) = dgain (rows m c) (cot m c) (ix2 0 d) := by
  have hN := lt_of_lt_of_eq t.isLt (show cfg0.N = 32 from N_0)
  rw [third_at, h1]
  refine (Finset.sum_congr rfl fun s hs => ?_).trans (Accum.sum_blocks 32 256 (term (rows m c) (cot m c) d))
  rw [show 32 * (t.val / 32) + s = s by omega]
  rfl

/-- The kernel's results. -/
theorem result4 : (dats m 0 c).arrAt 4 cfg0.N = total (rows m c) (gain m c) (cot m c) (res m c) := by
  refine (dats m 0 c).arrAt_eq_of_covers 4 _ (by decide +kernel) fun t hf y => ?_
  have hN := lt_of_lt_of_eq t.isLt (show cfg0.N = 32 from N_0)
  blk_simp
  rw [after0_4]
  obtain ⟨h0, h1⟩ := index4 t
  obtain ⟨r, d, rfl⟩ : ∃ (r : Fin 256) (d : Fin 2048), y = ix2 r d := ⟨y 0, y 1, funext fun a => match a with | 0 => rfl | 1 => rfl⟩
  have hr := r.isLt
  refine ((first m c t _).trans (total_at m c t r d ⟨t.val * 256 + r.val, by omega⟩ rfl)).trans (congrArg _ (Shape.idx_ext₂ ?_ ?_))
  · blk_simp
    rw [h0]
  · blk_simp
    rw [h1]; exact (Nat.zero_add _).symm

theorem result5 : (dats m 0 c).arrAt 5 cfg0.N = total (rows m c) (gain m c) (cot m c) (res m c) := by
  refine (dats m 0 c).arrAt_eq_of_covers 5 _ (by decide +kernel) fun t hf y => ?_
  have hN := lt_of_lt_of_eq t.isLt (show cfg0.N = 32 from N_0)
  blk_simp
  rw [after0_5]
  obtain ⟨h0, h1⟩ := index5 t
  obtain ⟨r, d, rfl⟩ : ∃ (r : Fin 256) (d : Fin 2048), y = ix2 r d := ⟨y 0, y 1, funext fun a => match a with | 0 => rfl | 1 => rfl⟩
  have hr := r.isLt
  refine ((second m c t _).trans (total_at m c t r d ⟨t.val * 256 + r.val, by omega⟩ rfl)).trans (congrArg _ (Shape.idx_ext₂ ?_ ?_))
  · blk_simp
    rw [h0]
  · blk_simp
    rw [h1]; exact (Nat.zero_add _).symm

theorem result6 : (dats m 0 c).arrAt 6 cfg0.N = dgain (rows m c) (cot m c) := by
  refine (dats m 0 c).arrAt_eq_of_covers 6 _ (by decide +kernel) fun t hf y => ?_
  have hm : t.val % 32 = 31 := (flush0_6 t).mp hf
  blk_simp
  rw [after0_6]
  obtain ⟨h0, h1⟩ := index6 t
  obtain ⟨d, rfl⟩ : ∃ d : Fin 2048, y = ix2 0 d := ⟨y 1, funext fun a => match a with | 0 => Subsingleton.elim (α := Fin 1) _ _ | 1 => rfl⟩
  refine (third_last m c t hm d).trans (congrArg _ (Shape.idx_ext₂ ?_ ?_))
  · blk_simp
    rw [h0]; rfl
  · blk_simp
    rw [h1]; exact (Nat.zero_add _).symm

/-! ## The reference -/

section
open Cert.Reference13Ideal.Read

variable (X : S8192x2048.Idx → EReal) (g : S1x2048.Idx → EReal) (H R : S8192x2048.Idx → EReal)

theorem square_at (s : Fin 8192) (u : Fin 1) : val_main_v7 (F := Ideal) X (ix2 s u) = RowNorm.square fun k => X (ix2 s k) := by
  rw [val_main_v7_apply, val_main_v6_apply, val_main_v5_apply, val_main_v4_apply, val_main_v3_apply, val_main_v2_apply,
    val_main_cst_apply, val_main_cst_0_apply, val_main_cst_1_apply]
  have h : ∑ k : Fin 2048, val_main_v1 (F := Ideal) X (idx_main_v2 (idx_main_v3 (ix2 s u)) k) = ∑ k : Fin 2048, X (ix2 s k) * X (ix2 s k) := by
    refine Finset.sum_congr rfl fun k _ => ?_
    rw [show idx_main_v2 (idx_main_v3 (ix2 s u)) k = ix2 s k from Shape.idx_ext₂ rfl rfl, val_main_v1_apply]
    rfl
  rw [h]
  unfold RowNorm.square
  show Ideal.div (Ideal.ofBits .f32 0x00000000#32 + _) _ + _ = _
  rw [Ideal.ofBits_zero_f32, zero_add]
  rfl

theorem scale_at (s : Fin 8192) (u : Fin 1) : val_main_v8 (F := Ideal) X (ix2 s u) = RowNorm.scale fun k => X (ix2 s k) := by
  rw [val_main_v8_apply, square_at]
  rfl

theorem gained_at (s : Fin 8192) (d : Fin 2048) : val_main_v22 (F := Ideal) g H (ix2 s d) = H (ix2 s d) * g (ix2 0 d) := by
  rw [val_main_v22_apply, val_main_v17_apply, val_main_v21_apply, val_main_v14_apply, val_main_v0_apply]
  refine congrArg (H (ix2 s d) * ·) (congrArg g (Shape.idx_ext₂ rfl ?_))
  dsimp
  omega

theorem factor_at (s : Fin 8192) : val_main_v32 (F := Ideal) X g H (fun a => match a with | ⟨0, _⟩ => s)
    = RowNorm.factor (fun k => X (ix2 s k)) (fun k => H (ix2 s k) * g (ix2 0 k)) := by
  rw [val_main_v32_apply, Fin.sum_univ_one, val_main_cst_7_apply]
  refine (congrArg (· + _) Ideal.ofBits_zero_f32).trans ((zero_add _).trans ?_)
  rw [val_main_v31_apply, val_main_v30_apply, val_main_v29_apply, val_main_cst_6_apply, val_main_v26_apply, val_main_v25_apply, val_main_cst_5_apply,
    val_main_v11_apply, val_main_v10_apply, val_main_v9_apply, val_main_cst_2_apply]
  rw [show idx_main_v32 (fun a => match a with | ⟨0, _⟩ => s) (0 : Fin 1) = ix2 s 0 from Shape.idx_ext₂ rfl rfl, square_at, scale_at]
  have h : ∑ k : Fin 2048, val_main_v24 (F := Ideal) X g H (idx_main_v25 (idx_main_v26 (ix2 s 0)) k)
      = ∑ k : Fin 2048, X (ix2 s k) * (H (ix2 s k) * g (ix2 0 k)) := by
    refine Finset.sum_congr rfl fun k _ => ?_
    rw [show idx_main_v25 (idx_main_v26 (ix2 s 0)) k = ix2 s k from Shape.idx_ext₂ (by dsimp; omega) rfl, val_main_v24_apply, gained_at]
    rfl
  rw [h]
  unfold RowNorm.factor
  show Ideal.div ((Ideal.ofBits .f32 0x00000000#32 + _) * _) _ = _
  rw [Ideal.ofBits_zero_f32, zero_add]
  rfl

theorem spread_at (s : Fin 8192) (d : Fin 2048) : val_main_v33 (F := Ideal) X g H (ix2 s d)
    = RowNorm.factor (fun k => X (ix2 s k)) (fun k => H (ix2 s k) * g (ix2 0 k)) := by
  rw [val_main_v33_apply, ← factor_at]
  exact congrArg (val_main_v32 (F := Ideal) X g H) (funext fun a => match a with | ⟨0, _⟩ => rfl)

theorem sum_at (y : S8192x2048.Idx) : val_main_v38 (F := Ideal) X g H R y = total X g H R y := by
  obtain ⟨s, d, rfl⟩ : ∃ (s : Fin 8192) (d : Fin 2048), y = ix2 s d := ⟨y 0, y 1, funext fun a => match a with | 0 => rfl | 1 => rfl⟩
  rw [val_main_v38_apply, val_main_v37_apply, val_main_v36_apply, val_main_v35_apply, val_main_v34_apply, val_main_v28_apply, val_main_v27_apply,
    spread_at, gained_at, show idx_main_v27 (ix2 s d) = ix2 s 0 from Shape.idx_ext₂ rfl rfl, scale_at]
  exact congrArg (R (ix2 s d) + ·) (RowNorm.backRef_eq _ (fun k => H (ix2 s k) * g (ix2 0 k)) d)

theorem cast_at (y : S8192x2048.Idx) : val_main_v40 (F := Ideal) X g H R y = total X g H R y :=
  sum_at X g H R y

theorem dgain_at (y : S1x2048.Idx) : val_main_v41 (F := Ideal) X H y = dgain X H y := by
  obtain ⟨d, rfl⟩ : ∃ d : Fin 2048, y = ix2 0 d := ⟨y 1, funext fun a => match a with | 0 => Subsingleton.elim (α := Fin 1) _ _ | 1 => rfl⟩
  rw [val_main_v41_apply, val_main_v23_apply, Fin.sum_univ_one, val_main_cst_4_apply]
  refine (congrArg (· + _) Ideal.ofBits_zero_f32).trans ((zero_add _).trans ?_)
  rw [val_main_v20_apply, val_main_v19_apply, val_main_cst_3_apply]
  refine (congrArg (· + _) Ideal.ofBits_zero_f32).trans ((zero_add _).trans ?_)
  unfold dgain
  refine Finset.sum_congr rfl fun s _ => ?_
  unfold term
  rw [dif_pos s.isLt, val_main_v18_apply, val_main_v17_apply, val_main_v13_apply, val_main_v12_apply]
  rw [show idx_main_v19 (idx_main_v20 (idx_main_v23 (idx_main_v41 (ix2 0 d)) (0 : Fin 1))) s = ix2 s d from Shape.idx_ext₂ rfl (by dsimp; omega),
    show idx_main_v12 (ix2 s d) = ix2 s 0 from Shape.idx_ext₂ rfl rfl, scale_at]
  exact mul_comm _ _

end

end Cert.NormGrad

end
-- ==== Proof.FfnDown.lean ====
module

public import proofs.«01_k».proof.Proof.Accum
public import proofs.«01_k».proof.Proof.RowNorm
public import proofs.«01_k».proof.Proof.Gen.Kernel10Ideal.Value
public import proofs.«01_k».proof.Proof.Gen.Reference10Ideal.Read
public import Idealize.ShloMosaic.Lib.Pipeline.ValueKit

/-!
# The feed-forward layer's last product

For each block of rows the kernel adds the products of the eight pieces of the hidden layer and half of the sum goes on the
stream; the reference is one product over the whole hidden layer. Both then norm the rows.
-/

@[expose] public section

set_option maxRecDepth 16384

noncomputable section

namespace Cert.FfnDown

open Cert.Kernel10Ideal Cert.Kernel10Ideal.Gen Idealize.ShloMosaic Idealize.ShloMosaic.TcCoe Idealize.ShloMosaic.Tactic

variable (m : (ℓ : Loc nD τ sig) → Buf (Elt Ideal) ℓ) (c : Dev nD)

/-- The hidden layer, the matrix, the stream and the gain. -/
abbrev hid : S8x8192x704.Idx → EReal := m ((c : Thread nD τ).loc main_arg0)
abbrev wts : S8x704x2048.Idx → EReal := m ((c : Thread nD τ).loc main_arg1)
abbrev res : S8192x2048.Idx → EReal := m ((c : Thread nD τ).loc main_arg2)
abbrev gain : S1x2048.Idx → EReal := m ((c : Thread nD τ).loc main_arg3)

/-- The factor on the sum, one half. -/
def halfC : EReal := Ideal.ofBits .f32 0x3F000000#32

/-- One hidden unit's term of the product, by the unit's number. -/
def term (H : S8x8192x704.Idx → EReal) (W : S8x704x2048.Idx → EReal) (s : Fin 8192) (d : Fin 2048) (k : ℕ) : EReal :=
  if h : k < 5632 then H (ix3 ⟨k / 704, by omega⟩ s ⟨k % 704, by omega⟩) * W (ix3 ⟨k / 704, by omega⟩ ⟨k % 704, by omega⟩ d) else 0

/-- The new stream. -/
def row (H : S8x8192x704.Idx → EReal) (W : S8x704x2048.Idx → EReal) (X : S8192x2048.Idx → EReal) (s : Fin 8192) (d : Fin 2048) : EReal :=
  X (ix2 s d) + halfC * ∑ k : Fin 5632, term H W s d k.val

def stream (H : S8x8192x704.Idx → EReal) (W : S8x704x2048.Idx → EReal) (X : S8192x2048.Idx → EReal) (y : S8192x2048.Idx) : EReal :=
  row H W X (y 0) (y 1)

/-- Its norm, and the norm transposed. -/
def normed (H : S8x8192x704.Idx → EReal) (W : S8x704x2048.Idx → EReal) (X : S8192x2048.Idx → EReal) (g : S1x2048.Idx → EReal)
    (y : S8192x2048.Idx) : EReal := RowNorm.norm (row H W X (y 0)) (fun d => g (ix2 0 d)) (y 1)

def turned (H : S8x8192x704.Idx → EReal) (W : S8x704x2048.Idx → EReal) (X : S8192x2048.Idx → EReal) (g : S1x2048.Idx → EReal)
    (y : S2048x8192.Idx) : EReal := RowNorm.norm (row H W X (y 1)) (fun d => g (ix2 0 d)) (y 0)

theorem index0 (t : Fin cfg0.N) : win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0) t

theorem index1 (t : Fin cfg0.N) : win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0) t

theorem index2 (t : Fin cfg0.N) : win0_2.index t 0 = t.val ∧ win0_2.index t 1 = 0 :=
  (by decide +kernel : ∀ t : Fin grid0.N, win0_2.index t 0 = t.val ∧ win0_2.index t 1 = 0) t

theorem index3 (t : Fin cfg0.N) : win0_3.index t 0 = 0 ∧ win0_3.index t 1 = 0 :=
  (by decide +kernel : ∀ t : Fin grid0.N, win0_3.index t 0 = 0 ∧ win0_3.index t 1 = 0) t

theorem index4 (t : Fin cfg0.N) : win0_4.index t 0 = t.val ∧ win0_4.index t 1 = 0 :=
  (by decide +kernel : ∀ t : Fin grid0.N, win0_4.index t 0 = t.val ∧ win0_4.index t 1 = 0) t

theorem index5 (t : Fin cfg0.N) : win0_5.index t 0 = t.val ∧ win0_5.index t 1 = 0 :=
  (by decide +kernel : ∀ t : Fin grid0.N, win0_5.index t 0 = t.val ∧ win0_5.index t 1 = 0) t

theorem index6 (t : Fin cfg0.N) : win0_6.index t 0 = 0 ∧ win0_6.index t 1 = t.val :=
  (by decide +kernel : ∀ t : Fin grid0.N, win0_6.index t 0 = 0 ∧ win0_6.index t 1 = t.val) t

theorem block0 (t : Fin cfg0.N) (j : Fin 8) (r : Fin 256) (q : Fin 704) (s : Fin 8192) (hs : s.val = t.val * 256 + r.val) :
    iblk m c 0 t (ix3 j r q) = hid m c (ix3 j s q) := by
  blk_simp [iblk]
  rw [V_main_arg0]
  obtain ⟨h0, h1, h2⟩ := index0 t
  refine congrArg (m ((c : Thread nD τ).loc main_arg0)) (Accum.ext3 ?_ ?_ ?_)
  · blk_simp
    rw [h0]; exact Nat.zero_add _
  · blk_simp
    rw [h1, hs]
  · blk_simp
    rw [h2]; exact Nat.zero_add _

theorem block1 (t : Fin cfg0.N) (j : Fin 8) (q : Fin 704) (d : Fin 2048) : iblk m c 1 t (ix3 j q d) = wts m c (ix3 j q d) := by
  blk_simp [iblk]
  rw [V_main_arg1]
  obtain ⟨h0, h1, h2⟩ := index1 t
  refine congrArg (m ((c : Thread nD τ).loc main_arg1)) (Accum.ext3 ?_ ?_ ?_)
  · blk_simp
    rw [h0]; exact Nat.zero_add _
  · blk_simp
    rw [h1]; exact Nat.zero_add _
  · blk_simp
    rw [h2]; exact Nat.zero_add _

theorem block2 (t : Fin cfg0.N) (r : Fin 256) (d : Fin 2048) (s : Fin 8192) (hs : s.val = t.val * 256 + r.val) :
    iblk m c 2 t (ix2 r d) = res m c (ix2 s d) := by
  blk_simp [iblk]
  rw [V_main_arg2]
  obtain ⟨h0, h1⟩ := index2 t
  refine congrArg (m ((c : Thread nD τ).loc main_arg2)) (Shape.idx_ext₂ ?_ ?_)
  · blk_simp
    rw [h0, hs]
  · blk_simp
    rw [h1]; exact Nat.zero_add _

theorem block3 (t : Fin cfg0.N) (d : Fin 2048) : iblk m c 3 t (ix2 0 d) = gain m c (ix2 0 d) := by
  blk_simp [iblk]
  rw [V_main_arg3]
  obtain ⟨h0, h1⟩ := index3 t
  refine congrArg (m ((c : Thread nD τ).loc main_arg3)) (Shape.idx_ext₂ ?_ ?_)
  · blk_simp
    rw [h0]; rfl
  · blk_simp
    rw [h1]; exact Nat.zero_add _

/-- A piece's product. -/
def prod (x : S1x256x704.Idx → EReal) (w : S1x704x2048.Idx → EReal) (r : Fin 256) (d : Fin 2048) : EReal :=
  ∑ q : Fin 704, x (ix3 0 r q) * w (ix3 0 q d)

/-- The first four products. -/
theorem pay4_at (x0 x1 x2 x3 : Vec Ideal S1x256x704 .bf16) (w0 w1 w2 w3 : Vec Ideal S1x704x2048 .bf16) (r : Fin 256) (d : Fin 2048) :
    k0_pay4 x0 w0 x1 w1 x2 w2 x3 w3 (ix2 r d) = prod x0 w0 r d + prod x1 w1 r d + prod x2 w2 r d + prod x3 w3 r d := by
  unfold k0_pay4 prod
  pointwise

/-- The others, and the sum on the stream. -/
theorem pay6_at (u : Vec Ideal S256x2048 .f32) (x4 x5 x6 x7 : Vec Ideal S1x256x704 .bf16) (w4 w5 w6 w7 : Vec Ideal S1x704x2048 .bf16)
    (v : Vec Ideal S256x2048 .f32) (r : Fin 256) (d : Fin 2048) : k0_pay6 u (k0_pay5 x4) w4 x5 w5 x6 w6 x7 w7 v (ix2 r d)
      = v (ix2 r d) + halfC * (u (ix2 r d) + prod x4 w4 r d + prod x5 w5 r d + prod x6 w6 r d + prod x7 w7 r d) := by
  unfold k0_pay6 k0_pay5 prod halfC
  pointwise

/-- The sum of a row's squares. -/
theorem pay7_at (u : Vec Ideal S256x2048 .f32) (z : Vec Ideal S256x704 .bf16) (x5 x6 x7 : Vec Ideal S1x256x704 .bf16)
    (w4 w5 w6 w7 : Vec Ideal S1x704x2048 .bf16) (v : Vec Ideal S256x2048 .f32) (r : Fin 256) :
    k0_pay7 u z w4 x5 w5 x6 w6 x7 w7 v (ix2 r 0)
      = ∑ k : Fin 2048, k0_pay6 u z w4 x5 w5 x6 w6 x7 w7 v (ix2 r k) * k0_pay6 u z w4 x5 w5 x6 w6 x7 w7 v (ix2 r k) := by
  unfold k0_pay7
  generalize k0_pay6 u z w4 x5 w5 x6 w6 x7 w7 v = p
  pointwise

/-- The norm of what the first store wrote. -/
theorem pay1_at (v : Vec Ideal S256x2048 .f32) (q : Vec Ideal S256x1 .f32) (g : Vec Ideal S1x2048 .f32) (r : Fin 256) (d : Fin 2048)
    (hq : q (ix2 r 0) = ∑ k : Fin 2048, v (ix2 r k) * v (ix2 r k)) :
    k0_pay1 v q (Scalar.ofBits .f32 0x45000000#32) g (ix2 r d) = RowNorm.norm (fun k => v (ix2 r k)) (fun k => g (ix2 0 k)) d := by
  unfold RowNorm.norm RowNorm.scale
  rw [← hq]
  unfold k0_pay1
  pointwise

theorem pay2_at (v : Vec Ideal S256x2048 .f32) (q : Vec Ideal S256x1 .f32) (e : Ideal .f32) (g : Vec Ideal S1x2048 .f32) (r : Fin 256) (d : Fin 2048) :
    k0_pay2 v q e g (ix2 r d) = k0_pay1 v q e g (ix2 r d) := rfl

theorem pay3_at (v : Vec Ideal S256x2048 .f32) (q : Vec Ideal S256x1 .f32) (e : Ideal .f32) (g : Vec Ideal S1x2048 .f32) (r : Fin 256) (d : Fin 2048) :
    k0_pay3 v q e g (ix2 d r) = k0_pay1 v q e g (ix2 r d) := by
  unfold k0_pay3
  generalize k0_pay1 v q e g = u
  pointwise

/-- A piece of the product. -/
def blk (H : S8x8192x704.Idx → EReal) (W : S8x704x2048.Idx → EReal) (s : Fin 8192) (d : Fin 2048) (j : ℕ) : EReal :=
  ∑ q : Fin 704, term H W s d (j * 704 + q.val)

theorem sum_piece (H : S8x8192x704.Idx → EReal) (W : S8x704x2048.Idx → EReal) (s : Fin 8192) (d : Fin 2048) :
    ∑ k : Fin 5632, term H W s d k.val = ∑ j ∈ Finset.range 8, blk H W s d j :=
  (Accum.sum_blocks 8 704 (term H W s d)).symm

/-- A piece of the product, from the windows. -/
theorem prod_of {H : S8x8192x704.Idx → EReal} {W : S8x704x2048.Idx → EReal} (x : Vec Ideal S8x256x704 .bf16) (w : Vec Ideal S8x704x2048 .bf16)
    (j : ℕ) (hj : j < 8) (r : Fin 256) (d : Fin 2048) {i1 i2} (s : Fin 8192)
    (hx : ∀ (i : Fin 8) (q : Fin 704), x (ix3 i r q) = H (ix3 i s q)) (hw : ∀ (i : Fin 8) (q : Fin 704) (d : Fin 2048), w (ix3 i q d) = W (ix3 i q d)) :
    prod (View.ld x (Rect.unit ![j, 0, 0] ![1, 256, 704] i1)) (View.ld w (Rect.unit ![j, 0, 0] ![1, 704, 2048] i2)) r d = blk H W s d j := by
  unfold prod blk
  refine Finset.sum_congr rfl fun q _ => ?_
  have hq := q.isLt
  unfold term
  rw [dif_pos (by omega), ← hx, ← hw]
  refine congrArg₂ (fun a b : EReal => a * b) ?_ ?_
  · refine View.ld_unit_apply_of _ _ _ _ _ _ (fun a => match a with | 0 => ?_ | 1 => (Nat.zero_add _).symm | 2 => ?_)
    · show (j * 704 + q.val) / 704 = j + 0; omega
    · show (j * 704 + q.val) % 704 = 0 + q.val; omega
  · refine View.ld_unit_apply_of _ _ _ _ _ _ (fun a => match a with | 0 => ?_ | 1 => ?_ | 2 => (Nat.zero_add _).symm)
    · show (j * 704 + q.val) / 704 = j + 0; omega
    · show (j * 704 + q.val) % 704 = 0 + q.val; omega

/-- The first store, from the windows. -/
theorem sum_at {H : S8x8192x704.Idx → EReal} {W : S8x704x2048.Idx → EReal} {X : S8192x2048.Idx → EReal}
    (x : Vec Ideal S8x256x704 .bf16) (w : Vec Ideal S8x704x2048 .bf16) (v : Vec Ideal S256x2048 .f32) (g : Vec Ideal S1x2048 .f32)
    (r : Fin 256) (s : Fin 8192) (hx : ∀ (i : Fin 8) (q : Fin 704), x (ix3 i r q) = H (ix3 i s q))
    (hw : ∀ (i : Fin 8) (q : Fin 704) (d : Fin 2048), w (ix3 i q d) = W (ix3 i q d)) (hv : ∀ d : Fin 2048, v (ix2 r d) = X (ix2 s d)) (d : Fin 2048) :
    k0_pay10 x w v g (ix2 r d) = row H W X s d := by
  unfold k0_pay10 k0_pay9 k0_pay8
  rw [pay6_at, pay4_at, show View.ld v r0_16 = v from View.ld_unit_lit _ _ (by decide), hv]
  unfold row
  rw [sum_piece]
  simp only [Finset.sum_range_succ, Finset.sum_range_zero, zero_add]
  rw [prod_of x w 0 (by decide) r d s hx hw, prod_of x w 1 (by decide) r d s hx hw, prod_of x w 2 (by decide) r d s hx hw,
    prod_of x w 3 (by decide) r d s hx hw, prod_of x w 4 (by decide) r d s hx hw, prod_of x w 5 (by decide) r d s hx hw,
    prod_of x w 6 (by decide) r d s hx hw, prod_of x w 7 (by decide) r d s hx hw]

theorem squares (x : Vec Ideal S8x256x704 .bf16) (w : Vec Ideal S8x704x2048 .bf16) (v : Vec Ideal S256x2048 .f32) (g : Vec Ideal S1x2048 .f32)
    (r : Fin 256) : k0_pay11 x w v g (ix2 r 0) = ∑ k : Fin 2048, k0_pay10 x w v g (ix2 r k) * k0_pay10 x w v g (ix2 r k) := by
  unfold k0_pay11 k0_pay10
  exact pay7_at _ _ _ _ _ _ _ _ _ _ r

section
variable (t : Fin cfg0.N) (r : Fin 256) (d : Fin 2048) (s : Fin 8192) (hs : s.val = t.val * 256 + r.val)
include hs

theorem first_at (d : Fin 2048) : k0_pay10 (iblk m c 0 t) (iblk m c 1 t) (iblk m c 2 t) (iblk m c 3 t) (ix2 r d)
    = row (hid m c) (wts m c) (res m c) s d :=
  sum_at _ _ _ _ r s (fun i q => block0 m c t i r q s hs) (fun i q d => block1 m c t i q d) (fun d => block2 m c t r d s hs) d

theorem second_at : k0_pay1 (k0_pay10 (iblk m c 0 t) (iblk m c 1 t) (iblk m c 2 t) (iblk m c 3 t))
    (k0_pay11 (iblk m c 0 t) (iblk m c 1 t) (iblk m c 2 t) (iblk m c 3 t)) (Scalar.ofBits .f32 0x45000000#32) (View.ld (iblk m c 3 t) r0_17) (ix2 r d)
      = RowNorm.norm (row (hid m c) (wts m c) (res m c) s) (fun d => gain m c (ix2 0 d)) d := by
  rw [pay1_at _ _ _ r d (squares _ _ _ _ r)]
  refine congrArg₂ (fun f g => RowNorm.norm f g d) (funext fun k => first_at m c t r s hs k) (funext fun k => ?_)
  exact (congrFun (View.ld_unit_lit (S := S1x2048) _ _ (by decide)) _).trans (block3 m c t k)

theorem out4_at : out0_4 (iblk m c 0 t) (iblk m c 1 t) (iblk m c 2 t) (iblk m c 3 t) (ix2 r d)
    = stream (hid m c) (wts m c) (res m c) (ix2 s d) := by
  unfold out0_4
  rw [View.canon_cons_unit_lit _ _ _ (by decide)]
  exact first_at m c t r s hs d

theorem out5_at : out0_5 (iblk m c 0 t) (iblk m c 1 t) (iblk m c 2 t) (iblk m c 3 t) (ix2 r d)
    = normed (hid m c) (wts m c) (res m c) (gain m c) (ix2 s d) := by
  unfold out0_5
  rw [View.canon_cons_unit_lit _ _ _ (by decide), pay2_at]
  exact second_at m c t r d s hs

theorem out6_at : out0_6 (iblk m c 0 t) (iblk m c 1 t) (iblk m c 2 t) (iblk m c 3 t) (ix2 d r)
    = turned (hid m c) (wts m c) (res m c) (gain m c) (ix2 d s) := by
  unfold out0_6
  rw [View.canon_cons_unit_lit _ _ _ (by decide), pay3_at]
  exact second_at m c t r d s hs

end

/-- The kernel's results. -/
theorem result4 : (dats m 0 c).arrAt 4 cfg0.N = stream (hid m c) (wts m c) (res m c) := by
  refine (dats m 0 c).arrAt_eq_of_covers 4 _ (by decide +kernel) fun t hf y => ?_
  have hN := lt_of_lt_of_eq t.isLt (show cfg0.N = 32 from N_0)
  blk_simp
  rw [after0_4]
  obtain ⟨h0, h1⟩ := index4 t
  obtain ⟨r, d, rfl⟩ : ∃ (r : Fin 256) (d : Fin 2048), y = ix2 r d := ⟨y 0, y 1, funext fun a => match a with | 0 => rfl | 1 => rfl⟩
  have hr := r.isLt
  refine (out4_at m c t r d ⟨t.val * 256 + r.val, by omega⟩ rfl).trans (congrArg _ (Shape.idx_ext₂ ?_ ?_))
  · blk_simp
    rw [h0]
  · blk_simp
    rw [h1]; exact (Nat.zero_add _).symm

theorem result5 : (dats m 0 c).arrAt 5 cfg0.N = normed (hid m c) (wts m c) (res m c) (gain m c) := by
  refine (dats m 0 c).arrAt_eq_of_covers 5 _ (by decide +kernel) fun t hf y => ?_
  have hN := lt_of_lt_of_eq t.isLt (show cfg0.N = 32 from N_0)
  blk_simp
  rw [after0_5]
  obtain ⟨h0, h1⟩ := index5 t
  obtain ⟨r, d, rfl⟩ : ∃ (r : Fin 256) (d : Fin 2048), y = ix2 r d := ⟨y 0, y 1, funext fun a => match a with | 0 => rfl | 1 => rfl⟩
  have hr := r.isLt
  refine (out5_at m c t r d ⟨t.val * 256 + r.val, by omega⟩ rfl).trans (congrArg _ (Shape.idx_ext₂ ?_ ?_))
  · blk_simp
    rw [h0]
  · blk_simp
    rw [h1]; exact (Nat.zero_add _).symm

theorem result6 : (dats m 0 c).arrAt 6 cfg0.N = turned (hid m c) (wts m c) (res m c) (gain m c) := by
  refine (dats m 0 c).arrAt_eq_of_covers 6 _ (by decide +kernel) fun t hf y => ?_
  have hN := lt_of_lt_of_eq t.isLt (show cfg0.N = 32 from N_0)
  blk_simp
  rw [after0_6]
  obtain ⟨h0, h1⟩ := index6 t
  obtain ⟨d, r, rfl⟩ : ∃ (d : Fin 2048) (r : Fin 256), y = ix2 d r := ⟨y 0, y 1, funext fun a => match a with | 0 => rfl | 1 => rfl⟩
  have hr := r.isLt
  refine (out6_at m c t r d ⟨t.val * 256 + r.val, by omega⟩ rfl).trans (congrArg _ (Shape.idx_ext₂ ?_ ?_))
  · blk_simp
    rw [h0]; exact (Nat.zero_add _).symm
  · blk_simp
    rw [h1]

/-! ## The reference -/

section
open Cert.Reference10Ideal.Read

variable (H : S8x8192x704.Idx → EReal) (W : S8x704x2048.Idx → EReal) (X : S8192x2048.Idx → EReal) (g : S1x2048.Idx → EReal)

theorem row_at (s : Fin 8192) (d : Fin 2048) : val_main_v8 (F := Ideal) H W X (ix2 s d) = row H W X s d := by
  rw [val_main_v8_apply, val_main_v7_apply, val_main_v6_apply, val_main_cst_apply, val_main_v5_apply]
  unfold row halfC
  refine congrArg (fun p => X (ix2 s d) + Ideal.ofBits .f32 0x3F000000#32 * p) (Finset.sum_congr rfl fun k _ => ?_)
  rw [val_main_v4_apply, val_main_v3_apply, val_main_v2_apply, val_main_v1_apply, val_main_v0_apply]
  have hk := k.isLt
  have hs := s.isLt
  have hd := d.isLt
  unfold term
  rw [dif_pos hk]
  show H _ * W _ = _
  refine congrArg₂ (fun a b : EReal => a * b) (congrArg H (Accum.ext3 ?_ ?_ ?_)) (congrArg W (Accum.ext3 ?_ ?_ ?_))
  · show (s.val * 5632 + k.val) / 704 % 8 = k.val / 704; omega
  · show (s.val * 5632 + k.val) / 5632 = s.val; omega
  · show (s.val * 5632 + k.val) % 704 = k.val % 704; omega
  · show (k.val * 2048 + d.val) / 1441792 = k.val / 704; omega
  · show (k.val * 2048 + d.val) / 2048 % 704 = k.val % 704; omega
  · show (k.val * 2048 + d.val) % 2048 = d.val; omega

theorem stream_at (y : S8192x2048.Idx) : val_main_v8 (F := Ideal) H W X y = stream H W X y := by
  obtain ⟨s, d, rfl⟩ : ∃ (s : Fin 8192) (d : Fin 2048), y = ix2 s d := ⟨y 0, y 1, funext fun a => match a with | 0 => rfl | 1 => rfl⟩
  exact row_at H W X s d

theorem scale_at (s : Fin 8192) (u : Fin 1) : val_main_v17 (F := Ideal) H W X (ix2 s u) = RowNorm.scale (row H W X s) := by
  rw [val_main_v17_apply, val_main_v16_apply, val_main_v15_apply, val_main_v14_apply, val_main_v13_apply, val_main_v12_apply, val_main_v11_apply,
    val_main_cst_1_apply, val_main_cst_2_apply]
  have h : ∑ k : Fin 2048, val_main_v10 (F := Ideal) H W X (idx_main_v11 (idx_main_v12 (ix2 s u)) k) = ∑ k : Fin 2048, row H W X s k * row H W X s k := by
    refine Finset.sum_congr rfl fun k _ => ?_
    rw [show idx_main_v11 (idx_main_v12 (ix2 s u)) k = ix2 s k from Shape.idx_ext₂ rfl rfl, val_main_v10_apply, row_at]
    rfl
  rw [h]
  unfold RowNorm.scale
  show Ideal.rsqrt (Ideal.div (Ideal.ofBits .f32 0x00000000#32 + _) _ + _) = _
  rw [Ideal.ofBits_zero_f32, zero_add]
  rfl

theorem normed_at (y : S8192x2048.Idx) : val_main_v23 (F := Ideal) H W X g y = normed H W X g y := by
  obtain ⟨s, d, rfl⟩ : ∃ (s : Fin 8192) (d : Fin 2048), y = ix2 s d := ⟨y 0, y 1, funext fun a => match a with | 0 => rfl | 1 => rfl⟩
  rw [val_main_v23_apply, val_main_v22_apply, val_main_v19_apply, val_main_v18_apply, val_main_v21_apply, val_main_v20_apply, val_main_v9_apply, row_at,
    show idx_main_v18 (ix2 s d) = ix2 s 0 from Shape.idx_ext₂ rfl rfl, scale_at]
  unfold normed RowNorm.norm
  refine congrArg (row H W X s d * RowNorm.scale (row H W X s) * ·) (congrArg g (Shape.idx_ext₂ rfl ?_))
  dsimp
  omega

theorem turned_at (y : S2048x8192.Idx) : val_main_v24 (F := Ideal) H W X g y = turned H W X g y := by
  rw [val_main_v24_apply, normed_at]
  rfl

end

end Cert.FfnDown

end
-- ==== Proof.LastDown.lean ====
module

public import proofs.«01_k».proof.Proof.FfnDown
public import proofs.«01_k».proof.Proof.Gen.Kernel14Ideal.Value
public import proofs.«01_k».proof.Proof.Gen.Reference14Ideal.Read
public import Idealize.ShloMosaic.Lib.Pipeline.ValueKit

/-!
# The last feed-forward layer's last product

The same product and sum as in the other feed-forward layers; no norm follows it.
-/

@[expose] public section

set_option maxRecDepth 16384

noncomputable section

namespace Cert.LastDown

open Cert.Kernel14Ideal Cert.Kernel14Ideal.Gen Idealize.ShloMosaic Idealize.ShloMosaic.TcCoe Idealize.ShloMosaic.Tactic
open Cert.FfnDown (halfC term row stream blk sum_piece)

variable (m : (ℓ : Loc nD τ sig) → Buf (Elt Ideal) ℓ) (c : Dev nD)

/-- The hidden layer, the matrix and the stream. -/
abbrev hid : S8x8192x704.Idx → EReal := m ((c : Thread nD τ).loc main_arg0)
abbrev wts : S8x704x2048.Idx → EReal := m ((c : Thread nD τ).loc main_arg1)
abbrev res : S8192x2048.Idx → EReal := m ((c : Thread nD τ).loc main_arg2)

theorem index0 (t : Fin cfg0.N) : win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0) t

theorem index1 (t : Fin cfg0.N) : win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0) t

theorem index2 (t : Fin cfg0.N) : win0_2.index t 0 = t.val ∧ win0_2.index t 1 = 0 :=
  (by decide +kernel : ∀ t : Fin grid0.N, win0_2.index t 0 = t.val ∧ win0_2.index t 1 = 0) t

theorem index3 (t : Fin cfg0.N) : win0_3.index t 0 = t.val ∧ win0_3.index t 1 = 0 :=
  (by decide +kernel : ∀ t : Fin grid0.N, win0_3.index t 0 = t.val ∧ win0_3.index t 1 = 0) t

theorem block0 (t : Fin cfg0.N) (j : Fin 8) (r : Fin 256) (q : Fin 704) (s : Fin 8192) (hs : s.val = t.val * 256 + r.val) :
    iblk m c 0 t (ix3 j r q) = hid m c (ix3 j s q) := by
  blk_simp [iblk]
  rw [V_main_arg0]
  obtain ⟨h0, h1, h2⟩ := index0 t
  refine congrArg (m ((c : Thread nD τ).loc main_arg0)) (Accum.ext3 ?_ ?_ ?_)
  · blk_simp
    rw [h0]; exact Nat.zero_add _
  · blk_simp
    rw [h1, hs]
  · blk_simp
    rw [h2]; exact Nat.zero_add _

theorem block1 (t : Fin cfg0.N) (j : Fin 8) (q : Fin 704) (d : Fin 2048) : iblk m c 1 t (ix3 j q d) = wts m c (ix3 j q d) := by
  blk_simp [iblk]
  rw [V_main_arg1]
  obtain ⟨h0, h1, h2⟩ := index1 t
  refine congrArg (m ((c : Thread nD τ).loc main_arg1)) (Accum.ext3 ?_ ?_ ?_)
  · blk_simp
    rw [h0]; exact Nat.zero_add _
  · blk_simp
    rw [h1]; exact Nat.zero_add _
  · blk_simp
    rw [h2]; exact Nat.zero_add _

theorem block2 (t : Fin cfg0.N) (r : Fin 256) (d : Fin 2048) (s : Fin 8192) (hs : s.val = t.val * 256 + r.val) :
    iblk m c 2 t (ix2 r d) = res m c (ix2 s d) := by
  blk_simp [iblk]
  rw [V_main_arg2]
  obtain ⟨h0, h1⟩ := index2 t
  refine congrArg (m ((c : Thread nD τ).loc main_arg2)) (Shape.idx_ext₂ ?_ ?_)
  · blk_simp
    rw [h0, hs]
  · blk_simp
    rw [h1]; exact Nat.zero_add _

/-- A piece's product. -/
def prod (x : S1x256x704.Idx → EReal) (w : S1x704x2048.Idx → EReal) (r : Fin 256) (d : Fin 2048) : EReal :=
  ∑ q : Fin 704, x (ix3 0 r q) * w (ix3 0 q d)

/-- The first four products. -/
theorem pay2_at (x0 x1 x2 x3 : Vec Ideal S1x256x704 .bf16) (w0 w1 w2 w3 : Vec Ideal S1x704x2048 .bf16) (r : Fin 256) (d : Fin 2048) :
    k0_pay2 x0 w0 x1 w1 x2 w2 x3 w3 (ix2 r d) = prod x0 w0 r d + prod x1 w1 r d + prod x2 w2 r d + prod x3 w3 r d := by
  unfold k0_pay2 prod
  pointwise

/-- The others, and the sum on the stream. -/
theorem pay1_at (u : Vec Ideal S256x2048 .f32) (x4 x5 x6 x7 : Vec Ideal S1x256x704 .bf16) (w4 w5 w6 w7 : Vec Ideal S1x704x2048 .bf16)
    (v : Vec Ideal S256x2048 .f32) (r : Fin 256) (d : Fin 2048) : k0_pay1 u (k0_pay3 x4) w4 x5 w5 x6 w6 x7 w7 v (ix2 r d)
      = v (ix2 r d) + halfC * (u (ix2 r d) + prod x4 w4 r d + prod x5 w5 r d + prod x6 w6 r d + prod x7 w7 r d) := by
  unfold k0_pay1 k0_pay3 prod halfC
  pointwise

/-- A piece of the product, from the windows. -/
theorem prod_of {H : S8x8192x704.Idx → EReal} {W : S8x704x2048.Idx → EReal} (x : Vec Ideal S8x256x704 .bf16) (w : Vec Ideal S8x704x2048 .bf16)
    (j : ℕ) (hj : j < 8) (r : Fin 256) (d : Fin 2048) {i1 i2} (s : Fin 8192)
    (hx : ∀ (i : Fin 8) (q : Fin 704), x (ix3 i r q) = H (ix3 i s q)) (hw : ∀ (i : Fin 8) (q : Fin 704) (d : Fin 2048), w (ix3 i q d) = W (ix3 i q d)) :
    prod (View.ld x (Rect.unit ![j, 0, 0] ![1, 256, 704] i1)) (View.ld w (Rect.unit ![j, 0, 0] ![1, 704, 2048] i2)) r d = blk H W s d j := by
  unfold prod blk
  refine Finset.sum_congr rfl fun q _ => ?_
  have hq := q.isLt
  unfold term
  rw [dif_pos (by omega), ← hx, ← hw]
  refine congrArg₂ (fun a b : EReal => a * b) ?_ ?_
  · refine View.ld_unit_apply_of _ _ _ _ _ _ (fun a => match a with | 0 => ?_ | 1 => (Nat.zero_add _).symm | 2 => ?_)
    · show (j * 704 + q.val) / 704 = j + 0; omega
    · show (j * 704 + q.val) % 704 = 0 + q.val; omega
  · refine View.ld_unit_apply_of _ _ _ _ _ _ (fun a => match a with | 0 => ?_ | 1 => ?_ | 2 => (Nat.zero_add _).symm)
    · show (j * 704 + q.val) / 704 = j + 0; omega
    · show (j * 704 + q.val) % 704 = 0 + q.val; omega

/-- The store, from the windows. -/
theorem sum_at {H : S8x8192x704.Idx → EReal} {W : S8x704x2048.Idx → EReal} {X : S8192x2048.Idx → EReal}
    (x : Vec Ideal S8x256x704 .bf16) (w : Vec Ideal S8x704x2048 .bf16) (v : Vec Ideal S256x2048 .f32)
    (r : Fin 256) (s : Fin 8192) (hx : ∀ (i : Fin 8) (q : Fin 704), x (ix3 i r q) = H (ix3 i s q))
    (hw : ∀ (i : Fin 8) (q : Fin 704) (d : Fin 2048), w (ix3 i q d) = W (ix3 i q d)) (hv : ∀ d : Fin 2048, v (ix2 r d) = X (ix2 s d)) (d : Fin 2048) :
    out0_3 x w v (ix2 r d) = row H W X s d := by
  unfold out0_3
  rw [View.canon_cons_unit_lit _ _ _ (by decide), pay1_at, pay2_at, show View.ld v r0_16 = v from View.ld_unit_lit _ _ (by decide), hv]
  unfold row
  rw [sum_piece]
  simp only [Finset.sum_range_succ, Finset.sum_range_zero, zero_add]
  rw [prod_of x w 0 (by decide) r d s hx hw, prod_of x w 1 (by decide) r d s hx hw, prod_of x w 2 (by decide) r d s hx hw,
    prod_of x w 3 (by decide) r d s hx hw, prod_of x w 4 (by decide) r d s hx hw, prod_of x w 5 (by decide) r d s hx hw,
    prod_of x w 6 (by decide) r d s hx hw, prod_of x w 7 (by decide) r d s hx hw]

theorem out3_at (t : Fin cfg0.N) (r : Fin 256) (d : Fin 2048) (s : Fin 8192) (hs : s.val = t.val * 256 + r.val) :
    out0_3 (iblk m c 0 t) (iblk m c 1 t) (iblk m c 2 t) (ix2 r d) = stream (hid m c) (wts m c) (res m c) (ix2 s d) :=
  sum_at _ _ _ r s (fun i q => block0 m c t i r q s hs) (fun i q d => block1 m c t i q d) (fun d => block2 m c t r d s hs) d

/-- The kernel's result. -/
theorem result3 : (dats m 0 c).arrAt 3 cfg0.N = stream (hid m c) (wts m c) (res m c) := by
  refine (dats m 0 c).arrAt_eq_of_covers 3 _ (by decide +kernel) fun t hf y => ?_
  have hN := lt_of_lt_of_eq t.isLt (show cfg0.N = 32 from N_0)
  blk_simp
  rw [after0_3]
  obtain ⟨h0, h1⟩ := index3 t
  obtain ⟨r, d, rfl⟩ : ∃ (r : Fin 256) (d : Fin 2048), y = ix2 r d := ⟨y 0, y 1, funext fun a => match a with | 0 => rfl | 1 => rfl⟩
  have hr := r.isLt
  refine (out3_at m c t r d ⟨t.val * 256 + r.val, by omega⟩ rfl).trans (congrArg _ (Shape.idx_ext₂ ?_ ?_))
  · blk_simp
    rw [h0]
  · blk_simp
    rw [h1]; exact (Nat.zero_add _).symm

/-! ## The reference -/

section
open Cert.Reference14Ideal.Read

variable (H : S8x8192x704.Idx → EReal) (W : S8x704x2048.Idx → EReal) (X : S8192x2048.Idx → EReal)

theorem row_at (s : Fin 8192) (d : Fin 2048) : val_main_v8 (F := Ideal) H W X (ix2 s d) = row H W X s d := by
  rw [val_main_v8_apply, val_main_v7_apply, val_main_v6_apply, val_main_cst_apply, val_main_v5_apply]
  unfold row halfC
  refine congrArg (fun p => X (ix2 s d) + Ideal.ofBits .f32 0x3F000000#32 * p) (Finset.sum_congr rfl fun k _ => ?_)
  rw [val_main_v4_apply, val_main_v3_apply, val_main_v2_apply, val_main_v1_apply, val_main_v0_apply]
  have hk := k.isLt
  have hs := s.isLt
  have hd := d.isLt
  unfold term
  rw [dif_pos hk]
  show H _ * W _ = _
  refine congrArg₂ (fun a b : EReal => a * b) (congrArg H (Accum.ext3 ?_ ?_ ?_)) (congrArg W (Accum.ext3 ?_ ?_ ?_))
  · show (s.val * 5632 + k.val) / 704 % 8 = k.val / 704; omega
  · show (s.val * 5632 + k.val) / 5632 = s.val; omega
  · show (s.val * 5632 + k.val) % 704 = k.val % 704; omega
  · show (k.val * 2048 + d.val) / 1441792 = k.val / 704; omega
  · show (k.val * 2048 + d.val) / 2048 % 704 = k.val % 704; omega
  · show (k.val * 2048 + d.val) % 2048 = d.val; omega

theorem stream_at (y : S8192x2048.Idx) : val_main_v8 (F := Ideal) H W X y = stream H W X y := by
  obtain ⟨s, d, rfl⟩ : ∃ (s : Fin 8192) (d : Fin 2048), y = ix2 s d := ⟨y 0, y 1, funext fun a => match a with | 0 => rfl | 1 => rfl⟩
  exact row_at H W X s d

end

end Cert.LastDown

end
-- ==== Proof.FinalLoss.lean ====
module

public import proofs.«01_k».proof.Proof.Accum
public import proofs.«01_k».proof.Proof.NormBack
public import proofs.«01_k».proof.Proof.Gen.Kernel15Ideal.Value
public import proofs.«01_k».proof.Proof.Gen.Reference15Ideal.Read
public import Idealize.ShloMosaic.Lib.Pipeline.ValueKit

/-!
# The loss and its gradients

For each block of rows the kernel adds the squares of what the last norm misses the target by to one number, writes the
gradient of the stream twice, and adds the block's rows of the gain's gradient to one row.
-/

@[expose] public section

set_option maxRecDepth 16384

noncomputable section

namespace Cert.FinalLoss

open Cert.Kernel15Ideal Cert.Kernel15Ideal.Gen Idealize.ShloMosaic Idealize.ShloMosaic.TcCoe Idealize.ShloMosaic.Tactic

variable (m : (ℓ : Loc nD τ sig) → Buf (Elt Ideal) ℓ) (c : Dev nD)

/-- The rows, the gain and the target. -/
abbrev rows : S8192x2048.Idx → EReal := m ((c : Thread nD τ).loc main_arg0)
abbrev gain : S1x2048.Idx → EReal := m ((c : Thread nD τ).loc main_arg1)
abbrev goal : S8192x2048.Idx → EReal := m ((c : Thread nD τ).loc main_arg2)

/-- The factors of the loss and of its derivative, and the factors in the reference. -/
abbrev lossC : EReal := Ideal.ofBits .f32 0x39800000#32
abbrev stepC : EReal := Ideal.ofBits .f32 0x3A000000#32
abbrev halfC : EReal := Ideal.ofBits .f32 0x3F000000#32
abbrev oneC : EReal := Ideal.ofBits .f32 0x3F800000#32
abbrev twoC : EReal := Ideal.ofBits .f32 0x40000000#32

/-- What the norm misses the target by. -/
def miss (X : S8192x2048.Idx → EReal) (g : S1x2048.Idx → EReal) (T : S8192x2048.Idx → EReal) (s : Fin 8192) (d : Fin 2048) : EReal :=
  RowNorm.norm (fun k => X (ix2 s k)) (fun k => g (ix2 0 k)) d - T (ix2 s d)

/-- A row's squares, by the row's number, and the loss. -/
def squares (X : S8192x2048.Idx → EReal) (g : S1x2048.Idx → EReal) (T : S8192x2048.Idx → EReal) (s : ℕ) : EReal :=
  if h : s < 8192 then ∑ d : Fin 2048, miss X g T ⟨s, h⟩ d * miss X g T ⟨s, h⟩ d else 0

def loss (X : S8192x2048.Idx → EReal) (g : S1x2048.Idx → EReal) (T : S8192x2048.Idx → EReal) : EReal :=
  (∑ s : Fin 8192, squares X g T s.val) * lossC

/-- The stream's cotangent. -/
def total (X : S8192x2048.Idx → EReal) (g : S1x2048.Idx → EReal) (T : S8192x2048.Idx → EReal) (y : S8192x2048.Idx) : EReal :=
  RowNorm.back (fun k => X (ix2 (y 0) k)) (fun k => miss X g T (y 0) k * stepC * g (ix2 0 k)) (y 1)

/-- One row's term of the gain's gradient, by the row's number, and the gradient. -/
def term (X : S8192x2048.Idx → EReal) (g : S1x2048.Idx → EReal) (T : S8192x2048.Idx → EReal) (d : Fin 2048) (s : ℕ) : EReal :=
  if h : s < 8192 then miss X g T ⟨s, h⟩ d * stepC * (X (ix2 ⟨s, h⟩ d) * RowNorm.scale fun k => X (ix2 ⟨s, h⟩ k)) else 0

def dgain (X : S8192x2048.Idx → EReal) (g : S1x2048.Idx → EReal) (T : S8192x2048.Idx → EReal) (y : S1x2048.Idx) : EReal :=
  ∑ s : Fin 8192, term X g T (y 1) s.val

theorem index0 (t : Fin cfg0.N) : win0_0.index t 0 = t.val ∧ win0_0.index t 1 = 0 :=
  (by decide +kernel : ∀ t : Fin grid0.N, win0_0.index t 0 = t.val ∧ win0_0.index t 1 = 0) t

theorem index1 (t : Fin cfg0.N) : win0_1.index t 0 = 0 ∧ win0_1.index t 1 = 0 :=
  (by decide +kernel : ∀ t : Fin grid0.N, win0_1.index t 0 = 0 ∧ win0_1.index t 1 = 0) t

theorem index2 (t : Fin cfg0.N) : win0_2.index t 0 = t.val ∧ win0_2.index t 1 = 0 :=
  (by decide +kernel : ∀ t : Fin grid0.N, win0_2.index t 0 = t.val ∧ win0_2.index t 1 = 0) t

theorem index3 (t : Fin cfg0.N) : win0_3.index t 0 = 0 ∧ win0_3.index t 1 = 0 :=
  (by decide +kernel : ∀ t : Fin grid0.N, win0_3.index t 0 = 0 ∧ win0_3.index t 1 = 0) t

theorem index4 (t : Fin cfg0.N) : win0_4.index t 0 = t.val ∧ win0_4.index t 1 = 0 :=
  (by decide +kernel : ∀ t : Fin grid0.N, win0_4.index t 0 = t.val ∧ win0_4.index t 1 = 0) t

theorem index5 (t : Fin cfg0.N) : win0_5.index t 0 = t.val ∧ win0_5.index t 1 = 0 :=
  (by decide +kernel : ∀ t : Fin grid0.N, win0_5.index t 0 = t.val ∧ win0_5.index t 1 = 0) t

theorem index6 (t : Fin cfg0.N) : win0_6.index t 0 = 0 ∧ win0_6.index t 1 = 0 :=
  (by decide +kernel : ∀ t : Fin grid0.N, win0_6.index t 0 = 0 ∧ win0_6.index t 1 = 0) t

theorem block0 (t : Fin cfg0.N) (r : Fin 256) (d : Fin 2048) (s : Fin 8192) (hs : s.val = t.val * 256 + r.val) :
    iblk m c 0 t (ix2 r d) = rows m c (ix2 s d) := by
  blk_simp [iblk]
  rw [V_main_arg0]
  obtain ⟨h0, h1⟩ := index0 t
  refine congrArg (m ((c : Thread nD τ).loc main_arg0)) (Shape.idx_ext₂ ?_ ?_)
  · blk_simp
    rw [h0, hs]
  · blk_simp
    rw [h1]; exact Nat.zero_add _

theorem block1 (t : Fin cfg0.N) (d : Fin 2048) : iblk m c 1 t (ix2 0 d) = gain m c (ix2 0 d) := by
  blk_simp [iblk]
  rw [V_main_arg1]
  obtain ⟨h0, h1⟩ := index1 t
  refine congrArg (m ((c : Thread nD τ).loc main_arg1)) (Shape.idx_ext₂ ?_ ?_)
  · blk_simp
    rw [h0]; rfl
  · blk_simp
    rw [h1]; exact Nat.zero_add _

theorem block2 (t : Fin cfg0.N) (r : Fin 256) (d : Fin 2048) (s : Fin 8192) (hs : s.val = t.val * 256 + r.val) :
    iblk m c 2 t (ix2 r d) = goal m c (ix2 s d) := by
  blk_simp [iblk]
  rw [V_main_arg2]
  obtain ⟨h0, h1⟩ := index2 t
  refine congrArg (m ((c : Thread nD τ).loc main_arg2)) (Shape.idx_ext₂ ?_ ?_)
  · blk_simp
    rw [h0, hs]
  · blk_simp
    rw [h1]; exact Nat.zero_add _

theorem loss_eq : lossC = ((1 / 4096 : ℝ) : EReal) := by
  unfold lossC
  simp [Ideal.ofBits, Ideal.ieee]
  rw [← EReal.coe_mul]
  norm_num

theorem step_eq : stepC = ((1 / 2048 : ℝ) : EReal) := by
  unfold stepC
  simp [Ideal.ofBits, Ideal.ieee]
  rw [← EReal.coe_mul]
  norm_num

theorem half_eq : halfC = ((1 / 2 : ℝ) : EReal) := by
  unfold halfC
  simp [Ideal.ofBits, Ideal.ieee]
  rw [← EReal.coe_mul]
  norm_num

theorem one_eq : oneC = ((1 : ℝ) : EReal) := by
  unfold oneC
  simp [Ideal.ofBits, Ideal.ieee]
  rw [← EReal.coe_mul]
  norm_num

theorem two_eq : twoC = ((2 : ℝ) : EReal) := by
  unfold twoC
  simp [Ideal.ofBits, Ideal.ieee]
  rw [← EReal.coe_mul]
  norm_num

theorem zero6 (y) : (k0_pay6 (F := Ideal)) y = 0 := Ideal.ofBits_zero_f32
theorem zero7 (y) : (k0_pay7 (F := Ideal)) y = 0 := Ideal.ofBits_zero_f32

/-- An entry of a block by its row's scale. -/
def scaled (x : Vec Ideal S256x2048 .f32) (r : Fin 256) (d : Fin 2048) : EReal := x (ix2 r d) * RowNorm.scale fun k => x (ix2 r k)

section
variable (x : Vec Ideal S256x2048 .f32) (g : Vec Ideal S1x2048 .f32) (w : Vec Ideal S256x2048 .f32) (r : Fin 256) (d : Fin 2048)

theorem pay8_at : k0_pay8 x g w (ix2 r d) = RowNorm.norm (fun k => x (ix2 r k)) (fun k => g (ix2 0 k)) d - w (ix2 r d) := by
  unfold RowNorm.norm RowNorm.scale k0_pay8
  pointwise

theorem pay10_at : k0_pay10 x g w (ix2 r d) = k0_pay8 x g w (ix2 r d) * stepC := by
  unfold k0_pay10
  generalize k0_pay8 x g w = q
  pointwise

theorem pay1_at : k0_pay1 (k0_pay11 x) (Scalar.ofBits .f32 0x45000000#32) (ix2 r 0) = RowNorm.scale fun k => x (ix2 r k) := by
  unfold RowNorm.scale k0_pay1 k0_pay11
  pointwise

theorem pay2_at : k0_pay2 x (k0_pay11 x) (Scalar.ofBits .f32 0x45000000#32) (ix2 r d) = x (ix2 r d) * RowNorm.scale fun k => x (ix2 r k) := by
  rw [← pay1_at]
  unfold k0_pay2
  generalize k0_pay1 (k0_pay11 x) (Scalar.ofBits .f32 0x45000000#32) = q
  pointwise

/-- The gradient of the stream. -/
theorem pay3_at (u : FVec Ideal S256x2048 .f32) : k0_pay3 x g u (k0_pay11 x) (Scalar.ofBits .f32 0x45000000#32) (ix2 r d)
    = RowNorm.back (fun k => x (ix2 r k)) (fun k => u (ix2 r k) * g (ix2 0 k)) d := by
  have hq := pay2_at x
  have hp := pay1_at x
  unfold k0_pay3 RowNorm.back
  generalize k0_pay2 x (k0_pay11 x) (Scalar.ofBits .f32 0x45000000#32) = q at hq ⊢
  generalize k0_pay1 (k0_pay11 x) (Scalar.ofBits .f32 0x45000000#32) = p at hp ⊢
  pointwise
  simp only [hq, hp]

/-- A block's rows of the gain's gradient added up. -/
theorem pay5_at (u : FVec Ideal S256x2048 .f32) (v : Vec Ideal S1x2048 .f32) : k0_pay5 x u (k0_pay11 x) (Scalar.ofBits .f32 0x45000000#32) v (ix2 0 d)
    = v (ix2 0 d) + ∑ i : Fin 256, u (ix2 i d) * scaled x i d := by
  have hq := pay2_at x
  unfold k0_pay5
  generalize k0_pay2 x (k0_pay11 x) (Scalar.ofBits .f32 0x45000000#32) = q at hq ⊢
  pointwise
  simp only [hq, scaled]

/-- A block's squares added up. -/
theorem pay9_at (v : Vec Ideal S1x128 .f32) (l : Fin 128) : k0_pay9 x g w v (ix2 0 l)
    = v (ix2 0 l) + (∑ i : Fin 256, ∑ k : Fin 2048, k0_pay8 x g w (ix2 i k) * k0_pay8 x g w (ix2 i k)) * lossC := by
  unfold k0_pay9
  generalize k0_pay8 x g w = q
  pointwise

end

theorem loss_A (t : Fin cfg0.N) (h0 : t.val % 32 = 0) (y : S1x128.Idx) : (outsAt0 m c t.val t.isLt).1 y
    = k0_pay9 (iblk m c 0 t) (iblk m c 1 t) (iblk m c 2 t) (k0_pay7 (F := Ideal)) y := by
  rw [outsAt0_A m c t h0]
  frame_out

theorem loss_B (t : Fin cfg0.N) (h0 : ¬ t.val % 32 = 0) (y : S1x128.Idx) : (outsAt0 m c t.val t.isLt).1 y
    = k0_pay9 (iblk m c 0 t) (iblk m c 1 t) (iblk m c 2 t) (outsAt0 m c (t.val - 1) (Nat.lt_of_le_of_lt (Nat.sub_le _ _) t.isLt)).1 y := by
  rw [outsAt0_B m c t h0]
  frame_out

theorem first (t : Fin cfg0.N) (y : S256x2048.Idx) : (outsAt0 m c t.val t.isLt).2.1 y
    = k0_pay3 (iblk m c 0 t) (iblk m c 1 t) (k0_pay10 (iblk m c 0 t) (iblk m c 1 t) (iblk m c 2 t)) (k0_pay11 (iblk m c 0 t)) (Scalar.ofBits .f32 0x45000000#32) y := by
  by_cases h0 : t.val % 32 = 0
  · rw [outsAt0_A m c t h0]
    frame_out
  · rw [outsAt0_B m c t h0]
    frame_out

theorem second (t : Fin cfg0.N) (y : S256x2048.Idx) : (outsAt0 m c t.val t.isLt).2.2.1 y
    = k0_pay3 (iblk m c 0 t) (iblk m c 1 t) (k0_pay10 (iblk m c 0 t) (iblk m c 1 t) (iblk m c 2 t)) (k0_pay11 (iblk m c 0 t)) (Scalar.ofBits .f32 0x45000000#32) y := by
  by_cases h0 : t.val % 32 = 0
  · rw [outsAt0_A m c t h0]
    frame_out
    rfl
  · rw [outsAt0_B m c t h0]
    frame_out
    rfl

theorem third_A (t : Fin cfg0.N) (h0 : t.val % 32 = 0) (y : S1x2048.Idx) : (outsAt0 m c t.val t.isLt).2.2.2 y
    = k0_pay5 (iblk m c 0 t) (k0_pay10 (iblk m c 0 t) (iblk m c 1 t) (iblk m c 2 t)) (k0_pay11 (iblk m c 0 t)) (Scalar.ofBits .f32 0x45000000#32) (k0_pay6 (F := Ideal)) y := by
  rw [outsAt0_A m c t h0]
  frame_out

theorem third_B (t : Fin cfg0.N) (h0 : ¬ t.val % 32 = 0) (y : S1x2048.Idx) : (outsAt0 m c t.val t.isLt).2.2.2 y
    = k0_pay5 (iblk m c 0 t) (k0_pay10 (iblk m c 0 t) (iblk m c 1 t) (iblk m c 2 t)) (k0_pay11 (iblk m c 0 t)) (Scalar.ofBits .f32 0x45000000#32)
      (outsAt0 m c (t.val - 1) (Nat.lt_of_le_of_lt (Nat.sub_le _ _) t.isLt)).2.2.2 y := by
  rw [outsAt0_B m c t h0]
  frame_out

section
variable (t : Fin cfg0.N) (r : Fin 256) (d : Fin 2048) (s : Fin 8192) (hs : s.val = t.val * 256 + r.val)
include hs

theorem miss_at : k0_pay8 (iblk m c 0 t) (iblk m c 1 t) (iblk m c 2 t) (ix2 r d) = miss (rows m c) (gain m c) (goal m c) s d := by
  rw [pay8_at]
  unfold miss
  exact congrArg₂ (fun a b : EReal => a - b) (congrArg₂ (fun f g => RowNorm.norm f g d) (funext fun k => block0 m c t r k s hs)
    (funext fun k => block1 m c t k)) (block2 m c t r d s hs)

theorem total_at : k0_pay3 (iblk m c 0 t) (iblk m c 1 t) (k0_pay10 (iblk m c 0 t) (iblk m c 1 t) (iblk m c 2 t)) (k0_pay11 (iblk m c 0 t)) (Scalar.ofBits .f32 0x45000000#32) (ix2 r d)
    = total (rows m c) (gain m c) (goal m c) (ix2 s d) := by
  rw [pay3_at]
  refine congrArg₂ (fun f u => RowNorm.back f u d) (funext fun k => block0 m c t r k s hs) (funext fun k => ?_)
  rw [pay10_at, miss_at m c t r k s hs]
  exact congrArg (_ * ·) (block1 m c t k)

theorem row_at : k0_pay10 (iblk m c 0 t) (iblk m c 1 t) (iblk m c 2 t) (ix2 r d) * scaled (iblk m c 0 t) r d
    = term (rows m c) (gain m c) (goal m c) d s.val := by
  rw [pay10_at, miss_at m c t r d s hs]
  unfold term
  rw [dif_pos s.isLt]
  refine congrArg (_ * ·)
    (congrArg₂ (fun a b : EReal => a * b) (block0 m c t r d s hs) (congrArg RowNorm.scale (funext fun k => block0 m c t r k s hs)))

theorem squares_at : ∑ k : Fin 2048, k0_pay8 (iblk m c 0 t) (iblk m c 1 t) (iblk m c 2 t) (ix2 r k) * k0_pay8 (iblk m c 0 t) (iblk m c 1 t) (iblk m c 2 t) (ix2 r k) = squares (rows m c) (gain m c) (goal m c) s.val := by
  unfold squares
  rw [dif_pos s.isLt]
  exact Finset.sum_congr rfl fun k _ => by rw [miss_at m c t r k s hs]

end

/-- What a point adds to the loss and to the gain's gradient. -/
def lossPart (n : ℕ) (y : S1x128.Idx) : EReal := (∑ r : Fin 256, squares (rows m c) (gain m c) (goal m c) (n * 256 + r.val)) * lossC
def part (n : ℕ) (y : S1x2048.Idx) : EReal := ∑ r : Fin 256, term (rows m c) (gain m c) (goal m c) (y 1) (n * 256 + r.val)

theorem lossPart_at (t : Fin cfg0.N) (y : S1x128.Idx) :
    (∑ r : Fin 256, ∑ k : Fin 2048, k0_pay8 (iblk m c 0 t) (iblk m c 1 t) (iblk m c 2 t) (ix2 r k) * k0_pay8 (iblk m c 0 t) (iblk m c 1 t) (iblk m c 2 t) (ix2 r k)) * lossC = lossPart m c t.val y := by
  have hN := lt_of_lt_of_eq t.isLt (show cfg0.N = 32 from N_0)
  refine congrArg (· * lossC) (Finset.sum_congr rfl fun r _ => ?_)
  have hr := r.isLt
  exact squares_at m c t r ⟨t.val * 256 + r.val, by omega⟩ rfl

theorem part_at (t : Fin cfg0.N) (d : Fin 2048) : ∑ r : Fin 256, k0_pay10 (iblk m c 0 t) (iblk m c 1 t) (iblk m c 2 t) (ix2 r d) * scaled (iblk m c 0 t) r d = part m c t.val (ix2 0 d) := by
  have hN := lt_of_lt_of_eq t.isLt (show cfg0.N = 32 from N_0)
  refine Finset.sum_congr rfl fun r _ => ?_
  have hr := r.isLt
  exact row_at m c t r d ⟨t.val * 256 + r.val, by omega⟩ rfl

theorem loss_at (t : ℕ) (ht : t < cfg0.N) (y : S1x128.Idx) :
    (outsAt0 m c t ht).1 y = ∑ s ∈ Finset.range (t % 32 + 1), lossPart m c (32 * (t / 32) + s) y := by
  refine Accum.run_sum (J := 32) (by decide) (fun n h => (outsAt0 m c n h).1) (lossPart m c) ?_ ?_ t ht y
  · intro n h y hn
    refine (loss_A m c ⟨n, h⟩ hn y).trans ?_
    obtain ⟨d, rfl⟩ : ∃ d : Fin 128, y = ix2 0 d := ⟨y 1, funext fun a => match a with | 0 => Subsingleton.elim (α := Fin 1) _ _ | 1 => rfl⟩
    rw [pay9_at, zero7, zero_add]
    exact lossPart_at m c ⟨n, h⟩ _
  · intro n h y hn
    refine (loss_B m c ⟨n + 1, h⟩ hn y).trans ?_
    obtain ⟨d, rfl⟩ : ∃ d : Fin 128, y = ix2 0 d := ⟨y 1, funext fun a => match a with | 0 => Subsingleton.elim (α := Fin 1) _ _ | 1 => rfl⟩
    rw [pay9_at]
    exact congrArg _ (lossPart_at m c ⟨n + 1, h⟩ _)

theorem loss_last (t : Fin cfg0.N) (h1 : t.val % 32 = 31) (y : S1x128.Idx) :
    (outsAt0 m c t.val t.isLt).1 y = loss (rows m c) (gain m c) (goal m c) := by
  have hN := lt_of_lt_of_eq t.isLt (show cfg0.N = 32 from N_0)
  rw [loss_at, h1]
  have hc : ∃ a : ℝ, 0 ≤ a ∧ lossC = (a : EReal) := ⟨_, by norm_num, loss_eq⟩
  obtain ⟨a, ha, hA⟩ := hc
  unfold loss
  rw [← Accum.sum_blocks 32 256 (squares (rows m c) (gain m c) (goal m c)), hA,
    ← Fin.sum_univ_eq_sum_range (fun s => ∑ r : Fin 256, squares (rows m c) (gain m c) (goal m c) (s * 256 + r.val)) 32, ← Accum.sum_mul_real ha,
    ← Fin.sum_univ_eq_sum_range (fun s => lossPart m c (32 * (t.val / 32) + s) y) 32]
  refine Finset.sum_congr rfl fun s _ => ?_
  rw [show 32 * (t.val / 32) + s.val = s.val by omega, ← hA]
  rfl

theorem third_at (t : ℕ) (ht : t < cfg0.N) (y : S1x2048.Idx) :
    (outsAt0 m c t ht).2.2.2 y = ∑ s ∈ Finset.range (t % 32 + 1), part m c (32 * (t / 32) + s) y := by
  refine Accum.run_sum (J := 32) (by decide) (fun n h => (outsAt0 m c n h).2.2.2) (part m c) ?_ ?_ t ht y
  · intro n h y hn
    refine (third_A m c ⟨n, h⟩ hn y).trans ?_
    obtain ⟨d, rfl⟩ : ∃ d : Fin 2048, y = ix2 0 d := ⟨y 1, funext fun a => match a with | 0 => Subsingleton.elim (α := Fin 1) _ _ | 1 => rfl⟩
    rw [pay5_at, zero6, zero_add]
    exact part_at m c ⟨n, h⟩ d
  · intro n h y hn
    refine (third_B m c ⟨n + 1, h⟩ hn y).trans ?_
    obtain ⟨d, rfl⟩ : ∃ d : Fin 2048, y = ix2 0 d := ⟨y 1, funext fun a => match a with | 0 => Subsingleton.elim (α := Fin 1) _ _ | 1 => rfl⟩
    rw [pay5_at]
    exact congrArg _ (part_at m c ⟨n + 1, h⟩ d)

theorem third_last (t : Fin cfg0.N) (h1 : t.val % 32 = 31) (d : Fin 2048) :
    (outsAt0 m c t.val t.isLt).2.2.2 (ix2 0 d) = dgain (rows m c) (gain m c) (goal m c) (ix2 0 d) := by
  have hN := lt_of_lt_of_eq t.isLt (show cfg0.N = 32 from N_0)
  rw [third_at, h1]
  refine (Finset.sum_congr rfl fun s hs => ?_).trans (Accum.sum_blocks 32 256 (term (rows m c) (gain m c) (goal m c) d))
  rw [show 32 * (t.val / 32) + s = s by omega]
  rfl

/-- The kernel's results. -/
theorem result3 : (dats m 0 c).arrAt 3 cfg0.N = fun _ => loss (rows m c) (gain m c) (goal m c) := by
  refine (dats m 0 c).arrAt_eq_of_covers 3 _ (by decide +kernel) fun t hf y => ?_
  have hm : t.val % 32 = 31 := (flush0_3 t).mp hf
  blk_simp
  rw [after0_3]
  exact loss_last m c t hm _

theorem result4 : (dats m 0 c).arrAt 4 cfg0.N = total (rows m c) (gain m c) (goal m c) := by
  refine (dats m 0 c).arrAt_eq_of_covers 4 _ (by decide +kernel) fun t hf y => ?_
  have hN := lt_of_lt_of_eq t.isLt (show cfg0.N = 32 from N_0)
  blk_simp
  rw [after0_4]
  obtain ⟨h0, h1⟩ := index4 t
  obtain ⟨r, d, rfl⟩ : ∃ (r : Fin 256) (d : Fin 2048), y = ix2 r d := ⟨y 0, y 1, funext fun a => match a with | 0 => rfl | 1 => rfl⟩
  have hr := r.isLt
  refine ((first m c t _).trans (total_at m c t r d ⟨t.val * 256 + r.val, by omega⟩ rfl)).trans (congrArg _ (Shape.idx_ext₂ ?_ ?_))
  · blk_simp
    rw [h0]
  · blk_simp
    rw [h1]; exact (Nat.zero_add _).symm

theorem result5 : (dats m 0 c).arrAt 5 cfg0.N = total (rows m c) (gain m c) (goal m c) := by
  refine (dats m 0 c).arrAt_eq_of_covers 5 _ (by decide +kernel) fun t hf y => ?_
  have hN := lt_of_lt_of_eq t.isLt (show cfg0.N = 32 from N_0)
  blk_simp
  rw [after0_5]
  obtain ⟨h0, h1⟩ := index5 t
  obtain ⟨r, d, rfl⟩ : ∃ (r : Fin 256) (d : Fin 2048), y = ix2 r d := ⟨y 0, y 1, funext fun a => match a with | 0 => rfl | 1 => rfl⟩
  have hr := r.isLt
  refine ((second m c t _).trans (total_at m c t r d ⟨t.val * 256 + r.val, by omega⟩ rfl)).trans (congrArg _ (Shape.idx_ext₂ ?_ ?_))
  · blk_simp
    rw [h0]
  · blk_simp
    rw [h1]; exact (Nat.zero_add _).symm

theorem result6 : (dats m 0 c).arrAt 6 cfg0.N = dgain (rows m c) (gain m c) (goal m c) := by
  refine (dats m 0 c).arrAt_eq_of_covers 6 _ (by decide +kernel) fun t hf y => ?_
  have hm : t.val % 32 = 31 := (flush0_6 t).mp hf
  blk_simp
  rw [after0_6]
  obtain ⟨h0, h1⟩ := index6 t
  obtain ⟨d, rfl⟩ : ∃ d : Fin 2048, y = ix2 0 d := ⟨y 1, funext fun a => match a with | 0 => Subsingleton.elim (α := Fin 1) _ _ | 1 => rfl⟩
  refine (third_last m c t hm d).trans (congrArg _ (Shape.idx_ext₂ ?_ ?_))
  · blk_simp
    rw [h0]; rfl
  · blk_simp
    rw [h1]; exact (Nat.zero_add _).symm

/-! ## The reference -/

/-- A sum over indices with one coordinate. -/
theorem sum_one (f : (⟨1, ![8192]⟩ : Shape).Idx → EReal) : ∑ j : (⟨1, ![8192]⟩ : Shape).Idx, f j = ∑ s : Fin 8192, f (fun a => match a with | ⟨0, _⟩ => s) :=
  (Fintype.sum_bijective (fun s : Fin 8192 => ((fun a => match a with | ⟨0, _⟩ => s) : (⟨1, ![8192]⟩ : Shape).Idx))
    ⟨fun s s' h => congrFun h 0, fun j => ⟨j 0, funext fun a => match a with | ⟨0, _⟩ => rfl⟩⟩ _ _ fun s => rfl).symm

section
open Cert.Reference15Ideal.Read

variable (X : S8192x2048.Idx → EReal) (g : S1x2048.Idx → EReal) (T : S8192x2048.Idx → EReal)

theorem square_at (s : Fin 8192) (u : Fin 1) : val_main_v7 (F := Ideal) X (ix2 s u) = RowNorm.square fun k => X (ix2 s k) := by
  rw [val_main_v7_apply, val_main_v6_apply, val_main_v5_apply, val_main_v4_apply, val_main_v3_apply, val_main_v2_apply,
    val_main_cst_apply, val_main_cst_0_apply, val_main_cst_1_apply]
  have h : ∑ k : Fin 2048, val_main_v1 (F := Ideal) X (idx_main_v2 (idx_main_v3 (ix2 s u)) k) = ∑ k : Fin 2048, X (ix2 s k) * X (ix2 s k) := by
    refine Finset.sum_congr rfl fun k _ => ?_
    rw [show idx_main_v2 (idx_main_v3 (ix2 s u)) k = ix2 s k from Shape.idx_ext₂ rfl rfl, val_main_v1_apply]
    rfl
  rw [h]
  unfold RowNorm.square
  show Ideal.div (Ideal.ofBits .f32 0x00000000#32 + _) _ + _ = _
  rw [Ideal.ofBits_zero_f32, zero_add]
  rfl

theorem scale_at (s : Fin 8192) (u : Fin 1) : val_main_v8 (F := Ideal) X (ix2 s u) = RowNorm.scale fun k => X (ix2 s k) := by
  rw [val_main_v8_apply, square_at]
  rfl

theorem scaled_at (s : Fin 8192) (d : Fin 2048) : val_main_v13 (F := Ideal) X (ix2 s d) = X (ix2 s d) * RowNorm.scale fun k => X (ix2 s k) := by
  rw [val_main_v13_apply, val_main_v12_apply, show idx_main_v12 (ix2 s d) = ix2 s 0 from Shape.idx_ext₂ rfl rfl, scale_at]
  rfl

theorem gain_at (d : Fin 2048) : val_main_v14 (F := Ideal) g (ix2 0 d) = g (ix2 0 d) := by
  rw [val_main_v14_apply, val_main_v0_apply]
  refine congrArg g (Shape.idx_ext₂ rfl ?_)
  dsimp
  omega

theorem missed_at (s : Fin 8192) (d : Fin 2048) : val_main_v17 (F := Ideal) X g T (ix2 s d) = miss X g T s d := by
  rw [val_main_v17_apply, val_main_v16_apply, scaled_at, val_main_v15_apply,
    show idx_main_v15 (ix2 s d) = ix2 0 d from Shape.idx_ext₂ rfl rfl, gain_at]
  rfl

theorem stepped_at (s : Fin 8192) (d : Fin 2048) : val_main_v31 (F := Ideal) X g T (ix2 s d) = miss X g T s d * stepC := by
  rw [val_main_v31_apply, val_main_v30_apply, val_main_v29_apply, val_main_v27_apply, val_main_v26_apply, val_main_v28_apply,
    val_main_v20_apply, val_main_v19_apply, missed_at, val_main_cst_8_apply, val_main_cst_9_apply, val_main_cst_10_apply, val_main_cst_3_apply]
  show Ideal.div (halfC * oneC) RowNorm.colsC * (twoC * miss X g T s d) = _
  rw [half_eq, one_eq, two_eq, step_eq, RowNorm.cols_eq, ← EReal.coe_mul, RowNorm.div_real _ _ (by norm_num), ← mul_assoc, ← EReal.coe_mul, mul_comm]
  refine congrArg (fun a : ℝ => miss X g T s d * (a : EReal)) ?_
  norm_num

theorem gained_at (s : Fin 8192) (d : Fin 2048) : val_main_v36 (F := Ideal) X g T (ix2 s d) = miss X g T s d * stepC * g (ix2 0 d) := by
  rw [val_main_v36_apply, stepped_at, val_main_v35_apply, show idx_main_v35 (ix2 s d) = ix2 0 d from Shape.idx_ext₂ rfl rfl, gain_at]
  rfl

theorem factor_at (s : Fin 8192) : val_main_v46 (F := Ideal) X g T (fun a => match a with | ⟨0, _⟩ => s)
    = RowNorm.factor (fun k => X (ix2 s k)) (fun k => miss X g T s k * stepC * g (ix2 0 k)) := by
  rw [val_main_v46_apply, Fin.sum_univ_one, val_main_cst_15_apply]
  refine (congrArg (· + _) Ideal.ofBits_zero_f32).trans ((zero_add _).trans ?_)
  rw [val_main_v45_apply, val_main_v44_apply, val_main_v43_apply, val_main_cst_14_apply, val_main_v40_apply, val_main_v39_apply, val_main_cst_13_apply,
    val_main_v11_apply, val_main_v10_apply, val_main_v9_apply, val_main_cst_2_apply]
  rw [show idx_main_v46 (fun a => match a with | ⟨0, _⟩ => s) (0 : Fin 1) = ix2 s 0 from Shape.idx_ext₂ rfl rfl, square_at, scale_at]
  have h : ∑ k : Fin 2048, val_main_v38 (F := Ideal) X g T (idx_main_v39 (idx_main_v40 (ix2 s 0)) k)
      = ∑ k : Fin 2048, X (ix2 s k) * (miss X g T s k * stepC * g (ix2 0 k)) := by
    refine Finset.sum_congr rfl fun k _ => ?_
    rw [show idx_main_v39 (idx_main_v40 (ix2 s 0)) k = ix2 s k from Shape.idx_ext₂ (by dsimp; omega) rfl, val_main_v38_apply, gained_at]
    rfl
  rw [h]
  unfold RowNorm.factor
  show Ideal.div ((Ideal.ofBits .f32 0x00000000#32 + _) * _) _ = _
  rw [Ideal.ofBits_zero_f32, zero_add]
  rfl

theorem spread_at (s : Fin 8192) (d : Fin 2048) : val_main_v47 (F := Ideal) X g T (ix2 s d)
    = RowNorm.factor (fun k => X (ix2 s k)) (fun k => miss X g T s k * stepC * g (ix2 0 k)) := by
  rw [val_main_v47_apply, ← factor_at]
  exact congrArg (val_main_v46 (F := Ideal) X g T) (funext fun a => match a with | ⟨0, _⟩ => rfl)

theorem sum_at (y : S8192x2048.Idx) : val_main_v51 (F := Ideal) X g T y = total X g T y := by
  obtain ⟨s, d, rfl⟩ : ∃ (s : Fin 8192) (d : Fin 2048), y = ix2 s d := ⟨y 0, y 1, funext fun a => match a with | 0 => rfl | 1 => rfl⟩
  rw [val_main_v51_apply, val_main_v50_apply, val_main_v49_apply, val_main_v48_apply, val_main_v42_apply, val_main_v41_apply,
    spread_at, gained_at, show idx_main_v41 (ix2 s d) = ix2 s 0 from Shape.idx_ext₂ rfl rfl, scale_at]
  exact RowNorm.backRef_eq _ (fun k => miss X g T s k * stepC * g (ix2 0 k)) d

theorem cast_at (y : S8192x2048.Idx) : val_main_v53 (F := Ideal) X g T y = total X g T y :=
  sum_at X g T y

theorem dgain_at (y : S1x2048.Idx) : val_main_v54 (F := Ideal) X g T y = dgain X g T y := by
  obtain ⟨d, rfl⟩ : ∃ d : Fin 2048, y = ix2 0 d := ⟨y 1, funext fun a => match a with | 0 => Subsingleton.elim (α := Fin 1) _ _ | 1 => rfl⟩
  rw [val_main_v54_apply, val_main_v37_apply, Fin.sum_univ_one, val_main_cst_12_apply]
  refine (congrArg (· + _) Ideal.ofBits_zero_f32).trans ((zero_add _).trans ?_)
  rw [val_main_v34_apply, val_main_v33_apply, val_main_cst_11_apply]
  refine (congrArg (· + _) Ideal.ofBits_zero_f32).trans ((zero_add _).trans ?_)
  unfold dgain
  refine Finset.sum_congr rfl fun s _ => ?_
  unfold term
  rw [dif_pos s.isLt, val_main_v32_apply]
  rw [show idx_main_v33 (idx_main_v34 (idx_main_v37 (idx_main_v54 (ix2 0 d)) (0 : Fin 1))) s = ix2 s d from Shape.idx_ext₂ rfl (by dsimp; omega),
    scaled_at, stepped_at]
  exact mul_comm _ _

theorem row_mean (s : Fin 8192) : val_main_v23 (F := Ideal) X g T (fun a => match a with | ⟨0, _⟩ => s)
    = squares X g T s.val * ((1 / 2048 : ℝ) : EReal) := by
  rw [val_main_v23_apply, val_main_v22_apply, val_main_v21_apply, val_main_cst_4_apply, val_main_cst_5_apply]
  have h : ∑ k : Fin 2048, val_main_v18 (F := Ideal) X g T (idx_main_v21 (fun a => match a with | ⟨0, _⟩ => s) k) = squares X g T s.val := by
    unfold squares
    rw [dif_pos s.isLt]
    refine Finset.sum_congr rfl fun k _ => ?_
    rw [show idx_main_v21 (fun a => match a with | ⟨0, _⟩ => s) k = ix2 s k from Shape.idx_ext₂ rfl rfl, val_main_v18_apply, missed_at]
    rfl
  rw [h]
  show Ideal.div (Ideal.ofBits .f32 0x00000000#32 + _) RowNorm.colsC = _
  rw [Ideal.ofBits_zero_f32, zero_add, RowNorm.cols_eq]
  unfold Ideal.div
  rw [if_neg (by norm_num), div_eq_mul_inv, ← EReal.coe_inv]
  norm_num

theorem mean_at (y : S1x128.Idx) : val_main_v52 (F := Ideal) X g T y = loss X g T := by
  rw [val_main_v52_apply, val_main_v25_apply, val_main_v24_apply, val_main_cst_6_apply, val_main_cst_7_apply]
  have h : ∑ j, val_main_v23 (F := Ideal) X g T j = (∑ s : Fin 8192, squares X g T s.val) * ((1 / 2048 : ℝ) : EReal) := by
    rw [← Accum.sum_mul_real (by norm_num)]
    refine (sum_one _).trans ?_
    exact Finset.sum_congr rfl fun s _ => row_mean X g T s
  rw [h]
  show halfC * (Ideal.ofBits .f32 0x00000000#32 + _) = _
  rw [Ideal.ofBits_zero_f32, zero_add, half_eq]
  unfold loss
  rw [loss_eq, mul_comm, mul_assoc, ← EReal.coe_mul]
  refine congrArg (fun a : ℝ => (∑ s : Fin 8192, squares X g T s.val) * (a : EReal)) ?_
  norm_num

end

end Cert.FinalLoss

end
-- ==== Proof.FirstNorm.lean ====
module

public import proofs.«01_k».proof.Proof.RowNorm
public import proofs.«01_k».proof.Proof.Gen.Kernel17Ideal.Value
public import proofs.«01_k».proof.Proof.Gen.Reference17Ideal.Read
public import Idealize.ShloMosaic.Lib.Pipeline.ValueKit

/-!
# The first norm

For each block of rows the kernel writes the normed rows twice, as they stand and transposed.
-/

@[expose] public section

set_option maxRecDepth 16384

noncomputable section

namespace Cert.FirstNorm

open Cert.Kernel17Ideal Cert.Kernel17Ideal.Gen Idealize.ShloMosaic Idealize.ShloMosaic.TcCoe Idealize.ShloMosaic.Tactic

variable (m : (ℓ : Loc nD τ sig) → Buf (Elt Ideal) ℓ) (c : Dev nD)

/-- The rows and the gain. -/
abbrev rows : S8192x2048.Idx → EReal := m ((c : Thread nD τ).loc main_arg0)
abbrev gain : S1x2048.Idx → EReal := m ((c : Thread nD τ).loc main_arg1)

/-- The normed rows, and the same transposed. -/
def normed (X : S8192x2048.Idx → EReal) (g : S1x2048.Idx → EReal) (y : S8192x2048.Idx) : EReal :=
  RowNorm.norm (fun d => X (ix2 (y 0) d)) (fun d => g (ix2 0 d)) (y 1)

def turned (X : S8192x2048.Idx → EReal) (g : S1x2048.Idx → EReal) (y : S2048x8192.Idx) : EReal :=
  RowNorm.norm (fun d => X (ix2 (y 1) d)) (fun d => g (ix2 0 d)) (y 0)

theorem index0 (t : Fin cfg0.N) : win0_0.index t 0 = t.val ∧ win0_0.index t 1 = 0 :=
  (by decide +kernel : ∀ t : Fin grid0.N, win0_0.index t 0 = t.val ∧ win0_0.index t 1 = 0) t

theorem index1 (t : Fin cfg0.N) : win0_1.index t 0 = 0 ∧ win0_1.index t 1 = 0 :=
  (by decide +kernel : ∀ t : Fin grid0.N, win0_1.index t 0 = 0 ∧ win0_1.index t 1 = 0) t

theorem index2 (t : Fin cfg0.N) : win0_2.index t 0 = t.val ∧ win0_2.index t 1 = 0 :=
  (by decide +kernel : ∀ t : Fin grid0.N, win0_2.index t 0 = t.val ∧ win0_2.index t 1 = 0) t

theorem index3 (t : Fin cfg0.N) : win0_3.index t 0 = 0 ∧ win0_3.index t 1 = t.val :=
  (by decide +kernel : ∀ t : Fin grid0.N, win0_3.index t 0 = 0 ∧ win0_3.index t 1 = t.val) t

theorem block0 (t : Fin cfg0.N) (r : Fin 512) (d : Fin 2048) (s : Fin 8192) (hs : s.val = t.val * 512 + r.val) :
    iblk m c 0 t (ix2 r d) = rows m c (ix2 s d) := by
  blk_simp [iblk]
  rw [V_main_arg0]
  obtain ⟨h0, h1⟩ := index0 t
  refine congrArg (m ((c : Thread nD τ).loc main_arg0)) (Shape.idx_ext₂ ?_ ?_)
  · blk_simp
    rw [h0, hs]
  · blk_simp
    rw [h1]; exact Nat.zero_add _

theorem block1 (t : Fin cfg0.N) (d : Fin 2048) : iblk m c 1 t (ix2 0 d) = gain m c (ix2 0 d) := by
  blk_simp [iblk]
  rw [V_main_arg1]
  obtain ⟨h0, h1⟩ := index1 t
  refine congrArg (m ((c : Thread nD τ).loc main_arg1)) (Shape.idx_ext₂ ?_ ?_)
  · blk_simp
    rw [h0]; rfl
  · blk_simp
    rw [h1]; exact Nat.zero_add _

theorem pay1_at (v : Vec Ideal S512x2048 .f32) (g : Vec Ideal S1x2048 .f32) (r : Fin 512) (d : Fin 2048) :
    k0_pay1 v g (ix2 r d) = RowNorm.norm (fun k => v (ix2 r k)) (fun k => g (ix2 0 k)) d := by
  unfold RowNorm.norm RowNorm.scale k0_pay1
  pointwise

theorem pay3_at (v : Vec Ideal S512x2048 .f32) (g : Vec Ideal S1x2048 .f32) (r : Fin 512) (d : Fin 2048) :
    k0_pay3 v g (ix2 d r) = k0_pay1 v g (ix2 r d) := by
  unfold k0_pay3
  generalize k0_pay1 v g = u
  pointwise

section
variable (t : Fin cfg0.N) (r : Fin 512) (d : Fin 2048) (s : Fin 8192) (hs : s.val = t.val * 512 + r.val)
include hs

theorem norm_at : k0_pay1 (View.ld (iblk m c 0 t) r0_0) (View.ld (iblk m c 1 t) r0_1) (ix2 r d)
    = RowNorm.norm (fun d => rows m c (ix2 s d)) (fun d => gain m c (ix2 0 d)) d := by
  rw [pay1_at]
  refine congrArg₂ (fun f g => RowNorm.norm f g d) (funext fun k => ?_) (funext fun k => ?_)
  · exact (congrFun (View.ld_unit_lit (S := S512x2048) _ _ (by decide)) _).trans (block0 m c t r k s hs)
  · exact (congrFun (View.ld_unit_lit (S := S1x2048) _ _ (by decide)) _).trans (block1 m c t k)

theorem out2_at : out0_2 (iblk m c 0 t) (iblk m c 1 t) (ix2 r d) = normed (rows m c) (gain m c) (ix2 s d) := by
  unfold out0_2
  rw [View.canon_cons_unit_lit _ _ _ (by decide)]
  exact norm_at m c t r d s hs

theorem out3_at : out0_3 (iblk m c 0 t) (iblk m c 1 t) (ix2 d r) = turned (rows m c) (gain m c) (ix2 d s) := by
  unfold out0_3
  rw [View.canon_cons_unit_lit _ _ _ (by decide), pay3_at]
  exact norm_at m c t r d s hs

end

/-- The kernel's results. -/
theorem result2 : (dats m 0 c).arrAt 2 cfg0.N = normed (rows m c) (gain m c) := by
  refine (dats m 0 c).arrAt_eq_of_covers 2 _ (by decide +kernel) fun t hf y => ?_
  have hN := lt_of_lt_of_eq t.isLt (show cfg0.N = 16 from N_0)
  blk_simp
  rw [after0_2]
  obtain ⟨h0, h1⟩ := index2 t
  obtain ⟨r, d, rfl⟩ : ∃ (r : Fin 512) (d : Fin 2048), y = ix2 r d := ⟨y 0, y 1, funext fun a => match a with | 0 => rfl | 1 => rfl⟩
  have hr := r.isLt
  refine (out2_at m c t r d ⟨t.val * 512 + r.val, by omega⟩ rfl).trans (congrArg _ (Shape.idx_ext₂ ?_ ?_))
  · blk_simp
    rw [h0]
  · blk_simp
    rw [h1]; exact (Nat.zero_add _).symm

theorem result3 : (dats m 0 c).arrAt 3 cfg0.N = turned (rows m c) (gain m c) := by
  refine (dats m 0 c).arrAt_eq_of_covers 3 _ (by decide +kernel) fun t hf y => ?_
  have hN := lt_of_lt_of_eq t.isLt (show cfg0.N = 16 from N_0)
  blk_simp
  rw [after0_3]
  obtain ⟨h0, h1⟩ := index3 t
  obtain ⟨d, r, rfl⟩ : ∃ (d : Fin 2048) (r : Fin 512), y = ix2 d r := ⟨y 0, y 1, funext fun a => match a with | 0 => rfl | 1 => rfl⟩
  have hr := r.isLt
  refine (out3_at m c t r d ⟨t.val * 512 + r.val, by omega⟩ rfl).trans (congrArg _ (Shape.idx_ext₂ ?_ ?_))
  · blk_simp
    rw [h0]; exact (Nat.zero_add _).symm
  · blk_simp
    rw [h1]

/-! ## The reference -/

section
open Cert.Reference17Ideal.Read

variable (X : S8192x2048.Idx → EReal) (g : S1x2048.Idx → EReal)

theorem scale_at (s : Fin 8192) (u : Fin 1) : val_main_v8 (F := Ideal) X (ix2 s u) = RowNorm.scale (fun d => X (ix2 s d)) := by
  rw [val_main_v8_apply, val_main_v7_apply, val_main_v6_apply, val_main_v5_apply, val_main_v4_apply, val_main_v3_apply, val_main_v2_apply,
    val_main_cst_apply, val_main_cst_0_apply, val_main_cst_1_apply]
  have h : ∑ k : Fin 2048, val_main_v1 (F := Ideal) X (idx_main_v2 (idx_main_v3 (ix2 s u)) k) = ∑ k : Fin 2048, X (ix2 s k) * X (ix2 s k) := by
    refine Finset.sum_congr rfl fun k _ => ?_
    rw [show idx_main_v2 (idx_main_v3 (ix2 s u)) k = ix2 s k from Shape.idx_ext₂ rfl rfl, val_main_v1_apply]
    rfl
  rw [h]
  unfold RowNorm.scale
  show Ideal.rsqrt (Ideal.div (Ideal.ofBits .f32 0x00000000#32 + _) _ + _) = _
  rw [Ideal.ofBits_zero_f32, zero_add]
  rfl

theorem normed_at (y : S8192x2048.Idx) : val_main_v14 (F := Ideal) X g y = normed X g y := by
  obtain ⟨s, d, rfl⟩ : ∃ (s : Fin 8192) (d : Fin 2048), y = ix2 s d := ⟨y 0, y 1, funext fun a => match a with | 0 => rfl | 1 => rfl⟩
  rw [val_main_v14_apply, val_main_v13_apply, val_main_v10_apply, val_main_v9_apply, val_main_v12_apply, val_main_v11_apply, val_main_v0_apply,
    show idx_main_v9 (ix2 s d) = ix2 s 0 from Shape.idx_ext₂ rfl rfl, scale_at]
  unfold normed RowNorm.norm
  refine congrArg (X (ix2 s d) * RowNorm.scale (fun d => X (ix2 s d)) * ·) (congrArg g (Shape.idx_ext₂ rfl ?_))
  dsimp
  omega

theorem turned_at (y : S2048x8192.Idx) : val_main_v15 (F := Ideal) X g y = turned X g y := by
  rw [val_main_v15_apply, normed_at]
  rfl

end

end Cert.FirstNorm

end
-- ==== Proof.Adam.lean ====
module

public import Idealize.ShloMosaic.Lib.Pipeline.ValueKit

/-!
# One step of the optimiser on one entry

The weight, its two moments and its gradient give the step and the new moments.
-/

@[expose] public section

noncomputable section

namespace Cert.Adam

open Idealize.ShloMosaic

/-- The first moment after the step: nine tenths of the old and a tenth of the gradient. -/
def first (m g : EReal) : EReal := Ideal.ofBits .f32 0x3F666666#32 * m + Ideal.ofBits .f32 0x3DCCCCCD#32 * g

/-- The second moment: the same of the gradient's square, by thousandths. -/
def second (v g : EReal) : EReal := Ideal.ofBits .f32 0x3F7FBE77#32 * v + Ideal.ofBits .f32 0x3A83126F#32 * (g * g)

/-- The step itself: the corrected first moment over the root of the corrected second, and the weight's decay. -/
def step (w m v g : EReal) : EReal :=
  Ideal.ofBits .f32 0xBA83126F#32 *
    (Ideal.div (Ideal.div (first m g) (Ideal.ofBits .f32 0x3F26BD02#32))
        (Ideal.sqrt (Ideal.div (second v g) (Ideal.ofBits .f32 0x3C231ACC#32)) + Ideal.ofBits .f32 0x322BCC77#32)
      + Ideal.ofBits .f32 0x3C23D70A#32 * w)

/-! ## Two layers' weights under each other -/

variable {h n w : ℕ}

/-- The gradient: the upper half of the rows from the one gathered array, the lower from the other. -/
def grad (e : n = h + h) (A B : (⟨3, ![8, h, w]⟩ : Shape).Idx → EReal) (y : (⟨2, ![n, w]⟩ : Shape).Idx) : EReal :=
  if l : (y 0).val < h then ∑ k : Fin 8, A (ix3 k ⟨(y 0).val, l⟩ (y 1))
  else ∑ k : Fin 8, B (ix3 k ⟨(y 0).val - h, by have := (y 0).isLt; change _ < n at this; omega⟩ (y 1))

/-- What the step makes of it. -/
def delta (e : n = h + h) (A B : (⟨3, ![8, h, w]⟩ : Shape).Idx → EReal) (W M V : (⟨2, ![n, w]⟩ : Shape).Idx → EReal)
    (y : (⟨2, ![n, w]⟩ : Shape).Idx) : EReal := step (W y) (M y) (V y) (grad e A B y)

def mom (e : n = h + h) (A B : (⟨3, ![8, h, w]⟩ : Shape).Idx → EReal) (M : (⟨2, ![n, w]⟩ : Shape).Idx → EReal)
    (y : (⟨2, ![n, w]⟩ : Shape).Idx) : EReal := first (M y) (grad e A B y)

def sqs (e : n = h + h) (A B : (⟨3, ![8, h, w]⟩ : Shape).Idx → EReal) (V : (⟨2, ![n, w]⟩ : Shape).Idx → EReal)
    (y : (⟨2, ![n, w]⟩ : Shape).Idx) : EReal := second (V y) (grad e A B y)

theorem two (y : (⟨2, ![n, w]⟩ : Shape).Idx) : ∃ (r : Fin n) (d : Fin w), y = ix2 r d :=
  ⟨y 0, y 1, funext fun a => match a with | 0 => rfl | 1 => rfl⟩

/-- The sums over the devices, put under each other, are the gradient. -/
theorem grad_concat (e : n = h + h) (A B : (⟨3, ![8, h, w]⟩ : Shape).Idx → EReal) (P Q : (⟨2, ![h, w]⟩ : Shape).Idx → EReal)
    (hP : ∀ r d, P (ix2 r d) = ∑ k : Fin 8, A (ix3 k r d)) (hQ : ∀ r d, Q (ix2 r d) = ∑ k : Fin 8, B (ix3 k r d)) (hs)
    (y : (⟨2, ![n, w]⟩ : Shape).Idx) :
    concatenate ⟨2, ![n, w]⟩ 0 [⟨⟨2, ![h, w]⟩, P⟩, ⟨⟨2, ![h, w]⟩, Q⟩] hs y = grad e A B y := by
  obtain ⟨s, d, rfl⟩ := two y
  have hu := s.isLt
  unfold grad
  by_cases l : s.val < h
  · rw [dif_pos (show ((ix2 s d : (⟨2, ![n, w]⟩ : Shape).Idx) 0).val < h from l),
      concatenate_pair_apply_left (s₁ := ⟨2, ![h, w]⟩) (s₂ := ⟨2, ![h, w]⟩) (t := ⟨2, ![n, w]⟩) 0 _ _ _ (ix2 s d) rfl
        (ix2 (⟨s.val, l⟩ : Fin h) d) (fun b => match b with | 0 => rfl | 1 => rfl), hP]
    rfl
  · rw [dif_neg (show ¬ ((ix2 s d : (⟨2, ![n, w]⟩ : Shape).Idx) 0).val < h from l),
      concatenate_pair_apply_right (s₁ := ⟨2, ![h, w]⟩) (s₂ := ⟨2, ![h, w]⟩) (t := ⟨2, ![n, w]⟩) 0 _ _ _ (ix2 s d) rfl rfl
        (ix2 (⟨s.val - h, by omega⟩ : Fin h) d) (fun b => match b with | 0 => fun hb => absurd rfl hb | 1 => fun _ => rfl)
        (by show s.val - h + h = s.val; omega), hQ]
    rfl

end Cert.Adam

end
-- ==== Proof.StepGate.lean ====
module

public import proofs.«01_k».proof.Proof.Accum
public import proofs.«01_k».proof.Proof.Adam
public import proofs.«01_k».proof.Proof.Gen.Kernel18Ideal.Value
public import proofs.«01_k».proof.Proof.Gen.Reference18Ideal.Read
public import Idealize.ShloMosaic.Lib.Pipeline.ValueKit

/-!
# The optimiser on the gates' weight

The kernel adds the eight devices' gradients of each block of rows and steps the block; its first 16 blocks come from the one
gathered array and the rest from the other. The reference puts the two sums under each other and steps the whole.
-/

@[expose] public section

set_option maxRecDepth 16384

noncomputable section

namespace Cert.StepGate

open Cert.Kernel18Ideal Cert.Kernel18Ideal.Gen Idealize.ShloMosaic Idealize.ShloMosaic.TcCoe Idealize.ShloMosaic.Tactic

variable (m : (ℓ : Loc nD τ sig) → Buf (Elt Ideal) ℓ) (c : Dev nD)

/-- The two gathered arrays, the weight and its moments. -/
abbrev upper : S8x2048x704.Idx → EReal := m ((c : Thread nD τ).loc main_arg0)
abbrev lower : S8x2048x704.Idx → EReal := m ((c : Thread nD τ).loc main_arg1)
abbrev wts : S4096x704.Idx → EReal := m ((c : Thread nD τ).loc main_arg2)
abbrev mom : S4096x704.Idx → EReal := m ((c : Thread nD τ).loc main_arg3)
abbrev sqs : S4096x704.Idx → EReal := m ((c : Thread nD τ).loc main_arg4)

/-- The gradient, and what the step makes of it. -/
abbrev grad (A B : S8x2048x704.Idx → EReal) : S4096x704.Idx → EReal := Adam.grad (h := 2048) (n := 4096) rfl A B
abbrev delta (A B : S8x2048x704.Idx → EReal) (W M V : S4096x704.Idx → EReal) : S4096x704.Idx → EReal := Adam.delta (h := 2048) (n := 4096) rfl A B W M V
abbrev mom' (A B : S8x2048x704.Idx → EReal) (M : S4096x704.Idx → EReal) : S4096x704.Idx → EReal := Adam.mom (h := 2048) (n := 4096) rfl A B M
abbrev sqs' (A B : S8x2048x704.Idx → EReal) (V : S4096x704.Idx → EReal) : S4096x704.Idx → EReal := Adam.sqs (h := 2048) (n := 4096) rfl A B V

theorem index0 : ∀ t : Fin grid0.N, (t.val < 16 → win0_0.index t 1 = t.val) ∧ win0_0.index t 0 = 0 ∧ win0_0.index t 2 = 0 := by
  decide +kernel

theorem index1 : ∀ t : Fin grid0.N, (16 ≤ t.val → win0_1.index t 1 = t.val - 16) ∧ win0_1.index t 0 = 0 ∧ win0_1.index t 2 = 0 := by
  decide +kernel

theorem index2 : ∀ t : Fin grid0.N, win0_2.index t 0 = t.val ∧ win0_2.index t 1 = 0 := by
  decide +kernel

theorem index3 : ∀ t : Fin grid0.N, win0_3.index t 0 = t.val ∧ win0_3.index t 1 = 0 := by
  decide +kernel

theorem index4 : ∀ t : Fin grid0.N, win0_4.index t 0 = t.val ∧ win0_4.index t 1 = 0 := by
  decide +kernel

theorem index5 : ∀ t : Fin grid0.N, win0_5.index t 0 = t.val ∧ win0_5.index t 1 = 0 := by
  decide +kernel

theorem index6 : ∀ t : Fin grid0.N, win0_6.index t 0 = t.val ∧ win0_6.index t 1 = 0 := by
  decide +kernel

theorem index7 : ∀ t : Fin grid0.N, win0_7.index t 0 = t.val ∧ win0_7.index t 1 = 0 := by
  decide +kernel

theorem index8 : ∀ t : Fin grid0.N, win0_8.index t 0 = t.val ∧ win0_8.index t 1 = 0 := by
  decide +kernel

theorem block0 (t : Fin cfg0.N) (ht : t.val < 16) (k : Fin 8) (r : Fin 128) (d : Fin 704) (s : Fin 2048) (hs : s.val = t.val * 128 + r.val) :
    iblk m c 0 t (ix3 k r d) = upper m c (ix3 k s d) := by
  blk_simp [iblk]
  rw [V_main_arg0]
  obtain ⟨h1, h0, h2⟩ := index0 t
  refine congrArg (m ((c : Thread nD τ).loc main_arg0)) (Accum.ext3 ?_ ?_ ?_)
  · blk_simp
    rw [h0]; exact Nat.zero_add _
  · blk_simp
    rw [h1 ht, hs]
  · blk_simp
    rw [h2]; exact Nat.zero_add _

theorem block1 (t : Fin cfg0.N) (ht : 16 ≤ t.val) (k : Fin 8) (r : Fin 128) (d : Fin 704) (s : Fin 2048)
    (hs : s.val = (t.val - 16) * 128 + r.val) : iblk m c 1 t (ix3 k r d) = lower m c (ix3 k s d) := by
  blk_simp [iblk]
  rw [V_main_arg1]
  obtain ⟨h1, h0, h2⟩ := index1 t
  refine congrArg (m ((c : Thread nD τ).loc main_arg1)) (Accum.ext3 ?_ ?_ ?_)
  · blk_simp
    rw [h0]; exact Nat.zero_add _
  · blk_simp
    rw [h1 ht, hs]
  · blk_simp
    rw [h2]; exact Nat.zero_add _

theorem block2 (t : Fin cfg0.N) (r : Fin 128) (d : Fin 704) (s : Fin 4096) (hs : s.val = t.val * 128 + r.val) :
    iblk m c 2 t (ix2 r d) = wts m c (ix2 s d) := by
  blk_simp [iblk]
  rw [V_main_arg2]
  obtain ⟨h0, h1⟩ := index2 t
  refine congrArg (m ((c : Thread nD τ).loc main_arg2)) (Shape.idx_ext₂ ?_ ?_)
  · blk_simp
    rw [h0, hs]
  · blk_simp
    rw [h1]; exact Nat.zero_add _

theorem block3 (t : Fin cfg0.N) (r : Fin 128) (d : Fin 704) (s : Fin 4096) (hs : s.val = t.val * 128 + r.val) :
    iblk m c 3 t (ix2 r d) = mom m c (ix2 s d) := by
  blk_simp [iblk]
  rw [V_main_arg3]
  obtain ⟨h0, h1⟩ := index3 t
  refine congrArg (m ((c : Thread nD τ).loc main_arg3)) (Shape.idx_ext₂ ?_ ?_)
  · blk_simp
    rw [h0, hs]
  · blk_simp
    rw [h1]; exact Nat.zero_add _

theorem block4 (t : Fin cfg0.N) (r : Fin 128) (d : Fin 704) (s : Fin 4096) (hs : s.val = t.val * 128 + r.val) :
    iblk m c 4 t (ix2 r d) = sqs m c (ix2 s d) := by
  blk_simp [iblk]
  rw [V_main_arg4]
  obtain ⟨h0, h1⟩ := index4 t
  refine congrArg (m ((c : Thread nD τ).loc main_arg4)) (Shape.idx_ext₂ ?_ ?_)
  · blk_simp
    rw [h0, hs]
  · blk_simp
    rw [h1]; exact Nat.zero_add _

/-- The sum of the eight slabs of a block. -/
def slab (x : Vec Ideal S8x128x704 .bf16) : FVec Ideal S128x704 .f32 :=
  k0_pay7 (View.ld x (Rect.unit (s := S8x128x704) ![0, 0, 0] S1x128x704.size inb_S8x128x704_S1x128x704_0_0_0))
    (View.ld x (Rect.unit (s := S8x128x704) ![1, 0, 0] S1x128x704.size inb_S8x128x704_S1x128x704_1_0_0))
    (View.ld x (Rect.unit (s := S8x128x704) ![2, 0, 0] S1x128x704.size inb_S8x128x704_S1x128x704_2_0_0))
    (View.ld x (Rect.unit (s := S8x128x704) ![3, 0, 0] S1x128x704.size inb_S8x128x704_S1x128x704_3_0_0))
    (View.ld x (Rect.unit (s := S8x128x704) ![4, 0, 0] S1x128x704.size inb_S8x128x704_S1x128x704_4_0_0))
    (View.ld x (Rect.unit (s := S8x128x704) ![5, 0, 0] S1x128x704.size inb_S8x128x704_S1x128x704_5_0_0))
    (View.ld x (Rect.unit (s := S8x128x704) ![6, 0, 0] S1x128x704.size inb_S8x128x704_S1x128x704_6_0_0))
    (View.ld x (Rect.unit (s := S8x128x704) ![7, 0, 0] S1x128x704.size inb_S8x128x704_S1x128x704_7_0_0))

theorem slab_at (x : Vec Ideal S8x128x704 .bf16) (r : Fin 128) (d : Fin 704) : slab x (ix2 r d) = ∑ k : Fin 8, x (ix3 k r d) := by
  rw [Fin.sum_univ_eight]
  unfold slab k0_pay7
  pointwise

theorem pay1_at (u : FVec Ideal S128x704 .f32) (v : Vec Ideal S128x704 .f32) (r : Fin 128) (d : Fin 704) :
    k0_pay1 u v (ix2 r d) = Adam.first (v (ix2 r d)) (u (ix2 r d)) := by
  unfold k0_pay1 Adam.first
  pointwise

theorem pay2_at (u : FVec Ideal S128x704 .f32) (v : Vec Ideal S128x704 .f32) (r : Fin 128) (d : Fin 704) :
    k0_pay2 u v (ix2 r d) = Adam.second (v (ix2 r d)) (u (ix2 r d)) := by
  unfold k0_pay2 Adam.second
  pointwise

theorem pay3_at (u : FVec Ideal S128x704 .f32) (v q w : Vec Ideal S128x704 .f32) (r : Fin 128) (d : Fin 704) :
    k0_pay3 u v q w (ix2 r d) = Adam.step (w (ix2 r d)) (v (ix2 r d)) (q (ix2 r d)) (u (ix2 r d)) := by
  unfold Adam.step
  rw [← pay1_at u v r d, ← pay2_at u q r d]
  unfold k0_pay3
  generalize k0_pay1 u v = a
  generalize k0_pay2 u q = b
  pointwise

/-- A point's four blocks: the gradient, the change and the moments. -/
theorem outs_A (t : Fin cfg0.N) (y : S128x704.Idx) (h : t.val < 16) :
    (outsAt0 m c t.val t.isLt).1 y = slab (iblk m c 0 t) y
      ∧ (outsAt0 m c t.val t.isLt).2.1 y = k0_pay3 (slab (iblk m c 0 t)) (iblk m c 3 t) (iblk m c 4 t) (iblk m c 2 t) y
      ∧ (outsAt0 m c t.val t.isLt).2.2.1 y = k0_pay1 (slab (iblk m c 0 t)) (iblk m c 3 t) y
      ∧ (outsAt0 m c t.val t.isLt).2.2.2 y = k0_pay2 (slab (iblk m c 0 t)) (iblk m c 4 t) y := by
  rw [outsAt0_A m c t h (by omega)]
  refine ⟨?_, ?_, ?_, ?_⟩ <;> (frame_out; unfold slab; rfl)

theorem outs_B (t : Fin cfg0.N) (y : S128x704.Idx) (h : ¬ t.val < 16) :
    (outsAt0 m c t.val t.isLt).1 y = slab (iblk m c 1 t) y
      ∧ (outsAt0 m c t.val t.isLt).2.1 y = k0_pay3 (slab (iblk m c 1 t)) (iblk m c 3 t) (iblk m c 4 t) (iblk m c 2 t) y
      ∧ (outsAt0 m c t.val t.isLt).2.2.1 y = k0_pay1 (slab (iblk m c 1 t)) (iblk m c 3 t) y
      ∧ (outsAt0 m c t.val t.isLt).2.2.2 y = k0_pay2 (slab (iblk m c 1 t)) (iblk m c 4 t) y := by
  rw [outsAt0_B m c t h (by omega)]
  refine ⟨?_, ?_, ?_, ?_⟩ <;> (frame_out; unfold slab; rfl)

section
variable (t : Fin cfg0.N) (r : Fin 128) (d : Fin 704) (s : Fin 4096) (hs : s.val = t.val * 128 + r.val)
include hs

theorem slab_upper (h : t.val < 16) : slab (iblk m c 0 t) (ix2 r d) = grad (upper m c) (lower m c) (ix2 s d) := by
  have hr := r.isLt
  have hl : s.val < 2048 := by omega
  rw [slab_at, grad, Adam.grad, dif_pos (show ((ix2 s d : S4096x704.Idx) 0).val < 2048 from hl)]
  exact Finset.sum_congr rfl fun k _ => block0 m c t h k r d ⟨s.val, hl⟩ hs

theorem slab_lower (h : ¬ t.val < 16) : slab (iblk m c 1 t) (ix2 r d) = grad (upper m c) (lower m c) (ix2 s d) := by
  have hl : ¬ s.val < 2048 := by omega
  have hu := s.isLt
  rw [slab_at, grad, Adam.grad, dif_neg (show ¬ ((ix2 s d : S4096x704.Idx) 0).val < 2048 from hl)]
  exact Finset.sum_congr rfl fun k _ => block1 m c t (by omega) k r d ⟨s.val - 2048, by omega⟩ (by show s.val - 2048 = _; omega)

theorem grad_at : (outsAt0 m c t.val t.isLt).1 (ix2 r d) = grad (upper m c) (lower m c) (ix2 s d) := by
  by_cases h : t.val < 16
  · rw [(outs_A m c t _ h).1, slab_upper m c t r d s hs h]
  · rw [(outs_B m c t _ h).1, slab_lower m c t r d s hs h]

theorem delta_at : (outsAt0 m c t.val t.isLt).2.1 (ix2 r d)
    = delta (upper m c) (lower m c) (wts m c) (mom m c) (sqs m c) (ix2 s d) := by
  by_cases h : t.val < 16
  · rw [(outs_A m c t _ h).2.1, pay3_at, slab_upper m c t r d s hs h, block2 m c t r d s hs, block3 m c t r d s hs, block4 m c t r d s hs]; rfl
  · rw [(outs_B m c t _ h).2.1, pay3_at, slab_lower m c t r d s hs h, block2 m c t r d s hs, block3 m c t r d s hs, block4 m c t r d s hs]; rfl

theorem mom_at : (outsAt0 m c t.val t.isLt).2.2.1 (ix2 r d) = mom' (upper m c) (lower m c) (mom m c) (ix2 s d) := by
  by_cases h : t.val < 16
  · rw [(outs_A m c t _ h).2.2.1, pay1_at, slab_upper m c t r d s hs h, block3 m c t r d s hs]; rfl
  · rw [(outs_B m c t _ h).2.2.1, pay1_at, slab_lower m c t r d s hs h, block3 m c t r d s hs]; rfl

theorem sqs_at : (outsAt0 m c t.val t.isLt).2.2.2 (ix2 r d) = sqs' (upper m c) (lower m c) (sqs m c) (ix2 s d) := by
  by_cases h : t.val < 16
  · rw [(outs_A m c t _ h).2.2.2, pay2_at, slab_upper m c t r d s hs h, block4 m c t r d s hs]; rfl
  · rw [(outs_B m c t _ h).2.2.2, pay2_at, slab_lower m c t r d s hs h, block4 m c t r d s hs]; rfl

end

/-- The kernel's results. -/
theorem result5 : (dats m 0 c).arrAt 5 cfg0.N = grad (upper m c) (lower m c) := by
  refine (dats m 0 c).arrAt_eq_of_covers 5 _ (by decide +kernel) fun t hf y => ?_
  have hN := lt_of_lt_of_eq t.isLt (show cfg0.N = 32 from N_0)
  blk_simp
  rw [after0_5]
  obtain ⟨h0, h1⟩ := index5 t
  obtain ⟨r, d, rfl⟩ := Adam.two y
  have hr := r.isLt
  refine (grad_at m c t r d ⟨t.val * 128 + r.val, by omega⟩ rfl).trans (congrArg _ (Shape.idx_ext₂ ?_ ?_))
  · blk_simp
    rw [h0]
  · blk_simp
    rw [h1]; exact (Nat.zero_add _).symm

theorem result6 : (dats m 0 c).arrAt 6 cfg0.N = delta (upper m c) (lower m c) (wts m c) (mom m c) (sqs m c) := by
  refine (dats m 0 c).arrAt_eq_of_covers 6 _ (by decide +kernel) fun t hf y => ?_
  have hN := lt_of_lt_of_eq t.isLt (show cfg0.N = 32 from N_0)
  blk_simp
  rw [after0_6]
  obtain ⟨h0, h1⟩ := index6 t
  obtain ⟨r, d, rfl⟩ := Adam.two y
  have hr := r.isLt
  refine (delta_at m c t r d ⟨t.val * 128 + r.val, by omega⟩ rfl).trans (congrArg _ (Shape.idx_ext₂ ?_ ?_))
  · blk_simp
    rw [h0]
  · blk_simp
    rw [h1]; exact (Nat.zero_add _).symm

theorem result7 : (dats m 0 c).arrAt 7 cfg0.N = mom' (upper m c) (lower m c) (mom m c) := by
  refine (dats m 0 c).arrAt_eq_of_covers 7 _ (by decide +kernel) fun t hf y => ?_
  have hN := lt_of_lt_of_eq t.isLt (show cfg0.N = 32 from N_0)
  blk_simp
  rw [after0_7]
  obtain ⟨h0, h1⟩ := index7 t
  obtain ⟨r, d, rfl⟩ := Adam.two y
  have hr := r.isLt
  refine (mom_at m c t r d ⟨t.val * 128 + r.val, by omega⟩ rfl).trans (congrArg _ (Shape.idx_ext₂ ?_ ?_))
  · blk_simp
    rw [h0]
  · blk_simp
    rw [h1]; exact (Nat.zero_add _).symm

theorem result8 : (dats m 0 c).arrAt 8 cfg0.N = sqs' (upper m c) (lower m c) (sqs m c) := by
  refine (dats m 0 c).arrAt_eq_of_covers 8 _ (by decide +kernel) fun t hf y => ?_
  have hN := lt_of_lt_of_eq t.isLt (show cfg0.N = 32 from N_0)
  blk_simp
  rw [after0_8]
  obtain ⟨h0, h1⟩ := index8 t
  obtain ⟨r, d, rfl⟩ := Adam.two y
  have hr := r.isLt
  refine (sqs_at m c t r d ⟨t.val * 128 + r.val, by omega⟩ rfl).trans (congrArg _ (Shape.idx_ext₂ ?_ ?_))
  · blk_simp
    rw [h0]
  · blk_simp
    rw [h1]; exact (Nat.zero_add _).symm

/-! ## The reference -/

section
open Cert.Reference18Ideal.Read

variable (A B : S8x2048x704.Idx → EReal) (W M V : S4096x704.Idx → EReal)

theorem upper_at (r : Fin 2048) (d : Fin 704) : val_main_v1 (F := Ideal) A (ix2 r d) = ∑ k : Fin 8, A (ix3 k r d) := by
  rw [val_main_v1_apply, val_main_cst_apply]
  show Ideal.ofBits .f32 0x00000000#32 + _ = _
  rw [Ideal.ofBits_zero_f32, zero_add]
  refine Finset.sum_congr rfl fun k _ => ?_
  rw [val_main_v0_apply]
  exact congrArg A (Accum.ext3 rfl rfl rfl)

theorem lower_at (r : Fin 2048) (d : Fin 704) : val_main_v3 (F := Ideal) B (ix2 r d) = ∑ k : Fin 8, B (ix3 k r d) := by
  rw [val_main_v3_apply, val_main_cst_0_apply]
  show Ideal.ofBits .f32 0x00000000#32 + _ = _
  rw [Ideal.ofBits_zero_f32, zero_add]
  refine Finset.sum_congr rfl fun k _ => ?_
  rw [val_main_v2_apply]
  exact congrArg B (Accum.ext3 rfl rfl rfl)

theorem gradRef_at (y : S4096x704.Idx) : val_main_v4 (F := Ideal) A B y = grad A B y :=
  Adam.grad_concat (h := 2048) rfl A B _ _ (upper_at A) (lower_at B) _ y

theorem momRef_at (y : S4096x704.Idx) : val_main_v9 (F := Ideal) A B M y = mom' A B M y :=
  congrArg (Adam.first (M y)) (gradRef_at A B y)

theorem sqsRef_at (y : S4096x704.Idx) : val_main_v15 (F := Ideal) A B V y = sqs' A B V y :=
  congrArg (Adam.second (V y)) (gradRef_at A B y)

theorem deltaRef_at (y : S4096x704.Idx) : val_main_v28 (F := Ideal) A B W M V y = delta A B W M V y :=
  congrArg (Adam.step (W y) (M y) (V y)) (gradRef_at A B y)

end

end Cert.StepGate

end
-- ==== Proof.StepDown.lean ====
module

public import proofs.«01_k».proof.Proof.Accum
public import proofs.«01_k».proof.Proof.Adam
public import proofs.«01_k».proof.Proof.Gen.Kernel19Ideal.Value
public import proofs.«01_k».proof.Proof.Gen.Reference19Ideal.Read
public import Idealize.ShloMosaic.Lib.Pipeline.ValueKit

/-!
# The optimiser on the last product's weight

The kernel adds the eight devices' gradients of each block of rows and steps the block; its first 11 blocks come from the one
gathered array and the rest from the other. The reference puts the two sums under each other and steps the whole.
-/

@[expose] public section

set_option maxRecDepth 16384

noncomputable section

namespace Cert.StepDown

open Cert.Kernel19Ideal Cert.Kernel19Ideal.Gen Idealize.ShloMosaic Idealize.ShloMosaic.TcCoe Idealize.ShloMosaic.Tactic

variable (m : (ℓ : Loc nD τ sig) → Buf (Elt Ideal) ℓ) (c : Dev nD)

/-- The two gathered arrays, the weight and its moments. -/
abbrev upper : S8x704x2048.Idx → EReal := m ((c : Thread nD τ).loc main_arg0)
abbrev lower : S8x704x2048.Idx → EReal := m ((c : Thread nD τ).loc main_arg1)
abbrev wts : S1408x2048.Idx → EReal := m ((c : Thread nD τ).loc main_arg2)
abbrev mom : S1408x2048.Idx → EReal := m ((c : Thread nD τ).loc main_arg3)
abbrev sqs : S1408x2048.Idx → EReal := m ((c : Thread nD τ).loc main_arg4)

/-- The gradient, and what the step makes of it. -/
abbrev grad (A B : S8x704x2048.Idx → EReal) : S1408x2048.Idx → EReal := Adam.grad (h := 704) (n := 1408) rfl A B
abbrev delta (A B : S8x704x2048.Idx → EReal) (W M V : S1408x2048.Idx → EReal) : S1408x2048.Idx → EReal := Adam.delta (h := 704) (n := 1408) rfl A B W M V
abbrev mom' (A B : S8x704x2048.Idx → EReal) (M : S1408x2048.Idx → EReal) : S1408x2048.Idx → EReal := Adam.mom (h := 704) (n := 1408) rfl A B M
abbrev sqs' (A B : S8x704x2048.Idx → EReal) (V : S1408x2048.Idx → EReal) : S1408x2048.Idx → EReal := Adam.sqs (h := 704) (n := 1408) rfl A B V

theorem index0 : ∀ t : Fin grid0.N, (t.val < 11 → win0_0.index t 1 = t.val) ∧ win0_0.index t 0 = 0 ∧ win0_0.index t 2 = 0 := by
  decide +kernel

theorem index1 : ∀ t : Fin grid0.N, (11 ≤ t.val → win0_1.index t 1 = t.val - 11) ∧ win0_1.index t 0 = 0 ∧ win0_1.index t 2 = 0 := by
  decide +kernel

theorem index2 : ∀ t : Fin grid0.N, win0_2.index t 0 = t.val ∧ win0_2.index t 1 = 0 := by
  decide +kernel

theorem index3 : ∀ t : Fin grid0.N, win0_3.index t 0 = t.val ∧ win0_3.index t 1 = 0 := by
  decide +kernel

theorem index4 : ∀ t : Fin grid0.N, win0_4.index t 0 = t.val ∧ win0_4.index t 1 = 0 := by
  decide +kernel

theorem index5 : ∀ t : Fin grid0.N, win0_5.index t 0 = t.val ∧ win0_5.index t 1 = 0 := by
  decide +kernel

theorem index6 : ∀ t : Fin grid0.N, win0_6.index t 0 = t.val ∧ win0_6.index t 1 = 0 := by
  decide +kernel

theorem index7 : ∀ t : Fin grid0.N, win0_7.index t 0 = t.val ∧ win0_7.index t 1 = 0 := by
  decide +kernel

theorem index8 : ∀ t : Fin grid0.N, win0_8.index t 0 = t.val ∧ win0_8.index t 1 = 0 := by
  decide +kernel

theorem block0 (t : Fin cfg0.N) (ht : t.val < 11) (k : Fin 8) (r : Fin 64) (d : Fin 2048) (s : Fin 704) (hs : s.val = t.val * 64 + r.val) :
    iblk m c 0 t (ix3 k r d) = upper m c (ix3 k s d) := by
  blk_simp [iblk]
  rw [V_main_arg0]
  obtain ⟨h1, h0, h2⟩ := index0 t
  refine congrArg (m ((c : Thread nD τ).loc main_arg0)) (Accum.ext3 ?_ ?_ ?_)
  · blk_simp
    rw [h0]; exact Nat.zero_add _
  · blk_simp
    rw [h1 ht, hs]
  · blk_simp
    rw [h2]; exact Nat.zero_add _

theorem block1 (t : Fin cfg0.N) (ht : 11 ≤ t.val) (k : Fin 8) (r : Fin 64) (d : Fin 2048) (s : Fin 704)
    (hs : s.val = (t.val - 11) * 64 + r.val) : iblk m c 1 t (ix3 k r d) = lower m c (ix3 k s d) := by
  blk_simp [iblk]
  rw [V_main_arg1]
  obtain ⟨h1, h0, h2⟩ := index1 t
  refine congrArg (m ((c : Thread nD τ).loc main_arg1)) (Accum.ext3 ?_ ?_ ?_)
  · blk_simp
    rw [h0]; exact Nat.zero_add _
  · blk_simp
    rw [h1 ht, hs]
  · blk_simp
    rw [h2]; exact Nat.zero_add _

theorem block2 (t : Fin cfg0.N) (r : Fin 64) (d : Fin 2048) (s : Fin 1408) (hs : s.val = t.val * 64 + r.val) :
    iblk m c 2 t (ix2 r d) = wts m c (ix2 s d) := by
  blk_simp [iblk]
  rw [V_main_arg2]
  obtain ⟨h0, h1⟩ := index2 t
  refine congrArg (m ((c : Thread nD τ).loc main_arg2)) (Shape.idx_ext₂ ?_ ?_)
  · blk_simp
    rw [h0, hs]
  · blk_simp
    rw [h1]; exact Nat.zero_add _

theorem block3 (t : Fin cfg0.N) (r : Fin 64) (d : Fin 2048) (s : Fin 1408) (hs : s.val = t.val * 64 + r.val) :
    iblk m c 3 t (ix2 r d) = mom m c (ix2 s d) := by
  blk_simp [iblk]
  rw [V_main_arg3]
  obtain ⟨h0, h1⟩ := index3 t
  refine congrArg (m ((c : Thread nD τ).loc main_arg3)) (Shape.idx_ext₂ ?_ ?_)
  · blk_simp
    rw [h0, hs]
  · blk_simp
    rw [h1]; exact Nat.zero_add _

theorem block4 (t : Fin cfg0.N) (r : Fin 64) (d : Fin 2048) (s : Fin 1408) (hs : s.val = t.val * 64 + r.val) :
    iblk m c 4 t (ix2 r d) = sqs m c (ix2 s d) := by
  blk_simp [iblk]
  rw [V_main_arg4]
  obtain ⟨h0, h1⟩ := index4 t
  refine congrArg (m ((c : Thread nD τ).loc main_arg4)) (Shape.idx_ext₂ ?_ ?_)
  · blk_simp
    rw [h0, hs]
  · blk_simp
    rw [h1]; exact Nat.zero_add _

/-- The sum of the eight slabs of a block. -/
def slab (x : Vec Ideal S8x64x2048 .bf16) : FVec Ideal S64x2048 .f32 :=
  k0_pay7 (View.ld x (Rect.unit (s := S8x64x2048) ![0, 0, 0] S1x64x2048.size inb_S8x64x2048_S1x64x2048_0_0_0))
    (View.ld x (Rect.unit (s := S8x64x2048) ![1, 0, 0] S1x64x2048.size inb_S8x64x2048_S1x64x2048_1_0_0))
    (View.ld x (Rect.unit (s := S8x64x2048) ![2, 0, 0] S1x64x2048.size inb_S8x64x2048_S1x64x2048_2_0_0))
    (View.ld x (Rect.unit (s := S8x64x2048) ![3, 0, 0] S1x64x2048.size inb_S8x64x2048_S1x64x2048_3_0_0))
    (View.ld x (Rect.unit (s := S8x64x2048) ![4, 0, 0] S1x64x2048.size inb_S8x64x2048_S1x64x2048_4_0_0))
    (View.ld x (Rect.unit (s := S8x64x2048) ![5, 0, 0] S1x64x2048.size inb_S8x64x2048_S1x64x2048_5_0_0))
    (View.ld x (Rect.unit (s := S8x64x2048) ![6, 0, 0] S1x64x2048.size inb_S8x64x2048_S1x64x2048_6_0_0))
    (View.ld x (Rect.unit (s := S8x64x2048) ![7, 0, 0] S1x64x2048.size inb_S8x64x2048_S1x64x2048_7_0_0))

theorem slab_at (x : Vec Ideal S8x64x2048 .bf16) (r : Fin 64) (d : Fin 2048) : slab x (ix2 r d) = ∑ k : Fin 8, x (ix3 k r d) := by
  rw [Fin.sum_univ_eight]
  unfold slab k0_pay7
  pointwise

theorem pay1_at (u : FVec Ideal S64x2048 .f32) (v : Vec Ideal S64x2048 .f32) (r : Fin 64) (d : Fin 2048) :
    k0_pay1 u v (ix2 r d) = Adam.first (v (ix2 r d)) (u (ix2 r d)) := by
  unfold k0_pay1 Adam.first
  pointwise

theorem pay2_at (u : FVec Ideal S64x2048 .f32) (v : Vec Ideal S64x2048 .f32) (r : Fin 64) (d : Fin 2048) :
    k0_pay2 u v (ix2 r d) = Adam.second (v (ix2 r d)) (u (ix2 r d)) := by
  unfold k0_pay2 Adam.second
  pointwise

theorem pay3_at (u : FVec Ideal S64x2048 .f32) (v q w : Vec Ideal S64x2048 .f32) (r : Fin 64) (d : Fin 2048) :
    k0_pay3 u v q w (ix2 r d) = Adam.step (w (ix2 r d)) (v (ix2 r d)) (q (ix2 r d)) (u (ix2 r d)) := by
  unfold Adam.step
  rw [← pay1_at u v r d, ← pay2_at u q r d]
  unfold k0_pay3
  generalize k0_pay1 u v = a
  generalize k0_pay2 u q = b
  pointwise

/-- A point's four blocks: the gradient, the change and the moments. -/
theorem outs_A (t : Fin cfg0.N) (y : S64x2048.Idx) (h : t.val < 11) :
    (outsAt0 m c t.val t.isLt).1 y = slab (iblk m c 0 t) y
      ∧ (outsAt0 m c t.val t.isLt).2.1 y = k0_pay3 (slab (iblk m c 0 t)) (iblk m c 3 t) (iblk m c 4 t) (iblk m c 2 t) y
      ∧ (outsAt0 m c t.val t.isLt).2.2.1 y = k0_pay1 (slab (iblk m c 0 t)) (iblk m c 3 t) y
      ∧ (outsAt0 m c t.val t.isLt).2.2.2 y = k0_pay2 (slab (iblk m c 0 t)) (iblk m c 4 t) y := by
  rw [outsAt0_A m c t h (by omega)]
  refine ⟨?_, ?_, ?_, ?_⟩ <;> (frame_out; unfold slab; rfl)

theorem outs_B (t : Fin cfg0.N) (y : S64x2048.Idx) (h : ¬ t.val < 11) :
    (outsAt0 m c t.val t.isLt).1 y = slab (iblk m c 1 t) y
      ∧ (outsAt0 m c t.val t.isLt).2.1 y = k0_pay3 (slab (iblk m c 1 t)) (iblk m c 3 t) (iblk m c 4 t) (iblk m c 2 t) y
      ∧ (outsAt0 m c t.val t.isLt).2.2.1 y = k0_pay1 (slab (iblk m c 1 t)) (iblk m c 3 t) y
      ∧ (outsAt0 m c t.val t.isLt).2.2.2 y = k0_pay2 (slab (iblk m c 1 t)) (iblk m c 4 t) y := by
  rw [outsAt0_B m c t h (by omega)]
  refine ⟨?_, ?_, ?_, ?_⟩ <;> (frame_out; unfold slab; rfl)

section
variable (t : Fin cfg0.N) (r : Fin 64) (d : Fin 2048) (s : Fin 1408) (hs : s.val = t.val * 64 + r.val)
include hs

theorem slab_upper (h : t.val < 11) : slab (iblk m c 0 t) (ix2 r d) = grad (upper m c) (lower m c) (ix2 s d) := by
  have hr := r.isLt
  have hl : s.val < 704 := by omega
  rw [slab_at, grad, Adam.grad, dif_pos (show ((ix2 s d : S1408x2048.Idx) 0).val < 704 from hl)]
  exact Finset.sum_congr rfl fun k _ => block0 m c t h k r d ⟨s.val, hl⟩ hs

theorem slab_lower (h : ¬ t.val < 11) : slab (iblk m c 1 t) (ix2 r d) = grad (upper m c) (lower m c) (ix2 s d) := by
  have hl : ¬ s.val < 704 := by omega
  have hu := s.isLt
  rw [slab_at, grad, Adam.grad, dif_neg (show ¬ ((ix2 s d : S1408x2048.Idx) 0).val < 704 from hl)]
  exact Finset.sum_congr rfl fun k _ => block1 m c t (by omega) k r d ⟨s.val - 704, by omega⟩ (by show s.val - 704 = _; omega)

theorem grad_at : (outsAt0 m c t.val t.isLt).1 (ix2 r d) = grad (upper m c) (lower m c) (ix2 s d) := by
  by_cases h : t.val < 11
  · rw [(outs_A m c t _ h).1, slab_upper m c t r d s hs h]
  · rw [(outs_B m c t _ h).1, slab_lower m c t r d s hs h]

theorem delta_at : (outsAt0 m c t.val t.isLt).2.1 (ix2 r d)
    = delta (upper m c) (lower m c) (wts m c) (mom m c) (sqs m c) (ix2 s d) := by
  by_cases h : t.val < 11
  · rw [(outs_A m c t _ h).2.1, pay3_at, slab_upper m c t r d s hs h, block2 m c t r d s hs, block3 m c t r d s hs, block4 m c t r d s hs]; rfl
  · rw [(outs_B m c t _ h).2.1, pay3_at, slab_lower m c t r d s hs h, block2 m c t r d s hs, block3 m c t r d s hs, block4 m c t r d s hs]; rfl

theorem mom_at : (outsAt0 m c t.val t.isLt).2.2.1 (ix2 r d) = mom' (upper m c) (lower m c) (mom m c) (ix2 s d) := by
  by_cases h : t.val < 11
  · rw [(outs_A m c t _ h).2.2.1, pay1_at, slab_upper m c t r d s hs h, block3 m c t r d s hs]; rfl
  · rw [(outs_B m c t _ h).2.2.1, pay1_at, slab_lower m c t r d s hs h, block3 m c t r d s hs]; rfl

theorem sqs_at : (outsAt0 m c t.val t.isLt).2.2.2 (ix2 r d) = sqs' (upper m c) (lower m c) (sqs m c) (ix2 s d) := by
  by_cases h : t.val < 11
  · rw [(outs_A m c t _ h).2.2.2, pay2_at, slab_upper m c t r d s hs h, block4 m c t r d s hs]; rfl
  · rw [(outs_B m c t _ h).2.2.2, pay2_at, slab_lower m c t r d s hs h, block4 m c t r d s hs]; rfl

end

/-- The kernel's results. -/
theorem result5 : (dats m 0 c).arrAt 5 cfg0.N = grad (upper m c) (lower m c) := by
  refine (dats m 0 c).arrAt_eq_of_covers 5 _ (by decide +kernel) fun t hf y => ?_
  have hN := lt_of_lt_of_eq t.isLt (show cfg0.N = 22 from N_0)
  blk_simp
  rw [after0_5]
  obtain ⟨h0, h1⟩ := index5 t
  obtain ⟨r, d, rfl⟩ := Adam.two y
  have hr := r.isLt
  refine (grad_at m c t r d ⟨t.val * 64 + r.val, by omega⟩ rfl).trans (congrArg _ (Shape.idx_ext₂ ?_ ?_))
  · blk_simp
    rw [h0]
  · blk_simp
    rw [h1]; exact (Nat.zero_add _).symm

theorem result6 : (dats m 0 c).arrAt 6 cfg0.N = delta (upper m c) (lower m c) (wts m c) (mom m c) (sqs m c) := by
  refine (dats m 0 c).arrAt_eq_of_covers 6 _ (by decide +kernel) fun t hf y => ?_
  have hN := lt_of_lt_of_eq t.isLt (show cfg0.N = 22 from N_0)
  blk_simp
  rw [after0_6]
  obtain ⟨h0, h1⟩ := index6 t
  obtain ⟨r, d, rfl⟩ := Adam.two y
  have hr := r.isLt
  refine (delta_at m c t r d ⟨t.val * 64 + r.val, by omega⟩ rfl).trans (congrArg _ (Shape.idx_ext₂ ?_ ?_))
  · blk_simp
    rw [h0]
  · blk_simp
    rw [h1]; exact (Nat.zero_add _).symm

theorem result7 : (dats m 0 c).arrAt 7 cfg0.N = mom' (upper m c) (lower m c) (mom m c) := by
  refine (dats m 0 c).arrAt_eq_of_covers 7 _ (by decide +kernel) fun t hf y => ?_
  have hN := lt_of_lt_of_eq t.isLt (show cfg0.N = 22 from N_0)
  blk_simp
  rw [after0_7]
  obtain ⟨h0, h1⟩ := index7 t
  obtain ⟨r, d, rfl⟩ := Adam.two y
  have hr := r.isLt
  refine (mom_at m c t r d ⟨t.val * 64 + r.val, by omega⟩ rfl).trans (congrArg _ (Shape.idx_ext₂ ?_ ?_))
  · blk_simp
    rw [h0]
  · blk_simp
    rw [h1]; exact (Nat.zero_add _).symm

theorem result8 : (dats m 0 c).arrAt 8 cfg0.N = sqs' (upper m c) (lower m c) (sqs m c) := by
  refine (dats m 0 c).arrAt_eq_of_covers 8 _ (by decide +kernel) fun t hf y => ?_
  have hN := lt_of_lt_of_eq t.isLt (show cfg0.N = 22 from N_0)
  blk_simp
  rw [after0_8]
  obtain ⟨h0, h1⟩ := index8 t
  obtain ⟨r, d, rfl⟩ := Adam.two y
  have hr := r.isLt
  refine (sqs_at m c t r d ⟨t.val * 64 + r.val, by omega⟩ rfl).trans (congrArg _ (Shape.idx_ext₂ ?_ ?_))
  · blk_simp
    rw [h0]
  · blk_simp
    rw [h1]; exact (Nat.zero_add _).symm

/-! ## The reference -/

section
open Cert.Reference19Ideal.Read

variable (A B : S8x704x2048.Idx → EReal) (W M V : S1408x2048.Idx → EReal)

theorem upper_at (r : Fin 704) (d : Fin 2048) : val_main_v1 (F := Ideal) A (ix2 r d) = ∑ k : Fin 8, A (ix3 k r d) := by
  rw [val_main_v1_apply, val_main_cst_apply]
  show Ideal.ofBits .f32 0x00000000#32 + _ = _
  rw [Ideal.ofBits_zero_f32, zero_add]
  refine Finset.sum_congr rfl fun k _ => ?_
  rw [val_main_v0_apply]
  exact congrArg A (Accum.ext3 rfl rfl rfl)

theorem lower_at (r : Fin 704) (d : Fin 2048) : val_main_v3 (F := Ideal) B (ix2 r d) = ∑ k : Fin 8, B (ix3 k r d) := by
  rw [val_main_v3_apply, val_main_cst_0_apply]
  show Ideal.ofBits .f32 0x00000000#32 + _ = _
  rw [Ideal.ofBits_zero_f32, zero_add]
  refine Finset.sum_congr rfl fun k _ => ?_
  rw [val_main_v2_apply]
  exact congrArg B (Accum.ext3 rfl rfl rfl)

theorem gradRef_at (y : S1408x2048.Idx) : val_main_v4 (F := Ideal) A B y = grad A B y :=
  Adam.grad_concat (h := 704) rfl A B _ _ (upper_at A) (lower_at B) _ y

theorem momRef_at (y : S1408x2048.Idx) : val_main_v9 (F := Ideal) A B M y = mom' A B M y :=
  congrArg (Adam.first (M y)) (gradRef_at A B y)

theorem sqsRef_at (y : S1408x2048.Idx) : val_main_v15 (F := Ideal) A B V y = sqs' A B V y :=
  congrArg (Adam.second (V y)) (gradRef_at A B y)

theorem deltaRef_at (y : S1408x2048.Idx) : val_main_v28 (F := Ideal) A B W M V y = delta A B W M V y :=
  congrArg (Adam.step (W y) (M y) (V y)) (gradRef_at A B y)

end

end Cert.StepDown

end
-- ==== Proof.StepIn.lean ====
module

public import proofs.«01_k».proof.Proof.Accum
public import proofs.«01_k».proof.Proof.Adam
public import proofs.«01_k».proof.Proof.Gen.Kernel20Ideal.Value
public import proofs.«01_k».proof.Proof.Gen.Reference20Ideal.Read
public import Idealize.ShloMosaic.Lib.Pipeline.ValueKit

/-!
# The optimiser on the mixer's first weight

The kernel adds the eight devices' gradients of each block of rows and steps the block; its first 16 blocks come from the one
gathered array and the rest from the other. The reference puts the two sums under each other and steps the whole.
-/

@[expose] public section

set_option maxRecDepth 16384

noncomputable section

namespace Cert.StepIn

open Cert.Kernel20Ideal Cert.Kernel20Ideal.Gen Idealize.ShloMosaic Idealize.ShloMosaic.TcCoe Idealize.ShloMosaic.Tactic

variable (m : (ℓ : Loc nD τ sig) → Buf (Elt Ideal) ℓ) (c : Dev nD)

/-- The two gathered arrays, the weight and its moments. -/
abbrev upper : S8x2048x640.Idx → EReal := m ((c : Thread nD τ).loc main_arg0)
abbrev lower : S8x2048x640.Idx → EReal := m ((c : Thread nD τ).loc main_arg1)
abbrev wts : S4096x640.Idx → EReal := m ((c : Thread nD τ).loc main_arg2)
abbrev mom : S4096x640.Idx → EReal := m ((c : Thread nD τ).loc main_arg3)
abbrev sqs : S4096x640.Idx → EReal := m ((c : Thread nD τ).loc main_arg4)

/-- The gradient, and what the step makes of it. -/
abbrev grad (A B : S8x2048x640.Idx → EReal) : S4096x640.Idx → EReal := Adam.grad (h := 2048) (n := 4096) rfl A B
abbrev delta (A B : S8x2048x640.Idx → EReal) (W M V : S4096x640.Idx → EReal) : S4096x640.Idx → EReal := Adam.delta (h := 2048) (n := 4096) rfl A B W M V
abbrev mom' (A B : S8x2048x640.Idx → EReal) (M : S4096x640.Idx → EReal) : S4096x640.Idx → EReal := Adam.mom (h := 2048) (n := 4096) rfl A B M
abbrev sqs' (A B : S8x2048x640.Idx → EReal) (V : S4096x640.Idx → EReal) : S4096x640.Idx → EReal := Adam.sqs (h := 2048) (n := 4096) rfl A B V

theorem index0 : ∀ t : Fin grid0.N, (t.val < 16 → win0_0.index t 1 = t.val) ∧ win0_0.index t 0 = 0 ∧ win0_0.index t 2 = 0 := by
  decide +kernel

theorem index1 : ∀ t : Fin grid0.N, (16 ≤ t.val → win0_1.index t 1 = t.val - 16) ∧ win0_1.index t 0 = 0 ∧ win0_1.index t 2 = 0 := by
  decide +kernel

theorem index2 : ∀ t : Fin grid0.N, win0_2.index t 0 = t.val ∧ win0_2.index t 1 = 0 := by
  decide +kernel

theorem index3 : ∀ t : Fin grid0.N, win0_3.index t 0 = t.val ∧ win0_3.index t 1 = 0 := by
  decide +kernel

theorem index4 : ∀ t : Fin grid0.N, win0_4.index t 0 = t.val ∧ win0_4.index t 1 = 0 := by
  decide +kernel

theorem index5 : ∀ t : Fin grid0.N, win0_5.index t 0 = t.val ∧ win0_5.index t 1 = 0 := by
  decide +kernel

theorem index6 : ∀ t : Fin grid0.N, win0_6.index t 0 = t.val ∧ win0_6.index t 1 = 0 := by
  decide +kernel

theorem index7 : ∀ t : Fin grid0.N, win0_7.index t 0 = t.val ∧ win0_7.index t 1 = 0 := by
  decide +kernel

theorem index8 : ∀ t : Fin grid0.N, win0_8.index t 0 = t.val ∧ win0_8.index t 1 = 0 := by
  decide +kernel

theorem block0 (t : Fin cfg0.N) (ht : t.val < 16) (k : Fin 8) (r : Fin 128) (d : Fin 640) (s : Fin 2048) (hs : s.val = t.val * 128 + r.val) :
    iblk m c 0 t (ix3 k r d) = upper m c (ix3 k s d) := by
  blk_simp [iblk]
  rw [V_main_arg0]
  obtain ⟨h1, h0, h2⟩ := index0 t
  refine congrArg (m ((c : Thread nD τ).loc main_arg0)) (Accum.ext3 ?_ ?_ ?_)
  · blk_simp
    rw [h0]; exact Nat.zero_add _
  · blk_simp
    rw [h1 ht, hs]
  · blk_simp
    rw [h2]; exact Nat.zero_add _

theorem block1 (t : Fin cfg0.N) (ht : 16 ≤ t.val) (k : Fin 8) (r : Fin 128) (d : Fin 640) (s : Fin 2048)
    (hs : s.val = (t.val - 16) * 128 + r.val) : iblk m c 1 t (ix3 k r d) = lower m c (ix3 k s d) := by
  blk_simp [iblk]
  rw [V_main_arg1]
  obtain ⟨h1, h0, h2⟩ := index1 t
  refine congrArg (m ((c : Thread nD τ).loc main_arg1)) (Accum.ext3 ?_ ?_ ?_)
  · blk_simp
    rw [h0]; exact Nat.zero_add _
  · blk_simp
    rw [h1 ht, hs]
  · blk_simp
    rw [h2]; exact Nat.zero_add _

theorem block2 (t : Fin cfg0.N) (r : Fin 128) (d : Fin 640) (s : Fin 4096) (hs : s.val = t.val * 128 + r.val) :
    iblk m c 2 t (ix2 r d) = wts m c (ix2 s d) := by
  blk_simp [iblk]
  rw [V_main_arg2]
  obtain ⟨h0, h1⟩ := index2 t
  refine congrArg (m ((c : Thread nD τ).loc main_arg2)) (Shape.idx_ext₂ ?_ ?_)
  · blk_simp
    rw [h0, hs]
  · blk_simp
    rw [h1]; exact Nat.zero_add _

theorem block3 (t : Fin cfg0.N) (r : Fin 128) (d : Fin 640) (s : Fin 4096) (hs : s.val = t.val * 128 + r.val) :
    iblk m c 3 t (ix2 r d) = mom m c (ix2 s d) := by
  blk_simp [iblk]
  rw [V_main_arg3]
  obtain ⟨h0, h1⟩ := index3 t
  refine congrArg (m ((c : Thread nD τ).loc main_arg3)) (Shape.idx_ext₂ ?_ ?_)
  · blk_simp
    rw [h0, hs]
  · blk_simp
    rw [h1]; exact Nat.zero_add _

theorem block4 (t : Fin cfg0.N) (r : Fin 128) (d : Fin 640) (s : Fin 4096) (hs : s.val = t.val * 128 + r.val) :
    iblk m c 4 t (ix2 r d) = sqs m c (ix2 s d) := by
  blk_simp [iblk]
  rw [V_main_arg4]
  obtain ⟨h0, h1⟩ := index4 t
  refine congrArg (m ((c : Thread nD τ).loc main_arg4)) (Shape.idx_ext₂ ?_ ?_)
  · blk_simp
    rw [h0, hs]
  · blk_simp
    rw [h1]; exact Nat.zero_add _

/-- The sum of the eight slabs of a block. -/
def slab (x : Vec Ideal S8x128x640 .bf16) : FVec Ideal S128x640 .f32 :=
  k0_pay7 (View.ld x (Rect.unit (s := S8x128x640) ![0, 0, 0] S1x128x640.size inb_S8x128x640_S1x128x640_0_0_0))
    (View.ld x (Rect.unit (s := S8x128x640) ![1, 0, 0] S1x128x640.size inb_S8x128x640_S1x128x640_1_0_0))
    (View.ld x (Rect.unit (s := S8x128x640) ![2, 0, 0] S1x128x640.size inb_S8x128x640_S1x128x640_2_0_0))
    (View.ld x (Rect.unit (s := S8x128x640) ![3, 0, 0] S1x128x640.size inb_S8x128x640_S1x128x640_3_0_0))
    (View.ld x (Rect.unit (s := S8x128x640) ![4, 0, 0] S1x128x640.size inb_S8x128x640_S1x128x640_4_0_0))
    (View.ld x (Rect.unit (s := S8x128x640) ![5, 0, 0] S1x128x640.size inb_S8x128x640_S1x128x640_5_0_0))
    (View.ld x (Rect.unit (s := S8x128x640) ![6, 0, 0] S1x128x640.size inb_S8x128x640_S1x128x640_6_0_0))
    (View.ld x (Rect.unit (s := S8x128x640) ![7, 0, 0] S1x128x640.size inb_S8x128x640_S1x128x640_7_0_0))

theorem slab_at (x : Vec Ideal S8x128x640 .bf16) (r : Fin 128) (d : Fin 640) : slab x (ix2 r d) = ∑ k : Fin 8, x (ix3 k r d) := by
  rw [Fin.sum_univ_eight]
  unfold slab k0_pay7
  pointwise

theorem pay1_at (u : FVec Ideal S128x640 .f32) (v : Vec Ideal S128x640 .f32) (r : Fin 128) (d : Fin 640) :
    k0_pay1 u v (ix2 r d) = Adam.first (v (ix2 r d)) (u (ix2 r d)) := by
  unfold k0_pay1 Adam.first
  pointwise

theorem pay2_at (u : FVec Ideal S128x640 .f32) (v : Vec Ideal S128x640 .f32) (r : Fin 128) (d : Fin 640) :
    k0_pay2 u v (ix2 r d) = Adam.second (v (ix2 r d)) (u (ix2 r d)) := by
  unfold k0_pay2 Adam.second
  pointwise

theorem pay3_at (u : FVec Ideal S128x640 .f32) (v q w : Vec Ideal S128x640 .f32) (r : Fin 128) (d : Fin 640) :
    k0_pay3 u v q w (ix2 r d) = Adam.step (w (ix2 r d)) (v (ix2 r d)) (q (ix2 r d)) (u (ix2 r d)) := by
  unfold Adam.step
  rw [← pay1_at u v r d, ← pay2_at u q r d]
  unfold k0_pay3
  generalize k0_pay1 u v = a
  generalize k0_pay2 u q = b
  pointwise

/-- A point's four blocks: the gradient, the change and the moments. -/
theorem outs_A (t : Fin cfg0.N) (y : S128x640.Idx) (h : t.val < 16) :
    (outsAt0 m c t.val t.isLt).1 y = slab (iblk m c 0 t) y
      ∧ (outsAt0 m c t.val t.isLt).2.1 y = k0_pay3 (slab (iblk m c 0 t)) (iblk m c 3 t) (iblk m c 4 t) (iblk m c 2 t) y
      ∧ (outsAt0 m c t.val t.isLt).2.2.1 y = k0_pay1 (slab (iblk m c 0 t)) (iblk m c 3 t) y
      ∧ (outsAt0 m c t.val t.isLt).2.2.2 y = k0_pay2 (slab (iblk m c 0 t)) (iblk m c 4 t) y := by
  rw [outsAt0_A m c t h (by omega)]
  refine ⟨?_, ?_, ?_, ?_⟩ <;> (frame_out; unfold slab; rfl)

theorem outs_B (t : Fin cfg0.N) (y : S128x640.Idx) (h : ¬ t.val < 16) :
    (outsAt0 m c t.val t.isLt).1 y = slab (iblk m c 1 t) y
      ∧ (outsAt0 m c t.val t.isLt).2.1 y = k0_pay3 (slab (iblk m c 1 t)) (iblk m c 3 t) (iblk m c 4 t) (iblk m c 2 t) y
      ∧ (outsAt0 m c t.val t.isLt).2.2.1 y = k0_pay1 (slab (iblk m c 1 t)) (iblk m c 3 t) y
      ∧ (outsAt0 m c t.val t.isLt).2.2.2 y = k0_pay2 (slab (iblk m c 1 t)) (iblk m c 4 t) y := by
  rw [outsAt0_B m c t h (by omega)]
  refine ⟨?_, ?_, ?_, ?_⟩ <;> (frame_out; unfold slab; rfl)

section
variable (t : Fin cfg0.N) (r : Fin 128) (d : Fin 640) (s : Fin 4096) (hs : s.val = t.val * 128 + r.val)
include hs

theorem slab_upper (h : t.val < 16) : slab (iblk m c 0 t) (ix2 r d) = grad (upper m c) (lower m c) (ix2 s d) := by
  have hr := r.isLt
  have hl : s.val < 2048 := by omega
  rw [slab_at, grad, Adam.grad, dif_pos (show ((ix2 s d : S4096x640.Idx) 0).val < 2048 from hl)]
  exact Finset.sum_congr rfl fun k _ => block0 m c t h k r d ⟨s.val, hl⟩ hs

theorem slab_lower (h : ¬ t.val < 16) : slab (iblk m c 1 t) (ix2 r d) = grad (upper m c) (lower m c) (ix2 s d) := by
  have hl : ¬ s.val < 2048 := by omega
  have hu := s.isLt
  rw [slab_at, grad, Adam.grad, dif_neg (show ¬ ((ix2 s d : S4096x640.Idx) 0).val < 2048 from hl)]
  exact Finset.sum_congr rfl fun k _ => block1 m c t (by omega) k r d ⟨s.val - 2048, by omega⟩ (by show s.val - 2048 = _; omega)

theorem grad_at : (outsAt0 m c t.val t.isLt).1 (ix2 r d) = grad (upper m c) (lower m c) (ix2 s d) := by
  by_cases h : t.val < 16
  · rw [(outs_A m c t _ h).1, slab_upper m c t r d s hs h]
  · rw [(outs_B m c t _ h).1, slab_lower m c t r d s hs h]

theorem delta_at : (outsAt0 m c t.val t.isLt).2.1 (ix2 r d)
    = delta (upper m c) (lower m c) (wts m c) (mom m c) (sqs m c) (ix2 s d) := by
  by_cases h : t.val < 16
  · rw [(outs_A m c t _ h).2.1, pay3_at, slab_upper m c t r d s hs h, block2 m c t r d s hs, block3 m c t r d s hs, block4 m c t r d s hs]; rfl
  · rw [(outs_B m c t _ h).2.1, pay3_at, slab_lower m c t r d s hs h, block2 m c t r d s hs, block3 m c t r d s hs, block4 m c t r d s hs]; rfl

theorem mom_at : (outsAt0 m c t.val t.isLt).2.2.1 (ix2 r d) = mom' (upper m c) (lower m c) (mom m c) (ix2 s d) := by
  by_cases h : t.val < 16
  · rw [(outs_A m c t _ h).2.2.1, pay1_at, slab_upper m c t r d s hs h, block3 m c t r d s hs]; rfl
  · rw [(outs_B m c t _ h).2.2.1, pay1_at, slab_lower m c t r d s hs h, block3 m c t r d s hs]; rfl

theorem sqs_at : (outsAt0 m c t.val t.isLt).2.2.2 (ix2 r d) = sqs' (upper m c) (lower m c) (sqs m c) (ix2 s d) := by
  by_cases h : t.val < 16
  · rw [(outs_A m c t _ h).2.2.2, pay2_at, slab_upper m c t r d s hs h, block4 m c t r d s hs]; rfl
  · rw [(outs_B m c t _ h).2.2.2, pay2_at, slab_lower m c t r d s hs h, block4 m c t r d s hs]; rfl

end

/-- The kernel's results. -/
theorem result5 : (dats m 0 c).arrAt 5 cfg0.N = grad (upper m c) (lower m c) := by
  refine (dats m 0 c).arrAt_eq_of_covers 5 _ (by decide +kernel) fun t hf y => ?_
  have hN := lt_of_lt_of_eq t.isLt (show cfg0.N = 32 from N_0)
  blk_simp
  rw [after0_5]
  obtain ⟨h0, h1⟩ := index5 t
  obtain ⟨r, d, rfl⟩ := Adam.two y
  have hr := r.isLt
  refine (grad_at m c t r d ⟨t.val * 128 + r.val, by omega⟩ rfl).trans (congrArg _ (Shape.idx_ext₂ ?_ ?_))
  · blk_simp
    rw [h0]
  · blk_simp
    rw [h1]; exact (Nat.zero_add _).symm

theorem result6 : (dats m 0 c).arrAt 6 cfg0.N = delta (upper m c) (lower m c) (wts m c) (mom m c) (sqs m c) := by
  refine (dats m 0 c).arrAt_eq_of_covers 6 _ (by decide +kernel) fun t hf y => ?_
  have hN := lt_of_lt_of_eq t.isLt (show cfg0.N = 32 from N_0)
  blk_simp
  rw [after0_6]
  obtain ⟨h0, h1⟩ := index6 t
  obtain ⟨r, d, rfl⟩ := Adam.two y
  have hr := r.isLt
  refine (delta_at m c t r d ⟨t.val * 128 + r.val, by omega⟩ rfl).trans (congrArg _ (Shape.idx_ext₂ ?_ ?_))
  · blk_simp
    rw [h0]
  · blk_simp
    rw [h1]; exact (Nat.zero_add _).symm

theorem result7 : (dats m 0 c).arrAt 7 cfg0.N = mom' (upper m c) (lower m c) (mom m c) := by
  refine (dats m 0 c).arrAt_eq_of_covers 7 _ (by decide +kernel) fun t hf y => ?_
  have hN := lt_of_lt_of_eq t.isLt (show cfg0.N = 32 from N_0)
  blk_simp
  rw [after0_7]
  obtain ⟨h0, h1⟩ := index7 t
  obtain ⟨r, d, rfl⟩ := Adam.two y
  have hr := r.isLt
  refine (mom_at m c t r d ⟨t.val * 128 + r.val, by omega⟩ rfl).trans (congrArg _ (Shape.idx_ext₂ ?_ ?_))
  · blk_simp
    rw [h0]
  · blk_simp
    rw [h1]; exact (Nat.zero_add _).symm

theorem result8 : (dats m 0 c).arrAt 8 cfg0.N = sqs' (upper m c) (lower m c) (sqs m c) := by
  refine (dats m 0 c).arrAt_eq_of_covers 8 _ (by decide +kernel) fun t hf y => ?_
  have hN := lt_of_lt_of_eq t.isLt (show cfg0.N = 32 from N_0)
  blk_simp
  rw [after0_8]
  obtain ⟨h0, h1⟩ := index8 t
  obtain ⟨r, d, rfl⟩ := Adam.two y
  have hr := r.isLt
  refine (sqs_at m c t r d ⟨t.val * 128 + r.val, by omega⟩ rfl).trans (congrArg _ (Shape.idx_ext₂ ?_ ?_))
  · blk_simp
    rw [h0]
  · blk_simp
    rw [h1]; exact (Nat.zero_add _).symm

/-! ## The reference -/

section
open Cert.Reference20Ideal.Read

variable (A B : S8x2048x640.Idx → EReal) (W M V : S4096x640.Idx → EReal)

theorem upper_at (r : Fin 2048) (d : Fin 640) : val_main_v1 (F := Ideal) A (ix2 r d) = ∑ k : Fin 8, A (ix3 k r d) := by
  rw [val_main_v1_apply, val_main_cst_apply]
  show Ideal.ofBits .f32 0x00000000#32 + _ = _
  rw [Ideal.ofBits_zero_f32, zero_add]
  refine Finset.sum_congr rfl fun k _ => ?_
  rw [val_main_v0_apply]
  exact congrArg A (Accum.ext3 rfl rfl rfl)

theorem lower_at (r : Fin 2048) (d : Fin 640) : val_main_v3 (F := Ideal) B (ix2 r d) = ∑ k : Fin 8, B (ix3 k r d) := by
  rw [val_main_v3_apply, val_main_cst_0_apply]
  show Ideal.ofBits .f32 0x00000000#32 + _ = _
  rw [Ideal.ofBits_zero_f32, zero_add]
  refine Finset.sum_congr rfl fun k _ => ?_
  rw [val_main_v2_apply]
  exact congrArg B (Accum.ext3 rfl rfl rfl)

theorem gradRef_at (y : S4096x640.Idx) : val_main_v4 (F := Ideal) A B y = grad A B y :=
  Adam.grad_concat (h := 2048) rfl A B _ _ (upper_at A) (lower_at B) _ y

theorem momRef_at (y : S4096x640.Idx) : val_main_v9 (F := Ideal) A B M y = mom' A B M y :=
  congrArg (Adam.first (M y)) (gradRef_at A B y)

theorem sqsRef_at (y : S4096x640.Idx) : val_main_v15 (F := Ideal) A B V y = sqs' A B V y :=
  congrArg (Adam.second (V y)) (gradRef_at A B y)

theorem deltaRef_at (y : S4096x640.Idx) : val_main_v28 (F := Ideal) A B W M V y = delta A B W M V y :=
  congrArg (Adam.step (W y) (M y) (V y)) (gradRef_at A B y)

end

end Cert.StepIn

end
-- ==== Proof.StepOut.lean ====
module

public import proofs.«01_k».proof.Proof.Accum
public import proofs.«01_k».proof.Proof.Adam
public import proofs.«01_k».proof.Proof.Gen.Kernel21Ideal.Value
public import proofs.«01_k».proof.Proof.Gen.Reference21Ideal.Read
public import Idealize.ShloMosaic.Lib.Pipeline.ValueKit

/-!
# The optimiser on the mixer's last weight

The kernel adds the eight devices' gradients of each block of rows and steps the block; its first 4 blocks come from the one
gathered array and the rest from the other. The reference puts the two sums under each other and steps the whole.
-/

@[expose] public section

set_option maxRecDepth 16384

noncomputable section

namespace Cert.StepOut

open Cert.Kernel21Ideal Cert.Kernel21Ideal.Gen Idealize.ShloMosaic Idealize.ShloMosaic.TcCoe Idealize.ShloMosaic.Tactic

variable (m : (ℓ : Loc nD τ sig) → Buf (Elt Ideal) ℓ) (c : Dev nD)

/-- The two gathered arrays, the weight and its moments. -/
abbrev upper : S8x256x2048.Idx → EReal := m ((c : Thread nD τ).loc main_arg0)
abbrev lower : S8x256x2048.Idx → EReal := m ((c : Thread nD τ).loc main_arg1)
abbrev wts : S512x2048.Idx → EReal := m ((c : Thread nD τ).loc main_arg2)
abbrev mom : S512x2048.Idx → EReal := m ((c : Thread nD τ).loc main_arg3)
abbrev sqs : S512x2048.Idx → EReal := m ((c : Thread nD τ).loc main_arg4)

/-- The gradient, and what the step makes of it. -/
abbrev grad (A B : S8x256x2048.Idx → EReal) : S512x2048.Idx → EReal := Adam.grad (h := 256) (n := 512) rfl A B
abbrev delta (A B : S8x256x2048.Idx → EReal) (W M V : S512x2048.Idx → EReal) : S512x2048.Idx → EReal := Adam.delta (h := 256) (n := 512) rfl A B W M V
abbrev mom' (A B : S8x256x2048.Idx → EReal) (M : S512x2048.Idx → EReal) : S512x2048.Idx → EReal := Adam.mom (h := 256) (n := 512) rfl A B M
abbrev sqs' (A B : S8x256x2048.Idx → EReal) (V : S512x2048.Idx → EReal) : S512x2048.Idx → EReal := Adam.sqs (h := 256) (n := 512) rfl A B V

theorem index0 : ∀ t : Fin grid0.N, (t.val < 4 → win0_0.index t 1 = t.val) ∧ win0_0.index t 0 = 0 ∧ win0_0.index t 2 = 0 := by
  decide +kernel

theorem index1 : ∀ t : Fin grid0.N, (4 ≤ t.val → win0_1.index t 1 = t.val - 4) ∧ win0_1.index t 0 = 0 ∧ win0_1.index t 2 = 0 := by
  decide +kernel

theorem index2 : ∀ t : Fin grid0.N, win0_2.index t 0 = t.val ∧ win0_2.index t 1 = 0 := by
  decide +kernel

theorem index3 : ∀ t : Fin grid0.N, win0_3.index t 0 = t.val ∧ win0_3.index t 1 = 0 := by
  decide +kernel

theorem index4 : ∀ t : Fin grid0.N, win0_4.index t 0 = t.val ∧ win0_4.index t 1 = 0 := by
  decide +kernel

theorem index5 : ∀ t : Fin grid0.N, win0_5.index t 0 = t.val ∧ win0_5.index t 1 = 0 := by
  decide +kernel

theorem index6 : ∀ t : Fin grid0.N, win0_6.index t 0 = t.val ∧ win0_6.index t 1 = 0 := by
  decide +kernel

theorem index7 : ∀ t : Fin grid0.N, win0_7.index t 0 = t.val ∧ win0_7.index t 1 = 0 := by
  decide +kernel

theorem index8 : ∀ t : Fin grid0.N, win0_8.index t 0 = t.val ∧ win0_8.index t 1 = 0 := by
  decide +kernel

theorem block0 (t : Fin cfg0.N) (ht : t.val < 4) (k : Fin 8) (r : Fin 64) (d : Fin 2048) (s : Fin 256) (hs : s.val = t.val * 64 + r.val) :
    iblk m c 0 t (ix3 k r d) = upper m c (ix3 k s d) := by
  blk_simp [iblk]
  rw [V_main_arg0]
  obtain ⟨h1, h0, h2⟩ := index0 t
  refine congrArg (m ((c : Thread nD τ).loc main_arg0)) (Accum.ext3 ?_ ?_ ?_)
  · blk_simp
    rw [h0]; exact Nat.zero_add _
  · blk_simp
    rw [h1 ht, hs]
  · blk_simp
    rw [h2]; exact Nat.zero_add _

theorem block1 (t : Fin cfg0.N) (ht : 4 ≤ t.val) (k : Fin 8) (r : Fin 64) (d : Fin 2048) (s : Fin 256)
    (hs : s.val = (t.val - 4) * 64 + r.val) : iblk m c 1 t (ix3 k r d) = lower m c (ix3 k s d) := by
  blk_simp [iblk]
  rw [V_main_arg1]
  obtain ⟨h1, h0, h2⟩ := index1 t
  refine congrArg (m ((c : Thread nD τ).loc main_arg1)) (Accum.ext3 ?_ ?_ ?_)
  · blk_simp
    rw [h0]; exact Nat.zero_add _
  · blk_simp
    rw [h1 ht, hs]
  · blk_simp
    rw [h2]; exact Nat.zero_add _

theorem block2 (t : Fin cfg0.N) (r : Fin 64) (d : Fin 2048) (s : Fin 512) (hs : s.val = t.val * 64 + r.val) :
    iblk m c 2 t (ix2 r d) = wts m c (ix2 s d) := by
  blk_simp [iblk]
  rw [V_main_arg2]
  obtain ⟨h0, h1⟩ := index2 t
  refine congrArg (m ((c : Thread nD τ).loc main_arg2)) (Shape.idx_ext₂ ?_ ?_)
  · blk_simp
    rw [h0, hs]
  · blk_simp
    rw [h1]; exact Nat.zero_add _

theorem block3 (t : Fin cfg0.N) (r : Fin 64) (d : Fin 2048) (s : Fin 512) (hs : s.val = t.val * 64 + r.val) :
    iblk m c 3 t (ix2 r d) = mom m c (ix2 s d) := by
  blk_simp [iblk]
  rw [V_main_arg3]
  obtain ⟨h0, h1⟩ := index3 t
  refine congrArg (m ((c : Thread nD τ).loc main_arg3)) (Shape.idx_ext₂ ?_ ?_)
  · blk_simp
    rw [h0, hs]
  · blk_simp
    rw [h1]; exact Nat.zero_add _

theorem block4 (t : Fin cfg0.N) (r : Fin 64) (d : Fin 2048) (s : Fin 512) (hs : s.val = t.val * 64 + r.val) :
    iblk m c 4 t (ix2 r d) = sqs m c (ix2 s d) := by
  blk_simp [iblk]
  rw [V_main_arg4]
  obtain ⟨h0, h1⟩ := index4 t
  refine congrArg (m ((c : Thread nD τ).loc main_arg4)) (Shape.idx_ext₂ ?_ ?_)
  · blk_simp
    rw [h0, hs]
  · blk_simp
    rw [h1]; exact Nat.zero_add _

/-- The sum of the eight slabs of a block. -/
def slab (x : Vec Ideal S8x64x2048 .bf16) : FVec Ideal S64x2048 .f32 :=
  k0_pay7 (View.ld x (Rect.unit (s := S8x64x2048) ![0, 0, 0] S1x64x2048.size inb_S8x64x2048_S1x64x2048_0_0_0))
    (View.ld x (Rect.unit (s := S8x64x2048) ![1, 0, 0] S1x64x2048.size inb_S8x64x2048_S1x64x2048_1_0_0))
    (View.ld x (Rect.unit (s := S8x64x2048) ![2, 0, 0] S1x64x2048.size inb_S8x64x2048_S1x64x2048_2_0_0))
    (View.ld x (Rect.unit (s := S8x64x2048) ![3, 0, 0] S1x64x2048.size inb_S8x64x2048_S1x64x2048_3_0_0))
    (View.ld x (Rect.unit (s := S8x64x2048) ![4, 0, 0] S1x64x2048.size inb_S8x64x2048_S1x64x2048_4_0_0))
    (View.ld x (Rect.unit (s := S8x64x2048) ![5, 0, 0] S1x64x2048.size inb_S8x64x2048_S1x64x2048_5_0_0))
    (View.ld x (Rect.unit (s := S8x64x2048) ![6, 0, 0] S1x64x2048.size inb_S8x64x2048_S1x64x2048_6_0_0))
    (View.ld x (Rect.unit (s := S8x64x2048) ![7, 0, 0] S1x64x2048.size inb_S8x64x2048_S1x64x2048_7_0_0))

theorem slab_at (x : Vec Ideal S8x64x2048 .bf16) (r : Fin 64) (d : Fin 2048) : slab x (ix2 r d) = ∑ k : Fin 8, x (ix3 k r d) := by
  rw [Fin.sum_univ_eight]
  unfold slab k0_pay7
  pointwise

theorem pay1_at (u : FVec Ideal S64x2048 .f32) (v : Vec Ideal S64x2048 .f32) (r : Fin 64) (d : Fin 2048) :
    k0_pay1 u v (ix2 r d) = Adam.first (v (ix2 r d)) (u (ix2 r d)) := by
  unfold k0_pay1 Adam.first
  pointwise

theorem pay2_at (u : FVec Ideal S64x2048 .f32) (v : Vec Ideal S64x2048 .f32) (r : Fin 64) (d : Fin 2048) :
    k0_pay2 u v (ix2 r d) = Adam.second (v (ix2 r d)) (u (ix2 r d)) := by
  unfold k0_pay2 Adam.second
  pointwise

theorem pay3_at (u : FVec Ideal S64x2048 .f32) (v q w : Vec Ideal S64x2048 .f32) (r : Fin 64) (d : Fin 2048) :
    k0_pay3 u v q w (ix2 r d) = Adam.step (w (ix2 r d)) (v (ix2 r d)) (q (ix2 r d)) (u (ix2 r d)) := by
  unfold Adam.step
  rw [← pay1_at u v r d, ← pay2_at u q r d]
  unfold k0_pay3
  generalize k0_pay1 u v = a
  generalize k0_pay2 u q = b
  pointwise

/-- A point's four blocks: the gradient, the change and the moments. -/
theorem outs_A (t : Fin cfg0.N) (y : S64x2048.Idx) (h : t.val < 4) :
    (outsAt0 m c t.val t.isLt).1 y = slab (iblk m c 0 t) y
      ∧ (outsAt0 m c t.val t.isLt).2.1 y = k0_pay3 (slab (iblk m c 0 t)) (iblk m c 3 t) (iblk m c 4 t) (iblk m c 2 t) y
      ∧ (outsAt0 m c t.val t.isLt).2.2.1 y = k0_pay1 (slab (iblk m c 0 t)) (iblk m c 3 t) y
      ∧ (outsAt0 m c t.val t.isLt).2.2.2 y = k0_pay2 (slab (iblk m c 0 t)) (iblk m c 4 t) y := by
  rw [outsAt0_A m c t h (by omega)]
  refine ⟨?_, ?_, ?_, ?_⟩ <;> (frame_out; unfold slab; rfl)

theorem outs_B (t : Fin cfg0.N) (y : S64x2048.Idx) (h : ¬ t.val < 4) :
    (outsAt0 m c t.val t.isLt).1 y = slab (iblk m c 1 t) y
      ∧ (outsAt0 m c t.val t.isLt).2.1 y = k0_pay3 (slab (iblk m c 1 t)) (iblk m c 3 t) (iblk m c 4 t) (iblk m c 2 t) y
      ∧ (outsAt0 m c t.val t.isLt).2.2.1 y = k0_pay1 (slab (iblk m c 1 t)) (iblk m c 3 t) y
      ∧ (outsAt0 m c t.val t.isLt).2.2.2 y = k0_pay2 (slab (iblk m c 1 t)) (iblk m c 4 t) y := by
  rw [outsAt0_B m c t h (by omega)]
  refine ⟨?_, ?_, ?_, ?_⟩ <;> (frame_out; unfold slab; rfl)

section
variable (t : Fin cfg0.N) (r : Fin 64) (d : Fin 2048) (s : Fin 512) (hs : s.val = t.val * 64 + r.val)
include hs

theorem slab_upper (h : t.val < 4) : slab (iblk m c 0 t) (ix2 r d) = grad (upper m c) (lower m c) (ix2 s d) := by
  have hr := r.isLt
  have hl : s.val < 256 := by omega
  rw [slab_at, grad, Adam.grad, dif_pos (show ((ix2 s d : S512x2048.Idx) 0).val < 256 from hl)]
  exact Finset.sum_congr rfl fun k _ => block0 m c t h k r d ⟨s.val, hl⟩ hs

theorem slab_lower (h : ¬ t.val < 4) : slab (iblk m c 1 t) (ix2 r d) = grad (upper m c) (lower m c) (ix2 s d) := by
  have hl : ¬ s.val < 256 := by omega
  have hu := s.isLt
  rw [slab_at, grad, Adam.grad, dif_neg (show ¬ ((ix2 s d : S512x2048.Idx) 0).val < 256 from hl)]
  exact Finset.sum_congr rfl fun k _ => block1 m c t (by omega) k r d ⟨s.val - 256, by omega⟩ (by show s.val - 256 = _; omega)

theorem grad_at : (outsAt0 m c t.val t.isLt).1 (ix2 r d) = grad (upper m c) (lower m c) (ix2 s d) := by
  by_cases h : t.val < 4
  · rw [(outs_A m c t _ h).1, slab_upper m c t r d s hs h]
  · rw [(outs_B m c t _ h).1, slab_lower m c t r d s hs h]

theorem delta_at : (outsAt0 m c t.val t.isLt).2.1 (ix2 r d)
    = delta (upper m c) (lower m c) (wts m c) (mom m c) (sqs m c) (ix2 s d) := by
  by_cases h : t.val < 4
  · rw [(outs_A m c t _ h).2.1, pay3_at, slab_upper m c t r d s hs h, block2 m c t r d s hs, block3 m c t r d s hs, block4 m c t r d s hs]; rfl
  · rw [(outs_B m c t _ h).2.1, pay3_at, slab_lower m c t r d s hs h, block2 m c t r d s hs, block3 m c t r d s hs, block4 m c t r d s hs]; rfl

theorem mom_at : (outsAt0 m c t.val t.isLt).2.2.1 (ix2 r d) = mom' (upper m c) (lower m c) (mom m c) (ix2 s d) := by
  by_cases h : t.val < 4
  · rw [(outs_A m c t _ h).2.2.1, pay1_at, slab_upper m c t r d s hs h, block3 m c t r d s hs]; rfl
  · rw [(outs_B m c t _ h).2.2.1, pay1_at, slab_lower m c t r d s hs h, block3 m c t r d s hs]; rfl

theorem sqs_at : (outsAt0 m c t.val t.isLt).2.2.2 (ix2 r d) = sqs' (upper m c) (lower m c) (sqs m c) (ix2 s d) := by
  by_cases h : t.val < 4
  · rw [(outs_A m c t _ h).2.2.2, pay2_at, slab_upper m c t r d s hs h, block4 m c t r d s hs]; rfl
  · rw [(outs_B m c t _ h).2.2.2, pay2_at, slab_lower m c t r d s hs h, block4 m c t r d s hs]; rfl

end

/-- The kernel's results. -/
theorem result5 : (dats m 0 c).arrAt 5 cfg0.N = grad (upper m c) (lower m c) := by
  refine (dats m 0 c).arrAt_eq_of_covers 5 _ (by decide +kernel) fun t hf y => ?_
  have hN := lt_of_lt_of_eq t.isLt (show cfg0.N = 8 from N_0)
  blk_simp
  rw [after0_5]
  obtain ⟨h0, h1⟩ := index5 t
  obtain ⟨r, d, rfl⟩ := Adam.two y
  have hr := r.isLt
  refine (grad_at m c t r d ⟨t.val * 64 + r.val, by omega⟩ rfl).trans (congrArg _ (Shape.idx_ext₂ ?_ ?_))
  · blk_simp
    rw [h0]
  · blk_simp
    rw [h1]; exact (Nat.zero_add _).symm

theorem result6 : (dats m 0 c).arrAt 6 cfg0.N = delta (upper m c) (lower m c) (wts m c) (mom m c) (sqs m c) := by
  refine (dats m 0 c).arrAt_eq_of_covers 6 _ (by decide +kernel) fun t hf y => ?_
  have hN := lt_of_lt_of_eq t.isLt (show cfg0.N = 8 from N_0)
  blk_simp
  rw [after0_6]
  obtain ⟨h0, h1⟩ := index6 t
  obtain ⟨r, d, rfl⟩ := Adam.two y
  have hr := r.isLt
  refine (delta_at m c t r d ⟨t.val * 64 + r.val, by omega⟩ rfl).trans (congrArg _ (Shape.idx_ext₂ ?_ ?_))
  · blk_simp
    rw [h0]
  · blk_simp
    rw [h1]; exact (Nat.zero_add _).symm

theorem result7 : (dats m 0 c).arrAt 7 cfg0.N = mom' (upper m c) (lower m c) (mom m c) := by
  refine (dats m 0 c).arrAt_eq_of_covers 7 _ (by decide +kernel) fun t hf y => ?_
  have hN := lt_of_lt_of_eq t.isLt (show cfg0.N = 8 from N_0)
  blk_simp
  rw [after0_7]
  obtain ⟨h0, h1⟩ := index7 t
  obtain ⟨r, d, rfl⟩ := Adam.two y
  have hr := r.isLt
  refine (mom_at m c t r d ⟨t.val * 64 + r.val, by omega⟩ rfl).trans (congrArg _ (Shape.idx_ext₂ ?_ ?_))
  · blk_simp
    rw [h0]
  · blk_simp
    rw [h1]; exact (Nat.zero_add _).symm

theorem result8 : (dats m 0 c).arrAt 8 cfg0.N = sqs' (upper m c) (lower m c) (sqs m c) := by
  refine (dats m 0 c).arrAt_eq_of_covers 8 _ (by decide +kernel) fun t hf y => ?_
  have hN := lt_of_lt_of_eq t.isLt (show cfg0.N = 8 from N_0)
  blk_simp
  rw [after0_8]
  obtain ⟨h0, h1⟩ := index8 t
  obtain ⟨r, d, rfl⟩ := Adam.two y
  have hr := r.isLt
  refine (sqs_at m c t r d ⟨t.val * 64 + r.val, by omega⟩ rfl).trans (congrArg _ (Shape.idx_ext₂ ?_ ?_))
  · blk_simp
    rw [h0]
  · blk_simp
    rw [h1]; exact (Nat.zero_add _).symm

/-! ## The reference -/

section
open Cert.Reference21Ideal.Read

variable (A B : S8x256x2048.Idx → EReal) (W M V : S512x2048.Idx → EReal)

theorem upper_at (r : Fin 256) (d : Fin 2048) : val_main_v1 (F := Ideal) A (ix2 r d) = ∑ k : Fin 8, A (ix3 k r d) := by
  rw [val_main_v1_apply, val_main_cst_apply]
  show Ideal.ofBits .f32 0x00000000#32 + _ = _
  rw [Ideal.ofBits_zero_f32, zero_add]
  refine Finset.sum_congr rfl fun k _ => ?_
  rw [val_main_v0_apply]
  exact congrArg A (Accum.ext3 rfl rfl rfl)

theorem lower_at (r : Fin 256) (d : Fin 2048) : val_main_v3 (F := Ideal) B (ix2 r d) = ∑ k : Fin 8, B (ix3 k r d) := by
  rw [val_main_v3_apply, val_main_cst_0_apply]
  show Ideal.ofBits .f32 0x00000000#32 + _ = _
  rw [Ideal.ofBits_zero_f32, zero_add]
  refine Finset.sum_congr rfl fun k _ => ?_
  rw [val_main_v2_apply]
  exact congrArg B (Accum.ext3 rfl rfl rfl)

theorem gradRef_at (y : S512x2048.Idx) : val_main_v4 (F := Ideal) A B y = grad A B y :=
  Adam.grad_concat (h := 256) rfl A B _ _ (upper_at A) (lower_at B) _ y

theorem momRef_at (y : S512x2048.Idx) : val_main_v9 (F := Ideal) A B M y = mom' A B M y :=
  congrArg (Adam.first (M y)) (gradRef_at A B y)

theorem sqsRef_at (y : S512x2048.Idx) : val_main_v15 (F := Ideal) A B V y = sqs' A B V y :=
  congrArg (Adam.second (V y)) (gradRef_at A B y)

theorem deltaRef_at (y : S512x2048.Idx) : val_main_v28 (F := Ideal) A B W M V y = delta A B W M V y :=
  congrArg (Adam.step (W y) (M y) (V y)) (gradRef_at A B y)

end

end Cert.StepOut

end
-- ==== Proof.StepSmall.lean ====
module

public import proofs.«01_k».proof.Proof.Accum
public import proofs.«01_k».proof.Proof.Adam
public import proofs.«01_k».proof.Proof.Gen.Kernel22Ideal.Value
public import Idealize.ShloMosaic.Lib.Pipeline.ValueKit

/-!
# The optimiser on the small weights

The kernel adds the eight devices' gradients of the packed small weights and steps them, all in one block.
-/

@[expose] public section

set_option maxRecDepth 16384

noncomputable section

namespace Cert.StepSmall

open Cert.Kernel22Ideal Cert.Kernel22Ideal.Gen Idealize.ShloMosaic Idealize.ShloMosaic.TcCoe Idealize.ShloMosaic.Tactic

variable (m : (ℓ : Loc nD τ sig) → Buf (Elt Ideal) ℓ) (c : Dev nD)

/-- The packed arrays that the call finds: the eight devices' gradients, the weights and their moments. -/
abbrev lands : S8x1176x128.Idx → EReal := V m c main_v10
abbrev wts : S1176x128.Idx → EReal := V m c main_v21
abbrev mom : S1176x128.Idx → EReal := V m c main_v32
abbrev sqs : S1176x128.Idx → EReal := V m c main_v43

/-- The gradient, and what the step makes of it. -/
def grad (A : S8x1176x128.Idx → EReal) (y : S1176x128.Idx) : EReal := ∑ k : Fin 8, A (ix3 k (y 0) (y 1))

def delta (A : S8x1176x128.Idx → EReal) (W M V : S1176x128.Idx → EReal) (y : S1176x128.Idx) : EReal :=
  Adam.step (W y) (M y) (V y) (grad A y)

def mom' (A : S8x1176x128.Idx → EReal) (M : S1176x128.Idx → EReal) (y : S1176x128.Idx) : EReal := Adam.first (M y) (grad A y)

def sqs' (A : S8x1176x128.Idx → EReal) (V : S1176x128.Idx → EReal) (y : S1176x128.Idx) : EReal := Adam.second (V y) (grad A y)

theorem index0 : ∀ t : Fin grid0.N, win0_0.index t 0 = 0 ∧ win0_0.index t 1 = 0 ∧ win0_0.index t 2 = 0 := by
  decide +kernel

theorem index1 : ∀ t : Fin grid0.N, win0_1.index t 0 = 0 ∧ win0_1.index t 1 = 0 := by
  decide +kernel

theorem index2 : ∀ t : Fin grid0.N, win0_2.index t 0 = 0 ∧ win0_2.index t 1 = 0 := by
  decide +kernel

theorem index3 : ∀ t : Fin grid0.N, win0_3.index t 0 = 0 ∧ win0_3.index t 1 = 0 := by
  decide +kernel

theorem index4 : ∀ t : Fin grid0.N, win0_4.index t 0 = 0 ∧ win0_4.index t 1 = 0 := by
  decide +kernel

theorem index5 : ∀ t : Fin grid0.N, win0_5.index t 0 = 0 ∧ win0_5.index t 1 = 0 := by
  decide +kernel

theorem index6 : ∀ t : Fin grid0.N, win0_6.index t 0 = 0 ∧ win0_6.index t 1 = 0 := by
  decide +kernel

theorem index7 : ∀ t : Fin grid0.N, win0_7.index t 0 = 0 ∧ win0_7.index t 1 = 0 := by
  decide +kernel

theorem block0 (t : Fin cfg0.N) (k : Fin 8) (r : Fin 1176) (d : Fin 128) : iblk m c 0 t (ix3 k r d) = lands m c (ix3 k r d) := by
  blk_simp [iblk]
  obtain ⟨h0, h1, h2⟩ := index0 t
  refine congrArg (V m c main_v10) (Accum.ext3 ?_ ?_ ?_)
  · blk_simp
    rw [h0]; exact Nat.zero_add _
  · blk_simp
    rw [h1]; exact Nat.zero_add _
  · blk_simp
    rw [h2]; exact Nat.zero_add _

theorem block1 (t : Fin cfg0.N) (r : Fin 1176) (d : Fin 128) : iblk m c 1 t (ix2 r d) = wts m c (ix2 r d) := by
  blk_simp [iblk]
  obtain ⟨h0, h1⟩ := index1 t
  refine congrArg (V m c main_v21) (Shape.idx_ext₂ ?_ ?_)
  · blk_simp
    rw [h0]; exact Nat.zero_add _
  · blk_simp
    rw [h1]; exact Nat.zero_add _

theorem block2 (t : Fin cfg0.N) (r : Fin 1176) (d : Fin 128) : iblk m c 2 t (ix2 r d) = mom m c (ix2 r d) := by
  blk_simp [iblk]
  obtain ⟨h0, h1⟩ := index2 t
  refine congrArg (V m c main_v32) (Shape.idx_ext₂ ?_ ?_)
  · blk_simp
    rw [h0]; exact Nat.zero_add _
  · blk_simp
    rw [h1]; exact Nat.zero_add _

theorem block3 (t : Fin cfg0.N) (r : Fin 1176) (d : Fin 128) : iblk m c 3 t (ix2 r d) = sqs m c (ix2 r d) := by
  blk_simp [iblk]
  obtain ⟨h0, h1⟩ := index3 t
  refine congrArg (V m c main_v43) (Shape.idx_ext₂ ?_ ?_)
  · blk_simp
    rw [h0]; exact Nat.zero_add _
  · blk_simp
    rw [h1]; exact Nat.zero_add _

/-- The sum of the eight slabs. -/
def slab (x : Vec Ideal S8x1176x128 .f32) : FVec Ideal S1176x128 .f32 :=
  k0_pay4 (View.ld x (Rect.unit (s := S8x1176x128) ![0, 0, 0] S1x1176x128.size inb_S8x1176x128_S1x1176x128_0_0_0))
    (View.ld x (Rect.unit (s := S8x1176x128) ![1, 0, 0] S1x1176x128.size inb_S8x1176x128_S1x1176x128_1_0_0))
    (View.ld x (Rect.unit (s := S8x1176x128) ![2, 0, 0] S1x1176x128.size inb_S8x1176x128_S1x1176x128_2_0_0))
    (View.ld x (Rect.unit (s := S8x1176x128) ![3, 0, 0] S1x1176x128.size inb_S8x1176x128_S1x1176x128_3_0_0))
    (View.ld x (Rect.unit (s := S8x1176x128) ![4, 0, 0] S1x1176x128.size inb_S8x1176x128_S1x1176x128_4_0_0))
    (View.ld x (Rect.unit (s := S8x1176x128) ![5, 0, 0] S1x1176x128.size inb_S8x1176x128_S1x1176x128_5_0_0))
    (View.ld x (Rect.unit (s := S8x1176x128) ![6, 0, 0] S1x1176x128.size inb_S8x1176x128_S1x1176x128_6_0_0))
    (View.ld x (Rect.unit (s := S8x1176x128) ![7, 0, 0] S1x1176x128.size inb_S8x1176x128_S1x1176x128_7_0_0))

theorem slab_at (x : Vec Ideal S8x1176x128 .f32) (r : Fin 1176) (d : Fin 128) : slab x (ix2 r d) = ∑ k : Fin 8, x (ix3 k r d) := by
  rw [Fin.sum_univ_eight]
  unfold slab k0_pay4
  pointwise

theorem pay1_at (u v : FVec Ideal S1176x128 .f32) (r : Fin 1176) (d : Fin 128) :
    k0_pay1 u (k0_pay5 v) k0_pay6 (ix2 r d) = Adam.first (v (ix2 r d)) (u (ix2 r d)) := by
  unfold k0_pay1 k0_pay5 k0_pay6 Adam.first
  pointwise

theorem pay2_at (u : FVec Ideal S1176x128 .f32) (v : Vec Ideal S1176x128 .f32) (r : Fin 1176) (d : Fin 128) :
    k0_pay2 u v (ix2 r d) = Adam.second (v (ix2 r d)) (u (ix2 r d)) := by
  unfold k0_pay2 Adam.second
  pointwise

theorem pay3_at (u : FVec Ideal S1176x128 .f32) (v q w : Vec Ideal S1176x128 .f32) (r : Fin 1176) (d : Fin 128) :
    k0_pay3 u (k0_pay5 v) k0_pay6 q w (ix2 r d) = Adam.step (w (ix2 r d)) (v (ix2 r d)) (q (ix2 r d)) (u (ix2 r d)) := by
  unfold Adam.step
  rw [← pay1_at u v r d, ← pay2_at u q r d]
  unfold k0_pay3
  generalize k0_pay1 u (k0_pay5 v) k0_pay6 = a
  generalize k0_pay2 u q = b
  pointwise

section
variable (t : Fin cfg0.N) (y : S1176x128.Idx)

theorem first : (outsAt0 m c t).1 y = slab (iblk m c 0 t) y := by
  unfold outsAt0
  frame_out
  unfold slab
  rfl

theorem second : (outsAt0 m c t).2.1 y = k0_pay3 (slab (iblk m c 0 t)) (k0_pay5 (iblk m c 2 t)) k0_pay6 (iblk m c 3 t) (iblk m c 1 t) y := by
  unfold outsAt0
  frame_out
  unfold slab
  rfl

theorem third : (outsAt0 m c t).2.2.1 y = k0_pay1 (slab (iblk m c 0 t)) (k0_pay5 (iblk m c 2 t)) k0_pay6 y := by
  unfold outsAt0
  frame_out
  unfold slab
  rfl

theorem fourth : (outsAt0 m c t).2.2.2 y = k0_pay2 (slab (iblk m c 0 t)) (iblk m c 3 t) y := by
  unfold outsAt0
  frame_out
  unfold slab
  rfl

end

section
variable (t : Fin cfg0.N) (r : Fin 1176) (d : Fin 128)

theorem slab_lands : slab (iblk m c 0 t) (ix2 r d) = grad (lands m c) (ix2 r d) := by
  rw [slab_at]
  exact Finset.sum_congr rfl fun k _ => block0 m c t k r d

theorem grad_at : (outsAt0 m c t).1 (ix2 r d) = grad (lands m c) (ix2 r d) := by
  rw [first, slab_lands]

theorem delta_at : (outsAt0 m c t).2.1 (ix2 r d) = delta (lands m c) (wts m c) (mom m c) (sqs m c) (ix2 r d) := by
  rw [second, pay3_at, slab_lands, block1, block2, block3]; rfl

theorem mom_at : (outsAt0 m c t).2.2.1 (ix2 r d) = mom' (lands m c) (mom m c) (ix2 r d) := by
  rw [third, pay1_at, slab_lands, block2]; rfl

theorem sqs_at : (outsAt0 m c t).2.2.2 (ix2 r d) = sqs' (lands m c) (sqs m c) (ix2 r d) := by
  rw [fourth, pay2_at, slab_lands, block3]; rfl

end

/-- The kernel's results. -/
theorem result4 : (dats m 0 c).arrAt 4 cfg0.N = grad (lands m c) := by
  refine (dats m 0 c).arrAt_eq_of_covers 4 _ (by decide +kernel) fun t hf y => ?_
  blk_simp
  rw [after0_4]
  obtain ⟨h0, h1⟩ := index4 t
  obtain ⟨r, d, rfl⟩ := Adam.two y
  refine (grad_at m c t r d).trans (congrArg _ (Shape.idx_ext₂ ?_ ?_))
  · blk_simp
    rw [h0]; exact (Nat.zero_add _).symm
  · blk_simp
    rw [h1]; exact (Nat.zero_add _).symm

theorem result5 : (dats m 0 c).arrAt 5 cfg0.N = delta (lands m c) (wts m c) (mom m c) (sqs m c) := by
  refine (dats m 0 c).arrAt_eq_of_covers 5 _ (by decide +kernel) fun t hf y => ?_
  blk_simp
  rw [after0_5]
  obtain ⟨h0, h1⟩ := index5 t
  obtain ⟨r, d, rfl⟩ := Adam.two y
  refine (delta_at m c t r d).trans (congrArg _ (Shape.idx_ext₂ ?_ ?_))
  · blk_simp
    rw [h0]; exact (Nat.zero_add _).symm
  · blk_simp
    rw [h1]; exact (Nat.zero_add _).symm

theorem result6 : (dats m 0 c).arrAt 6 cfg0.N = mom' (lands m c) (mom m c) := by
  refine (dats m 0 c).arrAt_eq_of_covers 6 _ (by decide +kernel) fun t hf y => ?_
  blk_simp
  rw [after0_6]
  obtain ⟨h0, h1⟩ := index6 t
  obtain ⟨r, d, rfl⟩ := Adam.two y
  refine (mom_at m c t r d).trans (congrArg _ (Shape.idx_ext₂ ?_ ?_))
  · blk_simp
    rw [h0]; exact (Nat.zero_add _).symm
  · blk_simp
    rw [h1]; exact (Nat.zero_add _).symm

theorem result7 : (dats m 0 c).arrAt 7 cfg0.N = sqs' (lands m c) (sqs m c) := by
  refine (dats m 0 c).arrAt_eq_of_covers 7 _ (by decide +kernel) fun t hf y => ?_
  blk_simp
  rw [after0_7]
  obtain ⟨h0, h1⟩ := index7 t
  obtain ⟨r, d, rfl⟩ := Adam.two y
  refine (sqs_at m c t r d).trans (congrArg _ (Shape.idx_ext₂ ?_ ?_))
  · blk_simp
    rw [h0]; exact (Nat.zero_add _).symm
  · blk_simp
    rw [h1]; exact (Nat.zero_add _).symm

end Cert.StepSmall

end
-- ==== Proof.Packed.lean ====
module

public import proofs.«01_k».proof.Proof.StepSmall
public import proofs.«01_k».proof.Proof.Gen.Reference22Ideal.Read

/-!
# The small weights in one array

The kernel packs the small weights one after another; the reference steps each on its own and packs what comes out. The
step is entry by entry, so it does not see the packing.
-/

@[expose] public section

set_option maxRecDepth 16384

noncomputable section

namespace Cert.Packed

open Cert.Kernel22Ideal Cert.Kernel22Ideal.Gen Idealize.ShloMosaic Idealize.ShloMosaic.TcCoe Idealize.ShloMosaic.Tactic

/-! ## Arrays one after another -/

section
variable {n N : ℕ}

/-- An array, and behind it what follows. -/
def join (x : (⟨1, ![n]⟩ : Shape).Idx → EReal) (r : ℕ → EReal) (c : ℕ) : EReal := if h : c < n then x (ix1 ⟨c, h⟩) else r (c - n)

/-- The last array. -/
def tail [NeZero n] (x : (⟨1, ![n]⟩ : Shape).Idx → EReal) (c : ℕ) : EReal := x (ix1 ⟨c % n, Nat.mod_lt _ (NeZero.pos n)⟩)

theorem join_map (f : EReal → EReal → EReal → EReal → EReal) {w p q g z : (⟨1, ![n]⟩ : Shape).Idx → EReal} {rw' rp rq rg rz : ℕ → EReal}
    (e : ∀ i, z i = f (w i) (p i) (q i) (g i)) (er : ∀ c, rz c = f (rw' c) (rp c) (rq c) (rg c)) (c : ℕ) :
    join z rz c = f (join w rw' c) (join p rp c) (join q rq c) (join g rg c) := by
  unfold join
  split
  · exact e _
  · exact er _

theorem join_sum {x : Fin 8 → (⟨1, ![n]⟩ : Shape).Idx → EReal} {z : (⟨1, ![n]⟩ : Shape).Idx → EReal} {r : Fin 8 → ℕ → EReal} {rz : ℕ → EReal}
    (e : ∀ i, z i = ∑ k : Fin 8, x k i) (er : ∀ c, rz c = ∑ k : Fin 8, r k c) (c : ℕ) :
    join z rz c = ∑ k : Fin 8, join (x k) (r k) c := by
  unfold join
  split
  · exact e _
  · exact er _

theorem row_cons (j : (⟨1, ![N]⟩ : Shape).Idx) (x : (⟨1, ![n]⟩ : Shape).Idx → EReal) (q : (s : Shape) × (s.Idx → EReal))
    (xs : List ((s : Shape) × (s.Idx → EReal))) {hs} {c : ℕ} {hc} {r : ℕ → EReal}
    (hr : ∀ c hs hc, concatenateAt ⟨1, ![N]⟩ 0 j (q :: xs) hs c hc = r c) :
    concatenateAt ⟨1, ![N]⟩ 0 j (⟨⟨1, ![n]⟩, x⟩ :: q :: xs) hs c hc = join x r c := by
  rw [concatenateAt_cons]
  unfold join
  refine dite_congr rfl (fun h => congrArg x (funext fun b => Fin.ext ?_)) (fun h => hr _ _ _)
  match b with
  | 0 => rfl

theorem row_last [NeZero n] (j : (⟨1, ![N]⟩ : Shape).Idx) (x : (⟨1, ![n]⟩ : Shape).Idx → EReal) {hs} {c : ℕ} {hc} :
    concatenateAt ⟨1, ![N]⟩ 0 j [⟨⟨1, ![n]⟩, x⟩] hs c hc = tail x c := by
  rw [concatenateAt_singleton]
  refine congrArg x (funext fun b => Fin.ext ?_)
  have h : c < n := by simpa [axisSizes] using hc
  match b with
  | 0 => exact (Nat.mod_eq_of_lt h).symm

theorem rows_cons (j : (⟨2, ![8, N]⟩ : Shape).Idx) (x : (⟨2, ![8, n]⟩ : Shape).Idx → EReal) (q : (s : Shape) × (s.Idx → EReal))
    (xs : List ((s : Shape) × (s.Idx → EReal))) {hs} {c : ℕ} {hc} {r : ℕ → EReal}
    (hr : ∀ c hs hc, concatenateAt ⟨2, ![8, N]⟩ 1 j (q :: xs) hs c hc = r c) :
    concatenateAt ⟨2, ![8, N]⟩ 1 j (⟨⟨2, ![8, n]⟩, x⟩ :: q :: xs) hs c hc = join (n := n) (fun i => x (ix2 (j 0) (i 0))) r c := by
  rw [concatenateAt_cons]
  unfold join
  refine dite_congr rfl (fun h => congrArg x (funext fun b => Fin.ext ?_)) (fun h => hr _ _ _)
  match b with
  | 0 => rfl
  | 1 => rfl

theorem rows_last [NeZero n] (j : (⟨2, ![8, N]⟩ : Shape).Idx) (x : (⟨2, ![8, n]⟩ : Shape).Idx → EReal) {hs} {c : ℕ} {hc} :
    concatenateAt ⟨2, ![8, N]⟩ 1 j [⟨⟨2, ![8, n]⟩, x⟩] hs c hc = tail (n := n) (fun i => x (ix2 (j 0) (i 0))) c := by
  rw [concatenateAt_singleton]
  refine congrArg x (funext fun b => Fin.ext ?_)
  have h : c < n := by simpa [axisSizes] using hc
  match b with
  | 0 => rfl
  | 1 => exact (Nat.mod_eq_of_lt h).symm

end

/-- Nine arrays that are packed together: seven weights, the loss's row and seven empty rows. -/
structure Nine where
  a0 : S4096.Idx → EReal
  a1 : S4096.Idx → EReal
  a2 : S3072.Idx → EReal
  a3 : S131072.Idx → EReal
  a4 : S1024.Idx → EReal
  a5 : S4096.Idx → EReal
  a6 : S2048.Idx → EReal
  a7 : S128.Idx → EReal
  a8 : S896.Idx → EReal

/-- The entry at a place of the packed array. -/
def Nine.at (x : Nine) : ℕ → EReal :=
  join (n := 4096) x.a0 <| join (n := 4096) x.a1 <| join (n := 3072) x.a2 <| join (n := 131072) x.a3 <|
    join (n := 1024) x.a4 <| join (n := 4096) x.a5 <| join (n := 2048) x.a6 <| join (n := 128) x.a7 <|
    tail (n := 896) x.a8

/-- What is done entry by entry is done in every one of the nine. -/
theorem Nine.at_map (f : EReal → EReal → EReal → EReal → EReal) (w p q g z : Nine)
    (e0 : ∀ i, z.a0 i = f (w.a0 i) (p.a0 i) (q.a0 i) (g.a0 i))
    (e1 : ∀ i, z.a1 i = f (w.a1 i) (p.a1 i) (q.a1 i) (g.a1 i))
    (e2 : ∀ i, z.a2 i = f (w.a2 i) (p.a2 i) (q.a2 i) (g.a2 i))
    (e3 : ∀ i, z.a3 i = f (w.a3 i) (p.a3 i) (q.a3 i) (g.a3 i))
    (e4 : ∀ i, z.a4 i = f (w.a4 i) (p.a4 i) (q.a4 i) (g.a4 i))
    (e5 : ∀ i, z.a5 i = f (w.a5 i) (p.a5 i) (q.a5 i) (g.a5 i))
    (e6 : ∀ i, z.a6 i = f (w.a6 i) (p.a6 i) (q.a6 i) (g.a6 i))
    (e7 : ∀ i, z.a7 i = f (w.a7 i) (p.a7 i) (q.a7 i) (g.a7 i))
    (e8 : ∀ i, z.a8 i = f (w.a8 i) (p.a8 i) (q.a8 i) (g.a8 i)) (c : ℕ) :
    z.at c = f (w.at c) (p.at c) (q.at c) (g.at c) :=
  join_map f e0 (join_map f e1 (join_map f e2 (join_map f e3 (join_map f e4 (join_map f e5 (join_map f e6 (join_map f e7 fun c => e8 _))))))) c

/-- So is the sum over the devices. -/
theorem Nine.at_sum (x : Fin 8 → Nine) (z : Nine)
    (e0 : ∀ i, z.a0 i = ∑ k : Fin 8, (x k).a0 i)
    (e1 : ∀ i, z.a1 i = ∑ k : Fin 8, (x k).a1 i)
    (e2 : ∀ i, z.a2 i = ∑ k : Fin 8, (x k).a2 i)
    (e3 : ∀ i, z.a3 i = ∑ k : Fin 8, (x k).a3 i)
    (e4 : ∀ i, z.a4 i = ∑ k : Fin 8, (x k).a4 i)
    (e5 : ∀ i, z.a5 i = ∑ k : Fin 8, (x k).a5 i)
    (e6 : ∀ i, z.a6 i = ∑ k : Fin 8, (x k).a6 i)
    (e7 : ∀ i, z.a7 i = ∑ k : Fin 8, (x k).a7 i)
    (e8 : ∀ i, z.a8 i = ∑ k : Fin 8, (x k).a8 i) (c : ℕ) : z.at c = ∑ k : Fin 8, (x k).at c :=
  join_sum e0 (join_sum e1 (join_sum e2 (join_sum e3 (join_sum e4 (join_sum e5 (join_sum e6 (join_sum e7 fun c => e8 _))))))) c

theorem row_at (x : Nine) (h) (n : Fin 150528) :
    concatenate S150528 0 [⟨S4096, x.a0⟩, ⟨S4096, x.a1⟩, ⟨S3072, x.a2⟩, ⟨S131072, x.a3⟩, ⟨S1024, x.a4⟩, ⟨S4096, x.a5⟩,
      ⟨S2048, x.a6⟩, ⟨S128, x.a7⟩, ⟨S896, x.a8⟩] h (ix1 n)
      = x.at n.val := by
  rw [concatenate_apply]
  unfold Nine.at
  refine row_cons (n := 4096) (N := 150528) _ _ _ _ fun c _ _ => ?_
  refine row_cons (n := 4096) (N := 150528) _ _ _ _ fun c _ _ => ?_
  refine row_cons (n := 3072) (N := 150528) _ _ _ _ fun c _ _ => ?_
  refine row_cons (n := 131072) (N := 150528) _ _ _ _ fun c _ _ => ?_
  refine row_cons (n := 1024) (N := 150528) _ _ _ _ fun c _ _ => ?_
  refine row_cons (n := 4096) (N := 150528) _ _ _ _ fun c _ _ => ?_
  refine row_cons (n := 2048) (N := 150528) _ _ _ _ fun c _ _ => ?_
  refine row_cons (n := 128) (N := 150528) _ _ _ _ fun c _ _ => ?_
  exact row_last (n := 896) (N := 150528) _ _

/-- The same for each device's arrays. -/
theorem rows_at (y0 : S8x4096.Idx → EReal) (y1 : S8x4096.Idx → EReal) (y2 : S8x3072.Idx → EReal)
    (y3 : S8x131072.Idx → EReal) (y4 : S8x1024.Idx → EReal) (y5 : S8x4096.Idx → EReal)
    (y6 : S8x2048.Idx → EReal) (y7 : S8x128.Idx → EReal) (y8 : S8x896.Idx → EReal)
    (h) (p : Fin 8) (n : Fin 150528) :
    concatenate S8x150528 1 [⟨S8x4096, y0⟩, ⟨S8x4096, y1⟩, ⟨S8x3072, y2⟩, ⟨S8x131072, y3⟩, ⟨S8x1024, y4⟩, ⟨S8x4096, y5⟩,
      ⟨S8x2048, y6⟩, ⟨S8x128, y7⟩, ⟨S8x896, y8⟩] h (ix2 p n)
      = Nine.at ⟨fun i => y0 (ix2 p (i 0)), fun i => y1 (ix2 p (i 0)), fun i => y2 (ix2 p (i 0)),
        fun i => y3 (ix2 p (i 0)), fun i => y4 (ix2 p (i 0)), fun i => y5 (ix2 p (i 0)), fun i => y6 (ix2 p (i 0)),
        fun i => y7 (ix2 p (i 0)), fun i => y8 (ix2 p (i 0))⟩ n.val := by
  rw [concatenate_apply]
  unfold Nine.at
  refine rows_cons (n := 4096) (N := 150528) _ _ _ _ fun c _ _ => ?_
  refine rows_cons (n := 4096) (N := 150528) _ _ _ _ fun c _ _ => ?_
  refine rows_cons (n := 3072) (N := 150528) _ _ _ _ fun c _ _ => ?_
  refine rows_cons (n := 131072) (N := 150528) _ _ _ _ fun c _ _ => ?_
  refine rows_cons (n := 1024) (N := 150528) _ _ _ _ fun c _ _ => ?_
  refine rows_cons (n := 4096) (N := 150528) _ _ _ _ fun c _ _ => ?_
  refine rows_cons (n := 2048) (N := 150528) _ _ _ _ fun c _ _ => ?_
  refine rows_cons (n := 128) (N := 150528) _ _ _ _ fun c _ _ => ?_
  exact rows_last (n := 896) (N := 150528) _ _

/-- An entry's place. -/
def place (r : Fin 1176) (d : Fin 128) : Fin 150528 := ⟨r.val * 128 + d.val, by have := r.isLt; have := d.isLt; omega⟩

/-- The packed array in rows of 128. -/
theorem packed_at (x : Nine) (h) (r : Fin 1176) (d : Fin 128) :
    shapeCast S1176x128 (concatenate S150528 0 [⟨S4096, x.a0⟩, ⟨S4096, x.a1⟩, ⟨S3072, x.a2⟩, ⟨S131072, x.a3⟩,
      ⟨S1024, x.a4⟩, ⟨S4096, x.a5⟩, ⟨S2048, x.a6⟩, ⟨S128, x.a7⟩, ⟨S896, x.a8⟩] h)
        shapeCasts_S150528_S1176x128 (ix2 r d) = x.at (place r d).val :=
  (shapeCast_apply _ shapeCasts_S150528_S1176x128 (ix2 r d) (ix1 (place r d))
    (by rw [Shape.rowMajor_val_one, Shape.rowMajor_val_two]; rfl)).trans (row_at x h (place r d))

/-! ## What the call finds -/

/-- The small weights (or moments of them), each of its own shape. -/
structure Small where
  a0 : S2x2048.Idx → EReal
  a1 : S2x2048.Idx → EReal
  a2 : S2x3x512.Idx → EReal
  a3 : S2x4x128x128.Idx → EReal
  a4 : S2x512.Idx → EReal
  a5 : S2x2048.Idx → EReal
  a6 : S2048.Idx → EReal

/-- The eight devices' gradients of them, and loss rows. -/
structure Grads where
  a0 : S8x2x2048.Idx → EReal
  a1 : S8x2x2048.Idx → EReal
  a2 : S8x2x3x512.Idx → EReal
  a3 : S8x2x4x128x128.Idx → EReal
  a4 : S8x2x512.Idx → EReal
  a5 : S8x2x2048.Idx → EReal
  a6 : S8x2048.Idx → EReal
  a7 : S8x1x128.Idx → EReal

/-- Weights (or moments) in one array; the loss's row and the empty rows have none. -/
def own (w : Small) : Nine :=
  ⟨shapeCast S4096 w.a0 shapeCasts_S2x2048_S4096, shapeCast S4096 w.a1 shapeCasts_S2x2048_S4096,
    shapeCast S3072 w.a2 shapeCasts_S2x3x512_S3072, shapeCast S131072 w.a3 shapeCasts_S2x4x128x128_S131072,
    shapeCast S1024 w.a4 shapeCasts_S2x512_S1024, shapeCast S4096 w.a5 shapeCasts_S2x2048_S4096, w.a6,
    fun _ => Ideal.ofBits .f32 0x00000000#32, fun _ => Ideal.ofBits .f32 0x00000000#32⟩

/-- A device's gradients and loss in one array. -/
def device (g : Grads) (k : Fin 8) : Nine :=
  ⟨fun i => shapeCast S8x4096 g.a0 shapeCasts_S8x2x2048_S8x4096 (ix2 k (i 0)),
    fun i => shapeCast S8x4096 g.a1 shapeCasts_S8x2x2048_S8x4096 (ix2 k (i 0)),
    fun i => shapeCast S8x3072 g.a2 shapeCasts_S8x2x3x512_S8x3072 (ix2 k (i 0)),
    fun i => shapeCast S8x131072 g.a3 shapeCasts_S8x2x4x128x128_S8x131072 (ix2 k (i 0)),
    fun i => shapeCast S8x1024 g.a4 shapeCasts_S8x2x512_S8x1024 (ix2 k (i 0)),
    fun i => shapeCast S8x4096 g.a5 shapeCasts_S8x2x2048_S8x4096 (ix2 k (i 0)), fun i => g.a6 (ix2 k (i 0)),
    fun i => shapeCast S8x128 g.a7 shapeCasts_S8x1x128_S8x128 (ix2 k (i 0)), fun _ => Ideal.ofBits .f32 0x00000000#32⟩

section
variable (m : (ℓ : Loc nD τ sig) → Buf (Elt Ideal) ℓ) (c : Dev nD) (r : Fin 1176) (d : Fin 128)

/-- What the call is given. -/
def grads : Grads :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7)⟩

def weights : Small :=
  ⟨m ((c : Thread nD τ).loc main_arg8), m ((c : Thread nD τ).loc main_arg9), m ((c : Thread nD τ).loc main_arg10),
    m ((c : Thread nD τ).loc main_arg11), m ((c : Thread nD τ).loc main_arg12), m ((c : Thread nD τ).loc main_arg13),
    m ((c : Thread nD τ).loc main_arg14)⟩

def firsts : Small :=
  ⟨m ((c : Thread nD τ).loc main_arg15), m ((c : Thread nD τ).loc main_arg16), m ((c : Thread nD τ).loc main_arg17),
    m ((c : Thread nD τ).loc main_arg18), m ((c : Thread nD τ).loc main_arg19), m ((c : Thread nD τ).loc main_arg20),
    m ((c : Thread nD τ).loc main_arg21)⟩

def seconds : Small :=
  ⟨m ((c : Thread nD τ).loc main_arg22), m ((c : Thread nD τ).loc main_arg23), m ((c : Thread nD τ).loc main_arg24),
    m ((c : Thread nD τ).loc main_arg25), m ((c : Thread nD τ).loc main_arg26), m ((c : Thread nD τ).loc main_arg27),
    m ((c : Thread nD τ).loc main_arg28)⟩

set_option maxHeartbeats 1000000 in
theorem wts_at : StepSmall.wts m c (ix2 r d) = (own (weights m c)).at (place r d).val := by
  show StableHlo.after hostOps0 (fun b => m (c, b)) _ _ = _
  unfold hostOps0
  after_results
  exact packed_at (own (weights m c)) _ r d

set_option maxHeartbeats 1000000 in
theorem mom_at : StepSmall.mom m c (ix2 r d) = (own (firsts m c)).at (place r d).val := by
  show StableHlo.after hostOps0 (fun b => m (c, b)) _ _ = _
  unfold hostOps0
  after_results
  exact packed_at (own (firsts m c)) _ r d

set_option maxHeartbeats 1000000 in
theorem sqs_at : StepSmall.sqs m c (ix2 r d) = (own (seconds m c)).at (place r d).val := by
  show StableHlo.after hostOps0 (fun b => m (c, b)) _ _ = _
  unfold hostOps0
  after_results
  exact packed_at (own (seconds m c)) _ r d

set_option maxHeartbeats 1000000 in
theorem lands_at (k : Fin 8) : StepSmall.lands m c (ix3 k r d) = (device (grads m c) k).at (place r d).val := by
  show StableHlo.after hostOps0 (fun b => m (c, b)) _ _ = _
  unfold hostOps0
  after_results
  refine (shapeCast_apply _ shapeCasts_S8x150528_S8x1176x128 (ix3 k r d) (ix2 k (place r d)) ?_).trans
    (rows_at _ _ _ _ _ _ _ _ _ _ _ _)
  rw [Shape.rowMajor_val_two, Shape.rowMajor_val_three]
  show k.val * 150528 + (r.val * 128 + d.val) = (k.val * 1176 + r.val) * 128 + d.val
  omega

end

/-! ## The reference -/

section
open Cert.Reference22Ideal.Read

/-- A sum over the devices of a weight's gradients, read from the flattened array. -/
theorem summed {s : Shape} {n : ℕ} {g : s.Idx → EReal} {hc} {i : Fin n} {j : Fin 8 → s.Idx} {z : EReal}
    (hz : z = Ideal.ofBits .f32 0x00000000#32 + ∑ k : Fin 8, g (j k)) (hj : ∀ k, (s.rowMajor (j k)).val = k.val * n + i.val) :
    z = ∑ k : Fin 8, shapeCast ⟨2, ![8, n]⟩ g hc (ix2 k i) := by
  rw [hz, Ideal.ofBits_zero_f32, zero_add]
  refine Finset.sum_congr rfl fun k _ => (shapeCast_apply g hc (ix2 k i) (j k) ?_).symm
  rw [hj, Shape.rowMajor_val_two]
  rfl

theorem sum0 (g : S8x2x2048.Idx → EReal) (i : S4096.Idx) : val_main_v227 (F := Ideal) g i
    = ∑ k : Fin 8, shapeCast S8x4096 g shapeCasts_S8x2x2048_S8x4096 (ix2 k (i 0)) :=
  summed (n := 4096) (i := i 0) (j := idx_main_v0 (idx_main_v227 i))
    (by rw [val_main_v227_apply, val_main_v0_apply, val_main_cst_apply]; rfl) fun k => by
      have hi : (i 0).val < 4096 := (i 0).isLt
      rw [Shape.rowMajor_val_three]
      show ((k.val * 2 + (i 0).val / 2048) * 2048 + (i 0).val % 2048) = k.val * 4096 + (i 0).val
      omega

theorem sum1 (g : S8x2x2048.Idx → EReal) (i : S4096.Idx) : val_main_v228 (F := Ideal) g i
    = ∑ k : Fin 8, shapeCast S8x4096 g shapeCasts_S8x2x2048_S8x4096 (ix2 k (i 0)) :=
  summed (n := 4096) (i := i 0) (j := idx_main_v1 (idx_main_v228 i))
    (by rw [val_main_v228_apply, val_main_v1_apply, val_main_cst_0_apply]; rfl) fun k => by
      have hi : (i 0).val < 4096 := (i 0).isLt
      rw [Shape.rowMajor_val_three]
      show ((k.val * 2 + (i 0).val / 2048) * 2048 + (i 0).val % 2048) = k.val * 4096 + (i 0).val
      omega

theorem sum2 (g : S8x2x3x512.Idx → EReal) (i : S3072.Idx) : val_main_v229 (F := Ideal) g i
    = ∑ k : Fin 8, shapeCast S8x3072 g shapeCasts_S8x2x3x512_S8x3072 (ix2 k (i 0)) :=
  summed (n := 3072) (i := i 0) (j := idx_main_v2 (idx_main_v229 i))
    (by rw [val_main_v229_apply, val_main_v2_apply, val_main_cst_1_apply]; rfl) fun k => by
      have hi : (i 0).val < 3072 := (i 0).isLt
      rw [Shape.rowMajor_val_four]
      show (((k.val * 2 + (i 0).val / 1536) * 3 + (i 0).val / 512 % 3) * 512 + (i 0).val % 512) = k.val * 3072 + (i 0).val
      omega

theorem sum3 (g : S8x2x4x128x128.Idx → EReal) (i : S131072.Idx) : val_main_v230 (F := Ideal) g i
    = ∑ k : Fin 8, shapeCast S8x131072 g shapeCasts_S8x2x4x128x128_S8x131072 (ix2 k (i 0)) :=
  summed (n := 131072) (i := i 0) (j := idx_main_v3 (idx_main_v230 i))
    (by rw [val_main_v230_apply, val_main_v3_apply, val_main_cst_2_apply]; rfl) fun k => by
      have hi : (i 0).val < 131072 := (i 0).isLt
      rw [Shape.rowMajor_val_five]
      show ((((k.val * 2 + (i 0).val / 65536) * 4 + (i 0).val / 16384 % 4) * 128 + (i 0).val / 128 % 128) * 128 + (i 0).val % 128) = k.val * 131072 + (i 0).val
      omega

theorem sum4 (g : S8x2x512.Idx → EReal) (i : S1024.Idx) : val_main_v231 (F := Ideal) g i
    = ∑ k : Fin 8, shapeCast S8x1024 g shapeCasts_S8x2x512_S8x1024 (ix2 k (i 0)) :=
  summed (n := 1024) (i := i 0) (j := idx_main_v4 (idx_main_v231 i))
    (by rw [val_main_v231_apply, val_main_v4_apply, val_main_cst_3_apply]; rfl) fun k => by
      have hi : (i 0).val < 1024 := (i 0).isLt
      rw [Shape.rowMajor_val_three]
      show ((k.val * 2 + (i 0).val / 512) * 512 + (i 0).val % 512) = k.val * 1024 + (i 0).val
      omega

theorem sum5 (g : S8x2x2048.Idx → EReal) (i : S4096.Idx) : val_main_v232 (F := Ideal) g i
    = ∑ k : Fin 8, shapeCast S8x4096 g shapeCasts_S8x2x2048_S8x4096 (ix2 k (i 0)) :=
  summed (n := 4096) (i := i 0) (j := idx_main_v5 (idx_main_v232 i))
    (by rw [val_main_v232_apply, val_main_v5_apply, val_main_cst_4_apply]; rfl) fun k => by
      have hi : (i 0).val < 4096 := (i 0).isLt
      rw [Shape.rowMajor_val_three]
      show ((k.val * 2 + (i 0).val / 2048) * 2048 + (i 0).val % 2048) = k.val * 4096 + (i 0).val
      omega

theorem sum6 (g : S8x2048.Idx → EReal) (i : S2048.Idx) : val_main_v6 (F := Ideal) g i = ∑ k : Fin 8, g (ix2 k (i 0)) := by
  rw [val_main_v6_apply, val_main_cst_5_apply]
  show Ideal.ofBits .f32 0x00000000#32 + _ = _
  rw [Ideal.ofBits_zero_f32, zero_add]
  exact Finset.sum_congr rfl fun k _ => congrArg g (Shape.idx_ext₂ rfl rfl)

theorem sum7 (g : S8x1x128.Idx → EReal) (i : S128.Idx) : val_main_v233 (F := Ideal) g i
    = ∑ k : Fin 8, shapeCast S8x128 g shapeCasts_S8x1x128_S8x128 (ix2 k (i 0)) :=
  summed (n := 128) (i := i 0) (j := idx_main_v7 (idx_main_v233 i))
    (by rw [val_main_v233_apply, val_main_v7_apply, val_main_cst_6_apply]; rfl) fun k => by
      have hi : (i 0).val < 128 := (i 0).isLt
      rw [Shape.rowMajor_val_three]
      show ((k.val * 1 + 0) * 128 + (i 0).val % 128) = k.val * 128 + (i 0).val
      omega

/-- The reference's gradients in one array. -/
def sums (g : Grads) : Nine :=
  ⟨val_main_v227 (F := Ideal) g.a0, val_main_v228 (F := Ideal) g.a1, val_main_v229 (F := Ideal) g.a2,
    val_main_v230 (F := Ideal) g.a3, val_main_v231 (F := Ideal) g.a4, val_main_v232 (F := Ideal) g.a5,
    val_main_v6 (F := Ideal) g.a6, val_main_v233 (F := Ideal) g.a7, val_main_v177 (F := Ideal)⟩

theorem sums_at (g : Grads) (c : ℕ) : (sums g).at c = ∑ k : Fin 8, (device g k).at c :=
  Nine.at_sum (device g) (sums g) (sum0 g.a0) (sum1 g.a1) (sum2 g.a2) (sum3 g.a3) (sum4 g.a4) (sum5 g.a5) (sum6 g.a6) (sum7 g.a7)
    (fun i => by
      show Ideal.ofBits .f32 0x00000000#32 = ∑ _k : Fin 8, Ideal.ofBits .f32 0x00000000#32
      rw [Ideal.ofBits_zero_f32, Finset.sum_const_zero]) c

section
variable (g : Grads) (w p q : Small) (r : Fin 1176) (d : Fin 128)

/-! The reference's four results. -/

def gradRef (g : Grads) : S1176x128.Idx → EReal :=
  val_main_v235 (F := Ideal) g.a0 g.a1 g.a2 g.a3 g.a4 g.a5 g.a6 g.a7

def deltaRef (g : Grads) (w p q : Small) : S1176x128.Idx → EReal :=
  val_main_v244 (F := Ideal) g.a0 g.a1 g.a2 g.a3 g.a4 g.a5 g.a6 g.a7 w.a0 w.a1 w.a2 w.a3 w.a4 w.a5 w.a6 p.a0 p.a1 p.a2
    p.a3 p.a4 p.a5 p.a6 q.a0 q.a1 q.a2 q.a3 q.a4 q.a5 q.a6

def momRef (g : Grads) (p : Small) : S1176x128.Idx → EReal :=
  val_main_v253 (F := Ideal) g.a0 g.a1 g.a2 g.a3 g.a4 g.a5 g.a6 g.a7 p.a0 p.a1 p.a2 p.a3 p.a4 p.a5 p.a6

def sqsRef (g : Grads) (q : Small) : S1176x128.Idx → EReal :=
  val_main_v262 (F := Ideal) g.a0 g.a1 g.a2 g.a3 g.a4 g.a5 g.a6 g.a7 q.a0 q.a1 q.a2 q.a3 q.a4 q.a5 q.a6

theorem gradRef_at : gradRef g (ix2 r d) = (sums g).at (place r d).val := by
  unfold gradRef val_main_v235 val_main_v234
  exact packed_at (sums g) _ r d

theorem deltaRef_at : deltaRef g w p q (ix2 r d)
    = Adam.step ((own w).at (place r d).val) ((own p).at (place r d).val) ((own q).at (place r d).val)
        ((sums g).at (place r d).val) := by
  unfold deltaRef val_main_v244 val_main_v243
  refine (packed_at ⟨val_main_v236 (F := Ideal) g.a0 w.a0 p.a0 q.a0, val_main_v237 (F := Ideal) g.a1 w.a1 p.a1 q.a1,
    val_main_v238 (F := Ideal) g.a2 w.a2 p.a2 q.a2, val_main_v239 (F := Ideal) g.a3 w.a3 p.a3 q.a3,
    val_main_v240 (F := Ideal) g.a4 w.a4 p.a4 q.a4, val_main_v241 (F := Ideal) g.a5 w.a5 p.a5 q.a5,
    val_main_v175 (F := Ideal) g.a6 w.a6 p.a6 q.a6, val_main_v242 (F := Ideal) g.a7,
    val_main_v226 (F := Ideal)⟩ _ r d).trans ?_
  exact Nine.at_map (Adam.step) (own w) (own p) (own q) (sums g) _
    (fun _ => rfl) (fun _ => rfl) (fun _ => rfl) (fun _ => rfl) (fun _ => rfl)
    (fun _ => rfl) (fun _ => rfl) (fun _ => rfl) (fun _ => rfl) _

theorem momRef_at : momRef g p (ix2 r d)
    = Adam.first ((own p).at (place r d).val) ((sums g).at (place r d).val) := by
  unfold momRef val_main_v253 val_main_v252
  refine (packed_at ⟨val_main_v245 (F := Ideal) g.a0 p.a0, val_main_v246 (F := Ideal) g.a1 p.a1,
    val_main_v247 (F := Ideal) g.a2 p.a2, val_main_v248 (F := Ideal) g.a3 p.a3, val_main_v249 (F := Ideal) g.a4 p.a4,
    val_main_v250 (F := Ideal) g.a5 p.a5, val_main_v156 (F := Ideal) g.a6 p.a6, val_main_v251 (F := Ideal) g.a7,
    val_main_v207 (F := Ideal)⟩ _ r d).trans ?_
  exact Nine.at_map (fun _ m _ g => Adam.first m g) (own p) (own p) (own p) (sums g) _
    (fun _ => rfl) (fun _ => rfl) (fun _ => rfl) (fun _ => rfl) (fun _ => rfl)
    (fun _ => rfl) (fun _ => rfl) (fun _ => rfl) (fun _ => rfl) _

theorem sqsRef_at : sqsRef g q (ix2 r d)
    = Adam.second ((own q).at (place r d).val) ((sums g).at (place r d).val) := by
  unfold sqsRef val_main_v262 val_main_v261
  refine (packed_at ⟨val_main_v254 (F := Ideal) g.a0 q.a0, val_main_v255 (F := Ideal) g.a1 q.a1,
    val_main_v256 (F := Ideal) g.a2 q.a2, val_main_v257 (F := Ideal) g.a3 q.a3, val_main_v258 (F := Ideal) g.a4 q.a4,
    val_main_v259 (F := Ideal) g.a5 q.a5, val_main_v162 (F := Ideal) g.a6 q.a6, val_main_v260 (F := Ideal) g.a7,
    val_main_v213 (F := Ideal)⟩ _ r d).trans ?_
  exact Nine.at_map (fun _ _ v g => Adam.second v g) (own q) (own q) (own q) (sums g) _
    (fun _ => rfl) (fun _ => rfl) (fun _ => rfl) (fun _ => rfl) (fun _ => rfl)
    (fun _ => rfl) (fun _ => rfl) (fun _ => rfl) (fun _ => rfl) _

end

variable (m : (ℓ : Loc nD τ sig) → Buf (Elt Ideal) ℓ) (c : Dev nD) (r : Fin 1176) (d : Fin 128)

theorem grad_eq : StepSmall.grad (StepSmall.lands m c) (ix2 r d) = (sums (grads m c)).at (place r d).val := by
  rw [sums_at]
  exact Finset.sum_congr rfl fun k _ => lands_at m c r d k

theorem result4 : gradRef (grads m c) = (dats m 0 c).arrAt 4 cfg0.N := by
  rw [StepSmall.result4]
  funext y
  obtain ⟨r, d, rfl⟩ := Adam.two y
  exact (gradRef_at _ r d).trans (grad_eq m c r d).symm

theorem result5 : deltaRef (grads m c) (weights m c) (firsts m c) (seconds m c) = (dats m 0 c).arrAt 5 cfg0.N := by
  rw [StepSmall.result5]
  funext y
  obtain ⟨r, d, rfl⟩ := Adam.two y
  rw [deltaRef_at]
  unfold StepSmall.delta
  rw [grad_eq, wts_at, mom_at, sqs_at]

theorem result6 : momRef (grads m c) (firsts m c) = (dats m 0 c).arrAt 6 cfg0.N := by
  rw [StepSmall.result6]
  funext y
  obtain ⟨r, d, rfl⟩ := Adam.two y
  rw [momRef_at]
  unfold StepSmall.mom'
  rw [grad_eq, mom_at]

theorem result7 : sqsRef (grads m c) (seconds m c) = (dats m 0 c).arrAt 7 cfg0.N := by
  rw [StepSmall.result7]
  funext y
  obtain ⟨r, d, rfl⟩ := Adam.two y
  rw [sqsRef_at]
  unfold StepSmall.sqs'
  rw [grad_eq, sqs_at]

end

end Cert.Packed

end
-- ==== Proof.ProjGrad.lean ====
module

public import proofs.«01_k».proof.Proof.Accum
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack

/-!
# The gradient of the mixer's first projection

For each pair of blocks of columns the kernel adds eight products of a thousand and twenty-four rows each, and writes the
pair's two halves apart; the reference is one product over all the rows.
-/

@[expose] public section

set_option maxRecDepth 16384

noncomputable section

namespace Cert.ProjGrad

open Cert.Kernel6Ideal Cert.Kernel6Ideal.Gen Idealize.ShloMosaic Idealize.ShloMosaic.TcCoe Idealize.ShloMosaic.Tactic

variable (m : (ℓ : Loc nD τ sig) → Buf (Elt Ideal) ℓ) (c : Dev nD)

/-- The normed stream and the gradient of the projection. -/
abbrev nrm : S8192x2048.Idx → EReal := m ((c : Thread nD τ).loc main_arg0)
abbrev grad : S8192x5120.Idx → EReal := m ((c : Thread nD τ).loc main_arg1)

/-- One row's term of the product, by the row's number; the column by its number as well. -/
def term (X : S8192x2048.Idx → EReal) (G : S8192x5120.Idx → EReal) (d : Fin 2048) (k s : ℕ) : EReal :=
  if h : s < 8192 ∧ k < 5120 then X (ix2 ⟨s, h.1⟩ d) * G (ix2 ⟨s, h.1⟩ ⟨k, h.2⟩) else 0

/-- The gradient of the projection's matrix, in its eight blocks of columns. -/
def value (X : S8192x2048.Idx → EReal) (G : S8192x5120.Idx → EReal) (y : S8x2048x640.Idx) : EReal :=
  ∑ s : Fin 8192, term X G (y 1) ((y 0).val * 640 + (y 2).val) s.val

theorem index0 (t : Fin cfg0.N) : win0_0.index t 0 = 0 ∧ win0_0.index t 1 = t.val % 8 :=
  (by decide +kernel : ∀ t : Fin grid0.N, win0_0.index t 0 = 0 ∧ win0_0.index t 1 = t.val % 8) t

theorem index1 (t : Fin cfg0.N) : win0_1.index t 0 = t.val % 8 ∧ win0_1.index t 1 = t.val / 8 :=
  (by decide +kernel : ∀ t : Fin grid0.N, win0_1.index t 0 = t.val % 8 ∧ win0_1.index t 1 = t.val / 8) t

theorem index2 (t : Fin cfg0.N) : win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0) t

/-- The transposed stream the launch finds. -/
theorem turned (d : Fin 2048) (s : Fin 8192) : V m c main_v0 (ix2 d s) = nrm m c (ix2 s d) := by
  have e : V m c main_v0 = transpose S2048x8192 [1, 0] (m ((c : Thread nD τ).loc main_arg0)) transposes_S8192x2048_S2048x8192_1_0 := by
    show StableHlo.after hostOps0 (fun b => m (c, b)) _ = _
    unfold hostOps0
    after_results
  rw [e]
  exact transpose_apply [1, 0] _ _ (ix2 d s) (ix2 s d) (fun b => match b with | 0 => rfl | 1 => rfl)

theorem block0 (t : Fin cfg0.N) (d : Fin 2048) (r : Fin 1024) (s : Fin 8192) (hs : s.val = t.val % 8 * 1024 + r.val) :
    iblk m c 0 t (ix2 d r) = nrm m c (ix2 s d) := by
  rw [← turned]
  blk_simp [iblk]
  obtain ⟨h0, h1⟩ := index0 t
  refine congrArg (V m c main_v0) (Shape.idx_ext₂ ?_ ?_)
  · blk_simp
    rw [h0]; exact Nat.zero_add _
  · blk_simp
    rw [h1, hs]

theorem block1 (t : Fin cfg0.N) (r : Fin 1024) (q : Fin 1280) (s : Fin 8192) (k : Fin 5120)
    (hs : s.val = t.val % 8 * 1024 + r.val) (hk : k.val = t.val / 8 * 1280 + q.val) :
    iblk m c 1 t (ix2 r q) = grad m c (ix2 s k) := by
  blk_simp [iblk]
  rw [V_main_arg1]
  obtain ⟨h0, h1⟩ := index1 t
  refine congrArg (m ((c : Thread nD τ).loc main_arg1)) (Shape.idx_ext₂ ?_ ?_)
  · blk_simp
    rw [h0, hs]
  · blk_simp
    rw [h1, hk]

theorem zero1 (y) : (k0_pay1 (F := Ideal)) y = 0 := by
  unfold k0_pay1
  refine (congrFun (shapeCast_self _ _) _).trans ?_
  exact Ideal.ofBits_zero_f32

/-- A block's product. -/
def prod (x : S2048x1024.Idx → EReal) (g : S1024x1280.Idx → EReal) (d : Fin 2048) (q : Fin 1280) : EReal :=
  ∑ r : Fin 1024, x (ix2 d r) * g (ix2 r q)

/-- One block's product added to what was there. -/
theorem pay2_at (v3 : Vec Ideal S2048x1280 .f32) (v4 : Vec Ideal S2048x1024 .bf16) (v6 : Vec Ideal S1024x1280 .bf16)
    (d : Fin 2048) (q : Fin 1280) : k0_pay2 v3 v4 v6 (ix2 d q) = v3 (ix2 d q) + prod v4 v6 d q := by
  unfold k0_pay2 prod
  pointwise

theorem scr_A (t : Fin cfg0.N) (h0 : t.val % 8 = 0) (y : S2048x1280.Idx) :
    (outsAt0 m c t.val t.isLt).2 y = k0_pay2 k0_pay1 (iblk m c 0 t) (iblk m c 1 t) y := by
  rw [outsAt0_A m c t h0 (by omega)]
  frame_out

theorem scr_B (t : Fin cfg0.N) (h0 : ¬ t.val % 8 = 0) (y : S2048x1280.Idx) :
    (outsAt0 m c t.val t.isLt).2 y
      = k0_pay2 (outsAt0 m c (t.val - 1) (Nat.lt_of_le_of_lt (Nat.sub_le _ _) t.isLt)).2 (iblk m c 0 t) (iblk m c 1 t) y := by
  by_cases h1 : t.val % 8 = 7
  · rw [outsAt0_C m c t h0 h1]
    frame_out
    exact congrArg (fun v => k0_pay2 v (iblk m c 0 t) (iblk m c 1 t) y) (Memref.IsWhole.read_unread (m := scM0_0) (Memref.isWhole_whole _) _)
  · rw [outsAt0_B m c t h0 h1]
    frame_out
    exact congrArg (fun v => k0_pay2 v (iblk m c 0 t) (iblk m c 1 t) y) (Memref.IsWhole.read_unread (m := scM0_0) (Memref.isWhole_whole _) _)

theorem pay3_at (v : Vec Ideal S2048x640 .f32) (d : Fin 2048) (q : Fin 640) : k0_pay3 v (ix3 0 d q) = v (ix2 d q) := by
  unfold k0_pay3
  pointwise

theorem pay4_at (v : Vec Ideal S2048x640 .f32) (d : Fin 2048) (q : Fin 640) : k0_pay4 v (ix3 0 d q) = v (ix2 d q) := pay3_at v d q

/-- Columns of the accumulator, stored as one block of the output. -/
theorem cols_at (P : Vec Ideal S2048x1280 .f32) (o b : ℕ) (g : S1x2048x640.Idx → EReal) {i1}
    (hg : ∀ (d : Fin 2048) (q : Fin 640), g (ix3 0 d q) = View.ld P (Rect.unit ![0, o] ![2048, 640] i1) (ix2 d q)) (ho : o = b * 640)
    (e : Fin 2) (d : Fin 2048) (q : Fin 640) (k : Fin 1280) (hk : k.val = e.val * 640 + q.val) :
    View.TileAt (Val := Elt Ideal) (S := S2x2048x640) (e := .bf16) (ix3 e d q) ![b, 0, 0] ![1, 2048, 640] g (P (ix2 d k)) := by
  intro z hz
  obtain ⟨d', q', rfl⟩ : ∃ (d' : Fin 2048) (q' : Fin 640), z = ix3 0 d' q' := ⟨z 1, z 2, Accum.ext3 (Nat.lt_one_iff.mp (z 0).isLt) rfl rfl⟩
  have e0 : e.val = b + 0 := hz 0
  have e1 : d.val = 0 + d'.val := hz 1
  have e2 : q.val = 0 + q'.val := hz 2
  refine (hg d' q').trans (View.ld_unit_apply_of _ _ _ _ _ (ix2 d k) (fun a => match a with | 0 => e1 | 1 => ?_))
  show k.val = o + q'.val
  omega

theorem out_C (t : Fin cfg0.N) (h1 : t.val % 8 = 7) (e : Fin 2) (d : Fin 2048) (q : Fin 640) (k : Fin 1280) (hk : k.val = e.val * 640 + q.val) :
    (outsAt0 m c t.val t.isLt).1 (ix3 e d q) = (outsAt0 m c t.val t.isLt).2 (ix2 d k) := by
  rw [outsAt0_C m c t (by omega) h1]
  frame_out
  refine View.canon_eq_of_allAt _ _ _ (View.cover_of_tiled _ ![1, 2048, 640] rfl _) ?_
  refine View.allAt_cons_unit _ _ _ _ _ (cols_at (i1 := inb_S2048x1280_S2048x640_0_640) _ 640 1 _ (fun d q => ?_) rfl e d q k hk) ?_
  · rw [pay4_at]
    exact congrFun (View.readCov_fill _ _ _ _ _ (by decide)) _
  refine View.allAt_cons_unit _ _ _ _ _ (cols_at (i1 := inb_S2048x1280_S2048x640_0_0) _ 0 0 _ (fun d q => ?_) rfl e d q k hk) (View.allAt_nil _ _)
  rw [pay3_at]
  exact congrFun (View.readCov_fill _ _ _ _ _ (by decide)) _

/-- What a point adds. -/
def part (n : ℕ) (y : S2048x1280.Idx) : EReal :=
  ∑ r : Fin 1024, term (nrm m c) (grad m c) (y 0) (n / 8 * 1280 + (y 1).val) (n % 8 * 1024 + r.val)

theorem prod_at (t : Fin cfg0.N) (y : S2048x1280.Idx) : prod (iblk m c 0 t) (iblk m c 1 t) (y 0) (y 1) = part m c t.val y := by
  have hN := lt_of_lt_of_eq t.isLt (show cfg0.N = 32 from N_0)
  have hy : (y 1).val < 1280 := (y 1).isLt
  have hk : t.val / 8 * 1280 + (y 1).val < 5120 := by omega
  unfold part prod
  refine Finset.sum_congr rfl fun r _ => ?_
  have hs : t.val % 8 * 1024 + r.val < 8192 := by have := r.isLt; omega
  unfold term
  rw [dif_pos ⟨hs, hk⟩, block0 m c t (y 0) r ⟨_, hs⟩ rfl, block1 m c t r (y 1) ⟨_, hs⟩ ⟨_, hk⟩ rfl rfl]

theorem scr_at (t : ℕ) (ht : t < cfg0.N) (y : S2048x1280.Idx) :
    (outsAt0 m c t ht).2 y = ∑ s ∈ Finset.range (t % 8 + 1), part m c (8 * (t / 8) + s) y := by
  refine Accum.run_sum (J := 8) (by decide) (fun n h => (outsAt0 m c n h).2) (part m c) ?_ ?_ t ht y
  · intro n h y hn
    refine (scr_A m c ⟨n, h⟩ hn y).trans ?_
    obtain ⟨d, q, rfl⟩ : ∃ (d : Fin 2048) (q : Fin 1280), y = ix2 d q := ⟨y 0, y 1, funext fun a => match a with | 0 => rfl | 1 => rfl⟩
    rw [pay2_at, zero1, zero_add]
    exact prod_at m c ⟨n, h⟩ (ix2 d q)
  · intro n h y hn
    refine (scr_B m c ⟨n + 1, h⟩ hn y).trans ?_
    obtain ⟨d, q, rfl⟩ : ∃ (d : Fin 2048) (q : Fin 1280), y = ix2 d q := ⟨y 0, y 1, funext fun a => match a with | 0 => rfl | 1 => rfl⟩
    rw [pay2_at]
    exact congrArg _ (prod_at m c ⟨n + 1, h⟩ (ix2 d q))

/-- What a last point of eight writes. -/
theorem out_at (t : Fin cfg0.N) (h1 : t.val % 8 = 7) (e : Fin 2) (j : Fin 8) (hj : j.val = t.val / 8 * 2 + e.val) (d : Fin 2048) (q : Fin 640) :
    (outsAt0 m c t.val t.isLt).1 (ix3 e d q) = value (nrm m c) (grad m c) (ix3 j d q) := by
  have hk : e.val * 640 + q.val < 1280 := by omega
  rw [out_C m c t h1 e d q ⟨_, hk⟩ rfl, scr_at, h1]
  refine (Finset.sum_congr rfl fun s hs => ?_).trans (Accum.sum_blocks 8 1024 (term (nrm m c) (grad m c) d (j.val * 640 + q.val)))
  have hs8 : s < 8 := Finset.mem_range.mp hs
  have e1 : (8 * (t.val / 8) + s) / 8 * 1280 + (e.val * 640 + q.val) = j.val * 640 + q.val := by omega
  have e2 : (8 * (t.val / 8) + s) % 8 = s := by omega
  show (∑ r : Fin 1024, term (nrm m c) (grad m c) d ((8 * (t.val / 8) + s) / 8 * 1280 + (e.val * 640 + q.val)) ((8 * (t.val / 8) + s) % 8 * 1024 + r.val)) = _
  rw [e1, e2]

/-- The kernel's result. -/
theorem result : (dats m 0 c).arrAt 2 cfg0.N = value (nrm m c) (grad m c) := by
  refine (dats m 0 c).arrAt_eq_of_covers 2 _ (by decide +kernel) fun t hf y => ?_
  have hm : t.val % 8 = 7 := (flush0_2 t).mp hf
  have hN := lt_of_lt_of_eq t.isLt (show cfg0.N = 32 from N_0)
  blk_simp
  rw [after0_2]
  obtain ⟨h0, h1, h2⟩ := index2 t
  obtain ⟨e, d, q, rfl⟩ : ∃ (e : Fin 2) (d : Fin 2048) (q : Fin 640), y = ix3 e d q := ⟨y 0, y 1, y 2, funext fun a => match a with | 0 => rfl | 1 => rfl | 2 => rfl⟩
  have he := e.isLt
  refine (out_at m c t hm e ⟨t.val / 8 * 2 + e.val, by omega⟩ rfl d q).trans (congrArg _ (Accum.ext3 ?_ ?_ ?_))
  · blk_simp
    rw [h0]
  · blk_simp
    rw [h1]; exact (Nat.zero_add _).symm
  · blk_simp
    rw [h2]; exact (Nat.zero_add _).symm

/-! ## The reference -/

open Cert.Reference6Ideal.Read in
theorem ref_at (X : S8192x2048.Idx → EReal) (G : S8192x5120.Idx → EReal) (y : S8x2048x640.Idx) :
    val_main_v8 (F := Ideal) X G y = value X G y := by
  rw [val_main_v8_apply, val_main_v7_apply, val_main_v6_apply, val_main_v5_apply, val_main_v4_apply]
  unfold value
  have h0 : (y 0).val < 8 := (y 0).isLt
  have h1 : (y 1).val < 2048 := (y 1).isLt
  have h2 : (y 2).val < 640 := (y 2).isLt
  refine Finset.sum_congr rfl fun s _ => ?_
  rw [val_main_v0_apply, val_main_v1_apply, mul_comm]
  unfold term
  rw [dif_pos ⟨s.isLt, by omega⟩]
  show X _ * G _ = _
  refine congrArg₂ (· * ·) (congrArg X (Shape.idx_ext₂ ?_ ?_)) (congrArg G (Shape.idx_ext₂ ?_ ?_))
  all_goals dsimp
  all_goals omega

end Cert.ProjGrad

end
-- ==== Proof.ProjBack.lean ====
module

public import proofs.«01_k».proof.Proof.Accum
public import proofs.«01_k».proof.Proof.Gen.Kernel7Ideal.Value
public import proofs.«01_k».proof.Proof.Gen.Reference7Ideal.Read
public import Idealize.ShloMosaic.Lib.Pipeline.ValueKit

/-!
# The gradient of the mixer's input

For each block of rows the kernel adds the products of the eight blocks of columns; the reference is one product over all
the columns.
-/

@[expose] public section

set_option maxRecDepth 16384

noncomputable section

namespace Cert.ProjBack

open Cert.Kernel7Ideal Cert.Kernel7Ideal.Gen Idealize.ShloMosaic Idealize.ShloMosaic.TcCoe Idealize.ShloMosaic.Tactic

variable (m : (ℓ : Loc nD τ sig) → Buf (Elt Ideal) ℓ) (c : Dev nD)

/-- The gradient of the projection and the projection's matrix. -/
abbrev grad : S8192x5120.Idx → EReal := m ((c : Thread nD τ).loc main_arg0)
abbrev wts : S8x2048x640.Idx → EReal := m ((c : Thread nD τ).loc main_arg1)

/-- One column's term of the product, by the column's number. -/
def term (D : S8192x5120.Idx → EReal) (W : S8x2048x640.Idx → EReal) (s : Fin 8192) (d : Fin 2048) (k : ℕ) : EReal :=
  if h : k < 5120 then D (ix2 s ⟨k, h⟩) * W (ix3 ⟨k / 640, by omega⟩ d ⟨k % 640, by omega⟩) else 0

/-- The gradient of the input. -/
def value (D : S8192x5120.Idx → EReal) (W : S8x2048x640.Idx → EReal) (y : S8192x2048.Idx) : EReal :=
  ∑ k : Fin 5120, term D W (y 0) (y 1) k.val

theorem index0 (t : Fin cfg0.N) : win0_0.index t 0 = t.val ∧ win0_0.index t 1 = 0 :=
  (by decide +kernel : ∀ t : Fin grid0.N, win0_0.index t 0 = t.val ∧ win0_0.index t 1 = 0) t

theorem index1 (t : Fin cfg0.N) : win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0) t

theorem index2 (t : Fin cfg0.N) : win0_2.index t 0 = t.val ∧ win0_2.index t 1 = 0 :=
  (by decide +kernel : ∀ t : Fin grid0.N, win0_2.index t 0 = t.val ∧ win0_2.index t 1 = 0) t

theorem block0 (t : Fin cfg0.N) (r : Fin 256) (k : Fin 5120) (s : Fin 8192) (hs : s.val = t.val * 256 + r.val) :
    iblk m c 0 t (ix2 r k) = grad m c (ix2 s k) := by
  blk_simp [iblk]
  rw [V_main_arg0]
  obtain ⟨h0, h1⟩ := index0 t
  refine congrArg (m ((c : Thread nD τ).loc main_arg0)) (Shape.idx_ext₂ ?_ ?_)
  · blk_simp
    rw [h0, hs]
  · blk_simp
    rw [h1]; exact Nat.zero_add _

theorem block1 (t : Fin cfg0.N) (j : Fin 8) (d : Fin 2048) (q : Fin 640) : iblk m c 1 t (ix3 j d q) = wts m c (ix3 j d q) := by
  blk_simp [iblk]
  rw [V_main_arg1]
  obtain ⟨h0, h1, h2⟩ := index1 t
  refine congrArg (m ((c : Thread nD τ).loc main_arg1)) (Accum.ext3 ?_ ?_ ?_)
  · blk_simp
    rw [h0]; exact Nat.zero_add _
  · blk_simp
    rw [h1]; exact Nat.zero_add _
  · blk_simp
    rw [h2]; exact Nat.zero_add _

/-- A block of columns' product. -/
def prod (x : S256x640.Idx → EReal) (w : S1x2048x640.Idx → EReal) (r : Fin 256) (d : Fin 2048) : EReal :=
  ∑ q : Fin 640, x (ix2 r q) * w (ix3 0 d q)

/-- The first five products. -/
theorem pay2_at (x0 x1 x2 x3 x4 : Vec Ideal S256x640 .bf16) (w0 w1 w2 w3 w4 : Vec Ideal S1x2048x640 .bf16) (r : Fin 256) (d : Fin 2048) :
    k0_pay2 x0 w0 x1 w1 x2 w2 x3 w3 x4 w4 (ix2 r d)
      = prod x0 w0 r d + prod x1 w1 r d + prod x2 w2 r d + prod x3 w3 r d + prod x4 w4 r d := by
  unfold k0_pay2 prod
  pointwise

/-- The last three. -/
theorem pay1_at (v : Vec Ideal S256x2048 .f32) (x0 x1 x2 : Vec Ideal S256x640 .bf16) (w0 w1 w2 : Vec Ideal S1x2048x640 .bf16) (r : Fin 256)
    (d : Fin 2048) : k0_pay1 v x0 w0 x1 w1 x2 w2 (ix2 r d) = v (ix2 r d) + prod x0 w0 r d + prod x1 w1 r d + prod x2 w2 r d := by
  unfold k0_pay1 prod
  pointwise

/-- A block of columns of the product. -/
def blk (D : S8192x5120.Idx → EReal) (W : S8x2048x640.Idx → EReal) (s : Fin 8192) (d : Fin 2048) (j : ℕ) : EReal :=
  ∑ q : Fin 640, term D W s d (j * 640 + q.val)

/-- A block of columns of the product, from the windows. -/
theorem prod_of {D : S8192x5120.Idx → EReal} {W : S8x2048x640.Idx → EReal} (x : Vec Ideal S256x5120 .bf16) (w : Vec Ideal S8x2048x640 .bf16)
    (j o : ℕ) (hj : j < 8) (ho : o = j * 640) (r : Fin 256) (d : Fin 2048) {i1 i2} (s : Fin 8192)
    (hx : ∀ k : Fin 5120, x (ix2 r k) = D (ix2 s k)) (hw : ∀ (i : Fin 8) (q : Fin 640), w (ix3 i d q) = W (ix3 i d q)) :
    prod (View.ld x (Rect.unit ![0, o] ![256, 640] i1)) (View.ld w (Rect.unit ![j, 0, 0] ![1, 2048, 640] i2)) r d = blk D W s d j := by
  unfold prod blk
  refine Finset.sum_congr rfl fun q _ => ?_
  have hq := q.isLt
  have hk : j * 640 + q.val < 5120 := by omega
  unfold term
  rw [dif_pos hk, ← hx, ← hw]
  refine congrArg₂ (· * ·) ?_ ?_
  · refine View.ld_unit_apply_of _ _ _ _ _ (ix2 r ⟨_, hk⟩) (fun a => match a with | 0 => (Nat.zero_add _).symm | 1 => ?_)
    show j * 640 + q.val = o + q.val
    rw [ho]
  · refine View.ld_unit_apply_of _ _ _ _ _ _ (fun a => match a with | 0 => ?_ | 1 => (Nat.zero_add _).symm | 2 => ?_)
    · show (j * 640 + q.val) / 640 = j + 0; omega
    · show (j * 640 + q.val) % 640 = 0 + q.val; omega

/-- The columns block by block. -/
theorem sum_col (D : S8192x5120.Idx → EReal) (W : S8x2048x640.Idx → EReal) (s : Fin 8192) (d : Fin 2048) :
    ∑ k : Fin 5120, term D W s d k.val = ∑ j ∈ Finset.range 8, blk D W s d j :=
  (Accum.sum_blocks 8 640 (term D W s d)).symm

/-- A point's output, from its windows. -/
theorem whole {D : S8192x5120.Idx → EReal} {W : S8x2048x640.Idx → EReal} (x : Vec Ideal S256x5120 .bf16) (w : Vec Ideal S8x2048x640 .bf16)
    (r : Fin 256) (d : Fin 2048) (s : Fin 8192) (hx : ∀ k : Fin 5120, x (ix2 r k) = D (ix2 s k))
    (hw : ∀ (i : Fin 8) (q : Fin 640), w (ix3 i d q) = W (ix3 i d q)) : out0_2 x w (ix2 r d) = value D W (ix2 s d) := by
  unfold out0_2
  rw [View.canon_cons_unit_lit _ _ _ (by decide), pay1_at, pay2_at]
  unfold value
  refine Eq.trans ?_ (sum_col D W s d).symm
  simp only [Finset.sum_range_succ, Finset.sum_range_zero, zero_add]
  rw [prod_of x w 0 0 (by decide) rfl r d s hx hw, prod_of x w 1 640 (by decide) rfl r d s hx hw, prod_of x w 2 1280 (by decide) rfl r d s hx hw,
    prod_of x w 3 1920 (by decide) rfl r d s hx hw, prod_of x w 4 2560 (by decide) rfl r d s hx hw, prod_of x w 5 3200 (by decide) rfl r d s hx hw,
    prod_of x w 6 3840 (by decide) rfl r d s hx hw, prod_of x w 7 4480 (by decide) rfl r d s hx hw]

/-- What a point writes. -/
theorem out_at (t : Fin cfg0.N) (r : Fin 256) (d : Fin 2048) (s : Fin 8192) (hs : s.val = t.val * 256 + r.val) :
    out0_2 (iblk m c 0 t) (iblk m c 1 t) (ix2 r d) = value (grad m c) (wts m c) (ix2 s d) :=
  whole (iblk m c 0 t) (iblk m c 1 t) r d s (fun k => block0 m c t r k s hs) (fun i q => block1 m c t i d q)

/-- The kernel's result. -/
theorem result : (dats m 0 c).arrAt 2 cfg0.N = value (grad m c) (wts m c) := by
  refine (dats m 0 c).arrAt_eq_of_covers 2 _ (by decide +kernel) fun t hf y => ?_
  have hN := lt_of_lt_of_eq t.isLt (show cfg0.N = 32 from N_0)
  blk_simp
  rw [after0_2]
  obtain ⟨h0, h1⟩ := index2 t
  obtain ⟨r, d, rfl⟩ : ∃ (r : Fin 256) (d : Fin 2048), y = ix2 r d := ⟨y 0, y 1, funext fun a => match a with | 0 => rfl | 1 => rfl⟩
  have hr := r.isLt
  refine (out_at m c t r d ⟨t.val * 256 + r.val, by omega⟩ rfl).trans (congrArg _ (Shape.idx_ext₂ ?_ ?_))
  · blk_simp
    rw [h0]
  · blk_simp
    rw [h1]; exact (Nat.zero_add _).symm

/-! ## The reference -/

open Cert.Reference7Ideal.Read in
theorem ref_at (D : S8192x5120.Idx → EReal) (W : S8x2048x640.Idx → EReal) (y : S8192x2048.Idx) :
    val_main_v7 (F := Ideal) D W y = value D W y := by
  rw [val_main_v7_apply, val_main_v6_apply]
  unfold value
  refine Finset.sum_congr rfl fun k _ => ?_
  rw [val_main_v0_apply, val_main_v3_apply, val_main_v2_apply, val_main_v1_apply]
  have h1 : (y 1).val < 2048 := (y 1).isLt
  have hk := k.isLt
  unfold term
  rw [dif_pos hk]
  show D _ * W _ = _
  refine congrArg₂ (· * ·) (congrArg D (Shape.idx_ext₂ ?_ ?_)) (congrArg W (Accum.ext3 ?_ ?_ ?_))
  · rfl
  · rfl
  · show ((y 1).val * 5120 + k.val) / 640 % 8 = k.val / 640; omega
  · show ((y 1).val * 5120 + k.val) / 5120 = (y 1).val; omega
  · show ((y 1).val * 5120 + k.val) % 640 = k.val % 640; omega

end Cert.ProjBack

end
-- ==== Proof.OutBack.lean ====
module

public import proofs.«01_k».proof.Proof.Accum
public import proofs.«01_k».proof.Proof.Gen.Kernel8Ideal.Value
public import proofs.«01_k».proof.Proof.Gen.Reference8Ideal.Read
public import Idealize.ShloMosaic.Lib.Pipeline.ValueKit

/-!
# The gradient of the mixed heads

For each block of rows the kernel takes two products, with the upper and with the lower half of the last matrix; the
reference is one product, whose columns are then taken apart.
-/

@[expose] public section

set_option maxRecDepth 16384

noncomputable section

namespace Cert.OutBack

open Cert.Kernel8Ideal Cert.Kernel8Ideal.Gen Idealize.ShloMosaic Idealize.ShloMosaic.TcCoe Idealize.ShloMosaic.Tactic

variable (m : (ℓ : Loc nD τ sig) → Buf (Elt Ideal) ℓ) (c : Dev nD)

/-- The cotangent and the mixer's last matrix. -/
abbrev grad : S8192x2048.Idx → EReal := m ((c : Thread nD τ).loc main_arg0)
abbrev wts : S2048x2048.Idx → EReal := m ((c : Thread nD τ).loc main_arg1)

/-- The gradient of a channel. -/
def value (G : S8192x2048.Idx → EReal) (W : S2048x2048.Idx → EReal) (s : Fin 8192) (j : Fin 2048) : EReal :=
  ∑ k : Fin 2048, G (ix2 s k) * W (ix2 j k)

/-- The gradients of the attention's channels and of the others. -/
def upper (G : S8192x2048.Idx → EReal) (W : S2048x2048.Idx → EReal) (y : S8192x1024.Idx) : EReal :=
  value G W (y 0) ⟨(y 1).val, Nat.lt_trans (y 1).isLt (by decide)⟩

def lower (G : S8192x2048.Idx → EReal) (W : S2048x2048.Idx → EReal) (y : S8192x1024.Idx) : EReal :=
  value G W (y 0) ⟨1024 + (y 1).val, Nat.add_lt_add_left (y 1).isLt 1024⟩

theorem index0 (t : Fin cfg0.N) : win0_0.index t 0 = t.val ∧ win0_0.index t 1 = 0 :=
  (by decide +kernel : ∀ t : Fin grid0.N, win0_0.index t 0 = t.val ∧ win0_0.index t 1 = 0) t

theorem index1 (t : Fin cfg0.N) : win0_1.index t 0 = 0 ∧ win0_1.index t 1 = 0 :=
  (by decide +kernel : ∀ t : Fin grid0.N, win0_1.index t 0 = 0 ∧ win0_1.index t 1 = 0) t

theorem index2 (t : Fin cfg0.N) : win0_2.index t 0 = t.val ∧ win0_2.index t 1 = 0 :=
  (by decide +kernel : ∀ t : Fin grid0.N, win0_2.index t 0 = t.val ∧ win0_2.index t 1 = 0) t

theorem index3 (t : Fin cfg0.N) : win0_3.index t 0 = t.val ∧ win0_3.index t 1 = 0 :=
  (by decide +kernel : ∀ t : Fin grid0.N, win0_3.index t 0 = t.val ∧ win0_3.index t 1 = 0) t

theorem block0 (t : Fin cfg0.N) (r : Fin 512) (k : Fin 2048) (s : Fin 8192) (hs : s.val = t.val * 512 + r.val) :
    iblk m c 0 t (ix2 r k) = grad m c (ix2 s k) := by
  blk_simp [iblk]
  rw [V_main_arg0]
  obtain ⟨h0, h1⟩ := index0 t
  refine congrArg (m ((c : Thread nD τ).loc main_arg0)) (Shape.idx_ext₂ ?_ ?_)
  · blk_simp
    rw [h0, hs]
  · blk_simp
    rw [h1]; exact Nat.zero_add _

theorem block1 (t : Fin cfg0.N) (j k : Fin 2048) : iblk m c 1 t (ix2 j k) = wts m c (ix2 j k) := by
  blk_simp [iblk]
  rw [V_main_arg1]
  obtain ⟨h0, h1⟩ := index1 t
  refine congrArg (m ((c : Thread nD τ).loc main_arg1)) (Shape.idx_ext₂ ?_ ?_)
  · blk_simp
    rw [h0]; exact Nat.zero_add _
  · blk_simp
    rw [h1]; exact Nat.zero_add _

theorem pay1_at (x : Vec Ideal S512x2048 .bf16) (w : Vec Ideal S1024x2048 .bf16) (r : Fin 512) (q : Fin 1024) :
    k0_pay1 x w (ix2 r q) = ∑ k : Fin 2048, x (ix2 r k) * w (ix2 q k) := by
  unfold k0_pay1
  pointwise

theorem pay2_at (x : Vec Ideal S512x2048 .bf16) (w : Vec Ideal S1024x2048 .bf16) (r : Fin 512) (q : Fin 1024) :
    k0_pay2 x w (ix2 r q) = ∑ k : Fin 2048, x (ix2 r k) * w (ix2 q k) := pay1_at x w r q

/-- A point's outputs, from its windows. -/
theorem whole2 (x : Vec Ideal S512x2048 .bf16) (w : Vec Ideal S2048x2048 .bf16) (r : Fin 512) (q : Fin 1024) (j : Fin 2048) (hj : j.val = q.val) :
    out0_2 x w (ix2 r q) = ∑ k : Fin 2048, x (ix2 r k) * w (ix2 j k) := by
  unfold out0_2
  rw [View.canon_cons_unit_lit _ _ _ (by decide), pay1_at, show View.ld x r0_0 = x from View.ld_unit_lit _ _ (by decide)]
  refine Finset.sum_congr rfl fun k _ => congrArg (x (ix2 r k) * ·) ?_
  exact View.ld_unit_apply_of _ _ _ _ _ (ix2 j k) (fun a => match a with | 0 => hj.trans (Nat.zero_add _).symm | 1 => (Nat.zero_add _).symm)

theorem whole3 (x : Vec Ideal S512x2048 .bf16) (w : Vec Ideal S2048x2048 .bf16) (r : Fin 512) (q : Fin 1024) (j : Fin 2048) (hj : j.val = 1024 + q.val) :
    out0_3 x w (ix2 r q) = ∑ k : Fin 2048, x (ix2 r k) * w (ix2 j k) := by
  unfold out0_3
  rw [View.canon_cons_unit_lit _ _ _ (by decide), pay2_at, show View.ld x r0_0 = x from View.ld_unit_lit _ _ (by decide)]
  refine Finset.sum_congr rfl fun k _ => congrArg (x (ix2 r k) * ·) ?_
  exact View.ld_unit_apply_of _ _ _ _ _ (ix2 j k) (fun a => match a with | 0 => hj | 1 => (Nat.zero_add _).symm)

theorem out2_at (t : Fin cfg0.N) (r : Fin 512) (q : Fin 1024) (s : Fin 8192) (hs : s.val = t.val * 512 + r.val) :
    out0_2 (iblk m c 0 t) (iblk m c 1 t) (ix2 r q) = upper (grad m c) (wts m c) (ix2 s q) :=
  (whole2 _ _ r q ⟨q.val, Nat.lt_trans q.isLt (by decide)⟩ rfl).trans
    (Finset.sum_congr rfl fun k _ => congrArg₂ (fun a b : EReal => a * b) (block0 m c t r k s hs) (block1 m c t _ k))

theorem out3_at (t : Fin cfg0.N) (r : Fin 512) (q : Fin 1024) (s : Fin 8192) (hs : s.val = t.val * 512 + r.val) :
    out0_3 (iblk m c 0 t) (iblk m c 1 t) (ix2 r q) = lower (grad m c) (wts m c) (ix2 s q) :=
  (whole3 _ _ r q ⟨1024 + q.val, Nat.add_lt_add_left q.isLt 1024⟩ rfl).trans
    (Finset.sum_congr rfl fun k _ => congrArg₂ (fun a b : EReal => a * b) (block0 m c t r k s hs) (block1 m c t _ k))

/-- The kernel's results. -/
theorem result2 : (dats m 0 c).arrAt 2 cfg0.N = upper (grad m c) (wts m c) := by
  refine (dats m 0 c).arrAt_eq_of_covers 2 _ (by decide +kernel) fun t hf y => ?_
  have hN := lt_of_lt_of_eq t.isLt (show cfg0.N = 16 from N_0)
  blk_simp
  rw [after0_2]
  obtain ⟨h0, h1⟩ := index2 t
  obtain ⟨r, q, rfl⟩ : ∃ (r : Fin 512) (q : Fin 1024), y = ix2 r q := ⟨y 0, y 1, funext fun a => match a with | 0 => rfl | 1 => rfl⟩
  have hr := r.isLt
  refine (out2_at m c t r q ⟨t.val * 512 + r.val, by omega⟩ rfl).trans (congrArg _ (Shape.idx_ext₂ ?_ ?_))
  · blk_simp
    rw [h0]
  · blk_simp
    rw [h1]; exact (Nat.zero_add _).symm

theorem result3 : (dats m 0 c).arrAt 3 cfg0.N = lower (grad m c) (wts m c) := by
  refine (dats m 0 c).arrAt_eq_of_covers 3 _ (by decide +kernel) fun t hf y => ?_
  have hN := lt_of_lt_of_eq t.isLt (show cfg0.N = 16 from N_0)
  blk_simp
  rw [after0_3]
  obtain ⟨h0, h1⟩ := index3 t
  obtain ⟨r, q, rfl⟩ : ∃ (r : Fin 512) (q : Fin 1024), y = ix2 r q := ⟨y 0, y 1, funext fun a => match a with | 0 => rfl | 1 => rfl⟩
  have hr := r.isLt
  refine (out3_at m c t r q ⟨t.val * 512 + r.val, by omega⟩ rfl).trans (congrArg _ (Shape.idx_ext₂ ?_ ?_))
  · blk_simp
    rw [h0]
  · blk_simp
    rw [h1]; exact (Nat.zero_add _).symm

/-! ## The reference -/

open Cert.Reference8Ideal.Read in
theorem both_at (G : S8192x2048.Idx → EReal) (W : S2048x2048.Idx → EReal) (s : Fin 8192) (j : Fin 2048) :
    val_main_v5 (F := Ideal) G W (ix2 s j) = value G W s j := by
  rw [val_main_v5_apply]
  unfold value
  refine Finset.sum_congr rfl fun k _ => ?_
  rw [val_main_v0_apply, val_main_v1_apply]
  exact congrArg₂ (· * ·) (congrArg G (Shape.idx_ext₂ rfl rfl)) (congrArg W (Shape.idx_ext₂ rfl rfl))

open Cert.Reference8Ideal.Read in
theorem upper_at (G : S8192x2048.Idx → EReal) (W : S2048x2048.Idx → EReal) (y : S8192x1024.Idx) :
    val_main_v8 (F := Ideal) G W y = upper G W y := by
  rw [val_main_v8_apply, val_main_v6_apply]
  refine Eq.trans ?_ (both_at G W _ _)
  exact congrArg (val_main_v5 (F := Ideal) G W) (Shape.idx_ext₂ (by dsimp) (by dsimp))

open Cert.Reference8Ideal.Read in
theorem lower_at (G : S8192x2048.Idx → EReal) (W : S2048x2048.Idx → EReal) (y : S8192x1024.Idx) :
    val_main_v9 (F := Ideal) G W y = lower G W y := by
  rw [val_main_v9_apply, val_main_v7_apply]
  refine Eq.trans ?_ (both_at G W _ _)
  exact congrArg (val_main_v5 (F := Ideal) G W) (Shape.idx_ext₂ (by dsimp) (by dsimp))

end Cert.OutBack

end
-- ==== Proof.OutGrad.lean ====
module

public import proofs.«01_k».proof.Proof.Accum
public import proofs.«01_k».proof.Proof.Gen.Kernel9Ideal.Value
public import proofs.«01_k».proof.Proof.Gen.Reference9Ideal.Read
public import Idealize.ShloMosaic.Lib.Pipeline.ValueKit

/-!
# The gradient of the mixer's last matrix

For one half of the matrix the kernel adds eight products of a thousand and twenty-four rows each; the reference is one
product over all the rows.
-/

@[expose] public section

set_option maxRecDepth 16384

noncomputable section

namespace Cert.OutGrad

open Cert.Kernel9Ideal Cert.Kernel9Ideal.Gen Idealize.ShloMosaic Idealize.ShloMosaic.TcCoe Idealize.ShloMosaic.Tactic

variable (m : (ℓ : Loc nD τ sig) → Buf (Elt Ideal) ℓ) (c : Dev nD)

/-- The mixed channels and the cotangent. -/
abbrev mix : S8192x1024.Idx → EReal := m ((c : Thread nD τ).loc main_arg0)
abbrev grad : S8192x2048.Idx → EReal := m ((c : Thread nD τ).loc main_arg1)

/-- One row's term of the product, by the row's number. -/
def term (X : S8192x1024.Idx → EReal) (G : S8192x2048.Idx → EReal) (q : Fin 1024) (d : Fin 2048) (s : ℕ) : EReal :=
  if h : s < 8192 then X (ix2 ⟨s, h⟩ q) * G (ix2 ⟨s, h⟩ d) else 0

/-- The gradient of the half. -/
def value (X : S8192x1024.Idx → EReal) (G : S8192x2048.Idx → EReal) (y : S1x1024x2048.Idx) : EReal :=
  ∑ s : Fin 8192, term X G (y 1) (y 2) s.val

theorem index0 (t : Fin cfg0.N) : win0_0.index t 0 = t.val ∧ win0_0.index t 1 = 0 :=
  (by decide +kernel : ∀ t : Fin grid0.N, win0_0.index t 0 = t.val ∧ win0_0.index t 1 = 0) t

theorem index1 (t : Fin cfg0.N) : win0_1.index t 0 = t.val ∧ win0_1.index t 1 = 0 :=
  (by decide +kernel : ∀ t : Fin grid0.N, win0_1.index t 0 = t.val ∧ win0_1.index t 1 = 0) t

theorem index2 (t : Fin cfg0.N) : win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0) t

theorem block0 (t : Fin cfg0.N) (r q : Fin 1024) (s : Fin 8192) (hs : s.val = t.val * 1024 + r.val) :
    iblk m c 0 t (ix2 r q) = mix m c (ix2 s q) := by
  blk_simp [iblk]
  rw [V_main_arg0]
  obtain ⟨h0, h1⟩ := index0 t
  refine congrArg (m ((c : Thread nD τ).loc main_arg0)) (Shape.idx_ext₂ ?_ ?_)
  · blk_simp
    rw [h0, hs]
  · blk_simp
    rw [h1]; exact Nat.zero_add _

theorem block1 (t : Fin cfg0.N) (r : Fin 1024) (d : Fin 2048) (s : Fin 8192) (hs : s.val = t.val * 1024 + r.val) :
    iblk m c 1 t (ix2 r d) = grad m c (ix2 s d) := by
  blk_simp [iblk]
  rw [V_main_arg1]
  obtain ⟨h0, h1⟩ := index1 t
  refine congrArg (m ((c : Thread nD τ).loc main_arg1)) (Shape.idx_ext₂ ?_ ?_)
  · blk_simp
    rw [h0, hs]
  · blk_simp
    rw [h1]; exact Nat.zero_add _

theorem zero1 (y) : (k0_pay1 (F := Ideal)) y = 0 := Ideal.ofBits_zero_f32

theorem one : Ideal.ofBits .f32 0x3F800000#32 = (1 : EReal) := by
  simp [Ideal.ofBits, Ideal.ieee]
  rw [← EReal.coe_mul]
  norm_num

/-- A block's product. -/
def prod (x : S1024x1024.Idx → EReal) (g : S1024x2048.Idx → EReal) (q : Fin 1024) (d : Fin 2048) : EReal :=
  ∑ r : Fin 1024, x (ix2 r q) * g (ix2 r d)

/-- One block's product added to what was there. -/
theorem pay2_at (v3 : Vec Ideal S1024x2048 .f32) (v4 : Vec Ideal S1024x1024 .bf16) (v5 : Vec Ideal S1024x2048 .bf16)
    (q : Fin 1024) (d : Fin 2048) : k0_pay2 v3 v4 v5 (ix2 q d) = v3 (ix2 q d) + prod v4 v5 q d := by
  unfold k0_pay2 prod
  pointwise

theorem pay3_at (v : Vec Ideal S1024x2048 .f32) (q : Fin 1024) (d : Fin 2048) : k0_pay3 v (ix3 0 q d) = v (ix2 q d) := by
  refine Eq.trans (b := v (ix2 q d) * Ideal.ofBits .f32 0x3F800000#32) ?_ ?_
  · unfold k0_pay3
    pointwise
  · rw [one, mul_one]

theorem scr_A (t : Fin cfg0.N) (h0 : t.val % 8 = 0) (y : S1024x2048.Idx) :
    (outsAt0 m c t.val t.isLt).2 y = k0_pay2 k0_pay1 (iblk m c 0 t) (iblk m c 1 t) y := by
  rw [outsAt0_A m c t h0 (by omega)]
  frame_out

theorem scr_B (t : Fin cfg0.N) (h0 : ¬ t.val % 8 = 0) (y : S1024x2048.Idx) :
    (outsAt0 m c t.val t.isLt).2 y
      = k0_pay2 (outsAt0 m c (t.val - 1) (Nat.lt_of_le_of_lt (Nat.sub_le _ _) t.isLt)).2 (iblk m c 0 t) (iblk m c 1 t) y := by
  by_cases h1 : t.val % 8 = 7
  · rw [outsAt0_C m c t h0 h1]
    frame_out
    exact congrArg (fun v => k0_pay2 v (iblk m c 0 t) (iblk m c 1 t) y) (Memref.IsWhole.read_unread (m := scM0_0) (Memref.isWhole_whole _) _)
  · rw [outsAt0_B m c t h0 h1]
    frame_out
    exact congrArg (fun v => k0_pay2 v (iblk m c 0 t) (iblk m c 1 t) y) (Memref.IsWhole.read_unread (m := scM0_0) (Memref.isWhole_whole _) _)

theorem out_C (t : Fin cfg0.N) (h1 : t.val % 8 = 7) (y : S1x1024x2048.Idx) :
    (outsAt0 m c t.val t.isLt).1 y = k0_pay3 (outsAt0 m c t.val t.isLt).2 y := by
  rw [outsAt0_C m c t (by omega) h1]
  frame_out

/-- What a point adds. -/
def part (n : ℕ) (y : S1024x2048.Idx) : EReal :=
  ∑ r : Fin 1024, term (mix m c) (grad m c) (y 0) (y 1) (n * 1024 + r.val)

theorem prod_at (t : Fin cfg0.N) (y : S1024x2048.Idx) : prod (iblk m c 0 t) (iblk m c 1 t) (y 0) (y 1) = part m c t.val y := by
  have hN := lt_of_lt_of_eq t.isLt (show cfg0.N = 8 from N_0)
  unfold part prod
  refine Finset.sum_congr rfl fun r _ => ?_
  have hs : t.val * 1024 + r.val < 8192 := by have := r.isLt; omega
  unfold term
  rw [dif_pos hs, block0 m c t r (y 0) ⟨_, hs⟩ rfl, block1 m c t r (y 1) ⟨_, hs⟩ rfl]

theorem scr_at (t : ℕ) (ht : t < cfg0.N) (y : S1024x2048.Idx) :
    (outsAt0 m c t ht).2 y = ∑ s ∈ Finset.range (t % 8 + 1), part m c (8 * (t / 8) + s) y := by
  refine Accum.run_sum (J := 8) (by decide) (fun n h => (outsAt0 m c n h).2) (part m c) ?_ ?_ t ht y
  · intro n h y hn
    refine (scr_A m c ⟨n, h⟩ hn y).trans ?_
    obtain ⟨q, d, rfl⟩ : ∃ (q : Fin 1024) (d : Fin 2048), y = ix2 q d := ⟨y 0, y 1, funext fun a => match a with | 0 => rfl | 1 => rfl⟩
    rw [pay2_at, zero1, zero_add]
    exact prod_at m c ⟨n, h⟩ (ix2 q d)
  · intro n h y hn
    refine (scr_B m c ⟨n + 1, h⟩ hn y).trans ?_
    obtain ⟨q, d, rfl⟩ : ∃ (q : Fin 1024) (d : Fin 2048), y = ix2 q d := ⟨y 0, y 1, funext fun a => match a with | 0 => rfl | 1 => rfl⟩
    rw [pay2_at]
    exact congrArg _ (prod_at m c ⟨n + 1, h⟩ (ix2 q d))

/-- What the last point writes. -/
theorem out_at (t : Fin cfg0.N) (h1 : t.val % 8 = 7) (q : Fin 1024) (d : Fin 2048) :
    (outsAt0 m c t.val t.isLt).1 (ix3 0 q d) = value (mix m c) (grad m c) (ix3 0 q d) := by
  have hN := lt_of_lt_of_eq t.isLt (show cfg0.N = 8 from N_0)
  rw [out_C m c t h1, pay3_at, scr_at, h1]
  refine (Finset.sum_congr rfl fun s hs => ?_).trans (Accum.sum_blocks 8 1024 (term (mix m c) (grad m c) q d))
  rw [show 8 * (t.val / 8) + s = s by omega]
  rfl

/-- The kernel's result. -/
theorem result : (dats m 0 c).arrAt 2 cfg0.N = value (mix m c) (grad m c) := by
  refine (dats m 0 c).arrAt_eq_of_covers 2 _ (by decide +kernel) fun t hf y => ?_
  have hm : t.val % 8 = 7 := (flush0_2 t).mp hf
  blk_simp
  rw [after0_2]
  obtain ⟨h0, h1, h2⟩ := index2 t
  obtain ⟨u, q, d, rfl⟩ : ∃ (u : Fin 1) (q : Fin 1024) (d : Fin 2048), y = ix3 u q d := ⟨y 0, y 1, y 2, funext fun a => match a with | 0 => rfl | 1 => rfl | 2 => rfl⟩
  obtain rfl : u = 0 := Subsingleton.elim _ _
  refine (out_at m c t hm q d).trans (congrArg _ (Accum.ext3 ?_ ?_ ?_))
  · blk_simp
    rw [h0]; rfl
  · blk_simp
    rw [h1]; exact (Nat.zero_add _).symm
  · blk_simp
    rw [h2]; exact (Nat.zero_add _).symm

/-! ## The reference -/

open Cert.Reference9Ideal.Read in
theorem ref_at (X : S8192x1024.Idx → EReal) (G : S8192x2048.Idx → EReal) (y : S1x1024x2048.Idx) :
    val_main_v7 (F := Ideal) X G y = value X G y := by
  rw [val_main_v7_apply, val_main_v6_apply, val_main_v5_apply, val_main_v4_apply]
  unfold value
  refine Finset.sum_congr rfl fun s _ => ?_
  rw [val_main_v0_apply, val_main_v1_apply, mul_comm]
  unfold term
  rw [dif_pos s.isLt]
  show X _ * G _ = _
  exact congrArg₂ (· * ·) (congrArg X (Shape.idx_ext₂ rfl rfl)) (congrArg G (Shape.idx_ext₂ rfl rfl))

end Cert.OutGrad

end
-- ==== Proof.OutProj.lean ====
module

public import proofs.«01_k».proof.Proof.Accum
public import proofs.«01_k».proof.Proof.RowNorm
public import proofs.«01_k».proof.Proof.Gen.Kernel11Ideal.Value
public import proofs.«01_k».proof.Proof.Gen.Reference11Ideal.Read
public import Idealize.ShloMosaic.Lib.Pipeline.ValueKit

/-!
# The mixer's last projection

For each block of rows the kernel adds to the stream the products of the attention's channels and of the others, each with
its half of the matrix; the reference puts the channels side by side and takes one product. Both then norm the rows.
-/

@[expose] public section

set_option maxRecDepth 16384

noncomputable section

namespace Cert.OutProj

open Cert.Kernel11Ideal Cert.Kernel11Ideal.Gen Idealize.ShloMosaic Idealize.ShloMosaic.TcCoe Idealize.ShloMosaic.Tactic

variable (m : (ℓ : Loc nD τ sig) → Buf (Elt Ideal) ℓ) (c : Dev nD)

/-- The attention's channels, the others, the matrix, the stream and the gain. -/
abbrev att : S8192x1024.Idx → EReal := m ((c : Thread nD τ).loc main_arg0)
abbrev oth : S8192x1024.Idx → EReal := m ((c : Thread nD τ).loc main_arg1)
abbrev wts : S2048x2048.Idx → EReal := m ((c : Thread nD τ).loc main_arg2)
abbrev res : S8192x2048.Idx → EReal := m ((c : Thread nD τ).loc main_arg3)
abbrev gain : S1x2048.Idx → EReal := m ((c : Thread nD τ).loc main_arg4)

/-- One channel's term of the product, by the channel's number. -/
def term (A B : S8192x1024.Idx → EReal) (W : S2048x2048.Idx → EReal) (s : Fin 8192) (d : Fin 2048) (k : ℕ) : EReal :=
  if h : k < 2048 then (if h' : k < 1024 then A (ix2 s ⟨k, h'⟩) else B (ix2 s ⟨k - 1024, by omega⟩)) * W (ix2 ⟨k, h⟩ d) else 0

/-- The new stream. -/
def row (A B : S8192x1024.Idx → EReal) (W : S2048x2048.Idx → EReal) (X : S8192x2048.Idx → EReal) (s : Fin 8192) (d : Fin 2048) : EReal :=
  X (ix2 s d) + ∑ k : Fin 2048, term A B W s d k.val

def stream (A B : S8192x1024.Idx → EReal) (W : S2048x2048.Idx → EReal) (X : S8192x2048.Idx → EReal) (y : S8192x2048.Idx) : EReal :=
  row A B W X (y 0) (y 1)

/-- Its norm, and the norm transposed. -/
def normed (A B : S8192x1024.Idx → EReal) (W : S2048x2048.Idx → EReal) (X : S8192x2048.Idx → EReal) (g : S1x2048.Idx → EReal)
    (y : S8192x2048.Idx) : EReal := RowNorm.norm (row A B W X (y 0)) (fun d => g (ix2 0 d)) (y 1)

def turned (A B : S8192x1024.Idx → EReal) (W : S2048x2048.Idx → EReal) (X : S8192x2048.Idx → EReal) (g : S1x2048.Idx → EReal)
    (y : S2048x8192.Idx) : EReal := RowNorm.norm (row A B W X (y 1)) (fun d => g (ix2 0 d)) (y 0)

theorem index0 (t : Fin cfg0.N) : win0_0.index t 0 = t.val ∧ win0_0.index t 1 = 0 :=
  (by decide +kernel : ∀ t : Fin grid0.N, win0_0.index t 0 = t.val ∧ win0_0.index t 1 = 0) t

theorem index1 (t : Fin cfg0.N) : win0_1.index t 0 = t.val ∧ win0_1.index t 1 = 0 :=
  (by decide +kernel : ∀ t : Fin grid0.N, win0_1.index t 0 = t.val ∧ win0_1.index t 1 = 0) t

theorem index2 (t : Fin cfg0.N) : win0_2.index t 0 = 0 ∧ win0_2.index t 1 = 0 :=
  (by decide +kernel : ∀ t : Fin grid0.N, win0_2.index t 0 = 0 ∧ win0_2.index t 1 = 0) t

theorem index3 (t : Fin cfg0.N) : win0_3.index t 0 = t.val ∧ win0_3.index t 1 = 0 :=
  (by decide +kernel : ∀ t : Fin grid0.N, win0_3.index t 0 = t.val ∧ win0_3.index t 1 = 0) t

theorem index4 (t : Fin cfg0.N) : win0_4.index t 0 = 0 ∧ win0_4.index t 1 = 0 :=
  (by decide +kernel : ∀ t : Fin grid0.N, win0_4.index t 0 = 0 ∧ win0_4.index t 1 = 0) t

theorem index5 (t : Fin cfg0.N) : win0_5.index t 0 = t.val ∧ win0_5.index t 1 = 0 :=
  (by decide +kernel : ∀ t : Fin grid0.N, win0_5.index t 0 = t.val ∧ win0_5.index t 1 = 0) t

theorem index6 (t : Fin cfg0.N) : win0_6.index t 0 = t.val ∧ win0_6.index t 1 = 0 :=
  (by decide +kernel : ∀ t : Fin grid0.N, win0_6.index t 0 = t.val ∧ win0_6.index t 1 = 0) t

theorem index7 (t : Fin cfg0.N) : win0_7.index t 0 = 0 ∧ win0_7.index t 1 = t.val :=
  (by decide +kernel : ∀ t : Fin grid0.N, win0_7.index t 0 = 0 ∧ win0_7.index t 1 = t.val) t

theorem block0 (t : Fin cfg0.N) (r : Fin 256) (k : Fin 1024) (s : Fin 8192) (hs : s.val = t.val * 256 + r.val) :
    iblk m c 0 t (ix2 r k) = att m c (ix2 s k) := by
  blk_simp [iblk]
  rw [V_main_arg0]
  obtain ⟨h0, h1⟩ := index0 t
  refine congrArg (m ((c : Thread nD τ).loc main_arg0)) (Shape.idx_ext₂ ?_ ?_)
  · blk_simp
    rw [h0, hs]
  · blk_simp
    rw [h1]; exact Nat.zero_add _

theorem block1 (t : Fin cfg0.N) (r : Fin 256) (k : Fin 1024) (s : Fin 8192) (hs : s.val = t.val * 256 + r.val) :
    iblk m c 1 t (ix2 r k) = oth m c (ix2 s k) := by
  blk_simp [iblk]
  rw [V_main_arg1]
  obtain ⟨h0, h1⟩ := index1 t
  refine congrArg (m ((c : Thread nD τ).loc main_arg1)) (Shape.idx_ext₂ ?_ ?_)
  · blk_simp
    rw [h0, hs]
  · blk_simp
    rw [h1]; exact Nat.zero_add _

theorem block2 (t : Fin cfg0.N) (k d : Fin 2048) : iblk m c 2 t (ix2 k d) = wts m c (ix2 k d) := by
  blk_simp [iblk]
  rw [V_main_arg2]
  obtain ⟨h0, h1⟩ := index2 t
  refine congrArg (m ((c : Thread nD τ).loc main_arg2)) (Shape.idx_ext₂ ?_ ?_)
  · blk_simp
    rw [h0]; exact Nat.zero_add _
  · blk_simp
    rw [h1]; exact Nat.zero_add _

theorem block3 (t : Fin cfg0.N) (r : Fin 256) (d : Fin 2048) (s : Fin 8192) (hs : s.val = t.val * 256 + r.val) :
    iblk m c 3 t (ix2 r d) = res m c (ix2 s d) := by
  blk_simp [iblk]
  rw [V_main_arg3]
  obtain ⟨h0, h1⟩ := index3 t
  refine congrArg (m ((c : Thread nD τ).loc main_arg3)) (Shape.idx_ext₂ ?_ ?_)
  · blk_simp
    rw [h0, hs]
  · blk_simp
    rw [h1]; exact Nat.zero_add _

theorem block4 (t : Fin cfg0.N) (d : Fin 2048) : iblk m c 4 t (ix2 0 d) = gain m c (ix2 0 d) := by
  blk_simp [iblk]
  rw [V_main_arg4]
  obtain ⟨h0, h1⟩ := index4 t
  refine congrArg (m ((c : Thread nD τ).loc main_arg4)) (Shape.idx_ext₂ ?_ ?_)
  · blk_simp
    rw [h0]; rfl
  · blk_simp
    rw [h1]; exact Nat.zero_add _

/-- A half's product. -/
def prod (x : S256x1024.Idx → EReal) (w : S1024x2048.Idx → EReal) (r : Fin 256) (d : Fin 2048) : EReal :=
  ∑ k : Fin 1024, x (ix2 r k) * w (ix2 k d)

theorem pay1_at (v : Vec Ideal S256x2048 .f32) (x0 x1 : Vec Ideal S256x1024 .bf16) (w0 w1 : Vec Ideal S1024x2048 .bf16) (r : Fin 256)
    (d : Fin 2048) : k0_pay1 v x0 w0 x1 w1 (ix2 r d) = v (ix2 r d) + prod x0 w0 r d + prod x1 w1 r d := by
  unfold k0_pay1 prod
  pointwise

/-- The norm of what the first store wrote. -/
theorem pay2_at (v : Vec Ideal S256x2048 .f32) (x0 x1 : Vec Ideal S256x1024 .bf16) (w0 w1 : Vec Ideal S1024x2048 .bf16)
    (g : Vec Ideal S1x2048 .f32) (r : Fin 256) (d : Fin 2048) :
    k0_pay2 v x0 w0 x1 w1 g (ix2 r d) = RowNorm.norm (fun k => k0_pay1 v x0 w0 x1 w1 (ix2 r k)) (fun k => g (ix2 0 k)) d := by
  unfold k0_pay2 RowNorm.norm RowNorm.scale
  generalize k0_pay1 v x0 w0 x1 w1 = u
  pointwise

theorem pay3_at (v : Vec Ideal S256x2048 .f32) (x0 x1 : Vec Ideal S256x1024 .bf16) (w0 w1 : Vec Ideal S1024x2048 .bf16)
    (g : Vec Ideal S1x2048 .f32) (r : Fin 256) (d : Fin 2048) : k0_pay3 v x0 w0 x1 w1 g (ix2 r d) = k0_pay2 v x0 w0 x1 w1 g (ix2 r d) := rfl

theorem pay4_at (v : Vec Ideal S256x2048 .f32) (x0 x1 : Vec Ideal S256x1024 .bf16) (w0 w1 : Vec Ideal S1024x2048 .bf16)
    (g : Vec Ideal S1x2048 .f32) (r : Fin 256) (d : Fin 2048) : k0_pay4 v x0 w0 x1 w1 g (ix2 d r) = k0_pay2 v x0 w0 x1 w1 g (ix2 r d) := by
  unfold k0_pay4
  generalize k0_pay2 v x0 w0 x1 w1 g = u
  pointwise

/-- A half of the channels of the product. -/
def blk (A B : S8192x1024.Idx → EReal) (W : S2048x2048.Idx → EReal) (s : Fin 8192) (d : Fin 2048) (j : ℕ) : EReal :=
  ∑ k : Fin 1024, term A B W s d (j * 1024 + k.val)

theorem sum_half (A B : S8192x1024.Idx → EReal) (W : S2048x2048.Idx → EReal) (s : Fin 8192) (d : Fin 2048) :
    ∑ k : Fin 2048, term A B W s d k.val = blk A B W s d 0 + blk A B W s d 1 := by
  refine (Accum.sum_blocks 2 1024 (term A B W s d)).symm.trans ?_
  simp only [Finset.sum_range_succ, Finset.sum_range_zero, zero_add]
  rfl

/-- The first store, from the windows. -/
theorem sum_at {A B : S8192x1024.Idx → EReal} {W : S2048x2048.Idx → EReal} {X : S8192x2048.Idx → EReal}
    (a b : Vec Ideal S256x1024 .bf16) (w : Vec Ideal S2048x2048 .bf16) (x : Vec Ideal S256x2048 .f32) (r : Fin 256) (s : Fin 8192)
    (ha : ∀ k : Fin 1024, a (ix2 r k) = A (ix2 s k)) (hb : ∀ k : Fin 1024, b (ix2 r k) = B (ix2 s k))
    (hw : ∀ k d : Fin 2048, w (ix2 k d) = W (ix2 k d)) (hx : ∀ d : Fin 2048, x (ix2 r d) = X (ix2 s d)) (d : Fin 2048) :
    k0_pay1 (View.ld x r0_0) (View.ld a r0_1) (View.ld w r0_2) (View.ld b r0_1) (View.ld w r0_3) (ix2 r d) = row A B W X s d := by
  rw [pay1_at, show View.ld x r0_0 = x from View.ld_unit_lit _ _ (by decide), show View.ld a r0_1 = a from View.ld_unit_lit _ _ (by decide),
    show View.ld b r0_1 = b from View.ld_unit_lit _ _ (by decide), hx, add_assoc]
  unfold row
  rw [sum_half]
  refine congrArg₂ (fun p q => X (ix2 s d) + (p + q)) (Finset.sum_congr rfl fun k _ => ?_) (Finset.sum_congr rfl fun k _ => ?_)
  · have hk := k.isLt
    unfold term
    rw [dif_pos (by omega), dif_pos (by omega), ha, ← hw]
    refine congrArg₂ (fun p q : EReal => p * q) (congrArg A (Shape.idx_ext₂ rfl ?_)) ?_
    · show k.val = 0 * 1024 + k.val; omega
    · refine View.ld_unit_apply_of _ _ _ _ _ _ (fun i => match i with | 0 => ?_ | 1 => (Nat.zero_add _).symm)
      show 0 * 1024 + k.val = 0 + k.val; omega
  · have hk := k.isLt
    unfold term
    rw [dif_pos (by omega), dif_neg (by omega), hb, ← hw]
    refine congrArg₂ (fun p q : EReal => p * q) (congrArg B (Shape.idx_ext₂ rfl ?_)) ?_
    · show k.val = 1 * 1024 + k.val - 1024; omega
    · refine View.ld_unit_apply_of _ _ _ _ _ _ (fun i => match i with | 0 => ?_ | 1 => (Nat.zero_add _).symm)
      show 1 * 1024 + k.val = 1024 + k.val; omega

section
variable (t : Fin cfg0.N) (r : Fin 256) (d : Fin 2048) (s : Fin 8192) (hs : s.val = t.val * 256 + r.val)
include hs

theorem first_at (d : Fin 2048) : k0_pay1 (View.ld (iblk m c 3 t) r0_0) (View.ld (iblk m c 0 t) r0_1) (View.ld (iblk m c 2 t) r0_2)
    (View.ld (iblk m c 1 t) r0_1) (View.ld (iblk m c 2 t) r0_3) (ix2 r d) = row (att m c) (oth m c) (wts m c) (res m c) s d :=
  sum_at _ _ _ _ r s (fun k => block0 m c t r k s hs) (fun k => block1 m c t r k s hs) (fun k d => block2 m c t k d)
    (fun d => block3 m c t r d s hs) d

theorem second_at : k0_pay2 (View.ld (iblk m c 3 t) r0_0) (View.ld (iblk m c 0 t) r0_1) (View.ld (iblk m c 2 t) r0_2)
    (View.ld (iblk m c 1 t) r0_1) (View.ld (iblk m c 2 t) r0_3) (View.ld (iblk m c 4 t) r0_4) (ix2 r d)
      = RowNorm.norm (row (att m c) (oth m c) (wts m c) (res m c) s) (fun d => gain m c (ix2 0 d)) d := by
  rw [pay2_at]
  refine congrArg₂ (fun f g => RowNorm.norm f g d) (funext fun k => first_at m c t r s hs k) (funext fun k => ?_)
  exact (congrFun (View.ld_unit_lit (S := S1x2048) _ _ (by decide)) _).trans (block4 m c t k)

theorem out5_at : out0_5 (iblk m c 0 t) (iblk m c 1 t) (iblk m c 2 t) (iblk m c 3 t) (iblk m c 4 t) (ix2 r d)
    = stream (att m c) (oth m c) (wts m c) (res m c) (ix2 s d) := by
  unfold out0_5
  rw [View.canon_cons_unit_lit _ _ _ (by decide)]
  exact first_at m c t r s hs d

theorem out6_at : out0_6 (iblk m c 0 t) (iblk m c 1 t) (iblk m c 2 t) (iblk m c 3 t) (iblk m c 4 t) (ix2 r d)
    = normed (att m c) (oth m c) (wts m c) (res m c) (gain m c) (ix2 s d) := by
  unfold out0_6
  rw [View.canon_cons_unit_lit _ _ _ (by decide), pay3_at]
  exact second_at m c t r d s hs

theorem out7_at : out0_7 (iblk m c 0 t) (iblk m c 1 t) (iblk m c 2 t) (iblk m c 3 t) (iblk m c 4 t) (ix2 d r)
    = turned (att m c) (oth m c) (wts m c) (res m c) (gain m c) (ix2 d s) := by
  unfold out0_7
  rw [View.canon_cons_unit_lit _ _ _ (by decide), pay4_at]
  exact second_at m c t r d s hs

end

/-- The kernel's results. -/
theorem result5 : (dats m 0 c).arrAt 5 cfg0.N = stream (att m c) (oth m c) (wts m c) (res m c) := by
  refine (dats m 0 c).arrAt_eq_of_covers 5 _ (by decide +kernel) fun t hf y => ?_
  have hN := lt_of_lt_of_eq t.isLt (show cfg0.N = 32 from N_0)
  blk_simp
  rw [after0_5]
  obtain ⟨h0, h1⟩ := index5 t
  obtain ⟨r, d, rfl⟩ : ∃ (r : Fin 256) (d : Fin 2048), y = ix2 r d := ⟨y 0, y 1, funext fun a => match a with | 0 => rfl | 1 => rfl⟩
  have hr := r.isLt
  refine (out5_at m c t r d ⟨t.val * 256 + r.val, by omega⟩ rfl).trans (congrArg _ (Shape.idx_ext₂ ?_ ?_))
  · blk_simp
    rw [h0]
  · blk_simp
    rw [h1]; exact (Nat.zero_add _).symm

theorem result6 : (dats m 0 c).arrAt 6 cfg0.N = normed (att m c) (oth m c) (wts m c) (res m c) (gain m c) := by
  refine (dats m 0 c).arrAt_eq_of_covers 6 _ (by decide +kernel) fun t hf y => ?_
  have hN := lt_of_lt_of_eq t.isLt (show cfg0.N = 32 from N_0)
  blk_simp
  rw [after0_6]
  obtain ⟨h0, h1⟩ := index6 t
  obtain ⟨r, d, rfl⟩ : ∃ (r : Fin 256) (d : Fin 2048), y = ix2 r d := ⟨y 0, y 1, funext fun a => match a with | 0 => rfl | 1 => rfl⟩
  have hr := r.isLt
  refine (out6_at m c t r d ⟨t.val * 256 + r.val, by omega⟩ rfl).trans (congrArg _ (Shape.idx_ext₂ ?_ ?_))
  · blk_simp
    rw [h0]
  · blk_simp
    rw [h1]; exact (Nat.zero_add _).symm

theorem result7 : (dats m 0 c).arrAt 7 cfg0.N = turned (att m c) (oth m c) (wts m c) (res m c) (gain m c) := by
  refine (dats m 0 c).arrAt_eq_of_covers 7 _ (by decide +kernel) fun t hf y => ?_
  have hN := lt_of_lt_of_eq t.isLt (show cfg0.N = 32 from N_0)
  blk_simp
  rw [after0_7]
  obtain ⟨h0, h1⟩ := index7 t
  obtain ⟨d, r, rfl⟩ : ∃ (d : Fin 2048) (r : Fin 256), y = ix2 d r := ⟨y 0, y 1, funext fun a => match a with | 0 => rfl | 1 => rfl⟩
  have hr := r.isLt
  refine (out7_at m c t r d ⟨t.val * 256 + r.val, by omega⟩ rfl).trans (congrArg _ (Shape.idx_ext₂ ?_ ?_))
  · blk_simp
    rw [h0]; exact (Nat.zero_add _).symm
  · blk_simp
    rw [h1]

/-! ## The reference -/

section
open Cert.Reference11Ideal.Read

variable (A B : S8192x1024.Idx → EReal) (W : S2048x2048.Idx → EReal) (X : S8192x2048.Idx → EReal) (g : S1x2048.Idx → EReal)

/-- The channels side by side. -/
theorem mixed_at (s : Fin 8192) (k : Fin 2048) : val_main_v3 (F := Ideal) A B (ix2 s k)
    = if h : k.val < 1024 then A (ix2 s ⟨k.val, h⟩) else B (ix2 s ⟨k.val - 1024, by omega⟩) := by
  unfold val_main_v3 val_main_v0 val_main_v1
  pointwise

theorem row_at (s : Fin 8192) (d : Fin 2048) : val_main_v5 (F := Ideal) A B W X (ix2 s d) = row A B W X s d := by
  rw [val_main_v5_apply, val_main_v4_apply]
  unfold row
  refine congrArg (X (ix2 s d) + ·) (Finset.sum_congr rfl fun k _ => ?_)
  rw [show lidx_main_v4 (ix2 s d) k = ix2 s k from Shape.idx_ext₂ rfl rfl, mixed_at, val_main_v2_apply]
  unfold term
  rw [dif_pos k.isLt]
  exact congrArg (_ * ·) (congrArg W (Shape.idx_ext₂ rfl rfl))

theorem stream_at (y : S8192x2048.Idx) : val_main_v5 (F := Ideal) A B W X y = stream A B W X y := by
  obtain ⟨s, d, rfl⟩ : ∃ (s : Fin 8192) (d : Fin 2048), y = ix2 s d := ⟨y 0, y 1, funext fun a => match a with | 0 => rfl | 1 => rfl⟩
  exact row_at A B W X s d

theorem scale_at (s : Fin 8192) (u : Fin 1) : val_main_v14 (F := Ideal) A B W X (ix2 s u) = RowNorm.scale (row A B W X s) := by
  rw [val_main_v14_apply, val_main_v13_apply, val_main_v12_apply, val_main_v11_apply, val_main_v10_apply, val_main_v9_apply, val_main_v8_apply,
    val_main_cst_0_apply, val_main_cst_1_apply]
  have h : ∑ k : Fin 2048, val_main_v7 (F := Ideal) A B W X (idx_main_v8 (idx_main_v9 (ix2 s u)) k) = ∑ k : Fin 2048, row A B W X s k * row A B W X s k := by
    refine Finset.sum_congr rfl fun k _ => ?_
    rw [show idx_main_v8 (idx_main_v9 (ix2 s u)) k = ix2 s k from Shape.idx_ext₂ rfl rfl, val_main_v7_apply, row_at]
    rfl
  rw [h]
  unfold RowNorm.scale
  show Ideal.rsqrt (Ideal.div (Ideal.ofBits .f32 0x00000000#32 + _) _ + _) = _
  rw [Ideal.ofBits_zero_f32, zero_add]
  rfl

theorem normed_at (y : S8192x2048.Idx) : val_main_v20 (F := Ideal) A B W X g y = normed A B W X g y := by
  obtain ⟨s, d, rfl⟩ : ∃ (s : Fin 8192) (d : Fin 2048), y = ix2 s d := ⟨y 0, y 1, funext fun a => match a with | 0 => rfl | 1 => rfl⟩
  rw [val_main_v20_apply, val_main_v19_apply, val_main_v16_apply, val_main_v15_apply, val_main_v18_apply, val_main_v17_apply, val_main_v6_apply, row_at,
    show idx_main_v15 (ix2 s d) = ix2 s 0 from Shape.idx_ext₂ rfl rfl, scale_at]
  unfold normed RowNorm.norm
  refine congrArg (row A B W X s d * RowNorm.scale (row A B W X s) * ·) (congrArg g (Shape.idx_ext₂ rfl ?_))
  dsimp
  omega

theorem turned_at (y : S2048x8192.Idx) : val_main_v21 (F := Ideal) A B W X g y = turned A B W X g y := by
  rw [val_main_v21_apply, normed_at]
  rfl

end

end Cert.OutProj

end
-- ==== Proof.Proj.lean ====
module

public import proofs.«01_k».proof.Proof.Accum
public import proofs.«01_k».proof.Proof.Gen.Kernel12Ideal.Value
public import proofs.«01_k».proof.Proof.Gen.Reference12Ideal.Read
public import Idealize.ShloMosaic.Lib.Pipeline.ValueKit

/-!
# The mixer's first projection

For each block of rows and each pair of blocks of columns the kernel puts the pair side by side and takes one product; the
reference puts all eight blocks side by side.
-/

@[expose] public section

set_option maxRecDepth 16384

noncomputable section

namespace Cert.Proj

open Cert.Kernel12Ideal Cert.Kernel12Ideal.Gen Idealize.ShloMosaic Idealize.ShloMosaic.TcCoe Idealize.ShloMosaic.Tactic

variable (m : (ℓ : Loc nD τ sig) → Buf (Elt Ideal) ℓ) (c : Dev nD)

/-- The normed stream and the projection's matrix. -/
abbrev nrm : S8192x2048.Idx → EReal := m ((c : Thread nD τ).loc main_arg0)
abbrev wts : S8x2048x640.Idx → EReal := m ((c : Thread nD τ).loc main_arg1)

/-- The projected rows. -/
def value (X : S8192x2048.Idx → EReal) (W : S8x2048x640.Idx → EReal) (y : S8192x5120.Idx) : EReal :=
  ∑ k : Fin 2048, X (ix2 (y 0) k)
    * W (ix3 ⟨(y 1).val / 640, Nat.div_lt_of_lt_mul (y 1).isLt⟩ k ⟨(y 1).val % 640, Nat.mod_lt _ (by decide)⟩)

theorem index0 (t : Fin cfg0.N) : win0_0.index t 0 = t.val % 8 ∧ win0_0.index t 1 = 0 :=
  (by decide +kernel : ∀ t : Fin grid0.N, win0_0.index t 0 = t.val % 8 ∧ win0_0.index t 1 = 0) t

theorem index1 (t : Fin cfg0.N) : win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0) t

theorem index2 (t : Fin cfg0.N) : win0_2.index t 0 = t.val % 8 ∧ win0_2.index t 1 = t.val / 8 :=
  (by decide +kernel : ∀ t : Fin grid0.N, win0_2.index t 0 = t.val % 8 ∧ win0_2.index t 1 = t.val / 8) t

theorem block0 (t : Fin cfg0.N) (r : Fin 1024) (k : Fin 2048) (s : Fin 8192) (hs : s.val = t.val % 8 * 1024 + r.val) :
    iblk m c 0 t (ix2 r k) = nrm m c (ix2 s k) := by
  blk_simp [iblk]
  rw [V_main_arg0]
  obtain ⟨h0, h1⟩ := index0 t
  refine congrArg (m ((c : Thread nD τ).loc main_arg0)) (Shape.idx_ext₂ ?_ ?_)
  · blk_simp
    rw [h0, hs]
  · blk_simp
    rw [h1]; exact Nat.zero_add _

theorem block1 (t : Fin cfg0.N) (e : Fin 2) (k : Fin 2048) (q : Fin 640) (j : Fin 8) (hj : j.val = t.val / 8 * 2 + e.val) :
    iblk m c 1 t (ix3 e k q) = wts m c (ix3 j k q) := by
  blk_simp [iblk]
  rw [V_main_arg1]
  obtain ⟨h0, h1, h2⟩ := index1 t
  refine congrArg (m ((c : Thread nD τ).loc main_arg1)) (Accum.ext3 ?_ ?_ ?_)
  · blk_simp
    rw [h0, hj]
  · blk_simp
    rw [h1]; exact Nat.zero_add _
  · blk_simp
    rw [h2]; exact Nat.zero_add _

/-- The two halves of a point's product. -/
theorem pay1_at (w0 w1 : Vec Ideal S1x2048x640 .bf16) (x : Vec Ideal S1024x2048 .bf16) (r : Fin 1024) (q : Fin 1280) :
    k0_pay1 w0 w1 x (ix2 r q) = ∑ k : Fin 2048, x (ix2 r k)
      * (if h : q.val < 640 then w0 (ix3 0 k ⟨q.val, h⟩) else w1 (ix3 0 k ⟨q.val - 640, by omega⟩)) := by
  unfold k0_pay1
  pointwise

/-- A point's output, from its windows. -/
theorem whole (x : Vec Ideal S1024x2048 .bf16) (w : Vec Ideal S2x2048x640 .bf16) (r : Fin 1024) (q : Fin 1280) :
    out0_2 x w (ix2 r q) = ∑ k : Fin 2048, x (ix2 r k) * w (ix3 ⟨q.val / 640, Nat.div_lt_of_lt_mul q.isLt⟩ k ⟨q.val % 640, Nat.mod_lt _ (by decide)⟩) := by
  unfold out0_2
  rw [View.canon_cons_unit_lit _ _ _ (by decide), pay1_at, show View.ld x r0_2 = x from View.ld_unit_lit _ _ (by decide)]
  refine Finset.sum_congr rfl fun k _ => congrArg (x (ix2 r k) * ·) ?_
  have hq := q.isLt
  split
  · rename_i h
    refine View.ld_unit_apply_of _ _ _ _ _ _ (fun a => match a with | 0 => ?_ | 1 => (Nat.zero_add _).symm | 2 => ?_)
    · show q.val / 640 = 0 + 0; omega
    · show q.val % 640 = 0 + q.val; omega
  · rename_i h
    refine View.ld_unit_apply_of _ _ _ _ _ _ (fun a => match a with | 0 => ?_ | 1 => (Nat.zero_add _).symm | 2 => ?_)
    · show q.val / 640 = 1 + 0; omega
    · show q.val % 640 = 0 + (q.val - 640); omega

theorem out_at (t : Fin cfg0.N) (r : Fin 1024) (q : Fin 1280) (s : Fin 8192) (k : Fin 5120) (hs : s.val = t.val % 8 * 1024 + r.val)
    (hk : k.val = t.val / 8 * 1280 + q.val) : out0_2 (iblk m c 0 t) (iblk m c 1 t) (ix2 r q) = value (nrm m c) (wts m c) (ix2 s k) := by
  refine (whole _ _ r q).trans (Finset.sum_congr rfl fun p _ => congrArg₂ (· * ·) (block0 m c t r p s hs) ?_)
  refine (block1 m c t _ p _ ⟨k.val / 640, Nat.div_lt_of_lt_mul k.isLt⟩ ?_).trans (congrArg (wts m c) (Accum.ext3 rfl rfl ?_))
  · show k.val / 640 = t.val / 8 * 2 + q.val / 640; omega
  · show q.val % 640 = k.val % 640; omega

/-- The kernel's result. -/
theorem result : (dats m 0 c).arrAt 2 cfg0.N = value (nrm m c) (wts m c) := by
  refine (dats m 0 c).arrAt_eq_of_covers 2 _ (by decide +kernel) fun t hf y => ?_
  have hN := lt_of_lt_of_eq t.isLt (show cfg0.N = 32 from N_0)
  blk_simp
  rw [after0_2]
  obtain ⟨h0, h1⟩ := index2 t
  obtain ⟨r, q, rfl⟩ : ∃ (r : Fin 1024) (q : Fin 1280), y = ix2 r q := ⟨y 0, y 1, funext fun a => match a with | 0 => rfl | 1 => rfl⟩
  have hr := r.isLt
  have hq := q.isLt
  refine (out_at m c t r q ⟨t.val % 8 * 1024 + r.val, by omega⟩ ⟨t.val / 8 * 1280 + q.val, by omega⟩ rfl rfl).trans (congrArg _ (Shape.idx_ext₂ ?_ ?_))
  · blk_simp
    rw [h0]
  · blk_simp
    rw [h1]

/-! ## The reference -/

open Cert.Reference12Ideal.Read in
theorem ref_at (X : S8192x2048.Idx → EReal) (W : S8x2048x640.Idx → EReal) (y : S8192x5120.Idx) :
    val_main_v5 (F := Ideal) X W y = value X W y := by
  rw [val_main_v5_apply, val_main_v4_apply]
  unfold value
  refine Finset.sum_congr rfl fun k _ => ?_
  rw [val_main_v0_apply, val_main_v3_apply, val_main_v2_apply, val_main_v1_apply]
  have h1 : (y 1).val < 5120 := (y 1).isLt
  have hk := k.isLt
  show X _ * W _ = _
  refine congrArg₂ (· * ·) (congrArg X (Shape.idx_ext₂ rfl rfl)) (congrArg W (Accum.ext3 ?_ ?_ ?_))
  · show (k.val * 5120 + (y 1).val) / 640 % 8 = (y 1).val / 640; omega
  · show (k.val * 5120 + (y 1).val) / 5120 = k.val; omega
  · show (k.val * 5120 + (y 1).val) % 640 = (y 1).val % 640; omega

end Cert.Proj

end
-- ==== Proof.lean ====
/-
The claims of the statement, put together: the frames of each pair's programs, the ideal program as the kernel over the
extended reals, and the equality of the kernel's results with the reference's; of the convolution and pooling branches
under `pool_finite`, of the gated layer under `gate_finite`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Result
public import proofs.«01_k».proof.Proof.RefDz
public import proofs.«01_k».proof.Proof.Bounds
public import proofs.«01_k».proof.Proof.GateRun
public import proofs.«01_k».proof.Proof.DownGrad
public import proofs.«01_k».proof.Proof.UpGrad
public import proofs.«01_k».proof.Proof.InGrad
public import proofs.«01_k».proof.Proof.MixRef
public import proofs.«01_k».proof.Proof.NormGrad
public import proofs.«01_k».proof.Proof.LastDown
public import proofs.«01_k».proof.Proof.FinalLoss
public import proofs.«01_k».proof.Proof.FirstNorm
public import proofs.«01_k».proof.Proof.StepGate
public import proofs.«01_k».proof.Proof.StepDown
public import proofs.«01_k».proof.Proof.StepIn
public import proofs.«01_k».proof.Proof.StepOut
public import proofs.«01_k».proof.Proof.Packed
public import proofs.«01_k».proof.Proof.ProjGrad
public import proofs.«01_k».proof.Proof.ProjBack
public import proofs.«01_k».proof.Proof.OutBack
public import proofs.«01_k».proof.Proof.OutGrad
public import proofs.«01_k».proof.Proof.FfnDown
public import proofs.«01_k».proof.Proof.OutProj
public import proofs.«01_k».proof.Proof.Proj
public import Idealize.ShloMosaic.Adequacy
public import Idealize.ShloMosaic.Init

@[expose] public section

noncomputable section

namespace Cert.Proof

open Idealize.ShloMosaic Idealize.ShloMosaic.TcCoe Idealize.SL.Sem Cert.Mix

attribute [local instance] preFacts Cert.Gate.preFacts Cert.MixFwd.preFacts

section Values

variable (m : (ℓ : Loc Cert.KernelIdeal.nD Cert.KernelIdeal.τ Cert.KernelIdeal.sig) → Buf (Elt Ideal) ℓ) (c : Dev Cert.KernelIdeal.nD)

/-- The kernel's argument arrays. -/
abbrev argZ := m ((c.tc : Thread Cert.KernelIdeal.nD Cert.KernelIdeal.τ).loc Cert.KernelIdeal.main_arg0)
abbrev argDy := m ((c.tc : Thread Cert.KernelIdeal.nD Cert.KernelIdeal.τ).loc Cert.KernelIdeal.main_arg1)
abbrev argCw := m ((c.tc : Thread Cert.KernelIdeal.nD Cert.KernelIdeal.τ).loc Cert.KernelIdeal.main_arg2)
abbrev argPw := m ((c.tc : Thread Cert.KernelIdeal.nD Cert.KernelIdeal.τ).loc Cert.KernelIdeal.main_arg3)
abbrev argPs := m ((c.tc : Thread Cert.KernelIdeal.nD Cert.KernelIdeal.τ).loc Cert.KernelIdeal.main_arg4)

/-- The gradient of the projection's rows, kernel's and reference's. -/
theorem dz_eq (hd : (dataOf (argZ m c) (argDy m c) (argCw m c) (argPw m c) (argPs m c)).Finite) :
    Cert.ReferenceIdeal.Read.val_main_v232 (F := Ideal) (argZ m c) (argDy m c) (argCw m c) (argPw m c) (argPs m c)
      = (Cert.KernelIdeal.Gen.dats m 0 c).arrAt 13 Cert.KernelIdeal.cfg0.N :=
  (funext fun j => Cert.Ref.dz_at _ _ _ _ _ hd j).trans (Cert.KernelIdeal.Pay.dz_result m c).symm

/-- The gradient of the taps. -/
theorem dcw_eq : Cert.ReferenceIdeal.Read.val_main_v226 (F := Ideal) (argZ m c) (argDy m c)
      = (Cert.KernelIdeal.Gen.dats m 0 c).arrAt 14 Cert.KernelIdeal.cfg0.N :=
  (funext fun j => Cert.Ref.taps_at _ _ (argCw m c) (argPw m c) (argPs m c) j).trans (Cert.KernelIdeal.Pay.dcw_result m c).symm

/-- The gradient of the pooled branch's matrices. -/
theorem dpw_eq (hd : (dataOf (argZ m c) (argDy m c) (argCw m c) (argPw m c) (argPs m c)).Finite) :
    Cert.ReferenceIdeal.Read.val_main_v131 (F := Ideal) (argZ m c) (argDy m c) (argPs m c)
      = (Cert.KernelIdeal.Gen.dats m 0 c).arrAt 15 Cert.KernelIdeal.cfg0.N :=
  (funext fun j => Cert.Ref.mix_at _ _ (argCw m c) (argPw m c) _ hd j).trans (Cert.KernelIdeal.Pay.dpw_result m c).symm

/-- The gradient of the pooled branch's scale. -/
theorem dps_eq (hd : (dataOf (argZ m c) (argDy m c) (argCw m c) (argPw m c) (argPs m c)).Finite) :
    Cert.ReferenceIdeal.Read.val_main_v233 (F := Ideal) (argZ m c) (argDy m c) (argPw m c)
      = (Cert.KernelIdeal.Gen.dats m 0 c).arrAt 16 Cert.KernelIdeal.cfg0.N :=
  (funext fun j => Cert.Ref.scale_at _ _ (argCw m c) _ (argPs m c) hd j).trans (Cert.KernelIdeal.Pay.dps_result m c).symm

end Values

/-- Kernel and reference end with the same four gradients. -/
theorem same : Cert.algebraic_KernelIdeal_ReferenceIdeal_pre_pool_finite := by
  intro m g m' g' hpre hagree
  refine ⟨fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    fun c => (Cert.KernelIdeal.Gen.dats m 0 c).arrAt 16 Cert.KernelIdeal.cfg0.N,
    Cert.KernelIdeal.Value.run_blocks m g,
    (θ_run (Cert.ReferenceIdeal.defs (F := Ideal)) _ _).mono (fun r h c => ?_) (Cert.ReferenceIdeal.Value.run (F := Ideal) m' g')⟩
  obtain ⟨h0, h1, h2, h3, h4⟩ := h c
  obtain ⟨a0, a1, a2, a3, a4⟩ := hagree c
  have hd : (dataOf (argZ m c) (argDy m c) (argCw m c) (argPw m c) (argPs m c)).Finite := finite_of_pre _ _ _ _ _ (hpre c)
  rw [Cert.ReferenceIdeal.Read.val_main_v232_eq] at h0
  rw [Cert.ReferenceIdeal.Read.val_main_v226_eq] at h1
  rw [Cert.ReferenceIdeal.Read.val_main_v131_eq] at h2
  rw [Cert.ReferenceIdeal.Read.val_main_v233_eq] at h3
  simp only [StableHlo.launchContents_devRef, a0, a1, a2, a3, a4] at h0 h1 h2 h3
  exact ⟨h0.trans (dz_eq m c hd), h1.trans (dcw_eq m c), h2.trans (dpw_eq m c hd), h3.trans (dps_eq m c hd), h4⟩

/-- The reference ends with its arguments unchanged; it has no semaphore. -/
theorem frame_reference : Cert.quiescent_ReferenceIdeal := fun m ρ _ =>
  (θ_run (Cert.ReferenceIdeal.defs (F := Ideal)) _ _).mono
    (fun r h => ⟨fun c => (h c).2.2.2.2, sem_eq_zero_of_no_sems (by decide) r.2⟩) (Cert.ReferenceIdeal.Value.run (F := Ideal) m ρ)

/-- The gated layer's hidden value, and the gradients of its two projections. -/
theorem same2 : Cert.algebraic_Kernel2Ideal_Reference2Ideal_pre_gate_finite := by
  intro m g m' g' hpre hagree
  refine ⟨fun c => Cert.Gate.hid (Cert.Gate.argX m c) (Cert.Gate.argA m c) (Cert.Gate.argB m c),
    fun c => Cert.Gate.gradA (Cert.Gate.argX m c) (Cert.Gate.argA m c) (Cert.Gate.argB m c) (Cert.Gate.argD m c) (Cert.Gate.argG m c),
    fun c => Cert.Gate.gradB (Cert.Gate.argX m c) (Cert.Gate.argA m c) (Cert.Gate.argD m c) (Cert.Gate.argG m c),
    Cert.Gate.run m g,
    (θ_run (Cert.Reference2Ideal.defs (F := Ideal)) _ _).mono (fun r h c => ?_) (Cert.Reference2Ideal.Value.run (F := Ideal) m' g')⟩
  obtain ⟨h0, h1, h2, h3⟩ := h c
  obtain ⟨a0, a1, a2, a3, a4⟩ := hagree c
  have hd : Cert.Gate.Finite (Cert.Gate.argX m c) (Cert.Gate.argB m c) (Cert.Gate.argD m c) (Cert.Gate.argG m c) :=
    Cert.Gate.finite_of_pre _ _ _ _ _ (hpre c)
  rw [Cert.Reference2Ideal.Read.val_main_v27_eq] at h0
  rw [Cert.Reference2Ideal.Read.val_main_v30_eq] at h1
  rw [Cert.Reference2Ideal.Read.val_main_v33_eq] at h2
  simp only [StableHlo.launchContents_devRef, a0, a1, a2, a3, a4] at h0 h1 h2
  exact ⟨h0.trans (funext fun y => Cert.Gate.hid_at _ _ _ y), h1.trans (funext fun y => Cert.Gate.gradA_at _ _ _ _ _ hd y),
    h2.trans (funext fun y => Cert.Gate.gradB_at _ _ _ _ y), h3⟩

theorem frame_reference2 : Cert.quiescent_Reference2Ideal := fun m ρ _ =>
  (θ_run (Cert.Reference2Ideal.defs (F := Ideal)) _ _).mono
    (fun r h => ⟨fun c => (h c).2.2.2, sem_eq_zero_of_no_sems (by decide) r.2⟩) (Cert.Reference2Ideal.Value.run (F := Ideal) m ρ)

/-- The gradient of the network's last matrix. -/
theorem same3 : Cert.algebraic_Kernel3Ideal_Reference3Ideal := by
  intro m g m' g' _ hagree
  refine ⟨fun c => (Cert.Kernel3Ideal.Gen.dats m 0 c).arrAt 2 Cert.Kernel3Ideal.cfg0.N, Cert.Kernel3Ideal.Value.run_blocks m g,
    (θ_run (Cert.Reference3Ideal.defs (F := Ideal)) _ _).mono (fun r h c => ?_) (Cert.Reference3Ideal.Value.run (F := Ideal) m' g')⟩
  obtain ⟨h0, h1⟩ := h c
  obtain ⟨a0, a1⟩ := hagree c
  rw [Cert.Reference3Ideal.Read.val_main_v13_eq] at h0
  simp only [StableHlo.launchContents_devRef, a0, a1] at h0
  exact ⟨h0.trans ((funext fun y => Cert.DownGrad.ref_at _ _ y).trans (Cert.DownGrad.result m c).symm), h1⟩

theorem frame_reference3 : Cert.quiescent_Reference3Ideal := fun m ρ _ =>
  (θ_run (Cert.Reference3Ideal.defs (F := Ideal)) _ _).mono
    (fun r h => ⟨fun c => (h c).2, sem_eq_zero_of_no_sems (by decide) r.2⟩) (Cert.Reference3Ideal.Value.run (F := Ideal) m ρ)

/-- The gradient of either of its first matrices. -/
theorem same4 : Cert.algebraic_Kernel4Ideal_Reference4Ideal := by
  intro m g m' g' _ hagree
  refine ⟨fun c => (Cert.Kernel4Ideal.Gen.dats m 0 c).arrAt 2 Cert.Kernel4Ideal.cfg0.N, Cert.Kernel4Ideal.Value.run_blocks m g,
    (θ_run (Cert.Reference4Ideal.defs (F := Ideal)) _ _).mono (fun r h c => ?_) (Cert.Reference4Ideal.Value.run (F := Ideal) m' g')⟩
  obtain ⟨h0, h1⟩ := h c
  obtain ⟨a0, a1⟩ := hagree c
  rw [Cert.Reference4Ideal.Read.val_main_v10_eq] at h0
  simp only [StableHlo.launchContents_devRef, a0, a1] at h0
  exact ⟨h0.trans ((funext fun y => Cert.UpGrad.ref_at _ _ y).trans (Cert.UpGrad.result m c).symm), h1⟩

theorem frame_reference4 : Cert.quiescent_Reference4Ideal := fun m ρ _ =>
  (θ_run (Cert.Reference4Ideal.defs (F := Ideal)) _ _).mono
    (fun r h => ⟨fun c => (h c).2, sem_eq_zero_of_no_sems (by decide) r.2⟩) (Cert.Reference4Ideal.Value.run (F := Ideal) m ρ)

/-- The gradient of its input. -/
theorem same5 : Cert.algebraic_Kernel5Ideal_Reference5Ideal := by
  intro m g m' g' _ hagree
  refine ⟨fun c => (Cert.Kernel5Ideal.Gen.dats m 0 c).arrAt 4 Cert.Kernel5Ideal.cfg0.N, Cert.Kernel5Ideal.Value.run_blocks m g,
    (θ_run (Cert.Reference5Ideal.defs (F := Ideal)) _ _).mono (fun r h c => ?_) (Cert.Reference5Ideal.Value.run (F := Ideal) m' g')⟩
  obtain ⟨h0, h1⟩ := h c
  obtain ⟨a0, a1, a2, a3⟩ := hagree c
  rw [Cert.Reference5Ideal.Read.val_main_v18_eq] at h0
  simp only [StableHlo.launchContents_devRef, a0, a1, a2, a3] at h0
  exact ⟨h0.trans ((funext fun y => Cert.InGrad.ref_at _ _ _ _ y).trans (Cert.InGrad.result m c).symm), h1⟩

theorem frame_reference5 : Cert.quiescent_Reference5Ideal := fun m ρ _ =>
  (θ_run (Cert.Reference5Ideal.defs (F := Ideal)) _ _).mono
    (fun r h => ⟨fun c => (h c).2, sem_eq_zero_of_no_sems (by decide) r.2⟩) (Cert.Reference5Ideal.Value.run (F := Ideal) m ρ)

/-- The gradient of the mixer's first matrix. -/
theorem same6 : Cert.algebraic_Kernel6Ideal_Reference6Ideal := by
  intro m g m' g' _ hagree
  refine ⟨fun c => (Cert.Kernel6Ideal.Gen.dats m 0 c).arrAt 2 Cert.Kernel6Ideal.cfg0.N, Cert.Kernel6Ideal.Value.run_blocks m g,
    (θ_run (Cert.Reference6Ideal.defs (F := Ideal)) _ _).mono (fun r h c => ?_) (Cert.Reference6Ideal.Value.run (F := Ideal) m' g')⟩
  obtain ⟨h0, h1⟩ := h c
  obtain ⟨a0, a1⟩ := hagree c
  rw [Cert.Reference6Ideal.Read.val_main_v8_eq] at h0
  simp only [StableHlo.launchContents_devRef, a0, a1] at h0
  exact ⟨h0.trans ((funext fun y => Cert.ProjGrad.ref_at _ _ y).trans (Cert.ProjGrad.result m c).symm), h1⟩

theorem frame_reference6 : Cert.quiescent_Reference6Ideal := fun m ρ _ =>
  (θ_run (Cert.Reference6Ideal.defs (F := Ideal)) _ _).mono
    (fun r h => ⟨fun c => (h c).2, sem_eq_zero_of_no_sems (by decide) r.2⟩) (Cert.Reference6Ideal.Value.run (F := Ideal) m ρ)

/-- The gradient of the mixer's input. -/
theorem same7 : Cert.algebraic_Kernel7Ideal_Reference7Ideal := by
  intro m g m' g' _ hagree
  refine ⟨fun c => (Cert.Kernel7Ideal.Gen.dats m 0 c).arrAt 2 Cert.Kernel7Ideal.cfg0.N, Cert.Kernel7Ideal.Value.run_blocks m g,
    (θ_run (Cert.Reference7Ideal.defs (F := Ideal)) _ _).mono (fun r h c => ?_) (Cert.Reference7Ideal.Value.run (F := Ideal) m' g')⟩
  obtain ⟨h0, h1⟩ := h c
  obtain ⟨a0, a1⟩ := hagree c
  rw [Cert.Reference7Ideal.Read.val_main_v7_eq] at h0
  simp only [StableHlo.launchContents_devRef, a0, a1] at h0
  exact ⟨h0.trans ((funext fun y => Cert.ProjBack.ref_at _ _ y).trans (Cert.ProjBack.result m c).symm), h1⟩

theorem frame_reference7 : Cert.quiescent_Reference7Ideal := fun m ρ _ =>
  (θ_run (Cert.Reference7Ideal.defs (F := Ideal)) _ _).mono
    (fun r h => ⟨fun c => (h c).2, sem_eq_zero_of_no_sems (by decide) r.2⟩) (Cert.Reference7Ideal.Value.run (F := Ideal) m ρ)

/-- The gradients of the mixer's two halves. -/
theorem same8 : Cert.algebraic_Kernel8Ideal_Reference8Ideal := by
  intro m g m' g' _ hagree
  refine ⟨fun c => (Cert.Kernel8Ideal.Gen.dats m 0 c).arrAt 2 Cert.Kernel8Ideal.cfg0.N,
    fun c => (Cert.Kernel8Ideal.Gen.dats m 0 c).arrAt 3 Cert.Kernel8Ideal.cfg0.N, Cert.Kernel8Ideal.Value.run_blocks m g,
    (θ_run (Cert.Reference8Ideal.defs (F := Ideal)) _ _).mono (fun r h c => ?_) (Cert.Reference8Ideal.Value.run (F := Ideal) m' g')⟩
  obtain ⟨h0, h1, h2⟩ := h c
  obtain ⟨a0, a1⟩ := hagree c
  rw [Cert.Reference8Ideal.Read.val_main_v8_eq] at h0
  rw [Cert.Reference8Ideal.Read.val_main_v9_eq] at h1
  simp only [StableHlo.launchContents_devRef, a0, a1] at h0 h1
  exact ⟨h0.trans ((funext fun y => Cert.OutBack.upper_at _ _ y).trans (Cert.OutBack.result2 m c).symm),
    h1.trans ((funext fun y => Cert.OutBack.lower_at _ _ y).trans (Cert.OutBack.result3 m c).symm), h2⟩

theorem frame_reference8 : Cert.quiescent_Reference8Ideal := fun m ρ _ =>
  (θ_run (Cert.Reference8Ideal.defs (F := Ideal)) _ _).mono
    (fun r h => ⟨fun c => (h c).2.2, sem_eq_zero_of_no_sems (by decide) r.2⟩) (Cert.Reference8Ideal.Value.run (F := Ideal) m ρ)

/-- The gradient of either half of the mixer's last matrix. -/
theorem same9 : Cert.algebraic_Kernel9Ideal_Reference9Ideal := by
  intro m g m' g' _ hagree
  refine ⟨fun c => (Cert.Kernel9Ideal.Gen.dats m 0 c).arrAt 2 Cert.Kernel9Ideal.cfg0.N, Cert.Kernel9Ideal.Value.run_blocks m g,
    (θ_run (Cert.Reference9Ideal.defs (F := Ideal)) _ _).mono (fun r h c => ?_) (Cert.Reference9Ideal.Value.run (F := Ideal) m' g')⟩
  obtain ⟨h0, h1⟩ := h c
  obtain ⟨a0, a1⟩ := hagree c
  rw [Cert.Reference9Ideal.Read.val_main_v7_eq] at h0
  simp only [StableHlo.launchContents_devRef, a0, a1] at h0
  exact ⟨h0.trans ((funext fun y => Cert.OutGrad.ref_at _ _ y).trans (Cert.OutGrad.result m c).symm), h1⟩

theorem frame_reference9 : Cert.quiescent_Reference9Ideal := fun m ρ _ =>
  (θ_run (Cert.Reference9Ideal.defs (F := Ideal)) _ _).mono
    (fun r h => ⟨fun c => (h c).2, sem_eq_zero_of_no_sems (by decide) r.2⟩) (Cert.Reference9Ideal.Value.run (F := Ideal) m ρ)

/-- A network's last product on the stream, and the next norm. -/
theorem same10 : Cert.algebraic_Kernel10Ideal_Reference10Ideal := by
  intro m g m' g' _ hagree
  refine ⟨fun c => (Cert.Kernel10Ideal.Gen.dats m 0 c).arrAt 4 Cert.Kernel10Ideal.cfg0.N,
    fun c => (Cert.Kernel10Ideal.Gen.dats m 0 c).arrAt 5 Cert.Kernel10Ideal.cfg0.N,
    fun c => (Cert.Kernel10Ideal.Gen.dats m 0 c).arrAt 6 Cert.Kernel10Ideal.cfg0.N, Cert.Kernel10Ideal.Value.run_blocks m g,
    (θ_run (Cert.Reference10Ideal.defs (F := Ideal)) _ _).mono (fun r h c => ?_) (Cert.Reference10Ideal.Value.run (F := Ideal) m' g')⟩
  obtain ⟨h0, h1, h2, h3⟩ := h c
  obtain ⟨a0, a1, a2, a3⟩ := hagree c
  rw [Cert.Reference10Ideal.Read.val_main_v8_eq] at h0
  rw [Cert.Reference10Ideal.Read.val_main_v23_eq] at h1
  rw [Cert.Reference10Ideal.Read.val_main_v24_eq] at h2
  simp only [StableHlo.launchContents_devRef, a0, a1, a2, a3] at h0 h1 h2
  exact ⟨h0.trans ((funext fun y => Cert.FfnDown.stream_at _ _ _ y).trans (Cert.FfnDown.result4 m c).symm),
    h1.trans ((funext fun y => Cert.FfnDown.normed_at _ _ _ _ y).trans (Cert.FfnDown.result5 m c).symm),
    h2.trans ((funext fun y => Cert.FfnDown.turned_at _ _ _ _ y).trans (Cert.FfnDown.result6 m c).symm), h3⟩

theorem frame_reference10 : Cert.quiescent_Reference10Ideal := fun m ρ _ =>
  (θ_run (Cert.Reference10Ideal.defs (F := Ideal)) _ _).mono
    (fun r h => ⟨fun c => (h c).2.2.2, sem_eq_zero_of_no_sems (by decide) r.2⟩) (Cert.Reference10Ideal.Value.run (F := Ideal) m ρ)

/-- The mixer's last product on the stream, and the next norm. -/
theorem same11 : Cert.algebraic_Kernel11Ideal_Reference11Ideal := by
  intro m g m' g' _ hagree
  refine ⟨fun c => (Cert.Kernel11Ideal.Gen.dats m 0 c).arrAt 5 Cert.Kernel11Ideal.cfg0.N,
    fun c => (Cert.Kernel11Ideal.Gen.dats m 0 c).arrAt 6 Cert.Kernel11Ideal.cfg0.N,
    fun c => (Cert.Kernel11Ideal.Gen.dats m 0 c).arrAt 7 Cert.Kernel11Ideal.cfg0.N, Cert.Kernel11Ideal.Value.run_blocks m g,
    (θ_run (Cert.Reference11Ideal.defs (F := Ideal)) _ _).mono (fun r h c => ?_) (Cert.Reference11Ideal.Value.run (F := Ideal) m' g')⟩
  obtain ⟨h0, h1, h2, h3⟩ := h c
  obtain ⟨a0, a1, a2, a3, a4⟩ := hagree c
  rw [Cert.Reference11Ideal.Read.val_main_v5_eq] at h0
  rw [Cert.Reference11Ideal.Read.val_main_v20_eq] at h1
  rw [Cert.Reference11Ideal.Read.val_main_v21_eq] at h2
  simp only [StableHlo.launchContents_devRef, a0, a1, a2, a3, a4] at h0 h1 h2
  exact ⟨h0.trans ((funext fun y => Cert.OutProj.stream_at _ _ _ _ y).trans (Cert.OutProj.result5 m c).symm),
    h1.trans ((funext fun y => Cert.OutProj.normed_at _ _ _ _ _ y).trans (Cert.OutProj.result6 m c).symm),
    h2.trans ((funext fun y => Cert.OutProj.turned_at _ _ _ _ _ y).trans (Cert.OutProj.result7 m c).symm), h3⟩

theorem frame_reference11 : Cert.quiescent_Reference11Ideal := fun m ρ _ =>
  (θ_run (Cert.Reference11Ideal.defs (F := Ideal)) _ _).mono
    (fun r h => ⟨fun c => (h c).2.2.2, sem_eq_zero_of_no_sems (by decide) r.2⟩) (Cert.Reference11Ideal.Value.run (F := Ideal) m ρ)

/-- The mixer's first product. -/
theorem same12 : Cert.algebraic_Kernel12Ideal_Reference12Ideal := by
  intro m g m' g' _ hagree
  refine ⟨fun c => (Cert.Kernel12Ideal.Gen.dats m 0 c).arrAt 2 Cert.Kernel12Ideal.cfg0.N, Cert.Kernel12Ideal.Value.run_blocks m g,
    (θ_run (Cert.Reference12Ideal.defs (F := Ideal)) _ _).mono (fun r h c => ?_) (Cert.Reference12Ideal.Value.run (F := Ideal) m' g')⟩
  obtain ⟨h0, h1⟩ := h c
  obtain ⟨a0, a1⟩ := hagree c
  rw [Cert.Reference12Ideal.Read.val_main_v5_eq] at h0
  simp only [StableHlo.launchContents_devRef, a0, a1] at h0
  exact ⟨h0.trans ((funext fun y => Cert.Proj.ref_at _ _ y).trans (Cert.Proj.result m c).symm), h1⟩

theorem frame_reference12 : Cert.quiescent_Reference12Ideal := fun m ρ _ =>
  (θ_run (Cert.Reference12Ideal.defs (F := Ideal)) _ _).mono
    (fun r h => ⟨fun c => (h c).2, sem_eq_zero_of_no_sems (by decide) r.2⟩) (Cert.Reference12Ideal.Value.run (F := Ideal) m ρ)

/-- The gradient of a norm. -/
theorem same13 : Cert.algebraic_Kernel13Ideal_Reference13Ideal := by
  intro m g m' g' _ hagree
  refine ⟨fun c => (Cert.Kernel13Ideal.Gen.dats m 0 c).arrAt 4 Cert.Kernel13Ideal.cfg0.N,
    fun c => (Cert.Kernel13Ideal.Gen.dats m 0 c).arrAt 5 Cert.Kernel13Ideal.cfg0.N,
    fun c => (Cert.Kernel13Ideal.Gen.dats m 0 c).arrAt 6 Cert.Kernel13Ideal.cfg0.N, Cert.Kernel13Ideal.Value.run_blocks m g,
    (θ_run (Cert.Reference13Ideal.defs (F := Ideal)) _ _).mono (fun r h c => ?_) (Cert.Reference13Ideal.Value.run (F := Ideal) m' g')⟩
  obtain ⟨h0, h1, h2, h3⟩ := h c
  obtain ⟨a0, a1, a2, a3⟩ := hagree c
  rw [Cert.Reference13Ideal.Read.val_main_v38_eq] at h0
  rw [Cert.Reference13Ideal.Read.val_main_v40_eq] at h1
  rw [Cert.Reference13Ideal.Read.val_main_v41_eq] at h2
  simp only [StableHlo.launchContents_devRef, a0, a1, a2, a3] at h0 h1 h2
  exact ⟨h0.trans ((funext fun y => Cert.NormGrad.sum_at _ _ _ _ y).trans (Cert.NormGrad.result4 m c).symm),
    h1.trans ((funext fun y => Cert.NormGrad.cast_at _ _ _ _ y).trans (Cert.NormGrad.result5 m c).symm),
    h2.trans ((funext fun y => Cert.NormGrad.dgain_at _ _ y).trans (Cert.NormGrad.result6 m c).symm), h3⟩

theorem frame_reference13 : Cert.quiescent_Reference13Ideal := fun m ρ _ =>
  (θ_run (Cert.Reference13Ideal.defs (F := Ideal)) _ _).mono
    (fun r h => ⟨fun c => (h c).2.2.2, sem_eq_zero_of_no_sems (by decide) r.2⟩) (Cert.Reference13Ideal.Value.run (F := Ideal) m ρ)

/-- The last product on the stream. -/
theorem same14 : Cert.algebraic_Kernel14Ideal_Reference14Ideal := by
  intro m g m' g' _ hagree
  refine ⟨fun c => (Cert.Kernel14Ideal.Gen.dats m 0 c).arrAt 3 Cert.Kernel14Ideal.cfg0.N, Cert.Kernel14Ideal.Value.run_blocks m g,
    (θ_run (Cert.Reference14Ideal.defs (F := Ideal)) _ _).mono (fun r h c => ?_) (Cert.Reference14Ideal.Value.run (F := Ideal) m' g')⟩
  obtain ⟨h0, h1⟩ := h c
  obtain ⟨a0, a1, a2⟩ := hagree c
  rw [Cert.Reference14Ideal.Read.val_main_v8_eq] at h0
  simp only [StableHlo.launchContents_devRef, a0, a1, a2] at h0
  exact ⟨h0.trans ((funext fun y => Cert.LastDown.stream_at _ _ _ y).trans (Cert.LastDown.result3 m c).symm), h1⟩

theorem frame_reference14 : Cert.quiescent_Reference14Ideal := fun m ρ _ =>
  (θ_run (Cert.Reference14Ideal.defs (F := Ideal)) _ _).mono
    (fun r h => ⟨fun c => (h c).2, sem_eq_zero_of_no_sems (by decide) r.2⟩) (Cert.Reference14Ideal.Value.run (F := Ideal) m ρ)

/-- The loss and its gradients. -/
theorem same15 : Cert.algebraic_Kernel15Ideal_Reference15Ideal := by
  intro m g m' g' _ hagree
  refine ⟨fun c => (Cert.Kernel15Ideal.Gen.dats m 0 c).arrAt 3 Cert.Kernel15Ideal.cfg0.N,
    fun c => (Cert.Kernel15Ideal.Gen.dats m 0 c).arrAt 4 Cert.Kernel15Ideal.cfg0.N,
    fun c => (Cert.Kernel15Ideal.Gen.dats m 0 c).arrAt 5 Cert.Kernel15Ideal.cfg0.N,
    fun c => (Cert.Kernel15Ideal.Gen.dats m 0 c).arrAt 6 Cert.Kernel15Ideal.cfg0.N, Cert.Kernel15Ideal.Value.run_blocks m g,
    (θ_run (Cert.Reference15Ideal.defs (F := Ideal)) _ _).mono (fun r h c => ?_) (Cert.Reference15Ideal.Value.run (F := Ideal) m' g')⟩
  obtain ⟨h0, h1, h2, h3, h4⟩ := h c
  obtain ⟨a0, a1, a2⟩ := hagree c
  rw [Cert.Reference15Ideal.Read.val_main_v52_eq] at h0
  rw [Cert.Reference15Ideal.Read.val_main_v51_eq] at h1
  rw [Cert.Reference15Ideal.Read.val_main_v53_eq] at h2
  rw [Cert.Reference15Ideal.Read.val_main_v54_eq] at h3
  simp only [StableHlo.launchContents_devRef, a0, a1, a2] at h0 h1 h2 h3
  exact ⟨h0.trans ((funext fun y => Cert.FinalLoss.mean_at _ _ _ y).trans (Cert.FinalLoss.result3 m c).symm),
    h1.trans ((funext fun y => Cert.FinalLoss.sum_at _ _ _ y).trans (Cert.FinalLoss.result4 m c).symm),
    h2.trans ((funext fun y => Cert.FinalLoss.cast_at _ _ _ y).trans (Cert.FinalLoss.result5 m c).symm),
    h3.trans ((funext fun y => Cert.FinalLoss.dgain_at _ _ _ y).trans (Cert.FinalLoss.result6 m c).symm), h4⟩

theorem frame_reference15 : Cert.quiescent_Reference15Ideal := fun m ρ _ =>
  (θ_run (Cert.Reference15Ideal.defs (F := Ideal)) _ _).mono
    (fun r h => ⟨fun c => (h c).2.2.2.2, sem_eq_zero_of_no_sems (by decide) r.2⟩) (Cert.Reference15Ideal.Value.run (F := Ideal) m ρ)

/-- The convolution and the pooling, forward. -/
theorem same16 : Cert.algebraic_Kernel16Ideal_Reference16Ideal_pre_rows_finite := by
  intro m g m' g' hpre hagree
  refine ⟨fun c => (Cert.Kernel16Ideal.Gen.dats m 0 c).arrAt 10 Cert.Kernel16Ideal.cfg0.N, Cert.Kernel16Ideal.Value.run_blocks m g,
    (θ_run (Cert.Reference16Ideal.defs (F := Ideal)) _ _).mono (fun r h c => ?_) (Cert.Reference16Ideal.Value.run (F := Ideal) m' g')⟩
  obtain ⟨h0, h1⟩ := h c
  obtain ⟨a0, a1, a2, a3⟩ := hagree c
  have hx : Cert.MixFwd.Real (Cert.MixFwd.argZ m c) := Cert.MixFwd.real_of_pre _ _ _ _ (hpre c)
  rw [Cert.Reference16Ideal.Read.val_main_v93_eq] at h0
  simp only [StableHlo.launchContents_devRef, a0, a1, a2, a3] at h0
  exact ⟨h0.trans ((funext fun y => Cert.MixFwd.branches_at _ _ _ _ hx y).trans (Cert.MixFwd.result10 m c).symm), h1⟩

theorem frame_reference16 : Cert.quiescent_Reference16Ideal := fun m ρ _ =>
  (θ_run (Cert.Reference16Ideal.defs (F := Ideal)) _ _).mono
    (fun r h => ⟨fun c => (h c).2, sem_eq_zero_of_no_sems (by decide) r.2⟩) (Cert.Reference16Ideal.Value.run (F := Ideal) m ρ)

/-- The first norm. -/
theorem same17 : Cert.algebraic_Kernel17Ideal_Reference17Ideal := by
  intro m g m' g' _ hagree
  refine ⟨fun c => (Cert.Kernel17Ideal.Gen.dats m 0 c).arrAt 2 Cert.Kernel17Ideal.cfg0.N,
    fun c => (Cert.Kernel17Ideal.Gen.dats m 0 c).arrAt 3 Cert.Kernel17Ideal.cfg0.N, Cert.Kernel17Ideal.Value.run_blocks m g,
    (θ_run (Cert.Reference17Ideal.defs (F := Ideal)) _ _).mono (fun r h c => ?_) (Cert.Reference17Ideal.Value.run (F := Ideal) m' g')⟩
  obtain ⟨h0, h1, h2⟩ := h c
  obtain ⟨a0, a1⟩ := hagree c
  rw [Cert.Reference17Ideal.Read.val_main_v14_eq] at h0
  rw [Cert.Reference17Ideal.Read.val_main_v15_eq] at h1
  simp only [StableHlo.launchContents_devRef, a0, a1] at h0 h1
  exact ⟨h0.trans ((funext fun y => Cert.FirstNorm.normed_at _ _ y).trans (Cert.FirstNorm.result2 m c).symm),
    h1.trans ((funext fun y => Cert.FirstNorm.turned_at _ _ y).trans (Cert.FirstNorm.result3 m c).symm), h2⟩

theorem frame_reference17 : Cert.quiescent_Reference17Ideal := fun m ρ _ =>
  (θ_run (Cert.Reference17Ideal.defs (F := Ideal)) _ _).mono
    (fun r h => ⟨fun c => (h c).2.2, sem_eq_zero_of_no_sems (by decide) r.2⟩) (Cert.Reference17Ideal.Value.run (F := Ideal) m ρ)

/-- The optimiser on the gates' weight. -/
theorem same18 : Cert.algebraic_Kernel18Ideal_Reference18Ideal := by
  intro m g m' g' _ hagree
  refine ⟨fun c => (Cert.Kernel18Ideal.Gen.dats m 0 c).arrAt 5 Cert.Kernel18Ideal.cfg0.N,
    fun c => (Cert.Kernel18Ideal.Gen.dats m 0 c).arrAt 6 Cert.Kernel18Ideal.cfg0.N,
    fun c => (Cert.Kernel18Ideal.Gen.dats m 0 c).arrAt 7 Cert.Kernel18Ideal.cfg0.N,
    fun c => (Cert.Kernel18Ideal.Gen.dats m 0 c).arrAt 8 Cert.Kernel18Ideal.cfg0.N, Cert.Kernel18Ideal.Value.run_blocks m g,
    (θ_run (Cert.Reference18Ideal.defs (F := Ideal)) _ _).mono (fun r h c => ?_) (Cert.Reference18Ideal.Value.run (F := Ideal) m' g')⟩
  obtain ⟨h0, h1, h2, h3, h4⟩ := h c
  obtain ⟨a0, a1, a2, a3, a4⟩ := hagree c
  rw [Cert.Reference18Ideal.Read.val_main_v4_eq] at h0
  rw [Cert.Reference18Ideal.Read.val_main_v28_eq] at h1
  rw [Cert.Reference18Ideal.Read.val_main_v9_eq] at h2
  rw [Cert.Reference18Ideal.Read.val_main_v15_eq] at h3
  simp only [StableHlo.launchContents_devRef, a0, a1, a2, a3, a4] at h0 h1 h2 h3
  exact ⟨h0.trans ((funext fun y => Cert.StepGate.gradRef_at _ _ y).trans (Cert.StepGate.result5 m c).symm),
    h1.trans ((funext fun y => Cert.StepGate.deltaRef_at _ _ _ _ _ y).trans (Cert.StepGate.result6 m c).symm),
    h2.trans ((funext fun y => Cert.StepGate.momRef_at _ _ _ y).trans (Cert.StepGate.result7 m c).symm),
    h3.trans ((funext fun y => Cert.StepGate.sqsRef_at _ _ _ y).trans (Cert.StepGate.result8 m c).symm), h4⟩

theorem frame_reference18 : Cert.quiescent_Reference18Ideal := fun m ρ _ =>
  (θ_run (Cert.Reference18Ideal.defs (F := Ideal)) _ _).mono
    (fun r h => ⟨fun c => (h c).2.2.2.2, sem_eq_zero_of_no_sems (by decide) r.2⟩) (Cert.Reference18Ideal.Value.run (F := Ideal) m ρ)

/-- On the last product's weight. -/
theorem same19 : Cert.algebraic_Kernel19Ideal_Reference19Ideal := by
  intro m g m' g' _ hagree
  refine ⟨fun c => (Cert.Kernel19Ideal.Gen.dats m 0 c).arrAt 5 Cert.Kernel19Ideal.cfg0.N,
    fun c => (Cert.Kernel19Ideal.Gen.dats m 0 c).arrAt 6 Cert.Kernel19Ideal.cfg0.N,
    fun c => (Cert.Kernel19Ideal.Gen.dats m 0 c).arrAt 7 Cert.Kernel19Ideal.cfg0.N,
    fun c => (Cert.Kernel19Ideal.Gen.dats m 0 c).arrAt 8 Cert.Kernel19Ideal.cfg0.N, Cert.Kernel19Ideal.Value.run_blocks m g,
    (θ_run (Cert.Reference19Ideal.defs (F := Ideal)) _ _).mono (fun r h c => ?_) (Cert.Reference19Ideal.Value.run (F := Ideal) m' g')⟩
  obtain ⟨h0, h1, h2, h3, h4⟩ := h c
  obtain ⟨a0, a1, a2, a3, a4⟩ := hagree c
  rw [Cert.Reference19Ideal.Read.val_main_v4_eq] at h0
  rw [Cert.Reference19Ideal.Read.val_main_v28_eq] at h1
  rw [Cert.Reference19Ideal.Read.val_main_v9_eq] at h2
  rw [Cert.Reference19Ideal.Read.val_main_v15_eq] at h3
  simp only [StableHlo.launchContents_devRef, a0, a1, a2, a3, a4] at h0 h1 h2 h3
  exact ⟨h0.trans ((funext fun y => Cert.StepDown.gradRef_at _ _ y).trans (Cert.StepDown.result5 m c).symm),
    h1.trans ((funext fun y => Cert.StepDown.deltaRef_at _ _ _ _ _ y).trans (Cert.StepDown.result6 m c).symm),
    h2.trans ((funext fun y => Cert.StepDown.momRef_at _ _ _ y).trans (Cert.StepDown.result7 m c).symm),
    h3.trans ((funext fun y => Cert.StepDown.sqsRef_at _ _ _ y).trans (Cert.StepDown.result8 m c).symm), h4⟩

theorem frame_reference19 : Cert.quiescent_Reference19Ideal := fun m ρ _ =>
  (θ_run (Cert.Reference19Ideal.defs (F := Ideal)) _ _).mono
    (fun r h => ⟨fun c => (h c).2.2.2.2, sem_eq_zero_of_no_sems (by decide) r.2⟩) (Cert.Reference19Ideal.Value.run (F := Ideal) m ρ)

/-- On the mixer's first weight. -/
theorem same20 : Cert.algebraic_Kernel20Ideal_Reference20Ideal := by
  intro m g m' g' _ hagree
  refine ⟨fun c => (Cert.Kernel20Ideal.Gen.dats m 0 c).arrAt 5 Cert.Kernel20Ideal.cfg0.N,
    fun c => (Cert.Kernel20Ideal.Gen.dats m 0 c).arrAt 6 Cert.Kernel20Ideal.cfg0.N,
    fun c => (Cert.Kernel20Ideal.Gen.dats m 0 c).arrAt 7 Cert.Kernel20Ideal.cfg0.N,
    fun c => (Cert.Kernel20Ideal.Gen.dats m 0 c).arrAt 8 Cert.Kernel20Ideal.cfg0.N, Cert.Kernel20Ideal.Value.run_blocks m g,
    (θ_run (Cert.Reference20Ideal.defs (F := Ideal)) _ _).mono (fun r h c => ?_) (Cert.Reference20Ideal.Value.run (F := Ideal) m' g')⟩
  obtain ⟨h0, h1, h2, h3, h4⟩ := h c
  obtain ⟨a0, a1, a2, a3, a4⟩ := hagree c
  rw [Cert.Reference20Ideal.Read.val_main_v4_eq] at h0
  rw [Cert.Reference20Ideal.Read.val_main_v28_eq] at h1
  rw [Cert.Reference20Ideal.Read.val_main_v9_eq] at h2
  rw [Cert.Reference20Ideal.Read.val_main_v15_eq] at h3
  simp only [StableHlo.launchContents_devRef, a0, a1, a2, a3, a4] at h0 h1 h2 h3
  exact ⟨h0.trans ((funext fun y => Cert.StepIn.gradRef_at _ _ y).trans (Cert.StepIn.result5 m c).symm),
    h1.trans ((funext fun y => Cert.StepIn.deltaRef_at _ _ _ _ _ y).trans (Cert.StepIn.result6 m c).symm),
    h2.trans ((funext fun y => Cert.StepIn.momRef_at _ _ _ y).trans (Cert.StepIn.result7 m c).symm),
    h3.trans ((funext fun y => Cert.StepIn.sqsRef_at _ _ _ y).trans (Cert.StepIn.result8 m c).symm), h4⟩

theorem frame_reference20 : Cert.quiescent_Reference20Ideal := fun m ρ _ =>
  (θ_run (Cert.Reference20Ideal.defs (F := Ideal)) _ _).mono
    (fun r h => ⟨fun c => (h c).2.2.2.2, sem_eq_zero_of_no_sems (by decide) r.2⟩) (Cert.Reference20Ideal.Value.run (F := Ideal) m ρ)

/-- On the mixer's last weight. -/
theorem same21 : Cert.algebraic_Kernel21Ideal_Reference21Ideal := by
  intro m g m' g' _ hagree
  refine ⟨fun c => (Cert.Kernel21Ideal.Gen.dats m 0 c).arrAt 5 Cert.Kernel21Ideal.cfg0.N,
    fun c => (Cert.Kernel21Ideal.Gen.dats m 0 c).arrAt 6 Cert.Kernel21Ideal.cfg0.N,
    fun c => (Cert.Kernel21Ideal.Gen.dats m 0 c).arrAt 7 Cert.Kernel21Ideal.cfg0.N,
    fun c => (Cert.Kernel21Ideal.Gen.dats m 0 c).arrAt 8 Cert.Kernel21Ideal.cfg0.N, Cert.Kernel21Ideal.Value.run_blocks m g,
    (θ_run (Cert.Reference21Ideal.defs (F := Ideal)) _ _).mono (fun r h c => ?_) (Cert.Reference21Ideal.Value.run (F := Ideal) m' g')⟩
  obtain ⟨h0, h1, h2, h3, h4⟩ := h c
  obtain ⟨a0, a1, a2, a3, a4⟩ := hagree c
  rw [Cert.Reference21Ideal.Read.val_main_v4_eq] at h0
  rw [Cert.Reference21Ideal.Read.val_main_v28_eq] at h1
  rw [Cert.Reference21Ideal.Read.val_main_v9_eq] at h2
  rw [Cert.Reference21Ideal.Read.val_main_v15_eq] at h3
  simp only [StableHlo.launchContents_devRef, a0, a1, a2, a3, a4] at h0 h1 h2 h3
  exact ⟨h0.trans ((funext fun y => Cert.StepOut.gradRef_at _ _ y).trans (Cert.StepOut.result5 m c).symm),
    h1.trans ((funext fun y => Cert.StepOut.deltaRef_at _ _ _ _ _ y).trans (Cert.StepOut.result6 m c).symm),
    h2.trans ((funext fun y => Cert.StepOut.momRef_at _ _ _ y).trans (Cert.StepOut.result7 m c).symm),
    h3.trans ((funext fun y => Cert.StepOut.sqsRef_at _ _ _ y).trans (Cert.StepOut.result8 m c).symm), h4⟩

theorem frame_reference21 : Cert.quiescent_Reference21Ideal := fun m ρ _ =>
  (θ_run (Cert.Reference21Ideal.defs (F := Ideal)) _ _).mono
    (fun r h => ⟨fun c => (h c).2.2.2.2, sem_eq_zero_of_no_sems (by decide) r.2⟩) (Cert.Reference21Ideal.Value.run (F := Ideal) m ρ)

/-- On the small weights, which the host packs before the call. -/
theorem same22 : Cert.algebraic_Kernel22Ideal_Reference22Ideal := by
  intro m g m' g' _ hagree
  refine ⟨fun c => (Cert.Kernel22Ideal.Gen.dats m 0 c).arrAt 4 Cert.Kernel22Ideal.cfg0.N,
    fun c => (Cert.Kernel22Ideal.Gen.dats m 0 c).arrAt 5 Cert.Kernel22Ideal.cfg0.N,
    fun c => (Cert.Kernel22Ideal.Gen.dats m 0 c).arrAt 6 Cert.Kernel22Ideal.cfg0.N,
    fun c => (Cert.Kernel22Ideal.Gen.dats m 0 c).arrAt 7 Cert.Kernel22Ideal.cfg0.N, Cert.Kernel22Ideal.Value.run_blocks m g,
    (θ_run (Cert.Reference22Ideal.defs (F := Ideal)) _ _).mono (fun r h c => ?_) (Cert.Reference22Ideal.Value.run (F := Ideal) m' g')⟩
  obtain ⟨h0, h1, h2, h3, h4⟩ := h c
  obtain ⟨a0, a1, a2, a3, a4, a5, a6, a7, a8, a9, a10, a11, a12, a13, a14, a15, a16, a17, a18, a19, a20, a21, a22, a23, a24, a25, a26, a27, a28⟩ := hagree c
  rw [Cert.Reference22Ideal.Read.val_main_v235_eq] at h0
  rw [Cert.Reference22Ideal.Read.val_main_v244_eq] at h1
  rw [Cert.Reference22Ideal.Read.val_main_v253_eq] at h2
  rw [Cert.Reference22Ideal.Read.val_main_v262_eq] at h3
  simp only [StableHlo.launchContents_devRef, a0, a1, a2, a3, a4, a5, a6, a7, a8, a9, a10, a11, a12, a13, a14, a15, a16, a17, a18, a19, a20, a21, a22, a23, a24, a25, a26, a27, a28] at h0 h1 h2 h3
  exact ⟨h0.trans (Cert.Packed.result4 m c), h1.trans (Cert.Packed.result5 m c), h2.trans (Cert.Packed.result6 m c),
    h3.trans (Cert.Packed.result7 m c), h4⟩

theorem frame_reference22 : Cert.quiescent_Reference22Ideal := fun m ρ _ =>
  (θ_run (Cert.Reference22Ideal.defs (F := Ideal)) _ _).mono
    (fun r h => ⟨fun c => (h c).2.2.2.2, sem_eq_zero_of_no_sems (by decide) r.2⟩) (Cert.Reference22Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    preFacts, Cert.Gate.preFacts, Cert.MixFwd.preFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ,
    frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, fun m ρ _ => Cert.Kernel16Ideal.Gen.frame m ρ,
    frame_reference16, fun m ρ _ => frame_reference16 m ρ trivial,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    trivial, same, trivial, same2, trivial, same3, trivial, same4, trivial, same5,
    trivial, same6, trivial, same7, trivial, same8, trivial, same9, trivial, same10, trivial, same11, trivial, same12,
    trivial, same13, trivial, same14, trivial, same15, trivial, same16, trivial, same17, trivial, same18, trivial, same19, trivial, same20, trivial, same21, trivial, same22⟩

end Cert.Proof

end
